-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Dw2 (m : (ℓ : Loc Cert.Dw2.nD Cert.Dw2.τ Cert.Dw2.sig) → Buf (Elt Bits) ℓ) : Prop :=
  True

def Pre_Dw2Ideal (m : (ℓ : Loc Cert.Dw2Ideal.nD Cert.Dw2Ideal.τ Cert.Dw2Ideal.sig) → Buf (Elt Ideal) ℓ) : Prop :=
  True

def Pre_Dw2RefIdeal (m : (ℓ : Loc Cert.Dw2RefIdeal.nD Cert.Dw2RefIdeal.τ Cert.Dw2RefIdeal.sig) → Buf (Elt Ideal) ℓ) : Prop :=
  True

def Pre_Dact (m : (ℓ : Loc Cert.Dact.nD Cert.Dact.τ Cert.Dact.sig) → Buf (Elt Bits) ℓ) : Prop :=
  True

def Pre_DactIdeal (m : (ℓ : Loc Cert.DactIdeal.nD Cert.DactIdeal.τ Cert.DactIdeal.sig) → Buf (Elt Ideal) ℓ) : Prop :=
  True

def Pre_DactRefIdeal (m : (ℓ : Loc Cert.DactRefIdeal.nD Cert.DactRefIdeal.τ Cert.DactRefIdeal.sig) → Buf (Elt Ideal) ℓ) : Prop :=
  True

def Pre_Dw1 (m : (ℓ : Loc Cert.Dw1.nD Cert.Dw1.τ Cert.Dw1.sig) → Buf (Elt Bits) ℓ) : Prop :=
  True

def Pre_Dw1Ideal (m : (ℓ : Loc Cert.Dw1Ideal.nD Cert.Dw1Ideal.τ Cert.Dw1Ideal.sig) → Buf (Elt Ideal) ℓ) : Prop :=
  True

def Pre_Dw1RefIdeal (m : (ℓ : Loc Cert.Dw1RefIdeal.nD Cert.Dw1RefIdeal.τ Cert.Dw1RefIdeal.sig) → Buf (Elt Ideal) ℓ) : Prop :=
  True

def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxRefIdeal (m : (ℓ : Loc Cert.DxRefIdeal.nD Cert.DxRefIdeal.τ Cert.DxRefIdeal.sig) → Buf (Elt Ideal) ℓ) : Prop :=
  True

def Pre_EvenIn (m : (ℓ : Loc Cert.EvenIn.nD Cert.EvenIn.τ Cert.EvenIn.sig) → Buf (Elt Bits) ℓ) : Prop :=
  True

def Pre_EvenInIdeal (m : (ℓ : Loc Cert.EvenInIdeal.nD Cert.EvenInIdeal.τ Cert.EvenInIdeal.sig) → Buf (Elt Ideal) ℓ) : Prop :=
  True

def Pre_EvenInRefIdeal (m : (ℓ : Loc Cert.EvenInRefIdeal.nD Cert.EvenInRefIdeal.τ Cert.EvenInRefIdeal.sig) → Buf (Elt Ideal) ℓ) : Prop :=
  True

def Pre_EvenDwin (m : (ℓ : Loc Cert.EvenDwin.nD Cert.EvenDwin.τ Cert.EvenDwin.sig) → Buf (Elt Bits) ℓ) : Prop :=
  True

def Pre_EvenDwinIdeal (m : (ℓ : Loc Cert.EvenDwinIdeal.nD Cert.EvenDwinIdeal.τ Cert.EvenDwinIdeal.sig) → Buf (Elt Ideal) ℓ) : Prop :=
  True

def Pre_EvenDwinRefIdeal (m : (ℓ : Loc Cert.EvenDwinRefIdeal.nD Cert.EvenDwinRefIdeal.τ Cert.EvenDwinRefIdeal.sig) → Buf (Elt Ideal) ℓ) : Prop :=
  True

def Pre_EvenDx (m : (ℓ : Loc Cert.EvenDx.nD Cert.EvenDx.τ Cert.EvenDx.sig) → Buf (Elt Bits) ℓ) : Prop :=
  True

def Pre_EvenDxIdeal (m : (ℓ : Loc Cert.EvenDxIdeal.nD Cert.EvenDxIdeal.τ Cert.EvenDxIdeal.sig) → Buf (Elt Ideal) ℓ) : Prop :=
  True

def Pre_EvenDxRefIdeal (m : (ℓ : Loc Cert.EvenDxRefIdeal.nD Cert.EvenDxRefIdeal.τ Cert.EvenDxRefIdeal.sig) → Buf (Elt Ideal) ℓ) : Prop :=
  True

def Pre_EvenOut (m : (ℓ : Loc Cert.EvenOut.nD Cert.EvenOut.τ Cert.EvenOut.sig) → Buf (Elt Bits) ℓ) : Prop :=
  True

def Pre_EvenOutIdeal (m : (ℓ : Loc Cert.EvenOutIdeal.nD Cert.EvenOutIdeal.τ Cert.EvenOutIdeal.sig) → Buf (Elt Ideal) ℓ) : Prop :=
  True

def Pre_EvenOutRefIdeal (m : (ℓ : Loc Cert.EvenOutRefIdeal.nD Cert.EvenOutRefIdeal.τ Cert.EvenOutRefIdeal.sig) → Buf (Elt Ideal) ℓ) : Prop :=
  True

def Pre_EvenDwout (m : (ℓ : Loc Cert.EvenDwout.nD Cert.EvenDwout.τ Cert.EvenDwout.sig) → Buf (Elt Bits) ℓ) : Prop :=
  True

def Pre_EvenDwoutIdeal (m : (ℓ : Loc Cert.EvenDwoutIdeal.nD Cert.EvenDwoutIdeal.τ Cert.EvenDwoutIdeal.sig) → Buf (Elt Ideal) ℓ) : Prop :=
  True

def Pre_EvenDwoutRefIdeal (m : (ℓ : Loc Cert.EvenDwoutRefIdeal.nD Cert.EvenDwoutRefIdeal.τ Cert.EvenDwoutRefIdeal.sig) → Buf (Elt Ideal) ℓ) : Prop :=
  True

def Pre_EvenDy (m : (ℓ : Loc Cert.EvenDy.nD Cert.EvenDy.τ Cert.EvenDy.sig) → Buf (Elt Bits) ℓ) : Prop :=
  True

def Pre_EvenDyIdeal (m : (ℓ : Loc Cert.EvenDyIdeal.nD Cert.EvenDyIdeal.τ Cert.EvenDyIdeal.sig) → Buf (Elt Ideal) ℓ) : Prop :=
  True

def Pre_EvenDyRefIdeal (m : (ℓ : Loc Cert.EvenDyRefIdeal.nD Cert.EvenDyRefIdeal.τ Cert.EvenDyRefIdeal.sig) → Buf (Elt Ideal) ℓ) : Prop :=
  True

def Pre_OddIn (m : (ℓ : Loc Cert.OddIn.nD Cert.OddIn.τ Cert.OddIn.sig) → Buf (Elt Bits) ℓ) : Prop :=
  True

def Pre_OddInIdeal (m : (ℓ : Loc Cert.OddInIdeal.nD Cert.OddInIdeal.τ Cert.OddInIdeal.sig) → Buf (Elt Ideal) ℓ) : Prop :=
  True

def Pre_OddInRefIdeal (m : (ℓ : Loc Cert.OddInRefIdeal.nD Cert.OddInRefIdeal.τ Cert.OddInRefIdeal.sig) → Buf (Elt Ideal) ℓ) : Prop :=
  True

def Pre_OddDwin (m : (ℓ : Loc Cert.OddDwin.nD Cert.OddDwin.τ Cert.OddDwin.sig) → Buf (Elt Bits) ℓ) : Prop :=
  True

def Pre_OddDwinIdeal (m : (ℓ : Loc Cert.OddDwinIdeal.nD Cert.OddDwinIdeal.τ Cert.OddDwinIdeal.sig) → Buf (Elt Ideal) ℓ) : Prop :=
  True

def Pre_OddDwinRefIdeal (m : (ℓ : Loc Cert.OddDwinRefIdeal.nD Cert.OddDwinRefIdeal.τ Cert.OddDwinRefIdeal.sig) → Buf (Elt Ideal) ℓ) : Prop :=
  True

def Pre_OddDx (m : (ℓ : Loc Cert.OddDx.nD Cert.OddDx.τ Cert.OddDx.sig) → Buf (Elt Bits) ℓ) : Prop :=
  True

def Pre_OddDxIdeal (m : (ℓ : Loc Cert.OddDxIdeal.nD Cert.OddDxIdeal.τ Cert.OddDxIdeal.sig) → Buf (Elt Ideal) ℓ) : Prop :=
  True

def Pre_OddDxRefIdeal (m : (ℓ : Loc Cert.OddDxRefIdeal.nD Cert.OddDxRefIdeal.τ Cert.OddDxRefIdeal.sig) → Buf (Elt Ideal) ℓ) : Prop :=
  True

def Pre_OddOut (m : (ℓ : Loc Cert.OddOut.nD Cert.OddOut.τ Cert.OddOut.sig) → Buf (Elt Bits) ℓ) : Prop :=
  True

def Pre_OddOutIdeal (m : (ℓ : Loc Cert.OddOutIdeal.nD Cert.OddOutIdeal.τ Cert.OddOutIdeal.sig) → Buf (Elt Ideal) ℓ) : Prop :=
  True

def Pre_OddOutRefIdeal (m : (ℓ : Loc Cert.OddOutRefIdeal.nD Cert.OddOutRefIdeal.τ Cert.OddOutRefIdeal.sig) → Buf (Elt Ideal) ℓ) : Prop :=
  True

def Pre_OddDwout (m : (ℓ : Loc Cert.OddDwout.nD Cert.OddDwout.τ Cert.OddDwout.sig) → Buf (Elt Bits) ℓ) : Prop :=
  True

def Pre_OddDwoutIdeal (m : (ℓ : Loc Cert.OddDwoutIdeal.nD Cert.OddDwoutIdeal.τ Cert.OddDwoutIdeal.sig) → Buf (Elt Ideal) ℓ) : Prop :=
  True

def Pre_OddDwoutRefIdeal (m : (ℓ : Loc Cert.OddDwoutRefIdeal.nD Cert.OddDwoutRefIdeal.τ Cert.OddDwoutRefIdeal.sig) → Buf (Elt Ideal) ℓ) : Prop :=
  True

def Pre_OddDy (m : (ℓ : Loc Cert.OddDy.nD Cert.OddDy.τ Cert.OddDy.sig) → Buf (Elt Bits) ℓ) : Prop :=
  True

def Pre_OddDyIdeal (m : (ℓ : Loc Cert.OddDyIdeal.nD Cert.OddDyIdeal.τ Cert.OddDyIdeal.sig) → Buf (Elt Ideal) ℓ) : Prop :=
  True

def Pre_OddDyRefIdeal (m : (ℓ : Loc Cert.OddDyRefIdeal.nD Cert.OddDyRefIdeal.τ Cert.OddDyRefIdeal.sig) → Buf (Elt Ideal) ℓ) : Prop :=
  True

def Pre_MlaUq (m : (ℓ : Loc Cert.MlaUq.nD Cert.MlaUq.τ Cert.MlaUq.sig) → Buf (Elt Bits) ℓ) : Prop :=
  True

def Pre_MlaUqIdeal (m : (ℓ : Loc Cert.MlaUqIdeal.nD Cert.MlaUqIdeal.τ Cert.MlaUqIdeal.sig) → Buf (Elt Ideal) ℓ) : Prop :=
  True

def Pre_MlaUqRefIdeal (m : (ℓ : Loc Cert.MlaUqRefIdeal.nD Cert.MlaUqRefIdeal.τ Cert.MlaUqRefIdeal.sig) → Buf (Elt Ideal) ℓ) : Prop :=
  True

def Pre_MlaUkv (m : (ℓ : Loc Cert.MlaUkv.nD Cert.MlaUkv.τ Cert.MlaUkv.sig) → Buf (Elt Bits) ℓ) : Prop :=
  True

def Pre_MlaUkvIdeal (m : (ℓ : Loc Cert.MlaUkvIdeal.nD Cert.MlaUkvIdeal.τ Cert.MlaUkvIdeal.sig) → Buf (Elt Ideal) ℓ) : Prop :=
  True

def Pre_MlaUkvRefIdeal (m : (ℓ : Loc Cert.MlaUkvRefIdeal.nD Cert.MlaUkvRefIdeal.τ Cert.MlaUkvRefIdeal.sig) → Buf (Elt Ideal) ℓ) : Prop :=
  True

def Pre_MlaDwuq (m : (ℓ : Loc Cert.MlaDwuq.nD Cert.MlaDwuq.τ Cert.MlaDwuq.sig) → Buf (Elt Bits) ℓ) : Prop :=
  True

def Pre_MlaDwuqIdeal (m : (ℓ : Loc Cert.MlaDwuqIdeal.nD Cert.MlaDwuqIdeal.τ Cert.MlaDwuqIdeal.sig) → Buf (Elt Ideal) ℓ) : Prop :=
  True

def Pre_MlaDwuqRefIdeal (m : (ℓ : Loc Cert.MlaDwuqRefIdeal.nD Cert.MlaDwuqRefIdeal.τ Cert.MlaDwuqRefIdeal.sig) → Buf (Elt Ideal) ℓ) : Prop :=
  True

def Pre_MlaDwukv (m : (ℓ : Loc Cert.MlaDwukv.nD Cert.MlaDwukv.τ Cert.MlaDwukv.sig) → Buf (Elt Bits) ℓ) : Prop :=
  True

def Pre_MlaDwukvIdeal (m : (ℓ : Loc Cert.MlaDwukvIdeal.nD Cert.MlaDwukvIdeal.τ Cert.MlaDwukvIdeal.sig) → Buf (Elt Ideal) ℓ) : Prop :=
  True

def Pre_MlaDwukvRefIdeal (m : (ℓ : Loc Cert.MlaDwukvRefIdeal.nD Cert.MlaDwukvRefIdeal.τ Cert.MlaDwukvRefIdeal.sig) → Buf (Elt Ideal) ℓ) : Prop :=
  True

def Pre_MlaDcq (m : (ℓ : Loc Cert.MlaDcq.nD Cert.MlaDcq.τ Cert.MlaDcq.sig) → Buf (Elt Bits) ℓ) : Prop :=
  True

def Pre_MlaDcqIdeal (m : (ℓ : Loc Cert.MlaDcqIdeal.nD Cert.MlaDcqIdeal.τ Cert.MlaDcqIdeal.sig) → Buf (Elt Ideal) ℓ) : Prop :=
  True

def Pre_MlaDcqRefIdeal (m : (ℓ : Loc Cert.MlaDcqRefIdeal.nD Cert.MlaDcqRefIdeal.τ Cert.MlaDcqRefIdeal.sig) → Buf (Elt Ideal) ℓ) : Prop :=
  True

def Pre_MlaDckv (m : (ℓ : Loc Cert.MlaDckv.nD Cert.MlaDckv.τ Cert.MlaDckv.sig) → Buf (Elt Bits) ℓ) : Prop :=
  True

def Pre_MlaDckvIdeal (m : (ℓ : Loc Cert.MlaDckvIdeal.nD Cert.MlaDckvIdeal.τ Cert.MlaDckvIdeal.sig) → Buf (Elt Ideal) ℓ) : Prop :=
  True

def Pre_MlaDckvRefIdeal (m : (ℓ : Loc Cert.MlaDckvRefIdeal.nD Cert.MlaDckvRefIdeal.τ Cert.MlaDckvRefIdeal.sig) → Buf (Elt Ideal) ℓ) : Prop :=
  True

def Pre_StickFwd (m : (ℓ : Loc Cert.StickFwd.nD Cert.StickFwd.τ Cert.StickFwd.sig) → Buf (Elt Bits) ℓ) : Prop :=
  True

def Pre_StickFwdIdeal (m : (ℓ : Loc Cert.StickFwdIdeal.nD Cert.StickFwdIdeal.τ Cert.StickFwdIdeal.sig) → Buf (Elt Ideal) ℓ) : Prop :=
  True

def Pre_StickFwdIdeal_finite_logits [hPre_finite_logits : Cert.Pre_finite_logits.Facts] (m : (ℓ : Loc Cert.StickFwdIdeal.nD Cert.StickFwdIdeal.τ Cert.StickFwdIdeal.sig) → Buf (Elt Ideal) ℓ) : Prop :=
  ∀ c : Dev Cert.StickFwdIdeal.nD,
    (Cert.Pre_finite_logits.fn (F := Ideal) (m ((c.tc : Thread Cert.StickFwdIdeal.nD Cert.StickFwdIdeal.τ).loc Cert.StickFwdIdeal.main_arg0)) (m ((c.tc : Thread Cert.StickFwdIdeal.nD Cert.StickFwdIdeal.τ).loc Cert.StickFwdIdeal.main_arg1)) (m ((c.tc : Thread Cert.StickFwdIdeal.nD Cert.StickFwdIdeal.τ).loc Cert.StickFwdIdeal.main_arg2))) = (fun _ => 1#1)

def Pre_StickFwdRefIdeal (m : (ℓ : Loc Cert.StickFwdRefIdeal.nD Cert.StickFwdRefIdeal.τ Cert.StickFwdRefIdeal.sig) → Buf (Elt Ideal) ℓ) : Prop :=
  True

def Pre_StickFwdRefIdeal_finite_logits [hPre_finite_logits : Cert.Pre_finite_logits.Facts] (m : (ℓ : Loc Cert.StickFwdRefIdeal.nD Cert.StickFwdRefIdeal.τ Cert.StickFwdRefIdeal.sig) → Buf (Elt Ideal) ℓ) : Prop :=
  ∀ c : Dev Cert.StickFwdRefIdeal.nD,
    (Cert.Pre_finite_logits.fn (F := Ideal) (m ((c.tc : Thread Cert.StickFwdRefIdeal.nD Cert.StickFwdRefIdeal.τ).loc Cert.StickFwdRefIdeal.main_arg0)) (m ((c.tc : Thread Cert.StickFwdRefIdeal.nD Cert.StickFwdRefIdeal.τ).loc Cert.StickFwdRefIdeal.main_arg1)) (m ((c.tc : Thread Cert.StickFwdRefIdeal.nD Cert.StickFwdRefIdeal.τ).loc Cert.StickFwdRefIdeal.main_arg2))) = (fun _ => 1#1)

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdIdeal_finite_rows [hPre_finite_rows : Cert.Pre_finite_rows.Facts] (m : (ℓ : Loc Cert.NormBwdIdeal.nD Cert.NormBwdIdeal.τ Cert.NormBwdIdeal.sig) → Buf (Elt Ideal) ℓ) : Prop :=
  ∀ c : Dev Cert.NormBwdIdeal.nD,
    (Cert.Pre_finite_rows.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2))) = (fun _ => 1#1)

def Pre_NormBwdRefIdeal (m : (ℓ : Loc Cert.NormBwdRefIdeal.nD Cert.NormBwdRefIdeal.τ Cert.NormBwdRefIdeal.sig) → Buf (Elt Ideal) ℓ) : Prop :=
  True

def Pre_NormBwdRefIdeal_finite_rows [hPre_finite_rows : Cert.Pre_finite_rows.Facts] (m : (ℓ : Loc Cert.NormBwdRefIdeal.nD Cert.NormBwdRefIdeal.τ Cert.NormBwdRefIdeal.sig) → Buf (Elt Ideal) ℓ) : Prop :=
  ∀ c : Dev Cert.NormBwdRefIdeal.nD,
    (Cert.Pre_finite_rows.fn (F := Ideal) (m ((c.tc : Thread Cert.NormBwdRefIdeal.nD Cert.NormBwdRefIdeal.τ).loc Cert.NormBwdRefIdeal.main_arg0)) (m ((c.tc : Thread Cert.NormBwdRefIdeal.nD Cert.NormBwdRefIdeal.τ).loc Cert.NormBwdRefIdeal.main_arg1)) (m ((c.tc : Thread Cert.NormBwdRefIdeal.nD Cert.NormBwdRefIdeal.τ).loc Cert.NormBwdRefIdeal.main_arg2))) = (fun _ => 1#1)

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_QRms (m : (ℓ : Loc Cert.QRms.nD Cert.QRms.τ Cert.QRms.sig) → Buf (Elt Bits) ℓ) : Prop :=
  True

def Pre_QRmsIdeal (m : (ℓ : Loc Cert.QRmsIdeal.nD Cert.QRmsIdeal.τ Cert.QRmsIdeal.sig) → Buf (Elt Ideal) ℓ) : Prop :=
  True

def Pre_QRmsRefIdeal (m : (ℓ : Loc Cert.QRmsRefIdeal.nD Cert.QRmsRefIdeal.τ Cert.QRmsRefIdeal.sig) → Buf (Elt Ideal) ℓ) : Prop :=
  True

def Pre_KvRms (m : (ℓ : Loc Cert.KvRms.nD Cert.KvRms.τ Cert.KvRms.sig) → Buf (Elt Bits) ℓ) : Prop :=
  True

def Pre_KvRmsIdeal (m : (ℓ : Loc Cert.KvRmsIdeal.nD Cert.KvRmsIdeal.τ Cert.KvRmsIdeal.sig) → Buf (Elt Ideal) ℓ) : Prop :=
  True

def Pre_KvRmsRefIdeal (m : (ℓ : Loc Cert.KvRmsRefIdeal.nD Cert.KvRmsRefIdeal.τ Cert.KvRmsRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_AdamwNorm (m : (ℓ : Loc Cert.AdamwNorm.nD Cert.AdamwNorm.τ Cert.AdamwNorm.sig) → Buf (Elt Bits) ℓ) : Prop :=
  True

def Pre_AdamwNormIdeal (m : (ℓ : Loc Cert.AdamwNormIdeal.nD Cert.AdamwNormIdeal.τ Cert.AdamwNormIdeal.sig) → Buf (Elt Ideal) ℓ) : Prop :=
  True

def Pre_AdamwNormRefIdeal (m : (ℓ : Loc Cert.AdamwNormRefIdeal.nD Cert.AdamwNormRefIdeal.τ Cert.AdamwNormRefIdeal.sig) → Buf (Elt Ideal) ℓ) : Prop :=
  True

def Pre_AdamwUq (m : (ℓ : Loc Cert.AdamwUq.nD Cert.AdamwUq.τ Cert.AdamwUq.sig) → Buf (Elt Bits) ℓ) : Prop :=
  True

def Pre_AdamwUqIdeal (m : (ℓ : Loc Cert.AdamwUqIdeal.nD Cert.AdamwUqIdeal.τ Cert.AdamwUqIdeal.sig) → Buf (Elt Ideal) ℓ) : Prop :=
  True

def Pre_AdamwUqRefIdeal (m : (ℓ : Loc Cert.AdamwUqRefIdeal.nD Cert.AdamwUqRefIdeal.τ Cert.AdamwUqRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_Dw2 [hDw2 : Cert.Dw2.Facts] : Prop :=
  ∀ (m : (ℓ : Loc Cert.Dw2.nD Cert.Dw2.τ Cert.Dw2.sig) → Buf (Elt Bits) ℓ) (g : Dev Cert.Dw2.nD → PrngReg), Pre_Dw2 m →
    θ_run (Cert.Dw2.defs (F := Bits)) (onTc (τ := Cert.Dw2.τ) (Cert.Dw2.main (F := Bits))) ⟨m, fun _ => 0, g⟩ (fun r => (∀ c : Dev Cert.Dw2.nD,
      r.2.mem ((c.tc : Thread Cert.Dw2.nD Cert.Dw2.τ).loc Cert.Dw2.main_arg0) = m ((c.tc : Thread Cert.Dw2.nD Cert.Dw2.τ).loc Cert.Dw2.main_arg0)
      ∧ r.2.mem ((c.tc : Thread Cert.Dw2.nD Cert.Dw2.τ).loc Cert.Dw2.main_arg1) = m ((c.tc : Thread Cert.Dw2.nD Cert.Dw2.τ).loc Cert.Dw2.main_arg1))
      ∧ r.2.sem = fun _ => 0)

def quiescent_Dw2Ideal [hDw2Ideal : Cert.Dw2Ideal.Facts] : Prop :=
  ∀ (m : (ℓ : Loc Cert.Dw2Ideal.nD Cert.Dw2Ideal.τ Cert.Dw2Ideal.sig) → Buf (Elt Ideal) ℓ) (g : Dev Cert.Dw2Ideal.nD → PrngReg), Pre_Dw2Ideal m →
    θ_run (Cert.Dw2Ideal.defs (F := Ideal)) (onTc (τ := Cert.Dw2Ideal.τ) (Cert.Dw2Ideal.main (F := Ideal))) ⟨m, fun _ => 0, g⟩ (fun r => (∀ c : Dev Cert.Dw2Ideal.nD,
      r.2.mem ((c.tc : Thread Cert.Dw2Ideal.nD Cert.Dw2Ideal.τ).loc Cert.Dw2Ideal.main_arg0) = m ((c.tc : Thread Cert.Dw2Ideal.nD Cert.Dw2Ideal.τ).loc Cert.Dw2Ideal.main_arg0)
      ∧ r.2.mem ((c.tc : Thread Cert.Dw2Ideal.nD Cert.Dw2Ideal.τ).loc Cert.Dw2Ideal.main_arg1) = m ((c.tc : Thread Cert.Dw2Ideal.nD Cert.Dw2Ideal.τ).loc Cert.Dw2Ideal.main_arg1))
      ∧ r.2.sem = fun _ => 0)

def quiescent_Dw2RefIdeal [hDw2RefIdeal : Cert.Dw2RefIdeal.Facts] : Prop :=
  ∀ (m : (ℓ : Loc Cert.Dw2RefIdeal.nD Cert.Dw2RefIdeal.τ Cert.Dw2RefIdeal.sig) → Buf (Elt Ideal) ℓ) (g : Dev Cert.Dw2RefIdeal.nD → PrngReg), Pre_Dw2RefIdeal m →
    θ_run (Cert.Dw2RefIdeal.defs (F := Ideal)) (onTc (τ := Cert.Dw2RefIdeal.τ) (Cert.Dw2RefIdeal.main (F := Ideal))) ⟨m, fun _ => 0, g⟩ (fun r => (∀ c : Dev Cert.Dw2RefIdeal.nD,
      r.2.mem ((c.tc : Thread Cert.Dw2RefIdeal.nD Cert.Dw2RefIdeal.τ).loc Cert.Dw2RefIdeal.main_arg0) = m ((c.tc : Thread Cert.Dw2RefIdeal.nD Cert.Dw2RefIdeal.τ).loc Cert.Dw2RefIdeal.main_arg0)
      ∧ r.2.mem ((c.tc : Thread Cert.Dw2RefIdeal.nD Cert.Dw2RefIdeal.τ).loc Cert.Dw2RefIdeal.main_arg1) = m ((c.tc : Thread Cert.Dw2RefIdeal.nD Cert.Dw2RefIdeal.τ).loc Cert.Dw2RefIdeal.main_arg1))
      ∧ r.2.sem = fun _ => 0)

def quiescent_Dact [hDact : Cert.Dact.Facts] : Prop :=
  ∀ (m : (ℓ : Loc Cert.Dact.nD Cert.Dact.τ Cert.Dact.sig) → Buf (Elt Bits) ℓ) (g : Dev Cert.Dact.nD → PrngReg), Pre_Dact m →
    θ_run (Cert.Dact.defs (F := Bits)) (onTc (τ := Cert.Dact.τ) (Cert.Dact.main (F := Bits))) ⟨m, fun _ => 0, g⟩ (fun r => (∀ c : Dev Cert.Dact.nD,
      r.2.mem ((c.tc : Thread Cert.Dact.nD Cert.Dact.τ).loc Cert.Dact.main_arg0) = m ((c.tc : Thread Cert.Dact.nD Cert.Dact.τ).loc Cert.Dact.main_arg0)
      ∧ r.2.mem ((c.tc : Thread Cert.Dact.nD Cert.Dact.τ).loc Cert.Dact.main_arg1) = m ((c.tc : Thread Cert.Dact.nD Cert.Dact.τ).loc Cert.Dact.main_arg1)
      ∧ r.2.mem ((c.tc : Thread Cert.Dact.nD Cert.Dact.τ).loc Cert.Dact.main_arg2) = m ((c.tc : Thread Cert.Dact.nD Cert.Dact.τ).loc Cert.Dact.main_arg2))
      ∧ r.2.sem = fun _ => 0)

def quiescent_DactIdeal [hDactIdeal : Cert.DactIdeal.Facts] : Prop :=
  ∀ (m : (ℓ : Loc Cert.DactIdeal.nD Cert.DactIdeal.τ Cert.DactIdeal.sig) → Buf (Elt Ideal) ℓ) (g : Dev Cert.DactIdeal.nD → PrngReg), Pre_DactIdeal m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
      ∧ r.2.mem ((c.tc : Thread Cert.DactIdeal.nD Cert.DactIdeal.τ).loc Cert.DactIdeal.main_arg2) = m ((c.tc : Thread Cert.DactIdeal.nD Cert.DactIdeal.τ).loc Cert.DactIdeal.main_arg2))
      ∧ r.2.sem = fun _ => 0)

def quiescent_DactRefIdeal [hDactRefIdeal : Cert.DactRefIdeal.Facts] : Prop :=
  ∀ (m : (ℓ : Loc Cert.DactRefIdeal.nD Cert.DactRefIdeal.τ Cert.DactRefIdeal.sig) → Buf (Elt Ideal) ℓ) (g : Dev Cert.DactRefIdeal.nD → PrngReg), Pre_DactRefIdeal m →
    θ_run (Cert.DactRefIdeal.defs (F := Ideal)) (onTc (τ := Cert.DactRefIdeal.τ) (Cert.DactRefIdeal.main (F := Ideal))) ⟨m, fun _ => 0, g⟩ (fun r => (∀ c : Dev Cert.DactRefIdeal.nD,
      r.2.mem ((c.tc : Thread Cert.DactRefIdeal.nD Cert.DactRefIdeal.τ).loc Cert.DactRefIdeal.main_arg0) = m ((c.tc : Thread Cert.DactRefIdeal.nD Cert.DactRefIdeal.τ).loc Cert.DactRefIdeal.main_arg0)
      ∧ r.2.mem ((c.tc : Thread Cert.DactRefIdeal.nD Cert.DactRefIdeal.τ).loc Cert.DactRefIdeal.main_arg1) = m ((c.tc : Thread Cert.DactRefIdeal.nD Cert.DactRefIdeal.τ).loc Cert.DactRefIdeal.main_arg1)
      ∧ r.2.mem ((c.tc : Thread Cert.DactRefIdeal.nD Cert.DactRefIdeal.τ).loc Cert.DactRefIdeal.main_arg2) = m ((c.tc : Thread Cert.DactRefIdeal.nD Cert.DactRefIdeal.τ).loc Cert.DactRefIdeal.main_arg2))
      ∧ r.2.sem = fun _ => 0)

def quiescent_Dw1 [hDw1 : Cert.Dw1.Facts] : Prop :=
  ∀ (m : (ℓ : Loc Cert.Dw1.nD Cert.Dw1.τ Cert.Dw1.sig) → Buf (Elt Bits) ℓ) (g : Dev Cert.Dw1.nD → PrngReg), Pre_Dw1 m →
    θ_run (Cert.Dw1.defs (F := Bits)) (onTc (τ := Cert.Dw1.τ) (Cert.Dw1.main (F := Bits))) ⟨m, fun _ => 0, g⟩ (fun r => (∀ c : Dev Cert.Dw1.nD,
      r.2.mem ((c.tc : Thread Cert.Dw1.nD Cert.Dw1.τ).loc Cert.Dw1.main_arg0) = m ((c.tc : Thread Cert.Dw1.nD Cert.Dw1.τ).loc Cert.Dw1.main_arg0)
      ∧ r.2.mem ((c.tc : Thread Cert.Dw1.nD Cert.Dw1.τ).loc Cert.Dw1.main_arg1) = m ((c.tc : Thread Cert.Dw1.nD Cert.Dw1.τ).loc Cert.Dw1.main_arg1))
      ∧ r.2.sem = fun _ => 0)

def quiescent_Dw1Ideal [hDw1Ideal : Cert.Dw1Ideal.Facts] : Prop :=
  ∀ (m : (ℓ : Loc Cert.Dw1Ideal.nD Cert.Dw1Ideal.τ Cert.Dw1Ideal.sig) → Buf (Elt Ideal) ℓ) (g : Dev Cert.Dw1Ideal.nD → PrngReg), Pre_Dw1Ideal m →
    θ_run (Cert.Dw1Ideal.defs (F := Ideal)) (onTc (τ := Cert.Dw1Ideal.τ) (Cert.Dw1Ideal.main (F := Ideal))) ⟨m, fun _ => 0, g⟩ (fun r => (∀ c : Dev Cert.Dw1Ideal.nD,
      r.2.mem ((c.tc : Thread Cert.Dw1Ideal.nD Cert.Dw1Ideal.τ).loc Cert.Dw1Ideal.main_arg0) = m ((c.tc : Thread Cert.Dw1Ideal.nD Cert.Dw1Ideal.τ).loc Cert.Dw1Ideal.main_arg0)
      ∧ r.2.mem ((c.tc : Thread Cert.Dw1Ideal.nD Cert.Dw1Ideal.τ).loc Cert.Dw1Ideal.main_arg1) = m ((c.tc : Thread Cert.Dw1Ideal.nD Cert.Dw1Ideal.τ).loc Cert.Dw1Ideal.main_arg1))
      ∧ r.2.sem = fun _ => 0)

def quiescent_Dw1RefIdeal [hDw1RefIdeal : Cert.Dw1RefIdeal.Facts] : Prop :=
  ∀ (m : (ℓ : Loc Cert.Dw1RefIdeal.nD Cert.Dw1RefIdeal.τ Cert.Dw1RefIdeal.sig) → Buf (Elt Ideal) ℓ) (g : Dev Cert.Dw1RefIdeal.nD → PrngReg), Pre_Dw1RefIdeal m →
    θ_run (Cert.Dw1RefIdeal.defs (F := Ideal)) (onTc (τ := Cert.Dw1RefIdeal.τ) (Cert.Dw1RefIdeal.main (F := Ideal))) ⟨m, fun _ => 0, g⟩ (fun r => (∀ c : Dev Cert.Dw1RefIdeal.nD,
      r.2.mem ((c.tc : Thread Cert.Dw1RefIdeal.nD Cert.Dw1RefIdeal.τ).loc Cert.Dw1RefIdeal.main_arg0) = m ((c.tc : Thread Cert.Dw1RefIdeal.nD Cert.Dw1RefIdeal.τ).loc Cert.Dw1RefIdeal.main_arg0)
      ∧ r.2.mem ((c.tc : Thread Cert.Dw1RefIdeal.nD Cert.Dw1RefIdeal.τ).loc Cert.Dw1RefIdeal.main_arg1) = m ((c.tc : Thread Cert.Dw1RefIdeal.nD Cert.Dw1RefIdeal.τ).loc Cert.Dw1RefIdeal.main_arg1))
      ∧ r.2.sem = fun _ => 0)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2))
      ∧ r.2.sem = fun _ => 0)

def quiescent_DxRefIdeal [hDxRefIdeal : Cert.DxRefIdeal.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2))
      ∧ r.2.sem = fun _ => 0)

def quiescent_EvenIn [hEvenIn : Cert.EvenIn.Facts] : Prop :=
  ∀ (m : (ℓ : Loc Cert.EvenIn.nD Cert.EvenIn.τ Cert.EvenIn.sig) → Buf (Elt Bits) ℓ) (g : Dev Cert.EvenIn.nD → PrngReg), Pre_EvenIn m →
    θ_run (Cert.EvenIn.defs (F := Bits)) (onTc (τ := Cert.EvenIn.τ) (Cert.EvenIn.main (F := Bits))) ⟨m, fun _ => 0, g⟩ (fun r => (∀ c : Dev Cert.EvenIn.nD,
      r.2.mem ((c.tc : Thread Cert.EvenIn.nD Cert.EvenIn.τ).loc Cert.EvenIn.main_arg0) = m ((c.tc : Thread Cert.EvenIn.nD Cert.EvenIn.τ).loc Cert.EvenIn.main_arg0)
      ∧ r.2.mem ((c.tc : Thread Cert.EvenIn.nD Cert.EvenIn.τ).loc Cert.EvenIn.main_arg1) = m ((c.tc : Thread Cert.EvenIn.nD Cert.EvenIn.τ).loc Cert.EvenIn.main_arg1))
      ∧ r.2.sem = fun _ => 0)

def quiescent_EvenInIdeal [hEvenInIdeal : Cert.EvenInIdeal.Facts] : Prop :=
  ∀ (m : (ℓ : Loc Cert.EvenInIdeal.nD Cert.EvenInIdeal.τ Cert.EvenInIdeal.sig) → Buf (Elt Ideal) ℓ) (g : Dev Cert.EvenInIdeal.nD → PrngReg), Pre_EvenInIdeal m →
    θ_run (Cert.EvenInIdeal.defs (F := Ideal)) (onTc (τ := Cert.EvenInIdeal.τ) (Cert.EvenInIdeal.main (F := Ideal))) ⟨m, fun _ => 0, g⟩ (fun r => (∀ c : Dev Cert.EvenInIdeal.nD,
      r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
      ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1))
      ∧ r.2.sem = fun _ => 0)

def quiescent_EvenInRefIdeal [hEvenInRefIdeal : Cert.EvenInRefIdeal.Facts] : Prop :=
  ∀ (m : (ℓ : Loc Cert.EvenInRefIdeal.nD Cert.EvenInRefIdeal.τ Cert.EvenInRefIdeal.sig) → Buf (Elt Ideal) ℓ) (g : Dev Cert.EvenInRefIdeal.nD → PrngReg), Pre_EvenInRefIdeal m →
    θ_run (Cert.EvenInRefIdeal.defs (F := Ideal)) (onTc (τ := Cert.EvenInRefIdeal.τ) (Cert.EvenInRefIdeal.main (F := Ideal))) ⟨m, fun _ => 0, g⟩ (fun r => (∀ c : Dev Cert.EvenInRefIdeal.nD,
      r.2.mem ((c.tc : Thread Cert.EvenInRefIdeal.nD Cert.EvenInRefIdeal.τ).loc Cert.EvenInRefIdeal.main_arg0) = m ((c.tc : Thread Cert.EvenInRefIdeal.nD Cert.EvenInRefIdeal.τ).loc Cert.EvenInRefIdeal.main_arg0)
      ∧ r.2.mem ((c.tc : Thread Cert.EvenInRefIdeal.nD Cert.EvenInRefIdeal.τ).loc Cert.EvenInRefIdeal.main_arg1) = m ((c.tc : Thread Cert.EvenInRefIdeal.nD Cert.EvenInRefIdeal.τ).loc Cert.EvenInRefIdeal.main_arg1))
      ∧ r.2.sem = fun _ => 0)

def quiescent_EvenDwin [hEvenDwin : Cert.EvenDwin.Facts] : Prop :=
  ∀ (m : (ℓ : Loc Cert.EvenDwin.nD Cert.EvenDwin.τ Cert.EvenDwin.sig) → Buf (Elt Bits) ℓ) (g : Dev Cert.EvenDwin.nD → PrngReg), Pre_EvenDwin m →
    θ_run (Cert.EvenDwin.defs (F := Bits)) (onTc (τ := Cert.EvenDwin.τ) (Cert.EvenDwin.main (F := Bits))) ⟨m, fun _ => 0, g⟩ (fun r => (∀ c : Dev Cert.EvenDwin.nD,
      r.2.mem ((c.tc : Thread Cert.EvenDwin.nD Cert.EvenDwin.τ).loc Cert.EvenDwin.main_arg0) = m ((c.tc : Thread Cert.EvenDwin.nD Cert.EvenDwin.τ).loc Cert.EvenDwin.main_arg0)
      ∧ r.2.mem ((c.tc : Thread Cert.EvenDwin.nD Cert.EvenDwin.τ).loc Cert.EvenDwin.main_arg1) = m ((c.tc : Thread Cert.EvenDwin.nD Cert.EvenDwin.τ).loc Cert.EvenDwin.main_arg1))
      ∧ r.2.sem = fun _ => 0)

def quiescent_EvenDwinIdeal [hEvenDwinIdeal : Cert.EvenDwinIdeal.Facts] : Prop :=
  ∀ (m : (ℓ : Loc Cert.EvenDwinIdeal.nD Cert.EvenDwinIdeal.τ Cert.EvenDwinIdeal.sig) → Buf (Elt Ideal) ℓ) (g : Dev Cert.EvenDwinIdeal.nD → PrngReg), Pre_EvenDwinIdeal m →
    θ_run (Cert.EvenDwinIdeal.defs (F := Ideal)) (onTc (τ := Cert.EvenDwinIdeal.τ) (Cert.EvenDwinIdeal.main (F := Ideal))) ⟨m, fun _ => 0, g⟩ (fun r => (∀ c : Dev Cert.EvenDwinIdeal.nD,
      r.2.mem ((c.tc : Thread Cert.EvenDwinIdeal.nD Cert.EvenDwinIdeal.τ).loc Cert.EvenDwinIdeal.main_arg0) = m ((c.tc : Thread Cert.EvenDwinIdeal.nD Cert.EvenDwinIdeal.τ).loc Cert.EvenDwinIdeal.main_arg0)
      ∧ r.2.mem ((c.tc : Thread Cert.EvenDwinIdeal.nD Cert.EvenDwinIdeal.τ).loc Cert.EvenDwinIdeal.main_arg1) = m ((c.tc : Thread Cert.EvenDwinIdeal.nD Cert.EvenDwinIdeal.τ).loc Cert.EvenDwinIdeal.main_arg1))
      ∧ r.2.sem = fun _ => 0)

def quiescent_EvenDwinRefIdeal [hEvenDwinRefIdeal : Cert.EvenDwinRefIdeal.Facts] : Prop :=
  ∀ (m : (ℓ : Loc Cert.EvenDwinRefIdeal.nD Cert.EvenDwinRefIdeal.τ Cert.EvenDwinRefIdeal.sig) → Buf (Elt Ideal) ℓ) (g : Dev Cert.EvenDwinRefIdeal.nD → PrngReg), Pre_EvenDwinRefIdeal m →
    θ_run (Cert.EvenDwinRefIdeal.defs (F := Ideal)) (onTc (τ := Cert.EvenDwinRefIdeal.τ) (Cert.EvenDwinRefIdeal.main (F := Ideal))) ⟨m, fun _ => 0, g⟩ (fun r => (∀ c : Dev Cert.EvenDwinRefIdeal.nD,
      r.2.mem ((c.tc : Thread Cert.EvenDwinRefIdeal.nD Cert.EvenDwinRefIdeal.τ).loc Cert.EvenDwinRefIdeal.main_arg0) = m ((c.tc : Thread Cert.EvenDwinRefIdeal.nD Cert.EvenDwinRefIdeal.τ).loc Cert.EvenDwinRefIdeal.main_arg0)
      ∧ r.2.mem ((c.tc : Thread Cert.EvenDwinRefIdeal.nD Cert.EvenDwinRefIdeal.τ).loc Cert.EvenDwinRefIdeal.main_arg1) = m ((c.tc : Thread Cert.EvenDwinRefIdeal.nD Cert.EvenDwinRefIdeal.τ).loc Cert.EvenDwinRefIdeal.main_arg1))
      ∧ r.2.sem = fun _ => 0)

def quiescent_EvenDx [hEvenDx : Cert.EvenDx.Facts] : Prop :=
  ∀ (m : (ℓ : Loc Cert.EvenDx.nD Cert.EvenDx.τ Cert.EvenDx.sig) → Buf (Elt Bits) ℓ) (g : Dev Cert.EvenDx.nD → PrngReg), Pre_EvenDx m →
    θ_run (Cert.EvenDx.defs (F := Bits)) (onTc (τ := Cert.EvenDx.τ) (Cert.EvenDx.main (F := Bits))) ⟨m, fun _ => 0, g⟩ (fun r => (∀ c : Dev Cert.EvenDx.nD,
      r.2.mem ((c.tc : Thread Cert.EvenDx.nD Cert.EvenDx.τ).loc Cert.EvenDx.main_arg0) = m ((c.tc : Thread Cert.EvenDx.nD Cert.EvenDx.τ).loc Cert.EvenDx.main_arg0)
      ∧ r.2.mem ((c.tc : Thread Cert.EvenDx.nD Cert.EvenDx.τ).loc Cert.EvenDx.main_arg1) = m ((c.tc : Thread Cert.EvenDx.nD Cert.EvenDx.τ).loc Cert.EvenDx.main_arg1)
      ∧ r.2.mem ((c.tc : Thread Cert.EvenDx.nD Cert.EvenDx.τ).loc Cert.EvenDx.main_arg2) = m ((c.tc : Thread Cert.EvenDx.nD Cert.EvenDx.τ).loc Cert.EvenDx.main_arg2))
      ∧ r.2.sem = fun _ => 0)

def quiescent_EvenDxIdeal [hEvenDxIdeal : Cert.EvenDxIdeal.Facts] : Prop :=
  ∀ (m : (ℓ : Loc Cert.EvenDxIdeal.nD Cert.EvenDxIdeal.τ Cert.EvenDxIdeal.sig) → Buf (Elt Ideal) ℓ) (g : Dev Cert.EvenDxIdeal.nD → PrngReg), Pre_EvenDxIdeal m →
    θ_run (Cert.EvenDxIdeal.defs (F := Ideal)) (onTc (τ := Cert.EvenDxIdeal.τ) (Cert.EvenDxIdeal.main (F := Ideal))) ⟨m, fun _ => 0, g⟩ (fun r => (∀ c : Dev Cert.EvenDxIdeal.nD,
      r.2.mem ((c.tc : Thread Cert.EvenDxIdeal.nD Cert.EvenDxIdeal.τ).loc Cert.EvenDxIdeal.main_arg0) = m ((c.tc : Thread Cert.EvenDxIdeal.nD Cert.EvenDxIdeal.τ).loc Cert.EvenDxIdeal.main_arg0)
      ∧ r.2.mem ((c.tc : Thread Cert.EvenDxIdeal.nD Cert.EvenDxIdeal.τ).loc Cert.EvenDxIdeal.main_arg1) = m ((c.tc : Thread Cert.EvenDxIdeal.nD Cert.EvenDxIdeal.τ).loc Cert.EvenDxIdeal.main_arg1)
      ∧ r.2.mem ((c.tc : Thread Cert.EvenDxIdeal.nD Cert.EvenDxIdeal.τ).loc Cert.EvenDxIdeal.main_arg2) = m ((c.tc : Thread Cert.EvenDxIdeal.nD Cert.EvenDxIdeal.τ).loc Cert.EvenDxIdeal.main_arg2))
      ∧ r.2.sem = fun _ => 0)

def quiescent_EvenDxRefIdeal [hEvenDxRefIdeal : Cert.EvenDxRefIdeal.Facts] : Prop :=
  ∀ (m : (ℓ : Loc Cert.EvenDxRefIdeal.nD Cert.EvenDxRefIdeal.τ Cert.EvenDxRefIdeal.sig) → Buf (Elt Ideal) ℓ) (g : Dev Cert.EvenDxRefIdeal.nD → PrngReg), Pre_EvenDxRefIdeal m →
    θ_run (Cert.EvenDxRefIdeal.defs (F := Ideal)) (onTc (τ := Cert.EvenDxRefIdeal.τ) (Cert.EvenDxRefIdeal.main (F := Ideal))) ⟨m, fun _ => 0, g⟩ (fun r => (∀ c : Dev Cert.EvenDxRefIdeal.nD,
      r.2.mem ((c.tc : Thread Cert.EvenDxRefIdeal.nD Cert.EvenDxRefIdeal.τ).loc Cert.EvenDxRefIdeal.main_arg0) = m ((c.tc : Thread Cert.EvenDxRefIdeal.nD Cert.EvenDxRefIdeal.τ).loc Cert.EvenDxRefIdeal.main_arg0)
      ∧ r.2.mem ((c.tc : Thread Cert.EvenDxRefIdeal.nD Cert.EvenDxRefIdeal.τ).loc Cert.EvenDxRefIdeal.main_arg1) = m ((c.tc : Thread Cert.EvenDxRefIdeal.nD Cert.EvenDxRefIdeal.τ).loc Cert.EvenDxRefIdeal.main_arg1)
      ∧ r.2.mem ((c.tc : Thread Cert.EvenDxRefIdeal.nD Cert.EvenDxRefIdeal.τ).loc Cert.EvenDxRefIdeal.main_arg2) = m ((c.tc : Thread Cert.EvenDxRefIdeal.nD Cert.EvenDxRefIdeal.τ).loc Cert.EvenDxRefIdeal.main_arg2))
      ∧ r.2.sem = fun _ => 0)

def quiescent_EvenOut [hEvenOut : Cert.EvenOut.Facts] : Prop :=
  ∀ (m : (ℓ : Loc Cert.EvenOut.nD Cert.EvenOut.τ Cert.EvenOut.sig) → Buf (Elt Bits) ℓ) (g : Dev Cert.EvenOut.nD → PrngReg), Pre_EvenOut m →
    θ_run (Cert.EvenOut.defs (F := Bits)) (onTc (τ := Cert.EvenOut.τ) (Cert.EvenOut.main (F := Bits))) ⟨m, fun _ => 0, g⟩ (fun r => (∀ c : Dev Cert.EvenOut.nD,
      r.2.mem ((c.tc : Thread Cert.EvenOut.nD Cert.EvenOut.τ).loc Cert.EvenOut.main_arg0) = m ((c.tc : Thread Cert.EvenOut.nD Cert.EvenOut.τ).loc Cert.EvenOut.main_arg0)
      ∧ r.2.mem ((c.tc : Thread Cert.EvenOut.nD Cert.EvenOut.τ).loc Cert.EvenOut.main_arg1) = m ((c.tc : Thread Cert.EvenOut.nD Cert.EvenOut.τ).loc Cert.EvenOut.main_arg1))
      ∧ r.2.sem = fun _ => 0)

def quiescent_EvenOutIdeal [hEvenOutIdeal : Cert.EvenOutIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg), Pre_EvenOutIdeal m →
    θ_run (Cert.EvenOutIdeal.defs (F := Ideal)) (onTc (τ := Cert.EvenOutIdeal.τ) (Cert.EvenOutIdeal.main (F := Ideal))) ⟨m, fun _ => 0, g⟩ (fun r => (∀ c : Dev Cert.EvenOutIdeal.nD,
      r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
      ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1))
      ∧ r.2.sem = fun _ => 0)

def quiescent_EvenOutRefIdeal [hEvenOutRefIdeal : Cert.EvenOutRefIdeal.Facts] : Prop :=
  ∀ (m : (ℓ : Loc Cert.EvenOutRefIdeal.nD Cert.EvenOutRefIdeal.τ Cert.EvenOutRefIdeal.sig) → Buf (Elt Ideal) ℓ) (g : Dev Cert.EvenOutRefIdeal.nD → PrngReg), Pre_EvenOutRefIdeal m →
    θ_run (Cert.EvenOutRefIdeal.defs (F := Ideal)) (onTc (τ := Cert.EvenOutRefIdeal.τ) (Cert.EvenOutRefIdeal.main (F := Ideal))) ⟨m, fun _ => 0, g⟩ (fun r => (∀ c : Dev Cert.EvenOutRefIdeal.nD,
      r.2.mem ((c.tc : Thread Cert.EvenOutRefIdeal.nD Cert.EvenOutRefIdeal.τ).loc Cert.EvenOutRefIdeal.main_arg0) = m ((c.tc : Thread Cert.EvenOutRefIdeal.nD Cert.EvenOutRefIdeal.τ).loc Cert.EvenOutRefIdeal.main_arg0)
      ∧ r.2.mem ((c.tc : Thread Cert.EvenOutRefIdeal.nD Cert.EvenOutRefIdeal.τ).loc Cert.EvenOutRefIdeal.main_arg1) = m ((c.tc : Thread Cert.EvenOutRefIdeal.nD Cert.EvenOutRefIdeal.τ).loc Cert.EvenOutRefIdeal.main_arg1))
      ∧ r.2.sem = fun _ => 0)

def quiescent_EvenDwout [hEvenDwout : Cert.EvenDwout.Facts] : Prop :=
  ∀ (m : (ℓ : Loc Cert.EvenDwout.nD Cert.EvenDwout.τ Cert.EvenDwout.sig) → Buf (Elt Bits) ℓ) (g : Dev Cert.EvenDwout.nD → PrngReg), Pre_EvenDwout m →
    θ_run (Cert.EvenDwout.defs (F := Bits)) (onTc (τ := Cert.EvenDwout.τ) (Cert.EvenDwout.main (F := Bits))) ⟨m, fun _ => 0, g⟩ (fun r => (∀ c : Dev Cert.EvenDwout.nD,
      r.2.mem ((c.tc : Thread Cert.EvenDwout.nD Cert.EvenDwout.τ).loc Cert.EvenDwout.main_arg0) = m ((c.tc : Thread Cert.EvenDwout.nD Cert.EvenDwout.τ).loc Cert.EvenDwout.main_arg0)
      ∧ r.2.mem ((c.tc : Thread Cert.EvenDwout.nD Cert.EvenDwout.τ).loc Cert.EvenDwout.main_arg1) = m ((c.tc : Thread Cert.EvenDwout.nD Cert.EvenDwout.τ).loc Cert.EvenDwout.main_arg1))
      ∧ r.2.sem = fun _ => 0)

def quiescent_EvenDwoutIdeal [hEvenDwoutIdeal : Cert.EvenDwoutIdeal.Facts] : Prop :=
  ∀ (m : (ℓ : Loc Cert.EvenDwoutIdeal.nD Cert.EvenDwoutIdeal.τ Cert.EvenDwoutIdeal.sig) → Buf (Elt Ideal) ℓ) (g : Dev Cert.EvenDwoutIdeal.nD → PrngReg), Pre_EvenDwoutIdeal m →
    θ_run (Cert.EvenDwoutIdeal.defs (F := Ideal)) (onTc (τ := Cert.EvenDwoutIdeal.τ) (Cert.EvenDwoutIdeal.main (F := Ideal))) ⟨m, fun _ => 0, g⟩ (fun r => (∀ c : Dev Cert.EvenDwoutIdeal.nD,
      r.2.mem ((c.tc : Thread Cert.EvenDwoutIdeal.nD Cert.EvenDwoutIdeal.τ).loc Cert.EvenDwoutIdeal.main_arg0) = m ((c.tc : Thread Cert.EvenDwoutIdeal.nD Cert.EvenDwoutIdeal.τ).loc Cert.EvenDwoutIdeal.main_arg0)
      ∧ r.2.mem ((c.tc : Thread Cert.EvenDwoutIdeal.nD Cert.EvenDwoutIdeal.τ).loc Cert.EvenDwoutIdeal.main_arg1) = m ((c.tc : Thread Cert.EvenDwoutIdeal.nD Cert.EvenDwoutIdeal.τ).loc Cert.EvenDwoutIdeal.main_arg1))
      ∧ r.2.sem = fun _ => 0)

def quiescent_EvenDwoutRefIdeal [hEvenDwoutRefIdeal : Cert.EvenDwoutRefIdeal.Facts] : Prop :=
  ∀ (m : (ℓ : Loc Cert.EvenDwoutRefIdeal.nD Cert.EvenDwoutRefIdeal.τ Cert.EvenDwoutRefIdeal.sig) → Buf (Elt Ideal) ℓ) (g : Dev Cert.EvenDwoutRefIdeal.nD → PrngReg), Pre_EvenDwoutRefIdeal m →
    θ_run (Cert.EvenDwoutRefIdeal.defs (F := Ideal)) (onTc (τ := Cert.EvenDwoutRefIdeal.τ) (Cert.EvenDwoutRefIdeal.main (F := Ideal))) ⟨m, fun _ => 0, g⟩ (fun r => (∀ c : Dev Cert.EvenDwoutRefIdeal.nD,
      r.2.mem ((c.tc : Thread Cert.EvenDwoutRefIdeal.nD Cert.EvenDwoutRefIdeal.τ).loc Cert.EvenDwoutRefIdeal.main_arg0) = m ((c.tc : Thread Cert.EvenDwoutRefIdeal.nD Cert.EvenDwoutRefIdeal.τ).loc Cert.EvenDwoutRefIdeal.main_arg0)
      ∧ r.2.mem ((c.tc : Thread Cert.EvenDwoutRefIdeal.nD Cert.EvenDwoutRefIdeal.τ).loc Cert.EvenDwoutRefIdeal.main_arg1) = m ((c.tc : Thread Cert.EvenDwoutRefIdeal.nD Cert.EvenDwoutRefIdeal.τ).loc Cert.EvenDwoutRefIdeal.main_arg1))
      ∧ r.2.sem = fun _ => 0)

def quiescent_EvenDy [hEvenDy : Cert.EvenDy.Facts] : Prop :=
  ∀ (m : (ℓ : Loc Cert.EvenDy.nD Cert.EvenDy.τ Cert.EvenDy.sig) → Buf (Elt Bits) ℓ) (g : Dev Cert.EvenDy.nD → PrngReg), Pre_EvenDy m →
    θ_run (Cert.EvenDy.defs (F := Bits)) (onTc (τ := Cert.EvenDy.τ) (Cert.EvenDy.main (F := Bits))) ⟨m, fun _ => 0, g⟩ (fun r => (∀ c : Dev Cert.EvenDy.nD,
      r.2.mem ((c.tc : Thread Cert.EvenDy.nD Cert.EvenDy.τ).loc Cert.EvenDy.main_arg0) = m ((c.tc : Thread Cert.EvenDy.nD Cert.EvenDy.τ).loc Cert.EvenDy.main_arg0)
      ∧ r.2.mem ((c.tc : Thread Cert.EvenDy.nD Cert.EvenDy.τ).loc Cert.EvenDy.main_arg1) = m ((c.tc : Thread Cert.EvenDy.nD Cert.EvenDy.τ).loc Cert.EvenDy.main_arg1))
      ∧ r.2.sem = fun _ => 0)

def quiescent_EvenDyIdeal [hEvenDyIdeal : Cert.EvenDyIdeal.Facts] : Prop :=
  ∀ (m : (ℓ : Loc Cert.EvenDyIdeal.nD Cert.EvenDyIdeal.τ Cert.EvenDyIdeal.sig) → Buf (Elt Ideal) ℓ) (g : Dev Cert.EvenDyIdeal.nD → PrngReg), Pre_EvenDyIdeal m →
    θ_run (Cert.EvenDyIdeal.defs (F := Ideal)) (onTc (τ := Cert.EvenDyIdeal.τ) (Cert.EvenDyIdeal.main (F := Ideal))) ⟨m, fun _ => 0, g⟩ (fun r => (∀ c : Dev Cert.EvenDyIdeal.nD,
      r.2.mem ((c.tc : Thread Cert.EvenDyIdeal.nD Cert.EvenDyIdeal.τ).loc Cert.EvenDyIdeal.main_arg0) = m ((c.tc : Thread Cert.EvenDyIdeal.nD Cert.EvenDyIdeal.τ).loc Cert.EvenDyIdeal.main_arg0)
      ∧ r.2.mem ((c.tc : Thread Cert.EvenDyIdeal.nD Cert.EvenDyIdeal.τ).loc Cert.EvenDyIdeal.main_arg1) = m ((c.tc : Thread Cert.EvenDyIdeal.nD Cert.EvenDyIdeal.τ).loc Cert.EvenDyIdeal.main_arg1))
      ∧ r.2.sem = fun _ => 0)

def quiescent_EvenDyRefIdeal [hEvenDyRefIdeal : Cert.EvenDyRefIdeal.Facts] : Prop :=
  ∀ (m : (ℓ : Loc Cert.EvenDyRefIdeal.nD Cert.EvenDyRefIdeal.τ Cert.EvenDyRefIdeal.sig) → Buf (Elt Ideal) ℓ) (g : Dev Cert.EvenDyRefIdeal.nD → PrngReg), Pre_EvenDyRefIdeal m →
    θ_run (Cert.EvenDyRefIdeal.defs (F := Ideal)) (onTc (τ := Cert.EvenDyRefIdeal.τ) (Cert.EvenDyRefIdeal.main (F := Ideal))) ⟨m, fun _ => 0, g⟩ (fun r => (∀ c : Dev Cert.EvenDyRefIdeal.nD,
      r.2.mem ((c.tc : Thread Cert.EvenDyRefIdeal.nD Cert.EvenDyRefIdeal.τ).loc Cert.EvenDyRefIdeal.main_arg0) = m ((c.tc : Thread Cert.EvenDyRefIdeal.nD Cert.EvenDyRefIdeal.τ).loc Cert.EvenDyRefIdeal.main_arg0)
      ∧ r.2.mem ((c.tc : Thread Cert.EvenDyRefIdeal.nD Cert.EvenDyRefIdeal.τ).loc Cert.EvenDyRefIdeal.main_arg1) = m ((c.tc : Thread Cert.EvenDyRefIdeal.nD Cert.EvenDyRefIdeal.τ).loc Cert.EvenDyRefIdeal.main_arg1))
      ∧ r.2.sem = fun _ => 0)

def quiescent_OddIn [hOddIn : Cert.OddIn.Facts] : Prop :=
  ∀ (m : (ℓ : Loc Cert.OddIn.nD Cert.OddIn.τ Cert.OddIn.sig) → Buf (Elt Bits) ℓ) (g : Dev Cert.OddIn.nD → PrngReg), Pre_OddIn m →
    θ_run (Cert.OddIn.defs (F := Bits)) (onTc (τ := Cert.OddIn.τ) (Cert.OddIn.main (F := Bits))) ⟨m, fun _ => 0, g⟩ (fun r => (∀ c : Dev Cert.OddIn.nD,
      r.2.mem ((c.tc : Thread Cert.OddIn.nD Cert.OddIn.τ).loc Cert.OddIn.main_arg0) = m ((c.tc : Thread Cert.OddIn.nD Cert.OddIn.τ).loc Cert.OddIn.main_arg0)
      ∧ r.2.mem ((c.tc : Thread Cert.OddIn.nD Cert.OddIn.τ).loc Cert.OddIn.main_arg1) = m ((c.tc : Thread Cert.OddIn.nD Cert.OddIn.τ).loc Cert.OddIn.main_arg1))
      ∧ r.2.sem = fun _ => 0)

def quiescent_OddInIdeal [hOddInIdeal : Cert.OddInIdeal.Facts] : Prop :=
  ∀ (m : (ℓ : Loc Cert.OddInIdeal.nD Cert.OddInIdeal.τ Cert.OddInIdeal.sig) → Buf (Elt Ideal) ℓ) (g : Dev Cert.OddInIdeal.nD → PrngReg), Pre_OddInIdeal m →
    θ_run (Cert.OddInIdeal.defs (F := Ideal)) (onTc (τ := Cert.OddInIdeal.τ) (Cert.OddInIdeal.main (F := Ideal))) ⟨m, fun _ => 0, g⟩ (fun r => (∀ c : Dev Cert.OddInIdeal.nD,
      r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
      ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1))
      ∧ r.2.sem = fun _ => 0)

def quiescent_OddInRefIdeal [hOddInRefIdeal : Cert.OddInRefIdeal.Facts] : Prop :=
  ∀ (m : (ℓ : Loc Cert.OddInRefIdeal.nD Cert.OddInRefIdeal.τ Cert.OddInRefIdeal.sig) → Buf (Elt Ideal) ℓ) (g : Dev Cert.OddInRefIdeal.nD → PrngReg), Pre_OddInRefIdeal m →
    θ_run (Cert.OddInRefIdeal.defs (F := Ideal)) (onTc (τ := Cert.OddInRefIdeal.τ) (Cert.OddInRefIdeal.main (F := Ideal))) ⟨m, fun _ => 0, g⟩ (fun r => (∀ c : Dev Cert.OddInRefIdeal.nD,
      r.2.mem ((c.tc : Thread Cert.OddInRefIdeal.nD Cert.OddInRefIdeal.τ).loc Cert.OddInRefIdeal.main_arg0) = m ((c.tc : Thread Cert.OddInRefIdeal.nD Cert.OddInRefIdeal.τ).loc Cert.OddInRefIdeal.main_arg0)
      ∧ r.2.mem ((c.tc : Thread Cert.OddInRefIdeal.nD Cert.OddInRefIdeal.τ).loc Cert.OddInRefIdeal.main_arg1) = m ((c.tc : Thread Cert.OddInRefIdeal.nD Cert.OddInRefIdeal.τ).loc Cert.OddInRefIdeal.main_arg1))
      ∧ r.2.sem = fun _ => 0)

def quiescent_OddDwin [hOddDwin : Cert.OddDwin.Facts] : Prop :=
  ∀ (m : (ℓ : Loc Cert.OddDwin.nD Cert.OddDwin.τ Cert.OddDwin.sig) → Buf (Elt Bits) ℓ) (g : Dev Cert.OddDwin.nD → PrngReg), Pre_OddDwin m →
    θ_run (Cert.OddDwin.defs (F := Bits)) (onTc (τ := Cert.OddDwin.τ) (Cert.OddDwin.main (F := Bits))) ⟨m, fun _ => 0, g⟩ (fun r => (∀ c : Dev Cert.OddDwin.nD,
      r.2.mem ((c.tc : Thread Cert.OddDwin.nD Cert.OddDwin.τ).loc Cert.OddDwin.main_arg0) = m ((c.tc : Thread Cert.OddDwin.nD Cert.OddDwin.τ).loc Cert.OddDwin.main_arg0)
      ∧ r.2.mem ((c.tc : Thread Cert.OddDwin.nD Cert.OddDwin.τ).loc Cert.OddDwin.main_arg1) = m ((c.tc : Thread Cert.OddDwin.nD Cert.OddDwin.τ).loc Cert.OddDwin.main_arg1))
      ∧ r.2.sem = fun _ => 0)

def quiescent_OddDwinIdeal [hOddDwinIdeal : Cert.OddDwinIdeal.Facts] : Prop :=
  ∀ (m : (ℓ : Loc Cert.OddDwinIdeal.nD Cert.OddDwinIdeal.τ Cert.OddDwinIdeal.sig) → Buf (Elt Ideal) ℓ) (g : Dev Cert.OddDwinIdeal.nD → PrngReg), Pre_OddDwinIdeal m →
    θ_run (Cert.OddDwinIdeal.defs (F := Ideal)) (onTc (τ := Cert.OddDwinIdeal.τ) (Cert.OddDwinIdeal.main (F := Ideal))) ⟨m, fun _ => 0, g⟩ (fun r => (∀ c : Dev Cert.OddDwinIdeal.nD,
      r.2.mem ((c.tc : Thread Cert.OddDwinIdeal.nD Cert.OddDwinIdeal.τ).loc Cert.OddDwinIdeal.main_arg0) = m ((c.tc : Thread Cert.OddDwinIdeal.nD Cert.OddDwinIdeal.τ).loc Cert.OddDwinIdeal.main_arg0)
      ∧ r.2.mem ((c.tc : Thread Cert.OddDwinIdeal.nD Cert.OddDwinIdeal.τ).loc Cert.OddDwinIdeal.main_arg1) = m ((c.tc : Thread Cert.OddDwinIdeal.nD Cert.OddDwinIdeal.τ).loc Cert.OddDwinIdeal.main_arg1))
      ∧ r.2.sem = fun _ => 0)

def quiescent_OddDwinRefIdeal [hOddDwinRefIdeal : Cert.OddDwinRefIdeal.Facts] : Prop :=
  ∀ (m : (ℓ : Loc Cert.OddDwinRefIdeal.nD Cert.OddDwinRefIdeal.τ Cert.OddDwinRefIdeal.sig) → Buf (Elt Ideal) ℓ) (g : Dev Cert.OddDwinRefIdeal.nD → PrngReg), Pre_OddDwinRefIdeal m →
    θ_run (Cert.OddDwinRefIdeal.defs (F := Ideal)) (onTc (τ := Cert.OddDwinRefIdeal.τ) (Cert.OddDwinRefIdeal.main (F := Ideal))) ⟨m, fun _ => 0, g⟩ (fun r => (∀ c : Dev Cert.OddDwinRefIdeal.nD,
      r.2.mem ((c.tc : Thread Cert.OddDwinRefIdeal.nD Cert.OddDwinRefIdeal.τ).loc Cert.OddDwinRefIdeal.main_arg0) = m ((c.tc : Thread Cert.OddDwinRefIdeal.nD Cert.OddDwinRefIdeal.τ).loc Cert.OddDwinRefIdeal.main_arg0)
      ∧ r.2.mem ((c.tc : Thread Cert.OddDwinRefIdeal.nD Cert.OddDwinRefIdeal.τ).loc Cert.OddDwinRefIdeal.main_arg1) = m ((c.tc : Thread Cert.OddDwinRefIdeal.nD Cert.OddDwinRefIdeal.τ).loc Cert.OddDwinRefIdeal.main_arg1))
      ∧ r.2.sem = fun _ => 0)

def quiescent_OddDx [hOddDx : Cert.OddDx.Facts] : Prop :=
  ∀ (m : (ℓ : Loc Cert.OddDx.nD Cert.OddDx.τ Cert.OddDx.sig) → Buf (Elt Bits) ℓ) (g : Dev Cert.OddDx.nD → PrngReg), Pre_OddDx m →
    θ_run (Cert.OddDx.defs (F := Bits)) (onTc (τ := Cert.OddDx.τ) (Cert.OddDx.main (F := Bits))) ⟨m, fun _ => 0, g⟩ (fun r => (∀ c : Dev Cert.OddDx.nD,
      r.2.mem ((c.tc : Thread Cert.OddDx.nD Cert.OddDx.τ).loc Cert.OddDx.main_arg0) = m ((c.tc : Thread Cert.OddDx.nD Cert.OddDx.τ).loc Cert.OddDx.main_arg0)
      ∧ r.2.mem ((c.tc : Thread Cert.OddDx.nD Cert.OddDx.τ).loc Cert.OddDx.main_arg1) = m ((c.tc : Thread Cert.OddDx.nD Cert.OddDx.τ).loc Cert.OddDx.main_arg1)
      ∧ r.2.mem ((c.tc : Thread Cert.OddDx.nD Cert.OddDx.τ).loc Cert.OddDx.main_arg2) = m ((c.tc : Thread Cert.OddDx.nD Cert.OddDx.τ).loc Cert.OddDx.main_arg2))
      ∧ r.2.sem = fun _ => 0)

def quiescent_OddDxIdeal [hOddDxIdeal : Cert.OddDxIdeal.Facts] : Prop :=
  ∀ (m : (ℓ : Loc Cert.OddDxIdeal.nD Cert.OddDxIdeal.τ Cert.OddDxIdeal.sig) → Buf (Elt Ideal) ℓ) (g : Dev Cert.OddDxIdeal.nD → PrngReg), Pre_OddDxIdeal m →
    θ_run (Cert.OddDxIdeal.defs (F := Ideal)) (onTc (τ := Cert.OddDxIdeal.τ) (Cert.OddDxIdeal.main (F := Ideal))) ⟨m, fun _ => 0, g⟩ (fun r => (∀ c : Dev Cert.OddDxIdeal.nD,
      r.2.mem ((c.tc : Thread Cert.OddDxIdeal.nD Cert.OddDxIdeal.τ).loc Cert.OddDxIdeal.main_arg0) = m ((c.tc : Thread Cert.OddDxIdeal.nD Cert.OddDxIdeal.τ).loc Cert.OddDxIdeal.main_arg0)
      ∧ r.2.mem ((c.tc : Thread Cert.OddDxIdeal.nD Cert.OddDxIdeal.τ).loc Cert.OddDxIdeal.main_arg1) = m ((c.tc : Thread Cert.OddDxIdeal.nD Cert.OddDxIdeal.τ).loc Cert.OddDxIdeal.main_arg1)
      ∧ r.2.mem ((c.tc : Thread Cert.OddDxIdeal.nD Cert.OddDxIdeal.τ).loc Cert.OddDxIdeal.main_arg2) = m ((c.tc : Thread Cert.OddDxIdeal.nD Cert.OddDxIdeal.τ).loc Cert.OddDxIdeal.main_arg2))
      ∧ r.2.sem = fun _ => 0)

def quiescent_OddDxRefIdeal [hOddDxRefIdeal : Cert.OddDxRefIdeal.Facts] : Prop :=
  ∀ (m : (ℓ : Loc Cert.OddDxRefIdeal.nD Cert.OddDxRefIdeal.τ Cert.OddDxRefIdeal.sig) → Buf (Elt Ideal) ℓ) (g : Dev Cert.OddDxRefIdeal.nD → PrngReg), Pre_OddDxRefIdeal m →
    θ_run (Cert.OddDxRefIdeal.defs (F := Ideal)) (onTc (τ := Cert.OddDxRefIdeal.τ) (Cert.OddDxRefIdeal.main (F := Ideal))) ⟨m, fun _ => 0, g⟩ (fun r => (∀ c : Dev Cert.OddDxRefIdeal.nD,
      r.2.mem ((c.tc : Thread Cert.OddDxRefIdeal.nD Cert.OddDxRefIdeal.τ).loc Cert.OddDxRefIdeal.main_arg0) = m ((c.tc : Thread Cert.OddDxRefIdeal.nD Cert.OddDxRefIdeal.τ).loc Cert.OddDxRefIdeal.main_arg0)
      ∧ r.2.mem ((c.tc : Thread Cert.OddDxRefIdeal.nD Cert.OddDxRefIdeal.τ).loc Cert.OddDxRefIdeal.main_arg1) = m ((c.tc : Thread Cert.OddDxRefIdeal.nD Cert.OddDxRefIdeal.τ).loc Cert.OddDxRefIdeal.main_arg1)
      ∧ r.2.mem ((c.tc : Thread Cert.OddDxRefIdeal.nD Cert.OddDxRefIdeal.τ).loc Cert.OddDxRefIdeal.main_arg2) = m ((c.tc : Thread Cert.OddDxRefIdeal.nD Cert.OddDxRefIdeal.τ).loc Cert.OddDxRefIdeal.main_arg2))
      ∧ r.2.sem = fun _ => 0)

def quiescent_OddOut [hOddOut : Cert.OddOut.Facts] : Prop :=
  ∀ (m : (ℓ : Loc Cert.OddOut.nD Cert.OddOut.τ Cert.OddOut.sig) → Buf (Elt Bits) ℓ) (g : Dev Cert.OddOut.nD → PrngReg), Pre_OddOut m →
    θ_run (Cert.OddOut.defs (F := Bits)) (onTc (τ := Cert.OddOut.τ) (Cert.OddOut.main (F := Bits))) ⟨m, fun _ => 0, g⟩ (fun r => (∀ c : Dev Cert.OddOut.nD,
      r.2.mem ((c.tc : Thread Cert.OddOut.nD Cert.OddOut.τ).loc Cert.OddOut.main_arg0) = m ((c.tc : Thread Cert.OddOut.nD Cert.OddOut.τ).loc Cert.OddOut.main_arg0)
      ∧ r.2.mem ((c.tc : Thread Cert.OddOut.nD Cert.OddOut.τ).loc Cert.OddOut.main_arg1) = m ((c.tc : Thread Cert.OddOut.nD Cert.OddOut.τ).loc Cert.OddOut.main_arg1))
      ∧ r.2.sem = fun _ => 0)

def quiescent_OddOutIdeal [hOddOutIdeal : Cert.OddOutIdeal.Facts] : Prop :=
  ∀ (m : (ℓ : Loc Cert.OddOutIdeal.nD Cert.OddOutIdeal.τ Cert.OddOutIdeal.sig) → Buf (Elt Ideal) ℓ) (g : Dev Cert.OddOutIdeal.nD → PrngReg), Pre_OddOutIdeal m →
    θ_run (Cert.OddOutIdeal.defs (F := Ideal)) (onTc (τ := Cert.OddOutIdeal.τ) (Cert.OddOutIdeal.main (F := Ideal))) ⟨m, fun _ => 0, g⟩ (fun r => (∀ c : Dev Cert.OddOutIdeal.nD,
      r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
      ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1))
      ∧ r.2.sem = fun _ => 0)

def quiescent_OddOutRefIdeal [hOddOutRefIdeal : Cert.OddOutRefIdeal.Facts] : Prop :=
  ∀ (m : (ℓ : Loc Cert.OddOutRefIdeal.nD Cert.OddOutRefIdeal.τ Cert.OddOutRefIdeal.sig) → Buf (Elt Ideal) ℓ) (g : Dev Cert.OddOutRefIdeal.nD → PrngReg), Pre_OddOutRefIdeal m →
    θ_run (Cert.OddOutRefIdeal.defs (F := Ideal)) (onTc (τ := Cert.OddOutRefIdeal.τ) (Cert.OddOutRefIdeal.main (F := Ideal))) ⟨m, fun _ => 0, g⟩ (fun r => (∀ c : Dev Cert.OddOutRefIdeal.nD,
      r.2.mem ((c.tc : Thread Cert.OddOutRefIdeal.nD Cert.OddOutRefIdeal.τ).loc Cert.OddOutRefIdeal.main_arg0) = m ((c.tc : Thread Cert.OddOutRefIdeal.nD Cert.OddOutRefIdeal.τ).loc Cert.OddOutRefIdeal.main_arg0)
      ∧ r.2.mem ((c.tc : Thread Cert.OddOutRefIdeal.nD Cert.OddOutRefIdeal.τ).loc Cert.OddOutRefIdeal.main_arg1) = m ((c.tc : Thread Cert.OddOutRefIdeal.nD Cert.OddOutRefIdeal.τ).loc Cert.OddOutRefIdeal.main_arg1))
      ∧ r.2.sem = fun _ => 0)

def quiescent_OddDwout [hOddDwout : Cert.OddDwout.Facts] : Prop :=
  ∀ (m : (ℓ : Loc Cert.OddDwout.nD Cert.OddDwout.τ Cert.OddDwout.sig) → Buf (Elt Bits) ℓ) (g : Dev Cert.OddDwout.nD → PrngReg), Pre_OddDwout m →
    θ_run (Cert.OddDwout.defs (F := Bits)) (onTc (τ := Cert.OddDwout.τ) (Cert.OddDwout.main (F := Bits))) ⟨m, fun _ => 0, g⟩ (fun r => (∀ c : Dev Cert.OddDwout.nD,
      r.2.mem ((c.tc : Thread Cert.OddDwout.nD Cert.OddDwout.τ).loc Cert.OddDwout.main_arg0) = m ((c.tc : Thread Cert.OddDwout.nD Cert.OddDwout.τ).loc Cert.OddDwout.main_arg0)
      ∧ r.2.mem ((c.tc : Thread Cert.OddDwout.nD Cert.OddDwout.τ).loc Cert.OddDwout.main_arg1) = m ((c.tc : Thread Cert.OddDwout.nD Cert.OddDwout.τ).loc Cert.OddDwout.main_arg1))
      ∧ r.2.sem = fun _ => 0)

def quiescent_OddDwoutIdeal [hOddDwoutIdeal : Cert.OddDwoutIdeal.Facts] : Prop :=
  ∀ (m : (ℓ : Loc Cert.OddDwoutIdeal.nD Cert.OddDwoutIdeal.τ Cert.OddDwoutIdeal.sig) → Buf (Elt Ideal) ℓ) (g : Dev Cert.OddDwoutIdeal.nD → PrngReg), Pre_OddDwoutIdeal m →
    θ_run (Cert.OddDwoutIdeal.defs (F := Ideal)) (onTc (τ := Cert.OddDwoutIdeal.τ) (Cert.OddDwoutIdeal.main (F := Ideal))) ⟨m, fun _ => 0, g⟩ (fun r => (∀ c : Dev Cert.OddDwoutIdeal.nD,
      r.2.mem ((c.tc : Thread Cert.OddDwoutIdeal.nD Cert.OddDwoutIdeal.τ).loc Cert.OddDwoutIdeal.main_arg0) = m ((c.tc : Thread Cert.OddDwoutIdeal.nD Cert.OddDwoutIdeal.τ).loc Cert.OddDwoutIdeal.main_arg0)
      ∧ r.2.mem ((c.tc : Thread Cert.OddDwoutIdeal.nD Cert.OddDwoutIdeal.τ).loc Cert.OddDwoutIdeal.main_arg1) = m ((c.tc : Thread Cert.OddDwoutIdeal.nD Cert.OddDwoutIdeal.τ).loc Cert.OddDwoutIdeal.main_arg1))
      ∧ r.2.sem = fun _ => 0)

def quiescent_OddDwoutRefIdeal [hOddDwoutRefIdeal : Cert.OddDwoutRefIdeal.Facts] : Prop :=
  ∀ (m : (ℓ : Loc Cert.OddDwoutRefIdeal.nD Cert.OddDwoutRefIdeal.τ Cert.OddDwoutRefIdeal.sig) → Buf (Elt Ideal) ℓ) (g : Dev Cert.OddDwoutRefIdeal.nD → PrngReg), Pre_OddDwoutRefIdeal m →
    θ_run (Cert.OddDwoutRefIdeal.defs (F := Ideal)) (onTc (τ := Cert.OddDwoutRefIdeal.τ) (Cert.OddDwoutRefIdeal.main (F := Ideal))) ⟨m, fun _ => 0, g⟩ (fun r => (∀ c : Dev Cert.OddDwoutRefIdeal.nD,
      r.2.mem ((c.tc : Thread Cert.OddDwoutRefIdeal.nD Cert.OddDwoutRefIdeal.τ).loc Cert.OddDwoutRefIdeal.main_arg0) = m ((c.tc : Thread Cert.OddDwoutRefIdeal.nD Cert.OddDwoutRefIdeal.τ).loc Cert.OddDwoutRefIdeal.main_arg0)
      ∧ r.2.mem ((c.tc : Thread Cert.OddDwoutRefIdeal.nD Cert.OddDwoutRefIdeal.τ).loc Cert.OddDwoutRefIdeal.main_arg1) = m ((c.tc : Thread Cert.OddDwoutRefIdeal.nD Cert.OddDwoutRefIdeal.τ).loc Cert.OddDwoutRefIdeal.main_arg1))
      ∧ r.2.sem = fun _ => 0)

def quiescent_OddDy [hOddDy : Cert.OddDy.Facts] : Prop :=
  ∀ (m : (ℓ : Loc Cert.OddDy.nD Cert.OddDy.τ Cert.OddDy.sig) → Buf (Elt Bits) ℓ) (g : Dev Cert.OddDy.nD → PrngReg), Pre_OddDy m →
    θ_run (Cert.OddDy.defs (F := Bits)) (onTc (τ := Cert.OddDy.τ) (Cert.OddDy.main (F := Bits))) ⟨m, fun _ => 0, g⟩ (fun r => (∀ c : Dev Cert.OddDy.nD,
      r.2.mem ((c.tc : Thread Cert.OddDy.nD Cert.OddDy.τ).loc Cert.OddDy.main_arg0) = m ((c.tc : Thread Cert.OddDy.nD Cert.OddDy.τ).loc Cert.OddDy.main_arg0)
      ∧ r.2.mem ((c.tc : Thread Cert.OddDy.nD Cert.OddDy.τ).loc Cert.OddDy.main_arg1) = m ((c.tc : Thread Cert.OddDy.nD Cert.OddDy.τ).loc Cert.OddDy.main_arg1))
      ∧ r.2.sem = fun _ => 0)

def quiescent_OddDyIdeal [hOddDyIdeal : Cert.OddDyIdeal.Facts] : Prop :=
  ∀ (m : (ℓ : Loc Cert.OddDyIdeal.nD Cert.OddDyIdeal.τ Cert.OddDyIdeal.sig) → Buf (Elt Ideal) ℓ) (g : Dev Cert.OddDyIdeal.nD → PrngReg), Pre_OddDyIdeal m →
    θ_run (Cert.OddDyIdeal.defs (F := Ideal)) (onTc (τ := Cert.OddDyIdeal.τ) (Cert.OddDyIdeal.main (F := Ideal))) ⟨m, fun _ => 0, g⟩ (fun r => (∀ c : Dev Cert.OddDyIdeal.nD,
      r.2.mem ((c.tc : Thread Cert.OddDyIdeal.nD Cert.OddDyIdeal.τ).loc Cert.OddDyIdeal.main_arg0) = m ((c.tc : Thread Cert.OddDyIdeal.nD Cert.OddDyIdeal.τ).loc Cert.OddDyIdeal.main_arg0)
      ∧ r.2.mem ((c.tc : Thread Cert.OddDyIdeal.nD Cert.OddDyIdeal.τ).loc Cert.OddDyIdeal.main_arg1) = m ((c.tc : Thread Cert.OddDyIdeal.nD Cert.OddDyIdeal.τ).loc Cert.OddDyIdeal.main_arg1))
      ∧ r.2.sem = fun _ => 0)

def quiescent_OddDyRefIdeal [hOddDyRefIdeal : Cert.OddDyRefIdeal.Facts] : Prop :=
  ∀ (m : (ℓ : Loc Cert.OddDyRefIdeal.nD Cert.OddDyRefIdeal.τ Cert.OddDyRefIdeal.sig) → Buf (Elt Ideal) ℓ) (g : Dev Cert.OddDyRefIdeal.nD → PrngReg), Pre_OddDyRefIdeal m →
    θ_run (Cert.OddDyRefIdeal.defs (F := Ideal)) (onTc (τ := Cert.OddDyRefIdeal.τ) (Cert.OddDyRefIdeal.main (F := Ideal))) ⟨m, fun _ => 0, g⟩ (fun r => (∀ c : Dev Cert.OddDyRefIdeal.nD,
      r.2.mem ((c.tc : Thread Cert.OddDyRefIdeal.nD Cert.OddDyRefIdeal.τ).loc Cert.OddDyRefIdeal.main_arg0) = m ((c.tc : Thread Cert.OddDyRefIdeal.nD Cert.OddDyRefIdeal.τ).loc Cert.OddDyRefIdeal.main_arg0)
      ∧ r.2.mem ((c.tc : Thread Cert.OddDyRefIdeal.nD Cert.OddDyRefIdeal.τ).loc Cert.OddDyRefIdeal.main_arg1) = m ((c.tc : Thread Cert.OddDyRefIdeal.nD Cert.OddDyRefIdeal.τ).loc Cert.OddDyRefIdeal.main_arg1))
      ∧ r.2.sem = fun _ => 0)

def quiescent_MlaUq [hMlaUq : Cert.MlaUq.Facts] : Prop :=
  ∀ (m : (ℓ : Loc Cert.MlaUq.nD Cert.MlaUq.τ Cert.MlaUq.sig) → Buf (Elt Bits) ℓ) (g : Dev Cert.MlaUq.nD → PrngReg), Pre_MlaUq m →
    θ_run (Cert.MlaUq.defs (F := Bits)) (onTc (τ := Cert.MlaUq.τ) (Cert.MlaUq.main (F := Bits))) ⟨m, fun _ => 0, g⟩ (fun r => (∀ c : Dev Cert.MlaUq.nD,
      r.2.mem ((c.tc : Thread Cert.MlaUq.nD Cert.MlaUq.τ).loc Cert.MlaUq.main_arg0) = m ((c.tc : Thread Cert.MlaUq.nD Cert.MlaUq.τ).loc Cert.MlaUq.main_arg0)
      ∧ r.2.mem ((c.tc : Thread Cert.MlaUq.nD Cert.MlaUq.τ).loc Cert.MlaUq.main_arg1) = m ((c.tc : Thread Cert.MlaUq.nD Cert.MlaUq.τ).loc Cert.MlaUq.main_arg1))
      ∧ r.2.sem = fun _ => 0)

def quiescent_MlaUqIdeal [hMlaUqIdeal : Cert.MlaUqIdeal.Facts] : Prop :=
  ∀ (m : (ℓ : Loc Cert.MlaUqIdeal.nD Cert.MlaUqIdeal.τ Cert.MlaUqIdeal.sig) → Buf (Elt Ideal) ℓ) (g : Dev Cert.MlaUqIdeal.nD → PrngReg), Pre_MlaUqIdeal m →
    θ_run (Cert.MlaUqIdeal.defs (F := Ideal)) (onTc (τ := Cert.MlaUqIdeal.τ) (Cert.MlaUqIdeal.main (F := Ideal))) ⟨m, fun _ => 0, g⟩ (fun r => (∀ c : Dev Cert.MlaUqIdeal.nD,
      r.2.mem ((c.tc : Thread Cert.MlaUqIdeal.nD Cert.MlaUqIdeal.τ).loc Cert.MlaUqIdeal.main_arg0) = m ((c.tc : Thread Cert.MlaUqIdeal.nD Cert.MlaUqIdeal.τ).loc Cert.MlaUqIdeal.main_arg0)
      ∧ r.2.mem ((c.tc : Thread Cert.MlaUqIdeal.nD Cert.MlaUqIdeal.τ).loc Cert.MlaUqIdeal.main_arg1) = m ((c.tc : Thread Cert.MlaUqIdeal.nD Cert.MlaUqIdeal.τ).loc Cert.MlaUqIdeal.main_arg1))
      ∧ r.2.sem = fun _ => 0)

def quiescent_MlaUqRefIdeal [hMlaUqRefIdeal : Cert.MlaUqRefIdeal.Facts] : Prop :=
  ∀ (m : (ℓ : Loc Cert.MlaUqRefIdeal.nD Cert.MlaUqRefIdeal.τ Cert.MlaUqRefIdeal.sig) → Buf (Elt Ideal) ℓ) (g : Dev Cert.MlaUqRefIdeal.nD → PrngReg), Pre_MlaUqRefIdeal m →
    θ_run (Cert.MlaUqRefIdeal.defs (F := Ideal)) (onTc (τ := Cert.MlaUqRefIdeal.τ) (Cert.MlaUqRefIdeal.main (F := Ideal))) ⟨m, fun _ => 0, g⟩ (fun r => (∀ c : Dev Cert.MlaUqRefIdeal.nD,
      r.2.mem ((c.tc : Thread Cert.MlaUqRefIdeal.nD Cert.MlaUqRefIdeal.τ).loc Cert.MlaUqRefIdeal.main_arg0) = m ((c.tc : Thread Cert.MlaUqRefIdeal.nD Cert.MlaUqRefIdeal.τ).loc Cert.MlaUqRefIdeal.main_arg0)
      ∧ r.2.mem ((c.tc : Thread Cert.MlaUqRefIdeal.nD Cert.MlaUqRefIdeal.τ).loc Cert.MlaUqRefIdeal.main_arg1) = m ((c.tc : Thread Cert.MlaUqRefIdeal.nD Cert.MlaUqRefIdeal.τ).loc Cert.MlaUqRefIdeal.main_arg1))
      ∧ r.2.sem = fun _ => 0)

def quiescent_MlaUkv [hMlaUkv : Cert.MlaUkv.Facts] : Prop :=
  ∀ (m : (ℓ : Loc Cert.MlaUkv.nD Cert.MlaUkv.τ Cert.MlaUkv.sig) → Buf (Elt Bits) ℓ) (g : Dev Cert.MlaUkv.nD → PrngReg), Pre_MlaUkv m →
    θ_run (Cert.MlaUkv.defs (F := Bits)) (onTc (τ := Cert.MlaUkv.τ) (Cert.MlaUkv.main (F := Bits))) ⟨m, fun _ => 0, g⟩ (fun r => (∀ c : Dev Cert.MlaUkv.nD,
      r.2.mem ((c.tc : Thread Cert.MlaUkv.nD Cert.MlaUkv.τ).loc Cert.MlaUkv.main_arg0) = m ((c.tc : Thread Cert.MlaUkv.nD Cert.MlaUkv.τ).loc Cert.MlaUkv.main_arg0)
      ∧ r.2.mem ((c.tc : Thread Cert.MlaUkv.nD Cert.MlaUkv.τ).loc Cert.MlaUkv.main_arg1) = m ((c.tc : Thread Cert.MlaUkv.nD Cert.MlaUkv.τ).loc Cert.MlaUkv.main_arg1))
      ∧ r.2.sem = fun _ => 0)

def quiescent_MlaUkvIdeal [hMlaUkvIdeal : Cert.MlaUkvIdeal.Facts] : Prop :=
  ∀ (m : (ℓ : Loc Cert.MlaUkvIdeal.nD Cert.MlaUkvIdeal.τ Cert.MlaUkvIdeal.sig) → Buf (Elt Ideal) ℓ) (g : Dev Cert.MlaUkvIdeal.nD → PrngReg), Pre_MlaUkvIdeal m →
    θ_run (Cert.MlaUkvIdeal.defs (F := Ideal)) (onTc (τ := Cert.MlaUkvIdeal.τ) (Cert.MlaUkvIdeal.main (F := Ideal))) ⟨m, fun _ => 0, g⟩ (fun r => (∀ c : Dev Cert.MlaUkvIdeal.nD,
      r.2.mem ((c.tc : Thread Cert.MlaUkvIdeal.nD Cert.MlaUkvIdeal.τ).loc Cert.MlaUkvIdeal.main_arg0) = m ((c.tc : Thread Cert.MlaUkvIdeal.nD Cert.MlaUkvIdeal.τ).loc Cert.MlaUkvIdeal.main_arg0)
      ∧ r.2.mem ((c.tc : Thread Cert.MlaUkvIdeal.nD Cert.MlaUkvIdeal.τ).loc Cert.MlaUkvIdeal.main_arg1) = m ((c.tc : Thread Cert.MlaUkvIdeal.nD Cert.MlaUkvIdeal.τ).loc Cert.MlaUkvIdeal.main_arg1))
      ∧ r.2.sem = fun _ => 0)

def quiescent_MlaUkvRefIdeal [hMlaUkvRefIdeal : Cert.MlaUkvRefIdeal.Facts] : Prop :=
  ∀ (m : (ℓ : Loc Cert.MlaUkvRefIdeal.nD Cert.MlaUkvRefIdeal.τ Cert.MlaUkvRefIdeal.sig) → Buf (Elt Ideal) ℓ) (g : Dev Cert.MlaUkvRefIdeal.nD → PrngReg), Pre_MlaUkvRefIdeal m →
    θ_run (Cert.MlaUkvRefIdeal.defs (F := Ideal)) (onTc (τ := Cert.MlaUkvRefIdeal.τ) (Cert.MlaUkvRefIdeal.main (F := Ideal))) ⟨m, fun _ => 0, g⟩ (fun r => (∀ c : Dev Cert.MlaUkvRefIdeal.nD,
      r.2.mem ((c.tc : Thread Cert.MlaUkvRefIdeal.nD Cert.MlaUkvRefIdeal.τ).loc Cert.MlaUkvRefIdeal.main_arg0) = m ((c.tc : Thread Cert.MlaUkvRefIdeal.nD Cert.MlaUkvRefIdeal.τ).loc Cert.MlaUkvRefIdeal.main_arg0)
      ∧ r.2.mem ((c.tc : Thread Cert.MlaUkvRefIdeal.nD Cert.MlaUkvRefIdeal.τ).loc Cert.MlaUkvRefIdeal.main_arg1) = m ((c.tc : Thread Cert.MlaUkvRefIdeal.nD Cert.MlaUkvRefIdeal.τ).loc Cert.MlaUkvRefIdeal.main_arg1))
      ∧ r.2.sem = fun _ => 0)

def quiescent_MlaDwuq [hMlaDwuq : Cert.MlaDwuq.Facts] : Prop :=
  ∀ (m : (ℓ : Loc Cert.MlaDwuq.nD Cert.MlaDwuq.τ Cert.MlaDwuq.sig) → Buf (Elt Bits) ℓ) (g : Dev Cert.MlaDwuq.nD → PrngReg), Pre_MlaDwuq m →
    θ_run (Cert.MlaDwuq.defs (F := Bits)) (onTc (τ := Cert.MlaDwuq.τ) (Cert.MlaDwuq.main (F := Bits))) ⟨m, fun _ => 0, g⟩ (fun r => (∀ c : Dev Cert.MlaDwuq.nD,
      r.2.mem ((c.tc : Thread Cert.MlaDwuq.nD Cert.MlaDwuq.τ).loc Cert.MlaDwuq.main_arg0) = m ((c.tc : Thread Cert.MlaDwuq.nD Cert.MlaDwuq.τ).loc Cert.MlaDwuq.main_arg0)
      ∧ r.2.mem ((c.tc : Thread Cert.MlaDwuq.nD Cert.MlaDwuq.τ).loc Cert.MlaDwuq.main_arg1) = m ((c.tc : Thread Cert.MlaDwuq.nD Cert.MlaDwuq.τ).loc Cert.MlaDwuq.main_arg1))
      ∧ r.2.sem = fun _ => 0)

def quiescent_MlaDwuqIdeal [hMlaDwuqIdeal : Cert.MlaDwuqIdeal.Facts] : Prop :=
  ∀ (m : (ℓ : Loc Cert.MlaDwuqIdeal.nD Cert.MlaDwuqIdeal.τ Cert.MlaDwuqIdeal.sig) → Buf (Elt Ideal) ℓ) (g : Dev Cert.MlaDwuqIdeal.nD → PrngReg), Pre_MlaDwuqIdeal m →
    θ_run (Cert.MlaDwuqIdeal.defs (F := Ideal)) (onTc (τ := Cert.MlaDwuqIdeal.τ) (Cert.MlaDwuqIdeal.main (F := Ideal))) ⟨m, fun _ => 0, g⟩ (fun r => (∀ c : Dev Cert.MlaDwuqIdeal.nD,
      r.2.mem ((c.tc : Thread Cert.MlaDwuqIdeal.nD Cert.MlaDwuqIdeal.τ).loc Cert.MlaDwuqIdeal.main_arg0) = m ((c.tc : Thread Cert.MlaDwuqIdeal.nD Cert.MlaDwuqIdeal.τ).loc Cert.MlaDwuqIdeal.main_arg0)
      ∧ r.2.mem ((c.tc : Thread Cert.MlaDwuqIdeal.nD Cert.MlaDwuqIdeal.τ).loc Cert.MlaDwuqIdeal.main_arg1) = m ((c.tc : Thread Cert.MlaDwuqIdeal.nD Cert.MlaDwuqIdeal.τ).loc Cert.MlaDwuqIdeal.main_arg1))
      ∧ r.2.sem = fun _ => 0)

def quiescent_MlaDwuqRefIdeal [hMlaDwuqRefIdeal : Cert.MlaDwuqRefIdeal.Facts] : Prop :=
  ∀ (m : (ℓ : Loc Cert.MlaDwuqRefIdeal.nD Cert.MlaDwuqRefIdeal.τ Cert.MlaDwuqRefIdeal.sig) → Buf (Elt Ideal) ℓ) (g : Dev Cert.MlaDwuqRefIdeal.nD → PrngReg), Pre_MlaDwuqRefIdeal m →
    θ_run (Cert.MlaDwuqRefIdeal.defs (F := Ideal)) (onTc (τ := Cert.MlaDwuqRefIdeal.τ) (Cert.MlaDwuqRefIdeal.main (F := Ideal))) ⟨m, fun _ => 0, g⟩ (fun r => (∀ c : Dev Cert.MlaDwuqRefIdeal.nD,
      r.2.mem ((c.tc : Thread Cert.MlaDwuqRefIdeal.nD Cert.MlaDwuqRefIdeal.τ).loc Cert.MlaDwuqRefIdeal.main_arg0) = m ((c.tc : Thread Cert.MlaDwuqRefIdeal.nD Cert.MlaDwuqRefIdeal.τ).loc Cert.MlaDwuqRefIdeal.main_arg0)
      ∧ r.2.mem ((c.tc : Thread Cert.MlaDwuqRefIdeal.nD Cert.MlaDwuqRefIdeal.τ).loc Cert.MlaDwuqRefIdeal.main_arg1) = m ((c.tc : Thread Cert.MlaDwuqRefIdeal.nD Cert.MlaDwuqRefIdeal.τ).loc Cert.MlaDwuqRefIdeal.main_arg1))
      ∧ r.2.sem = fun _ => 0)

def quiescent_MlaDwukv [hMlaDwukv : Cert.MlaDwukv.Facts] : Prop :=
  ∀ (m : (ℓ : Loc Cert.MlaDwukv.nD Cert.MlaDwukv.τ Cert.MlaDwukv.sig) → Buf (Elt Bits) ℓ) (g : Dev Cert.MlaDwukv.nD → PrngReg), Pre_MlaDwukv m →
    θ_run (Cert.MlaDwukv.defs (F := Bits)) (onTc (τ := Cert.MlaDwukv.τ) (Cert.MlaDwukv.main (F := Bits))) ⟨m, fun _ => 0, g⟩ (fun r => (∀ c : Dev Cert.MlaDwukv.nD,
      r.2.mem ((c.tc : Thread Cert.MlaDwukv.nD Cert.MlaDwukv.τ).loc Cert.MlaDwukv.main_arg0) = m ((c.tc : Thread Cert.MlaDwukv.nD Cert.MlaDwukv.τ).loc Cert.MlaDwukv.main_arg0)
      ∧ r.2.mem ((c.tc : Thread Cert.MlaDwukv.nD Cert.MlaDwukv.τ).loc Cert.MlaDwukv.main_arg1) = m ((c.tc : Thread Cert.MlaDwukv.nD Cert.MlaDwukv.τ).loc Cert.MlaDwukv.main_arg1))
      ∧ r.2.sem = fun _ => 0)

def quiescent_MlaDwukvIdeal [hMlaDwukvIdeal : Cert.MlaDwukvIdeal.Facts] : Prop :=
  ∀ (m : (ℓ : Loc Cert.MlaDwukvIdeal.nD Cert.MlaDwukvIdeal.τ Cert.MlaDwukvIdeal.sig) → Buf (Elt Ideal) ℓ) (g : Dev Cert.MlaDwukvIdeal.nD → PrngReg), Pre_MlaDwukvIdeal m →
    θ_run (Cert.MlaDwukvIdeal.defs (F := Ideal)) (onTc (τ := Cert.MlaDwukvIdeal.τ) (Cert.MlaDwukvIdeal.main (F := Ideal))) ⟨m, fun _ => 0, g⟩ (fun r => (∀ c : Dev Cert.MlaDwukvIdeal.nD,
      r.2.mem ((c.tc : Thread Cert.MlaDwukvIdeal.nD Cert.MlaDwukvIdeal.τ).loc Cert.MlaDwukvIdeal.main_arg0) = m ((c.tc : Thread Cert.MlaDwukvIdeal.nD Cert.MlaDwukvIdeal.τ).loc Cert.MlaDwukvIdeal.main_arg0)
      ∧ r.2.mem ((c.tc : Thread Cert.MlaDwukvIdeal.nD Cert.MlaDwukvIdeal.τ).loc Cert.MlaDwukvIdeal.main_arg1) = m ((c.tc : Thread Cert.MlaDwukvIdeal.nD Cert.MlaDwukvIdeal.τ).loc Cert.MlaDwukvIdeal.main_arg1))
      ∧ r.2.sem = fun _ => 0)

def quiescent_MlaDwukvRefIdeal [hMlaDwukvRefIdeal : Cert.MlaDwukvRefIdeal.Facts] : Prop :=
  ∀ (m : (ℓ : Loc Cert.MlaDwukvRefIdeal.nD Cert.MlaDwukvRefIdeal.τ Cert.MlaDwukvRefIdeal.sig) → Buf (Elt Ideal) ℓ) (g : Dev Cert.MlaDwukvRefIdeal.nD → PrngReg), Pre_MlaDwukvRefIdeal m →
    θ_run (Cert.MlaDwukvRefIdeal.defs (F := Ideal)) (onTc (τ := Cert.MlaDwukvRefIdeal.τ) (Cert.MlaDwukvRefIdeal.main (F := Ideal))) ⟨m, fun _ => 0, g⟩ (fun r => (∀ c : Dev Cert.MlaDwukvRefIdeal.nD,
      r.2.mem ((c.tc : Thread Cert.MlaDwukvRefIdeal.nD Cert.MlaDwukvRefIdeal.τ).loc Cert.MlaDwukvRefIdeal.main_arg0) = m ((c.tc : Thread Cert.MlaDwukvRefIdeal.nD Cert.MlaDwukvRefIdeal.τ).loc Cert.MlaDwukvRefIdeal.main_arg0)
      ∧ r.2.mem ((c.tc : Thread Cert.MlaDwukvRefIdeal.nD Cert.MlaDwukvRefIdeal.τ).loc Cert.MlaDwukvRefIdeal.main_arg1) = m ((c.tc : Thread Cert.MlaDwukvRefIdeal.nD Cert.MlaDwukvRefIdeal.τ).loc Cert.MlaDwukvRefIdeal.main_arg1))
      ∧ r.2.sem = fun _ => 0)

def quiescent_MlaDcq [hMlaDcq : Cert.MlaDcq.Facts] : Prop :=
  ∀ (m : (ℓ : Loc Cert.MlaDcq.nD Cert.MlaDcq.τ Cert.MlaDcq.sig) → Buf (Elt Bits) ℓ) (g : Dev Cert.MlaDcq.nD → PrngReg), Pre_MlaDcq m →
    θ_run (Cert.MlaDcq.defs (F := Bits)) (onTc (τ := Cert.MlaDcq.τ) (Cert.MlaDcq.main (F := Bits))) ⟨m, fun _ => 0, g⟩ (fun r => (∀ c : Dev Cert.MlaDcq.nD,
      r.2.mem ((c.tc : Thread Cert.MlaDcq.nD Cert.MlaDcq.τ).loc Cert.MlaDcq.main_arg0) = m ((c.tc : Thread Cert.MlaDcq.nD Cert.MlaDcq.τ).loc Cert.MlaDcq.main_arg0)
      ∧ r.2.mem ((c.tc : Thread Cert.MlaDcq.nD Cert.MlaDcq.τ).loc Cert.MlaDcq.main_arg1) = m ((c.tc : Thread Cert.MlaDcq.nD Cert.MlaDcq.τ).loc Cert.MlaDcq.main_arg1))
      ∧ r.2.sem = fun _ => 0)

def quiescent_MlaDcqIdeal [hMlaDcqIdeal : Cert.MlaDcqIdeal.Facts] : Prop :=
  ∀ (m : (ℓ : Loc Cert.MlaDcqIdeal.nD Cert.MlaDcqIdeal.τ Cert.MlaDcqIdeal.sig) → Buf (Elt Ideal) ℓ) (g : Dev Cert.MlaDcqIdeal.nD → PrngReg), Pre_MlaDcqIdeal m →
    θ_run (Cert.MlaDcqIdeal.defs (F := Ideal)) (onTc (τ := Cert.MlaDcqIdeal.τ) (Cert.MlaDcqIdeal.main (F := Ideal))) ⟨m, fun _ => 0, g⟩ (fun r => (∀ c : Dev Cert.MlaDcqIdeal.nD,
      r.2.mem ((c.tc : Thread Cert.MlaDcqIdeal.nD Cert.MlaDcqIdeal.τ).loc Cert.MlaDcqIdeal.main_arg0) = m ((c.tc : Thread Cert.MlaDcqIdeal.nD Cert.MlaDcqIdeal.τ).loc Cert.MlaDcqIdeal.main_arg0)
      ∧ r.2.mem ((c.tc : Thread Cert.MlaDcqIdeal.nD Cert.MlaDcqIdeal.τ).loc Cert.MlaDcqIdeal.main_arg1) = m ((c.tc : Thread Cert.MlaDcqIdeal.nD Cert.MlaDcqIdeal.τ).loc Cert.MlaDcqIdeal.main_arg1))
      ∧ r.2.sem = fun _ => 0)

def quiescent_MlaDcqRefIdeal [hMlaDcqRefIdeal : Cert.MlaDcqRefIdeal.Facts] : Prop :=
  ∀ (m : (ℓ : Loc Cert.MlaDcqRefIdeal.nD Cert.MlaDcqRefIdeal.τ Cert.MlaDcqRefIdeal.sig) → Buf (Elt Ideal) ℓ) (g : Dev Cert.MlaDcqRefIdeal.nD → PrngReg), Pre_MlaDcqRefIdeal m →
    θ_run (Cert.MlaDcqRefIdeal.defs (F := Ideal)) (onTc (τ := Cert.MlaDcqRefIdeal.τ) (Cert.MlaDcqRefIdeal.main (F := Ideal))) ⟨m, fun _ => 0, g⟩ (fun r => (∀ c : Dev Cert.MlaDcqRefIdeal.nD,
      r.2.mem ((c.tc : Thread Cert.MlaDcqRefIdeal.nD Cert.MlaDcqRefIdeal.τ).loc Cert.MlaDcqRefIdeal.main_arg0) = m ((c.tc : Thread Cert.MlaDcqRefIdeal.nD Cert.MlaDcqRefIdeal.τ).loc Cert.MlaDcqRefIdeal.main_arg0)
      ∧ r.2.mem ((c.tc : Thread Cert.MlaDcqRefIdeal.nD Cert.MlaDcqRefIdeal.τ).loc Cert.MlaDcqRefIdeal.main_arg1) = m ((c.tc : Thread Cert.MlaDcqRefIdeal.nD Cert.MlaDcqRefIdeal.τ).loc Cert.MlaDcqRefIdeal.main_arg1))
      ∧ r.2.sem = fun _ => 0)

def quiescent_MlaDckv [hMlaDckv : Cert.MlaDckv.Facts] : Prop :=
  ∀ (m : (ℓ : Loc Cert.MlaDckv.nD Cert.MlaDckv.τ Cert.MlaDckv.sig) → Buf (Elt Bits) ℓ) (g : Dev Cert.MlaDckv.nD → PrngReg), Pre_MlaDckv m →
    θ_run (Cert.MlaDckv.defs (F := Bits)) (onTc (τ := Cert.MlaDckv.τ) (Cert.MlaDckv.main (F := Bits))) ⟨m, fun _ => 0, g⟩ (fun r => (∀ c : Dev Cert.MlaDckv.nD,
      r.2.mem ((c.tc : Thread Cert.MlaDckv.nD Cert.MlaDckv.τ).loc Cert.MlaDckv.main_arg0) = m ((c.tc : Thread Cert.MlaDckv.nD Cert.MlaDckv.τ).loc Cert.MlaDckv.main_arg0)
      ∧ r.2.mem ((c.tc : Thread Cert.MlaDckv.nD Cert.MlaDckv.τ).loc Cert.MlaDckv.main_arg1) = m ((c.tc : Thread Cert.MlaDckv.nD Cert.MlaDckv.τ).loc Cert.MlaDckv.main_arg1))
      ∧ r.2.sem = fun _ => 0)

def quiescent_MlaDckvIdeal [hMlaDckvIdeal : Cert.MlaDckvIdeal.Facts] : Prop :=
  ∀ (m : (ℓ : Loc Cert.MlaDckvIdeal.nD Cert.MlaDckvIdeal.τ Cert.MlaDckvIdeal.sig) → Buf (Elt Ideal) ℓ) (g : Dev Cert.MlaDckvIdeal.nD → PrngReg), Pre_MlaDckvIdeal m →
    θ_run (Cert.MlaDckvIdeal.defs (F := Ideal)) (onTc (τ := Cert.MlaDckvIdeal.τ) (Cert.MlaDckvIdeal.main (F := Ideal))) ⟨m, fun _ => 0, g⟩ (fun r => (∀ c : Dev Cert.MlaDckvIdeal.nD,
      r.2.mem ((c.tc : Thread Cert.MlaDckvIdeal.nD Cert.MlaDckvIdeal.τ).loc Cert.MlaDckvIdeal.main_arg0) = m ((c.tc : Thread Cert.MlaDckvIdeal.nD Cert.MlaDckvIdeal.τ).loc Cert.MlaDckvIdeal.main_arg0)
      ∧ r.2.mem ((c.tc : Thread Cert.MlaDckvIdeal.nD Cert.MlaDckvIdeal.τ).loc Cert.MlaDckvIdeal.main_arg1) = m ((c.tc : Thread Cert.MlaDckvIdeal.nD Cert.MlaDckvIdeal.τ).loc Cert.MlaDckvIdeal.main_arg1))
      ∧ r.2.sem = fun _ => 0)

def quiescent_MlaDckvRefIdeal [hMlaDckvRefIdeal : Cert.MlaDckvRefIdeal.Facts] : Prop :=
  ∀ (m : (ℓ : Loc Cert.MlaDckvRefIdeal.nD Cert.MlaDckvRefIdeal.τ Cert.MlaDckvRefIdeal.sig) → Buf (Elt Ideal) ℓ) (g : Dev Cert.MlaDckvRefIdeal.nD → PrngReg), Pre_MlaDckvRefIdeal m →
    θ_run (Cert.MlaDckvRefIdeal.defs (F := Ideal)) (onTc (τ := Cert.MlaDckvRefIdeal.τ) (Cert.MlaDckvRefIdeal.main (F := Ideal))) ⟨m, fun _ => 0, g⟩ (fun r => (∀ c : Dev Cert.MlaDckvRefIdeal.nD,
      r.2.mem ((c.tc : Thread Cert.MlaDckvRefIdeal.nD Cert.MlaDckvRefIdeal.τ).loc Cert.MlaDckvRefIdeal.main_arg0) = m ((c.tc : Thread Cert.MlaDckvRefIdeal.nD Cert.MlaDckvRefIdeal.τ).loc Cert.MlaDckvRefIdeal.main_arg0)
      ∧ r.2.mem ((c.tc : Thread Cert.MlaDckvRefIdeal.nD Cert.MlaDckvRefIdeal.τ).loc Cert.MlaDckvRefIdeal.main_arg1) = m ((c.tc : Thread Cert.MlaDckvRefIdeal.nD Cert.MlaDckvRefIdeal.τ).loc Cert.MlaDckvRefIdeal.main_arg1))
      ∧ r.2.sem = fun _ => 0)

def quiescent_StickFwd [hStickFwd : Cert.StickFwd.Facts] : Prop :=
  ∀ (m : (ℓ : Loc Cert.StickFwd.nD Cert.StickFwd.τ Cert.StickFwd.sig) → Buf (Elt Bits) ℓ) (g : Dev Cert.StickFwd.nD → PrngReg), Pre_StickFwd m →
    θ_run (Cert.StickFwd.defs (F := Bits)) (onTc (τ := Cert.StickFwd.τ) (Cert.StickFwd.main (F := Bits))) ⟨m, fun _ => 0, g⟩ (fun r => (∀ c : Dev Cert.StickFwd.nD,
      r.2.mem ((c.tc : Thread Cert.StickFwd.nD Cert.StickFwd.τ).loc Cert.StickFwd.main_arg0) = m ((c.tc : Thread Cert.StickFwd.nD Cert.StickFwd.τ).loc Cert.StickFwd.main_arg0)
      ∧ r.2.mem ((c.tc : Thread Cert.StickFwd.nD Cert.StickFwd.τ).loc Cert.StickFwd.main_arg1) = m ((c.tc : Thread Cert.StickFwd.nD Cert.StickFwd.τ).loc Cert.StickFwd.main_arg1)
      ∧ r.2.mem ((c.tc : Thread Cert.StickFwd.nD Cert.StickFwd.τ).loc Cert.StickFwd.main_arg2) = m ((c.tc : Thread Cert.StickFwd.nD Cert.StickFwd.τ).loc Cert.StickFwd.main_arg2))
      ∧ r.2.sem = fun _ => 0)

def quiescent_StickFwdIdeal [hStickFwdIdeal : Cert.StickFwdIdeal.Facts] : Prop :=
  ∀ (m : (ℓ : Loc Cert.StickFwdIdeal.nD Cert.StickFwdIdeal.τ Cert.StickFwdIdeal.sig) → Buf (Elt Ideal) ℓ) (g : Dev Cert.StickFwdIdeal.nD → PrngReg), Pre_StickFwdIdeal m →
    θ_run (Cert.StickFwdIdeal.defs (F := Ideal)) (onTc (τ := Cert.StickFwdIdeal.τ) (Cert.StickFwdIdeal.main (F := Ideal))) ⟨m, fun _ => 0, g⟩ (fun r => (∀ c : Dev Cert.StickFwdIdeal.nD,
      r.2.mem ((c.tc : Thread Cert.StickFwdIdeal.nD Cert.StickFwdIdeal.τ).loc Cert.StickFwdIdeal.main_arg0) = m ((c.tc : Thread Cert.StickFwdIdeal.nD Cert.StickFwdIdeal.τ).loc Cert.StickFwdIdeal.main_arg0)
      ∧ r.2.mem ((c.tc : Thread Cert.StickFwdIdeal.nD Cert.StickFwdIdeal.τ).loc Cert.StickFwdIdeal.main_arg1) = m ((c.tc : Thread Cert.StickFwdIdeal.nD Cert.StickFwdIdeal.τ).loc Cert.StickFwdIdeal.main_arg1)
      ∧ r.2.mem ((c.tc : Thread Cert.StickFwdIdeal.nD Cert.StickFwdIdeal.τ).loc Cert.StickFwdIdeal.main_arg2) = m ((c.tc : Thread Cert.StickFwdIdeal.nD Cert.StickFwdIdeal.τ).loc Cert.StickFwdIdeal.main_arg2))
      ∧ r.2.sem = fun _ => 0)

def quiescent_StickFwdIdeal_pre_finite_logits [hStickFwdIdeal : Cert.StickFwdIdeal.Facts] [hPre_finite_logits : Cert.Pre_finite_logits.Facts] : Prop :=
  ∀ (m : (ℓ : Loc Cert.StickFwdIdeal.nD Cert.StickFwdIdeal.τ Cert.StickFwdIdeal.sig) → Buf (Elt Ideal) ℓ) (g : Dev Cert.StickFwdIdeal.nD → PrngReg), Pre_StickFwdIdeal_finite_logits m →
    θ_run (Cert.StickFwdIdeal.defs (F := Ideal)) (onTc (τ := Cert.StickFwdIdeal.τ) (Cert.StickFwdIdeal.main (F := Ideal))) ⟨m, fun _ => 0, g⟩ (fun r => (∀ c : Dev Cert.StickFwdIdeal.nD,
      r.2.mem ((c.tc : Thread Cert.StickFwdIdeal.nD Cert.StickFwdIdeal.τ).loc Cert.StickFwdIdeal.main_arg0) = m ((c.tc : Thread Cert.StickFwdIdeal.nD Cert.StickFwdIdeal.τ).loc Cert.StickFwdIdeal.main_arg0)
      ∧ r.2.mem ((c.tc : Thread Cert.StickFwdIdeal.nD Cert.StickFwdIdeal.τ).loc Cert.StickFwdIdeal.main_arg1) = m ((c.tc : Thread Cert.StickFwdIdeal.nD Cert.StickFwdIdeal.τ).loc Cert.StickFwdIdeal.main_arg1)
      ∧ r.2.mem ((c.tc : Thread Cert.StickFwdIdeal.nD Cert.StickFwdIdeal.τ).loc Cert.StickFwdIdeal.main_arg2) = m ((c.tc : Thread Cert.StickFwdIdeal.nD Cert.StickFwdIdeal.τ).loc Cert.StickFwdIdeal.main_arg2))
      ∧ r.2.sem = fun _ => 0)

def quiescent_StickFwdRefIdeal [hStickFwdRefIdeal : Cert.StickFwdRefIdeal.Facts] : Prop :=
  ∀ (m : (ℓ : Loc Cert.StickFwdRefIdeal.nD Cert.StickFwdRefIdeal.τ Cert.StickFwdRefIdeal.sig) → Buf (Elt Ideal) ℓ) (g : Dev Cert.StickFwdRefIdeal.nD → PrngReg), Pre_StickFwdRefIdeal m →
    θ_run (Cert.StickFwdRefIdeal.defs (F := Ideal)) (onTc (τ := Cert.StickFwdRefIdeal.τ) (Cert.StickFwdRefIdeal.main (F := Ideal))) ⟨m, fun _ => 0, g⟩ (fun r => (∀ c : Dev Cert.StickFwdRefIdeal.nD,
      r.2.mem ((c.tc : Thread Cert.StickFwdRefIdeal.nD Cert.StickFwdRefIdeal.τ).loc Cert.StickFwdRefIdeal.main_arg0) = m ((c.tc : Thread Cert.StickFwdRefIdeal.nD Cert.StickFwdRefIdeal.τ).loc Cert.StickFwdRefIdeal.main_arg0)
      ∧ r.2.mem ((c.tc : Thread Cert.StickFwdRefIdeal.nD Cert.StickFwdRefIdeal.τ).loc Cert.StickFwdRefIdeal.main_arg1) = m ((c.tc : Thread Cert.StickFwdRefIdeal.nD Cert.StickFwdRefIdeal.τ).loc Cert.StickFwdRefIdeal.main_arg1)
      ∧ r.2.mem ((c.tc : Thread Cert.StickFwdRefIdeal.nD Cert.StickFwdRefIdeal.τ).loc Cert.StickFwdRefIdeal.main_arg2) = m ((c.tc : Thread Cert.StickFwdRefIdeal.nD Cert.StickFwdRefIdeal.τ).loc Cert.StickFwdRefIdeal.main_arg2))
      ∧ r.2.sem = fun _ => 0)

def quiescent_StickFwdRefIdeal_pre_finite_logits [hStickFwdRefIdeal : Cert.StickFwdRefIdeal.Facts] [hPre_finite_logits : Cert.Pre_finite_logits.Facts] : Prop :=
  ∀ (m : (ℓ : Loc Cert.StickFwdRefIdeal.nD Cert.StickFwdRefIdeal.τ Cert.StickFwdRefIdeal.sig) → Buf (Elt Ideal) ℓ) (g : Dev Cert.StickFwdRefIdeal.nD → PrngReg), Pre_StickFwdRefIdeal_finite_logits m →
    θ_run (Cert.StickFwdRefIdeal.defs (F := Ideal)) (onTc (τ := Cert.StickFwdRefIdeal.τ) (Cert.StickFwdRefIdeal.main (F := Ideal))) ⟨m, fun _ => 0, g⟩ (fun r => (∀ c : Dev Cert.StickFwdRefIdeal.nD,
      r.2.mem ((c.tc : Thread Cert.StickFwdRefIdeal.nD Cert.StickFwdRefIdeal.τ).loc Cert.StickFwdRefIdeal.main_arg0) = m ((c.tc : Thread Cert.StickFwdRefIdeal.nD Cert.StickFwdRefIdeal.τ).loc Cert.StickFwdRefIdeal.main_arg0)
      ∧ r.2.mem ((c.tc : Thread Cert.StickFwdRefIdeal.nD Cert.StickFwdRefIdeal.τ).loc Cert.StickFwdRefIdeal.main_arg1) = m ((c.tc : Thread Cert.StickFwdRefIdeal.nD Cert.StickFwdRefIdeal.τ).loc Cert.StickFwdRefIdeal.main_arg1)
      ∧ r.2.mem ((c.tc : Thread Cert.StickFwdRefIdeal.nD Cert.StickFwdRefIdeal.τ).loc Cert.StickFwdRefIdeal.main_arg2) = m ((c.tc : Thread Cert.StickFwdRefIdeal.nD Cert.StickFwdRefIdeal.τ).loc Cert.StickFwdRefIdeal.main_arg2))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2))
      ∧ r.2.sem = fun _ => 0)

def quiescent_NormBwdIdeal_pre_finite_rows [hNormBwdIdeal : Cert.NormBwdIdeal.Facts] [hPre_finite_rows : Cert.Pre_finite_rows.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal_finite_rows m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2))
      ∧ r.2.sem = fun _ => 0)

def quiescent_NormBwdRefIdeal_pre_finite_rows [hNormBwdRefIdeal : Cert.NormBwdRefIdeal.Facts] [hPre_finite_rows : Cert.Pre_finite_rows.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal_finite_rows m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1)
      ∧ r.2.mem ((c.tc : Thread Cert.NormFwd.nD Cert.NormFwd.τ).loc Cert.NormFwd.main_arg2) = m ((c.tc : Thread Cert.NormFwd.nD Cert.NormFwd.τ).loc Cert.NormFwd.main_arg2)
      ∧ r.2.mem ((c.tc : Thread Cert.NormFwd.nD Cert.NormFwd.τ).loc Cert.NormFwd.main_arg3) = m ((c.tc : Thread Cert.NormFwd.nD Cert.NormFwd.τ).loc Cert.NormFwd.main_arg3))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1)
      ∧ r.2.mem ((c.tc : Thread Cert.NormFwdIdeal.nD Cert.NormFwdIdeal.τ).loc Cert.NormFwdIdeal.main_arg2) = m ((c.tc : Thread Cert.NormFwdIdeal.nD Cert.NormFwdIdeal.τ).loc Cert.NormFwdIdeal.main_arg2)
      ∧ r.2.mem ((c.tc : Thread Cert.NormFwdIdeal.nD Cert.NormFwdIdeal.τ).loc Cert.NormFwdIdeal.main_arg3) = m ((c.tc : Thread Cert.NormFwdIdeal.nD Cert.NormFwdIdeal.τ).loc Cert.NormFwdIdeal.main_arg3))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1)
      ∧ r.2.mem ((c.tc : Thread Cert.NormFwdRefIdeal.nD Cert.NormFwdRefIdeal.τ).loc Cert.NormFwdRefIdeal.main_arg2) = m ((c.tc : Thread Cert.NormFwdRefIdeal.nD Cert.NormFwdRefIdeal.τ).loc Cert.NormFwdRefIdeal.main_arg2)
      ∧ r.2.mem ((c.tc : Thread Cert.NormFwdRefIdeal.nD Cert.NormFwdRefIdeal.τ).loc Cert.NormFwdRefIdeal.main_arg3) = m ((c.tc : Thread Cert.NormFwdRefIdeal.nD Cert.NormFwdRefIdeal.τ).loc Cert.NormFwdRefIdeal.main_arg3))
      ∧ r.2.sem = fun _ => 0)

def quiescent_QRms [hQRms : Cert.QRms.Facts] : Prop :=
  ∀ (m : (ℓ : Loc Cert.QRms.nD Cert.QRms.τ Cert.QRms.sig) → Buf (Elt Bits) ℓ) (g : Dev Cert.QRms.nD → PrngReg), Pre_QRms m →
    θ_run (Cert.QRms.defs (F := Bits)) (onTc (τ := Cert.QRms.τ) (Cert.QRms.main (F := Bits))) ⟨m, fun _ => 0, g⟩ (fun r => (∀ c : Dev Cert.QRms.nD,
      r.2.mem ((c.tc : Thread Cert.QRms.nD Cert.QRms.τ).loc Cert.QRms.main_arg0) = m ((c.tc : Thread Cert.QRms.nD Cert.QRms.τ).loc Cert.QRms.main_arg0)
      ∧ r.2.mem ((c.tc : Thread Cert.QRms.nD Cert.QRms.τ).loc Cert.QRms.main_arg1) = m ((c.tc : Thread Cert.QRms.nD Cert.QRms.τ).loc Cert.QRms.main_arg1))
      ∧ r.2.sem = fun _ => 0)

def quiescent_QRmsIdeal [hQRmsIdeal : Cert.QRmsIdeal.Facts] : Prop :=
  ∀ (m : (ℓ : Loc Cert.QRmsIdeal.nD Cert.QRmsIdeal.τ Cert.QRmsIdeal.sig) → Buf (Elt Ideal) ℓ) (g : Dev Cert.QRmsIdeal.nD → PrngReg), Pre_QRmsIdeal m →
    θ_run (Cert.QRmsIdeal.defs (F := Ideal)) (onTc (τ := Cert.QRmsIdeal.τ) (Cert.QRmsIdeal.main (F := Ideal))) ⟨m, fun _ => 0, g⟩ (fun r => (∀ c : Dev Cert.QRmsIdeal.nD,
      r.2.mem ((c.tc : Thread Cert.QRmsIdeal.nD Cert.QRmsIdeal.τ).loc Cert.QRmsIdeal.main_arg0) = m ((c.tc : Thread Cert.QRmsIdeal.nD Cert.QRmsIdeal.τ).loc Cert.QRmsIdeal.main_arg0)
      ∧ r.2.mem ((c.tc : Thread Cert.QRmsIdeal.nD Cert.QRmsIdeal.τ).loc Cert.QRmsIdeal.main_arg1) = m ((c.tc : Thread Cert.QRmsIdeal.nD Cert.QRmsIdeal.τ).loc Cert.QRmsIdeal.main_arg1))
      ∧ r.2.sem = fun _ => 0)

def quiescent_QRmsRefIdeal [hQRmsRefIdeal : Cert.QRmsRefIdeal.Facts] : Prop :=
  ∀ (m : (ℓ : Loc Cert.QRmsRefIdeal.nD Cert.QRmsRefIdeal.τ Cert.QRmsRefIdeal.sig) → Buf (Elt Ideal) ℓ) (g : Dev Cert.QRmsRefIdeal.nD → PrngReg), Pre_QRmsRefIdeal m →
    θ_run (Cert.QRmsRefIdeal.defs (F := Ideal)) (onTc (τ := Cert.QRmsRefIdeal.τ) (Cert.QRmsRefIdeal.main (F := Ideal))) ⟨m, fun _ => 0, g⟩ (fun r => (∀ c : Dev Cert.QRmsRefIdeal.nD,
      r.2.mem ((c.tc : Thread Cert.QRmsRefIdeal.nD Cert.QRmsRefIdeal.τ).loc Cert.QRmsRefIdeal.main_arg0) = m ((c.tc : Thread Cert.QRmsRefIdeal.nD Cert.QRmsRefIdeal.τ).loc Cert.QRmsRefIdeal.main_arg0)
      ∧ r.2.mem ((c.tc : Thread Cert.QRmsRefIdeal.nD Cert.QRmsRefIdeal.τ).loc Cert.QRmsRefIdeal.main_arg1) = m ((c.tc : Thread Cert.QRmsRefIdeal.nD Cert.QRmsRefIdeal.τ).loc Cert.QRmsRefIdeal.main_arg1))
      ∧ r.2.sem = fun _ => 0)

def quiescent_KvRms [hKvRms : Cert.KvRms.Facts] : Prop :=
  ∀ (m : (ℓ : Loc Cert.KvRms.nD Cert.KvRms.τ Cert.KvRms.sig) → Buf (Elt Bits) ℓ) (g : Dev Cert.KvRms.nD → PrngReg), Pre_KvRms m →
    θ_run (Cert.KvRms.defs (F := Bits)) (onTc (τ := Cert.KvRms.τ) (Cert.KvRms.main (F := Bits))) ⟨m, fun _ => 0, g⟩ (fun r => (∀ c : Dev Cert.KvRms.nD,
      r.2.mem ((c.tc : Thread Cert.KvRms.nD Cert.KvRms.τ).loc Cert.KvRms.main_arg0) = m ((c.tc : Thread Cert.KvRms.nD Cert.KvRms.τ).loc Cert.KvRms.main_arg0)
      ∧ r.2.mem ((c.tc : Thread Cert.KvRms.nD Cert.KvRms.τ).loc Cert.KvRms.main_arg1) = m ((c.tc : Thread Cert.KvRms.nD Cert.KvRms.τ).loc Cert.KvRms.main_arg1))
      ∧ r.2.sem = fun _ => 0)

def quiescent_KvRmsIdeal [hKvRmsIdeal : Cert.KvRmsIdeal.Facts] : Prop :=
  ∀ (m : (ℓ : Loc Cert.KvRmsIdeal.nD Cert.KvRmsIdeal.τ Cert.KvRmsIdeal.sig) → Buf (Elt Ideal) ℓ) (g : Dev Cert.KvRmsIdeal.nD → PrngReg), Pre_KvRmsIdeal m →
    θ_run (Cert.KvRmsIdeal.defs (F := Ideal)) (onTc (τ := Cert.KvRmsIdeal.τ) (Cert.KvRmsIdeal.main (F := Ideal))) ⟨m, fun _ => 0, g⟩ (fun r => (∀ c : Dev Cert.KvRmsIdeal.nD,
      r.2.mem ((c.tc : Thread Cert.KvRmsIdeal.nD Cert.KvRmsIdeal.τ).loc Cert.KvRmsIdeal.main_arg0) = m ((c.tc : Thread Cert.KvRmsIdeal.nD Cert.KvRmsIdeal.τ).loc Cert.KvRmsIdeal.main_arg0)
      ∧ r.2.mem ((c.tc : Thread Cert.KvRmsIdeal.nD Cert.KvRmsIdeal.τ).loc Cert.KvRmsIdeal.main_arg1) = m ((c.tc : Thread Cert.KvRmsIdeal.nD Cert.KvRmsIdeal.τ).loc Cert.KvRmsIdeal.main_arg1))
      ∧ r.2.sem = fun _ => 0)

def quiescent_KvRmsRefIdeal [hKvRmsRefIdeal : Cert.KvRmsRefIdeal.Facts] : Prop :=
  ∀ (m : (ℓ : Loc Cert.KvRmsRefIdeal.nD Cert.KvRmsRefIdeal.τ Cert.KvRmsRefIdeal.sig) → Buf (Elt Ideal) ℓ) (g : Dev Cert.KvRmsRefIdeal.nD → PrngReg), Pre_KvRmsRefIdeal m →
    θ_run (Cert.KvRmsRefIdeal.defs (F := Ideal)) (onTc (τ := Cert.KvRmsRefIdeal.τ) (Cert.KvRmsRefIdeal.main (F := Ideal))) ⟨m, fun _ => 0, g⟩ (fun r => (∀ c : Dev Cert.KvRmsRefIdeal.nD,
      r.2.mem ((c.tc : Thread Cert.KvRmsRefIdeal.nD Cert.KvRmsRefIdeal.τ).loc Cert.KvRmsRefIdeal.main_arg0) = m ((c.tc : Thread Cert.KvRmsRefIdeal.nD Cert.KvRmsRefIdeal.τ).loc Cert.KvRmsRefIdeal.main_arg0)
      ∧ r.2.mem ((c.tc : Thread Cert.KvRmsRefIdeal.nD Cert.KvRmsRefIdeal.τ).loc Cert.KvRmsRefIdeal.main_arg1) = m ((c.tc : Thread Cert.KvRmsRefIdeal.nD Cert.KvRmsRefIdeal.τ).loc Cert.KvRmsRefIdeal.main_arg1))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1))
      ∧ r.2.sem = fun _ => 0)

def quiescent_AdamwNorm [hAdamwNorm : Cert.AdamwNorm.Facts] : Prop :=
  ∀ (m : (ℓ : Loc Cert.AdamwNorm.nD Cert.AdamwNorm.τ Cert.AdamwNorm.sig) → Buf (Elt Bits) ℓ) (g : Dev Cert.AdamwNorm.nD → PrngReg), Pre_AdamwNorm m →
    θ_run (Cert.AdamwNorm.defs (F := Bits)) (onTc (τ := Cert.AdamwNorm.τ) (Cert.AdamwNorm.main (F := Bits))) ⟨m, fun _ => 0, g⟩ (fun r => (∀ c : Dev Cert.AdamwNorm.nD,
      r.2.mem ((c.tc : Thread Cert.AdamwNorm.nD Cert.AdamwNorm.τ).loc Cert.AdamwNorm.main_arg0) = m ((c.tc : Thread Cert.AdamwNorm.nD Cert.AdamwNorm.τ).loc Cert.AdamwNorm.main_arg0)
      ∧ r.2.mem ((c.tc : Thread Cert.AdamwNorm.nD Cert.AdamwNorm.τ).loc Cert.AdamwNorm.main_arg1) = m ((c.tc : Thread Cert.AdamwNorm.nD Cert.AdamwNorm.τ).loc Cert.AdamwNorm.main_arg1)
      ∧ r.2.mem ((c.tc : Thread Cert.AdamwNorm.nD Cert.AdamwNorm.τ).loc Cert.AdamwNorm.main_arg2) = m ((c.tc : Thread Cert.AdamwNorm.nD Cert.AdamwNorm.τ).loc Cert.AdamwNorm.main_arg2)
      ∧ r.2.mem ((c.tc : Thread Cert.AdamwNorm.nD Cert.AdamwNorm.τ).loc Cert.AdamwNorm.main_arg3) = m ((c.tc : Thread Cert.AdamwNorm.nD Cert.AdamwNorm.τ).loc Cert.AdamwNorm.main_arg3))
      ∧ r.2.sem = fun _ => 0)

def quiescent_AdamwNormIdeal [hAdamwNormIdeal : Cert.AdamwNormIdeal.Facts] : Prop :=
  ∀ (m : (ℓ : Loc Cert.AdamwNormIdeal.nD Cert.AdamwNormIdeal.τ Cert.AdamwNormIdeal.sig) → Buf (Elt Ideal) ℓ) (g : Dev Cert.AdamwNormIdeal.nD → PrngReg), Pre_AdamwNormIdeal m →
    θ_run (Cert.AdamwNormIdeal.defs (F := Ideal)) (onTc (τ := Cert.AdamwNormIdeal.τ) (Cert.AdamwNormIdeal.main (F := Ideal))) ⟨m, fun _ => 0, g⟩ (fun r => (∀ c : Dev Cert.AdamwNormIdeal.nD,
      r.2.mem ((c.tc : Thread Cert.AdamwNormIdeal.nD Cert.AdamwNormIdeal.τ).loc Cert.AdamwNormIdeal.main_arg0) = m ((c.tc : Thread Cert.AdamwNormIdeal.nD Cert.AdamwNormIdeal.τ).loc Cert.AdamwNormIdeal.main_arg0)
      ∧ r.2.mem ((c.tc : Thread Cert.AdamwNormIdeal.nD Cert.AdamwNormIdeal.τ).loc Cert.AdamwNormIdeal.main_arg1) = m ((c.tc : Thread Cert.AdamwNormIdeal.nD Cert.AdamwNormIdeal.τ).loc Cert.AdamwNormIdeal.main_arg1)
      ∧ r.2.mem ((c.tc : Thread Cert.AdamwNormIdeal.nD Cert.AdamwNormIdeal.τ).loc Cert.AdamwNormIdeal.main_arg2) = m ((c.tc : Thread Cert.AdamwNormIdeal.nD Cert.AdamwNormIdeal.τ).loc Cert.AdamwNormIdeal.main_arg2)
      ∧ r.2.mem ((c.tc : Thread Cert.AdamwNormIdeal.nD Cert.AdamwNormIdeal.τ).loc Cert.AdamwNormIdeal.main_arg3) = m ((c.tc : Thread Cert.AdamwNormIdeal.nD Cert.AdamwNormIdeal.τ).loc Cert.AdamwNormIdeal.main_arg3))
      ∧ r.2.sem = fun _ => 0)

def quiescent_AdamwNormRefIdeal [hAdamwNormRefIdeal : Cert.AdamwNormRefIdeal.Facts] : Prop :=
  ∀ (m : (ℓ : Loc Cert.AdamwNormRefIdeal.nD Cert.AdamwNormRefIdeal.τ Cert.AdamwNormRefIdeal.sig) → Buf (Elt Ideal) ℓ) (g : Dev Cert.AdamwNormRefIdeal.nD → PrngReg), Pre_AdamwNormRefIdeal m →
    θ_run (Cert.AdamwNormRefIdeal.defs (F := Ideal)) (onTc (τ := Cert.AdamwNormRefIdeal.τ) (Cert.AdamwNormRefIdeal.main (F := Ideal))) ⟨m, fun _ => 0, g⟩ (fun r => (∀ c : Dev Cert.AdamwNormRefIdeal.nD,
      r.2.mem ((c.tc : Thread Cert.AdamwNormRefIdeal.nD Cert.AdamwNormRefIdeal.τ).loc Cert.AdamwNormRefIdeal.main_arg0) = m ((c.tc : Thread Cert.AdamwNormRefIdeal.nD Cert.AdamwNormRefIdeal.τ).loc Cert.AdamwNormRefIdeal.main_arg0)
      ∧ r.2.mem ((c.tc : Thread Cert.AdamwNormRefIdeal.nD Cert.AdamwNormRefIdeal.τ).loc Cert.AdamwNormRefIdeal.main_arg1) = m ((c.tc : Thread Cert.AdamwNormRefIdeal.nD Cert.AdamwNormRefIdeal.τ).loc Cert.AdamwNormRefIdeal.main_arg1)
      ∧ r.2.mem ((c.tc : Thread Cert.AdamwNormRefIdeal.nD Cert.AdamwNormRefIdeal.τ).loc Cert.AdamwNormRefIdeal.main_arg2) = m ((c.tc : Thread Cert.AdamwNormRefIdeal.nD Cert.AdamwNormRefIdeal.τ).loc Cert.AdamwNormRefIdeal.main_arg2)
      ∧ r.2.mem ((c.tc : Thread Cert.AdamwNormRefIdeal.nD Cert.AdamwNormRefIdeal.τ).loc Cert.AdamwNormRefIdeal.main_arg3) = m ((c.tc : Thread Cert.AdamwNormRefIdeal.nD Cert.AdamwNormRefIdeal.τ).loc Cert.AdamwNormRefIdeal.main_arg3))
      ∧ r.2.sem = fun _ => 0)

def quiescent_AdamwUq [hAdamwUq : Cert.AdamwUq.Facts] : Prop :=
  ∀ (m : (ℓ : Loc Cert.AdamwUq.nD Cert.AdamwUq.τ Cert.AdamwUq.sig) → Buf (Elt Bits) ℓ) (g : Dev Cert.AdamwUq.nD → PrngReg), Pre_AdamwUq m →
    θ_run (Cert.AdamwUq.defs (F := Bits)) (onTc (τ := Cert.AdamwUq.τ) (Cert.AdamwUq.main (F := Bits))) ⟨m, fun _ => 0, g⟩ (fun r => (∀ c : Dev Cert.AdamwUq.nD,
      r.2.mem ((c.tc : Thread Cert.AdamwUq.nD Cert.AdamwUq.τ).loc Cert.AdamwUq.main_arg0) = m ((c.tc : Thread Cert.AdamwUq.nD Cert.AdamwUq.τ).loc Cert.AdamwUq.main_arg0)
      ∧ r.2.mem ((c.tc : Thread Cert.AdamwUq.nD Cert.AdamwUq.τ).loc Cert.AdamwUq.main_arg1) = m ((c.tc : Thread Cert.AdamwUq.nD Cert.AdamwUq.τ).loc Cert.AdamwUq.main_arg1)
      ∧ r.2.mem ((c.tc : Thread Cert.AdamwUq.nD Cert.AdamwUq.τ).loc Cert.AdamwUq.main_arg2) = m ((c.tc : Thread Cert.AdamwUq.nD Cert.AdamwUq.τ).loc Cert.AdamwUq.main_arg2)
      ∧ r.2.mem ((c.tc : Thread Cert.AdamwUq.nD Cert.AdamwUq.τ).loc Cert.AdamwUq.main_arg3) = m ((c.tc : Thread Cert.AdamwUq.nD Cert.AdamwUq.τ).loc Cert.AdamwUq.main_arg3))
      ∧ r.2.sem = fun _ => 0)

def quiescent_AdamwUqIdeal [hAdamwUqIdeal : Cert.AdamwUqIdeal.Facts] : Prop :=
  ∀ (m : (ℓ : Loc Cert.AdamwUqIdeal.nD Cert.AdamwUqIdeal.τ Cert.AdamwUqIdeal.sig) → Buf (Elt Ideal) ℓ) (g : Dev Cert.AdamwUqIdeal.nD → PrngReg), Pre_AdamwUqIdeal m →
    θ_run (Cert.AdamwUqIdeal.defs (F := Ideal)) (onTc (τ := Cert.AdamwUqIdeal.τ) (Cert.AdamwUqIdeal.main (F := Ideal))) ⟨m, fun _ => 0, g⟩ (fun r => (∀ c : Dev Cert.AdamwUqIdeal.nD,
      r.2.mem ((c.tc : Thread Cert.AdamwUqIdeal.nD Cert.AdamwUqIdeal.τ).loc Cert.AdamwUqIdeal.main_arg0) = m ((c.tc : Thread Cert.AdamwUqIdeal.nD Cert.AdamwUqIdeal.τ).loc Cert.AdamwUqIdeal.main_arg0)
      ∧ r.2.mem ((c.tc : Thread Cert.AdamwUqIdeal.nD Cert.AdamwUqIdeal.τ).loc Cert.AdamwUqIdeal.main_arg1) = m ((c.tc : Thread Cert.AdamwUqIdeal.nD Cert.AdamwUqIdeal.τ).loc Cert.AdamwUqIdeal.main_arg1)
      ∧ r.2.mem ((c.tc : Thread Cert.AdamwUqIdeal.nD Cert.AdamwUqIdeal.τ).loc Cert.AdamwUqIdeal.main_arg2) = m ((c.tc : Thread Cert.AdamwUqIdeal.nD Cert.AdamwUqIdeal.τ).loc Cert.AdamwUqIdeal.main_arg2)
      ∧ r.2.mem ((c.tc : Thread Cert.AdamwUqIdeal.nD Cert.AdamwUqIdeal.τ).loc Cert.AdamwUqIdeal.main_arg3) = m ((c.tc : Thread Cert.AdamwUqIdeal.nD Cert.AdamwUqIdeal.τ).loc Cert.AdamwUqIdeal.main_arg3))
      ∧ r.2.sem = fun _ => 0)

def quiescent_AdamwUqRefIdeal [hAdamwUqRefIdeal : Cert.AdamwUqRefIdeal.Facts] : Prop :=
  ∀ (m : (ℓ : Loc Cert.AdamwUqRefIdeal.nD Cert.AdamwUqRefIdeal.τ Cert.AdamwUqRefIdeal.sig) → Buf (Elt Ideal) ℓ) (g : Dev Cert.AdamwUqRefIdeal.nD → PrngReg), Pre_AdamwUqRefIdeal m →
    θ_run (Cert.AdamwUqRefIdeal.defs (F := Ideal)) (onTc (τ := Cert.AdamwUqRefIdeal.τ) (Cert.AdamwUqRefIdeal.main (F := Ideal))) ⟨m, fun _ => 0, g⟩ (fun r => (∀ c : Dev Cert.AdamwUqRefIdeal.nD,
      r.2.mem ((c.tc : Thread Cert.AdamwUqRefIdeal.nD Cert.AdamwUqRefIdeal.τ).loc Cert.AdamwUqRefIdeal.main_arg0) = m ((c.tc : Thread Cert.AdamwUqRefIdeal.nD Cert.AdamwUqRefIdeal.τ).loc Cert.AdamwUqRefIdeal.main_arg0)
      ∧ r.2.mem ((c.tc : Thread Cert.AdamwUqRefIdeal.nD Cert.AdamwUqRefIdeal.τ).loc Cert.AdamwUqRefIdeal.main_arg1) = m ((c.tc : Thread Cert.AdamwUqRefIdeal.nD Cert.AdamwUqRefIdeal.τ).loc Cert.AdamwUqRefIdeal.main_arg1)
      ∧ r.2.mem ((c.tc : Thread Cert.AdamwUqRefIdeal.nD Cert.AdamwUqRefIdeal.τ).loc Cert.AdamwUqRefIdeal.main_arg2) = m ((c.tc : Thread Cert.AdamwUqRefIdeal.nD Cert.AdamwUqRefIdeal.τ).loc Cert.AdamwUqRefIdeal.main_arg2)
      ∧ r.2.mem ((c.tc : Thread Cert.AdamwUqRefIdeal.nD Cert.AdamwUqRefIdeal.τ).loc Cert.AdamwUqRefIdeal.main_arg3) = m ((c.tc : Thread Cert.AdamwUqRefIdeal.nD Cert.AdamwUqRefIdeal.τ).loc Cert.AdamwUqRefIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v21_0)) (v1 : (c : Dev Cert.KernelIdeal.nD) → Buf (Elt Ideal) ((c.tc : Thread Cert.KernelIdeal.nD Cert.KernelIdeal.τ).loc Cert.KernelIdeal.main_v21_1)) (v2 : (c : Dev Cert.KernelIdeal.nD) → Buf (Elt Ideal) ((c.tc : Thread Cert.KernelIdeal.nD Cert.KernelIdeal.τ).loc Cert.KernelIdeal.main_v21_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_0) = v0 c
          ∧ r.2.mem ((c.tc : Thread Cert.KernelIdeal.nD Cert.KernelIdeal.τ).loc Cert.KernelIdeal.main_v21_1) = v1 c
          ∧ r.2.mem ((c.tc : Thread Cert.KernelIdeal.nD Cert.KernelIdeal.τ).loc Cert.KernelIdeal.main_v21_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_v23) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v2_0)) (v1 : (c : Dev Cert.UpIdeal.nD) → Buf (Elt Ideal) ((c.tc : Thread Cert.UpIdeal.nD Cert.UpIdeal.τ).loc Cert.UpIdeal.main_v2_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v2_0) = v0 c
          ∧ r.2.mem ((c.tc : Thread Cert.UpIdeal.nD Cert.UpIdeal.τ).loc Cert.UpIdeal.main_v2_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v2) = v0 c
          ∧ r.2.mem ((c.tc : Thread Cert.UpRefIdeal.nD Cert.UpRefIdeal.τ).loc Cert.UpRefIdeal.main_v5) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v3)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v3) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v0) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_Dw2_Dw2Ideal : Prop :=
  True

def algebraic_Dw2Ideal_Dw2RefIdeal [hDw2Ideal : Cert.Dw2Ideal.Facts] [hDw2RefIdeal : Cert.Dw2RefIdeal.Facts] : Prop :=
  ∀ (m : (ℓ : Loc Cert.Dw2Ideal.nD Cert.Dw2Ideal.τ Cert.Dw2Ideal.sig) → Buf (Elt Ideal) ℓ) (g : Dev Cert.Dw2Ideal.nD → PrngReg)
    (m' : (ℓ : Loc Cert.Dw2RefIdeal.nD Cert.Dw2RefIdeal.τ Cert.Dw2RefIdeal.sig) → Buf (Elt Ideal) ℓ) (g' : Dev Cert.Dw2RefIdeal.nD → PrngReg), Pre_Dw2Ideal m →
    (∀ c : Dev Cert.Dw2Ideal.nD,
      m' ((c.tc : Thread Cert.Dw2RefIdeal.nD Cert.Dw2RefIdeal.τ).loc Cert.Dw2RefIdeal.main_arg0) = m ((c.tc : Thread Cert.Dw2Ideal.nD Cert.Dw2Ideal.τ).loc Cert.Dw2Ideal.main_arg0)
      ∧ m' ((c.tc : Thread Cert.Dw2RefIdeal.nD Cert.Dw2RefIdeal.τ).loc Cert.Dw2RefIdeal.main_arg1) = m ((c.tc : Thread Cert.Dw2Ideal.nD Cert.Dw2Ideal.τ).loc Cert.Dw2Ideal.main_arg1)) →
    ∃ (v0 : (c : Dev Cert.Dw2Ideal.nD) → Buf (Elt Ideal) ((c.tc : Thread Cert.Dw2Ideal.nD Cert.Dw2Ideal.τ).loc Cert.Dw2Ideal.main_v2)),
      θ_run (Cert.Dw2Ideal.defs (F := Ideal)) (onTc (τ := Cert.Dw2Ideal.τ) (Cert.Dw2Ideal.main (F := Ideal))) ⟨m, fun _ => 0, g⟩ (fun r => ∀ c : Dev Cert.Dw2Ideal.nD,
          r.2.mem ((c.tc : Thread Cert.Dw2Ideal.nD Cert.Dw2Ideal.τ).loc Cert.Dw2Ideal.main_v2) = v0 c
          ∧ r.2.mem ((c.tc : Thread Cert.Dw2Ideal.nD Cert.Dw2Ideal.τ).loc Cert.Dw2Ideal.main_arg0) = m ((c.tc : Thread Cert.Dw2Ideal.nD Cert.Dw2Ideal.τ).loc Cert.Dw2Ideal.main_arg0)
          ∧ r.2.mem ((c.tc : Thread Cert.Dw2Ideal.nD Cert.Dw2Ideal.τ).loc Cert.Dw2Ideal.main_arg1) = m ((c.tc : Thread Cert.Dw2Ideal.nD Cert.Dw2Ideal.τ).loc Cert.Dw2Ideal.main_arg1))
      ∧ θ_run (Cert.Dw2RefIdeal.defs (F := Ideal)) (onTc (τ := Cert.Dw2RefIdeal.τ) (Cert.Dw2RefIdeal.main (F := Ideal))) ⟨m', fun _ => 0, g'⟩ (fun r => ∀ c : Dev Cert.Dw2RefIdeal.nD,
          r.2.mem ((c.tc : Thread Cert.Dw2RefIdeal.nD Cert.Dw2RefIdeal.τ).loc Cert.Dw2RefIdeal.main_v6) = v0 c
          ∧ r.2.mem ((c.tc : Thread Cert.Dw2RefIdeal.nD Cert.Dw2RefIdeal.τ).loc Cert.Dw2RefIdeal.main_arg0) = m' ((c.tc : Thread Cert.Dw2RefIdeal.nD Cert.Dw2RefIdeal.τ).loc Cert.Dw2RefIdeal.main_arg0)
          ∧ r.2.mem ((c.tc : Thread Cert.Dw2RefIdeal.nD Cert.Dw2RefIdeal.τ).loc Cert.Dw2RefIdeal.main_arg1) = m' ((c.tc : Thread Cert.Dw2RefIdeal.nD Cert.Dw2RefIdeal.τ).loc Cert.Dw2RefIdeal.main_arg1))

def preserves_Dact_DactIdeal : Prop :=
  True

def algebraic_DactIdeal_DactRefIdeal [hDactIdeal : Cert.DactIdeal.Facts] [hDactRefIdeal : Cert.DactRefIdeal.Facts] : Prop :=
  ∀ (m : (ℓ : Loc Cert.DactIdeal.nD Cert.DactIdeal.τ Cert.DactIdeal.sig) → Buf (Elt Ideal) ℓ) (g : Dev Cert.DactIdeal.nD → PrngReg)
    (m' : (ℓ : Loc Cert.DactRefIdeal.nD Cert.DactRefIdeal.τ Cert.DactRefIdeal.sig) → Buf (Elt Ideal) ℓ) (g' : Dev Cert.DactRefIdeal.nD → PrngReg), Pre_DactIdeal m →
    (∀ c : Dev Cert.DactIdeal.nD,
      m' ((c.tc : Thread Cert.DactRefIdeal.nD Cert.DactRefIdeal.τ).loc Cert.DactRefIdeal.main_arg0) = m ((c.tc : Thread Cert.DactIdeal.nD Cert.DactIdeal.τ).loc Cert.DactIdeal.main_arg0)
      ∧ m' ((c.tc : Thread Cert.DactRefIdeal.nD Cert.DactRefIdeal.τ).loc Cert.DactRefIdeal.main_arg1) = m ((c.tc : Thread Cert.DactIdeal.nD Cert.DactIdeal.τ).loc Cert.DactIdeal.main_arg1)
      ∧ m' ((c.tc : Thread Cert.DactRefIdeal.nD Cert.DactRefIdeal.τ).loc Cert.DactRefIdeal.main_arg2) = m ((c.tc : Thread Cert.DactIdeal.nD Cert.DactIdeal.τ).loc Cert.DactIdeal.main_arg2)) →
    ∃ (v0 : (c : Dev Cert.DactIdeal.nD) → Buf (Elt Ideal) ((c.tc : Thread Cert.DactIdeal.nD Cert.DactIdeal.τ).loc Cert.DactIdeal.main_v4)),
      θ_run (Cert.DactIdeal.defs (F := Ideal)) (onTc (τ := Cert.DactIdeal.τ) (Cert.DactIdeal.main (F := Ideal))) ⟨m, fun _ => 0, g⟩ (fun r => ∀ c : Dev Cert.DactIdeal.nD,
          r.2.mem ((c.tc : Thread Cert.DactIdeal.nD Cert.DactIdeal.τ).loc Cert.DactIdeal.main_v4) = v0 c
          ∧ r.2.mem ((c.tc : Thread Cert.DactIdeal.nD Cert.DactIdeal.τ).loc Cert.DactIdeal.main_arg0) = m ((c.tc : Thread Cert.DactIdeal.nD Cert.DactIdeal.τ).loc Cert.DactIdeal.main_arg0)
          ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
          ∧ r.2.mem ((c.tc : Thread Cert.DactIdeal.nD Cert.DactIdeal.τ).loc Cert.DactIdeal.main_arg2) = m ((c.tc : Thread Cert.DactIdeal.nD Cert.DactIdeal.τ).loc Cert.DactIdeal.main_arg2))
      ∧ θ_run (Cert.DactRefIdeal.defs (F := Ideal)) (onTc (τ := Cert.DactRefIdeal.τ) (Cert.DactRefIdeal.main (F := Ideal))) ⟨m', fun _ => 0, g'⟩ (fun r => ∀ c : Dev Cert.DactRefIdeal.nD,
          r.2.mem ((c.tc : Thread Cert.DactRefIdeal.nD Cert.DactRefIdeal.τ).loc Cert.DactRefIdeal.main_v12) = v0 c
          ∧ r.2.mem ((c.tc : Thread Cert.DactRefIdeal.nD Cert.DactRefIdeal.τ).loc Cert.DactRefIdeal.main_arg0) = m' ((c.tc : Thread Cert.DactRefIdeal.nD Cert.DactRefIdeal.τ).loc Cert.DactRefIdeal.main_arg0)
          ∧ r.2.mem ((c.tc : Thread Cert.DactRefIdeal.nD Cert.DactRefIdeal.τ).loc Cert.DactRefIdeal.main_arg1) = m' ((c.tc : Thread Cert.DactRefIdeal.nD Cert.DactRefIdeal.τ).loc Cert.DactRefIdeal.main_arg1)
          ∧ r.2.mem ((c.tc : Thread Cert.DactRefIdeal.nD Cert.DactRefIdeal.τ).loc Cert.DactRefIdeal.main_arg2) = m' ((c.tc : Thread Cert.DactRefIdeal.nD Cert.DactRefIdeal.τ).loc Cert.DactRefIdeal.main_arg2))

def preserves_Dw1_Dw1Ideal : Prop :=
  True

def algebraic_Dw1Ideal_Dw1RefIdeal [hDw1Ideal : Cert.Dw1Ideal.Facts] [hDw1RefIdeal : Cert.Dw1RefIdeal.Facts] : Prop :=
  ∀ (m : (ℓ : Loc Cert.Dw1Ideal.nD Cert.Dw1Ideal.τ Cert.Dw1Ideal.sig) → Buf (Elt Ideal) ℓ) (g : Dev Cert.Dw1Ideal.nD → PrngReg)
    (m' : (ℓ : Loc Cert.Dw1RefIdeal.nD Cert.Dw1RefIdeal.τ Cert.Dw1RefIdeal.sig) → Buf (Elt Ideal) ℓ) (g' : Dev Cert.Dw1RefIdeal.nD → PrngReg), Pre_Dw1Ideal m →
    (∀ c : Dev Cert.Dw1Ideal.nD,
      m' ((c.tc : Thread Cert.Dw1RefIdeal.nD Cert.Dw1RefIdeal.τ).loc Cert.Dw1RefIdeal.main_arg0) = m ((c.tc : Thread Cert.Dw1Ideal.nD Cert.Dw1Ideal.τ).loc Cert.Dw1Ideal.main_arg0)
      ∧ m' ((c.tc : Thread Cert.Dw1RefIdeal.nD Cert.Dw1RefIdeal.τ).loc Cert.Dw1RefIdeal.main_arg1) = m ((c.tc : Thread Cert.Dw1Ideal.nD Cert.Dw1Ideal.τ).loc Cert.Dw1Ideal.main_arg1)) →
    ∃ (v0 : (c : Dev Cert.Dw1Ideal.nD) → Buf (Elt Ideal) ((c.tc : Thread Cert.Dw1Ideal.nD Cert.Dw1Ideal.τ).loc Cert.Dw1Ideal.main_v2)),
      θ_run (Cert.Dw1Ideal.defs (F := Ideal)) (onTc (τ := Cert.Dw1Ideal.τ) (Cert.Dw1Ideal.main (F := Ideal))) ⟨m, fun _ => 0, g⟩ (fun r => ∀ c : Dev Cert.Dw1Ideal.nD,
          r.2.mem ((c.tc : Thread Cert.Dw1Ideal.nD Cert.Dw1Ideal.τ).loc Cert.Dw1Ideal.main_v2) = v0 c
          ∧ r.2.mem ((c.tc : Thread Cert.Dw1Ideal.nD Cert.Dw1Ideal.τ).loc Cert.Dw1Ideal.main_arg0) = m ((c.tc : Thread Cert.Dw1Ideal.nD Cert.Dw1Ideal.τ).loc Cert.Dw1Ideal.main_arg0)
          ∧ r.2.mem ((c.tc : Thread Cert.Dw1Ideal.nD Cert.Dw1Ideal.τ).loc Cert.Dw1Ideal.main_arg1) = m ((c.tc : Thread Cert.Dw1Ideal.nD Cert.Dw1Ideal.τ).loc Cert.Dw1Ideal.main_arg1))
      ∧ θ_run (Cert.Dw1RefIdeal.defs (F := Ideal)) (onTc (τ := Cert.Dw1RefIdeal.τ) (Cert.Dw1RefIdeal.main (F := Ideal))) ⟨m', fun _ => 0, g'⟩ (fun r => ∀ c : Dev Cert.Dw1RefIdeal.nD,
          r.2.mem ((c.tc : Thread Cert.Dw1RefIdeal.nD Cert.Dw1RefIdeal.τ).loc Cert.Dw1RefIdeal.main_v6) = v0 c
          ∧ r.2.mem ((c.tc : Thread Cert.Dw1RefIdeal.nD Cert.Dw1RefIdeal.τ).loc Cert.Dw1RefIdeal.main_arg0) = m' ((c.tc : Thread Cert.Dw1RefIdeal.nD Cert.Dw1RefIdeal.τ).loc Cert.Dw1RefIdeal.main_arg0)
          ∧ r.2.mem ((c.tc : Thread Cert.Dw1RefIdeal.nD Cert.Dw1RefIdeal.τ).loc Cert.Dw1RefIdeal.main_arg1) = m' ((c.tc : Thread Cert.Dw1RefIdeal.nD Cert.Dw1RefIdeal.τ).loc Cert.Dw1RefIdeal.main_arg1))

def preserves_Dx_DxIdeal : Prop :=
  True

def algebraic_DxIdeal_DxRefIdeal [hDxIdeal : Cert.DxIdeal.Facts] [hDxRefIdeal : Cert.DxRefIdeal.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxRefIdeal.nD Cert.DxRefIdeal.τ Cert.DxRefIdeal.sig) → Buf (Elt Ideal) ℓ) (g' : Dev Cert.DxRefIdeal.nD → PrngReg), Pre_DxIdeal m →
    (∀ c : Dev Cert.DxIdeal.nD,
      m' ((c.tc : Thread Cert.DxRefIdeal.nD Cert.DxRefIdeal.τ).loc Cert.DxRefIdeal.main_arg0) = m ((c.tc : Thread Cert.DxIdeal.nD Cert.DxIdeal.τ).loc Cert.DxIdeal.main_arg0)
      ∧ m' ((c.tc : Thread Cert.DxRefIdeal.nD Cert.DxRefIdeal.τ).loc Cert.DxRefIdeal.main_arg1) = m ((c.tc : Thread Cert.DxIdeal.nD Cert.DxIdeal.τ).loc Cert.DxIdeal.main_arg1)
      ∧ m' ((c.tc : Thread Cert.DxRefIdeal.nD Cert.DxRefIdeal.τ).loc Cert.DxRefIdeal.main_arg2) = m ((c.tc : Thread Cert.DxIdeal.nD Cert.DxIdeal.τ).loc Cert.DxIdeal.main_arg2)) →
    ∃ (v0 : (c : Dev Cert.DxIdeal.nD) → Buf (Elt Ideal) ((c.tc : Thread Cert.DxIdeal.nD Cert.DxIdeal.τ).loc Cert.DxIdeal.main_v2)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v2) = v0 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2))
      ∧ θ_run (Cert.DxRefIdeal.defs (F := Ideal)) (onTc (τ := Cert.DxRefIdeal.τ) (Cert.DxRefIdeal.main (F := Ideal))) ⟨m', fun _ => 0, g'⟩ (fun r => ∀ c : Dev Cert.DxRefIdeal.nD,
          r.2.mem ((c.tc : Thread Cert.DxRefIdeal.nD Cert.DxRefIdeal.τ).loc Cert.DxRefIdeal.main_v9) = v0 c
          ∧ r.2.mem ((c.tc : Thread Cert.DxRefIdeal.nD Cert.DxRefIdeal.τ).loc Cert.DxRefIdeal.main_arg0) = m' ((c.tc : Thread Cert.DxRefIdeal.nD Cert.DxRefIdeal.τ).loc Cert.DxRefIdeal.main_arg0)
          ∧ r.2.mem ((c.tc : Thread Cert.DxRefIdeal.nD Cert.DxRefIdeal.τ).loc Cert.DxRefIdeal.main_arg1) = m' ((c.tc : Thread Cert.DxRefIdeal.nD Cert.DxRefIdeal.τ).loc Cert.DxRefIdeal.main_arg1)
          ∧ r.2.mem ((c.tc : Thread Cert.DxRefIdeal.nD Cert.DxRefIdeal.τ).loc Cert.DxRefIdeal.main_arg2) = m' ((c.tc : Thread Cert.DxRefIdeal.nD Cert.DxRefIdeal.τ).loc Cert.DxRefIdeal.main_arg2))

def preserves_EvenIn_EvenInIdeal : Prop :=
  True

def algebraic_EvenInIdeal_EvenInRefIdeal [hEvenInIdeal : Cert.EvenInIdeal.Facts] [hEvenInRefIdeal : Cert.EvenInRefIdeal.Facts] : Prop :=
  ∀ (m : (ℓ : Loc Cert.EvenInIdeal.nD Cert.EvenInIdeal.τ Cert.EvenInIdeal.sig) → Buf (Elt Ideal) ℓ) (g : Dev Cert.EvenInIdeal.nD → PrngReg)
    (m' : (ℓ : Loc Cert.EvenInRefIdeal.nD Cert.EvenInRefIdeal.τ Cert.EvenInRefIdeal.sig) → Buf (Elt Ideal) ℓ) (g' : Dev Cert.EvenInRefIdeal.nD → PrngReg), Pre_EvenInIdeal m →
    (∀ c : Dev Cert.EvenInIdeal.nD,
      m' ((c.tc : Thread Cert.EvenInRefIdeal.nD Cert.EvenInRefIdeal.τ).loc Cert.EvenInRefIdeal.main_arg0) = m ((c.tc : Thread Cert.EvenInIdeal.nD Cert.EvenInIdeal.τ).loc Cert.EvenInIdeal.main_arg0)
      ∧ m' ((c.tc : Thread Cert.EvenInRefIdeal.nD Cert.EvenInRefIdeal.τ).loc Cert.EvenInRefIdeal.main_arg1) = m ((c.tc : Thread Cert.EvenInIdeal.nD Cert.EvenInIdeal.τ).loc Cert.EvenInIdeal.main_arg1)) →
    ∃ (v0 : (c : Dev Cert.EvenInIdeal.nD) → Buf (Elt Ideal) ((c.tc : Thread Cert.EvenInIdeal.nD Cert.EvenInIdeal.τ).loc Cert.EvenInIdeal.main_v2)),
      θ_run (Cert.EvenInIdeal.defs (F := Ideal)) (onTc (τ := Cert.EvenInIdeal.τ) (Cert.EvenInIdeal.main (F := Ideal))) ⟨m, fun _ => 0, g⟩ (fun r => ∀ c : Dev Cert.EvenInIdeal.nD,
          r.2.mem ((c.tc : Thread Cert.EvenInIdeal.nD Cert.EvenInIdeal.τ).loc Cert.EvenInIdeal.main_v2) = v0 c
          ∧ r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
          ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1))
      ∧ θ_run (Cert.EvenInRefIdeal.defs (F := Ideal)) (onTc (τ := Cert.EvenInRefIdeal.τ) (Cert.EvenInRefIdeal.main (F := Ideal))) ⟨m', fun _ => 0, g'⟩ (fun r => ∀ c : Dev Cert.EvenInRefIdeal.nD,
          r.2.mem ((c.tc : Thread Cert.EvenInRefIdeal.nD Cert.EvenInRefIdeal.τ).loc Cert.EvenInRefIdeal.main_v2) = v0 c
          ∧ r.2.mem ((c.tc : Thread Cert.EvenInRefIdeal.nD Cert.EvenInRefIdeal.τ).loc Cert.EvenInRefIdeal.main_arg0) = m' ((c.tc : Thread Cert.EvenInRefIdeal.nD Cert.EvenInRefIdeal.τ).loc Cert.EvenInRefIdeal.main_arg0)
          ∧ r.2.mem ((c.tc : Thread Cert.EvenInRefIdeal.nD Cert.EvenInRefIdeal.τ).loc Cert.EvenInRefIdeal.main_arg1) = m' ((c.tc : Thread Cert.EvenInRefIdeal.nD Cert.EvenInRefIdeal.τ).loc Cert.EvenInRefIdeal.main_arg1))

def preserves_EvenDwin_EvenDwinIdeal : Prop :=
  True

def algebraic_EvenDwinIdeal_EvenDwinRefIdeal [hEvenDwinIdeal : Cert.EvenDwinIdeal.Facts] [hEvenDwinRefIdeal : Cert.EvenDwinRefIdeal.Facts] : Prop :=
  ∀ (m : (ℓ : Loc Cert.EvenDwinIdeal.nD Cert.EvenDwinIdeal.τ Cert.EvenDwinIdeal.sig) → Buf (Elt Ideal) ℓ) (g : Dev Cert.EvenDwinIdeal.nD → PrngReg)
    (m' : (ℓ : Loc Cert.EvenDwinRefIdeal.nD Cert.EvenDwinRefIdeal.τ Cert.EvenDwinRefIdeal.sig) → Buf (Elt Ideal) ℓ) (g' : Dev Cert.EvenDwinRefIdeal.nD → PrngReg), Pre_EvenDwinIdeal m →
    (∀ c : Dev Cert.EvenDwinIdeal.nD,
      m' ((c.tc : Thread Cert.EvenDwinRefIdeal.nD Cert.EvenDwinRefIdeal.τ).loc Cert.EvenDwinRefIdeal.main_arg0) = m ((c.tc : Thread Cert.EvenDwinIdeal.nD Cert.EvenDwinIdeal.τ).loc Cert.EvenDwinIdeal.main_arg0)
      ∧ m' ((c.tc : Thread Cert.EvenDwinRefIdeal.nD Cert.EvenDwinRefIdeal.τ).loc Cert.EvenDwinRefIdeal.main_arg1) = m ((c.tc : Thread Cert.EvenDwinIdeal.nD Cert.EvenDwinIdeal.τ).loc Cert.EvenDwinIdeal.main_arg1)) →
    ∃ (v0 : (c : Dev Cert.EvenDwinIdeal.nD) → Buf (Elt Ideal) ((c.tc : Thread Cert.EvenDwinIdeal.nD Cert.EvenDwinIdeal.τ).loc Cert.EvenDwinIdeal.main_v2)),
      θ_run (Cert.EvenDwinIdeal.defs (F := Ideal)) (onTc (τ := Cert.EvenDwinIdeal.τ) (Cert.EvenDwinIdeal.main (F := Ideal))) ⟨m, fun _ => 0, g⟩ (fun r => ∀ c : Dev Cert.EvenDwinIdeal.nD,
          r.2.mem ((c.tc : Thread Cert.EvenDwinIdeal.nD Cert.EvenDwinIdeal.τ).loc Cert.EvenDwinIdeal.main_v2) = v0 c
          ∧ r.2.mem ((c.tc : Thread Cert.EvenDwinIdeal.nD Cert.EvenDwinIdeal.τ).loc Cert.EvenDwinIdeal.main_arg0) = m ((c.tc : Thread Cert.EvenDwinIdeal.nD Cert.EvenDwinIdeal.τ).loc Cert.EvenDwinIdeal.main_arg0)
          ∧ r.2.mem ((c.tc : Thread Cert.EvenDwinIdeal.nD Cert.EvenDwinIdeal.τ).loc Cert.EvenDwinIdeal.main_arg1) = m ((c.tc : Thread Cert.EvenDwinIdeal.nD Cert.EvenDwinIdeal.τ).loc Cert.EvenDwinIdeal.main_arg1))
      ∧ θ_run (Cert.EvenDwinRefIdeal.defs (F := Ideal)) (onTc (τ := Cert.EvenDwinRefIdeal.τ) (Cert.EvenDwinRefIdeal.main (F := Ideal))) ⟨m', fun _ => 0, g'⟩ (fun r => ∀ c : Dev Cert.EvenDwinRefIdeal.nD,
          r.2.mem ((c.tc : Thread Cert.EvenDwinRefIdeal.nD Cert.EvenDwinRefIdeal.τ).loc Cert.EvenDwinRefIdeal.main_v6) = v0 c
          ∧ r.2.mem ((c.tc : Thread Cert.EvenDwinRefIdeal.nD Cert.EvenDwinRefIdeal.τ).loc Cert.EvenDwinRefIdeal.main_arg0) = m' ((c.tc : Thread Cert.EvenDwinRefIdeal.nD Cert.EvenDwinRefIdeal.τ).loc Cert.EvenDwinRefIdeal.main_arg0)
          ∧ r.2.mem ((c.tc : Thread Cert.EvenDwinRefIdeal.nD Cert.EvenDwinRefIdeal.τ).loc Cert.EvenDwinRefIdeal.main_arg1) = m' ((c.tc : Thread Cert.EvenDwinRefIdeal.nD Cert.EvenDwinRefIdeal.τ).loc Cert.EvenDwinRefIdeal.main_arg1))

def preserves_EvenDx_EvenDxIdeal : Prop :=
  True

def algebraic_EvenDxIdeal_EvenDxRefIdeal [hEvenDxIdeal : Cert.EvenDxIdeal.Facts] [hEvenDxRefIdeal : Cert.EvenDxRefIdeal.Facts] : Prop :=
  ∀ (m : (ℓ : Loc Cert.EvenDxIdeal.nD Cert.EvenDxIdeal.τ Cert.EvenDxIdeal.sig) → Buf (Elt Ideal) ℓ) (g : Dev Cert.EvenDxIdeal.nD → PrngReg)
    (m' : (ℓ : Loc Cert.EvenDxRefIdeal.nD Cert.EvenDxRefIdeal.τ Cert.EvenDxRefIdeal.sig) → Buf (Elt Ideal) ℓ) (g' : Dev Cert.EvenDxRefIdeal.nD → PrngReg), Pre_EvenDxIdeal m →
    (∀ c : Dev Cert.EvenDxIdeal.nD,
      m' ((c.tc : Thread Cert.EvenDxRefIdeal.nD Cert.EvenDxRefIdeal.τ).loc Cert.EvenDxRefIdeal.main_arg0) = m ((c.tc : Thread Cert.EvenDxIdeal.nD Cert.EvenDxIdeal.τ).loc Cert.EvenDxIdeal.main_arg0)
      ∧ m' ((c.tc : Thread Cert.EvenDxRefIdeal.nD Cert.EvenDxRefIdeal.τ).loc Cert.EvenDxRefIdeal.main_arg1) = m ((c.tc : Thread Cert.EvenDxIdeal.nD Cert.EvenDxIdeal.τ).loc Cert.EvenDxIdeal.main_arg1)
      ∧ m' ((c.tc : Thread Cert.EvenDxRefIdeal.nD Cert.EvenDxRefIdeal.τ).loc Cert.EvenDxRefIdeal.main_arg2) = m ((c.tc : Thread Cert.EvenDxIdeal.nD Cert.EvenDxIdeal.τ).loc Cert.EvenDxIdeal.main_arg2)) →
    ∃ (v0 : (c : Dev Cert.EvenDxIdeal.nD) → Buf (Elt Ideal) ((c.tc : Thread Cert.EvenDxIdeal.nD Cert.EvenDxIdeal.τ).loc Cert.EvenDxIdeal.main_v3)),
      θ_run (Cert.EvenDxIdeal.defs (F := Ideal)) (onTc (τ := Cert.EvenDxIdeal.τ) (Cert.EvenDxIdeal.main (F := Ideal))) ⟨m, fun _ => 0, g⟩ (fun r => ∀ c : Dev Cert.EvenDxIdeal.nD,
          r.2.mem ((c.tc : Thread Cert.EvenDxIdeal.nD Cert.EvenDxIdeal.τ).loc Cert.EvenDxIdeal.main_v3) = v0 c
          ∧ r.2.mem ((c.tc : Thread Cert.EvenDxIdeal.nD Cert.EvenDxIdeal.τ).loc Cert.EvenDxIdeal.main_arg0) = m ((c.tc : Thread Cert.EvenDxIdeal.nD Cert.EvenDxIdeal.τ).loc Cert.EvenDxIdeal.main_arg0)
          ∧ r.2.mem ((c.tc : Thread Cert.EvenDxIdeal.nD Cert.EvenDxIdeal.τ).loc Cert.EvenDxIdeal.main_arg1) = m ((c.tc : Thread Cert.EvenDxIdeal.nD Cert.EvenDxIdeal.τ).loc Cert.EvenDxIdeal.main_arg1)
          ∧ r.2.mem ((c.tc : Thread Cert.EvenDxIdeal.nD Cert.EvenDxIdeal.τ).loc Cert.EvenDxIdeal.main_arg2) = m ((c.tc : Thread Cert.EvenDxIdeal.nD Cert.EvenDxIdeal.τ).loc Cert.EvenDxIdeal.main_arg2))
      ∧ θ_run (Cert.EvenDxRefIdeal.defs (F := Ideal)) (onTc (τ := Cert.EvenDxRefIdeal.τ) (Cert.EvenDxRefIdeal.main (F := Ideal))) ⟨m', fun _ => 0, g'⟩ (fun r => ∀ c : Dev Cert.EvenDxRefIdeal.nD,
          r.2.mem ((c.tc : Thread Cert.EvenDxRefIdeal.nD Cert.EvenDxRefIdeal.τ).loc Cert.EvenDxRefIdeal.main_v9) = v0 c
          ∧ r.2.mem ((c.tc : Thread Cert.EvenDxRefIdeal.nD Cert.EvenDxRefIdeal.τ).loc Cert.EvenDxRefIdeal.main_arg0) = m' ((c.tc : Thread Cert.EvenDxRefIdeal.nD Cert.EvenDxRefIdeal.τ).loc Cert.EvenDxRefIdeal.main_arg0)
          ∧ r.2.mem ((c.tc : Thread Cert.EvenDxRefIdeal.nD Cert.EvenDxRefIdeal.τ).loc Cert.EvenDxRefIdeal.main_arg1) = m' ((c.tc : Thread Cert.EvenDxRefIdeal.nD Cert.EvenDxRefIdeal.τ).loc Cert.EvenDxRefIdeal.main_arg1)
          ∧ r.2.mem ((c.tc : Thread Cert.EvenDxRefIdeal.nD Cert.EvenDxRefIdeal.τ).loc Cert.EvenDxRefIdeal.main_arg2) = m' ((c.tc : Thread Cert.EvenDxRefIdeal.nD Cert.EvenDxRefIdeal.τ).loc Cert.EvenDxRefIdeal.main_arg2))

def preserves_EvenOut_EvenOutIdeal : Prop :=
  True

def algebraic_EvenOutIdeal_EvenOutRefIdeal [hEvenOutIdeal : Cert.EvenOutIdeal.Facts] [hEvenOutRefIdeal : Cert.EvenOutRefIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg)
    (m' : (ℓ : Loc Cert.EvenOutRefIdeal.nD Cert.EvenOutRefIdeal.τ Cert.EvenOutRefIdeal.sig) → Buf (Elt Ideal) ℓ) (g' : Dev Cert.EvenOutRefIdeal.nD → PrngReg), Pre_EvenOutIdeal m →
    (∀ c : Dev Cert.EvenOutIdeal.nD,
      m' ((c.tc : Thread Cert.EvenOutRefIdeal.nD Cert.EvenOutRefIdeal.τ).loc Cert.EvenOutRefIdeal.main_arg0) = m ((c.tc : Thread Cert.EvenOutIdeal.nD Cert.EvenOutIdeal.τ).loc Cert.EvenOutIdeal.main_arg0)
      ∧ m' ((c.tc : Thread Cert.EvenOutRefIdeal.nD Cert.EvenOutRefIdeal.τ).loc Cert.EvenOutRefIdeal.main_arg1) = m ((c.tc : Thread Cert.EvenOutIdeal.nD Cert.EvenOutIdeal.τ).loc Cert.EvenOutIdeal.main_arg1)) →
    ∃ (v0 : (c : Dev Cert.EvenOutIdeal.nD) → Buf (Elt Ideal) ((c.tc : Thread Cert.EvenOutIdeal.nD Cert.EvenOutIdeal.τ).loc Cert.EvenOutIdeal.main_v2)),
      θ_run (Cert.EvenOutIdeal.defs (F := Ideal)) (onTc (τ := Cert.EvenOutIdeal.τ) (Cert.EvenOutIdeal.main (F := Ideal))) ⟨m, fun _ => 0, g⟩ (fun r => ∀ c : Dev Cert.EvenOutIdeal.nD,
          r.2.mem ((c.tc : Thread Cert.EvenOutIdeal.nD Cert.EvenOutIdeal.τ).loc Cert.EvenOutIdeal.main_v2) = v0 c
          ∧ r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
          ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1))
      ∧ θ_run (Cert.EvenOutRefIdeal.defs (F := Ideal)) (onTc (τ := Cert.EvenOutRefIdeal.τ) (Cert.EvenOutRefIdeal.main (F := Ideal))) ⟨m', fun _ => 0, g'⟩ (fun r => ∀ c : Dev Cert.EvenOutRefIdeal.nD,
          r.2.mem ((c.tc : Thread Cert.EvenOutRefIdeal.nD Cert.EvenOutRefIdeal.τ).loc Cert.EvenOutRefIdeal.main_v1) = v0 c
          ∧ r.2.mem ((c.tc : Thread Cert.EvenOutRefIdeal.nD Cert.EvenOutRefIdeal.τ).loc Cert.EvenOutRefIdeal.main_arg0) = m' ((c.tc : Thread Cert.EvenOutRefIdeal.nD Cert.EvenOutRefIdeal.τ).loc Cert.EvenOutRefIdeal.main_arg0)
          ∧ r.2.mem ((c.tc : Thread Cert.EvenOutRefIdeal.nD Cert.EvenOutRefIdeal.τ).loc Cert.EvenOutRefIdeal.main_arg1) = m' ((c.tc : Thread Cert.EvenOutRefIdeal.nD Cert.EvenOutRefIdeal.τ).loc Cert.EvenOutRefIdeal.main_arg1))

def preserves_EvenDwout_EvenDwoutIdeal : Prop :=
  True

def algebraic_EvenDwoutIdeal_EvenDwoutRefIdeal [hEvenDwoutIdeal : Cert.EvenDwoutIdeal.Facts] [hEvenDwoutRefIdeal : Cert.EvenDwoutRefIdeal.Facts] : Prop :=
  ∀ (m : (ℓ : Loc Cert.EvenDwoutIdeal.nD Cert.EvenDwoutIdeal.τ Cert.EvenDwoutIdeal.sig) → Buf (Elt Ideal) ℓ) (g : Dev Cert.EvenDwoutIdeal.nD → PrngReg)
    (m' : (ℓ : Loc Cert.EvenDwoutRefIdeal.nD Cert.EvenDwoutRefIdeal.τ Cert.EvenDwoutRefIdeal.sig) → Buf (Elt Ideal) ℓ) (g' : Dev Cert.EvenDwoutRefIdeal.nD → PrngReg), Pre_EvenDwoutIdeal m →
    (∀ c : Dev Cert.EvenDwoutIdeal.nD,
      m' ((c.tc : Thread Cert.EvenDwoutRefIdeal.nD Cert.EvenDwoutRefIdeal.τ).loc Cert.EvenDwoutRefIdeal.main_arg0) = m ((c.tc : Thread Cert.EvenDwoutIdeal.nD Cert.EvenDwoutIdeal.τ).loc Cert.EvenDwoutIdeal.main_arg0)
      ∧ m' ((c.tc : Thread Cert.EvenDwoutRefIdeal.nD Cert.EvenDwoutRefIdeal.τ).loc Cert.EvenDwoutRefIdeal.main_arg1) = m ((c.tc : Thread Cert.EvenDwoutIdeal.nD Cert.EvenDwoutIdeal.τ).loc Cert.EvenDwoutIdeal.main_arg1)) →
    ∃ (v0 : (c : Dev Cert.EvenDwoutIdeal.nD) → Buf (Elt Ideal) ((c.tc : Thread Cert.EvenDwoutIdeal.nD Cert.EvenDwoutIdeal.τ).loc Cert.EvenDwoutIdeal.main_v2)),
      θ_run (Cert.EvenDwoutIdeal.defs (F := Ideal)) (onTc (τ := Cert.EvenDwoutIdeal.τ) (Cert.EvenDwoutIdeal.main (F := Ideal))) ⟨m, fun _ => 0, g⟩ (fun r => ∀ c : Dev Cert.EvenDwoutIdeal.nD,
          r.2.mem ((c.tc : Thread Cert.EvenDwoutIdeal.nD Cert.EvenDwoutIdeal.τ).loc Cert.EvenDwoutIdeal.main_v2) = v0 c
          ∧ r.2.mem ((c.tc : Thread Cert.EvenDwoutIdeal.nD Cert.EvenDwoutIdeal.τ).loc Cert.EvenDwoutIdeal.main_arg0) = m ((c.tc : Thread Cert.EvenDwoutIdeal.nD Cert.EvenDwoutIdeal.τ).loc Cert.EvenDwoutIdeal.main_arg0)
          ∧ r.2.mem ((c.tc : Thread Cert.EvenDwoutIdeal.nD Cert.EvenDwoutIdeal.τ).loc Cert.EvenDwoutIdeal.main_arg1) = m ((c.tc : Thread Cert.EvenDwoutIdeal.nD Cert.EvenDwoutIdeal.τ).loc Cert.EvenDwoutIdeal.main_arg1))
      ∧ θ_run (Cert.EvenDwoutRefIdeal.defs (F := Ideal)) (onTc (τ := Cert.EvenDwoutRefIdeal.τ) (Cert.EvenDwoutRefIdeal.main (F := Ideal))) ⟨m', fun _ => 0, g'⟩ (fun r => ∀ c : Dev Cert.EvenDwoutRefIdeal.nD,
          r.2.mem ((c.tc : Thread Cert.EvenDwoutRefIdeal.nD Cert.EvenDwoutRefIdeal.τ).loc Cert.EvenDwoutRefIdeal.main_v6) = v0 c
          ∧ r.2.mem ((c.tc : Thread Cert.EvenDwoutRefIdeal.nD Cert.EvenDwoutRefIdeal.τ).loc Cert.EvenDwoutRefIdeal.main_arg0) = m' ((c.tc : Thread Cert.EvenDwoutRefIdeal.nD Cert.EvenDwoutRefIdeal.τ).loc Cert.EvenDwoutRefIdeal.main_arg0)
          ∧ r.2.mem ((c.tc : Thread Cert.EvenDwoutRefIdeal.nD Cert.EvenDwoutRefIdeal.τ).loc Cert.EvenDwoutRefIdeal.main_arg1) = m' ((c.tc : Thread Cert.EvenDwoutRefIdeal.nD Cert.EvenDwoutRefIdeal.τ).loc Cert.EvenDwoutRefIdeal.main_arg1))

def preserves_EvenDy_EvenDyIdeal : Prop :=
  True

def algebraic_EvenDyIdeal_EvenDyRefIdeal [hEvenDyIdeal : Cert.EvenDyIdeal.Facts] [hEvenDyRefIdeal : Cert.EvenDyRefIdeal.Facts] : Prop :=
  ∀ (m : (ℓ : Loc Cert.EvenDyIdeal.nD Cert.EvenDyIdeal.τ Cert.EvenDyIdeal.sig) → Buf (Elt Ideal) ℓ) (g : Dev Cert.EvenDyIdeal.nD → PrngReg)
    (m' : (ℓ : Loc Cert.EvenDyRefIdeal.nD Cert.EvenDyRefIdeal.τ Cert.EvenDyRefIdeal.sig) → Buf (Elt Ideal) ℓ) (g' : Dev Cert.EvenDyRefIdeal.nD → PrngReg), Pre_EvenDyIdeal m →
    (∀ c : Dev Cert.EvenDyIdeal.nD,
      m' ((c.tc : Thread Cert.EvenDyRefIdeal.nD Cert.EvenDyRefIdeal.τ).loc Cert.EvenDyRefIdeal.main_arg0) = m ((c.tc : Thread Cert.EvenDyIdeal.nD Cert.EvenDyIdeal.τ).loc Cert.EvenDyIdeal.main_arg0)
      ∧ m' ((c.tc : Thread Cert.EvenDyRefIdeal.nD Cert.EvenDyRefIdeal.τ).loc Cert.EvenDyRefIdeal.main_arg1) = m ((c.tc : Thread Cert.EvenDyIdeal.nD Cert.EvenDyIdeal.τ).loc Cert.EvenDyIdeal.main_arg1)) →
    ∃ (v0 : (c : Dev Cert.EvenDyIdeal.nD) → Buf (Elt Ideal) ((c.tc : Thread Cert.EvenDyIdeal.nD Cert.EvenDyIdeal.τ).loc Cert.EvenDyIdeal.main_v3)),
      θ_run (Cert.EvenDyIdeal.defs (F := Ideal)) (onTc (τ := Cert.EvenDyIdeal.τ) (Cert.EvenDyIdeal.main (F := Ideal))) ⟨m, fun _ => 0, g⟩ (fun r => ∀ c : Dev Cert.EvenDyIdeal.nD,
          r.2.mem ((c.tc : Thread Cert.EvenDyIdeal.nD Cert.EvenDyIdeal.τ).loc Cert.EvenDyIdeal.main_v3) = v0 c
          ∧ r.2.mem ((c.tc : Thread Cert.EvenDyIdeal.nD Cert.EvenDyIdeal.τ).loc Cert.EvenDyIdeal.main_arg0) = m ((c.tc : Thread Cert.EvenDyIdeal.nD Cert.EvenDyIdeal.τ).loc Cert.EvenDyIdeal.main_arg0)
          ∧ r.2.mem ((c.tc : Thread Cert.EvenDyIdeal.nD Cert.EvenDyIdeal.τ).loc Cert.EvenDyIdeal.main_arg1) = m ((c.tc : Thread Cert.EvenDyIdeal.nD Cert.EvenDyIdeal.τ).loc Cert.EvenDyIdeal.main_arg1))
      ∧ θ_run (Cert.EvenDyRefIdeal.defs (F := Ideal)) (onTc (τ := Cert.EvenDyRefIdeal.τ) (Cert.EvenDyRefIdeal.main (F := Ideal))) ⟨m', fun _ => 0, g'⟩ (fun r => ∀ c : Dev Cert.EvenDyRefIdeal.nD,
          r.2.mem ((c.tc : Thread Cert.EvenDyRefIdeal.nD Cert.EvenDyRefIdeal.τ).loc Cert.EvenDyRefIdeal.main_v4) = v0 c
          ∧ r.2.mem ((c.tc : Thread Cert.EvenDyRefIdeal.nD Cert.EvenDyRefIdeal.τ).loc Cert.EvenDyRefIdeal.main_arg0) = m' ((c.tc : Thread Cert.EvenDyRefIdeal.nD Cert.EvenDyRefIdeal.τ).loc Cert.EvenDyRefIdeal.main_arg0)
          ∧ r.2.mem ((c.tc : Thread Cert.EvenDyRefIdeal.nD Cert.EvenDyRefIdeal.τ).loc Cert.EvenDyRefIdeal.main_arg1) = m' ((c.tc : Thread Cert.EvenDyRefIdeal.nD Cert.EvenDyRefIdeal.τ).loc Cert.EvenDyRefIdeal.main_arg1))

def preserves_OddIn_OddInIdeal : Prop :=
  True

def algebraic_OddInIdeal_OddInRefIdeal [hOddInIdeal : Cert.OddInIdeal.Facts] [hOddInRefIdeal : Cert.OddInRefIdeal.Facts] : Prop :=
  ∀ (m : (ℓ : Loc Cert.OddInIdeal.nD Cert.OddInIdeal.τ Cert.OddInIdeal.sig) → Buf (Elt Ideal) ℓ) (g : Dev Cert.OddInIdeal.nD → PrngReg)
    (m' : (ℓ : Loc Cert.OddInRefIdeal.nD Cert.OddInRefIdeal.τ Cert.OddInRefIdeal.sig) → Buf (Elt Ideal) ℓ) (g' : Dev Cert.OddInRefIdeal.nD → PrngReg), Pre_OddInIdeal m →
    (∀ c : Dev Cert.OddInIdeal.nD,
      m' ((c.tc : Thread Cert.OddInRefIdeal.nD Cert.OddInRefIdeal.τ).loc Cert.OddInRefIdeal.main_arg0) = m ((c.tc : Thread Cert.OddInIdeal.nD Cert.OddInIdeal.τ).loc Cert.OddInIdeal.main_arg0)
      ∧ m' ((c.tc : Thread Cert.OddInRefIdeal.nD Cert.OddInRefIdeal.τ).loc Cert.OddInRefIdeal.main_arg1) = m ((c.tc : Thread Cert.OddInIdeal.nD Cert.OddInIdeal.τ).loc Cert.OddInIdeal.main_arg1)) →
    ∃ (v0 : (c : Dev Cert.OddInIdeal.nD) → Buf (Elt Ideal) ((c.tc : Thread Cert.OddInIdeal.nD Cert.OddInIdeal.τ).loc Cert.OddInIdeal.main_v2)),
      θ_run (Cert.OddInIdeal.defs (F := Ideal)) (onTc (τ := Cert.OddInIdeal.τ) (Cert.OddInIdeal.main (F := Ideal))) ⟨m, fun _ => 0, g⟩ (fun r => ∀ c : Dev Cert.OddInIdeal.nD,
          r.2.mem ((c.tc : Thread Cert.OddInIdeal.nD Cert.OddInIdeal.τ).loc Cert.OddInIdeal.main_v2) = v0 c
          ∧ r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
          ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1))
      ∧ θ_run (Cert.OddInRefIdeal.defs (F := Ideal)) (onTc (τ := Cert.OddInRefIdeal.τ) (Cert.OddInRefIdeal.main (F := Ideal))) ⟨m', fun _ => 0, g'⟩ (fun r => ∀ c : Dev Cert.OddInRefIdeal.nD,
          r.2.mem ((c.tc : Thread Cert.OddInRefIdeal.nD Cert.OddInRefIdeal.τ).loc Cert.OddInRefIdeal.main_v1) = v0 c
          ∧ r.2.mem ((c.tc : Thread Cert.OddInRefIdeal.nD Cert.OddInRefIdeal.τ).loc Cert.OddInRefIdeal.main_arg0) = m' ((c.tc : Thread Cert.OddInRefIdeal.nD Cert.OddInRefIdeal.τ).loc Cert.OddInRefIdeal.main_arg0)
          ∧ r.2.mem ((c.tc : Thread Cert.OddInRefIdeal.nD Cert.OddInRefIdeal.τ).loc Cert.OddInRefIdeal.main_arg1) = m' ((c.tc : Thread Cert.OddInRefIdeal.nD Cert.OddInRefIdeal.τ).loc Cert.OddInRefIdeal.main_arg1))

def preserves_OddDwin_OddDwinIdeal : Prop :=
  True

def algebraic_OddDwinIdeal_OddDwinRefIdeal [hOddDwinIdeal : Cert.OddDwinIdeal.Facts] [hOddDwinRefIdeal : Cert.OddDwinRefIdeal.Facts] : Prop :=
  ∀ (m : (ℓ : Loc Cert.OddDwinIdeal.nD Cert.OddDwinIdeal.τ Cert.OddDwinIdeal.sig) → Buf (Elt Ideal) ℓ) (g : Dev Cert.OddDwinIdeal.nD → PrngReg)
    (m' : (ℓ : Loc Cert.OddDwinRefIdeal.nD Cert.OddDwinRefIdeal.τ Cert.OddDwinRefIdeal.sig) → Buf (Elt Ideal) ℓ) (g' : Dev Cert.OddDwinRefIdeal.nD → PrngReg), Pre_OddDwinIdeal m →
    (∀ c : Dev Cert.OddDwinIdeal.nD,
      m' ((c.tc : Thread Cert.OddDwinRefIdeal.nD Cert.OddDwinRefIdeal.τ).loc Cert.OddDwinRefIdeal.main_arg0) = m ((c.tc : Thread Cert.OddDwinIdeal.nD Cert.OddDwinIdeal.τ).loc Cert.OddDwinIdeal.main_arg0)
      ∧ m' ((c.tc : Thread Cert.OddDwinRefIdeal.nD Cert.OddDwinRefIdeal.τ).loc Cert.OddDwinRefIdeal.main_arg1) = m ((c.tc : Thread Cert.OddDwinIdeal.nD Cert.OddDwinIdeal.τ).loc Cert.OddDwinIdeal.main_arg1)) →
    ∃ (v0 : (c : Dev Cert.OddDwinIdeal.nD) → Buf (Elt Ideal) ((c.tc : Thread Cert.OddDwinIdeal.nD Cert.OddDwinIdeal.τ).loc Cert.OddDwinIdeal.main_v2)),
      θ_run (Cert.OddDwinIdeal.defs (F := Ideal)) (onTc (τ := Cert.OddDwinIdeal.τ) (Cert.OddDwinIdeal.main (F := Ideal))) ⟨m, fun _ => 0, g⟩ (fun r => ∀ c : Dev Cert.OddDwinIdeal.nD,
          r.2.mem ((c.tc : Thread Cert.OddDwinIdeal.nD Cert.OddDwinIdeal.τ).loc Cert.OddDwinIdeal.main_v2) = v0 c
          ∧ r.2.mem ((c.tc : Thread Cert.OddDwinIdeal.nD Cert.OddDwinIdeal.τ).loc Cert.OddDwinIdeal.main_arg0) = m ((c.tc : Thread Cert.OddDwinIdeal.nD Cert.OddDwinIdeal.τ).loc Cert.OddDwinIdeal.main_arg0)
          ∧ r.2.mem ((c.tc : Thread Cert.OddDwinIdeal.nD Cert.OddDwinIdeal.τ).loc Cert.OddDwinIdeal.main_arg1) = m ((c.tc : Thread Cert.OddDwinIdeal.nD Cert.OddDwinIdeal.τ).loc Cert.OddDwinIdeal.main_arg1))
      ∧ θ_run (Cert.OddDwinRefIdeal.defs (F := Ideal)) (onTc (τ := Cert.OddDwinRefIdeal.τ) (Cert.OddDwinRefIdeal.main (F := Ideal))) ⟨m', fun _ => 0, g'⟩ (fun r => ∀ c : Dev Cert.OddDwinRefIdeal.nD,
          r.2.mem ((c.tc : Thread Cert.OddDwinRefIdeal.nD Cert.OddDwinRefIdeal.τ).loc Cert.OddDwinRefIdeal.main_v6) = v0 c
          ∧ r.2.mem ((c.tc : Thread Cert.OddDwinRefIdeal.nD Cert.OddDwinRefIdeal.τ).loc Cert.OddDwinRefIdeal.main_arg0) = m' ((c.tc : Thread Cert.OddDwinRefIdeal.nD Cert.OddDwinRefIdeal.τ).loc Cert.OddDwinRefIdeal.main_arg0)
          ∧ r.2.mem ((c.tc : Thread Cert.OddDwinRefIdeal.nD Cert.OddDwinRefIdeal.τ).loc Cert.OddDwinRefIdeal.main_arg1) = m' ((c.tc : Thread Cert.OddDwinRefIdeal.nD Cert.OddDwinRefIdeal.τ).loc Cert.OddDwinRefIdeal.main_arg1))

def preserves_OddDx_OddDxIdeal : Prop :=
  True

def algebraic_OddDxIdeal_OddDxRefIdeal [hOddDxIdeal : Cert.OddDxIdeal.Facts] [hOddDxRefIdeal : Cert.OddDxRefIdeal.Facts] : Prop :=
  ∀ (m : (ℓ : Loc Cert.OddDxIdeal.nD Cert.OddDxIdeal.τ Cert.OddDxIdeal.sig) → Buf (Elt Ideal) ℓ) (g : Dev Cert.OddDxIdeal.nD → PrngReg)
    (m' : (ℓ : Loc Cert.OddDxRefIdeal.nD Cert.OddDxRefIdeal.τ Cert.OddDxRefIdeal.sig) → Buf (Elt Ideal) ℓ) (g' : Dev Cert.OddDxRefIdeal.nD → PrngReg), Pre_OddDxIdeal m →
    (∀ c : Dev Cert.OddDxIdeal.nD,
      m' ((c.tc : Thread Cert.OddDxRefIdeal.nD Cert.OddDxRefIdeal.τ).loc Cert.OddDxRefIdeal.main_arg0) = m ((c.tc : Thread Cert.OddDxIdeal.nD Cert.OddDxIdeal.τ).loc Cert.OddDxIdeal.main_arg0)
      ∧ m' ((c.tc : Thread Cert.OddDxRefIdeal.nD Cert.OddDxRefIdeal.τ).loc Cert.OddDxRefIdeal.main_arg1) = m ((c.tc : Thread Cert.OddDxIdeal.nD Cert.OddDxIdeal.τ).loc Cert.OddDxIdeal.main_arg1)
      ∧ m' ((c.tc : Thread Cert.OddDxRefIdeal.nD Cert.OddDxRefIdeal.τ).loc Cert.OddDxRefIdeal.main_arg2) = m ((c.tc : Thread Cert.OddDxIdeal.nD Cert.OddDxIdeal.τ).loc Cert.OddDxIdeal.main_arg2)) →
    ∃ (v0 : (c : Dev Cert.OddDxIdeal.nD) → Buf (Elt Ideal) ((c.tc : Thread Cert.OddDxIdeal.nD Cert.OddDxIdeal.τ).loc Cert.OddDxIdeal.main_v2)),
      θ_run (Cert.OddDxIdeal.defs (F := Ideal)) (onTc (τ := Cert.OddDxIdeal.τ) (Cert.OddDxIdeal.main (F := Ideal))) ⟨m, fun _ => 0, g⟩ (fun r => ∀ c : Dev Cert.OddDxIdeal.nD,
          r.2.mem ((c.tc : Thread Cert.OddDxIdeal.nD Cert.OddDxIdeal.τ).loc Cert.OddDxIdeal.main_v2) = v0 c
          ∧ r.2.mem ((c.tc : Thread Cert.OddDxIdeal.nD Cert.OddDxIdeal.τ).loc Cert.OddDxIdeal.main_arg0) = m ((c.tc : Thread Cert.OddDxIdeal.nD Cert.OddDxIdeal.τ).loc Cert.OddDxIdeal.main_arg0)
          ∧ r.2.mem ((c.tc : Thread Cert.OddDxIdeal.nD Cert.OddDxIdeal.τ).loc Cert.OddDxIdeal.main_arg1) = m ((c.tc : Thread Cert.OddDxIdeal.nD Cert.OddDxIdeal.τ).loc Cert.OddDxIdeal.main_arg1)
          ∧ r.2.mem ((c.tc : Thread Cert.OddDxIdeal.nD Cert.OddDxIdeal.τ).loc Cert.OddDxIdeal.main_arg2) = m ((c.tc : Thread Cert.OddDxIdeal.nD Cert.OddDxIdeal.τ).loc Cert.OddDxIdeal.main_arg2))
      ∧ θ_run (Cert.OddDxRefIdeal.defs (F := Ideal)) (onTc (τ := Cert.OddDxRefIdeal.τ) (Cert.OddDxRefIdeal.main (F := Ideal))) ⟨m', fun _ => 0, g'⟩ (fun r => ∀ c : Dev Cert.OddDxRefIdeal.nD,
          r.2.mem ((c.tc : Thread Cert.OddDxRefIdeal.nD Cert.OddDxRefIdeal.τ).loc Cert.OddDxRefIdeal.main_v9) = v0 c
          ∧ r.2.mem ((c.tc : Thread Cert.OddDxRefIdeal.nD Cert.OddDxRefIdeal.τ).loc Cert.OddDxRefIdeal.main_arg0) = m' ((c.tc : Thread Cert.OddDxRefIdeal.nD Cert.OddDxRefIdeal.τ).loc Cert.OddDxRefIdeal.main_arg0)
          ∧ r.2.mem ((c.tc : Thread Cert.OddDxRefIdeal.nD Cert.OddDxRefIdeal.τ).loc Cert.OddDxRefIdeal.main_arg1) = m' ((c.tc : Thread Cert.OddDxRefIdeal.nD Cert.OddDxRefIdeal.τ).loc Cert.OddDxRefIdeal.main_arg1)
          ∧ r.2.mem ((c.tc : Thread Cert.OddDxRefIdeal.nD Cert.OddDxRefIdeal.τ).loc Cert.OddDxRefIdeal.main_arg2) = m' ((c.tc : Thread Cert.OddDxRefIdeal.nD Cert.OddDxRefIdeal.τ).loc Cert.OddDxRefIdeal.main_arg2))

def preserves_OddOut_OddOutIdeal : Prop :=
  True

def algebraic_OddOutIdeal_OddOutRefIdeal [hOddOutIdeal : Cert.OddOutIdeal.Facts] [hOddOutRefIdeal : Cert.OddOutRefIdeal.Facts] : Prop :=
  ∀ (m : (ℓ : Loc Cert.OddOutIdeal.nD Cert.OddOutIdeal.τ Cert.OddOutIdeal.sig) → Buf (Elt Ideal) ℓ) (g : Dev Cert.OddOutIdeal.nD → PrngReg)
    (m' : (ℓ : Loc Cert.OddOutRefIdeal.nD Cert.OddOutRefIdeal.τ Cert.OddOutRefIdeal.sig) → Buf (Elt Ideal) ℓ) (g' : Dev Cert.OddOutRefIdeal.nD → PrngReg), Pre_OddOutIdeal m →
    (∀ c : Dev Cert.OddOutIdeal.nD,
      m' ((c.tc : Thread Cert.OddOutRefIdeal.nD Cert.OddOutRefIdeal.τ).loc Cert.OddOutRefIdeal.main_arg0) = m ((c.tc : Thread Cert.OddOutIdeal.nD Cert.OddOutIdeal.τ).loc Cert.OddOutIdeal.main_arg0)
      ∧ m' ((c.tc : Thread Cert.OddOutRefIdeal.nD Cert.OddOutRefIdeal.τ).loc Cert.OddOutRefIdeal.main_arg1) = m ((c.tc : Thread Cert.OddOutIdeal.nD Cert.OddOutIdeal.τ).loc Cert.OddOutIdeal.main_arg1)) →
    ∃ (v0 : (c : Dev Cert.OddOutIdeal.nD) → Buf (Elt Ideal) ((c.tc : Thread Cert.OddOutIdeal.nD Cert.OddOutIdeal.τ).loc Cert.OddOutIdeal.main_v3)),
      θ_run (Cert.OddOutIdeal.defs (F := Ideal)) (onTc (τ := Cert.OddOutIdeal.τ) (Cert.OddOutIdeal.main (F := Ideal))) ⟨m, fun _ => 0, g⟩ (fun r => ∀ c : Dev Cert.OddOutIdeal.nD,
          r.2.mem ((c.tc : Thread Cert.OddOutIdeal.nD Cert.OddOutIdeal.τ).loc Cert.OddOutIdeal.main_v3) = v0 c
          ∧ r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
          ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1))
      ∧ θ_run (Cert.OddOutRefIdeal.defs (F := Ideal)) (onTc (τ := Cert.OddOutRefIdeal.τ) (Cert.OddOutRefIdeal.main (F := Ideal))) ⟨m', fun _ => 0, g'⟩ (fun r => ∀ c : Dev Cert.OddOutRefIdeal.nD,
          r.2.mem ((c.tc : Thread Cert.OddOutRefIdeal.nD Cert.OddOutRefIdeal.τ).loc Cert.OddOutRefIdeal.main_v0) = v0 c
          ∧ r.2.mem ((c.tc : Thread Cert.OddOutRefIdeal.nD Cert.OddOutRefIdeal.τ).loc Cert.OddOutRefIdeal.main_arg0) = m' ((c.tc : Thread Cert.OddOutRefIdeal.nD Cert.OddOutRefIdeal.τ).loc Cert.OddOutRefIdeal.main_arg0)
          ∧ r.2.mem ((c.tc : Thread Cert.OddOutRefIdeal.nD Cert.OddOutRefIdeal.τ).loc Cert.OddOutRefIdeal.main_arg1) = m' ((c.tc : Thread Cert.OddOutRefIdeal.nD Cert.OddOutRefIdeal.τ).loc Cert.OddOutRefIdeal.main_arg1))

def preserves_OddDwout_OddDwoutIdeal : Prop :=
  True

def algebraic_OddDwoutIdeal_OddDwoutRefIdeal [hOddDwoutIdeal : Cert.OddDwoutIdeal.Facts] [hOddDwoutRefIdeal : Cert.OddDwoutRefIdeal.Facts] : Prop :=
  ∀ (m : (ℓ : Loc Cert.OddDwoutIdeal.nD Cert.OddDwoutIdeal.τ Cert.OddDwoutIdeal.sig) → Buf (Elt Ideal) ℓ) (g : Dev Cert.OddDwoutIdeal.nD → PrngReg)
    (m' : (ℓ : Loc Cert.OddDwoutRefIdeal.nD Cert.OddDwoutRefIdeal.τ Cert.OddDwoutRefIdeal.sig) → Buf (Elt Ideal) ℓ) (g' : Dev Cert.OddDwoutRefIdeal.nD → PrngReg), Pre_OddDwoutIdeal m →
    (∀ c : Dev Cert.OddDwoutIdeal.nD,
      m' ((c.tc : Thread Cert.OddDwoutRefIdeal.nD Cert.OddDwoutRefIdeal.τ).loc Cert.OddDwoutRefIdeal.main_arg0) = m ((c.tc : Thread Cert.OddDwoutIdeal.nD Cert.OddDwoutIdeal.τ).loc Cert.OddDwoutIdeal.main_arg0)
      ∧ m' ((c.tc : Thread Cert.OddDwoutRefIdeal.nD Cert.OddDwoutRefIdeal.τ).loc Cert.OddDwoutRefIdeal.main_arg1) = m ((c.tc : Thread Cert.OddDwoutIdeal.nD Cert.OddDwoutIdeal.τ).loc Cert.OddDwoutIdeal.main_arg1)) →
    ∃ (v0 : (c : Dev Cert.OddDwoutIdeal.nD) → Buf (Elt Ideal) ((c.tc : Thread Cert.OddDwoutIdeal.nD Cert.OddDwoutIdeal.τ).loc Cert.OddDwoutIdeal.main_v2)),
      θ_run (Cert.OddDwoutIdeal.defs (F := Ideal)) (onTc (τ := Cert.OddDwoutIdeal.τ) (Cert.OddDwoutIdeal.main (F := Ideal))) ⟨m, fun _ => 0, g⟩ (fun r => ∀ c : Dev Cert.OddDwoutIdeal.nD,
          r.2.mem ((c.tc : Thread Cert.OddDwoutIdeal.nD Cert.OddDwoutIdeal.τ).loc Cert.OddDwoutIdeal.main_v2) = v0 c
          ∧ r.2.mem ((c.tc : Thread Cert.OddDwoutIdeal.nD Cert.OddDwoutIdeal.τ).loc Cert.OddDwoutIdeal.main_arg0) = m ((c.tc : Thread Cert.OddDwoutIdeal.nD Cert.OddDwoutIdeal.τ).loc Cert.OddDwoutIdeal.main_arg0)
          ∧ r.2.mem ((c.tc : Thread Cert.OddDwoutIdeal.nD Cert.OddDwoutIdeal.τ).loc Cert.OddDwoutIdeal.main_arg1) = m ((c.tc : Thread Cert.OddDwoutIdeal.nD Cert.OddDwoutIdeal.τ).loc Cert.OddDwoutIdeal.main_arg1))
      ∧ θ_run (Cert.OddDwoutRefIdeal.defs (F := Ideal)) (onTc (τ := Cert.OddDwoutRefIdeal.τ) (Cert.OddDwoutRefIdeal.main (F := Ideal))) ⟨m', fun _ => 0, g'⟩ (fun r => ∀ c : Dev Cert.OddDwoutRefIdeal.nD,
          r.2.mem ((c.tc : Thread Cert.OddDwoutRefIdeal.nD Cert.OddDwoutRefIdeal.τ).loc Cert.OddDwoutRefIdeal.main_v6) = v0 c
          ∧ r.2.mem ((c.tc : Thread Cert.OddDwoutRefIdeal.nD Cert.OddDwoutRefIdeal.τ).loc Cert.OddDwoutRefIdeal.main_arg0) = m' ((c.tc : Thread Cert.OddDwoutRefIdeal.nD Cert.OddDwoutRefIdeal.τ).loc Cert.OddDwoutRefIdeal.main_arg0)
          ∧ r.2.mem ((c.tc : Thread Cert.OddDwoutRefIdeal.nD Cert.OddDwoutRefIdeal.τ).loc Cert.OddDwoutRefIdeal.main_arg1) = m' ((c.tc : Thread Cert.OddDwoutRefIdeal.nD Cert.OddDwoutRefIdeal.τ).loc Cert.OddDwoutRefIdeal.main_arg1))

def preserves_OddDy_OddDyIdeal : Prop :=
  True

def algebraic_OddDyIdeal_OddDyRefIdeal [hOddDyIdeal : Cert.OddDyIdeal.Facts] [hOddDyRefIdeal : Cert.OddDyRefIdeal.Facts] : Prop :=
  ∀ (m : (ℓ : Loc Cert.OddDyIdeal.nD Cert.OddDyIdeal.τ Cert.OddDyIdeal.sig) → Buf (Elt Ideal) ℓ) (g : Dev Cert.OddDyIdeal.nD → PrngReg)
    (m' : (ℓ : Loc Cert.OddDyRefIdeal.nD Cert.OddDyRefIdeal.τ Cert.OddDyRefIdeal.sig) → Buf (Elt Ideal) ℓ) (g' : Dev Cert.OddDyRefIdeal.nD → PrngReg), Pre_OddDyIdeal m →
    (∀ c : Dev Cert.OddDyIdeal.nD,
      m' ((c.tc : Thread Cert.OddDyRefIdeal.nD Cert.OddDyRefIdeal.τ).loc Cert.OddDyRefIdeal.main_arg0) = m ((c.tc : Thread Cert.OddDyIdeal.nD Cert.OddDyIdeal.τ).loc Cert.OddDyIdeal.main_arg0)
      ∧ m' ((c.tc : Thread Cert.OddDyRefIdeal.nD Cert.OddDyRefIdeal.τ).loc Cert.OddDyRefIdeal.main_arg1) = m ((c.tc : Thread Cert.OddDyIdeal.nD Cert.OddDyIdeal.τ).loc Cert.OddDyIdeal.main_arg1)) →
    ∃ (v0 : (c : Dev Cert.OddDyIdeal.nD) → Buf (Elt Ideal) ((c.tc : Thread Cert.OddDyIdeal.nD Cert.OddDyIdeal.τ).loc Cert.OddDyIdeal.main_v3)),
      θ_run (Cert.OddDyIdeal.defs (F := Ideal)) (onTc (τ := Cert.OddDyIdeal.τ) (Cert.OddDyIdeal.main (F := Ideal))) ⟨m, fun _ => 0, g⟩ (fun r => ∀ c : Dev Cert.OddDyIdeal.nD,
          r.2.mem ((c.tc : Thread Cert.OddDyIdeal.nD Cert.OddDyIdeal.τ).loc Cert.OddDyIdeal.main_v3) = v0 c
          ∧ r.2.mem ((c.tc : Thread Cert.OddDyIdeal.nD Cert.OddDyIdeal.τ).loc Cert.OddDyIdeal.main_arg0) = m ((c.tc : Thread Cert.OddDyIdeal.nD Cert.OddDyIdeal.τ).loc Cert.OddDyIdeal.main_arg0)
          ∧ r.2.mem ((c.tc : Thread Cert.OddDyIdeal.nD Cert.OddDyIdeal.τ).loc Cert.OddDyIdeal.main_arg1) = m ((c.tc : Thread Cert.OddDyIdeal.nD Cert.OddDyIdeal.τ).loc Cert.OddDyIdeal.main_arg1))
      ∧ θ_run (Cert.OddDyRefIdeal.defs (F := Ideal)) (onTc (τ := Cert.OddDyRefIdeal.τ) (Cert.OddDyRefIdeal.main (F := Ideal))) ⟨m', fun _ => 0, g'⟩ (fun r => ∀ c : Dev Cert.OddDyRefIdeal.nD,
          r.2.mem ((c.tc : Thread Cert.OddDyRefIdeal.nD Cert.OddDyRefIdeal.τ).loc Cert.OddDyRefIdeal.main_v2) = v0 c
          ∧ r.2.mem ((c.tc : Thread Cert.OddDyRefIdeal.nD Cert.OddDyRefIdeal.τ).loc Cert.OddDyRefIdeal.main_arg0) = m' ((c.tc : Thread Cert.OddDyRefIdeal.nD Cert.OddDyRefIdeal.τ).loc Cert.OddDyRefIdeal.main_arg0)
          ∧ r.2.mem ((c.tc : Thread Cert.OddDyRefIdeal.nD Cert.OddDyRefIdeal.τ).loc Cert.OddDyRefIdeal.main_arg1) = m' ((c.tc : Thread Cert.OddDyRefIdeal.nD Cert.OddDyRefIdeal.τ).loc Cert.OddDyRefIdeal.main_arg1))

def preserves_MlaUq_MlaUqIdeal : Prop :=
  True

def algebraic_MlaUqIdeal_MlaUqRefIdeal [hMlaUqIdeal : Cert.MlaUqIdeal.Facts] [hMlaUqRefIdeal : Cert.MlaUqRefIdeal.Facts] : Prop :=
  ∀ (m : (ℓ : Loc Cert.MlaUqIdeal.nD Cert.MlaUqIdeal.τ Cert.MlaUqIdeal.sig) → Buf (Elt Ideal) ℓ) (g : Dev Cert.MlaUqIdeal.nD → PrngReg)
    (m' : (ℓ : Loc Cert.MlaUqRefIdeal.nD Cert.MlaUqRefIdeal.τ Cert.MlaUqRefIdeal.sig) → Buf (Elt Ideal) ℓ) (g' : Dev Cert.MlaUqRefIdeal.nD → PrngReg), Pre_MlaUqIdeal m →
    (∀ c : Dev Cert.MlaUqIdeal.nD,
      m' ((c.tc : Thread Cert.MlaUqRefIdeal.nD Cert.MlaUqRefIdeal.τ).loc Cert.MlaUqRefIdeal.main_arg0) = m ((c.tc : Thread Cert.MlaUqIdeal.nD Cert.MlaUqIdeal.τ).loc Cert.MlaUqIdeal.main_arg0)
      ∧ m' ((c.tc : Thread Cert.MlaUqRefIdeal.nD Cert.MlaUqRefIdeal.τ).loc Cert.MlaUqRefIdeal.main_arg1) = m ((c.tc : Thread Cert.MlaUqIdeal.nD Cert.MlaUqIdeal.τ).loc Cert.MlaUqIdeal.main_arg1)) →
    ∃ (v0 : (c : Dev Cert.MlaUqIdeal.nD) → Buf (Elt Ideal) ((c.tc : Thread Cert.MlaUqIdeal.nD Cert.MlaUqIdeal.τ).loc Cert.MlaUqIdeal.main_v2)),
      θ_run (Cert.MlaUqIdeal.defs (F := Ideal)) (onTc (τ := Cert.MlaUqIdeal.τ) (Cert.MlaUqIdeal.main (F := Ideal))) ⟨m, fun _ => 0, g⟩ (fun r => ∀ c : Dev Cert.MlaUqIdeal.nD,
          r.2.mem ((c.tc : Thread Cert.MlaUqIdeal.nD Cert.MlaUqIdeal.τ).loc Cert.MlaUqIdeal.main_v2) = v0 c
          ∧ r.2.mem ((c.tc : Thread Cert.MlaUqIdeal.nD Cert.MlaUqIdeal.τ).loc Cert.MlaUqIdeal.main_arg0) = m ((c.tc : Thread Cert.MlaUqIdeal.nD Cert.MlaUqIdeal.τ).loc Cert.MlaUqIdeal.main_arg0)
          ∧ r.2.mem ((c.tc : Thread Cert.MlaUqIdeal.nD Cert.MlaUqIdeal.τ).loc Cert.MlaUqIdeal.main_arg1) = m ((c.tc : Thread Cert.MlaUqIdeal.nD Cert.MlaUqIdeal.τ).loc Cert.MlaUqIdeal.main_arg1))
      ∧ θ_run (Cert.MlaUqRefIdeal.defs (F := Ideal)) (onTc (τ := Cert.MlaUqRefIdeal.τ) (Cert.MlaUqRefIdeal.main (F := Ideal))) ⟨m', fun _ => 0, g'⟩ (fun r => ∀ c : Dev Cert.MlaUqRefIdeal.nD,
          r.2.mem ((c.tc : Thread Cert.MlaUqRefIdeal.nD Cert.MlaUqRefIdeal.τ).loc Cert.MlaUqRefIdeal.main_v1) = v0 c
          ∧ r.2.mem ((c.tc : Thread Cert.MlaUqRefIdeal.nD Cert.MlaUqRefIdeal.τ).loc Cert.MlaUqRefIdeal.main_arg0) = m' ((c.tc : Thread Cert.MlaUqRefIdeal.nD Cert.MlaUqRefIdeal.τ).loc Cert.MlaUqRefIdeal.main_arg0)
          ∧ r.2.mem ((c.tc : Thread Cert.MlaUqRefIdeal.nD Cert.MlaUqRefIdeal.τ).loc Cert.MlaUqRefIdeal.main_arg1) = m' ((c.tc : Thread Cert.MlaUqRefIdeal.nD Cert.MlaUqRefIdeal.τ).loc Cert.MlaUqRefIdeal.main_arg1))

def preserves_MlaUkv_MlaUkvIdeal : Prop :=
  True

def algebraic_MlaUkvIdeal_MlaUkvRefIdeal [hMlaUkvIdeal : Cert.MlaUkvIdeal.Facts] [hMlaUkvRefIdeal : Cert.MlaUkvRefIdeal.Facts] : Prop :=
  ∀ (m : (ℓ : Loc Cert.MlaUkvIdeal.nD Cert.MlaUkvIdeal.τ Cert.MlaUkvIdeal.sig) → Buf (Elt Ideal) ℓ) (g : Dev Cert.MlaUkvIdeal.nD → PrngReg)
    (m' : (ℓ : Loc Cert.MlaUkvRefIdeal.nD Cert.MlaUkvRefIdeal.τ Cert.MlaUkvRefIdeal.sig) → Buf (Elt Ideal) ℓ) (g' : Dev Cert.MlaUkvRefIdeal.nD → PrngReg), Pre_MlaUkvIdeal m →
    (∀ c : Dev Cert.MlaUkvIdeal.nD,
      m' ((c.tc : Thread Cert.MlaUkvRefIdeal.nD Cert.MlaUkvRefIdeal.τ).loc Cert.MlaUkvRefIdeal.main_arg0) = m ((c.tc : Thread Cert.MlaUkvIdeal.nD Cert.MlaUkvIdeal.τ).loc Cert.MlaUkvIdeal.main_arg0)
      ∧ m' ((c.tc : Thread Cert.MlaUkvRefIdeal.nD Cert.MlaUkvRefIdeal.τ).loc Cert.MlaUkvRefIdeal.main_arg1) = m ((c.tc : Thread Cert.MlaUkvIdeal.nD Cert.MlaUkvIdeal.τ).loc Cert.MlaUkvIdeal.main_arg1)) →
    ∃ (v0 : (c : Dev Cert.MlaUkvIdeal.nD) → Buf (Elt Ideal) ((c.tc : Thread Cert.MlaUkvIdeal.nD Cert.MlaUkvIdeal.τ).loc Cert.MlaUkvIdeal.main_v2)),
      θ_run (Cert.MlaUkvIdeal.defs (F := Ideal)) (onTc (τ := Cert.MlaUkvIdeal.τ) (Cert.MlaUkvIdeal.main (F := Ideal))) ⟨m, fun _ => 0, g⟩ (fun r => ∀ c : Dev Cert.MlaUkvIdeal.nD,
          r.2.mem ((c.tc : Thread Cert.MlaUkvIdeal.nD Cert.MlaUkvIdeal.τ).loc Cert.MlaUkvIdeal.main_v2) = v0 c
          ∧ r.2.mem ((c.tc : Thread Cert.MlaUkvIdeal.nD Cert.MlaUkvIdeal.τ).loc Cert.MlaUkvIdeal.main_arg0) = m ((c.tc : Thread Cert.MlaUkvIdeal.nD Cert.MlaUkvIdeal.τ).loc Cert.MlaUkvIdeal.main_arg0)
          ∧ r.2.mem ((c.tc : Thread Cert.MlaUkvIdeal.nD Cert.MlaUkvIdeal.τ).loc Cert.MlaUkvIdeal.main_arg1) = m ((c.tc : Thread Cert.MlaUkvIdeal.nD Cert.MlaUkvIdeal.τ).loc Cert.MlaUkvIdeal.main_arg1))
      ∧ θ_run (Cert.MlaUkvRefIdeal.defs (F := Ideal)) (onTc (τ := Cert.MlaUkvRefIdeal.τ) (Cert.MlaUkvRefIdeal.main (F := Ideal))) ⟨m', fun _ => 0, g'⟩ (fun r => ∀ c : Dev Cert.MlaUkvRefIdeal.nD,
          r.2.mem ((c.tc : Thread Cert.MlaUkvRefIdeal.nD Cert.MlaUkvRefIdeal.τ).loc Cert.MlaUkvRefIdeal.main_v1) = v0 c
          ∧ r.2.mem ((c.tc : Thread Cert.MlaUkvRefIdeal.nD Cert.MlaUkvRefIdeal.τ).loc Cert.MlaUkvRefIdeal.main_arg0) = m' ((c.tc : Thread Cert.MlaUkvRefIdeal.nD Cert.MlaUkvRefIdeal.τ).loc Cert.MlaUkvRefIdeal.main_arg0)
          ∧ r.2.mem ((c.tc : Thread Cert.MlaUkvRefIdeal.nD Cert.MlaUkvRefIdeal.τ).loc Cert.MlaUkvRefIdeal.main_arg1) = m' ((c.tc : Thread Cert.MlaUkvRefIdeal.nD Cert.MlaUkvRefIdeal.τ).loc Cert.MlaUkvRefIdeal.main_arg1))

def preserves_MlaDwuq_MlaDwuqIdeal : Prop :=
  True

def algebraic_MlaDwuqIdeal_MlaDwuqRefIdeal [hMlaDwuqIdeal : Cert.MlaDwuqIdeal.Facts] [hMlaDwuqRefIdeal : Cert.MlaDwuqRefIdeal.Facts] : Prop :=
  ∀ (m : (ℓ : Loc Cert.MlaDwuqIdeal.nD Cert.MlaDwuqIdeal.τ Cert.MlaDwuqIdeal.sig) → Buf (Elt Ideal) ℓ) (g : Dev Cert.MlaDwuqIdeal.nD → PrngReg)
    (m' : (ℓ : Loc Cert.MlaDwuqRefIdeal.nD Cert.MlaDwuqRefIdeal.τ Cert.MlaDwuqRefIdeal.sig) → Buf (Elt Ideal) ℓ) (g' : Dev Cert.MlaDwuqRefIdeal.nD → PrngReg), Pre_MlaDwuqIdeal m →
    (∀ c : Dev Cert.MlaDwuqIdeal.nD,
      m' ((c.tc : Thread Cert.MlaDwuqRefIdeal.nD Cert.MlaDwuqRefIdeal.τ).loc Cert.MlaDwuqRefIdeal.main_arg0) = m ((c.tc : Thread Cert.MlaDwuqIdeal.nD Cert.MlaDwuqIdeal.τ).loc Cert.MlaDwuqIdeal.main_arg0)
      ∧ m' ((c.tc : Thread Cert.MlaDwuqRefIdeal.nD Cert.MlaDwuqRefIdeal.τ).loc Cert.MlaDwuqRefIdeal.main_arg1) = m ((c.tc : Thread Cert.MlaDwuqIdeal.nD Cert.MlaDwuqIdeal.τ).loc Cert.MlaDwuqIdeal.main_arg1)) →
    ∃ (v0 : (c : Dev Cert.MlaDwuqIdeal.nD) → Buf (Elt Ideal) ((c.tc : Thread Cert.MlaDwuqIdeal.nD Cert.MlaDwuqIdeal.τ).loc Cert.MlaDwuqIdeal.main_v2)),
      θ_run (Cert.MlaDwuqIdeal.defs (F := Ideal)) (onTc (τ := Cert.MlaDwuqIdeal.τ) (Cert.MlaDwuqIdeal.main (F := Ideal))) ⟨m, fun _ => 0, g⟩ (fun r => ∀ c : Dev Cert.MlaDwuqIdeal.nD,
          r.2.mem ((c.tc : Thread Cert.MlaDwuqIdeal.nD Cert.MlaDwuqIdeal.τ).loc Cert.MlaDwuqIdeal.main_v2) = v0 c
          ∧ r.2.mem ((c.tc : Thread Cert.MlaDwuqIdeal.nD Cert.MlaDwuqIdeal.τ).loc Cert.MlaDwuqIdeal.main_arg0) = m ((c.tc : Thread Cert.MlaDwuqIdeal.nD Cert.MlaDwuqIdeal.τ).loc Cert.MlaDwuqIdeal.main_arg0)
          ∧ r.2.mem ((c.tc : Thread Cert.MlaDwuqIdeal.nD Cert.MlaDwuqIdeal.τ).loc Cert.MlaDwuqIdeal.main_arg1) = m ((c.tc : Thread Cert.MlaDwuqIdeal.nD Cert.MlaDwuqIdeal.τ).loc Cert.MlaDwuqIdeal.main_arg1))
      ∧ θ_run (Cert.MlaDwuqRefIdeal.defs (F := Ideal)) (onTc (τ := Cert.MlaDwuqRefIdeal.τ) (Cert.MlaDwuqRefIdeal.main (F := Ideal))) ⟨m', fun _ => 0, g'⟩ (fun r => ∀ c : Dev Cert.MlaDwuqRefIdeal.nD,
          r.2.mem ((c.tc : Thread Cert.MlaDwuqRefIdeal.nD Cert.MlaDwuqRefIdeal.τ).loc Cert.MlaDwuqRefIdeal.main_v6) = v0 c
          ∧ r.2.mem ((c.tc : Thread Cert.MlaDwuqRefIdeal.nD Cert.MlaDwuqRefIdeal.τ).loc Cert.MlaDwuqRefIdeal.main_arg0) = m' ((c.tc : Thread Cert.MlaDwuqRefIdeal.nD Cert.MlaDwuqRefIdeal.τ).loc Cert.MlaDwuqRefIdeal.main_arg0)
          ∧ r.2.mem ((c.tc : Thread Cert.MlaDwuqRefIdeal.nD Cert.MlaDwuqRefIdeal.τ).loc Cert.MlaDwuqRefIdeal.main_arg1) = m' ((c.tc : Thread Cert.MlaDwuqRefIdeal.nD Cert.MlaDwuqRefIdeal.τ).loc Cert.MlaDwuqRefIdeal.main_arg1))

def preserves_MlaDwukv_MlaDwukvIdeal : Prop :=
  True

def algebraic_MlaDwukvIdeal_MlaDwukvRefIdeal [hMlaDwukvIdeal : Cert.MlaDwukvIdeal.Facts] [hMlaDwukvRefIdeal : Cert.MlaDwukvRefIdeal.Facts] : Prop :=
  ∀ (m : (ℓ : Loc Cert.MlaDwukvIdeal.nD Cert.MlaDwukvIdeal.τ Cert.MlaDwukvIdeal.sig) → Buf (Elt Ideal) ℓ) (g : Dev Cert.MlaDwukvIdeal.nD → PrngReg)
    (m' : (ℓ : Loc Cert.MlaDwukvRefIdeal.nD Cert.MlaDwukvRefIdeal.τ Cert.MlaDwukvRefIdeal.sig) → Buf (Elt Ideal) ℓ) (g' : Dev Cert.MlaDwukvRefIdeal.nD → PrngReg), Pre_MlaDwukvIdeal m →
    (∀ c : Dev Cert.MlaDwukvIdeal.nD,
      m' ((c.tc : Thread Cert.MlaDwukvRefIdeal.nD Cert.MlaDwukvRefIdeal.τ).loc Cert.MlaDwukvRefIdeal.main_arg0) = m ((c.tc : Thread Cert.MlaDwukvIdeal.nD Cert.MlaDwukvIdeal.τ).loc Cert.MlaDwukvIdeal.main_arg0)
      ∧ m' ((c.tc : Thread Cert.MlaDwukvRefIdeal.nD Cert.MlaDwukvRefIdeal.τ).loc Cert.MlaDwukvRefIdeal.main_arg1) = m ((c.tc : Thread Cert.MlaDwukvIdeal.nD Cert.MlaDwukvIdeal.τ).loc Cert.MlaDwukvIdeal.main_arg1)) →
    ∃ (v0 : (c : Dev Cert.MlaDwukvIdeal.nD) → Buf (Elt Ideal) ((c.tc : Thread Cert.MlaDwukvIdeal.nD Cert.MlaDwukvIdeal.τ).loc Cert.MlaDwukvIdeal.main_v2)),
      θ_run (Cert.MlaDwukvIdeal.defs (F := Ideal)) (onTc (τ := Cert.MlaDwukvIdeal.τ) (Cert.MlaDwukvIdeal.main (F := Ideal))) ⟨m, fun _ => 0, g⟩ (fun r => ∀ c : Dev Cert.MlaDwukvIdeal.nD,
          r.2.mem ((c.tc : Thread Cert.MlaDwukvIdeal.nD Cert.MlaDwukvIdeal.τ).loc Cert.MlaDwukvIdeal.main_v2) = v0 c
          ∧ r.2.mem ((c.tc : Thread Cert.MlaDwukvIdeal.nD Cert.MlaDwukvIdeal.τ).loc Cert.MlaDwukvIdeal.main_arg0) = m ((c.tc : Thread Cert.MlaDwukvIdeal.nD Cert.MlaDwukvIdeal.τ).loc Cert.MlaDwukvIdeal.main_arg0)
          ∧ r.2.mem ((c.tc : Thread Cert.MlaDwukvIdeal.nD Cert.MlaDwukvIdeal.τ).loc Cert.MlaDwukvIdeal.main_arg1) = m ((c.tc : Thread Cert.MlaDwukvIdeal.nD Cert.MlaDwukvIdeal.τ).loc Cert.MlaDwukvIdeal.main_arg1))
      ∧ θ_run (Cert.MlaDwukvRefIdeal.defs (F := Ideal)) (onTc (τ := Cert.MlaDwukvRefIdeal.τ) (Cert.MlaDwukvRefIdeal.main (F := Ideal))) ⟨m', fun _ => 0, g'⟩ (fun r => ∀ c : Dev Cert.MlaDwukvRefIdeal.nD,
          r.2.mem ((c.tc : Thread Cert.MlaDwukvRefIdeal.nD Cert.MlaDwukvRefIdeal.τ).loc Cert.MlaDwukvRefIdeal.main_v6) = v0 c
          ∧ r.2.mem ((c.tc : Thread Cert.MlaDwukvRefIdeal.nD Cert.MlaDwukvRefIdeal.τ).loc Cert.MlaDwukvRefIdeal.main_arg0) = m' ((c.tc : Thread Cert.MlaDwukvRefIdeal.nD Cert.MlaDwukvRefIdeal.τ).loc Cert.MlaDwukvRefIdeal.main_arg0)
          ∧ r.2.mem ((c.tc : Thread Cert.MlaDwukvRefIdeal.nD Cert.MlaDwukvRefIdeal.τ).loc Cert.MlaDwukvRefIdeal.main_arg1) = m' ((c.tc : Thread Cert.MlaDwukvRefIdeal.nD Cert.MlaDwukvRefIdeal.τ).loc Cert.MlaDwukvRefIdeal.main_arg1))

def preserves_MlaDcq_MlaDcqIdeal : Prop :=
  True

def algebraic_MlaDcqIdeal_MlaDcqRefIdeal [hMlaDcqIdeal : Cert.MlaDcqIdeal.Facts] [hMlaDcqRefIdeal : Cert.MlaDcqRefIdeal.Facts] : Prop :=
  ∀ (m : (ℓ : Loc Cert.MlaDcqIdeal.nD Cert.MlaDcqIdeal.τ Cert.MlaDcqIdeal.sig) → Buf (Elt Ideal) ℓ) (g : Dev Cert.MlaDcqIdeal.nD → PrngReg)
    (m' : (ℓ : Loc Cert.MlaDcqRefIdeal.nD Cert.MlaDcqRefIdeal.τ Cert.MlaDcqRefIdeal.sig) → Buf (Elt Ideal) ℓ) (g' : Dev Cert.MlaDcqRefIdeal.nD → PrngReg), Pre_MlaDcqIdeal m →
    (∀ c : Dev Cert.MlaDcqIdeal.nD,
      m' ((c.tc : Thread Cert.MlaDcqRefIdeal.nD Cert.MlaDcqRefIdeal.τ).loc Cert.MlaDcqRefIdeal.main_arg0) = m ((c.tc : Thread Cert.MlaDcqIdeal.nD Cert.MlaDcqIdeal.τ).loc Cert.MlaDcqIdeal.main_arg0)
      ∧ m' ((c.tc : Thread Cert.MlaDcqRefIdeal.nD Cert.MlaDcqRefIdeal.τ).loc Cert.MlaDcqRefIdeal.main_arg1) = m ((c.tc : Thread Cert.MlaDcqIdeal.nD Cert.MlaDcqIdeal.τ).loc Cert.MlaDcqIdeal.main_arg1)) →
    ∃ (v0 : (c : Dev Cert.MlaDcqIdeal.nD) → Buf (Elt Ideal) ((c.tc : Thread Cert.MlaDcqIdeal.nD Cert.MlaDcqIdeal.τ).loc Cert.MlaDcqIdeal.main_v2)),
      θ_run (Cert.MlaDcqIdeal.defs (F := Ideal)) (onTc (τ := Cert.MlaDcqIdeal.τ) (Cert.MlaDcqIdeal.main (F := Ideal))) ⟨m, fun _ => 0, g⟩ (fun r => ∀ c : Dev Cert.MlaDcqIdeal.nD,
          r.2.mem ((c.tc : Thread Cert.MlaDcqIdeal.nD Cert.MlaDcqIdeal.τ).loc Cert.MlaDcqIdeal.main_v2) = v0 c
          ∧ r.2.mem ((c.tc : Thread Cert.MlaDcqIdeal.nD Cert.MlaDcqIdeal.τ).loc Cert.MlaDcqIdeal.main_arg0) = m ((c.tc : Thread Cert.MlaDcqIdeal.nD Cert.MlaDcqIdeal.τ).loc Cert.MlaDcqIdeal.main_arg0)
          ∧ r.2.mem ((c.tc : Thread Cert.MlaDcqIdeal.nD Cert.MlaDcqIdeal.τ).loc Cert.MlaDcqIdeal.main_arg1) = m ((c.tc : Thread Cert.MlaDcqIdeal.nD Cert.MlaDcqIdeal.τ).loc Cert.MlaDcqIdeal.main_arg1))
      ∧ θ_run (Cert.MlaDcqRefIdeal.defs (F := Ideal)) (onTc (τ := Cert.MlaDcqRefIdeal.τ) (Cert.MlaDcqRefIdeal.main (F := Ideal))) ⟨m', fun _ => 0, g'⟩ (fun r => ∀ c : Dev Cert.MlaDcqRefIdeal.nD,
          r.2.mem ((c.tc : Thread Cert.MlaDcqRefIdeal.nD Cert.MlaDcqRefIdeal.τ).loc Cert.MlaDcqRefIdeal.main_v4) = v0 c
          ∧ r.2.mem ((c.tc : Thread Cert.MlaDcqRefIdeal.nD Cert.MlaDcqRefIdeal.τ).loc Cert.MlaDcqRefIdeal.main_arg0) = m' ((c.tc : Thread Cert.MlaDcqRefIdeal.nD Cert.MlaDcqRefIdeal.τ).loc Cert.MlaDcqRefIdeal.main_arg0)
          ∧ r.2.mem ((c.tc : Thread Cert.MlaDcqRefIdeal.nD Cert.MlaDcqRefIdeal.τ).loc Cert.MlaDcqRefIdeal.main_arg1) = m' ((c.tc : Thread Cert.MlaDcqRefIdeal.nD Cert.MlaDcqRefIdeal.τ).loc Cert.MlaDcqRefIdeal.main_arg1))

def preserves_MlaDckv_MlaDckvIdeal : Prop :=
  True

def algebraic_MlaDckvIdeal_MlaDckvRefIdeal [hMlaDckvIdeal : Cert.MlaDckvIdeal.Facts] [hMlaDckvRefIdeal : Cert.MlaDckvRefIdeal.Facts] : Prop :=
  ∀ (m : (ℓ : Loc Cert.MlaDckvIdeal.nD Cert.MlaDckvIdeal.τ Cert.MlaDckvIdeal.sig) → Buf (Elt Ideal) ℓ) (g : Dev Cert.MlaDckvIdeal.nD → PrngReg)
    (m' : (ℓ : Loc Cert.MlaDckvRefIdeal.nD Cert.MlaDckvRefIdeal.τ Cert.MlaDckvRefIdeal.sig) → Buf (Elt Ideal) ℓ) (g' : Dev Cert.MlaDckvRefIdeal.nD → PrngReg), Pre_MlaDckvIdeal m →
    (∀ c : Dev Cert.MlaDckvIdeal.nD,
      m' ((c.tc : Thread Cert.MlaDckvRefIdeal.nD Cert.MlaDckvRefIdeal.τ).loc Cert.MlaDckvRefIdeal.main_arg0) = m ((c.tc : Thread Cert.MlaDckvIdeal.nD Cert.MlaDckvIdeal.τ).loc Cert.MlaDckvIdeal.main_arg0)
      ∧ m' ((c.tc : Thread Cert.MlaDckvRefIdeal.nD Cert.MlaDckvRefIdeal.τ).loc Cert.MlaDckvRefIdeal.main_arg1) = m ((c.tc : Thread Cert.MlaDckvIdeal.nD Cert.MlaDckvIdeal.τ).loc Cert.MlaDckvIdeal.main_arg1)) →
    ∃ (v0 : (c : Dev Cert.MlaDckvIdeal.nD) → Buf (Elt Ideal) ((c.tc : Thread Cert.MlaDckvIdeal.nD Cert.MlaDckvIdeal.τ).loc Cert.MlaDckvIdeal.main_v2)),
      θ_run (Cert.MlaDckvIdeal.defs (F := Ideal)) (onTc (τ := Cert.MlaDckvIdeal.τ) (Cert.MlaDckvIdeal.main (F := Ideal))) ⟨m, fun _ => 0, g⟩ (fun r => ∀ c : Dev Cert.MlaDckvIdeal.nD,
          r.2.mem ((c.tc : Thread Cert.MlaDckvIdeal.nD Cert.MlaDckvIdeal.τ).loc Cert.MlaDckvIdeal.main_v2) = v0 c
          ∧ r.2.mem ((c.tc : Thread Cert.MlaDckvIdeal.nD Cert.MlaDckvIdeal.τ).loc Cert.MlaDckvIdeal.main_arg0) = m ((c.tc : Thread Cert.MlaDckvIdeal.nD Cert.MlaDckvIdeal.τ).loc Cert.MlaDckvIdeal.main_arg0)
          ∧ r.2.mem ((c.tc : Thread Cert.MlaDckvIdeal.nD Cert.MlaDckvIdeal.τ).loc Cert.MlaDckvIdeal.main_arg1) = m ((c.tc : Thread Cert.MlaDckvIdeal.nD Cert.MlaDckvIdeal.τ).loc Cert.MlaDckvIdeal.main_arg1))
      ∧ θ_run (Cert.MlaDckvRefIdeal.defs (F := Ideal)) (onTc (τ := Cert.MlaDckvRefIdeal.τ) (Cert.MlaDckvRefIdeal.main (F := Ideal))) ⟨m', fun _ => 0, g'⟩ (fun r => ∀ c : Dev Cert.MlaDckvRefIdeal.nD,
          r.2.mem ((c.tc : Thread Cert.MlaDckvRefIdeal.nD Cert.MlaDckvRefIdeal.τ).loc Cert.MlaDckvRefIdeal.main_v4) = v0 c
          ∧ r.2.mem ((c.tc : Thread Cert.MlaDckvRefIdeal.nD Cert.MlaDckvRefIdeal.τ).loc Cert.MlaDckvRefIdeal.main_arg0) = m' ((c.tc : Thread Cert.MlaDckvRefIdeal.nD Cert.MlaDckvRefIdeal.τ).loc Cert.MlaDckvRefIdeal.main_arg0)
          ∧ r.2.mem ((c.tc : Thread Cert.MlaDckvRefIdeal.nD Cert.MlaDckvRefIdeal.τ).loc Cert.MlaDckvRefIdeal.main_arg1) = m' ((c.tc : Thread Cert.MlaDckvRefIdeal.nD Cert.MlaDckvRefIdeal.τ).loc Cert.MlaDckvRefIdeal.main_arg1))

def preserves_StickFwd_StickFwdIdeal : Prop :=
  True

def algebraic_StickFwdIdeal_StickFwdRefIdeal_pre_finite_logits [hStickFwdIdeal : Cert.StickFwdIdeal.Facts] [hStickFwdRefIdeal : Cert.StickFwdRefIdeal.Facts] [hPre_finite_logits : Cert.Pre_finite_logits.Facts] : Prop :=
  ∀ (m : (ℓ : Loc Cert.StickFwdIdeal.nD Cert.StickFwdIdeal.τ Cert.StickFwdIdeal.sig) → Buf (Elt Ideal) ℓ) (g : Dev Cert.StickFwdIdeal.nD → PrngReg)
    (m' : (ℓ : Loc Cert.StickFwdRefIdeal.nD Cert.StickFwdRefIdeal.τ Cert.StickFwdRefIdeal.sig) → Buf (Elt Ideal) ℓ) (g' : Dev Cert.StickFwdRefIdeal.nD → PrngReg), Pre_StickFwdIdeal_finite_logits m →
    (∀ c : Dev Cert.StickFwdIdeal.nD,
      m' ((c.tc : Thread Cert.StickFwdRefIdeal.nD Cert.StickFwdRefIdeal.τ).loc Cert.StickFwdRefIdeal.main_arg0) = m ((c.tc : Thread Cert.StickFwdIdeal.nD Cert.StickFwdIdeal.τ).loc Cert.StickFwdIdeal.main_arg0)
      ∧ m' ((c.tc : Thread Cert.StickFwdRefIdeal.nD Cert.StickFwdRefIdeal.τ).loc Cert.StickFwdRefIdeal.main_arg1) = m ((c.tc : Thread Cert.StickFwdIdeal.nD Cert.StickFwdIdeal.τ).loc Cert.StickFwdIdeal.main_arg1)
      ∧ m' ((c.tc : Thread Cert.StickFwdRefIdeal.nD Cert.StickFwdRefIdeal.τ).loc Cert.StickFwdRefIdeal.main_arg2) = m ((c.tc : Thread Cert.StickFwdIdeal.nD Cert.StickFwdIdeal.τ).loc Cert.StickFwdIdeal.main_arg2)) →
    ∃ (v0 : (c : Dev Cert.StickFwdIdeal.nD) → Buf (Elt Ideal) ((c.tc : Thread Cert.StickFwdIdeal.nD Cert.StickFwdIdeal.τ).loc Cert.StickFwdIdeal.main_v5_0)) (v1 : (c : Dev Cert.StickFwdIdeal.nD) → Buf (Elt Ideal) ((c.tc : Thread Cert.StickFwdIdeal.nD Cert.StickFwdIdeal.τ).loc Cert.StickFwdIdeal.main_v5_1)),
      θ_run (Cert.StickFwdIdeal.defs (F := Ideal)) (onTc (τ := Cert.StickFwdIdeal.τ) (Cert.StickFwdIdeal.main (F := Ideal))) ⟨m, fun _ => 0, g⟩ (fun r => ∀ c : Dev Cert.StickFwdIdeal.nD,
          r.2.mem ((c.tc : Thread Cert.StickFwdIdeal.nD Cert.StickFwdIdeal.τ).loc Cert.StickFwdIdeal.main_v5_0) = v0 c
          ∧ r.2.mem ((c.tc : Thread Cert.StickFwdIdeal.nD Cert.StickFwdIdeal.τ).loc Cert.StickFwdIdeal.main_v5_1) = v1 c
          ∧ r.2.mem ((c.tc : Thread Cert.StickFwdIdeal.nD Cert.StickFwdIdeal.τ).loc Cert.StickFwdIdeal.main_arg0) = m ((c.tc : Thread Cert.StickFwdIdeal.nD Cert.StickFwdIdeal.τ).loc Cert.StickFwdIdeal.main_arg0)
          ∧ r.2.mem ((c.tc : Thread Cert.StickFwdIdeal.nD Cert.StickFwdIdeal.τ).loc Cert.StickFwdIdeal.main_arg1) = m ((c.tc : Thread Cert.StickFwdIdeal.nD Cert.StickFwdIdeal.τ).loc Cert.StickFwdIdeal.main_arg1)
          ∧ r.2.mem ((c.tc : Thread Cert.StickFwdIdeal.nD Cert.StickFwdIdeal.τ).loc Cert.StickFwdIdeal.main_arg2) = m ((c.tc : Thread Cert.StickFwdIdeal.nD Cert.StickFwdIdeal.τ).loc Cert.StickFwdIdeal.main_arg2))
      ∧ θ_run (Cert.StickFwdRefIdeal.defs (F := Ideal)) (onTc (τ := Cert.StickFwdRefIdeal.τ) (Cert.StickFwdRefIdeal.main (F := Ideal))) ⟨m', fun _ => 0, g'⟩ (fun r => ∀ c : Dev Cert.StickFwdRefIdeal.nD,
          r.2.mem ((c.tc : Thread Cert.StickFwdRefIdeal.nD Cert.StickFwdRefIdeal.τ).loc Cert.StickFwdRefIdeal.main_v21) = v0 c
          ∧ r.2.mem ((c.tc : Thread Cert.StickFwdRefIdeal.nD Cert.StickFwdRefIdeal.τ).loc Cert.StickFwdRefIdeal.main_v23) = v1 c
          ∧ r.2.mem ((c.tc : Thread Cert.StickFwdRefIdeal.nD Cert.StickFwdRefIdeal.τ).loc Cert.StickFwdRefIdeal.main_arg0) = m' ((c.tc : Thread Cert.StickFwdRefIdeal.nD Cert.StickFwdRefIdeal.τ).loc Cert.StickFwdRefIdeal.main_arg0)
          ∧ r.2.mem ((c.tc : Thread Cert.StickFwdRefIdeal.nD Cert.StickFwdRefIdeal.τ).loc Cert.StickFwdRefIdeal.main_arg1) = m' ((c.tc : Thread Cert.StickFwdRefIdeal.nD Cert.StickFwdRefIdeal.τ).loc Cert.StickFwdRefIdeal.main_arg1)
          ∧ r.2.mem ((c.tc : Thread Cert.StickFwdRefIdeal.nD Cert.StickFwdRefIdeal.τ).loc Cert.StickFwdRefIdeal.main_arg2) = m' ((c.tc : Thread Cert.StickFwdRefIdeal.nD Cert.StickFwdRefIdeal.τ).loc Cert.StickFwdRefIdeal.main_arg2))

def preserves_NormBwd_NormBwdIdeal : Prop :=
  True

def algebraic_NormBwdIdeal_NormBwdRefIdeal_pre_finite_rows [hNormBwdIdeal : Cert.NormBwdIdeal.Facts] [hNormBwdRefIdeal : Cert.NormBwdRefIdeal.Facts] [hPre_finite_rows : Cert.Pre_finite_rows.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal_finite_rows m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)) →
    ∃ (v0 : (c : Dev Cert.NormBwdIdeal.nD) → Buf (Elt Ideal) ((c.tc : Thread Cert.NormBwdIdeal.nD Cert.NormBwdIdeal.τ).loc Cert.NormBwdIdeal.main_v2_0)) (v1 : (c : Dev Cert.NormBwdIdeal.nD) → Buf (Elt Ideal) ((c.tc : Thread Cert.NormBwdIdeal.nD Cert.NormBwdIdeal.τ).loc Cert.NormBwdIdeal.main_v2_1)) (v2 : (c : Dev Cert.NormBwdIdeal.nD) → Buf (Elt Ideal) ((c.tc : Thread Cert.NormBwdIdeal.nD Cert.NormBwdIdeal.τ).loc Cert.NormBwdIdeal.main_v2_2)) (v3 : (c : Dev Cert.NormBwdIdeal.nD) → Buf (Elt Ideal) ((c.tc : Thread Cert.NormBwdIdeal.nD Cert.NormBwdIdeal.τ).loc Cert.NormBwdIdeal.main_v2_3)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v2_0) = v0 c
          ∧ r.2.mem ((c.tc : Thread Cert.NormBwdIdeal.nD Cert.NormBwdIdeal.τ).loc Cert.NormBwdIdeal.main_v2_1) = v1 c
          ∧ r.2.mem ((c.tc : Thread Cert.NormBwdIdeal.nD Cert.NormBwdIdeal.τ).loc Cert.NormBwdIdeal.main_v2_2) = v2 c
          ∧ r.2.mem ((c.tc : Thread Cert.NormBwdIdeal.nD Cert.NormBwdIdeal.τ).loc Cert.NormBwdIdeal.main_v2_3) = v3 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v57) = v0 c
          ∧ r.2.mem ((c.tc : Thread Cert.NormBwdRefIdeal.nD Cert.NormBwdRefIdeal.τ).loc Cert.NormBwdRefIdeal.main_v58) = v1 c
          ∧ r.2.mem ((c.tc : Thread Cert.NormBwdRefIdeal.nD Cert.NormBwdRefIdeal.τ).loc Cert.NormBwdRefIdeal.main_v59) = v2 c
          ∧ r.2.mem ((c.tc : Thread Cert.NormBwdRefIdeal.nD Cert.NormBwdRefIdeal.τ).loc Cert.NormBwdRefIdeal.main_v60) = v3 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)
      ∧ m' ((c.tc : Thread Cert.NormFwdRefIdeal.nD Cert.NormFwdRefIdeal.τ).loc Cert.NormFwdRefIdeal.main_arg2) = m ((c.tc : Thread Cert.NormFwdIdeal.nD Cert.NormFwdIdeal.τ).loc Cert.NormFwdIdeal.main_arg2)
      ∧ m' ((c.tc : Thread Cert.NormFwdRefIdeal.nD Cert.NormFwdRefIdeal.τ).loc Cert.NormFwdRefIdeal.main_arg3) = m ((c.tc : Thread Cert.NormFwdIdeal.nD Cert.NormFwdIdeal.τ).loc Cert.NormFwdIdeal.main_arg3)) →
    ∃ (v0 : (c : Dev Cert.NormFwdIdeal.nD) → Buf (Elt Ideal) ((c.tc : Thread Cert.NormFwdIdeal.nD Cert.NormFwdIdeal.τ).loc Cert.NormFwdIdeal.main_v2_0)) (v1 : (c : Dev Cert.NormFwdIdeal.nD) → Buf (Elt Ideal) ((c.tc : Thread Cert.NormFwdIdeal.nD Cert.NormFwdIdeal.τ).loc Cert.NormFwdIdeal.main_v2_1)) (v2 : (c : Dev Cert.NormFwdIdeal.nD) → Buf (Elt Ideal) ((c.tc : Thread Cert.NormFwdIdeal.nD Cert.NormFwdIdeal.τ).loc Cert.NormFwdIdeal.main_v2_2)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v2_0) = v0 c
          ∧ r.2.mem ((c.tc : Thread Cert.NormFwdIdeal.nD Cert.NormFwdIdeal.τ).loc Cert.NormFwdIdeal.main_v2_1) = v1 c
          ∧ r.2.mem ((c.tc : Thread Cert.NormFwdIdeal.nD Cert.NormFwdIdeal.τ).loc Cert.NormFwdIdeal.main_v2_2) = v2 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1)
          ∧ r.2.mem ((c.tc : Thread Cert.NormFwdIdeal.nD Cert.NormFwdIdeal.τ).loc Cert.NormFwdIdeal.main_arg2) = m ((c.tc : Thread Cert.NormFwdIdeal.nD Cert.NormFwdIdeal.τ).loc Cert.NormFwdIdeal.main_arg2)
          ∧ r.2.mem ((c.tc : Thread Cert.NormFwdIdeal.nD Cert.NormFwdIdeal.τ).loc Cert.NormFwdIdeal.main_arg3) = m ((c.tc : Thread Cert.NormFwdIdeal.nD Cert.NormFwdIdeal.τ).loc Cert.NormFwdIdeal.main_arg3))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v24) = v0 c
          ∧ r.2.mem ((c.tc : Thread Cert.NormFwdRefIdeal.nD Cert.NormFwdRefIdeal.τ).loc Cert.NormFwdRefIdeal.main_v25) = v1 c
          ∧ r.2.mem ((c.tc : Thread Cert.NormFwdRefIdeal.nD Cert.NormFwdRefIdeal.τ).loc Cert.NormFwdRefIdeal.main_v2) = v2 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1)
          ∧ r.2.mem ((c.tc : Thread Cert.NormFwdRefIdeal.nD Cert.NormFwdRefIdeal.τ).loc Cert.NormFwdRefIdeal.main_arg2) = m' ((c.tc : Thread Cert.NormFwdRefIdeal.nD Cert.NormFwdRefIdeal.τ).loc Cert.NormFwdRefIdeal.main_arg2)
          ∧ r.2.mem ((c.tc : Thread Cert.NormFwdRefIdeal.nD Cert.NormFwdRefIdeal.τ).loc Cert.NormFwdRefIdeal.main_arg3) = m' ((c.tc : Thread Cert.NormFwdRefIdeal.nD Cert.NormFwdRefIdeal.τ).loc Cert.NormFwdRefIdeal.main_arg3))

def preserves_QRms_QRmsIdeal : Prop :=
  True

def algebraic_QRmsIdeal_QRmsRefIdeal [hQRmsIdeal : Cert.QRmsIdeal.Facts] [hQRmsRefIdeal : Cert.QRmsRefIdeal.Facts] : Prop :=
  ∀ (m : (ℓ : Loc Cert.QRmsIdeal.nD Cert.QRmsIdeal.τ Cert.QRmsIdeal.sig) → Buf (Elt Ideal) ℓ) (g : Dev Cert.QRmsIdeal.nD → PrngReg)
    (m' : (ℓ : Loc Cert.QRmsRefIdeal.nD Cert.QRmsRefIdeal.τ Cert.QRmsRefIdeal.sig) → Buf (Elt Ideal) ℓ) (g' : Dev Cert.QRmsRefIdeal.nD → PrngReg), Pre_QRmsIdeal m →
    (∀ c : Dev Cert.QRmsIdeal.nD,
      m' ((c.tc : Thread Cert.QRmsRefIdeal.nD Cert.QRmsRefIdeal.τ).loc Cert.QRmsRefIdeal.main_arg0) = m ((c.tc : Thread Cert.QRmsIdeal.nD Cert.QRmsIdeal.τ).loc Cert.QRmsIdeal.main_arg0)
      ∧ m' ((c.tc : Thread Cert.QRmsRefIdeal.nD Cert.QRmsRefIdeal.τ).loc Cert.QRmsRefIdeal.main_arg1) = m ((c.tc : Thread Cert.QRmsIdeal.nD Cert.QRmsIdeal.τ).loc Cert.QRmsIdeal.main_arg1)) →
    ∃ (v0 : (c : Dev Cert.QRmsIdeal.nD) → Buf (Elt Ideal) ((c.tc : Thread Cert.QRmsIdeal.nD Cert.QRmsIdeal.τ).loc Cert.QRmsIdeal.main_v1_0)) (v1 : (c : Dev Cert.QRmsIdeal.nD) → Buf (Elt Ideal) ((c.tc : Thread Cert.QRmsIdeal.nD Cert.QRmsIdeal.τ).loc Cert.QRmsIdeal.main_v1_1)) (v2 : (c : Dev Cert.QRmsIdeal.nD) → Buf (Elt Ideal) ((c.tc : Thread Cert.QRmsIdeal.nD Cert.QRmsIdeal.τ).loc Cert.QRmsIdeal.main_v1_2)),
      θ_run (Cert.QRmsIdeal.defs (F := Ideal)) (onTc (τ := Cert.QRmsIdeal.τ) (Cert.QRmsIdeal.main (F := Ideal))) ⟨m, fun _ => 0, g⟩ (fun r => ∀ c : Dev Cert.QRmsIdeal.nD,
          r.2.mem ((c.tc : Thread Cert.QRmsIdeal.nD Cert.QRmsIdeal.τ).loc Cert.QRmsIdeal.main_v1_0) = v0 c
          ∧ r.2.mem ((c.tc : Thread Cert.QRmsIdeal.nD Cert.QRmsIdeal.τ).loc Cert.QRmsIdeal.main_v1_1) = v1 c
          ∧ r.2.mem ((c.tc : Thread Cert.QRmsIdeal.nD Cert.QRmsIdeal.τ).loc Cert.QRmsIdeal.main_v1_2) = v2 c
          ∧ r.2.mem ((c.tc : Thread Cert.QRmsIdeal.nD Cert.QRmsIdeal.τ).loc Cert.QRmsIdeal.main_arg0) = m ((c.tc : Thread Cert.QRmsIdeal.nD Cert.QRmsIdeal.τ).loc Cert.QRmsIdeal.main_arg0)
          ∧ r.2.mem ((c.tc : Thread Cert.QRmsIdeal.nD Cert.QRmsIdeal.τ).loc Cert.QRmsIdeal.main_arg1) = m ((c.tc : Thread Cert.QRmsIdeal.nD Cert.QRmsIdeal.τ).loc Cert.QRmsIdeal.main_arg1))
      ∧ θ_run (Cert.QRmsRefIdeal.defs (F := Ideal)) (onTc (τ := Cert.QRmsRefIdeal.τ) (Cert.QRmsRefIdeal.main (F := Ideal))) ⟨m', fun _ => 0, g'⟩ (fun r => ∀ c : Dev Cert.QRmsRefIdeal.nD,
          r.2.mem ((c.tc : Thread Cert.QRmsRefIdeal.nD Cert.QRmsRefIdeal.τ).loc Cert.QRmsRefIdeal.main_v12) = v0 c
          ∧ r.2.mem ((c.tc : Thread Cert.QRmsRefIdeal.nD Cert.QRmsRefIdeal.τ).loc Cert.QRmsRefIdeal.main_v13) = v1 c
          ∧ r.2.mem ((c.tc : Thread Cert.QRmsRefIdeal.nD Cert.QRmsRefIdeal.τ).loc Cert.QRmsRefIdeal.main_arg0) = v2 c
          ∧ r.2.mem ((c.tc : Thread Cert.QRmsRefIdeal.nD Cert.QRmsRefIdeal.τ).loc Cert.QRmsRefIdeal.main_arg0) = m' ((c.tc : Thread Cert.QRmsRefIdeal.nD Cert.QRmsRefIdeal.τ).loc Cert.QRmsRefIdeal.main_arg0)
          ∧ r.2.mem ((c.tc : Thread Cert.QRmsRefIdeal.nD Cert.QRmsRefIdeal.τ).loc Cert.QRmsRefIdeal.main_arg1) = m' ((c.tc : Thread Cert.QRmsRefIdeal.nD Cert.QRmsRefIdeal.τ).loc Cert.QRmsRefIdeal.main_arg1))

def preserves_KvRms_KvRmsIdeal : Prop :=
  True

def algebraic_KvRmsIdeal_KvRmsRefIdeal [hKvRmsIdeal : Cert.KvRmsIdeal.Facts] [hKvRmsRefIdeal : Cert.KvRmsRefIdeal.Facts] : Prop :=
  ∀ (m : (ℓ : Loc Cert.KvRmsIdeal.nD Cert.KvRmsIdeal.τ Cert.KvRmsIdeal.sig) → Buf (Elt Ideal) ℓ) (g : Dev Cert.KvRmsIdeal.nD → PrngReg)
    (m' : (ℓ : Loc Cert.KvRmsRefIdeal.nD Cert.KvRmsRefIdeal.τ Cert.KvRmsRefIdeal.sig) → Buf (Elt Ideal) ℓ) (g' : Dev Cert.KvRmsRefIdeal.nD → PrngReg), Pre_KvRmsIdeal m →
    (∀ c : Dev Cert.KvRmsIdeal.nD,
      m' ((c.tc : Thread Cert.KvRmsRefIdeal.nD Cert.KvRmsRefIdeal.τ).loc Cert.KvRmsRefIdeal.main_arg0) = m ((c.tc : Thread Cert.KvRmsIdeal.nD Cert.KvRmsIdeal.τ).loc Cert.KvRmsIdeal.main_arg0)
      ∧ m' ((c.tc : Thread Cert.KvRmsRefIdeal.nD Cert.KvRmsRefIdeal.τ).loc Cert.KvRmsRefIdeal.main_arg1) = m ((c.tc : Thread Cert.KvRmsIdeal.nD Cert.KvRmsIdeal.τ).loc Cert.KvRmsIdeal.main_arg1)) →
    ∃ (v0 : (c : Dev Cert.KvRmsIdeal.nD) → Buf (Elt Ideal) ((c.tc : Thread Cert.KvRmsIdeal.nD Cert.KvRmsIdeal.τ).loc Cert.KvRmsIdeal.main_v1_0)) (v1 : (c : Dev Cert.KvRmsIdeal.nD) → Buf (Elt Ideal) ((c.tc : Thread Cert.KvRmsIdeal.nD Cert.KvRmsIdeal.τ).loc Cert.KvRmsIdeal.main_v1_1)) (v2 : (c : Dev Cert.KvRmsIdeal.nD) → Buf (Elt Ideal) ((c.tc : Thread Cert.KvRmsIdeal.nD Cert.KvRmsIdeal.τ).loc Cert.KvRmsIdeal.main_v1_2)),
      θ_run (Cert.KvRmsIdeal.defs (F := Ideal)) (onTc (τ := Cert.KvRmsIdeal.τ) (Cert.KvRmsIdeal.main (F := Ideal))) ⟨m, fun _ => 0, g⟩ (fun r => ∀ c : Dev Cert.KvRmsIdeal.nD,
          r.2.mem ((c.tc : Thread Cert.KvRmsIdeal.nD Cert.KvRmsIdeal.τ).loc Cert.KvRmsIdeal.main_v1_0) = v0 c
          ∧ r.2.mem ((c.tc : Thread Cert.KvRmsIdeal.nD Cert.KvRmsIdeal.τ).loc Cert.KvRmsIdeal.main_v1_1) = v1 c
          ∧ r.2.mem ((c.tc : Thread Cert.KvRmsIdeal.nD Cert.KvRmsIdeal.τ).loc Cert.KvRmsIdeal.main_v1_2) = v2 c
          ∧ r.2.mem ((c.tc : Thread Cert.KvRmsIdeal.nD Cert.KvRmsIdeal.τ).loc Cert.KvRmsIdeal.main_arg0) = m ((c.tc : Thread Cert.KvRmsIdeal.nD Cert.KvRmsIdeal.τ).loc Cert.KvRmsIdeal.main_arg0)
          ∧ r.2.mem ((c.tc : Thread Cert.KvRmsIdeal.nD Cert.KvRmsIdeal.τ).loc Cert.KvRmsIdeal.main_arg1) = m ((c.tc : Thread Cert.KvRmsIdeal.nD Cert.KvRmsIdeal.τ).loc Cert.KvRmsIdeal.main_arg1))
      ∧ θ_run (Cert.KvRmsRefIdeal.defs (F := Ideal)) (onTc (τ := Cert.KvRmsRefIdeal.τ) (Cert.KvRmsRefIdeal.main (F := Ideal))) ⟨m', fun _ => 0, g'⟩ (fun r => ∀ c : Dev Cert.KvRmsRefIdeal.nD,
          r.2.mem ((c.tc : Thread Cert.KvRmsRefIdeal.nD Cert.KvRmsRefIdeal.τ).loc Cert.KvRmsRefIdeal.main_v12) = v0 c
          ∧ r.2.mem ((c.tc : Thread Cert.KvRmsRefIdeal.nD Cert.KvRmsRefIdeal.τ).loc Cert.KvRmsRefIdeal.main_v13) = v1 c
          ∧ r.2.mem ((c.tc : Thread Cert.KvRmsRefIdeal.nD Cert.KvRmsRefIdeal.τ).loc Cert.KvRmsRefIdeal.main_arg0) = v2 c
          ∧ r.2.mem ((c.tc : Thread Cert.KvRmsRefIdeal.nD Cert.KvRmsRefIdeal.τ).loc Cert.KvRmsRefIdeal.main_arg0) = m' ((c.tc : Thread Cert.KvRmsRefIdeal.nD Cert.KvRmsRefIdeal.τ).loc Cert.KvRmsRefIdeal.main_arg0)
          ∧ r.2.mem ((c.tc : Thread Cert.KvRmsRefIdeal.nD Cert.KvRmsRefIdeal.τ).loc Cert.KvRmsRefIdeal.main_arg1) = m' ((c.tc : Thread Cert.KvRmsRefIdeal.nD Cert.KvRmsRefIdeal.τ).loc Cert.KvRmsRefIdeal.main_arg1))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v14) = v0 c
          ∧ r.2.mem ((c.tc : Thread Cert.LossHeadRefIdeal.nD Cert.LossHeadRefIdeal.τ).loc Cert.LossHeadRefIdeal.main_v15) = v1 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1))

def preserves_AdamwNorm_AdamwNormIdeal : Prop :=
  IdealRules.named_const.Statement Cert.AdamwNormIdeal.κ "c1" .f32 0x3FC48605#32 ((8388608 / 5463681 : ℝ) : EReal)
  ∧ IdealRules.named_const.Statement Cert.AdamwNormIdeal.κ "c2" .f32 0x42C8E6D3#32 ((268435456 / 2672307 : ℝ) : EReal)

def algebraic_AdamwNormIdeal_AdamwNormRefIdeal [hAdamwNormIdeal : Cert.AdamwNormIdeal.Facts] [hAdamwNormRefIdeal : Cert.AdamwNormRefIdeal.Facts] : Prop :=
  ∀ (m : (ℓ : Loc Cert.AdamwNormIdeal.nD Cert.AdamwNormIdeal.τ Cert.AdamwNormIdeal.sig) → Buf (Elt Ideal) ℓ) (g : Dev Cert.AdamwNormIdeal.nD → PrngReg)
    (m' : (ℓ : Loc Cert.AdamwNormRefIdeal.nD Cert.AdamwNormRefIdeal.τ Cert.AdamwNormRefIdeal.sig) → Buf (Elt Ideal) ℓ) (g' : Dev Cert.AdamwNormRefIdeal.nD → PrngReg), Pre_AdamwNormIdeal m →
    (∀ c : Dev Cert.AdamwNormIdeal.nD,
      m' ((c.tc : Thread Cert.AdamwNormRefIdeal.nD Cert.AdamwNormRefIdeal.τ).loc Cert.AdamwNormRefIdeal.main_arg0) = m ((c.tc : Thread Cert.AdamwNormIdeal.nD Cert.AdamwNormIdeal.τ).loc Cert.AdamwNormIdeal.main_arg0)
      ∧ m' ((c.tc : Thread Cert.AdamwNormRefIdeal.nD Cert.AdamwNormRefIdeal.τ).loc Cert.AdamwNormRefIdeal.main_arg1) = m ((c.tc : Thread Cert.AdamwNormIdeal.nD Cert.AdamwNormIdeal.τ).loc Cert.AdamwNormIdeal.main_arg1)
      ∧ m' ((c.tc : Thread Cert.AdamwNormRefIdeal.nD Cert.AdamwNormRefIdeal.τ).loc Cert.AdamwNormRefIdeal.main_arg2) = m ((c.tc : Thread Cert.AdamwNormIdeal.nD Cert.AdamwNormIdeal.τ).loc Cert.AdamwNormIdeal.main_arg2)
      ∧ m' ((c.tc : Thread Cert.AdamwNormRefIdeal.nD Cert.AdamwNormRefIdeal.τ).loc Cert.AdamwNormRefIdeal.main_arg3) = m ((c.tc : Thread Cert.AdamwNormIdeal.nD Cert.AdamwNormIdeal.τ).loc Cert.AdamwNormIdeal.main_arg3)) →
    ∃ (v0 : (c : Dev Cert.AdamwNormIdeal.nD) → Buf (Elt Ideal) ((c.tc : Thread Cert.AdamwNormIdeal.nD Cert.AdamwNormIdeal.τ).loc Cert.AdamwNormIdeal.main_v0_0)) (v1 : (c : Dev Cert.AdamwNormIdeal.nD) → Buf (Elt Ideal) ((c.tc : Thread Cert.AdamwNormIdeal.nD Cert.AdamwNormIdeal.τ).loc Cert.AdamwNormIdeal.main_v0_1)) (v2 : (c : Dev Cert.AdamwNormIdeal.nD) → Buf (Elt Ideal) ((c.tc : Thread Cert.AdamwNormIdeal.nD Cert.AdamwNormIdeal.τ).loc Cert.AdamwNormIdeal.main_v0_2)) (v3 : (c : Dev Cert.AdamwNormIdeal.nD) → Buf (Elt Ideal) ((c.tc : Thread Cert.AdamwNormIdeal.nD Cert.AdamwNormIdeal.τ).loc Cert.AdamwNormIdeal.main_v0_3)),
      θ_run (Cert.AdamwNormIdeal.defs (F := Ideal)) (onTc (τ := Cert.AdamwNormIdeal.τ) (Cert.AdamwNormIdeal.main (F := Ideal))) ⟨m, fun _ => 0, g⟩ (fun r => ∀ c : Dev Cert.AdamwNormIdeal.nD,
          r.2.mem ((c.tc : Thread Cert.AdamwNormIdeal.nD Cert.AdamwNormIdeal.τ).loc Cert.AdamwNormIdeal.main_v0_0) = v0 c
          ∧ r.2.mem ((c.tc : Thread Cert.AdamwNormIdeal.nD Cert.AdamwNormIdeal.τ).loc Cert.AdamwNormIdeal.main_v0_1) = v1 c
          ∧ r.2.mem ((c.tc : Thread Cert.AdamwNormIdeal.nD Cert.AdamwNormIdeal.τ).loc Cert.AdamwNormIdeal.main_v0_2) = v2 c
          ∧ r.2.mem ((c.tc : Thread Cert.AdamwNormIdeal.nD Cert.AdamwNormIdeal.τ).loc Cert.AdamwNormIdeal.main_v0_3) = v3 c
          ∧ r.2.mem ((c.tc : Thread Cert.AdamwNormIdeal.nD Cert.AdamwNormIdeal.τ).loc Cert.AdamwNormIdeal.main_arg0) = m ((c.tc : Thread Cert.AdamwNormIdeal.nD Cert.AdamwNormIdeal.τ).loc Cert.AdamwNormIdeal.main_arg0)
          ∧ r.2.mem ((c.tc : Thread Cert.AdamwNormIdeal.nD Cert.AdamwNormIdeal.τ).loc Cert.AdamwNormIdeal.main_arg1) = m ((c.tc : Thread Cert.AdamwNormIdeal.nD Cert.AdamwNormIdeal.τ).loc Cert.AdamwNormIdeal.main_arg1)
          ∧ r.2.mem ((c.tc : Thread Cert.AdamwNormIdeal.nD Cert.AdamwNormIdeal.τ).loc Cert.AdamwNormIdeal.main_arg2) = m ((c.tc : Thread Cert.AdamwNormIdeal.nD Cert.AdamwNormIdeal.τ).loc Cert.AdamwNormIdeal.main_arg2)
          ∧ r.2.mem ((c.tc : Thread Cert.AdamwNormIdeal.nD Cert.AdamwNormIdeal.τ).loc Cert.AdamwNormIdeal.main_arg3) = m ((c.tc : Thread Cert.AdamwNormIdeal.nD Cert.AdamwNormIdeal.τ).loc Cert.AdamwNormIdeal.main_arg3))
      ∧ θ_run (Cert.AdamwNormRefIdeal.defs (F := Ideal)) (onTc (τ := Cert.AdamwNormRefIdeal.τ) (Cert.AdamwNormRefIdeal.main (F := Ideal))) ⟨m', fun _ => 0, g'⟩ (fun r => ∀ c : Dev Cert.AdamwNormRefIdeal.nD,
          r.2.mem ((c.tc : Thread Cert.AdamwNormRefIdeal.nD Cert.AdamwNormRefIdeal.τ).loc Cert.AdamwNormRefIdeal.main_v0) = v0 c
          ∧ r.2.mem ((c.tc : Thread Cert.AdamwNormRefIdeal.nD Cert.AdamwNormRefIdeal.τ).loc Cert.AdamwNormRefIdeal.main_v24) = v1 c
          ∧ r.2.mem ((c.tc : Thread Cert.AdamwNormRefIdeal.nD Cert.AdamwNormRefIdeal.τ).loc Cert.AdamwNormRefIdeal.main_v5) = v2 c
          ∧ r.2.mem ((c.tc : Thread Cert.AdamwNormRefIdeal.nD Cert.AdamwNormRefIdeal.τ).loc Cert.AdamwNormRefIdeal.main_v11) = v3 c
          ∧ r.2.mem ((c.tc : Thread Cert.AdamwNormRefIdeal.nD Cert.AdamwNormRefIdeal.τ).loc Cert.AdamwNormRefIdeal.main_arg0) = m' ((c.tc : Thread Cert.AdamwNormRefIdeal.nD Cert.AdamwNormRefIdeal.τ).loc Cert.AdamwNormRefIdeal.main_arg0)
          ∧ r.2.mem ((c.tc : Thread Cert.AdamwNormRefIdeal.nD Cert.AdamwNormRefIdeal.τ).loc Cert.AdamwNormRefIdeal.main_arg1) = m' ((c.tc : Thread Cert.AdamwNormRefIdeal.nD Cert.AdamwNormRefIdeal.τ).loc Cert.AdamwNormRefIdeal.main_arg1)
          ∧ r.2.mem ((c.tc : Thread Cert.AdamwNormRefIdeal.nD Cert.AdamwNormRefIdeal.τ).loc Cert.AdamwNormRefIdeal.main_arg2) = m' ((c.tc : Thread Cert.AdamwNormRefIdeal.nD Cert.AdamwNormRefIdeal.τ).loc Cert.AdamwNormRefIdeal.main_arg2)
          ∧ r.2.mem ((c.tc : Thread Cert.AdamwNormRefIdeal.nD Cert.AdamwNormRefIdeal.τ).loc Cert.AdamwNormRefIdeal.main_arg3) = m' ((c.tc : Thread Cert.AdamwNormRefIdeal.nD Cert.AdamwNormRefIdeal.τ).loc Cert.AdamwNormRefIdeal.main_arg3))

def preserves_AdamwUq_AdamwUqIdeal : Prop :=
  IdealRules.named_const.Statement Cert.AdamwUqIdeal.κ "c1" .f32 0x3FC48605#32 ((8388608 / 5463681 : ℝ) : EReal)
  ∧ IdealRules.named_const.Statement Cert.AdamwUqIdeal.κ "c2" .f32 0x42C8E6D3#32 ((268435456 / 2672307 : ℝ) : EReal)

def algebraic_AdamwUqIdeal_AdamwUqRefIdeal [hAdamwUqIdeal : Cert.AdamwUqIdeal.Facts] [hAdamwUqRefIdeal : Cert.AdamwUqRefIdeal.Facts] : Prop :=
  ∀ (m : (ℓ : Loc Cert.AdamwUqIdeal.nD Cert.AdamwUqIdeal.τ Cert.AdamwUqIdeal.sig) → Buf (Elt Ideal) ℓ) (g : Dev Cert.AdamwUqIdeal.nD → PrngReg)
    (m' : (ℓ : Loc Cert.AdamwUqRefIdeal.nD Cert.AdamwUqRefIdeal.τ Cert.AdamwUqRefIdeal.sig) → Buf (Elt Ideal) ℓ) (g' : Dev Cert.AdamwUqRefIdeal.nD → PrngReg), Pre_AdamwUqIdeal m →
    (∀ c : Dev Cert.AdamwUqIdeal.nD,
      m' ((c.tc : Thread Cert.AdamwUqRefIdeal.nD Cert.AdamwUqRefIdeal.τ).loc Cert.AdamwUqRefIdeal.main_arg0) = m ((c.tc : Thread Cert.AdamwUqIdeal.nD Cert.AdamwUqIdeal.τ).loc Cert.AdamwUqIdeal.main_arg0)
      ∧ m' ((c.tc : Thread Cert.AdamwUqRefIdeal.nD Cert.AdamwUqRefIdeal.τ).loc Cert.AdamwUqRefIdeal.main_arg1) = m ((c.tc : Thread Cert.AdamwUqIdeal.nD Cert.AdamwUqIdeal.τ).loc Cert.AdamwUqIdeal.main_arg1)
      ∧ m' ((c.tc : Thread Cert.AdamwUqRefIdeal.nD Cert.AdamwUqRefIdeal.τ).loc Cert.AdamwUqRefIdeal.main_arg2) = m ((c.tc : Thread Cert.AdamwUqIdeal.nD Cert.AdamwUqIdeal.τ).loc Cert.AdamwUqIdeal.main_arg2)
      ∧ m' ((c.tc : Thread Cert.AdamwUqRefIdeal.nD Cert.AdamwUqRefIdeal.τ).loc Cert.AdamwUqRefIdeal.main_arg3) = m ((c.tc : Thread Cert.AdamwUqIdeal.nD Cert.AdamwUqIdeal.τ).loc Cert.AdamwUqIdeal.main_arg3)) →
    ∃ (v0 : (c : Dev Cert.AdamwUqIdeal.nD) → Buf (Elt Ideal) ((c.tc : Thread Cert.AdamwUqIdeal.nD Cert.AdamwUqIdeal.τ).loc Cert.AdamwUqIdeal.main_v0_0)) (v1 : (c : Dev Cert.AdamwUqIdeal.nD) → Buf (Elt Ideal) ((c.tc : Thread Cert.AdamwUqIdeal.nD Cert.AdamwUqIdeal.τ).loc Cert.AdamwUqIdeal.main_v0_1)) (v2 : (c : Dev Cert.AdamwUqIdeal.nD) → Buf (Elt Ideal) ((c.tc : Thread Cert.AdamwUqIdeal.nD Cert.AdamwUqIdeal.τ).loc Cert.AdamwUqIdeal.main_v0_2)) (v3 : (c : Dev Cert.AdamwUqIdeal.nD) → Buf (Elt Ideal) ((c.tc : Thread Cert.AdamwUqIdeal.nD Cert.AdamwUqIdeal.τ).loc Cert.AdamwUqIdeal.main_v0_3)),
      θ_run (Cert.AdamwUqIdeal.defs (F := Ideal)) (onTc (τ := Cert.AdamwUqIdeal.τ) (Cert.AdamwUqIdeal.main (F := Ideal))) ⟨m, fun _ => 0, g⟩ (fun r => ∀ c : Dev Cert.AdamwUqIdeal.nD,
          r.2.mem ((c.tc : Thread Cert.AdamwUqIdeal.nD Cert.AdamwUqIdeal.τ).loc Cert.AdamwUqIdeal.main_v0_0) = v0 c
          ∧ r.2.mem ((c.tc : Thread Cert.AdamwUqIdeal.nD Cert.AdamwUqIdeal.τ).loc Cert.AdamwUqIdeal.main_v0_1) = v1 c
          ∧ r.2.mem ((c.tc : Thread Cert.AdamwUqIdeal.nD Cert.AdamwUqIdeal.τ).loc Cert.AdamwUqIdeal.main_v0_2) = v2 c
          ∧ r.2.mem ((c.tc : Thread Cert.AdamwUqIdeal.nD Cert.AdamwUqIdeal.τ).loc Cert.AdamwUqIdeal.main_v0_3) = v3 c
          ∧ r.2.mem ((c.tc : Thread Cert.AdamwUqIdeal.nD Cert.AdamwUqIdeal.τ).loc Cert.AdamwUqIdeal.main_arg0) = m ((c.tc : Thread Cert.AdamwUqIdeal.nD Cert.AdamwUqIdeal.τ).loc Cert.AdamwUqIdeal.main_arg0)
          ∧ r.2.mem ((c.tc : Thread Cert.AdamwUqIdeal.nD Cert.AdamwUqIdeal.τ).loc Cert.AdamwUqIdeal.main_arg1) = m ((c.tc : Thread Cert.AdamwUqIdeal.nD Cert.AdamwUqIdeal.τ).loc Cert.AdamwUqIdeal.main_arg1)
          ∧ r.2.mem ((c.tc : Thread Cert.AdamwUqIdeal.nD Cert.AdamwUqIdeal.τ).loc Cert.AdamwUqIdeal.main_arg2) = m ((c.tc : Thread Cert.AdamwUqIdeal.nD Cert.AdamwUqIdeal.τ).loc Cert.AdamwUqIdeal.main_arg2)
          ∧ r.2.mem ((c.tc : Thread Cert.AdamwUqIdeal.nD Cert.AdamwUqIdeal.τ).loc Cert.AdamwUqIdeal.main_arg3) = m ((c.tc : Thread Cert.AdamwUqIdeal.nD Cert.AdamwUqIdeal.τ).loc Cert.AdamwUqIdeal.main_arg3))
      ∧ θ_run (Cert.AdamwUqRefIdeal.defs (F := Ideal)) (onTc (τ := Cert.AdamwUqRefIdeal.τ) (Cert.AdamwUqRefIdeal.main (F := Ideal))) ⟨m', fun _ => 0, g'⟩ (fun r => ∀ c : Dev Cert.AdamwUqRefIdeal.nD,
          r.2.mem ((c.tc : Thread Cert.AdamwUqRefIdeal.nD Cert.AdamwUqRefIdeal.τ).loc Cert.AdamwUqRefIdeal.main_v0) = v0 c
          ∧ r.2.mem ((c.tc : Thread Cert.AdamwUqRefIdeal.nD Cert.AdamwUqRefIdeal.τ).loc Cert.AdamwUqRefIdeal.main_v24) = v1 c
          ∧ r.2.mem ((c.tc : Thread Cert.AdamwUqRefIdeal.nD Cert.AdamwUqRefIdeal.τ).loc Cert.AdamwUqRefIdeal.main_v5) = v2 c
          ∧ r.2.mem ((c.tc : Thread Cert.AdamwUqRefIdeal.nD Cert.AdamwUqRefIdeal.τ).loc Cert.AdamwUqRefIdeal.main_v11) = v3 c
          ∧ r.2.mem ((c.tc : Thread Cert.AdamwUqRefIdeal.nD Cert.AdamwUqRefIdeal.τ).loc Cert.AdamwUqRefIdeal.main_arg0) = m' ((c.tc : Thread Cert.AdamwUqRefIdeal.nD Cert.AdamwUqRefIdeal.τ).loc Cert.AdamwUqRefIdeal.main_arg0)
          ∧ r.2.mem ((c.tc : Thread Cert.AdamwUqRefIdeal.nD Cert.AdamwUqRefIdeal.τ).loc Cert.AdamwUqRefIdeal.main_arg1) = m' ((c.tc : Thread Cert.AdamwUqRefIdeal.nD Cert.AdamwUqRefIdeal.τ).loc Cert.AdamwUqRefIdeal.main_arg1)
          ∧ r.2.mem ((c.tc : Thread Cert.AdamwUqRefIdeal.nD Cert.AdamwUqRefIdeal.τ).loc Cert.AdamwUqRefIdeal.main_arg2) = m' ((c.tc : Thread Cert.AdamwUqRefIdeal.nD Cert.AdamwUqRefIdeal.τ).loc Cert.AdamwUqRefIdeal.main_arg2)
          ∧ r.2.mem ((c.tc : Thread Cert.AdamwUqRefIdeal.nD Cert.AdamwUqRefIdeal.τ).loc Cert.AdamwUqRefIdeal.main_arg3) = m' ((c.tc : Thread Cert.AdamwUqRefIdeal.nD Cert.AdamwUqRefIdeal.τ).loc Cert.AdamwUqRefIdeal.main_arg3))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hDw2 : Cert.Dw2.Facts) (hDw2Ideal : Cert.Dw2Ideal.Facts) (hDw2RefIdeal : Cert.Dw2RefIdeal.Facts) (hDact : Cert.Dact.Facts) (hDactIdeal : Cert.DactIdeal.Facts) (hDactRefIdeal : Cert.DactRefIdeal.Facts) (hDw1 : Cert.Dw1.Facts) (hDw1Ideal : Cert.Dw1Ideal.Facts) (hDw1RefIdeal : Cert.Dw1RefIdeal.Facts) (hDx : Cert.Dx.Facts) (hDxIdeal : Cert.DxIdeal.Facts) (hDxRefIdeal : Cert.DxRefIdeal.Facts) (hEvenIn : Cert.EvenIn.Facts) (hEvenInIdeal : Cert.EvenInIdeal.Facts) (hEvenInRefIdeal : Cert.EvenInRefIdeal.Facts) (hEvenDwin : Cert.EvenDwin.Facts) (hEvenDwinIdeal : Cert.EvenDwinIdeal.Facts) (hEvenDwinRefIdeal : Cert.EvenDwinRefIdeal.Facts) (hEvenDx : Cert.EvenDx.Facts) (hEvenDxIdeal : Cert.EvenDxIdeal.Facts) (hEvenDxRefIdeal : Cert.EvenDxRefIdeal.Facts) (hEvenOut : Cert.EvenOut.Facts) (hEvenOutIdeal : Cert.EvenOutIdeal.Facts) (hEvenOutRefIdeal : Cert.EvenOutRefIdeal.Facts) (hEvenDwout : Cert.EvenDwout.Facts) (hEvenDwoutIdeal : Cert.EvenDwoutIdeal.Facts) (hEvenDwoutRefIdeal : Cert.EvenDwoutRefIdeal.Facts) (hEvenDy : Cert.EvenDy.Facts) (hEvenDyIdeal : Cert.EvenDyIdeal.Facts) (hEvenDyRefIdeal : Cert.EvenDyRefIdeal.Facts) (hOddIn : Cert.OddIn.Facts) (hOddInIdeal : Cert.OddInIdeal.Facts) (hOddInRefIdeal : Cert.OddInRefIdeal.Facts) (hOddDwin : Cert.OddDwin.Facts) (hOddDwinIdeal : Cert.OddDwinIdeal.Facts) (hOddDwinRefIdeal : Cert.OddDwinRefIdeal.Facts) (hOddDx : Cert.OddDx.Facts) (hOddDxIdeal : Cert.OddDxIdeal.Facts) (hOddDxRefIdeal : Cert.OddDxRefIdeal.Facts) (hOddOut : Cert.OddOut.Facts) (hOddOutIdeal : Cert.OddOutIdeal.Facts) (hOddOutRefIdeal : Cert.OddOutRefIdeal.Facts) (hOddDwout : Cert.OddDwout.Facts) (hOddDwoutIdeal : Cert.OddDwoutIdeal.Facts) (hOddDwoutRefIdeal : Cert.OddDwoutRefIdeal.Facts) (hOddDy : Cert.OddDy.Facts) (hOddDyIdeal : Cert.OddDyIdeal.Facts) (hOddDyRefIdeal : Cert.OddDyRefIdeal.Facts) (hMlaUq : Cert.MlaUq.Facts) (hMlaUqIdeal : Cert.MlaUqIdeal.Facts) (hMlaUqRefIdeal : Cert.MlaUqRefIdeal.Facts) (hMlaUkv : Cert.MlaUkv.Facts) (hMlaUkvIdeal : Cert.MlaUkvIdeal.Facts) (hMlaUkvRefIdeal : Cert.MlaUkvRefIdeal.Facts) (hMlaDwuq : Cert.MlaDwuq.Facts) (hMlaDwuqIdeal : Cert.MlaDwuqIdeal.Facts) (hMlaDwuqRefIdeal : Cert.MlaDwuqRefIdeal.Facts) (hMlaDwukv : Cert.MlaDwukv.Facts) (hMlaDwukvIdeal : Cert.MlaDwukvIdeal.Facts) (hMlaDwukvRefIdeal : Cert.MlaDwukvRefIdeal.Facts) (hMlaDcq : Cert.MlaDcq.Facts) (hMlaDcqIdeal : Cert.MlaDcqIdeal.Facts) (hMlaDcqRefIdeal : Cert.MlaDcqRefIdeal.Facts) (hMlaDckv : Cert.MlaDckv.Facts) (hMlaDckvIdeal : Cert.MlaDckvIdeal.Facts) (hMlaDckvRefIdeal : Cert.MlaDckvRefIdeal.Facts) (hStickFwd : Cert.StickFwd.Facts) (hStickFwdIdeal : Cert.StickFwdIdeal.Facts) (hStickFwdRefIdeal : Cert.StickFwdRefIdeal.Facts) (hNormBwd : Cert.NormBwd.Facts) (hNormBwdIdeal : Cert.NormBwdIdeal.Facts) (hNormBwdRefIdeal : Cert.NormBwdRefIdeal.Facts) (hNormFwd : Cert.NormFwd.Facts) (hNormFwdIdeal : Cert.NormFwdIdeal.Facts) (hNormFwdRefIdeal : Cert.NormFwdRefIdeal.Facts) (hQRms : Cert.QRms.Facts) (hQRmsIdeal : Cert.QRmsIdeal.Facts) (hQRmsRefIdeal : Cert.QRmsRefIdeal.Facts) (hKvRms : Cert.KvRms.Facts) (hKvRmsIdeal : Cert.KvRmsIdeal.Facts) (hKvRmsRefIdeal : Cert.KvRmsRefIdeal.Facts) (hLossHead : Cert.LossHead.Facts) (hLossHeadIdeal : Cert.LossHeadIdeal.Facts) (hLossHeadRefIdeal : Cert.LossHeadRefIdeal.Facts) (hAdamwNorm : Cert.AdamwNorm.Facts) (hAdamwNormIdeal : Cert.AdamwNormIdeal.Facts) (hAdamwNormRefIdeal : Cert.AdamwNormRefIdeal.Facts) (hAdamwUq : Cert.AdamwUq.Facts) (hAdamwUqIdeal : Cert.AdamwUqIdeal.Facts) (hAdamwUqRefIdeal : Cert.AdamwUqRefIdeal.Facts) (hPre_finite : Cert.Pre_finite.Facts) (hPre_finite_logits : Cert.Pre_finite_logits.Facts) (hPre_finite_rows : Cert.Pre_finite_rows.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Dw2 (hDw2 := hDw2)
    ∧ quiescent_Dw2Ideal (hDw2Ideal := hDw2Ideal)
    ∧ quiescent_Dw2RefIdeal (hDw2RefIdeal := hDw2RefIdeal)
    ∧ quiescent_Dact (hDact := hDact)
    ∧ quiescent_DactIdeal (hDactIdeal := hDactIdeal)
    ∧ quiescent_DactRefIdeal (hDactRefIdeal := hDactRefIdeal)
    ∧ quiescent_Dw1 (hDw1 := hDw1)
    ∧ quiescent_Dw1Ideal (hDw1Ideal := hDw1Ideal)
    ∧ quiescent_Dw1RefIdeal (hDw1RefIdeal := hDw1RefIdeal)
    ∧ quiescent_Dx (hDx := hDx)
    ∧ quiescent_DxIdeal (hDxIdeal := hDxIdeal)
    ∧ quiescent_DxRefIdeal (hDxRefIdeal := hDxRefIdeal)
    ∧ quiescent_EvenIn (hEvenIn := hEvenIn)
    ∧ quiescent_EvenInIdeal (hEvenInIdeal := hEvenInIdeal)
    ∧ quiescent_EvenInRefIdeal (hEvenInRefIdeal := hEvenInRefIdeal)
    ∧ quiescent_EvenDwin (hEvenDwin := hEvenDwin)
    ∧ quiescent_EvenDwinIdeal (hEvenDwinIdeal := hEvenDwinIdeal)
    ∧ quiescent_EvenDwinRefIdeal (hEvenDwinRefIdeal := hEvenDwinRefIdeal)
    ∧ quiescent_EvenDx (hEvenDx := hEvenDx)
    ∧ quiescent_EvenDxIdeal (hEvenDxIdeal := hEvenDxIdeal)
    ∧ quiescent_EvenDxRefIdeal (hEvenDxRefIdeal := hEvenDxRefIdeal)
    ∧ quiescent_EvenOut (hEvenOut := hEvenOut)
    ∧ quiescent_EvenOutIdeal (hEvenOutIdeal := hEvenOutIdeal)
    ∧ quiescent_EvenOutRefIdeal (hEvenOutRefIdeal := hEvenOutRefIdeal)
    ∧ quiescent_EvenDwout (hEvenDwout := hEvenDwout)
    ∧ quiescent_EvenDwoutIdeal (hEvenDwoutIdeal := hEvenDwoutIdeal)
    ∧ quiescent_EvenDwoutRefIdeal (hEvenDwoutRefIdeal := hEvenDwoutRefIdeal)
    ∧ quiescent_EvenDy (hEvenDy := hEvenDy)
    ∧ quiescent_EvenDyIdeal (hEvenDyIdeal := hEvenDyIdeal)
    ∧ quiescent_EvenDyRefIdeal (hEvenDyRefIdeal := hEvenDyRefIdeal)
    ∧ quiescent_OddIn (hOddIn := hOddIn)
    ∧ quiescent_OddInIdeal (hOddInIdeal := hOddInIdeal)
    ∧ quiescent_OddInRefIdeal (hOddInRefIdeal := hOddInRefIdeal)
    ∧ quiescent_OddDwin (hOddDwin := hOddDwin)
    ∧ quiescent_OddDwinIdeal (hOddDwinIdeal := hOddDwinIdeal)
    ∧ quiescent_OddDwinRefIdeal (hOddDwinRefIdeal := hOddDwinRefIdeal)
    ∧ quiescent_OddDx (hOddDx := hOddDx)
    ∧ quiescent_OddDxIdeal (hOddDxIdeal := hOddDxIdeal)
    ∧ quiescent_OddDxRefIdeal (hOddDxRefIdeal := hOddDxRefIdeal)
    ∧ quiescent_OddOut (hOddOut := hOddOut)
    ∧ quiescent_OddOutIdeal (hOddOutIdeal := hOddOutIdeal)
    ∧ quiescent_OddOutRefIdeal (hOddOutRefIdeal := hOddOutRefIdeal)
    ∧ quiescent_OddDwout (hOddDwout := hOddDwout)
    ∧ quiescent_OddDwoutIdeal (hOddDwoutIdeal := hOddDwoutIdeal)
    ∧ quiescent_OddDwoutRefIdeal (hOddDwoutRefIdeal := hOddDwoutRefIdeal)
    ∧ quiescent_OddDy (hOddDy := hOddDy)
    ∧ quiescent_OddDyIdeal (hOddDyIdeal := hOddDyIdeal)
    ∧ quiescent_OddDyRefIdeal (hOddDyRefIdeal := hOddDyRefIdeal)
    ∧ quiescent_MlaUq (hMlaUq := hMlaUq)
    ∧ quiescent_MlaUqIdeal (hMlaUqIdeal := hMlaUqIdeal)
    ∧ quiescent_MlaUqRefIdeal (hMlaUqRefIdeal := hMlaUqRefIdeal)
    ∧ quiescent_MlaUkv (hMlaUkv := hMlaUkv)
    ∧ quiescent_MlaUkvIdeal (hMlaUkvIdeal := hMlaUkvIdeal)
    ∧ quiescent_MlaUkvRefIdeal (hMlaUkvRefIdeal := hMlaUkvRefIdeal)
    ∧ quiescent_MlaDwuq (hMlaDwuq := hMlaDwuq)
    ∧ quiescent_MlaDwuqIdeal (hMlaDwuqIdeal := hMlaDwuqIdeal)
    ∧ quiescent_MlaDwuqRefIdeal (hMlaDwuqRefIdeal := hMlaDwuqRefIdeal)
    ∧ quiescent_MlaDwukv (hMlaDwukv := hMlaDwukv)
    ∧ quiescent_MlaDwukvIdeal (hMlaDwukvIdeal := hMlaDwukvIdeal)
    ∧ quiescent_MlaDwukvRefIdeal (hMlaDwukvRefIdeal := hMlaDwukvRefIdeal)
    ∧ quiescent_MlaDcq (hMlaDcq := hMlaDcq)
    ∧ quiescent_MlaDcqIdeal (hMlaDcqIdeal := hMlaDcqIdeal)
    ∧ quiescent_MlaDcqRefIdeal (hMlaDcqRefIdeal := hMlaDcqRefIdeal)
    ∧ quiescent_MlaDckv (hMlaDckv := hMlaDckv)
    ∧ quiescent_MlaDckvIdeal (hMlaDckvIdeal := hMlaDckvIdeal)
    ∧ quiescent_MlaDckvRefIdeal (hMlaDckvRefIdeal := hMlaDckvRefIdeal)
    ∧ quiescent_StickFwd (hStickFwd := hStickFwd)
    ∧ quiescent_StickFwdIdeal (hStickFwdIdeal := hStickFwdIdeal)
    ∧ quiescent_StickFwdIdeal_pre_finite_logits (hStickFwdIdeal := hStickFwdIdeal) (hPre_finite_logits := hPre_finite_logits)
    ∧ quiescent_StickFwdRefIdeal (hStickFwdRefIdeal := hStickFwdRefIdeal)
    ∧ quiescent_StickFwdRefIdeal_pre_finite_logits (hStickFwdRefIdeal := hStickFwdRefIdeal) (hPre_finite_logits := hPre_finite_logits)
    ∧ quiescent_NormBwd (hNormBwd := hNormBwd)
    ∧ quiescent_NormBwdIdeal (hNormBwdIdeal := hNormBwdIdeal)
    ∧ quiescent_NormBwdIdeal_pre_finite_rows (hNormBwdIdeal := hNormBwdIdeal) (hPre_finite_rows := hPre_finite_rows)
    ∧ quiescent_NormBwdRefIdeal (hNormBwdRefIdeal := hNormBwdRefIdeal)
    ∧ quiescent_NormBwdRefIdeal_pre_finite_rows (hNormBwdRefIdeal := hNormBwdRefIdeal) (hPre_finite_rows := hPre_finite_rows)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_QRms (hQRms := hQRms)
    ∧ quiescent_QRmsIdeal (hQRmsIdeal := hQRmsIdeal)
    ∧ quiescent_QRmsRefIdeal (hQRmsRefIdeal := hQRmsRefIdeal)
    ∧ quiescent_KvRms (hKvRms := hKvRms)
    ∧ quiescent_KvRmsIdeal (hKvRmsIdeal := hKvRmsIdeal)
    ∧ quiescent_KvRmsRefIdeal (hKvRmsRefIdeal := hKvRmsRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_AdamwNorm (hAdamwNorm := hAdamwNorm)
    ∧ quiescent_AdamwNormIdeal (hAdamwNormIdeal := hAdamwNormIdeal)
    ∧ quiescent_AdamwNormRefIdeal (hAdamwNormRefIdeal := hAdamwNormRefIdeal)
    ∧ quiescent_AdamwUq (hAdamwUq := hAdamwUq)
    ∧ quiescent_AdamwUqIdeal (hAdamwUqIdeal := hAdamwUqIdeal)
    ∧ quiescent_AdamwUqRefIdeal (hAdamwUqRefIdeal := hAdamwUqRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Dw2_Dw2Ideal
    ∧ algebraic_Dw2Ideal_Dw2RefIdeal (hDw2Ideal := hDw2Ideal) (hDw2RefIdeal := hDw2RefIdeal)
    ∧ preserves_Dact_DactIdeal
    ∧ algebraic_DactIdeal_DactRefIdeal (hDactIdeal := hDactIdeal) (hDactRefIdeal := hDactRefIdeal)
    ∧ preserves_Dw1_Dw1Ideal
    ∧ algebraic_Dw1Ideal_Dw1RefIdeal (hDw1Ideal := hDw1Ideal) (hDw1RefIdeal := hDw1RefIdeal)
    ∧ preserves_Dx_DxIdeal
    ∧ algebraic_DxIdeal_DxRefIdeal (hDxIdeal := hDxIdeal) (hDxRefIdeal := hDxRefIdeal)
    ∧ preserves_EvenIn_EvenInIdeal
    ∧ algebraic_EvenInIdeal_EvenInRefIdeal (hEvenInIdeal := hEvenInIdeal) (hEvenInRefIdeal := hEvenInRefIdeal)
    ∧ preserves_EvenDwin_EvenDwinIdeal
    ∧ algebraic_EvenDwinIdeal_EvenDwinRefIdeal (hEvenDwinIdeal := hEvenDwinIdeal) (hEvenDwinRefIdeal := hEvenDwinRefIdeal)
    ∧ preserves_EvenDx_EvenDxIdeal
    ∧ algebraic_EvenDxIdeal_EvenDxRefIdeal (hEvenDxIdeal := hEvenDxIdeal) (hEvenDxRefIdeal := hEvenDxRefIdeal)
    ∧ preserves_EvenOut_EvenOutIdeal
    ∧ algebraic_EvenOutIdeal_EvenOutRefIdeal (hEvenOutIdeal := hEvenOutIdeal) (hEvenOutRefIdeal := hEvenOutRefIdeal)
    ∧ preserves_EvenDwout_EvenDwoutIdeal
    ∧ algebraic_EvenDwoutIdeal_EvenDwoutRefIdeal (hEvenDwoutIdeal := hEvenDwoutIdeal) (hEvenDwoutRefIdeal := hEvenDwoutRefIdeal)
    ∧ preserves_EvenDy_EvenDyIdeal
    ∧ algebraic_EvenDyIdeal_EvenDyRefIdeal (hEvenDyIdeal := hEvenDyIdeal) (hEvenDyRefIdeal := hEvenDyRefIdeal)
    ∧ preserves_OddIn_OddInIdeal
    ∧ algebraic_OddInIdeal_OddInRefIdeal (hOddInIdeal := hOddInIdeal) (hOddInRefIdeal := hOddInRefIdeal)
    ∧ preserves_OddDwin_OddDwinIdeal
    ∧ algebraic_OddDwinIdeal_OddDwinRefIdeal (hOddDwinIdeal := hOddDwinIdeal) (hOddDwinRefIdeal := hOddDwinRefIdeal)
    ∧ preserves_OddDx_OddDxIdeal
    ∧ algebraic_OddDxIdeal_OddDxRefIdeal (hOddDxIdeal := hOddDxIdeal) (hOddDxRefIdeal := hOddDxRefIdeal)
    ∧ preserves_OddOut_OddOutIdeal
    ∧ algebraic_OddOutIdeal_OddOutRefIdeal (hOddOutIdeal := hOddOutIdeal) (hOddOutRefIdeal := hOddOutRefIdeal)
    ∧ preserves_OddDwout_OddDwoutIdeal
    ∧ algebraic_OddDwoutIdeal_OddDwoutRefIdeal (hOddDwoutIdeal := hOddDwoutIdeal) (hOddDwoutRefIdeal := hOddDwoutRefIdeal)
    ∧ preserves_OddDy_OddDyIdeal
    ∧ algebraic_OddDyIdeal_OddDyRefIdeal (hOddDyIdeal := hOddDyIdeal) (hOddDyRefIdeal := hOddDyRefIdeal)
    ∧ preserves_MlaUq_MlaUqIdeal
    ∧ algebraic_MlaUqIdeal_MlaUqRefIdeal (hMlaUqIdeal := hMlaUqIdeal) (hMlaUqRefIdeal := hMlaUqRefIdeal)
    ∧ preserves_MlaUkv_MlaUkvIdeal
    ∧ algebraic_MlaUkvIdeal_MlaUkvRefIdeal (hMlaUkvIdeal := hMlaUkvIdeal) (hMlaUkvRefIdeal := hMlaUkvRefIdeal)
    ∧ preserves_MlaDwuq_MlaDwuqIdeal
    ∧ algebraic_MlaDwuqIdeal_MlaDwuqRefIdeal (hMlaDwuqIdeal := hMlaDwuqIdeal) (hMlaDwuqRefIdeal := hMlaDwuqRefIdeal)
    ∧ preserves_MlaDwukv_MlaDwukvIdeal
    ∧ algebraic_MlaDwukvIdeal_MlaDwukvRefIdeal (hMlaDwukvIdeal := hMlaDwukvIdeal) (hMlaDwukvRefIdeal := hMlaDwukvRefIdeal)
    ∧ preserves_MlaDcq_MlaDcqIdeal
    ∧ algebraic_MlaDcqIdeal_MlaDcqRefIdeal (hMlaDcqIdeal := hMlaDcqIdeal) (hMlaDcqRefIdeal := hMlaDcqRefIdeal)
    ∧ preserves_MlaDckv_MlaDckvIdeal
    ∧ algebraic_MlaDckvIdeal_MlaDckvRefIdeal (hMlaDckvIdeal := hMlaDckvIdeal) (hMlaDckvRefIdeal := hMlaDckvRefIdeal)
    ∧ preserves_StickFwd_StickFwdIdeal
    ∧ algebraic_StickFwdIdeal_StickFwdRefIdeal_pre_finite_logits (hStickFwdIdeal := hStickFwdIdeal) (hStickFwdRefIdeal := hStickFwdRefIdeal) (hPre_finite_logits := hPre_finite_logits)
    ∧ preserves_NormBwd_NormBwdIdeal
    ∧ algebraic_NormBwdIdeal_NormBwdRefIdeal_pre_finite_rows (hNormBwdIdeal := hNormBwdIdeal) (hNormBwdRefIdeal := hNormBwdRefIdeal) (hPre_finite_rows := hPre_finite_rows)
    ∧ preserves_NormFwd_NormFwdIdeal
    ∧ algebraic_NormFwdIdeal_NormFwdRefIdeal (hNormFwdIdeal := hNormFwdIdeal) (hNormFwdRefIdeal := hNormFwdRefIdeal)
    ∧ preserves_QRms_QRmsIdeal
    ∧ algebraic_QRmsIdeal_QRmsRefIdeal (hQRmsIdeal := hQRmsIdeal) (hQRmsRefIdeal := hQRmsRefIdeal)
    ∧ preserves_KvRms_KvRmsIdeal
    ∧ algebraic_KvRmsIdeal_KvRmsRefIdeal (hKvRmsIdeal := hKvRmsIdeal) (hKvRmsRefIdeal := hKvRmsRefIdeal)
    ∧ preserves_LossHead_LossHeadIdeal
    ∧ algebraic_LossHeadIdeal_LossHeadRefIdeal (hLossHeadIdeal := hLossHeadIdeal) (hLossHeadRefIdeal := hLossHeadRefIdeal)
    ∧ preserves_AdamwNorm_AdamwNormIdeal
    ∧ algebraic_AdamwNormIdeal_AdamwNormRefIdeal (hAdamwNormIdeal := hAdamwNormIdeal) (hAdamwNormRefIdeal := hAdamwNormRefIdeal)
    ∧ preserves_AdamwUq_AdamwUqIdeal
    ∧ algebraic_AdamwUqIdeal_AdamwUqRefIdeal (hAdamwUqIdeal := hAdamwUqIdeal) (hAdamwUqRefIdeal := hAdamwUqRefIdeal)
-- ==== Pre_finite.lean ====
abbrev S16x2048x64 : Shape := ⟨3, ![16, 2048, 64]⟩
abbrev S_ : Shape := ⟨0, ![]⟩

class Facts : Prop where
  bcast_S_S16x2048x64 : S_.BroadcastsInDim S16x2048x64 (![] : Fin 0 → Fin S16x2048x64.rank)

variable [Facts]

def fn {F : FTy → Type} [FloatOps F] (main_arg0 : FVec F S16x2048x64 .f32) (main_arg1 : FVec F S16x2048x64 .f32) (main_arg2 : FVec F S16x2048x64 .f32) (main_arg3 : FVec F S16x2048x64 .f32) : IVec S16x2048x64 1 :=
  let main_v0 : FVec F S16x2048x64 .f32 := Host.absf main_arg0
  let main_cst : FVec F S_ .f32 := constant S_ .f32 0x7F800000#32
  let main_v1 : FVec F S16x2048x64 .f32 := broadcastInDim S16x2048x64 ![] bcast_S_S16x2048x64 main_cst
  let main_v2 : IVec S16x2048x64 1 := cmpf .olt main_v0 main_v1
  let main_v3 : FVec F S16x2048x64 .f32 := Host.absf main_arg1
  let main_cst_0 : FVec F S_ .f32 := constant S_ .f32 0x7F800000#32
  let main_v4 : FVec F S16x2048x64 .f32 := broadcastInDim S16x2048x64 ![] bcast_S_S16x2048x64 main_cst_0
  let main_v5 : IVec S16x2048x64 1 := cmpf .olt main_v3 main_v4
  let main_v6 : IVec S16x2048x64 1 := andi main_v2 main_v5
  let main_v7 : FVec F S16x2048x64 .f32 := Host.absf main_arg2
  let main_cst_1 : FVec F S_ .f32 := constant S_ .f32 0x7F800000#32
  let main_v8 : FVec F S16x2048x64 .f32 := broadcastInDim S16x2048x64 ![] bcast_S_S16x2048x64 main_cst_1
  let main_v9 : IVec S16x2048x64 1 := cmpf .olt main_v7 main_v8
  let main_v10 : IVec S16x2048x64 1 := andi main_v6 main_v9
  let main_v11 : FVec F S16x2048x64 .f32 := Host.absf main_arg3
  let main_cst_2 : FVec F S_ .f32 := constant S_ .f32 0x7F800000#32
  let main_v12 : FVec F S16x2048x64 .f32 := broadcastInDim S16x2048x64 ![] bcast_S_S16x2048x64 main_cst_2
  let main_v13 : IVec S16x2048x64 1 := cmpf .olt main_v11 main_v12
  let main_v14 : IVec S16x2048x64 1 := andi main_v10 main_v13
  main_v14
-- ==== Pre_finite_logits.lean ====
abbrev S16x2048x64 : Shape := ⟨3, ![16, 2048, 64]⟩
abbrev S_ : Shape := ⟨0, ![]⟩

class Facts : Prop where
  bcast_S_S16x2048x64 : S_.BroadcastsInDim S16x2048x64 (![] : Fin 0 → Fin S16x2048x64.rank)

variable [Facts]

def fn {F : FTy → Type} [FloatOps F] (main_arg0 : FVec F S16x2048x64 .f32) (main_arg1 : FVec F S16x2048x64 .f32) (main_arg2 : FVec F S16x2048x64 .f32) : IVec S16x2048x64 1 :=
  let main_v0 : FVec F S16x2048x64 .f32 := Host.absf main_arg0
  let main_cst : FVec F S_ .f32 := constant S_ .f32 0x7F800000#32
  let main_v1 : FVec F S16x2048x64 .f32 := broadcastInDim S16x2048x64 ![] bcast_S_S16x2048x64 main_cst
  let main_v2 : IVec S16x2048x64 1 := cmpf .olt main_v0 main_v1
  let main_v3 : FVec F S16x2048x64 .f32 := Host.absf main_arg1
  let main_cst_0 : FVec F S_ .f32 := constant S_ .f32 0x7F800000#32
  let main_v4 : FVec F S16x2048x64 .f32 := broadcastInDim S16x2048x64 ![] bcast_S_S16x2048x64 main_cst_0
  let main_v5 : IVec S16x2048x64 1 := cmpf .olt main_v3 main_v4
  let main_v6 : IVec S16x2048x64 1 := andi main_v2 main_v5
  main_v6
-- ==== Pre_finite_rows.lean ====
abbrev S2048x2048 : Shape := ⟨2, ![2048, 2048]⟩
abbrev S2048 : Shape := ⟨1, ![2048]⟩
abbrev S_ : Shape := ⟨0, ![]⟩
abbrev S1x2048 : Shape := ⟨2, ![1, 2048]⟩

class Facts : Prop where
  bcast_S_S2048x2048 : S_.BroadcastsInDim S2048x2048 (![] : Fin 0 → Fin S2048x2048.rank)
  bcast_S_S2048 : S_.BroadcastsInDim S2048 (![] : Fin 0 → Fin S2048.rank)
  bcast_S2048_S1x2048_1 : S2048.BroadcastsInDim S1x2048 (![1] : Fin 1 → Fin S1x2048.rank)
  bcast_S1x2048_S2048x2048_0_1 : S1x2048.BroadcastsInDim S2048x2048 (![0, 1] : Fin 2 → Fin S2048x2048.rank)

variable [Facts]

def fn {F : FTy → Type} [FloatOps F] (main_arg0 : FVec F S2048x2048 .f32) (main_arg1 : FVec F S2048x2048 .f32) (main_arg2 : FVec F S2048 .f32) : IVec S2048x2048 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_v3 : FVec F S2048 .f32 := Host.absf main_arg2
  let main_cst_0 : FVec F S_ .f32 := constant S_ .f32 0x7F800000#32
  let main_v4 : FVec F S2048 .f32 := broadcastInDim S2048 ![] bcast_S_S2048 main_cst_0
  let main_v5 : IVec S2048 1 := cmpf .olt main_v3 main_v4
  let main_v6 : IVec S1x2048 1 := broadcastInDim S1x2048 ![1] bcast_S2048_S1x2048_1 main_v5
  let main_v7 : IVec S2048x2048 1 := broadcastInDim S2048x2048 ![0, 1] bcast_S1x2048_S2048x2048_0_1 main_v6
  let main_v8 : IVec S2048x2048 1 := andi main_v2 main_v7
  main_v8
-- ==== Kernel.lean ====
abbrev S16x2048x64 : Shape := ⟨3, ![16, 2048, 64]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S16x2048x2048 : Shape := ⟨3, ![16, 2048, 2048]⟩
abbrev S1x2048x2048 : Shape := ⟨3, ![1, 2048, 2048]⟩
abbrev S16x2048 : Shape := ⟨2, ![16, 2048]⟩
abbrev S16x2048x1 : Shape := ⟨3, ![16, 2048, 1]⟩
abbrev S1x512x64 : Shape := ⟨3, ![1, 512, 64]⟩
abbrev S1x2048x64 : Shape := ⟨3, ![1, 2048, 64]⟩
abbrev S1x512x1 : Shape := ⟨3, ![1, 512, 1]⟩
abbrev S512x64 : Shape := ⟨2, ![512, 64]⟩
abbrev S512x1 : Shape := ⟨2, ![512, 1]⟩
abbrev S512x512 : Shape := ⟨2, ![512, 512]⟩
abbrev S512 : Shape := ⟨1, ![512]⟩

abbrev nBuf : Space → Nat
  | .hbm => 49
  | .vmem => 16
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x2048x64, .f32⟩
  | .hbm, ⟨3, _⟩ => ⟨S16x2048x64, .f32⟩
  | .hbm, ⟨4, _⟩ => ⟨S16x2048x64, .bf16⟩
  | .hbm, ⟨5, _⟩ => ⟨S_, .bf16⟩
  | .hbm, ⟨6, _⟩ => ⟨S16x2048x64, .bf16⟩
  | .hbm, ⟨7, _⟩ => ⟨S16x2048x64, .bf16⟩
  | .hbm, ⟨8, _⟩ => ⟨S16x2048x64, .bf16⟩
  | .hbm, ⟨9, _⟩ => ⟨S16x2048x64, .bf16⟩
  | .hbm, ⟨10, _⟩ => ⟨S2048, .i32⟩
  | .hbm, ⟨11, _⟩ => ⟨S1x2048, .i32⟩
  | .hbm, ⟨12, _⟩ => ⟨S2048, .i32⟩
  | .hbm, ⟨13, _⟩ => ⟨S2048x1, .i32⟩
  | .hbm, ⟨14, _⟩ => ⟨S2048x2048, .i32⟩
  | .hbm, ⟨15, _⟩ => ⟨S2048x2048, .i32⟩
  | .hbm, ⟨16, _⟩ => ⟨S2048x2048, .i1⟩
  | .hbm, ⟨17, _⟩ => ⟨S16x2048x64, .f32⟩
  | .hbm, ⟨18, _⟩ => ⟨S16x2048x64, .f32⟩
  | .hbm, ⟨19, _⟩ => ⟨S16x2048x2048, .f32⟩
  | .hbm, ⟨20, _⟩ => ⟨S1x2048x2048, .i1⟩
  | .hbm, ⟨21, _⟩ => ⟨S16x2048x2048, .f32⟩
  | .hbm, ⟨22, _⟩ => ⟨S16x2048x2048, .f32⟩
  | .hbm, ⟨23, _⟩ => ⟨S_, .f32⟩
  | .hbm, ⟨24, _⟩ => ⟨S16x2048x2048, .f32⟩
  | .hbm, ⟨25, _⟩ => ⟨S16x2048x2048, .f32⟩
  | .hbm, ⟨26, _⟩ => ⟨S16x2048x2048, .f32⟩
  | .hbm, ⟨27, _⟩ => ⟨S16x2048x2048, .f32⟩
  | .hbm, ⟨28, _⟩ => ⟨S16x2048x2048, .i1⟩
  | .hbm, ⟨29, _⟩ => ⟨S16x2048x2048, .f32⟩
  | .hbm, ⟨30, _⟩ => ⟨S16x2048x2048, .f32⟩
  | .hbm, ⟨31, _⟩ => ⟨S16x2048x2048, .f32⟩
  | .hbm, ⟨32, _⟩ => ⟨S16x2048x2048, .f32⟩
  | .hbm, ⟨33, _⟩ => ⟨S16x2048x2048, .f32⟩
  | .hbm, ⟨34, _⟩ => ⟨S16x2048x2048, .f32⟩
  | .hbm, ⟨35, _⟩ => ⟨S16x2048x2048, .f32⟩
  | .hbm, ⟨36, _⟩ => ⟨S16x2048x2048, .f32⟩
  | .hbm, ⟨37, _⟩ => ⟨S16x2048x2048, .f32⟩
  | .hbm, ⟨38, _⟩ => ⟨S_, .f32⟩
  | .hbm, ⟨39, _⟩ => ⟨S_, .f32⟩
  | .hbm, ⟨40, _⟩ => ⟨S16x2048x2048, .i1⟩
  | .hbm, ⟨41, _⟩ => ⟨S16x2048x2048, .f32⟩
  | .hbm, ⟨42, _⟩ => ⟨S16x2048x2048, .f32⟩
  | .hbm, ⟨43, _⟩ => ⟨S_, .f32⟩
  | .hbm, ⟨44, _⟩ => ⟨S16x2048, .f32⟩
  | .hbm, ⟨45, _⟩ => ⟨S16x2048x1, .f32⟩
  | .hbm, ⟨46, _⟩ => ⟨S16x2048x64, .f32⟩
  | .hbm, ⟨47, _⟩ => ⟨S16x2048x64, .f32⟩
  | .hbm, ⟨48, _⟩ => ⟨S16x2048x64, .f32⟩
  | .local _ .vmem, ⟨0, _⟩ => ⟨S1x512x64, .bf16⟩
  | .local _ .vmem, ⟨1, _⟩ => ⟨S1x512x64, .bf16⟩
  | .local _ .vmem, ⟨2, _⟩ => ⟨S1x2048x64, .bf16⟩
  | .local _ .vmem, ⟨3, _⟩ => ⟨S1x2048x64, .bf16⟩
  | .local _ .vmem, ⟨4, _⟩ => ⟨S1x2048x64, .bf16⟩
  | .local _ .vmem, ⟨5, _⟩ => ⟨S1x2048x64, .bf16⟩
  | .local _ .vmem, ⟨6, _⟩ => ⟨S1x512x1, .f32⟩
  | .local _ .vmem, ⟨7, _⟩ => ⟨S1x512x1, .f32⟩
  | .local _ .vmem, ⟨8, _⟩ => ⟨S1x512x64, .f32⟩
  | .local _ .vmem, ⟨9, _⟩ => ⟨S1x512x64, .f32⟩
  | .local _ .vmem, ⟨10, _⟩ => ⟨S1x512x64, .f32⟩
  | .local _ .vmem, ⟨11, _⟩ => ⟨S1x512x64, .f32⟩
  | .local _ .vmem, ⟨12, _⟩ => ⟨S1x2048x64, .f32⟩
  | .local _ .vmem, ⟨13, _⟩ => ⟨S1x2048x64, .f32⟩
  | .local _ .vmem, ⟨14, _⟩ => ⟨S1x2048x64, .f32⟩
  | .local _ .vmem, ⟨15, _⟩ => ⟨S1x2048x64, .f32⟩
  | _, _ => ⟨S16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v17 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v18 : Ref sig .tc := ⟨.hbm, 42, rfl⟩
abbrev main_cst_1 : Ref sig .tc := ⟨.hbm, 43, rfl⟩
abbrev main_v19 : Ref sig .tc := ⟨.hbm, 44, rfl⟩
abbrev main_v20 : Ref sig .tc := ⟨.hbm, 45, rfl⟩
abbrev main_v21_0 : Ref sig .tc := ⟨.hbm, 46, rfl⟩
abbrev main_v21_1 : Ref sig .tc := ⟨.hbm, 47, rfl⟩
abbrev main_v21_2 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 4], ![false, false]⟩

@[reducible] def k0_t1_loop (i : grid0.Coords) : Scf.Loop 32 :=
  let c0_i32_10 : BitVec 32 := 0#32
  let arg1 : BitVec 32 := BitVec.ofNat 32 (i 1).val
  let v22 : BitVec 32 := Scalar.subi arg1 c0_i32_10
  let c1_i32 : BitVec 32 := 1#32
  let v24 : BitVec 32 := Scalar.divsi v22 c1_i32
  let v25 : BitVec 32 := Scalar.muli v24 c1_i32
  let v26 : BitVec 32 := Scalar.addi c0_i32_10 v25
  let c1_i32_11 : BitVec 32 := 1#32
  ⟨c0_i32_10, v26, c1_i32_11⟩
def k0_mult1 (i : grid0.Coords) (k0_t1 : Fin (k0_t1_loop i).trips) : BitVec 32 :=
  let c0_i32_10 : BitVec 32 := 0#32
  let c1_i32_11 : BitVec 32 := 1#32
  let arg10 : BitVec 32 := Scf.iv c0_i32_10 c1_i32_11 k0_t1
  let c512_i32_47 : BitVec 32 := 512#32
  let v115 : BitVec 32 := Scalar.muli arg10 c512_i32_47
  v115
def k0_off1 (i : grid0.Coords) (k0_t1 : Fin (k0_t1_loop i).trips) : Fin 3 → Nat :=
  let c0_48 : Index := 0#32
  let c0_i32_10 : BitVec 32 := 0#32
  let c1_i32_11 : BitVec 32 := 1#32
  let arg10 : BitVec 32 := Scf.iv c0_i32_10 c1_i32_11 k0_t1
  let c512_i32_47 : BitVec 32 := 512#32
  let v115 : BitVec 32 := Scalar.muli arg10 c512_i32_47
  let v116 : BitVec 32 := v115
  let v117 : Index := Scalar.indexCast v116
  let c0_49 : Index := 0#32
  ![0, v117.toNat, 0]
@[reducible] def k0_t2_loop (i : grid0.Coords) : Scf.Loop 32 :=
  let c0_i32_10 : BitVec 32 := 0#32
  let arg1 : BitVec 32 := BitVec.ofNat 32 (i 1).val
  let v22 : BitVec 32 := Scalar.subi arg1 c0_i32_10
  let c1_i32 : BitVec 32 := 1#32
  let v24 : BitVec 32 := Scalar.divsi v22 c1_i32
  let v25 : BitVec 32 := Scalar.muli v24 c1_i32
  let v26 : BitVec 32 := Scalar.addi c0_i32_10 v25
  let v23 : BitVec 32 := Scalar.addi c0_i32_10 v22
  let c1_i32_12 : BitVec 32 := 1#32
  ⟨v26, v23, c1_i32_12⟩
def k0_mult2 (i : grid0.Coords) (k0_t2 : Fin (k0_t2_loop i).trips) : BitVec 32 :=
  let c0_i32_10 : BitVec 32 := 0#32
  let arg1 : BitVec 32 := BitVec.ofNat 32 (i 1).val
  let v22 : BitVec 32 := Scalar.subi arg1 c0_i32_10
  let c1_i32 : BitVec 32 := 1#32
  let v24 : BitVec 32 := Scalar.divsi v22 c1_i32
  let v25 : BitVec 32 := Scalar.muli v24 c1_i32
  let v26 : BitVec 32 := Scalar.addi c0_i32_10 v25
  let c1_i32_12 : BitVec 32 := 1#32
  let arg10 : BitVec 32 := Scf.iv v26 c1_i32_12 k0_t2
  let c512_i32_47 : BitVec 32 := 512#32
  let v115 : BitVec 32 := Scalar.muli arg10 c512_i32_47
  v115
def k0_off2 (i : grid0.Coords) (k0_t2 : Fin (k0_t2_loop i).trips) : Fin 3 → Nat :=
  let c0_48 : Index := 0#32
  let c0_i32_10 : BitVec 32 := 0#32
  let arg1 : BitVec 32 := BitVec.ofNat 32 (i 1).val
  let v22 : BitVec 32 := Scalar.subi arg1 c0_i32_10
  let c1_i32 : BitVec 32 := 1#32
  let v24 : BitVec 32 := Scalar.divsi v22 c1_i32
  let v25 : BitVec 32 := Scalar.muli v24 c1_i32
  let v26 : BitVec 32 := Scalar.addi c0_i32_10 v25
  let c1_i32_12 : BitVec 32 := 1#32
  let arg10 : BitVec 32 := Scf.iv v26 c1_i32_12 k0_t2
  let c512_i32_47 : BitVec 32 := 512#32
  let v115 : BitVec 32 := Scalar.muli arg10 c512_i32_47
  let v116 : BitVec 32 := v115
  let v117 : Index := Scalar.indexCast v116
  let c0_49 : Index := 0#32
  ![0, v117.toNat, 0]
def k0_mult3 (i : grid0.Coords) : BitVec 32 :=
  let arg1 : BitVec 32 := BitVec.ofNat 32 (i 1).val
  let c512_i32 : BitVec 32 := 512#32
  let v30 : BitVec 32 := Scalar.muli arg1 c512_i32
  v30
def k0_off3 (i : grid0.Coords) : Fin 3 → Nat :=
  let c0_13 : Index := 0#32
  let arg1 : BitVec 32 := BitVec.ofNat 32 (i 1).val
  let c512_i32 : BitVec 32 := 512#32
  let v30 : BitVec 32 := Scalar.muli arg1 c512_i32
  let v31 : BitVec 32 := v30
  let v32 : Index := Scalar.indexCast v31
  let c0_14 : Index := 0#32
  ![0, v32.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x2048x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S16x2048x64 : Shape := ⟨3, ![16, 2048, 64]⟩
abbrev S16x2048x2048 : Shape := ⟨3, ![16, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x2048x2048 : Shape := ⟨3, ![1, 2048, 2048]⟩
abbrev S16x64x2048 : Shape := ⟨3, ![16, 64, 2048]⟩

abbrev nBuf : Space → Nat
  | .hbm => 163
  | .vmem => 0
  | .smem => 0
  | _ => 0

abbrev hbmTy0_0 (i : Nat) : BufTy := match i % 128 with
  | 0 => ⟨S16x2048x64, .f32⟩
  | 1 => ⟨S16x2048x64, .f32⟩
  | 2 => ⟨S16x2048x64, .f32⟩
  | 3 => ⟨S16x2048x64, .f32⟩
  | 4 => ⟨S16x2048x2048, .f32⟩
  | 5 => ⟨S_, .f32⟩
  | 6 => ⟨S16x2048x2048, .f32⟩
  | 7 => ⟨S16x2048x2048, .f32⟩
  | 8 => ⟨S2048, .i32⟩
  | 9 => ⟨S1x2048, .i32⟩
  | 10 => ⟨S2048, .i32⟩
  | 11 => ⟨S2048x1, .i32⟩
  | 12 => ⟨S2048x2048, .i32⟩
  | 13 => ⟨S2048x2048, .i32⟩
  | 14 => ⟨S2048x2048, .i1⟩
  | 15 => ⟨S16x2048x2048, .f32⟩
  | 16 => ⟨S_, .f32⟩
  | 17 => ⟨S16x2048x2048, .f32⟩
  | 18 => ⟨S16x2048x2048, .f32⟩
  | 19 => ⟨S16x2048x2048, .f32⟩
  | 20 => ⟨S16x2048x2048, .f32⟩
  | 21 => ⟨S16x2048x2048, .i1⟩
  | 22 => ⟨S16x2048x2048, .f32⟩
  | 23 => ⟨S16x2048x2048, .f32⟩
  | 24 => ⟨S16x2048x2048, .f32⟩
  | 25 => ⟨S16x2048x2048, .f32⟩
  | 26 => ⟨S16x2048x2048, .f32⟩
  | 27 => ⟨S16x2048x2048, .f32⟩
  | 28 => ⟨S16x2048x2048, .f32⟩
  | 29 => ⟨S16x2048x2048, .f32⟩
  | 30 => ⟨S_, .f32⟩
  | 31 => ⟨S16x2048x2048, .f32⟩
  | 32 => ⟨S16x2048x2048, .i1⟩
  | 33 => ⟨S_, .f32⟩
  | 34 => ⟨S16x2048x2048, .f32⟩
  | 35 => ⟨S16x2048x2048, .f32⟩
  | 36 => ⟨S_, .f32⟩
  | 37 => ⟨S16x2048x2048, .f32⟩
  | 38 => ⟨S16x2048x2048, .i1⟩
  | 39 => ⟨S_, .f32⟩
  | 40 => ⟨S16x2048x2048, .f32⟩
  | 41 => ⟨S16x2048x2048, .f32⟩
  | 42 => ⟨S16x2048x2048, .f32⟩
  | 43 => ⟨S16x2048x2048, .f32⟩
  | 44 => ⟨S_, .f32⟩
  | 45 => ⟨S_, .f32⟩
  | 46 => ⟨S_, .i1⟩
  | 47 => ⟨S_, .f32⟩
  | 48 => ⟨S_, .f32⟩
  | 49 => ⟨S_, .f32⟩
  | 50 => ⟨S_, .f32⟩
  | 51 => ⟨S16x2048x2048, .f32⟩
  | 52 => ⟨S16x2048x2048, .i1⟩
  | 53 => ⟨S_, .f32⟩
  | 54 => ⟨S16x2048x2048, .f32⟩
  | 55 => ⟨S16x2048x2048, .f32⟩
  | 56 => ⟨S16x2048x2048, .f32⟩
  | 57 => ⟨S16x2048x2048, .f32⟩
  | 58 => ⟨S16x2048x2048, .f32⟩
  | 59 => ⟨S_, .f32⟩
  | 60 => ⟨S16x2048x2048, .f32⟩
  | 61 => ⟨S16x2048x2048, .f32⟩
  | 62 => ⟨S16x2048x2048, .f32⟩
  | 63 => ⟨S1x2048x2048, .i1⟩
  | 64 => ⟨S16x2048x2048, .f32⟩
  | 65 => ⟨S16x2048x2048, .f32⟩
  | 66 => ⟨S_, .f32⟩
  | 67 => ⟨S16x2048x2048, .f32⟩
  | 68 => ⟨S16x2048x2048, .f32⟩
  | 69 => ⟨S16x2048x2048, .f32⟩
  | 70 => ⟨S16x2048x2048, .f32⟩
  | 71 => ⟨S16x2048x2048, .i1⟩
  | 72 => ⟨S16x2048x2048, .f32⟩
  | 73 => ⟨S16x2048x2048, .f32⟩
  | 74 => ⟨S16x2048x2048, .f32⟩
  | 75 => ⟨S16x2048x2048, .f32⟩
  | 76 => ⟨S16x2048x2048, .f32⟩
  | 77 => ⟨S16x2048x2048, .f32⟩
  | 78 => ⟨S16x2048x2048, .f32⟩
  | 79 => ⟨S16x2048x2048, .f32⟩
  | 80 => ⟨S_, .f32⟩
  | 81 => ⟨S16x2048x2048, .f32⟩
  | 82 => ⟨S16x2048x2048, .i1⟩
  | 83 => ⟨S_, .f32⟩
  | 84 => ⟨S16x2048x2048, .f32⟩
  | 85 => ⟨S16x2048x2048, .f32⟩
  | 86 => ⟨S_, .f32⟩
  | 87 => ⟨S16x2048x2048, .f32⟩
  | 88 => ⟨S16x2048x2048, .i1⟩
  | 89 => ⟨S_, .f32⟩
  | 90 => ⟨S16x2048x2048, .f32⟩
  | 91 => ⟨S16x2048x2048, .f32⟩
  | 92 => ⟨S16x2048x2048, .f32⟩
  | 93 => ⟨S16x2048x2048, .f32⟩
  | 94 => ⟨S_, .f32⟩
  | 95 => ⟨S_, .f32⟩
  | 96 => ⟨S_, .i1⟩
  | 97 => ⟨S_, .f32⟩
  | 98 => ⟨S_, .f32⟩
  | 99 => ⟨S_, .f32⟩
  | 100 => ⟨S_, .f32⟩
  | 101 => ⟨S16x2048x2048, .f32⟩
  | 102 => ⟨S16x2048x2048, .i1⟩
  | 103 => ⟨S_, .f32⟩
  | 104 => ⟨S16x2048x2048, .f32⟩
  | 105 => ⟨S16x2048x2048, .f32⟩
  | 106 => ⟨S16x2048x2048, .f32⟩
  | 107 => ⟨S16x2048x2048, .f32⟩
  | 108 => ⟨S16x2048x2048, .f32⟩
  | 109 => ⟨S_, .f32⟩
  | 110 => ⟨S16x2048x2048, .f32⟩
  | 111 => ⟨S16x2048x2048, .f32⟩
  | 112 => ⟨S16x2048x2048, .f32⟩
  | 113 => ⟨S_, .f32⟩
  | 114 => ⟨S_, .f32⟩
  | 115 => ⟨S16x2048x2048, .i1⟩
  | 116 => ⟨S16x2048x2048, .f32⟩
  | 117 => ⟨S16x2048x2048, .f32⟩
  | 118 => ⟨S_, .f32⟩
  | 119 => ⟨S16x2048x2048, .f32⟩
  | 120 => ⟨S_, .f32⟩
  | 121 => ⟨S_, .f32⟩
  | 122 => ⟨S16x2048x2048, .f32⟩
  | 123 => ⟨S16x2048x2048, .f32⟩
  | 124 => ⟨S1x2048x2048, .i1⟩
  | 125 => ⟨S16x2048x2048, .f32⟩
  | 126 => ⟨S16x2048x2048, .f32⟩
  | 127 => ⟨S_, .f32⟩
  | _ => ⟨S16x2048x64, .f32⟩

abbrev hbmTy0_1 (i : Nat) : BufTy := match i % 128 with
  | 0 => ⟨S_, .f32⟩
  | 1 => ⟨S16x2048x2048, .i1⟩
  | 2 => ⟨S16x2048x2048, .f32⟩
  | 3 => ⟨S16x2048x2048, .f32⟩
  | 4 => ⟨S_, .f32⟩
  | 5 => ⟨S16x2048x2048, .f32⟩
  | 6 => ⟨S16x2048x64, .f32⟩
  | 7 => ⟨S16x64x2048, .f32⟩
  | 8 => ⟨S16x2048x64, .f32⟩
  | 9 => ⟨S16x2048x2048, .f32⟩
  | 10 => ⟨S_, .f32⟩
  | 11 => ⟨S16x2048x2048, .f32⟩
  | 12 => ⟨S16x2048x2048, .f32⟩
  | 13 => ⟨S16x2048x2048, .f32⟩
  | 14 => ⟨S16x2048x2048, .f32⟩
  | 15 => ⟨S_, .f32⟩
  | 16 => ⟨S_, .f32⟩
  | 17 => ⟨S16x2048x2048, .f32⟩
  | 18 => ⟨S16x2048x2048, .f32⟩
  | 19 => ⟨S_, .f32⟩
  | 20 => ⟨S16x2048x2048, .f32⟩
  | 21 => ⟨S16x2048x2048, .f32⟩
  | 22 => ⟨S16x2048x2048, .f32⟩
  | 23 => ⟨S16x2048x2048, .f32⟩
  | 24 => ⟨S16x2048x2048, .f32⟩
  | 25 => ⟨S16x2048x2048, .f32⟩
  | 26 => ⟨S16x2048x2048, .f32⟩
  | 27 => ⟨S16x2048x2048, .f32⟩
  | 28 => ⟨S16x2048x2048, .f32⟩
  | 29 => ⟨S16x2048x2048, .f32⟩
  | 30 => ⟨S_, .f32⟩
  | 31 => ⟨S16x2048x2048, .f32⟩
  | 32 => ⟨S16x2048x2048, .f32⟩
  | 33 => ⟨S16x2048x64, .f32⟩
  | 34 => ⟨S16x2048x64, .f32⟩
  | _ => ⟨S16x2048x64, .f32⟩

abbrev hbmTy (i : Nat) : BufTy := match i / 128 with
  | 0 => hbmTy0_0 i
  | 1 => hbmTy0_1 i
  | _ => ⟨S16x2048x64, .f32⟩

abbrev bufTy : (tb : Table) → Fin (tcTables nBuf tb) → BufTy
  | .hbm, ⟨i, _⟩ => hbmTy i
  | _, _ => ⟨S16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_v0 : Ref sig .tc := ⟨.hbm, 15, rfl⟩
abbrev main_call0_call0_cst : Ref sig .tc := ⟨.hbm, 16, rfl⟩
abbrev main_call0_call0_v0 : Ref sig .tc := ⟨.hbm, 17, rfl⟩
abbrev main_call0_call0_v1 : Ref sig .tc := ⟨.hbm, 18, rfl⟩
abbrev main_call0_call0_v2 : Ref sig .tc := ⟨.hbm, 19, rfl⟩
abbrev main_call0_call0_v3 : Ref sig .tc := ⟨.hbm, 20, rfl⟩
abbrev main_call0_call0_v4 : Ref sig .tc := ⟨.hbm, 21, rfl⟩
abbrev main_call0_call0_v5 : Ref sig .tc := ⟨.hbm, 22, rfl⟩
abbrev main_call0_call0_v6 : Ref sig .tc := ⟨.hbm, 23, rfl⟩
abbrev main_call0_call0_v7 : Ref sig .tc := ⟨.hbm, 24, rfl⟩
abbrev main_call0_call0_v8 : Ref sig .tc := ⟨.hbm, 25, rfl⟩
abbrev main_call0_call0_v9 : Ref sig .tc := ⟨.hbm, 26, rfl⟩
abbrev main_call0_call0_v10 : Ref sig .tc := ⟨.hbm, 27, rfl⟩
abbrev main_call0_call0_v11 : Ref sig .tc := ⟨.hbm, 28, rfl⟩
abbrev main_call0_v1_0 : Ref sig .tc := ⟨.hbm, 29, rfl⟩
abbrev main_call0_call0_cst_0 : Ref sig .tc := ⟨.hbm, 30, rfl⟩
abbrev main_call0_call0_v13 : Ref sig .tc := ⟨.hbm, 31, rfl⟩
abbrev main_call0_call0_v14 : Ref sig .tc := ⟨.hbm, 32, rfl⟩
abbrev main_call0_call0_cst_1 : Ref sig .tc := ⟨.hbm, 33, rfl⟩
abbrev main_call0_call0_v15 : Ref sig .tc := ⟨.hbm, 34, rfl⟩
abbrev main_call0_call0_v16 : Ref sig .tc := ⟨.hbm, 35, rfl⟩
abbrev main_call0_call0_cst_2 : Ref sig .tc := ⟨.hbm, 36, rfl⟩
abbrev main_call0_call0_v17 : Ref sig .tc := ⟨.hbm, 37, rfl⟩
abbrev main_call0_call0_v18 : Ref sig .tc := ⟨.hbm, 38, rfl⟩
abbrev main_call0_call0_cst_3 : Ref sig .tc := ⟨.hbm, 39, rfl⟩
abbrev main_call0_call0_v19 : Ref sig .tc := ⟨.hbm, 40, rfl⟩
abbrev main_call0_call0_v20 : Ref sig .tc := ⟨.hbm, 41, rfl⟩
abbrev main_call0_call0_v21 : Ref sig .tc := ⟨.hbm, 42, rfl⟩
abbrev main_v10_1 : Ref sig .tc := ⟨.hbm, 43, rfl⟩
abbrev main_call0_call0_cst_4 : Ref sig .tc := ⟨.hbm, 44, rfl⟩
abbrev main_call0_call0_cst_5 : Ref sig .tc := ⟨.hbm, 45, rfl⟩
abbrev main_call0_call0_v23 : Ref sig .tc := ⟨.hbm, 46, rfl⟩
abbrev main_call0_call0_cst_6 : Ref sig .tc := ⟨.hbm, 47, rfl⟩
abbrev main_call0_call0_cst_7 : Ref sig .tc := ⟨.hbm, 48, rfl⟩
abbrev main_call0_call0_v24 : Ref sig .tc := ⟨.hbm, 49, rfl⟩
abbrev main_call0_call0_cst_8 : Ref sig .tc := ⟨.hbm, 50, rfl⟩
abbrev main_call0_call0_v25 : Ref sig .tc := ⟨.hbm, 51, rfl⟩
abbrev main_call0_call0_v26 : Ref sig .tc := ⟨.hbm, 52, rfl⟩
abbrev main_call0_call0_cst_9 : Ref sig .tc := ⟨.hbm, 53, rfl⟩
abbrev main_call0_call0_v27 : Ref sig .tc := ⟨.hbm, 54, rfl⟩
abbrev main_call0_call0_v28 : Ref sig .tc := ⟨.hbm, 55, rfl⟩
abbrev main_call0_call0_v29 : Ref sig .tc := ⟨.hbm, 56, rfl⟩
abbrev main_call0_call0_v30 : Ref sig .tc := ⟨.hbm, 57, rfl⟩
abbrev main_call0_call0_v31 : Ref sig .tc := ⟨.hbm, 58, rfl⟩
abbrev main_call0_call0_cst_10 : Ref sig .tc := ⟨.hbm, 59, rfl⟩
abbrev main_call0_call0_v32 : Ref sig .tc := ⟨.hbm, 60, rfl⟩
abbrev main_v10_2 : Ref sig .tc := ⟨.hbm, 61, rfl⟩
abbrev main_v10_0 : Ref sig .tc := ⟨.hbm, 62, rfl⟩
abbrev main_v11 : Ref sig .tc := ⟨.hbm, 63, rfl⟩
abbrev main_v12 : Ref sig .tc := ⟨.hbm, 64, rfl⟩
abbrev main_call1_v0 : Ref sig .tc := ⟨.hbm, 65, rfl⟩
abbrev main_call1_call0_cst : Ref sig .tc := ⟨.hbm, 66, rfl⟩
abbrev main_call1_call0_v0 : Ref sig .tc := ⟨.hbm, 67, rfl⟩
abbrev main_call1_call0_v1 : Ref sig .tc := ⟨.hbm, 68, rfl⟩
abbrev main_call1_call0_v2 : Ref sig .tc := ⟨.hbm, 69, rfl⟩
abbrev main_call1_call0_v3 : Ref sig .tc := ⟨.hbm, 70, rfl⟩
abbrev main_call1_call0_v4 : Ref sig .tc := ⟨.hbm, 71, rfl⟩
abbrev main_call1_call0_v5 : Ref sig .tc := ⟨.hbm, 72, rfl⟩
abbrev main_call1_call0_v6 : Ref sig .tc := ⟨.hbm, 73, rfl⟩
abbrev main_call1_call0_v7 : Ref sig .tc := ⟨.hbm, 74, rfl⟩
abbrev main_call1_call0_v8 : Ref sig .tc := ⟨.hbm, 75, rfl⟩
abbrev main_call1_call0_v9 : Ref sig .tc := ⟨.hbm, 76, rfl⟩
abbrev main_call1_call0_v10 : Ref sig .tc := ⟨.hbm, 77, rfl⟩
abbrev main_call1_call0_v11 : Ref sig .tc := ⟨.hbm, 78, rfl⟩
abbrev main_call1_v1_0 : Ref sig .tc := ⟨.hbm, 79, rfl⟩
abbrev main_call1_call0_cst_0 : Ref sig .tc := ⟨.hbm, 80, rfl⟩
abbrev main_call1_call0_v13 : Ref sig .tc := ⟨.hbm, 81, rfl⟩
abbrev main_call1_call0_v14 : Ref sig .tc := ⟨.hbm, 82, rfl⟩
abbrev main_call1_call0_cst_1 : Ref sig .tc := ⟨.hbm, 83, rfl⟩
abbrev main_call1_call0_v15 : Ref sig .tc := ⟨.hbm, 84, rfl⟩
abbrev main_call1_call0_v16 : Ref sig .tc := ⟨.hbm, 85, rfl⟩
abbrev main_call1_call0_cst_2 : Ref sig .tc := ⟨.hbm, 86, rfl⟩
abbrev main_call1_call0_v17 : Ref sig .tc := ⟨.hbm, 87, rfl⟩
abbrev main_call1_call0_v18 : Ref sig .tc := ⟨.hbm, 88, rfl⟩
abbrev main_call1_call0_cst_3 : Ref sig .tc := ⟨.hbm, 89, rfl⟩
abbrev main_call1_call0_v19 : Ref sig .tc := ⟨.hbm, 90, rfl⟩
abbrev main_call1_call0_v20 : Ref sig .tc := ⟨.hbm, 91, rfl⟩
abbrev main_call1_call0_v21 : Ref sig .tc := ⟨.hbm, 92, rfl⟩
abbrev main_v13_1 : Ref sig .tc := ⟨.hbm, 93, rfl⟩
abbrev main_call1_call0_cst_4 : Ref sig .tc := ⟨.hbm, 94, rfl⟩
abbrev main_call1_call0_cst_5 : Ref sig .tc := ⟨.hbm, 95, rfl⟩
abbrev main_call1_call0_v23 : Ref sig .tc := ⟨.hbm, 96, rfl⟩
abbrev main_call1_call0_cst_6 : Ref sig .tc := ⟨.hbm, 97, rfl⟩
abbrev main_call1_call0_cst_7 : Ref sig .tc := ⟨.hbm, 98, rfl⟩
abbrev main_call1_call0_v24 : Ref sig .tc := ⟨.hbm, 99, rfl⟩
abbrev main_call1_call0_cst_8 : Ref sig .tc := ⟨.hbm, 100, rfl⟩
abbrev main_call1_call0_v25 : Ref sig .tc := ⟨.hbm, 101, rfl⟩
abbrev main_call1_call0_v26 : Ref sig .tc := ⟨.hbm, 102, rfl⟩
abbrev main_call1_call0_cst_9 : Ref sig .tc := ⟨.hbm, 103, rfl⟩
abbrev main_call1_call0_v27 : Ref sig .tc := ⟨.hbm, 104, rfl⟩
abbrev main_call1_call0_v28 : Ref sig .tc := ⟨.hbm, 105, rfl⟩
abbrev main_call1_call0_v29 : Ref sig .tc := ⟨.hbm, 106, rfl⟩
abbrev main_call1_call0_v30 : Ref sig .tc := ⟨.hbm, 107, rfl⟩
abbrev main_call1_call0_v31 : Ref sig .tc := ⟨.hbm, 108, rfl⟩
abbrev main_call1_call0_cst_10 : Ref sig .tc := ⟨.hbm, 109, rfl⟩
abbrev main_call1_call0_v32 : Ref sig .tc := ⟨.hbm, 110, rfl⟩
abbrev main_v13_2 : Ref sig .tc := ⟨.hbm, 111, rfl⟩
abbrev main_v13_0 : Ref sig .tc := ⟨.hbm, 112, rfl⟩
abbrev main_cst_0 : Ref sig .tc := ⟨.hbm, 113, rfl⟩
abbrev main_call2_v0 : Ref sig .tc := ⟨.hbm, 114, rfl⟩
abbrev main_v14_1 : Ref sig .tc := ⟨.hbm, 115, rfl⟩
abbrev main_call2_v2 : Ref sig .tc := ⟨.hbm, 116, rfl⟩
abbrev main_v14_0 : Ref sig .tc := ⟨.hbm, 117, rfl⟩
abbrev main_call2_cst : Ref sig .tc := ⟨.hbm, 118, rfl⟩
abbrev main_v14_2 : Ref sig .tc := ⟨.hbm, 119, rfl⟩
abbrev main_call3_cst : Ref sig .tc := ⟨.hbm, 120, rfl⟩
abbrev main_call3_v0 : Ref sig .tc := ⟨.hbm, 121, rfl⟩
abbrev main_v15 : Ref sig .tc := ⟨.hbm, 122, rfl⟩
abbrev main_v16 : Ref sig .tc := ⟨.hbm, 123, rfl⟩
abbrev main_v17 : Ref sig .tc := ⟨.hbm, 124, rfl⟩
abbrev main_v18 : Ref sig .tc := ⟨.hbm, 125, rfl⟩
abbrev main_v19 : Ref sig .tc := ⟨.hbm, 126, rfl⟩
abbrev main_cst_1 : Ref sig .tc := ⟨.hbm, 127, rfl⟩
abbrev main_call4_v0 : Ref sig .tc := ⟨.hbm, 128, rfl⟩
abbrev main_v20_1 : Ref sig .tc := ⟨.hbm, 129, rfl⟩
abbrev main_call4_v2 : Ref sig .tc := ⟨.hbm, 130, rfl⟩
abbrev main_v20_0 : Ref sig .tc := ⟨.hbm, 131, rfl⟩
abbrev main_call4_cst : Ref sig .tc := ⟨.hbm, 132, rfl⟩
abbrev main_v20_2 : Ref sig .tc := ⟨.hbm, 133, rfl⟩
abbrev main_v21 : Ref sig .tc := ⟨.hbm, 134, rfl⟩
abbrev main_v22 : Ref sig .tc := ⟨.hbm, 135, rfl⟩
abbrev main_v23 : Ref sig .tc := ⟨.hbm, 136, rfl⟩
abbrev main_v24 : Ref sig .tc := ⟨.hbm, 137, rfl⟩
abbrev main_call5_cst : Ref sig .tc := ⟨.hbm, 138, rfl⟩
abbrev main_call5_v0 : Ref sig .tc := ⟨.hbm, 139, rfl⟩
abbrev main_v25 : Ref sig .tc := ⟨.hbm, 140, rfl⟩
abbrev main_v26 : Ref sig .tc := ⟨.hbm, 141, rfl⟩
abbrev main_v27 : Ref sig .tc := ⟨.hbm, 142, rfl⟩
abbrev main_call6_cst : Ref sig .tc := ⟨.hbm, 143, rfl⟩
abbrev main_call6_v0 : Ref sig .tc := ⟨.hbm, 144, rfl⟩
abbrev main_v28 : Ref sig .tc := ⟨.hbm, 145, rfl⟩
abbrev main_v29 : Ref sig .tc := ⟨.hbm, 146, rfl⟩
abbrev main_call7_cst : Ref sig .tc := ⟨.hbm, 147, rfl⟩
abbrev main_call7_v0 : Ref sig .tc := ⟨.hbm, 148, rfl⟩
abbrev main_v30 : Ref sig .tc := ⟨.hbm, 149, rfl⟩
abbrev main_call8_v0 : Ref sig .tc := ⟨.hbm, 150, rfl⟩
abbrev main_call8_v1 : Ref sig .tc := ⟨.hbm, 151, rfl⟩
abbrev main_v31 : Ref sig .tc := ⟨.hbm, 152, rfl⟩
abbrev main_v32 : Ref sig .tc := ⟨.hbm, 153, rfl⟩
abbrev main_call9_v0 : Ref sig .tc := ⟨.hbm, 154, rfl⟩
abbrev main_call9_v1 : Ref sig .tc := ⟨.hbm, 155, rfl⟩
abbrev main_v33 : Ref sig .tc := ⟨.hbm, 156, rfl⟩
abbrev main_v34 : Ref sig .tc := ⟨.hbm, 157, rfl⟩
abbrev main_cst_2 : Ref sig .tc := ⟨.hbm, 158, rfl⟩
abbrev main_v35 : Ref sig .tc := ⟨.hbm, 159, rfl⟩
abbrev main_v36 : Ref sig .tc := ⟨.hbm, 160, rfl⟩
abbrev main_v37 : Ref sig .tc := ⟨.hbm, 161, rfl⟩
abbrev main_v38 : Ref sig .tc := ⟨.hbm, 162, rfl⟩

abbrev nD : Nat := 1
abbrev τ : Topo := Topo.v7x

variable {F : FTy → Type} [FloatOps F]
-- ==== Up.lean ====
abbrev S2048x2048 : Shape := ⟨2, ![2048, 2048]⟩
abbrev S4x2048x2048 : Shape := ⟨3, ![4, 2048, 2048]⟩
abbrev S2048x8192 : Shape := ⟨2, ![2048, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 6
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S4x2048x2048, .f32⟩
  | .hbm, ⟨2, _⟩ => ⟨S2048x2048, .bf16⟩
  | .hbm, ⟨3, _⟩ => ⟨S4x2048x2048, .bf16⟩
  | .hbm, ⟨4, _⟩ => ⟨S2048x8192, .bf16⟩
  | .hbm, ⟨5, _⟩ => ⟨S2048x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpRefIdeal.lean ====
abbrev S2048x2048 : Shape := ⟨2, ![2048, 2048]⟩
abbrev S4x2048x2048 : Shape := ⟨3, ![4, 2048, 2048]⟩
abbrev S2048x4x2048 : Shape := ⟨3, ![2048, 4, 2048]⟩
abbrev S2048x8192 : Shape := ⟨2, ![2048, 8192]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S4x2048x2048, .f32⟩
  | .hbm, ⟨2, _⟩ => ⟨S2048x4x2048, .f32⟩
  | .hbm, ⟨3, _⟩ => ⟨S2048x8192, .f32⟩
  | .hbm, ⟨4, _⟩ => ⟨S2048x8192, .bf16⟩
  | .hbm, ⟨5, _⟩ => ⟨S_, .f32⟩
  | .hbm, ⟨6, _⟩ => ⟨S2048x8192, .f32⟩
  | .hbm, ⟨7, _⟩ => ⟨S2048x8192, .f32⟩
  | .hbm, ⟨8, _⟩ => ⟨S2048x8192, .f32⟩
  | .hbm, ⟨9, _⟩ => ⟨S2048x8192, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Down.lean ====
abbrev S2048x8192 : Shape := ⟨2, ![2048, 8192]⟩
abbrev S8192x2048 : Shape := ⟨2, ![8192, 2048]⟩
abbrev S1x8192x2048 : Shape := ⟨3, ![1, 8192, 2048]⟩
abbrev S2048x2048 : Shape := ⟨2, ![2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2048x8192, .f32⟩
  | .hbm, ⟨1, _⟩ => ⟨S8192x2048, .f32⟩
  | .hbm, ⟨2, _⟩ => ⟨S2048x8192, .bf16⟩
  | .hbm, ⟨3, _⟩ => ⟨S8192x2048, .bf16⟩
  | .hbm, ⟨4, _⟩ => ⟨S1x8192x2048, .bf16⟩
  | .hbm, ⟨5, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_7 : BitVec 32 := 3#32
  let v13 : BitVec 1 := Scalar.cmpi .eq arg2 c3_i32_7
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S2048x8192 : Shape := ⟨2, ![2048, 8192]⟩
abbrev S8192x2048 : Shape := ⟨2, ![8192, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S8192x2048, .f32⟩
  | .hbm, ⟨2, _⟩ => ⟨S2048x2048, .f32⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Dw2.lean ====
abbrev S2048x8192 : Shape := ⟨2, ![2048, 8192]⟩
abbrev S2048x2048 : Shape := ⟨2, ![2048, 2048]⟩
abbrev S1x8192x2048 : Shape := ⟨3, ![1, 8192, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x8192, .f32⟩
  | .hbm, ⟨1, _⟩ => ⟨S2048x2048, .f32⟩
  | .hbm, ⟨2, _⟩ => ⟨S2048x8192, .bf16⟩
  | .hbm, ⟨3, _⟩ => ⟨S2048x2048, .bf16⟩
  | .hbm, ⟨4, _⟩ => ⟨S1x8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Dw2RefIdeal.lean ====
abbrev S2048x8192 : Shape := ⟨2, ![2048, 8192]⟩
abbrev S2048x2048 : Shape := ⟨2, ![2048, 2048]⟩
abbrev S_ : Shape := ⟨0, ![]⟩
abbrev S1x8192x2048 : Shape := ⟨3, ![1, 8192, 2048]⟩
abbrev S8192x2048 : Shape := ⟨2, ![8192, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S2048x2048, .f32⟩
  | .hbm, ⟨2, _⟩ => ⟨S_, .f32⟩
  | .hbm, ⟨3, _⟩ => ⟨S1x8192x2048, .f32⟩
  | .hbm, ⟨4, _⟩ => ⟨S8192x2048, .f32⟩
  | .hbm, ⟨5, _⟩ => ⟨S2048x2048, .f32⟩
  | .hbm, ⟨6, _⟩ => ⟨S2048x8192, .f32⟩
  | .hbm, ⟨7, _⟩ => ⟨S8192x2048, .f32⟩
  | .hbm, ⟨8, _⟩ => ⟨S1x8192x2048, .f32⟩
  | .hbm, ⟨9, _⟩ => ⟨S1x8192x2048, .bf16⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dact.lean ====
abbrev S2048x8192 : Shape := ⟨2, ![2048, 8192]⟩
abbrev S8192x2048 : Shape := ⟨2, ![8192, 2048]⟩
abbrev S2048x2048 : Shape := ⟨2, ![2048, 2048]⟩
abbrev S1x8192x2048 : Shape := ⟨3, ![1, 8192, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 8
  | .vmem => 8
  | .smem => 0
  | _ => 0

abbrev bufTy : (tb : Table) → Fin (tcTables nBuf tb) → BufTy
  | .hbm, ⟨0, _⟩ => ⟨S2048x8192, .f32⟩
  | .hbm, ⟨1, _⟩ => ⟨S8192x2048, .f32⟩
  | .hbm, ⟨2, _⟩ => ⟨S2048x2048, .f32⟩
  | .hbm, ⟨3, _⟩ => ⟨S2048x2048, .bf16⟩
  | .hbm, ⟨4, _⟩ => ⟨S8192x2048, .bf16⟩
  | .hbm, ⟨5, _⟩ => ⟨S1x8192x2048, .bf16⟩
  | .hbm, ⟨6, _⟩ => ⟨S2048x8192, .bf16⟩
  | .hbm, ⟨7, _⟩ => ⟨S2048x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DactRefIdeal.lean ====
abbrev S2048x8192 : Shape := ⟨2, ![2048, 8192]⟩
abbrev S8192x2048 : Shape := ⟨2, ![8192, 2048]⟩
abbrev S2048x2048 : Shape := ⟨2, ![2048, 2048]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S8192x2048, .f32⟩
  | .hbm, ⟨2, _⟩ => ⟨S2048x2048, .f32⟩
  | .hbm, ⟨3, _⟩ => ⟨S_, .f32⟩
  | .hbm, ⟨4, _⟩ => ⟨S2048x8192, .f32⟩
  | .hbm, ⟨5, _⟩ => ⟨S2048x8192, .f32⟩
  | .hbm, ⟨6, _⟩ => ⟨S_, .f32⟩
  | .hbm, ⟨7, _⟩ => ⟨S2048x8192, .f32⟩
  | .hbm, ⟨8, _⟩ => ⟨S2048x8192, .i1⟩
  | .hbm, ⟨9, _⟩ => ⟨S_, .f32⟩
  | .hbm, ⟨10, _⟩ => ⟨S2048x8192, .f32⟩
  | .hbm, ⟨11, _⟩ => ⟨S2048x8192, .f32⟩
  | .hbm, ⟨12, _⟩ => ⟨S2048x2048, .f32⟩
  | .hbm, ⟨13, _⟩ => ⟨S2048x8192, .f32⟩
  | .hbm, ⟨14, _⟩ => ⟨S2048x8192, .f32⟩
  | .hbm, ⟨15, _⟩ => ⟨S2048x8192, .f32⟩
  | .hbm, ⟨16, _⟩ => ⟨S2048x8192, .f32⟩
  | .hbm, ⟨17, _⟩ => ⟨S_, .f32⟩
  | .hbm, ⟨18, _⟩ => ⟨S2048x8192, .f32⟩
  | .hbm, ⟨19, _⟩ => ⟨S2048x8192, .f32⟩
  | .hbm, ⟨20, _⟩ => ⟨S2048x8192, .bf16⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]
-- ==== Dw1.lean ====
abbrev S2048x2048 : Shape := ⟨2, ![2048, 2048]⟩
abbrev S2048x8192 : Shape := ⟨2, ![2048, 8192]⟩
abbrev S4x2048x2048 : Shape := ⟨3, ![4, 2048, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S2048x2048, .bf16⟩
  | .hbm, ⟨3, _⟩ => ⟨S2048x8192, .bf16⟩
  | .hbm, ⟨4, _⟩ => ⟨S4x2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Dw1RefIdeal.lean ====
abbrev S2048x2048 : Shape := ⟨2, ![2048, 2048]⟩
abbrev S2048x8192 : Shape := ⟨2, ![2048, 8192]⟩
abbrev S_ : Shape := ⟨0, ![]⟩
abbrev S4x2048x2048 : Shape := ⟨3, ![4, 2048, 2048]⟩
abbrev S2048x4x2048 : Shape := ⟨3, ![2048, 4, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S_, .f32⟩
  | .hbm, ⟨3, _⟩ => ⟨S4x2048x2048, .f32⟩
  | .hbm, ⟨4, _⟩ => ⟨S2048x4x2048, .f32⟩
  | .hbm, ⟨5, _⟩ => ⟨S2048x8192, .f32⟩
  | .hbm, ⟨6, _⟩ => ⟨S2048x4x2048, .f32⟩
  | .hbm, ⟨7, _⟩ => ⟨S4x2048x2048, .f32⟩
  | .hbm, ⟨8, _⟩ => ⟨S4x2048x2048, .f32⟩
  | .hbm, ⟨9, _⟩ => ⟨S4x2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dx.lean ====
abbrev S2048x8192 : Shape := ⟨2, ![2048, 8192]⟩
abbrev S4x2048x2048 : Shape := ⟨3, ![4, 2048, 2048]⟩
abbrev S2048x2048 : Shape := ⟨2, ![2048, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S2048x8192, .f32⟩
  | .hbm, ⟨1, _⟩ => ⟨S4x2048x2048, .f32⟩
  | .hbm, ⟨2, _⟩ => ⟨S2048x2048, .f32⟩
  | .hbm, ⟨3, _⟩ => ⟨S2048x8192, .bf16⟩
  | .hbm, ⟨4, _⟩ => ⟨S4x2048x2048, .bf16⟩
  | .hbm, ⟨5, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_7 : BitVec 32 := 3#32
  let v13 : BitVec 1 := Scalar.cmpi .eq arg2 c3_i32_7
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DxRefIdeal.lean ====
abbrev S2048x8192 : Shape := ⟨2, ![2048, 8192]⟩
abbrev S4x2048x2048 : Shape := ⟨3, ![4, 2048, 2048]⟩
abbrev S2048x2048 : Shape := ⟨2, ![2048, 2048]⟩
abbrev S_ : Shape := ⟨0, ![]⟩
abbrev S2048x4x2048 : Shape := ⟨3, ![2048, 4, 2048]⟩

abbrev nBuf : Space → Nat
  | .hbm => 16
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S4x2048x2048, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S2048x4x2048, .f32⟩
  | .hbm, ⟨9, _⟩ => ⟨S2048x8192, .f32⟩
  | .hbm, ⟨10, _⟩ => ⟨S2048x4x2048, .f32⟩
  | .hbm, ⟨11, _⟩ => ⟨S2048x2048, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S2048x2048, .f32⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== EvenIn.lean ====
abbrev S2048x2048 : Shape := ⟨2, ![2048, 2048]⟩
abbrev S4x2048x1536 : Shape := ⟨3, ![4, 2048, 1536]⟩
abbrev S2048x6144 : Shape := ⟨2, ![2048, 6144]⟩
abbrev S1024x2048 : Shape := ⟨2, ![1024, 2048]⟩
abbrev S1x2048x768 : Shape := ⟨3, ![1, 2048, 768]⟩
abbrev S1024x768 : Shape := ⟨2, ![1024, 768]⟩
abbrev S2048x768 : Shape := ⟨2, ![2048, 768]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S4x2048x1536, .f32⟩
  | .hbm, ⟨2, _⟩ => ⟨S2048x2048, .bf16⟩
  | .hbm, ⟨3, _⟩ => ⟨S4x2048x1536, .bf16⟩
  | .hbm, ⟨4, _⟩ => ⟨S2048x6144, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x768, .bf16⟩
  | .local _ .vmem, ⟨3, _⟩ => ⟨S1x2048x768, .bf16⟩
  | .local _ .vmem, ⟨4, _⟩ => ⟨S1024x768, .bf16⟩
  | .local _ .vmem, ⟨5, _⟩ => ⟨S1024x768, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvenInRefIdeal.lean ====
abbrev S2048x2048 : Shape := ⟨2, ![2048, 2048]⟩
abbrev S4x2048x1536 : Shape := ⟨3, ![4, 2048, 1536]⟩
abbrev S2048x4x1536 : Shape := ⟨3, ![2048, 4, 1536]⟩
abbrev S2048x6144 : Shape := ⟨2, ![2048, 6144]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S4x2048x1536, .f32⟩
  | .hbm, ⟨2, _⟩ => ⟨S2048x4x1536, .f32⟩
  | .hbm, ⟨3, _⟩ => ⟨S2048x6144, .f32⟩
  | .hbm, ⟨4, _⟩ => ⟨S2048x6144, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== EvenDwin.lean ====
abbrev S2048x2048 : Shape := ⟨2, ![2048, 2048]⟩
abbrev S2048x6144 : Shape := ⟨2, ![2048, 6144]⟩
abbrev S4x2048x1536 : Shape := ⟨3, ![4, 2048, 1536]⟩
abbrev S2048x1024 : Shape := ⟨2, ![2048, 1024]⟩
abbrev S2048x768 : Shape := ⟨2, ![2048, 768]⟩
abbrev S1x1024x768 : Shape := ⟨3, ![1, 1024, 768]⟩
abbrev S1024x768 : Shape := ⟨2, ![1024, 768]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x6144, .f32⟩
  | .hbm, ⟨2, _⟩ => ⟨S2048x2048, .bf16⟩
  | .hbm, ⟨3, _⟩ => ⟨S2048x6144, .bf16⟩
  | .hbm, ⟨4, _⟩ => ⟨S4x2048x1536, .bf16⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1x1024x768, .bf16⟩
  | .local _ .vmem, ⟨5, _⟩ => ⟨S1x1024x768, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== EvenDwinRefIdeal.lean ====
abbrev S2048x2048 : Shape := ⟨2, ![2048, 2048]⟩
abbrev S2048x6144 : Shape := ⟨2, ![2048, 6144]⟩
abbrev S_ : Shape := ⟨0, ![]⟩
abbrev S4x2048x1536 : Shape := ⟨3, ![4, 2048, 1536]⟩
abbrev S2048x4x1536 : Shape := ⟨3, ![2048, 4, 1536]⟩
abbrev S4x1536x2048 : Shape := ⟨3, ![4, 1536, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x6144, .f32⟩
  | .hbm, ⟨2, _⟩ => ⟨S_, .f32⟩
  | .hbm, ⟨3, _⟩ => ⟨S4x2048x1536, .f32⟩
  | .hbm, ⟨4, _⟩ => ⟨S2048x4x1536, .f32⟩
  | .hbm, ⟨5, _⟩ => ⟨S2048x6144, .f32⟩
  | .hbm, ⟨6, _⟩ => ⟨S2048x4x1536, .f32⟩
  | .hbm, ⟨7, _⟩ => ⟨S4x1536x2048, .f32⟩
  | .hbm, ⟨8, _⟩ => ⟨S4x2048x1536, .f32⟩
  | .hbm, ⟨9, _⟩ => ⟨S4x2048x1536, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== EvenDx.lean ====
abbrev S2048x6144 : Shape := ⟨2, ![2048, 6144]⟩
abbrev S4x2048x1536 : Shape := ⟨3, ![4, 2048, 1536]⟩
abbrev S2048x2048 : Shape := ⟨2, ![2048, 2048]⟩
abbrev S_ : Shape := ⟨0, ![]⟩
abbrev S8x128 : Shape := ⟨2, ![8, 128]⟩
abbrev S1024x1536 : Shape := ⟨2, ![1024, 1536]⟩
abbrev S1x1024x1536 : Shape := ⟨3, ![1, 1024, 1536]⟩
abbrev S1024x1024 : Shape := ⟨2, ![1024, 1024]⟩

abbrev nBuf : Space → Nat
  | .hbm => 8
  | .vmem => 9
  | .smem => 0
  | _ => 0

abbrev bufTy : (tb : Table) → Fin (tcTables nBuf tb) → BufTy
  | .hbm, ⟨0, _⟩ => ⟨S2048x6144, .f32⟩
  | .hbm, ⟨1, _⟩ => ⟨S4x2048x1536, .f32⟩
  | .hbm, ⟨2, _⟩ => ⟨S2048x2048, .f32⟩
  | .hbm, ⟨3, _⟩ => ⟨S2048x6144, .bf16⟩
  | .hbm, ⟨4, _⟩ => ⟨S4x2048x1536, .bf16⟩
  | .hbm, ⟨5, _⟩ => ⟨S_, .f32⟩
  | .hbm, ⟨6, _⟩ => ⟨S8x128, .f32⟩
  | .hbm, ⟨7, _⟩ => ⟨S2048x2048, .f32⟩
  | .local _ .vmem, ⟨0, _⟩ => ⟨S1024x1536, .bf16⟩
  | .local _ .vmem, ⟨1, _⟩ => ⟨S1024x1536, .bf16⟩
  | .local _ .vmem, ⟨2, _⟩ => ⟨S1x1024x1536, .bf16⟩
  | .local _ .vmem, ⟨3, _⟩ => ⟨S1x1024x1536, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_7 : BitVec 32 := 3#32
  let v13 : BitVec 1 := Scalar.cmpi .eq arg2 c3_i32_7
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== EvenDxRefIdeal.lean ====
abbrev S2048x6144 : Shape := ⟨2, ![2048, 6144]⟩
abbrev S4x2048x1536 : Shape := ⟨3, ![4, 2048, 1536]⟩
abbrev S2048x2048 : Shape := ⟨2, ![2048, 2048]⟩
abbrev S_ : Shape := ⟨0, ![]⟩
abbrev S2048x4x1536 : Shape := ⟨3, ![2048, 4, 1536]⟩

abbrev nBuf : Space → Nat
  | .hbm => 16
  | .vmem => 0
  | .smem => 0
  | _ => 0

abbrev bufTy : (tb : Table) → Fin (tcTables nBuf tb) → BufTy
  | .hbm, ⟨0, _⟩ => ⟨S2048x6144, .f32⟩
  | .hbm, ⟨1, _⟩ => ⟨S4x2048x1536, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S2048x4x1536, .f32⟩
  | .hbm, ⟨9, _⟩ => ⟨S2048x6144, .f32⟩
  | .hbm, ⟨10, _⟩ => ⟨S2048x4x1536, .f32⟩
  | .hbm, ⟨11, _⟩ => ⟨S2048x2048, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S2048x2048, .f32⟩
  | _, _ => ⟨S2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== EvenOut.lean ====
abbrev S2048x1536 : Shape := ⟨2, ![2048, 1536]⟩
abbrev S4x1536x512 : Shape := ⟨3, ![4, 1536, 512]⟩
abbrev S2048x2048 : Shape := ⟨2, ![2048, 2048]⟩
abbrev S1024x1536 : Shape := ⟨2, ![1024, 1536]⟩
abbrev S1x1536x512 : Shape := ⟨3, ![1, 1536, 512]⟩
abbrev S1024x512 : Shape := ⟨2, ![1024, 512]⟩
abbrev S1536x512 : Shape := ⟨2, ![1536, 512]⟩

abbrev nBuf : Space → Nat
  | .hbm => 5
  | .vmem => 6
  | .smem => 0
  | _ => 0

abbrev bufTy : (tb : Table) → Fin (tcTables nBuf tb) → BufTy
  | .hbm, ⟨0, _⟩ => ⟨S2048x1536, .f32⟩
  | .hbm, ⟨1, _⟩ => ⟨S4x1536x512, .f32⟩
  | .hbm, ⟨2, _⟩ => ⟨S2048x1536, .bf16⟩
  | .hbm, ⟨3, _⟩ => ⟨S4x1536x512, .bf16⟩
  | .hbm, ⟨4, _⟩ => ⟨S2048x2048, .f32⟩
  | .local _ .vmem, ⟨0, _⟩ => ⟨S1024x1536, .bf16⟩
  | .local _ .vmem, ⟨1, _⟩ => ⟨S1024x1536, .bf16⟩
  | .local _ .vmem, ⟨2, _⟩ => ⟨S1x1536x512, .bf16⟩
  | .local _ .vmem, ⟨3, _⟩ => ⟨S1x1536x512, .bf16⟩
  | .local _ .vmem, ⟨4, _⟩ => ⟨S1024x512, .f32⟩
  | .local _ .vmem, ⟨5, _⟩ => ⟨S1024x512, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1536x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvenOutRefIdeal.lean ====
abbrev S2048x1536 : Shape := ⟨2, ![2048, 1536]⟩
abbrev S4x1536x512 : Shape := ⟨3, ![4, 1536, 512]⟩
abbrev S2048x4x512 : Shape := ⟨3, ![2048, 4, 512]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S4x1536x512, .f32⟩
  | .hbm, ⟨2, _⟩ => ⟨S2048x4x512, .f32⟩
  | .hbm, ⟨3, _⟩ => ⟨S2048x2048, .f32⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== EvenDwout.lean ====
abbrev S2048x1536 : Shape := ⟨2, ![2048, 1536]⟩
abbrev S2048x2048 : Shape := ⟨2, ![2048, 2048]⟩
abbrev S4x1536x512 : Shape := ⟨3, ![4, 1536, 512]⟩
abbrev S2048x768 : Shape := ⟨2, ![2048, 768]⟩
abbrev S2048x512 : Shape := ⟨2, ![2048, 512]⟩
abbrev S1x768x512 : Shape := ⟨3, ![1, 768, 512]⟩
abbrev S768x512 : Shape := ⟨2, ![768, 512]⟩

abbrev nBuf : Space → Nat
  | .hbm => 5
  | .vmem => 6
  | .smem => 0
  | _ => 0

abbrev bufTy : (tb : Table) → Fin (tcTables nBuf tb) → BufTy
  | .hbm, ⟨0, _⟩ => ⟨S2048x1536, .f32⟩
  | .hbm, ⟨1, _⟩ => ⟨S2048x2048, .f32⟩
  | .hbm, ⟨2, _⟩ => ⟨S2048x1536, .bf16⟩
  | .hbm, ⟨3, _⟩ => ⟨S2048x2048, .bf16⟩
  | .hbm, ⟨4, _⟩ => ⟨S4x1536x512, .bf16⟩
  | .local _ .vmem, ⟨0, _⟩ => ⟨S2048x768, .bf16⟩
  | .local _ .vmem, ⟨1, _⟩ => ⟨S2048x768, .bf16⟩
  | .local _ .vmem, ⟨2, _⟩ => ⟨S2048x512, .bf16⟩
  | .local _ .vmem, ⟨3, _⟩ => ⟨S2048x512, .bf16⟩
  | .local _ .vmem, ⟨4, _⟩ => ⟨S1x768x512, .bf16⟩
  | .local _ .vmem, ⟨5, _⟩ => ⟨S1x768x512, .bf16⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x768x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== EvenDwoutRefIdeal.lean ====
abbrev S2048x1536 : Shape := ⟨2, ![2048, 1536]⟩
abbrev S2048x2048 : Shape := ⟨2, ![2048, 2048]⟩
abbrev S_ : Shape := ⟨0, ![]⟩
abbrev S4x1536x512 : Shape := ⟨3, ![4, 1536, 512]⟩
abbrev S2048x4x512 : Shape := ⟨3, ![2048, 4, 512]⟩
abbrev S4x512x1536 : Shape := ⟨3, ![4, 512, 1536]⟩

abbrev nBuf : Space → Nat
  | .hbm => 10
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S2048x2048, .f32⟩
  | .hbm, ⟨2, _⟩ => ⟨S_, .f32⟩
  | .hbm, ⟨3, _⟩ => ⟨S4x1536x512, .f32⟩
  | .hbm, ⟨4, _⟩ => ⟨S2048x4x512, .f32⟩
  | .hbm, ⟨5, _⟩ => ⟨S2048x2048, .f32⟩
  | .hbm, ⟨6, _⟩ => ⟨S2048x4x512, .f32⟩
  | .hbm, ⟨7, _⟩ => ⟨S4x512x1536, .f32⟩
  | .hbm, ⟨8, _⟩ => ⟨S4x1536x512, .f32⟩
  | .hbm, ⟨9, _⟩ => ⟨S4x1536x512, .bf16⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== EvenDy.lean ====
abbrev S2048x2048 : Shape := ⟨2, ![2048, 2048]⟩
abbrev S4x1536x512 : Shape := ⟨3, ![4, 1536, 512]⟩
abbrev S_ : Shape := ⟨0, ![]⟩
abbrev S8x128 : Shape := ⟨2, ![8, 128]⟩
abbrev S2048x1536 : Shape := ⟨2, ![2048, 1536]⟩
abbrev S1024x512 : Shape := ⟨2, ![1024, 512]⟩
abbrev S1x768x512 : Shape := ⟨3, ![1, 768, 512]⟩
abbrev S1024x768 : Shape := ⟨2, ![1024, 768]⟩
abbrev S768x512 : Shape := ⟨2, ![768, 512]⟩

abbrev nBuf : Space → Nat
  | .hbm => 7
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S4x1536x512, .f32⟩
  | .hbm, ⟨2, _⟩ => ⟨S2048x2048, .bf16⟩
  | .hbm, ⟨3, _⟩ => ⟨S4x1536x512, .bf16⟩
  | .hbm, ⟨4, _⟩ => ⟨S_, .f32⟩
  | .hbm, ⟨5, _⟩ => ⟨S8x128, .f32⟩
  | .hbm, ⟨6, _⟩ => ⟨S2048x1536, .f32⟩
  | .local _ .vmem, ⟨0, _⟩ => ⟨S1024x512, .bf16⟩
  | .local _ .vmem, ⟨1, _⟩ => ⟨S1024x512, .bf16⟩
  | .local _ .vmem, ⟨2, _⟩ => ⟨S1x768x512, .bf16⟩
  | .local _ .vmem, ⟨3, _⟩ => ⟨S1x768x512, .bf16⟩
  | .local _ .vmem, ⟨4, _⟩ => ⟨S1024x768, .f32⟩
  | .local _ .vmem, ⟨5, _⟩ => ⟨S1024x768, .f32⟩
  | .local _ .vmem, ⟨6, _⟩ => ⟨S1024x768, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_7 : BitVec 32 := 3#32
  let v13 : BitVec 1 := Scalar.cmpi .eq arg2 c3_i32_7
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x768x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvenDyRefIdeal.lean ====
abbrev S2048x2048 : Shape := ⟨2, ![2048, 2048]⟩
abbrev S4x1536x512 : Shape := ⟨3, ![4, 1536, 512]⟩
abbrev S_ : Shape := ⟨0, ![]⟩
abbrev S2048x1536 : Shape := ⟨2, ![2048, 1536]⟩
abbrev S2048x4x512 : Shape := ⟨3, ![2048, 4, 512]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S4x1536x512, .f32⟩
  | .hbm, ⟨2, _⟩ => ⟨S_, .f32⟩
  | .hbm, ⟨3, _⟩ => ⟨S2048x1536, .f32⟩
  | .hbm, ⟨4, _⟩ => ⟨S2048x4x512, .f32⟩
  | .hbm, ⟨5, _⟩ => ⟨S2048x2048, .f32⟩
  | .hbm, ⟨6, _⟩ => ⟨S2048x4x512, .f32⟩
  | .hbm, ⟨7, _⟩ => ⟨S2048x1536, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OddIn.lean ====
abbrev S2048x2048 : Shape := ⟨2, ![2048, 2048]⟩
abbrev S4x2048x1024 : Shape := ⟨3, ![4, 2048, 1024]⟩
abbrev S2048x4096 : Shape := ⟨2, ![2048, 4096]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S4x2048x1024, .f32⟩
  | .hbm, ⟨2, _⟩ => ⟨S2048x2048, .bf16⟩
  | .hbm, ⟨3, _⟩ => ⟨S4x2048x1024, .bf16⟩
  | .hbm, ⟨4, _⟩ => ⟨S2048x4096, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OddInRefIdeal.lean ====
abbrev S2048x2048 : Shape := ⟨2, ![2048, 2048]⟩
abbrev S4x2048x1024 : Shape := ⟨3, ![4, 2048, 1024]⟩
abbrev S2048x4x1024 : Shape := ⟨3, ![2048, 4, 1024]⟩
abbrev S2048x4096 : Shape := ⟨2, ![2048, 4096]⟩

abbrev nBuf : Space → Nat
  | .hbm => 4
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S4x2048x1024, .f32⟩
  | .hbm, ⟨2, _⟩ => ⟨S2048x4x1024, .f32⟩
  | .hbm, ⟨3, _⟩ => ⟨S2048x4096, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== OddDwin.lean ====
abbrev S2048x2048 : Shape := ⟨2, ![2048, 2048]⟩
abbrev S2048x4096 : Shape := ⟨2, ![2048, 4096]⟩
abbrev S4x2048x1024 : Shape := ⟨3, ![4, 2048, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x4096, .f32⟩
  | .hbm, ⟨2, _⟩ => ⟨S2048x2048, .bf16⟩
  | .hbm, ⟨3, _⟩ => ⟨S2048x4096, .bf16⟩
  | .hbm, ⟨4, _⟩ => ⟨S4x2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OddDwinRefIdeal.lean ====
abbrev S2048x2048 : Shape := ⟨2, ![2048, 2048]⟩
abbrev S2048x4096 : Shape := ⟨2, ![2048, 4096]⟩
abbrev S_ : Shape := ⟨0, ![]⟩
abbrev S4x2048x1024 : Shape := ⟨3, ![4, 2048, 1024]⟩
abbrev S2048x4x1024 : Shape := ⟨3, ![2048, 4, 1024]⟩
abbrev S4x1024x2048 : Shape := ⟨3, ![4, 1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x4096, .f32⟩
  | .hbm, ⟨2, _⟩ => ⟨S_, .f32⟩
  | .hbm, ⟨3, _⟩ => ⟨S4x2048x1024, .f32⟩
  | .hbm, ⟨4, _⟩ => ⟨S2048x4x1024, .f32⟩
  | .hbm, ⟨5, _⟩ => ⟨S2048x4096, .f32⟩
  | .hbm, ⟨6, _⟩ => ⟨S2048x4x1024, .f32⟩
  | .hbm, ⟨7, _⟩ => ⟨S4x1024x2048, .f32⟩
  | .hbm, ⟨8, _⟩ => ⟨S4x2048x1024, .f32⟩
  | .hbm, ⟨9, _⟩ => ⟨S4x2048x1024, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OddDx.lean ====
abbrev S2048x4096 : Shape := ⟨2, ![2048, 4096]⟩
abbrev S4x2048x1024 : Shape := ⟨3, ![4, 2048, 1024]⟩
abbrev S2048x2048 : Shape := ⟨2, ![2048, 2048]⟩
abbrev S1024x1024 : Shape := ⟨2, ![1024, 1024]⟩
abbrev S1x1024x1024 : Shape := ⟨3, ![1, 1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S2048x4096, .f32⟩
  | .hbm, ⟨1, _⟩ => ⟨S4x2048x1024, .f32⟩
  | .hbm, ⟨2, _⟩ => ⟨S2048x2048, .f32⟩
  | .hbm, ⟨3, _⟩ => ⟨S2048x4096, .bf16⟩
  | .hbm, ⟨4, _⟩ => ⟨S4x2048x1024, .bf16⟩
  | .hbm, ⟨5, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_7 : BitVec 32 := 3#32
  let v13 : BitVec 1 := Scalar.cmpi .eq arg2 c3_i32_7
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OddDxRefIdeal.lean ====
abbrev S2048x4096 : Shape := ⟨2, ![2048, 4096]⟩
abbrev S4x2048x1024 : Shape := ⟨3, ![4, 2048, 1024]⟩
abbrev S2048x2048 : Shape := ⟨2, ![2048, 2048]⟩
abbrev S_ : Shape := ⟨0, ![]⟩
abbrev S2048x4x1024 : Shape := ⟨3, ![2048, 4, 1024]⟩

abbrev nBuf : Space → Nat
  | .hbm => 16
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4x2048x1024, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S2048x4x1024, .f32⟩
  | .hbm, ⟨9, _⟩ => ⟨S2048x4096, .f32⟩
  | .hbm, ⟨10, _⟩ => ⟨S2048x4x1024, .f32⟩
  | .hbm, ⟨11, _⟩ => ⟨S2048x2048, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S2048x2048, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== OddOut.lean ====
abbrev S2048x2048 : Shape := ⟨2, ![2048, 2048]⟩
abbrev S1x2048x2048 : Shape := ⟨3, ![1, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S1x2048x2048, .bf16⟩
  | .hbm, ⟨5, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OddOutRefIdeal.lean ====
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== OddDwout.lean ====
abbrev S2048x2048 : Shape := ⟨2, ![2048, 2048]⟩
abbrev S1x2048x2048 : Shape := ⟨3, ![1, 2048, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S1x2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OddDwoutRefIdeal.lean ====
abbrev S2048x2048 : Shape := ⟨2, ![2048, 2048]⟩
abbrev S_ : Shape := ⟨0, ![]⟩
abbrev S1x2048x2048 : Shape := ⟨3, ![1, 2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S_, .f32⟩
  | .hbm, ⟨3, _⟩ => ⟨S1x2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S1x2048x2048, .f32⟩
  | .hbm, ⟨9, _⟩ => ⟨S1x2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OddDy.lean ====
abbrev S2048x2048 : Shape := ⟨2, ![2048, 2048]⟩
abbrev S1x2048x2048 : Shape := ⟨3, ![1, 2048, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S1x2048x2048, .bf16⟩
  | .hbm, ⟨5, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OddDyRefIdeal.lean ====
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== MlaUq.lean ====
abbrev S2048x512 : Shape := ⟨2, ![2048, 512]⟩
abbrev S4x512x384 : Shape := ⟨3, ![4, 512, 384]⟩
abbrev S2048x1536 : Shape := ⟨2, ![2048, 1536]⟩
abbrev S1024x512 : Shape := ⟨2, ![1024, 512]⟩
abbrev S1x512x384 : Shape := ⟨3, ![1, 512, 384]⟩
abbrev S1024x384 : Shape := ⟨2, ![1024, 384]⟩
abbrev S512x384 : Shape := ⟨2, ![512, 384]⟩

abbrev nBuf : Space → Nat
  | .hbm => 5
  | .vmem => 6
  | .smem => 0
  | _ => 0

abbrev bufTy : (tb : Table) → Fin (tcTables nBuf tb) → BufTy
  | .hbm, ⟨0, _⟩ => ⟨S2048x512, .f32⟩
  | .hbm, ⟨1, _⟩ => ⟨S4x512x384, .f32⟩
  | .hbm, ⟨2, _⟩ => ⟨S2048x512, .bf16⟩
  | .hbm, ⟨3, _⟩ => ⟨S4x512x384, .bf16⟩
  | .hbm, ⟨4, _⟩ => ⟨S2048x1536, .f32⟩
  | .local _ .vmem, ⟨0, _⟩ => ⟨S1024x512, .bf16⟩
  | .local _ .vmem, ⟨1, _⟩ => ⟨S1024x512, .bf16⟩
  | .local _ .vmem, ⟨2, _⟩ => ⟨S1x512x384, .bf16⟩
  | .local _ .vmem, ⟨3, _⟩ => ⟨S1x512x384, .bf16⟩
  | .local _ .vmem, ⟨4, _⟩ => ⟨S1024x384, .f32⟩
  | .local _ .vmem, ⟨5, _⟩ => ⟨S1024x384, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaUqRefIdeal.lean ====
abbrev S2048x512 : Shape := ⟨2, ![2048, 512]⟩
abbrev S4x512x384 : Shape := ⟨3, ![4, 512, 384]⟩
abbrev S2048x4x384 : Shape := ⟨3, ![2048, 4, 384]⟩
abbrev S2048x1536 : Shape := ⟨2, ![2048, 1536]⟩

abbrev nBuf : Space → Nat
  | .hbm => 4
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S4x512x384, .f32⟩
  | .hbm, ⟨2, _⟩ => ⟨S2048x4x384, .f32⟩
  | .hbm, ⟨3, _⟩ => ⟨S2048x1536, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MlaUkv.lean ====
abbrev S2048x256 : Shape := ⟨2, ![2048, 256]⟩
abbrev S4x256x512 : Shape := ⟨3, ![4, 256, 512]⟩
abbrev S2048x2048 : Shape := ⟨2, ![2048, 2048]⟩
abbrev S1024x256 : Shape := ⟨2, ![1024, 256]⟩
abbrev S1x256x512 : Shape := ⟨3, ![1, 256, 512]⟩
abbrev S1024x512 : Shape := ⟨2, ![1024, 512]⟩
abbrev S256x512 : Shape := ⟨2, ![256, 512]⟩

abbrev nBuf : Space → Nat
  | .hbm => 5
  | .vmem => 6
  | .smem => 0
  | _ => 0

abbrev bufTy : (tb : Table) → Fin (tcTables nBuf tb) → BufTy
  | .hbm, ⟨0, _⟩ => ⟨S2048x256, .f32⟩
  | .hbm, ⟨1, _⟩ => ⟨S4x256x512, .f32⟩
  | .hbm, ⟨2, _⟩ => ⟨S2048x256, .bf16⟩
  | .hbm, ⟨3, _⟩ => ⟨S4x256x512, .bf16⟩
  | .hbm, ⟨4, _⟩ => ⟨S2048x2048, .f32⟩
  | .local _ .vmem, ⟨0, _⟩ => ⟨S1024x256, .bf16⟩
  | .local _ .vmem, ⟨1, _⟩ => ⟨S1024x256, .bf16⟩
  | .local _ .vmem, ⟨2, _⟩ => ⟨S1x256x512, .bf16⟩
  | .local _ .vmem, ⟨3, _⟩ => ⟨S1x256x512, .bf16⟩
  | .local _ .vmem, ⟨4, _⟩ => ⟨S1024x512, .f32⟩
  | .local _ .vmem, ⟨5, _⟩ => ⟨S1024x512, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaUkvRefIdeal.lean ====
abbrev S2048x256 : Shape := ⟨2, ![2048, 256]⟩
abbrev S4x256x512 : Shape := ⟨3, ![4, 256, 512]⟩
abbrev S2048x4x512 : Shape := ⟨3, ![2048, 4, 512]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S4x256x512, .f32⟩
  | .hbm, ⟨2, _⟩ => ⟨S2048x4x512, .f32⟩
  | .hbm, ⟨3, _⟩ => ⟨S2048x2048, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MlaDwuq.lean ====
abbrev S2048x512 : Shape := ⟨2, ![2048, 512]⟩
abbrev S2048x1536 : Shape := ⟨2, ![2048, 1536]⟩
abbrev S4x512x384 : Shape := ⟨3, ![4, 512, 384]⟩
abbrev S2048x384 : Shape := ⟨2, ![2048, 384]⟩
abbrev S1x512x384 : Shape := ⟨3, ![1, 512, 384]⟩
abbrev S512x384 : Shape := ⟨2, ![512, 384]⟩

abbrev nBuf : Space → Nat
  | .hbm => 5
  | .vmem => 5
  | .smem => 0
  | _ => 0

abbrev bufTy : (tb : Table) → Fin (tcTables nBuf tb) → BufTy
  | .hbm, ⟨0, _⟩ => ⟨S2048x512, .f32⟩
  | .hbm, ⟨1, _⟩ => ⟨S2048x1536, .f32⟩
  | .hbm, ⟨2, _⟩ => ⟨S2048x512, .bf16⟩
  | .hbm, ⟨3, _⟩ => ⟨S2048x1536, .bf16⟩
  | .hbm, ⟨4, _⟩ => ⟨S4x512x384, .bf16⟩
  | .local _ .vmem, ⟨0, _⟩ => ⟨S2048x512, .bf16⟩
  | .local _ .vmem, ⟨1, _⟩ => ⟨S2048x384, .bf16⟩
  | .local _ .vmem, ⟨2, _⟩ => ⟨S2048x384, .bf16⟩
  | .local _ .vmem, ⟨3, _⟩ => ⟨S1x512x384, .bf16⟩
  | .local _ .vmem, ⟨4, _⟩ => ⟨S1x512x384, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MlaDwuqRefIdeal.lean ====
abbrev S2048x512 : Shape := ⟨2, ![2048, 512]⟩
abbrev S2048x1536 : Shape := ⟨2, ![2048, 1536]⟩
abbrev S_ : Shape := ⟨0, ![]⟩
abbrev S4x512x384 : Shape := ⟨3, ![4, 512, 384]⟩
abbrev S2048x4x384 : Shape := ⟨3, ![2048, 4, 384]⟩
abbrev S4x384x512 : Shape := ⟨3, ![4, 384, 512]⟩

abbrev nBuf : Space → Nat
  | .hbm => 10
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x1536, .f32⟩
  | .hbm, ⟨2, _⟩ => ⟨S_, .f32⟩
  | .hbm, ⟨3, _⟩ => ⟨S4x512x384, .f32⟩
  | .hbm, ⟨4, _⟩ => ⟨S2048x4x384, .f32⟩
  | .hbm, ⟨5, _⟩ => ⟨S2048x1536, .f32⟩
  | .hbm, ⟨6, _⟩ => ⟨S2048x4x384, .f32⟩
  | .hbm, ⟨7, _⟩ => ⟨S4x384x512, .f32⟩
  | .hbm, ⟨8, _⟩ => ⟨S4x512x384, .f32⟩
  | .hbm, ⟨9, _⟩ => ⟨S4x512x384, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MlaDwukv.lean ====
abbrev S2048x256 : Shape := ⟨2, ![2048, 256]⟩
abbrev S2048x2048 : Shape := ⟨2, ![2048, 2048]⟩
abbrev S4x256x512 : Shape := ⟨3, ![4, 256, 512]⟩
abbrev S2048x512 : Shape := ⟨2, ![2048, 512]⟩
abbrev S1x256x512 : Shape := ⟨3, ![1, 256, 512]⟩
abbrev S256x512 : Shape := ⟨2, ![256, 512]⟩

abbrev nBuf : Space → Nat
  | .hbm => 5
  | .vmem => 5
  | .smem => 0
  | _ => 0

abbrev bufTy : (tb : Table) → Fin (tcTables nBuf tb) → BufTy
  | .hbm, ⟨0, _⟩ => ⟨S2048x256, .f32⟩
  | .hbm, ⟨1, _⟩ => ⟨S2048x2048, .f32⟩
  | .hbm, ⟨2, _⟩ => ⟨S2048x256, .bf16⟩
  | .hbm, ⟨3, _⟩ => ⟨S2048x2048, .bf16⟩
  | .hbm, ⟨4, _⟩ => ⟨S4x256x512, .bf16⟩
  | .local _ .vmem, ⟨0, _⟩ => ⟨S2048x256, .bf16⟩
  | .local _ .vmem, ⟨1, _⟩ => ⟨S2048x512, .bf16⟩
  | .local _ .vmem, ⟨2, _⟩ => ⟨S2048x512, .bf16⟩
  | .local _ .vmem, ⟨3, _⟩ => ⟨S1x256x512, .bf16⟩
  | .local _ .vmem, ⟨4, _⟩ => ⟨S1x256x512, .bf16⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S2048x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MlaDwukvRefIdeal.lean ====
abbrev S2048x256 : Shape := ⟨2, ![2048, 256]⟩
abbrev S2048x2048 : Shape := ⟨2, ![2048, 2048]⟩
abbrev S_ : Shape := ⟨0, ![]⟩
abbrev S4x256x512 : Shape := ⟨3, ![4, 256, 512]⟩
abbrev S2048x4x512 : Shape := ⟨3, ![2048, 4, 512]⟩
abbrev S4x512x256 : Shape := ⟨3, ![4, 512, 256]⟩

abbrev nBuf : Space → Nat
  | .hbm => 10
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S2048x2048, .f32⟩
  | .hbm, ⟨2, _⟩ => ⟨S_, .f32⟩
  | .hbm, ⟨3, _⟩ => ⟨S4x256x512, .f32⟩
  | .hbm, ⟨4, _⟩ => ⟨S2048x4x512, .f32⟩
  | .hbm, ⟨5, _⟩ => ⟨S2048x2048, .f32⟩
  | .hbm, ⟨6, _⟩ => ⟨S2048x4x512, .f32⟩
  | .hbm, ⟨7, _⟩ => ⟨S4x512x256, .f32⟩
  | .hbm, ⟨8, _⟩ => ⟨S4x256x512, .f32⟩
  | .hbm, ⟨9, _⟩ => ⟨S4x256x512, .bf16⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MlaDcq.lean ====
abbrev S2048x1536 : Shape := ⟨2, ![2048, 1536]⟩
abbrev S4x512x384 : Shape := ⟨3, ![4, 512, 384]⟩
abbrev S2048x512 : Shape := ⟨2, ![2048, 512]⟩
abbrev S1024x384 : Shape := ⟨2, ![1024, 384]⟩
abbrev S1x512x384 : Shape := ⟨3, ![1, 512, 384]⟩
abbrev S1024x512 : Shape := ⟨2, ![1024, 512]⟩
abbrev S512x384 : Shape := ⟨2, ![512, 384]⟩

abbrev nBuf : Space → Nat
  | .hbm => 5
  | .vmem => 7
  | .smem => 0
  | _ => 0

abbrev bufTy : (tb : Table) → Fin (tcTables nBuf tb) → BufTy
  | .hbm, ⟨0, _⟩ => ⟨S2048x1536, .f32⟩
  | .hbm, ⟨1, _⟩ => ⟨S4x512x384, .f32⟩
  | .hbm, ⟨2, _⟩ => ⟨S2048x1536, .bf16⟩
  | .hbm, ⟨3, _⟩ => ⟨S4x512x384, .bf16⟩
  | .hbm, ⟨4, _⟩ => ⟨S2048x512, .f32⟩
  | .local _ .vmem, ⟨0, _⟩ => ⟨S1024x384, .bf16⟩
  | .local _ .vmem, ⟨1, _⟩ => ⟨S1024x384, .bf16⟩
  | .local _ .vmem, ⟨2, _⟩ => ⟨S1x512x384, .bf16⟩
  | .local _ .vmem, ⟨3, _⟩ => ⟨S1x512x384, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_7 : BitVec 32 := 3#32
  let v13 : BitVec 1 := Scalar.cmpi .eq arg2 c3_i32_7
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaDcqRefIdeal.lean ====
abbrev S2048x1536 : Shape := ⟨2, ![2048, 1536]⟩
abbrev S4x512x384 : Shape := ⟨3, ![4, 512, 384]⟩
abbrev S_ : Shape := ⟨0, ![]⟩
abbrev S2048x512 : Shape := ⟨2, ![2048, 512]⟩
abbrev S2048x4x384 : Shape := ⟨3, ![2048, 4, 384]⟩

abbrev nBuf : Space → Nat
  | .hbm => 8
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S4x512x384, .f32⟩
  | .hbm, ⟨2, _⟩ => ⟨S_, .f32⟩
  | .hbm, ⟨3, _⟩ => ⟨S2048x512, .f32⟩
  | .hbm, ⟨4, _⟩ => ⟨S2048x4x384, .f32⟩
  | .hbm, ⟨5, _⟩ => ⟨S2048x1536, .f32⟩
  | .hbm, ⟨6, _⟩ => ⟨S2048x4x384, .f32⟩
  | .hbm, ⟨7, _⟩ => ⟨S2048x512, .f32⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MlaDckv.lean ====
abbrev S2048x2048 : Shape := ⟨2, ![2048, 2048]⟩
abbrev S4x256x512 : Shape := ⟨3, ![4, 256, 512]⟩
abbrev S2048x256 : Shape := ⟨2, ![2048, 256]⟩
abbrev S1024x512 : Shape := ⟨2, ![1024, 512]⟩
abbrev S1x256x512 : Shape := ⟨3, ![1, 256, 512]⟩
abbrev S1024x256 : Shape := ⟨2, ![1024, 256]⟩
abbrev S256x512 : Shape := ⟨2, ![256, 512]⟩

abbrev nBuf : Space → Nat
  | .hbm => 5
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S4x256x512, .f32⟩
  | .hbm, ⟨2, _⟩ => ⟨S2048x2048, .bf16⟩
  | .hbm, ⟨3, _⟩ => ⟨S4x256x512, .bf16⟩
  | .hbm, ⟨4, _⟩ => ⟨S2048x256, .f32⟩
  | .local _ .vmem, ⟨0, _⟩ => ⟨S1024x512, .bf16⟩
  | .local _ .vmem, ⟨1, _⟩ => ⟨S1024x512, .bf16⟩
  | .local _ .vmem, ⟨2, _⟩ => ⟨S1x256x512, .bf16⟩
  | .local _ .vmem, ⟨3, _⟩ => ⟨S1x256x512, .bf16⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_7 : BitVec 32 := 3#32
  let v13 : BitVec 1 := Scalar.cmpi .eq arg2 c3_i32_7
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaDckvRefIdeal.lean ====
abbrev S2048x2048 : Shape := ⟨2, ![2048, 2048]⟩
abbrev S4x256x512 : Shape := ⟨3, ![4, 256, 512]⟩
abbrev S_ : Shape := ⟨0, ![]⟩
abbrev S2048x256 : Shape := ⟨2, ![2048, 256]⟩
abbrev S2048x4x512 : Shape := ⟨3, ![2048, 4, 512]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S4x256x512, .f32⟩
  | .hbm, ⟨2, _⟩ => ⟨S_, .f32⟩
  | .hbm, ⟨3, _⟩ => ⟨S2048x256, .f32⟩
  | .hbm, ⟨4, _⟩ => ⟨S2048x4x512, .f32⟩
  | .hbm, ⟨5, _⟩ => ⟨S2048x2048, .f32⟩
  | .hbm, ⟨6, _⟩ => ⟨S2048x4x512, .f32⟩
  | .hbm, ⟨7, _⟩ => ⟨S2048x256, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== StickFwd.lean ====
abbrev S16x2048x64 : Shape := ⟨3, ![16, 2048, 64]⟩
abbrev S_ : Shape := ⟨0, ![]⟩
abbrev S16x2048x1 : Shape := ⟨3, ![16, 2048, 1]⟩
abbrev S1x512x64 : Shape := ⟨3, ![1, 512, 64]⟩
abbrev S1x2048x64 : Shape := ⟨3, ![1, 2048, 64]⟩
abbrev S1x512x1 : Shape := ⟨3, ![1, 512, 1]⟩
abbrev S512x64 : Shape := ⟨2, ![512, 64]⟩
abbrev S512x512 : Shape := ⟨2, ![512, 512]⟩
abbrev S512x1 : Shape := ⟨2, ![512, 1]⟩
abbrev S512 : Shape := ⟨1, ![512]⟩

abbrev nBuf : Space → Nat
  | .hbm => 11
  | .vmem => 10
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x2048x64, .f32⟩
  | .hbm, ⟨3, _⟩ => ⟨S16x2048x64, .bf16⟩
  | .hbm, ⟨4, _⟩ => ⟨S_, .bf16⟩
  | .hbm, ⟨5, _⟩ => ⟨S16x2048x64, .bf16⟩
  | .hbm, ⟨6, _⟩ => ⟨S16x2048x64, .bf16⟩
  | .hbm, ⟨7, _⟩ => ⟨S16x2048x64, .bf16⟩
  | .hbm, ⟨8, _⟩ => ⟨S16x2048x64, .bf16⟩
  | .hbm, ⟨9, _⟩ => ⟨S16x2048x64, .f32⟩
  | .hbm, ⟨10, _⟩ => ⟨S16x2048x1, .f32⟩
  | .local _ .vmem, ⟨0, _⟩ => ⟨S1x512x64, .bf16⟩
  | .local _ .vmem, ⟨1, _⟩ => ⟨S1x512x64, .bf16⟩
  | .local _ .vmem, ⟨2, _⟩ => ⟨S1x2048x64, .bf16⟩
  | .local _ .vmem, ⟨3, _⟩ => ⟨S1x2048x64, .bf16⟩
  | .local _ .vmem, ⟨4, _⟩ => ⟨S1x2048x64, .bf16⟩
  | .local _ .vmem, ⟨5, _⟩ => ⟨S1x2048x64, .bf16⟩
  | .local _ .vmem, ⟨6, _⟩ => ⟨S1x512x64, .f32⟩
  | .local _ .vmem, ⟨7, _⟩ => ⟨S1x512x64, .f32⟩
  | .local _ .vmem, ⟨8, _⟩ => ⟨S1x512x1, .f32⟩
  | .local _ .vmem, ⟨9, _⟩ => ⟨S1x512x1, .f32⟩
  | _, _ => ⟨S16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c512_i32 : BitVec 32 := 512#32
  let v12 : BitVec 32 := Scalar.muli arg1 c512_i32
  v12
def k0_off1 (i : grid0.Coords) : Fin 3 → Nat :=
  let c0_3 : Index := 0#32
  let arg1 : BitVec 32 := BitVec.ofNat 32 (i 1).val
  let c512_i32 : BitVec 32 := 512#32
  let v12 : BitVec 32 := Scalar.muli arg1 c512_i32
  let v13 : BitVec 32 := v12
  let v14 : Index := Scalar.indexCast v13
  let c0_4 : Index := 0#32
  ![0, v14.toNat, 0]
@[reducible] def k0_t1_loop (i : grid0.Coords) : Scf.Loop 32 :=
  let c1_i32_17 : BitVec 32 := 1#32
  let arg1 : BitVec 32 := BitVec.ofNat 32 (i 1).val
  let c1_i32 : BitVec 32 := 1#32
  let v10 : BitVec 32 := Scalar.addi arg1 c1_i32
  let v53 : BitVec 32 := Scalar.subi v10 c1_i32_17
  let c1_i32_18 : BitVec 32 := 1#32
  let v55 : BitVec 32 := Scalar.divsi v53 c1_i32_18
  let v56 : BitVec 32 := Scalar.muli v55 c1_i32_18
  let v57 : BitVec 32 := Scalar.addi c1_i32_17 v56
  let c1_i32_19 : BitVec 32 := 1#32
  ⟨c1_i32_17, v57, c1_i32_19⟩
def k0_mult2 (i : grid0.Coords) (k0_t1 : Fin (k0_t1_loop i).trips) : BitVec 32 :=
  let arg1 : BitVec 32 := BitVec.ofNat 32 (i 1).val
  let c1_i32_17 : BitVec 32 := 1#32
  let c1_i32_19 : BitVec 32 := 1#32
  let arg7 : BitVec 32 := Scf.iv c1_i32_17 c1_i32_19 k0_t1
  let v66 : BitVec 32 := Scalar.subi arg1 arg7
  let c512_i32_27 : BitVec 32 := 512#32
  let v67 : BitVec 32 := Scalar.muli v66 c512_i32_27
  v67
def k0_off2 (i : grid0.Coords) (k0_t1 : Fin (k0_t1_loop i).trips) : Fin 3 → Nat :=
  let c0_28 : Index := 0#32
  let arg1 : BitVec 32 := BitVec.ofNat 32 (i 1).val
  let c1_i32_17 : BitVec 32 := 1#32
  let c1_i32_19 : BitVec 32 := 1#32
  let arg7 : BitVec 32 := Scf.iv c1_i32_17 c1_i32_19 k0_t1
  let v66 : BitVec 32 := Scalar.subi arg1 arg7
  let c512_i32_27 : BitVec 32 := 512#32
  let v67 : BitVec 32 := Scalar.muli v66 c512_i32_27
  let v68 : BitVec 32 := v67
  let v69 : Index := Scalar.indexCast v68
  let c0_29 : Index := 0#32
  ![0, v69.toNat, 0]
@[reducible] def k0_t2_loop (i : grid0.Coords) : Scf.Loop 32 :=
  let c1_i32_17 : BitVec 32 := 1#32
  let arg1 : BitVec 32 := BitVec.ofNat 32 (i 1).val
  let c1_i32 : BitVec 32 := 1#32
  let v10 : BitVec 32 := Scalar.addi arg1 c1_i32
  let v53 : BitVec 32 := Scalar.subi v10 c1_i32_17
  let c1_i32_18 : BitVec 32 := 1#32
  let v55 : BitVec 32 := Scalar.divsi v53 c1_i32_18
  let v56 : BitVec 32 := Scalar.muli v55 c1_i32_18
  let v57 : BitVec 32 := Scalar.addi c1_i32_17 v56
  let v54 : BitVec 32 := Scalar.addi c1_i32_17 v53
  let c1_i32_20 : BitVec 32 := 1#32
  ⟨v57, v54, c1_i32_20⟩
def k0_mult3 (i : grid0.Coords) (k0_t2 : Fin (k0_t2_loop i).trips) : BitVec 32 :=
  let arg1 : BitVec 32 := BitVec.ofNat 32 (i 1).val
  let c1_i32_17 : BitVec 32 := 1#32
  let c1_i32 : BitVec 32 := 1#32
  let v10 : BitVec 32 := Scalar.addi arg1 c1_i32
  let v53 : BitVec 32 := Scalar.subi v10 c1_i32_17
  let c1_i32_18 : BitVec 32 := 1#32
  let v55 : BitVec 32 := Scalar.divsi v53 c1_i32_18
  let v56 : BitVec 32 := Scalar.muli v55 c1_i32_18
  let v57 : BitVec 32 := Scalar.addi c1_i32_17 v56
  let c1_i32_20 : BitVec 32 := 1#32
  let arg7 : BitVec 32 := Scf.iv v57 c1_i32_20 k0_t2
  let v66 : BitVec 32 := Scalar.subi arg1 arg7
  let c512_i32_27 : BitVec 32 := 512#32
  let v67 : BitVec 32 := Scalar.muli v66 c512_i32_27
  v67
def k0_off3 (i : grid0.Coords) (k0_t2 : Fin (k0_t2_loop i).trips) : Fin 3 → Nat :=
  let c0_28 : Index := 0#32
  let arg1 : BitVec 32 := BitVec.ofNat 32 (i 1).val
  let c1_i32_17 : BitVec 32 := 1#32
  let c1_i32 : BitVec 32 := 1#32
  let v10 : BitVec 32 := Scalar.addi arg1 c1_i32
  let v53 : BitVec 32 := Scalar.subi v10 c1_i32_17
  let c1_i32_18 : BitVec 32 := 1#32
  let v55 : BitVec 32 := Scalar.divsi v53 c1_i32_18
  let v56 : BitVec 32 := Scalar.muli v55 c1_i32_18
  let v57 : BitVec 32 := Scalar.addi c1_i32_17 v56
  let c1_i32_20 : BitVec 32 := 1#32
  let arg7 : BitVec 32 := Scf.iv v57 c1_i32_20 k0_t2
  let v66 : BitVec 32 := Scalar.subi arg1 arg7
  let c512_i32_27 : BitVec 32 := 512#32
  let v67 : BitVec 32 := Scalar.muli v66 c512_i32_27
  let v68 : BitVec 32 := v67
  let v69 : Index := Scalar.indexCast v68
  let c0_29 : Index := 0#32
  ![0, v69.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== StickFwdRefIdeal.lean ====
abbrev S16x2048x64 : Shape := ⟨3, ![16, 2048, 64]⟩
abbrev S16x2048x2048 : Shape := ⟨3, ![16, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x2048x2048 : Shape := ⟨3, ![1, 2048, 2048]⟩
abbrev S16x2048 : Shape := ⟨2, ![16, 2048]⟩
abbrev S16x2048x1 : Shape := ⟨3, ![16, 2048, 1]⟩

abbrev nBuf : Space → Nat
  | .hbm => 69
  | .vmem => 0
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x2048x64, .f32⟩
  | .hbm, ⟨3, _⟩ => ⟨S16x2048x2048, .f32⟩
  | .hbm, ⟨4, _⟩ => ⟨S_, .f32⟩
  | .hbm, ⟨5, _⟩ => ⟨S16x2048x2048, .f32⟩
  | .hbm, ⟨6, _⟩ => ⟨S16x2048x2048, .f32⟩
  | .hbm, ⟨7, _⟩ => ⟨S2048, .i32⟩
  | .hbm, ⟨8, _⟩ => ⟨S1x2048, .i32⟩
  | .hbm, ⟨9, _⟩ => ⟨S2048, .i32⟩
  | .hbm, ⟨10, _⟩ => ⟨S2048x1, .i32⟩
  | .hbm, ⟨11, _⟩ => ⟨S2048x2048, .i32⟩
  | .hbm, ⟨12, _⟩ => ⟨S2048x2048, .i32⟩
  | .hbm, ⟨13, _⟩ => ⟨S2048x2048, .i1⟩
  | .hbm, ⟨14, _⟩ => ⟨S16x2048x2048, .f32⟩
  | .hbm, ⟨15, _⟩ => ⟨S_, .f32⟩
  | .hbm, ⟨16, _⟩ => ⟨S16x2048x2048, .f32⟩
  | .hbm, ⟨17, _⟩ => ⟨S16x2048x2048, .f32⟩
  | .hbm, ⟨18, _⟩ => ⟨S16x2048x2048, .f32⟩
  | .hbm, ⟨19, _⟩ => ⟨S16x2048x2048, .f32⟩
  | .hbm, ⟨20, _⟩ => ⟨S16x2048x2048, .i1⟩
  | .hbm, ⟨21, _⟩ => ⟨S16x2048x2048, .f32⟩
  | .hbm, ⟨22, _⟩ => ⟨S16x2048x2048, .f32⟩
  | .hbm, ⟨23, _⟩ => ⟨S16x2048x2048, .f32⟩
  | .hbm, ⟨24, _⟩ => ⟨S16x2048x2048, .f32⟩
  | .hbm, ⟨25, _⟩ => ⟨S16x2048x2048, .f32⟩
  | .hbm, ⟨26, _⟩ => ⟨S16x2048x2048, .f32⟩
  | .hbm, ⟨27, _⟩ => ⟨S16x2048x2048, .f32⟩
  | .hbm, ⟨28, _⟩ => ⟨S16x2048x2048, .f32⟩
  | .hbm, ⟨29, _⟩ => ⟨S16x2048x2048, .f32⟩
  | .hbm, ⟨30, _⟩ => ⟨S1x2048x2048, .i1⟩
  | .hbm, ⟨31, _⟩ => ⟨S16x2048x2048, .f32⟩
  | .hbm, ⟨32, _⟩ => ⟨S16x2048x2048, .f32⟩
  | .hbm, ⟨33, _⟩ => ⟨S_, .f32⟩
  | .hbm, ⟨34, _⟩ => ⟨S16x2048x2048, .f32⟩
  | .hbm, ⟨35, _⟩ => ⟨S16x2048x2048, .f32⟩
  | .hbm, ⟨36, _⟩ => ⟨S16x2048x2048, .f32⟩
  | .hbm, ⟨37, _⟩ => ⟨S16x2048x2048, .f32⟩
  | .hbm, ⟨38, _⟩ => ⟨S16x2048x2048, .i1⟩
  | .hbm, ⟨39, _⟩ => ⟨S16x2048x2048, .f32⟩
  | .hbm, ⟨40, _⟩ => ⟨S16x2048x2048, .f32⟩
  | .hbm, ⟨41, _⟩ => ⟨S16x2048x2048, .f32⟩
  | .hbm, ⟨42, _⟩ => ⟨S16x2048x2048, .f32⟩
  | .hbm, ⟨43, _⟩ => ⟨S16x2048x2048, .f32⟩
  | .hbm, ⟨44, _⟩ => ⟨S16x2048x2048, .f32⟩
  | .hbm, ⟨45, _⟩ => ⟨S16x2048x2048, .f32⟩
  | .hbm, ⟨46, _⟩ => ⟨S16x2048x2048, .f32⟩
  | .hbm, ⟨47, _⟩ => ⟨S16x2048x2048, .f32⟩
  | .hbm, ⟨48, _⟩ => ⟨S_, .f32⟩
  | .hbm, ⟨49, _⟩ => ⟨S_, .f32⟩
  | .hbm, ⟨50, _⟩ => ⟨S16x2048x2048, .i1⟩
  | .hbm, ⟨51, _⟩ => ⟨S16x2048x2048, .f32⟩
  | .hbm, ⟨52, _⟩ => ⟨S16x2048x2048, .f32⟩
  | .hbm, ⟨53, _⟩ => ⟨S_, .f32⟩
  | .hbm, ⟨54, _⟩ => ⟨S_, .f32⟩
  | .hbm, ⟨55, _⟩ => ⟨S16x2048x2048, .f32⟩
  | .hbm, ⟨56, _⟩ => ⟨S16x2048x2048, .f32⟩
  | .hbm, ⟨57, _⟩ => ⟨S1x2048x2048, .i1⟩
  | .hbm, ⟨58, _⟩ => ⟨S16x2048x2048, .f32⟩
  | .hbm, ⟨59, _⟩ => ⟨S16x2048x2048, .f32⟩
  | .hbm, ⟨60, _⟩ => ⟨S_, .f32⟩
  | .hbm, ⟨61, _⟩ => ⟨S_, .f32⟩
  | .hbm, ⟨62, _⟩ => ⟨S16x2048x2048, .i1⟩
  | .hbm, ⟨63, _⟩ => ⟨S16x2048x2048, .f32⟩
  | .hbm, ⟨64, _⟩ => ⟨S16x2048x2048, .f32⟩
  | .hbm, ⟨65, _⟩ => ⟨S16x2048x64, .f32⟩
  | .hbm, ⟨66, _⟩ => ⟨S_, .f32⟩
  | .hbm, ⟨67, _⟩ => ⟨S16x2048, .f32⟩
  | .hbm, ⟨68, _⟩ => ⟨S16x2048x1, .f32⟩
  | _, _ => ⟨S16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_v0 : Ref sig .tc := ⟨.hbm, 14, rfl⟩
abbrev main_call0_call0_cst : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_v1 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_call1_v0 : Ref sig .tc := ⟨.hbm, 32, rfl⟩
abbrev main_call1_call0_cst : Ref sig .tc := ⟨.hbm, 33, rfl⟩
abbrev main_call1_call0_v0 : Ref sig .tc := ⟨.hbm, 34, rfl⟩
abbrev main_call1_call0_v1 : Ref sig .tc := ⟨.hbm, 35, rfl⟩
abbrev main_call1_call0_v2 : Ref sig .tc := ⟨.hbm, 36, rfl⟩
abbrev main_call1_call0_v3 : Ref sig .tc := ⟨.hbm, 37, rfl⟩
abbrev main_call1_call0_v4 : Ref sig .tc := ⟨.hbm, 38, rfl⟩
abbrev main_call1_call0_v5 : Ref sig .tc := ⟨.hbm, 39, rfl⟩
abbrev main_call1_call0_v6 : Ref sig .tc := ⟨.hbm, 40, rfl⟩
abbrev main_call1_call0_v7 : Ref sig .tc := ⟨.hbm, 41, rfl⟩
abbrev main_call1_call0_v8 : Ref sig .tc := ⟨.hbm, 42, rfl⟩
abbrev main_call1_call0_v9 : Ref sig .tc := ⟨.hbm, 43, rfl⟩
abbrev main_call1_call0_v10 : Ref sig .tc := ⟨.hbm, 44, rfl⟩
abbrev main_call1_call0_v11 : Ref sig .tc := ⟨.hbm, 45, rfl⟩
abbrev main_call1_v1 : Ref sig .tc := ⟨.hbm, 46, rfl⟩
abbrev main_v13 : Ref sig .tc := ⟨.hbm, 47, rfl⟩
abbrev main_cst_0 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v14 : Ref sig .tc := ⟨.hbm, 52, rfl⟩
abbrev main_call3_cst : Ref sig .tc := ⟨.hbm, 53, rfl⟩
abbrev main_call3_v0 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_cst_1 : Ref sig .tc := ⟨.hbm, 60, rfl⟩
abbrev main_call4_v0 : Ref sig .tc := ⟨.hbm, 61, rfl⟩
abbrev main_call4_v1 : Ref sig .tc := ⟨.hbm, 62, rfl⟩
abbrev main_call4_v2 : Ref sig .tc := ⟨.hbm, 63, rfl⟩
abbrev main_v20 : Ref sig .tc := ⟨.hbm, 64, rfl⟩
abbrev main_v21 : Ref sig .tc := ⟨.hbm, 65, rfl⟩
abbrev main_cst_2 : Ref sig .tc := ⟨.hbm, 66, rfl⟩
abbrev main_v22 : Ref sig .tc := ⟨.hbm, 67, rfl⟩
abbrev main_v23 : Ref sig .tc := ⟨.hbm, 68, rfl⟩

abbrev nD : Nat := 1
abbrev τ : Topo := Topo.v7x

variable {F : FTy → Type} [FloatOps F]
-- ==== NormBwd.lean ====
abbrev S2048x2048 : Shape := ⟨2, ![2048, 2048]⟩
abbrev S2048 : Shape := ⟨1, ![2048]⟩
abbrev S_ : Shape := ⟨0, ![]⟩
abbrev S8x128 : Shape := ⟨2, ![8, 128]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 10
  | .vmem => 11
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S_, .f32⟩
  | .hbm, ⟨4, _⟩ => ⟨S8x128, .f32⟩
  | .hbm, ⟨5, _⟩ => ⟨S1x2048, .f32⟩
  | .hbm, ⟨6, _⟩ => ⟨S2048x2048, .f32⟩
  | .hbm, ⟨7, _⟩ => ⟨S2048x2048, .bf16⟩
  | .hbm, ⟨8, _⟩ => ⟨S1x2048, .f32⟩
  | .hbm, ⟨9, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .bf16⟩
  | .local _ .vmem, ⟨8, _⟩ => ⟨S256x2048, .bf16⟩
  | .local _ .vmem, ⟨9, _⟩ => ⟨S1x2048, .f32⟩
  | .local _ .vmem, ⟨10, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormBwdRefIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 81
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S_, .f32⟩
  | .hbm, ⟨4, _⟩ => ⟨S2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S_, .f32⟩
  | .hbm, ⟨15, _⟩ => ⟨S2048, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1, .f32⟩
  | .hbm, ⟨24, _⟩ => ⟨S2048x1, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S2048x2048, .f32⟩
  | .hbm, ⟨29, _⟩ => ⟨S2048x2048, .f32⟩
  | .hbm, ⟨30, _⟩ => ⟨S1x2048, .f32⟩
  | .hbm, ⟨31, _⟩ => ⟨S2048x2048, .f32⟩
  | .hbm, ⟨32, _⟩ => ⟨S2048x2048, .f32⟩
  | .hbm, ⟨33, _⟩ => ⟨S1x2048, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S_, .f32⟩
  | .hbm, ⟨38, _⟩ => ⟨S2048, .f32⟩
  | .hbm, ⟨39, _⟩ => ⟨S1x2048, .f32⟩
  | .hbm, ⟨40, _⟩ => ⟨S_, .f32⟩
  | .hbm, ⟨41, _⟩ => ⟨S2048, .f32⟩
  | .hbm, ⟨42, _⟩ => ⟨S2048x2048, .f32⟩
  | .hbm, ⟨43, _⟩ => ⟨S_, .f32⟩
  | .hbm, ⟨44, _⟩ => ⟨S2048, .f32⟩
  | .hbm, ⟨45, _⟩ => ⟨S1x2048, .f32⟩
  | .hbm, ⟨46, _⟩ => ⟨S2048x2048, .f32⟩
  | .hbm, ⟨47, _⟩ => ⟨S2048x2048, .f32⟩
  | .hbm, ⟨48, _⟩ => ⟨S_, .f32⟩
  | .hbm, ⟨49, _⟩ => ⟨S2048, .f32⟩
  | .hbm, ⟨50, _⟩ => ⟨S2048x2048, .f32⟩
  | .hbm, ⟨51, _⟩ => ⟨S_, .f32⟩
  | .hbm, ⟨52, _⟩ => ⟨S2048, .f32⟩
  | .hbm, ⟨53, _⟩ => ⟨S2048x1, .f32⟩
  | .hbm, ⟨54, _⟩ => ⟨S2048x2048, .f32⟩
  | .hbm, ⟨55, _⟩ => ⟨S2048x2048, .f32⟩
  | .hbm, ⟨56, _⟩ => ⟨S2048x1, .f32⟩
  | .hbm, ⟨57, _⟩ => ⟨S_, .f32⟩
  | .hbm, ⟨58, _⟩ => ⟨S2048x1, .f32⟩
  | .hbm, ⟨59, _⟩ => ⟨S2048x1, .f32⟩
  | .hbm, ⟨60, _⟩ => ⟨S_, .f32⟩
  | .hbm, ⟨61, _⟩ => ⟨S2048, .f32⟩
  | .hbm, ⟨62, _⟩ => ⟨S2048x2048, .f32⟩
  | .hbm, ⟨63, _⟩ => ⟨S2048x2048, .f32⟩
  | .hbm, ⟨64, _⟩ => ⟨S2048x2048, .f32⟩
  | .hbm, ⟨65, _⟩ => ⟨S2048x2048, .f32⟩
  | .hbm, ⟨66, _⟩ => ⟨S2048x2048, .f32⟩
  | .hbm, ⟨67, _⟩ => ⟨S2048x2048, .f32⟩
  | .hbm, ⟨68, _⟩ => ⟨S_, .f32⟩
  | .hbm, ⟨69, _⟩ => ⟨S2048, .f32⟩
  | .hbm, ⟨70, _⟩ => ⟨S2048x1, .f32⟩
  | .hbm, ⟨71, _⟩ => ⟨S_, .f32⟩
  | .hbm, ⟨72, _⟩ => ⟨S2048x1, .f32⟩
  | .hbm, ⟨73, _⟩ => ⟨S2048x1, .f32⟩
  | .hbm, ⟨74, _⟩ => ⟨S_, .f32⟩
  | .hbm, ⟨75, _⟩ => ⟨S2048, .f32⟩
  | .hbm, ⟨76, _⟩ => ⟨S2048x2048, .f32⟩
  | .hbm, ⟨77, _⟩ => ⟨S2048x2048, .f32⟩
  | .hbm, ⟨78, _⟩ => ⟨S2048x2048, .bf16⟩
  | .hbm, ⟨79, _⟩ => ⟨S1x2048, .f32⟩
  | .hbm, ⟨80, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_6 : Ref sig .tc := ⟨.hbm, 37, rfl⟩
abbrev main_v27 : Ref sig .tc := ⟨.hbm, 38, rfl⟩
abbrev main_v28 : Ref sig .tc := ⟨.hbm, 39, rfl⟩
abbrev main_cst_7 : Ref sig .tc := ⟨.hbm, 40, rfl⟩
abbrev main_v29 : Ref sig .tc := ⟨.hbm, 41, rfl⟩
abbrev main_v30 : Ref sig .tc := ⟨.hbm, 42, rfl⟩
abbrev main_cst_8 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩
abbrev main_cst_10 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_11 : Ref sig .tc := ⟨.hbm, 57, rfl⟩
abbrev main_v42 : Ref sig .tc := ⟨.hbm, 58, rfl⟩
abbrev main_v43 : Ref sig .tc := ⟨.hbm, 59, rfl⟩
abbrev main_cst_12 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_13 : Ref sig .tc := ⟨.hbm, 68, rfl⟩
abbrev main_v51 : Ref sig .tc := ⟨.hbm, 69, rfl⟩
abbrev main_v52 : Ref sig .tc := ⟨.hbm, 70, rfl⟩
abbrev main_cst_14 : Ref sig .tc := ⟨.hbm, 71, rfl⟩
abbrev main_v53 : Ref sig .tc := ⟨.hbm, 72, rfl⟩
abbrev main_v54 : Ref sig .tc := ⟨.hbm, 73, rfl⟩
abbrev main_cst_15 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩

abbrev nD : Nat := 1
abbrev τ : Topo := Topo.v7x

variable {F : FTy → Type} [FloatOps F]
-- ==== NormFwd.lean ====
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 9
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S2048, .f32⟩
  | .hbm, ⟨4, _⟩ => ⟨S1x2048, .f32⟩
  | .hbm, ⟨5, _⟩ => ⟨S1x2048, .f32⟩
  | .hbm, ⟨6, _⟩ => ⟨S2048x2048, .f32⟩
  | .hbm, ⟨7, _⟩ => ⟨S2048x2048, .bf16⟩
  | .hbm, ⟨8, _⟩ => ⟨S2048x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | .local _ .vmem, ⟨10, _⟩ => ⟨S256x2048, .f32⟩
  | .local _ .vmem, ⟨11, _⟩ => ⟨S256x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== NormFwdRefIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 36
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S_, .f32⟩
  | .hbm, ⟨18, _⟩ => ⟨S2048, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S2048x1, .f32⟩
  | .hbm, ⟨27, _⟩ => ⟨S2048x2048, .f32⟩
  | .hbm, ⟨28, _⟩ => ⟨S2048x2048, .f32⟩
  | .hbm, ⟨29, _⟩ => ⟨S1x2048, .f32⟩
  | .hbm, ⟨30, _⟩ => ⟨S2048x2048, .f32⟩
  | .hbm, ⟨31, _⟩ => ⟨S2048x2048, .f32⟩
  | .hbm, ⟨32, _⟩ => ⟨S1x2048, .f32⟩
  | .hbm, ⟨33, _⟩ => ⟨S2048x2048, .f32⟩
  | .hbm, ⟨34, _⟩ => ⟨S2048x2048, .f32⟩
  | .hbm, ⟨35, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== QRms.lean ====
abbrev S2048x512 : Shape := ⟨2, ![2048, 512]⟩
abbrev S512 : Shape := ⟨1, ![512]⟩
abbrev S1x512 : Shape := ⟨2, ![1, 512]⟩
abbrev S256x512 : Shape := ⟨2, ![256, 512]⟩
abbrev S256 : Shape := ⟨1, ![256]⟩
abbrev S256x1 : Shape := ⟨2, ![256, 1]⟩

abbrev nBuf : Space → Nat
  | .hbm => 6
  | .vmem => 9
  | .smem => 0
  | _ => 0

abbrev bufTy : (tb : Table) → Fin (tcTables nBuf tb) → BufTy
  | .hbm, ⟨0, _⟩ => ⟨S2048x512, .f32⟩
  | .hbm, ⟨1, _⟩ => ⟨S512, .f32⟩
  | .hbm, ⟨2, _⟩ => ⟨S1x512, .f32⟩
  | .hbm, ⟨3, _⟩ => ⟨S2048x512, .f32⟩
  | .hbm, ⟨4, _⟩ => ⟨S2048x512, .bf16⟩
  | .hbm, ⟨5, _⟩ => ⟨S2048x512, .f32⟩
  | .local _ .vmem, ⟨0, _⟩ => ⟨S256x512, .f32⟩
  | .local _ .vmem, ⟨1, _⟩ => ⟨S256x512, .f32⟩
  | .local _ .vmem, ⟨2, _⟩ => ⟨S1x512, .f32⟩
  | .local _ .vmem, ⟨3, _⟩ => ⟨S256x512, .f32⟩
  | .local _ .vmem, ⟨4, _⟩ => ⟨S256x512, .f32⟩
  | .local _ .vmem, ⟨5, _⟩ => ⟨S256x512, .bf16⟩
  | .local _ .vmem, ⟨6, _⟩ => ⟨S256x512, .bf16⟩
  | .local _ .vmem, ⟨7, _⟩ => ⟨S256x512, .f32⟩
  | .local _ .vmem, ⟨8, _⟩ => ⟨S256x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== QRmsRefIdeal.lean ====
abbrev S2048x512 : Shape := ⟨2, ![2048, 512]⟩
abbrev S512 : Shape := ⟨1, ![512]⟩
abbrev S_ : Shape := ⟨0, ![]⟩
abbrev S2048 : Shape := ⟨1, ![2048]⟩
abbrev S2048x1 : Shape := ⟨2, ![2048, 1]⟩
abbrev S1x512 : Shape := ⟨2, ![1, 512]⟩

abbrev nBuf : Space → Nat
  | .hbm => 19
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512, .f32⟩
  | .hbm, ⟨2, _⟩ => ⟨S2048x512, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x512, .f32⟩
  | .hbm, ⟨14, _⟩ => ⟨S2048x512, .f32⟩
  | .hbm, ⟨15, _⟩ => ⟨S1x512, .f32⟩
  | .hbm, ⟨16, _⟩ => ⟨S2048x512, .f32⟩
  | .hbm, ⟨17, _⟩ => ⟨S2048x512, .f32⟩
  | .hbm, ⟨18, _⟩ => ⟨S2048x512, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== KvRms.lean ====
abbrev S2048x256 : Shape := ⟨2, ![2048, 256]⟩
abbrev S256 : Shape := ⟨1, ![256]⟩
abbrev S1x256 : Shape := ⟨2, ![1, 256]⟩
abbrev S256x256 : Shape := ⟨2, ![256, 256]⟩
abbrev S256x1 : Shape := ⟨2, ![256, 1]⟩

abbrev nBuf : Space → Nat
  | .hbm => 6
  | .vmem => 9
  | .smem => 0
  | _ => 0

abbrev bufTy : (tb : Table) → Fin (tcTables nBuf tb) → BufTy
  | .hbm, ⟨0, _⟩ => ⟨S2048x256, .f32⟩
  | .hbm, ⟨1, _⟩ => ⟨S256, .f32⟩
  | .hbm, ⟨2, _⟩ => ⟨S1x256, .f32⟩
  | .hbm, ⟨3, _⟩ => ⟨S2048x256, .f32⟩
  | .hbm, ⟨4, _⟩ => ⟨S2048x256, .bf16⟩
  | .hbm, ⟨5, _⟩ => ⟨S2048x256, .f32⟩
  | .local _ .vmem, ⟨0, _⟩ => ⟨S256x256, .f32⟩
  | .local _ .vmem, ⟨1, _⟩ => ⟨S256x256, .f32⟩
  | .local _ .vmem, ⟨2, _⟩ => ⟨S1x256, .f32⟩
  | .local _ .vmem, ⟨3, _⟩ => ⟨S256x256, .f32⟩
  | .local _ .vmem, ⟨4, _⟩ => ⟨S256x256, .f32⟩
  | .local _ .vmem, ⟨5, _⟩ => ⟨S256x256, .bf16⟩
  | .local _ .vmem, ⟨6, _⟩ => ⟨S256x256, .bf16⟩
  | .local _ .vmem, ⟨7, _⟩ => ⟨S256x256, .f32⟩
  | .local _ .vmem, ⟨8, _⟩ => ⟨S256x256, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KvRmsRefIdeal.lean ====
abbrev S2048x256 : Shape := ⟨2, ![2048, 256]⟩
abbrev S256 : Shape := ⟨1, ![256]⟩
abbrev S_ : Shape := ⟨0, ![]⟩
abbrev S2048 : Shape := ⟨1, ![2048]⟩
abbrev S2048x1 : Shape := ⟨2, ![2048, 1]⟩
abbrev S1x256 : Shape := ⟨2, ![1, 256]⟩

abbrev nBuf : Space → Nat
  | .hbm => 19
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S256, .f32⟩
  | .hbm, ⟨2, _⟩ => ⟨S2048x256, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x256, .f32⟩
  | .hbm, ⟨14, _⟩ => ⟨S2048x256, .f32⟩
  | .hbm, ⟨15, _⟩ => ⟨S1x256, .f32⟩
  | .hbm, ⟨16, _⟩ => ⟨S2048x256, .f32⟩
  | .hbm, ⟨17, _⟩ => ⟨S2048x256, .f32⟩
  | .hbm, ⟨18, _⟩ => ⟨S2048x256, .bf16⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== LossHead.lean ====
abbrev S2048x2048 : Shape := ⟨2, ![2048, 2048]⟩
abbrev S1x128 : Shape := ⟨2, ![1, 128]⟩
abbrev S256x2048 : Shape := ⟨2, ![256, 2048]⟩
abbrev S1x256x2048 : Shape := ⟨3, ![1, 256, 2048]⟩
abbrev S1 : Shape := ⟨1, ![1]⟩
abbrev S1x1x1 : Shape := ⟨3, ![1, 1, 1]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x128, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossHeadRefIdeal.lean ====
abbrev S2048x2048 : Shape := ⟨2, ![2048, 2048]⟩
abbrev S_ : Shape := ⟨0, ![]⟩
abbrev S2048 : Shape := ⟨1, ![2048]⟩
abbrev S1x128 : Shape := ⟨2, ![1, 128]⟩

abbrev nBuf : Space → Nat
  | .hbm => 26
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S2048x2048, .f32⟩
  | .hbm, ⟨24, _⟩ => ⟨S2048x2048, .f32⟩
  | .hbm, ⟨25, _⟩ => ⟨S1x128, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== AdamwNorm.lean ====
abbrev S1x2x2048 : Shape := ⟨3, ![1, 2, 2048]⟩
abbrev S2x2048 : Shape := ⟨2, ![2, 2048]⟩

abbrev nBuf : Space → Nat
  | .hbm => 8
  | .vmem => 8
  | .smem => 0
  | _ => 0

abbrev bufTy : (tb : Table) → Fin (tcTables nBuf tb) → BufTy
  | .hbm, ⟨0, _⟩ => ⟨S1x2x2048, .f32⟩
  | .hbm, ⟨1, _⟩ => ⟨S2x2048, .f32⟩
  | .hbm, ⟨2, _⟩ => ⟨S1x2x2048, .f32⟩
  | .hbm, ⟨3, _⟩ => ⟨S1x2x2048, .f32⟩
  | .hbm, ⟨4, _⟩ => ⟨S1x2x2048, .f32⟩
  | .hbm, ⟨5, _⟩ => ⟨S1x2x2048, .f32⟩
  | .hbm, ⟨6, _⟩ => ⟨S1x2x2048, .f32⟩
  | .hbm, ⟨7, _⟩ => ⟨S1x2x2048, .f32⟩
  | .local _ .vmem, ⟨0, _⟩ => ⟨S1x2x2048, .f32⟩
  | .local _ .vmem, ⟨1, _⟩ => ⟨S2x2048, .f32⟩
  | .local _ .vmem, ⟨2, _⟩ => ⟨S1x2x2048, .f32⟩
  | .local _ .vmem, ⟨3, _⟩ => ⟨S1x2x2048, .f32⟩
  | .local _ .vmem, ⟨4, _⟩ => ⟨S1x2x2048, .f32⟩
  | .local _ .vmem, ⟨5, _⟩ => ⟨S1x2x2048, .f32⟩
  | .local _ .vmem, ⟨6, _⟩ => ⟨S1x2x2048, .f32⟩
  | .local _ .vmem, ⟨7, _⟩ => ⟨S1x2x2048, .f32⟩
  | _, _ => ⟨S1x2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x2x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x2x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamwNormIdeal.lean ====
variable {F : FTy → Type} [FloatOps F] [Named F]
def κ : String → Option EReal := fun
  | "c1" => some ((8388608 / 5463681 : ℝ) : EReal)
  | "c2" => some ((268435456 / 2672307 : ℝ) : EReal)
  | _ => none
-- ==== AdamwNormRefIdeal.lean ====
abbrev S1x2x2048 : Shape := ⟨3, ![1, 2, 2048]⟩
abbrev S2x2048 : Shape := ⟨2, ![2, 2048]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x2x2048, .f32⟩
  | .hbm, ⟨1, _⟩ => ⟨S2x2048, .f32⟩
  | .hbm, ⟨2, _⟩ => ⟨S1x2x2048, .f32⟩
  | .hbm, ⟨3, _⟩ => ⟨S1x2x2048, .f32⟩
  | .hbm, ⟨4, _⟩ => ⟨S1x2x2048, .f32⟩
  | .hbm, ⟨5, _⟩ => ⟨S_, .f32⟩
  | .hbm, ⟨6, _⟩ => ⟨S1x2x2048, .f32⟩
  | .hbm, ⟨7, _⟩ => ⟨S1x2x2048, .f32⟩
  | .hbm, ⟨8, _⟩ => ⟨S_, .f32⟩
  | .hbm, ⟨9, _⟩ => ⟨S1x2x2048, .f32⟩
  | .hbm, ⟨10, _⟩ => ⟨S1x2x2048, .f32⟩
  | .hbm, ⟨11, _⟩ => ⟨S1x2x2048, .f32⟩
  | .hbm, ⟨12, _⟩ => ⟨S_, .f32⟩
  | .hbm, ⟨13, _⟩ => ⟨S1x2x2048, .f32⟩
  | .hbm, ⟨14, _⟩ => ⟨S1x2x2048, .f32⟩
  | .hbm, ⟨15, _⟩ => ⟨S1x2x2048, .f32⟩
  | .hbm, ⟨16, _⟩ => ⟨S_, .f32⟩
  | .hbm, ⟨17, _⟩ => ⟨S1x2x2048, .f32⟩
  | .hbm, ⟨18, _⟩ => ⟨S1x2x2048, .f32⟩
  | .hbm, ⟨19, _⟩ => ⟨S1x2x2048, .f32⟩
  | .hbm, ⟨20, _⟩ => ⟨S_, .f32⟩
  | .hbm, ⟨21, _⟩ => ⟨S1x2x2048, .f32⟩
  | .hbm, ⟨22, _⟩ => ⟨S1x2x2048, .f32⟩
  | .hbm, ⟨23, _⟩ => ⟨S_, .f32⟩
  | .hbm, ⟨24, _⟩ => ⟨S1x2x2048, .f32⟩
  | .hbm, ⟨25, _⟩ => ⟨S1x2x2048, .f32⟩
  | .hbm, ⟨26, _⟩ => ⟨S1x2x2048, .f32⟩
  | .hbm, ⟨27, _⟩ => ⟨S_, .f32⟩
  | .hbm, ⟨28, _⟩ => ⟨S1x2x2048, .f32⟩
  | .hbm, ⟨29, _⟩ => ⟨S1x2x2048, .f32⟩
  | .hbm, ⟨30, _⟩ => ⟨S1x2x2048, .f32⟩
  | .hbm, ⟨31, _⟩ => ⟨S_, .f32⟩
  | .hbm, ⟨32, _⟩ => ⟨S1x2x2048, .f32⟩
  | .hbm, ⟨33, _⟩ => ⟨S1x2x2048, .f32⟩
  | .hbm, ⟨34, _⟩ => ⟨S1x2x2048, .f32⟩
  | .hbm, ⟨35, _⟩ => ⟨S_, .f32⟩
  | .hbm, ⟨36, _⟩ => ⟨S1x2x2048, .f32⟩
  | .hbm, ⟨37, _⟩ => ⟨S1x2x2048, .f32⟩
  | _, _ => ⟨S1x2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== AdamwUq.lean ====
abbrev S1x512x384 : Shape := ⟨3, ![1, 512, 384]⟩
abbrev S512x384 : Shape := ⟨2, ![512, 384]⟩
abbrev S1x256x384 : Shape := ⟨3, ![1, 256, 384]⟩
abbrev S256x384 : Shape := ⟨2, ![256, 384]⟩

abbrev nBuf : Space → Nat
  | .hbm => 8
  | .vmem => 16
  | .smem => 0
  | _ => 0

abbrev bufTy : (tb : Table) → Fin (tcTables nBuf tb) → BufTy
  | .hbm, ⟨0, _⟩ => ⟨S1x512x384, .f32⟩
  | .hbm, ⟨1, _⟩ => ⟨S512x384, .f32⟩
  | .hbm, ⟨2, _⟩ => ⟨S1x512x384, .f32⟩
  | .hbm, ⟨3, _⟩ => ⟨S1x512x384, .f32⟩
  | .hbm, ⟨4, _⟩ => ⟨S1x512x384, .f32⟩
  | .hbm, ⟨5, _⟩ => ⟨S1x512x384, .f32⟩
  | .hbm, ⟨6, _⟩ => ⟨S1x512x384, .f32⟩
  | .hbm, ⟨7, _⟩ => ⟨S1x512x384, .f32⟩
  | .local _ .vmem, ⟨0, _⟩ => ⟨S1x256x384, .f32⟩
  | .local _ .vmem, ⟨1, _⟩ => ⟨S1x256x384, .f32⟩
  | .local _ .vmem, ⟨2, _⟩ => ⟨S256x384, .f32⟩
  | .local _ .vmem, ⟨3, _⟩ => ⟨S256x384, .f32⟩
  | .local _ .vmem, ⟨4, _⟩ => ⟨S1x256x384, .f32⟩
  | .local _ .vmem, ⟨5, _⟩ => ⟨S1x256x384, .f32⟩
  | .local _ .vmem, ⟨6, _⟩ => ⟨S1x256x384, .f32⟩
  | .local _ .vmem, ⟨7, _⟩ => ⟨S1x256x384, .f32⟩
  | .local _ .vmem, ⟨8, _⟩ => ⟨S1x256x384, .f32⟩
  | .local _ .vmem, ⟨9, _⟩ => ⟨S1x256x384, .f32⟩
  | .local _ .vmem, ⟨10, _⟩ => ⟨S1x256x384, .f32⟩
  | .local _ .vmem, ⟨11, _⟩ => ⟨S1x256x384, .f32⟩
  | .local _ .vmem, ⟨12, _⟩ => ⟨S1x256x384, .f32⟩
  | .local _ .vmem, ⟨13, _⟩ => ⟨S1x256x384, .f32⟩
  | .local _ .vmem, ⟨14, _⟩ => ⟨S1x256x384, .f32⟩
  | .local _ .vmem, ⟨15, _⟩ => ⟨S1x256x384, .f32⟩
  | _, _ => ⟨S1x512x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwUqIdeal.lean ====
variable {F : FTy → Type} [FloatOps F] [Named F]
def κ : String → Option EReal := fun
  | "c1" => some ((8388608 / 5463681 : ℝ) : EReal)
  | "c2" => some ((268435456 / 2672307 : ℝ) : EReal)
  | _ => none
-- ==== AdamwUqRefIdeal.lean ====
abbrev S1x512x384 : Shape := ⟨3, ![1, 512, 384]⟩
abbrev S512x384 : Shape := ⟨2, ![512, 384]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x512x384, .f32⟩
  | .hbm, ⟨1, _⟩ => ⟨S512x384, .f32⟩
  | .hbm, ⟨2, _⟩ => ⟨S1x512x384, .f32⟩
  | .hbm, ⟨3, _⟩ => ⟨S1x512x384, .f32⟩
  | .hbm, ⟨4, _⟩ => ⟨S1x512x384, .f32⟩
  | .hbm, ⟨5, _⟩ => ⟨S_, .f32⟩
  | .hbm, ⟨6, _⟩ => ⟨S1x512x384, .f32⟩
  | .hbm, ⟨7, _⟩ => ⟨S1x512x384, .f32⟩
  | .hbm, ⟨8, _⟩ => ⟨S_, .f32⟩
  | .hbm, ⟨9, _⟩ => ⟨S1x512x384, .f32⟩
  | .hbm, ⟨10, _⟩ => ⟨S1x512x384, .f32⟩
  | .hbm, ⟨11, _⟩ => ⟨S1x512x384, .f32⟩
  | .hbm, ⟨12, _⟩ => ⟨S_, .f32⟩
  | .hbm, ⟨13, _⟩ => ⟨S1x512x384, .f32⟩
  | .hbm, ⟨14, _⟩ => ⟨S1x512x384, .f32⟩
  | .hbm, ⟨15, _⟩ => ⟨S1x512x384, .f32⟩
  | .hbm, ⟨16, _⟩ => ⟨S_, .f32⟩
  | .hbm, ⟨17, _⟩ => ⟨S1x512x384, .f32⟩
  | .hbm, ⟨18, _⟩ => ⟨S1x512x384, .f32⟩
  | .hbm, ⟨19, _⟩ => ⟨S1x512x384, .f32⟩
  | .hbm, ⟨20, _⟩ => ⟨S_, .f32⟩
  | .hbm, ⟨21, _⟩ => ⟨S1x512x384, .f32⟩
  | .hbm, ⟨22, _⟩ => ⟨S1x512x384, .f32⟩
  | .hbm, ⟨23, _⟩ => ⟨S_, .f32⟩
  | .hbm, ⟨24, _⟩ => ⟨S1x512x384, .f32⟩
  | .hbm, ⟨25, _⟩ => ⟨S1x512x384, .f32⟩
  | .hbm, ⟨26, _⟩ => ⟨S1x512x384, .f32⟩
  | .hbm, ⟨27, _⟩ => ⟨S_, .f32⟩
  | .hbm, ⟨28, _⟩ => ⟨S1x512x384, .f32⟩
  | .hbm, ⟨29, _⟩ => ⟨S1x512x384, .f32⟩
  | .hbm, ⟨30, _⟩ => ⟨S1x512x384, .f32⟩
  | .hbm, ⟨31, _⟩ => ⟨S_, .f32⟩
  | .hbm, ⟨32, _⟩ => ⟨S1x512x384, .f32⟩
  | .hbm, ⟨33, _⟩ => ⟨S1x512x384, .f32⟩
  | .hbm, ⟨34, _⟩ => ⟨S1x512x384, .f32⟩
  | .hbm, ⟨35, _⟩ => ⟨S_, .f32⟩
  | .hbm, ⟨36, _⟩ => ⟨S1x512x384, .f32⟩
  | .hbm, ⟨37, _⟩ => ⟨S1x512x384, .f32⟩
  | _, _ => ⟨S1x512x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Proof.Rows.lean ====
/-
  Arrays of the ideal reading whose entries are real numbers, written by their entries: `rv2 f` is the matrix holding
  the number `f r c` at row `r`, column `c`, and `rv3 f` the same with three coordinates. Each operation the kernel
  applies to such arrays gives such an array again, and the lemmas below say which.
-/
module

public import proofs.«01_k».proof.Proof.Gen.KernelIdeal.Skeleton
public import Idealize.ShloMosaic.Lib.ValueIdx
public import Idealize.ShloMosaic.Lib.Pipeline.Value
public import Idealize.ShloMosaic.PureOps.Ideal.Laws
public import Idealize.ShloMosaic.Lib.IdealHost
public import Idealize.ShloMosaic.Lib.MatmulPlain
public import Idealize.ShloMosaic.Lib.ValueLayout
public import Idealize.ShloMosaic.Lib.ValueLayoutCasts

@[expose] public section

set_option maxRecDepth 16384

noncomputable section

namespace Cert.Stick

open Idealize.ShloMosaic Cert.KernelIdeal Cert.KernelIdeal.Gen Idealize.ShloMosaic.ValueIdx
open scoped Classical

/-- The matrix of the real numbers `f r c`. -/
def rv2 {m n : ℕ} (φ : FTy) (f : ℕ → ℕ → ℝ) : FVec Ideal ⟨2, ![m, n]⟩ φ :=
  fun i => ((f (i 0).val (i 1).val : ℝ) : EReal)

/-- The three-dimensional array of the real numbers `f a r c`. -/
def rv3 {l m n : ℕ} (φ : FTy) (f : ℕ → ℕ → ℕ → ℝ) : FVec Ideal ⟨3, ![l, m, n]⟩ φ :=
  fun i => ((f (i 0).val (i 1).val (i 2).val : ℝ) : EReal)

/-- The matrix of truth values `p r c`. -/
def mk2 {m n : ℕ} (p : ℕ → ℕ → Prop) : IVec ⟨2, ![m, n]⟩ 1 :=
  fun i => BitVec.ofBool (decide (p (i 0).val (i 1).val))

theorem rv2_congr {m n : ℕ} {φ : FTy} {f g : ℕ → ℕ → ℝ} (h : ∀ r < m, ∀ c < n, f r c = g r c) :
    (rv2 φ f : FVec Ideal ⟨2, ![m, n]⟩ φ) = rv2 φ g :=
  funext fun i => congrArg Real.toEReal (h _ (i 0).isLt _ (i 1).isLt)

theorem rv3_congr {l m n : ℕ} {φ : FTy} {f g : ℕ → ℕ → ℕ → ℝ} (h : ∀ a < l, ∀ r < m, ∀ c < n, f a r c = g a r c) :
    (rv3 φ f : FVec Ideal ⟨3, ![l, m, n]⟩ φ) = rv3 φ g :=
  funext fun i => congrArg Real.toEReal (h _ (i 0).isLt _ (i 1).isLt _ (i 2).isLt)

/-- A finite sum of real numbers, read in the extended reals, is the real sum. -/
theorem coe_sum {ι : Type*} (s : Finset ι) (f : ι → ℝ) : ((∑ k ∈ s, f k : ℝ) : EReal) = ∑ k ∈ s, ((f k : ℝ) : EReal) :=
  map_sum (⟨⟨Real.toEReal, EReal.coe_zero⟩, EReal.coe_add⟩ : ℝ →+ EReal) f s

theorem coe_max' (a b : ℝ) : ((max a b : ℝ) : EReal) = max (a : EReal) (b : EReal) :=
  EReal.coe_strictMono.monotone.map_max

theorem coe_min' (a b : ℝ) : ((min a b : ℝ) : EReal) = min (a : EReal) (b : EReal) :=
  EReal.coe_strictMono.monotone.map_min

section Pointwise

variable {m n : ℕ} {φ : FTy}

theorem addf_rv2 (f g : ℕ → ℕ → ℝ) :
    addf (rv2 φ f : FVec Ideal ⟨2, ![m, n]⟩ φ) (rv2 φ g) = rv2 φ fun r c => f r c + g r c :=
  funext fun _ => (EReal.coe_add _ _).symm

theorem subf_rv2 (f g : ℕ → ℕ → ℝ) :
    subf (rv2 φ f : FVec Ideal ⟨2, ![m, n]⟩ φ) (rv2 φ g) = rv2 φ fun r c => f r c - g r c :=
  funext fun _ => (EReal.coe_sub _ _).symm

theorem mulf_rv2 (f g : ℕ → ℕ → ℝ) :
    mulf (rv2 φ f : FVec Ideal ⟨2, ![m, n]⟩ φ) (rv2 φ g) = rv2 φ fun r c => f r c * g r c :=
  funext fun _ => (EReal.coe_mul _ _).symm

theorem minimumf_rv2 (f g : ℕ → ℕ → ℝ) :
    minimumf (rv2 φ f : FVec Ideal ⟨2, ![m, n]⟩ φ) (rv2 φ g) = rv2 φ fun r c => min (f r c) (g r c) :=
  funext fun _ => (coe_min' _ _).symm

theorem absf_rv2 (f : ℕ → ℕ → ℝ) :
    absf (rv2 φ f : FVec Ideal ⟨2, ![m, n]⟩ φ) = rv2 φ fun r c => |f r c| :=
  funext fun i => by
    change max ((f (i 0).val (i 1).val : ℝ) : EReal) (-((f (i 0).val (i 1).val : ℝ) : EReal)) = _
    rw [← EReal.coe_neg, ← coe_max']
    rfl

theorem exp_rv2 (f : ℕ → ℕ → ℝ) :
    exp (rv2 φ f : FVec Ideal ⟨2, ![m, n]⟩ φ) = rv2 φ fun r c => Real.exp (f r c) := rfl

theorem log_rv2 (f : ℕ → ℕ → ℝ) :
    log (rv2 φ (fun r c => 1 + Real.exp (f r c)) : FVec Ideal ⟨2, ![m, n]⟩ φ)
      = rv2 φ fun r c => Real.log (1 + Real.exp (f r c)) :=
  funext fun i => if_neg (not_le.mpr (add_pos one_pos (Real.exp_pos _)))

theorem divf_rv2 (f : ℕ → ℕ → ℝ) :
    divf (rv2 φ (fun _ _ => 1) : FVec Ideal ⟨2, ![m, n]⟩ φ) (rv2 φ (fun r c => 1 + Real.exp (f r c)))
      = rv2 φ fun r c => 1 / (1 + Real.exp (f r c)) :=
  funext fun i => by
    refine (Ideal.div_coe (ne_of_gt (add_pos one_pos (Real.exp_pos (f (i 0).val (i 1).val)))) _).trans ?_
    exact (EReal.coe_mul _ _).symm.trans (congrArg Real.toEReal (one_mul _))

theorem truncf_rv2 {ψ : FTy} (f : ℕ → ℕ → ℝ) (h) :
    truncf ψ (rv2 φ f : FVec Ideal ⟨2, ![m, n]⟩ φ) h = rv2 ψ f := rfl

theorem extf_rv2 {ψ : FTy} (f : ℕ → ℕ → ℝ) (h) :
    extf ψ (rv2 φ f : FVec Ideal ⟨2, ![m, n]⟩ φ) h = rv2 ψ f := rfl

theorem select_rv2 (p : ℕ → ℕ → Prop) (f g : ℕ → ℕ → ℝ) :
    select (mk2 p : IVec ⟨2, ![m, n]⟩ 1) (rv2 φ f : FVec Ideal ⟨2, ![m, n]⟩ φ) (rv2 φ g)
      = rv2 φ fun r c => if p r c then f r c else g r c :=
  funext fun i => by
    by_cases h : p (i 0).val (i 1).val <;> simp [select, Scalar.select, mk2, rv2, h]

theorem cmpf_oge_rv2 (f g : ℕ → ℕ → ℝ) :
    cmpf .oge (rv2 φ f : FVec Ideal ⟨2, ![m, n]⟩ φ) (rv2 φ g) = mk2 fun r c => g r c ≤ f r c :=
  funext fun i => by
    change BitVec.ofBool (decide (((g (i 0).val (i 1).val : ℝ) : EReal) ≤ ((f (i 0).val (i 1).val : ℝ) : EReal))) = _
    simp [mk2]

theorem zero_word : (Scalar.ofBits .f32 0x00000000#32 : Ideal .f32) = ((0 : ℝ) : EReal) := by
  simp [Scalar.ofBits, Ideal.ofBits_def]

theorem one_word : (Scalar.ofBits .f32 0x3F800000#32 : Ideal .f32) = ((1 : ℝ) : EReal) :=
  Ideal.ofBits_one_f32

theorem eighth_word : (Scalar.ofBits .f32 0x3E000000#32 : Ideal .f32) = ((1 / 8 : ℝ) : EReal) := by
  change Ideal.ofBits .f32 0x3E000000#32 = _
  simp [Ideal.ofBits, Ideal.ieee, -EReal.coe_mul]; norm_num

theorem broadcast_zero : (broadcast ⟨2, ![m, n]⟩ (Scalar.ofBits .f32 0x00000000#32) : FVec Ideal ⟨2, ![m, n]⟩ .f32)
    = rv2 .f32 fun _ _ => 0 := funext fun _ => zero_word

theorem broadcast_one : (broadcast ⟨2, ![m, n]⟩ (Scalar.ofBits .f32 0x3F800000#32) : FVec Ideal ⟨2, ![m, n]⟩ .f32)
    = rv2 .f32 fun _ _ => 1 := funext fun _ => one_word

theorem broadcast_eighth : (broadcast ⟨2, ![m, n]⟩ (Scalar.ofBits .f32 0x3E000000#32) : FVec Ideal ⟨2, ![m, n]⟩ .f32)
    = rv2 .f32 fun _ _ => 1 / 8 := funext fun _ => eighth_word

theorem constant_zero : (constant ⟨2, ![m, n]⟩ .f32 0x00000000#32 : FVec Ideal ⟨2, ![m, n]⟩ .f32)
    = rv2 .f32 fun _ _ => 0 := funext fun _ => zero_word

end Pointwise

section Layout

variable {m n : ℕ} {φ : FTy}

theorem shapeCast_rv3 (f : ℕ → ℕ → ℕ → ℝ) (h) :
    shapeCast ⟨2, ![m, n]⟩ (rv3 φ f : FVec Ideal ⟨3, ![1, m, n]⟩ φ) h = rv2 φ (f 0) :=
  funext fun i => (congrArg _ (eq_ix2 i)).trans (shapeCast_1ab_ab_apply (rv3 φ f) h (i 0) (i 1))

theorem shapeCast_rv2 (f : ℕ → ℕ → ℝ) (h) :
    shapeCast ⟨3, ![1, m, n]⟩ (rv2 φ f : FVec Ideal ⟨2, ![m, n]⟩ φ) h = rv3 φ fun _ => f :=
  funext fun i => (congrArg _ (eq_ix3 i)).trans (shapeCast_ab_1ab_apply (rv2 φ f) h (i 0) (i 1) (i 2))

/-- One column, repeated along the rows. -/
theorem broadcastTo_column (f : ℕ → ℕ → ℝ) (h : S512x1.Broadcasts S512x512) :
    broadcastTo S512x512 (rv2 φ f : FVec Ideal S512x1 φ) h = rv2 φ fun r _ => f r 0 :=
  funext fun i => by
    rw [broadcastTo_apply (rv2 φ f : FVec Ideal S512x1 φ) h i (ix2 (i 0) (0 : Fin 1)) fun a => ?_]
    · rfl
    · match a with
      | ⟨0, _⟩ => rfl
      | ⟨1, _⟩ => rfl

/-- The sum of each row, as a column. -/
theorem rowSum_rv2 (f : ℕ → ℕ → ℝ) (h1 : S512x512.Reduces [1] S512) (h2) (h3) (h4) :
    shapeCast S512x1 (multiReduction .add [1] S512 (rv2 .f32 f : FVec Ideal S512x512 .f32) 0x00000000#32 h1 h2 h3) h4
      = rv2 .f32 fun r _ => ∑ c ∈ Finset.range 512, f r c :=
  funext fun i => by
    refine (congrArg _ (eq_ix2 i)).trans ((shapeCast_a_a1_apply _ h4 (i 0) (i 1)).trans ?_)
    refine (Ideal.multiReduction_add_single (rv2 .f32 f : FVec Ideal S512x512 .f32) _ h1 h2 h3 _).trans ?_
    change _ = (((∑ c ∈ Finset.range 512, f (i 0).val c : ℝ)) : EReal)
    rw [Finset.sum_range, coe_sum]
    refine Finset.sum_congr rfl fun k _ => ?_
    rfl

end Layout

section Products

variable {φ₁ φ₂ : FTy}

/-- `a · bᵀ`, contracted over the 64 columns of both. -/
theorem matmul_nt (prec) (a b : ℕ → ℕ → ℝ) :
    matmul dot_S512x64_S512x64_S512x512_1_1_0_0_n_n prec (rv2 φ₁ a : FVec Ideal S512x64 φ₁) (rv2 φ₂ b : FVec Ideal S512x64 φ₂)
        (rv2 .f32 fun _ _ => 0)
      = rv2 .f32 fun r c => ∑ d ∈ Finset.range 64, a r d * b c d :=
  funext fun i => by
    rw [eq_ix2 i]
    refine (Ideal.matmul_transposedRhs_apply (M := 512) (K := 64) (N := 512) prec _ _ _ (i 0) (i 1)).trans ?_
    refine (zero_add _).trans ?_
    change _ = (((∑ d ∈ Finset.range 64, a (i 0).val d * b (i 1).val d : ℝ)) : EReal)
    rw [Finset.sum_range, coe_sum]
    exact Finset.sum_congr rfl fun k _ => (EReal.coe_mul _ _).symm

/-- `a · b` of two square blocks. -/
theorem matmul_nn (prec) (a b : ℕ → ℕ → ℝ) :
    matmul dot_S512x512_S512x512_S512x512_1_0_0_1_n_n prec (rv2 φ₁ a : FVec Ideal S512x512 φ₁) (rv2 φ₂ b : FVec Ideal S512x512 φ₂)
        (rv2 .f32 fun _ _ => 0)
      = rv2 .f32 fun r c => ∑ s ∈ Finset.range 512, a r s * b s c :=
  funext fun i => by
    rw [eq_ix2 i]
    refine (Ideal.matmul_plain_apply (M := 512) (K := 512) (N := 512) prec _ _ _ (i 0) (i 1)).trans ?_
    refine (zero_add _).trans ?_
    change _ = (((∑ s ∈ Finset.range 512, a (i 0).val s * b s (i 1).val : ℝ)) : EReal)
    rw [Finset.sum_range, coe_sum]
    exact Finset.sum_congr rfl fun k _ => (EReal.coe_mul _ _).symm

/-- `a · b` of a square block and a block of 64 columns. -/
theorem matmul_nn64 (prec) (a b : ℕ → ℕ → ℝ) :
    matmul dot_S512x512_S512x64_S512x64_1_0_0_1_n_n prec (rv2 φ₁ a : FVec Ideal S512x512 φ₁) (rv2 φ₂ b : FVec Ideal S512x64 φ₂)
        (rv2 .f32 fun _ _ => 0)
      = rv2 .f32 fun r d => ∑ s ∈ Finset.range 512, a r s * b s d :=
  funext fun i => by
    rw [eq_ix2 i]
    refine (Ideal.matmul_plain_apply (M := 512) (K := 512) (N := 64) prec _ _ _ (i 0) (i 1)).trans ?_
    refine (zero_add _).trans ?_
    change _ = (((∑ s ∈ Finset.range 512, a (i 0).val s * b s (i 1).val : ℝ)) : EReal)
    rw [Finset.sum_range, coe_sum]
    exact Finset.sum_congr rfl fun k _ => (EReal.coe_mul _ _).symm

theorem tn_lhs_0 (i : S512x64.Idx) (q : dot_S512x512_S512x64_S512x64_0_0_1_1_n_n.contr.Idx) :
    (dot_S512x512_S512x64_S512x64_0_0_1_1_n_n.lhsIdx i q 0).val = (q ⟨0, by decide⟩).val :=
  dot_S512x512_S512x64_S512x64_0_0_1_1_n_n.lhsIdx_val_of_single rfl i q

theorem tn_rhs_0 (i : S512x64.Idx) (q : dot_S512x512_S512x64_S512x64_0_0_1_1_n_n.contr.Idx) :
    (dot_S512x512_S512x64_S512x64_0_0_1_1_n_n.rhsIdx i q 0).val = (q ⟨0, by decide⟩).val :=
  dot_S512x512_S512x64_S512x64_0_0_1_1_n_n.rhsIdx_val_of_single rfl i q

theorem tn_lhs_1 (i : S512x64.Idx) (q : dot_S512x512_S512x64_S512x64_0_0_1_1_n_n.contr.Idx) :
    (dot_S512x512_S512x64_S512x64_0_0_1_1_n_n.lhsIdx i q 1).val = (i 0).val := rfl

theorem tn_rhs_1 (i : S512x64.Idx) (q : dot_S512x512_S512x64_S512x64_0_0_1_1_n_n.contr.Idx) :
    (dot_S512x512_S512x64_S512x64_0_0_1_1_n_n.rhsIdx i q 1).val = (i 1).val := rfl

/-- `aᵀ · b` of a square block and a block of 64 columns, contracted over the rows of both. -/
theorem matmul_tn (prec) (a b : ℕ → ℕ → ℝ) :
    matmul dot_S512x512_S512x64_S512x64_0_0_1_1_n_n prec (rv2 φ₁ a : FVec Ideal S512x512 φ₁) (rv2 φ₂ b : FVec Ideal S512x64 φ₂)
        (rv2 .f32 fun _ _ => 0)
      = rv2 .f32 fun c d => ∑ r ∈ Finset.range 512, a r c * b r d :=
  funext fun i => by
    refine (Ideal.matmul_apply _ prec _ _ _ i).trans ?_
    refine (zero_add _).trans ?_
    change _ = (((∑ s ∈ Finset.range 512, a s (i 0).val * b s (i 1).val : ℝ)) : EReal)
    rw [Finset.sum_range, coe_sum,
      ← Equiv.sum_comp (contrEquiv1 dot_S512x512_S512x64_S512x64_0_0_1_1_n_n 512 rfl rfl).symm]
    refine Finset.sum_congr rfl fun k _ => ?_
    have hk := contrEquiv1_symm_val dot_S512x512_S512x64_S512x64_0_0_1_1_n_n 512 rfl rfl k
    refine (EReal.coe_mul _ _).symm.trans (congrArg Real.toEReal ?_)
    rw [tn_lhs_0, tn_lhs_1, tn_rhs_0, tn_rhs_1, hk]

end Products

end Cert.Stick

end
-- ==== Proof.Block.lean ====
/-
  One block of the kernel, over the real numbers. A block is a square of 512 query rows `r` and 512 key columns `c`;
  `p r c` says which pairs take part: all of them in a block left of the diagonal, those with `c < r` in the block on
  the diagonal. Each vector expression of the kernel's body, applied to arrays of real numbers, is named here by its
  entries.
-/
module

public import proofs.«01_k».proof.Proof.Rows
public import Idealize.ShloMosaic.Lib.WordCmp

@[expose] public section

set_option maxRecDepth 16384

noncomputable section

namespace Cert.Stick

open Idealize.ShloMosaic Cert.KernelIdeal Cert.KernelIdeal.Gen Idealize.ShloMosaic.ValueIdx
open scoped Classical

/-- `exp (-|x|)`, as the kernel writes it. -/
def ee (x : ℝ) : ℝ := Real.exp (0 - |x|)

/-- The logarithm of the logistic function of `x`, as the kernel writes it. -/
def lb (x : ℝ) : ℝ := min x 0 - Real.log (1 + ee x)

/-- The logistic function of `x`, as the kernel writes it. -/
def sg (x : ℝ) : ℝ := if 0 ≤ x then 1 / (1 + ee x) else ee x * (1 / (1 + ee x))

/-- The products of the rows of `q` with the rows of `k`. -/
def zB (q k : ℕ → ℕ → ℝ) (r c : ℕ) : ℝ := ∑ d ∈ Finset.range 64, q r d * k c d

/-- The logarithm of what a pair leaves over; zero for a pair that takes no part. -/
def lkB (p : ℕ → ℕ → Prop) (z : ℕ → ℕ → ℝ) (r c : ℕ) : ℝ := if p r c then lb (z r c) - z r c else 0

/-- The weights of a block, `run` being the sum of `lkB` over the blocks before it and `tot` the sum over all. -/
def wB (p : ℕ → ℕ → Prop) (z : ℕ → ℕ → ℝ) (tot run : ℕ → ℝ) (r c : ℕ) : ℝ :=
  if p r c then Real.exp (lb (z r c) + tot r - (run r + ∑ s ∈ Finset.range (c + 1), lkB p z r s)) else 0

/-- The gradient of the exponents. -/
def gB (w dw : ℕ → ℕ → ℝ) (r c : ℕ) : ℝ := w r c * dw r c

/-- The sum of `g` over the keys before `c`, `grun` being the sum over the blocks before. -/
def bB (grun : ℕ → ℝ) (g : ℕ → ℕ → ℝ) (r c : ℕ) : ℝ := grun r + ∑ s ∈ Finset.range c, g r s

/-- The gradient of the logits of a block. -/
def dzB (p : ℕ → ℕ → Prop) (z g b : ℕ → ℕ → ℝ) (r c : ℕ) : ℝ :=
  if p r c then g r c * (1 - sg (z r c)) - sg (z r c) * b r c else 0

/-- Every pair takes part. -/
abbrev allP : ℕ → ℕ → Prop := fun _ _ => True

/-- The pairs with the key strictly before the query. -/
abbrev belowP : ℕ → ℕ → Prop := fun r c => c < r

/-- A column of 512 numbers. -/
def col (f : ℕ → ℝ) : FVec Ideal S512x1 .f32 := rv2 .f32 fun r _ => f r

/-! ## The two triangles of ones, and the mask of the diagonal block -/

theorem ones_of_bool {p : Prop} [Decidable p] {b : BitVec 1} (h : b = BitVec.ofBool (decide p)) :
    (FloatOps.sitofp .f32 (b.setWidth 32) : Ideal .f32) = ((if p then 1 else 0 : ℝ) : EReal) := by
  subst h
  by_cases h : p
  · simp only [h, decide_true, if_true]
    exact (congrArg Real.toEReal (by simp : (((BitVec.ofBool true).setWidth 32).toInt : ℝ) = 1))
  · simp only [h, decide_false, if_false]
    exact (congrArg Real.toEReal (by simp : (((BitVec.ofBool false).setWidth 32).toInt : ℝ) = 0))

theorem iota_row (h) (i : S512x512.Idx) : iota .tc S512x512 32 [0] h i = BitVec.ofNat 32 (i 0).val :=
  congrArg (BitVec.ofNat 32) ((congrArg (· + (i 0).val) (Nat.zero_mul _)).trans (Nat.zero_add _))

theorem iota_column (h) (i : S512x512.Idx) : iota .tc S512x512 32 [1] h i = BitVec.ofNat 32 (i 1).val :=
  congrArg (BitVec.ofNat 32) ((congrArg (· + (i 1).val) (Nat.zero_mul _)).trans (Nat.zero_add _))

theorem upto_eq : (k0_pay26 (F := Ideal)) = rv2 .bf16 fun r c => if r ≤ c then 1 else 0 :=
  funext fun i => by
    have h0 : (i 0).val < 512 := (i 0).isLt
    have h1 : (i 1).val < 512 := (i 1).isLt
    exact ones_of_bool ((congrArg₂ (IntOp.cmpi .sle) (iota_row _ i) (iota_column _ i)).trans
      (WordCmp.cmpi_sle_ofNat (w := 32) (a := (i 0).val) (b := (i 1).val) (by omega) (by omega)))

theorem below_eq : (k0_pay27 (F := Ideal)) = rv2 .bf16 fun r c => if r < c then 1 else 0 :=
  funext fun i => by
    have h0 : (i 0).val < 512 := (i 0).isLt
    have h1 : (i 1).val < 512 := (i 1).isLt
    exact ones_of_bool ((congrArg₂ (IntOp.cmpi .slt) (iota_row _ i) (iota_column _ i)).trans
      (WordCmp.cmpi_slt_ofNat (w := 32) (a := (i 0).val) (b := (i 1).val) (by omega) (by omega)))

theorem mask_eq : k0_pay44 = mk2 belowP :=
  funext fun i => by
    have h0 : (i 0).val < 512 := (i 0).isLt
    have h1 : (i 1).val < 512 := (i 1).isLt
    refine ((congrArg₂ (IntOp.cmpi .sgt) (iota_row _ i) (iota_column _ i)).trans
      (WordCmp.cmpi_sgt_ofNat (w := 32) (a := (i 0).val) (b := (i 1).val) (by omega) (by omega))).trans ?_
    exact congrArg BitVec.ofBool (decide_eq_decide.mpr Iff.rfl)

/-- A product with the triangle `r ≤ c` sums a row up to and including the column. -/
theorem sum_upto {c : ℕ} (hc : c < 512) (f : ℕ → ℝ) :
    ∑ s ∈ Finset.range 512, f s * (if s ≤ c then 1 else 0) = ∑ s ∈ Finset.range (c + 1), f s := by
  simp only [mul_ite, mul_one, mul_zero]
  rw [← Finset.sum_filter]
  refine Finset.sum_congr (Finset.ext fun s => ?_) fun _ _ => rfl
  simp only [Finset.mem_filter, Finset.mem_range]
  omega

/-- A product with the triangle `r < c` sums a row up to and excluding the column. -/
theorem sum_below {c : ℕ} (hc : c < 512) (f : ℕ → ℝ) :
    ∑ s ∈ Finset.range 512, f s * (if s < c then 1 else 0) = ∑ s ∈ Finset.range c, f s := by
  simp only [mul_ite, mul_one, mul_zero]
  rw [← Finset.sum_filter]
  refine Finset.sum_congr (Finset.ext fun s => ?_) fun _ _ => rfl
  simp only [Finset.mem_filter, Finset.mem_range]
  omega

/-! ## A block left of the diagonal -/

section Full

variable (q k : ℕ → ℕ → ℝ) (k3 v3 : ℕ → ℕ → ℕ → ℝ) (do_ : ℕ → ℕ → ℝ) (tot run grun : ℕ → ℝ)

theorem pay5_eq : k0_pay5 (F := Ideal) (rv3 .bf16 k3) = rv2 .bf16 (k3 0) := shapeCast_rv3 _ _

theorem pay6_eq : k0_pay6 (F := Ideal) (rv2 .bf16 q) (rv3 .bf16 k3) = rv2 .f32 (zB q (k3 0)) := by
  unfold k0_pay6
  dsimp only
  rw [pay5_eq, constant_zero, matmul_nt]
  rfl

theorem pay7_eq : k0_pay7 (F := Ideal) (rv2 .bf16 q) (rv3 .bf16 k3) = rv2 .f32 fun r c => ee (zB q (k3 0) r c) := by
  unfold k0_pay7
  dsimp only
  rw [pay6_eq, absf_rv2, broadcast_zero, subf_rv2, exp_rv2]
  rfl

theorem pay8_eq : k0_pay8 (F := Ideal) (rv2 .bf16 q) (rv3 .bf16 k3) = rv2 .f32 fun r c => lb (zB q (k3 0) r c) := by
  unfold k0_pay8
  dsimp only
  rw [pay6_eq, pay7_eq, broadcast_zero, broadcast_one, minimumf_rv2, addf_rv2]
  simp only [ee]
  rw [log_rv2, subf_rv2]
  rfl

theorem pay9_eq : k0_pay9 (F := Ideal) (rv2 .bf16 q) (rv3 .bf16 k3) = rv2 .f32 (lkB allP (zB q (k3 0))) := by
  unfold k0_pay9
  dsimp only
  rw [pay6_eq, pay8_eq, subf_rv2]
  exact rv2_congr fun r _ c _ => (if_pos trivial).symm

theorem pay10_eq : k0_pay10 (F := Ideal) (rv2 .bf16 q) (col tot) k0_pay26 (col run) (rv3 .bf16 k3)
    = rv2 .f32 (wB allP (zB q (k3 0)) tot run) := by
  unfold k0_pay10 col
  dsimp only
  rw [pay8_eq, pay9_eq, upto_eq, broadcastTo_column, broadcastTo_column, addf_rv2, truncf_rv2, extf_rv2, subf_rv2,
    truncf_rv2, constant_zero, matmul_nn, matmul_nn, addf_rv2, addf_rv2, subf_rv2, exp_rv2]
  refine rv2_congr fun r _ c hc => ?_
  simp only [sub_self, zero_mul, Finset.sum_const_zero, add_zero, sum_upto hc]
  exact (if_pos trivial).symm

theorem pay11_eq : k0_pay11 (F := Ideal) (rv2 .bf16 q) (rv2 .bf16 do_) (col tot) k0_pay26 (col run) (rv3 .bf16 k3) (rv3 .bf16 v3)
    = rv2 .f32 (gB (wB allP (zB q (k3 0)) tot run) (zB do_ (v3 0))) := by
  unfold k0_pay11
  dsimp only
  rw [pay10_eq, shapeCast_rv3, constant_zero, matmul_nt, mulf_rv2]
  rfl

theorem pay12_eq (g : ℕ → ℕ → ℝ)
    (h : k0_pay11 (F := Ideal) (rv2 .bf16 q) (rv2 .bf16 do_) (col tot) k0_pay26 (col run) (rv3 .bf16 k3) (rv3 .bf16 v3) = rv2 .f32 g) :
    k0_pay12 (F := Ideal) (rv2 .bf16 q) (rv2 .bf16 do_) (col tot) k0_pay26 k0_pay27 (col run) (col grun) (rv3 .bf16 k3) (rv3 .bf16 v3)
    = rv2 .f32 (bB grun g) := by
  unfold k0_pay12
  dsimp only
  rw [h, truncf_rv2, constant_zero, below_eq, matmul_nn, col, broadcastTo_column, addf_rv2]
  refine rv2_congr fun r _ c hc => ?_
  simp only [sum_below hc]
  rfl

theorem pay13_eq : k0_pay13 (F := Ideal) (rv2 .bf16 q) (rv3 .bf16 k3)
    = rv2 .f32 fun r c => 1 / (1 + ee (zB q (k3 0) r c)) := by
  unfold k0_pay13
  dsimp only
  rw [pay7_eq, broadcast_one, addf_rv2]
  simp only [ee]
  rw [divf_rv2]

theorem pay32_eq (z g b : ℕ → ℕ → ℝ) :
    k0_pay32 (F := Ideal) (rv2 .f32 z) (rv2 .f32 fun r c => ee (z r c)) (rv2 .f32 g) (rv2 .f32 b)
      (rv2 .f32 fun r c => 1 / (1 + ee (z r c))) (Scalar.ofBits .f32 0x00000000#32) = rv2 .bf16 (dzB allP z g b) := by
  unfold k0_pay32
  dsimp only
  rw [broadcast_zero, cmpf_oge_rv2, mulf_rv2, select_rv2, broadcast_one, subf_rv2, mulf_rv2, mulf_rv2, subf_rv2, truncf_rv2]
  exact rv2_congr fun r _ c _ => (if_pos trivial).symm

theorem pay23_eq : k0_pay23 (F := Ideal) (rv3 .bf16 k3) = rv2 .bf16 (k3 0) := shapeCast_rv3 _ _

theorem pay24_eq : k0_pay24 (F := Ideal) (rv3 .f32 k3) = rv2 .bf16 (k3 0) := by
  unfold k0_pay24
  dsimp only
  rw [shapeCast_rv3, truncf_rv2]

theorem pay25_eq : k0_pay25 (F := Ideal) (rv3 .f32 k3) = col fun r => k3 0 r 0 := by
  unfold k0_pay25
  dsimp only
  rw [shapeCast_rv3]
  exact rv2_congr fun r _ c hc => by rw [show c = 0 by omega]

theorem pay33_eq (q3 acc : ℕ → ℕ → ℕ → ℝ) (z g b : ℕ → ℕ → ℝ) :
    k0_pay33 (F := Ideal) (rv3 .bf16 q3) (rv2 .f32 z) (rv2 .f32 fun r c => ee (z r c)) (rv2 .f32 g) (rv2 .f32 b)
      (rv2 .f32 fun r c => 1 / (1 + ee (z r c))) (Scalar.ofBits .f32 0x00000000#32) (rv3 .f32 acc)
      = rv3 .f32 fun _ c d => acc 0 c d + ∑ r ∈ Finset.range 512, dzB allP z g b r c * q3 0 r d := by
  unfold k0_pay33
  dsimp only
  rw [shapeCast_rv3, pay32_eq, pay23_eq, constant_zero, matmul_tn, addf_rv2, shapeCast_rv2]

theorem pay34_eq (do3 acc : ℕ → ℕ → ℕ → ℝ) (w : ℕ → ℕ → ℝ) :
    k0_pay34 (F := Ideal) (rv3 .f32 do3) (rv2 .f32 w) (rv3 .f32 acc)
      = rv3 .f32 fun _ c d => acc 0 c d + ∑ r ∈ Finset.range 512, w r c * do3 0 r d := by
  unfold k0_pay34
  dsimp only
  rw [shapeCast_rv3, truncf_rv2, pay24_eq, constant_zero, matmul_tn, addf_rv2, shapeCast_rv2]

theorem pay35_eq (f : ℕ → ℕ → ℝ) :
    k0_pay35 (F := Ideal) (col run) (rv2 .f32 f) = col fun r => run r + ∑ c ∈ Finset.range 512, f r c := by
  unfold k0_pay35 col
  dsimp only
  exact (congrArg (addf _) (rowSum_rv2 f _ _ _ _)).trans (addf_rv2 _ _)

theorem pay36_eq (f : ℕ → ℕ → ℝ) :
    k0_pay36 (F := Ideal) (col run) (rv2 .f32 f) = col fun r => run r + ∑ c ∈ Finset.range 512, f r c := by
  unfold k0_pay36 col
  dsimp only
  exact (congrArg (addf _) (rowSum_rv2 f _ _ _ _)).trans (addf_rv2 _ _)

theorem pay37_eq (dq z g b : ℕ → ℕ → ℝ) :
    k0_pay37 (F := Ideal) (rv2 .f32 dq) (rv2 .bf16 k) (rv2 .f32 z) (rv2 .f32 fun r c => ee (z r c)) (rv2 .f32 g) (rv2 .f32 b)
      (rv2 .f32 fun r c => 1 / (1 + ee (z r c))) (Scalar.ofBits .f32 0x00000000#32)
      = rv2 .f32 fun r d => dq r d + ∑ c ∈ Finset.range 512, dzB allP z g b r c * k c d := by
  unfold k0_pay37
  dsimp only
  rw [pay32_eq, constant_zero, matmul_nn64, addf_rv2]

end Full

/-! ## The block on the diagonal -/

section Diagonal

variable (q k do_ : ℕ → ℕ → ℝ) (k3 v3 : ℕ → ℕ → ℕ → ℝ) (tot run grun : ℕ → ℝ)

theorem pay45_eq : k0_pay45 (F := Ideal) (rv3 .bf16 k3) = rv2 .bf16 (k3 0) := shapeCast_rv3 _ _

theorem pay46_eq : k0_pay46 (F := Ideal) (rv2 .bf16 q) (rv2 .bf16 k) = rv2 .f32 (zB q k) := by
  unfold k0_pay46
  dsimp only
  rw [constant_zero, matmul_nt]
  rfl

theorem pay47_eq : k0_pay47 (F := Ideal) (rv2 .bf16 q) (rv2 .bf16 k) = rv2 .f32 fun r c => ee (zB q k r c) := by
  unfold k0_pay47
  dsimp only
  rw [pay46_eq, absf_rv2, broadcast_zero, subf_rv2, exp_rv2]
  rfl

theorem pay48_eq : k0_pay48 (F := Ideal) (rv2 .bf16 q) (col tot) k0_pay26 (col run) k0_pay44 (rv2 .bf16 k)
    = rv2 .f32 (wB belowP (zB q k) tot run) := by
  unfold k0_pay48 col
  dsimp only
  rw [pay46_eq, pay47_eq, broadcast_zero, broadcast_one, minimumf_rv2, addf_rv2]
  simp only [ee]
  rw [log_rv2, subf_rv2, subf_rv2, mask_eq, select_rv2, upto_eq, broadcastTo_column, broadcastTo_column, addf_rv2, truncf_rv2, extf_rv2,
    subf_rv2, truncf_rv2, constant_zero, matmul_nn, matmul_nn, addf_rv2, addf_rv2, subf_rv2, exp_rv2, select_rv2]
  refine rv2_congr fun r _ c hc => ?_
  simp only [sub_self, zero_mul, Finset.sum_const_zero, add_zero, sum_upto hc]
  unfold wB lkB lb ee
  congr!

theorem pay49_eq : k0_pay49 (F := Ideal) (rv2 .bf16 q) (rv2 .bf16 do_) (col tot) k0_pay26 (col run) k0_pay44 (rv2 .bf16 k) (rv3 .bf16 v3)
    = rv2 .f32 (gB (wB belowP (zB q k) tot run) (zB do_ (v3 0))) := by
  unfold k0_pay49
  dsimp only
  rw [pay48_eq, shapeCast_rv3, constant_zero, matmul_nt, mulf_rv2]
  rfl

theorem pay50_eq (g : ℕ → ℕ → ℝ)
    (h : k0_pay49 (F := Ideal) (rv2 .bf16 q) (rv2 .bf16 do_) (col tot) k0_pay26 (col run) k0_pay44 (rv2 .bf16 k) (rv3 .bf16 v3) = rv2 .f32 g) :
    k0_pay50 (F := Ideal) (rv2 .bf16 q) (rv2 .bf16 do_) (col tot) k0_pay26 k0_pay27 (col run) (col grun) k0_pay44 (rv2 .bf16 k)
      (rv3 .bf16 v3) = rv2 .f32 (bB grun g) := by
  unfold k0_pay50
  dsimp only
  rw [h, truncf_rv2, constant_zero, below_eq, matmul_nn, col, broadcastTo_column, addf_rv2]
  refine rv2_congr fun r _ c hc => ?_
  simp only [sum_below hc]
  rfl

theorem pay51_eq : k0_pay51 (F := Ideal) (rv2 .bf16 q) (rv2 .bf16 k) = rv2 .f32 fun r c => sg (zB q k r c) := by
  unfold k0_pay51
  dsimp only
  rw [pay46_eq, pay47_eq, broadcast_one, broadcast_zero, addf_rv2]
  simp only [ee]
  rw [divf_rv2, cmpf_oge_rv2, mulf_rv2, select_rv2]
  rfl

theorem pay1_eq (z g b : ℕ → ℕ → ℝ) :
    k0_pay1 (F := Ideal) k0_pay44 (rv2 .f32 g) (rv2 .f32 b) (rv2 .f32 fun r c => sg (z r c)) (Scalar.ofBits .f32 0x3F800000#32)
      = rv2 .bf16 (dzB belowP z g b) := by
  unfold k0_pay1
  dsimp only
  rw [broadcast_zero, broadcast_one, subf_rv2, mulf_rv2, mulf_rv2, subf_rv2, mask_eq, select_rv2, truncf_rv2]
  rfl

theorem pay2_eq (acc : ℕ → ℕ → ℕ → ℝ) (z g b : ℕ → ℕ → ℝ) :
    k0_pay2 (F := Ideal) (rv2 .bf16 q) k0_pay44 (rv2 .f32 g) (rv2 .f32 b) (rv2 .f32 fun r c => sg (z r c))
      (Scalar.ofBits .f32 0x3F800000#32) (rv3 .f32 acc)
      = rv3 .f32 fun _ c d => acc 0 c d + ∑ r ∈ Finset.range 512, dzB belowP z g b r c * q r d := by
  unfold k0_pay2
  dsimp only
  rw [shapeCast_rv3, pay1_eq, constant_zero, matmul_tn, addf_rv2, shapeCast_rv2]

theorem pay3_eq (acc : ℕ → ℕ → ℕ → ℝ) (w : ℕ → ℕ → ℝ) :
    k0_pay3 (F := Ideal) (rv2 .bf16 do_) (rv2 .f32 w) (rv3 .f32 acc)
      = rv3 .f32 fun _ c d => acc 0 c d + ∑ r ∈ Finset.range 512, w r c * do_ r d := by
  unfold k0_pay3
  dsimp only
  rw [shapeCast_rv3, truncf_rv2, constant_zero, matmul_tn, addf_rv2, shapeCast_rv2]

theorem pay4_eq (dq z g b : ℕ → ℕ → ℝ) :
    k0_pay4 (F := Ideal) (rv2 .f32 dq) k0_pay44 (rv2 .bf16 k) (rv2 .f32 g) (rv2 .f32 b) (rv2 .f32 fun r c => sg (z r c))
      (Scalar.ofBits .f32 0x3F800000#32)
      = rv3 .f32 fun _ r d => (dq r d + ∑ c ∈ Finset.range 512, dzB belowP z g b r c * k c d) * (1 / 8) := by
  unfold k0_pay4
  dsimp only
  rw [pay1_eq, constant_zero, matmul_nn64, addf_rv2, broadcast_eighth, mulf_rv2, shapeCast_rv2]

end Diagonal

end Cert.Stick

end
-- ==== Proof.Host.lean ====
/-
  The host's operations on arrays of real numbers: the pointwise ones, the running sums, and the logarithm of the
  logistic function as the host's library spells it.
-/
module

public import proofs.«01_k».proof.Proof.Block

@[expose] public section

set_option maxRecDepth 16384

noncomputable section

namespace Cert.Stick

open Idealize.ShloMosaic Idealize.ShloMosaic.ValueIdx
open scoped Classical

/-- The array of truth values `p a r c`. -/
def mk3 {l m n : ℕ} (p : ℕ → ℕ → ℕ → Prop) : IVec ⟨3, ![l, m, n]⟩ 1 :=
  fun i => BitVec.ofBool (decide (p (i 0).val (i 1).val (i 2).val))

section Pointwise

variable {l m n : ℕ} {φ : FTy}

theorem addf_rv3 (f g : ℕ → ℕ → ℕ → ℝ) :
    addf (rv3 φ f : FVec Ideal ⟨3, ![l, m, n]⟩ φ) (rv3 φ g) = rv3 φ fun a r c => f a r c + g a r c :=
  funext fun _ => (EReal.coe_add _ _).symm

theorem subf_rv3 (f g : ℕ → ℕ → ℕ → ℝ) :
    subf (rv3 φ f : FVec Ideal ⟨3, ![l, m, n]⟩ φ) (rv3 φ g) = rv3 φ fun a r c => f a r c - g a r c :=
  funext fun _ => (EReal.coe_sub _ _).symm

theorem mulf_rv3 (f g : ℕ → ℕ → ℕ → ℝ) :
    mulf (rv3 φ f : FVec Ideal ⟨3, ![l, m, n]⟩ φ) (rv3 φ g) = rv3 φ fun a r c => f a r c * g a r c :=
  funext fun _ => (EReal.coe_mul _ _).symm

theorem maximumf_rv3 (f g : ℕ → ℕ → ℕ → ℝ) :
    maximumf (rv3 φ f : FVec Ideal ⟨3, ![l, m, n]⟩ φ) (rv3 φ g) = rv3 φ fun a r c => max (f a r c) (g a r c) :=
  funext fun _ => (coe_max' _ _).symm

theorem negf_rv3 (f : ℕ → ℕ → ℕ → ℝ) :
    Host.negf (rv3 φ f : FVec Ideal ⟨3, ![l, m, n]⟩ φ) = rv3 φ fun a r c => -f a r c :=
  funext fun _ => (EReal.coe_neg _).symm

theorem absf_rv3 (f : ℕ → ℕ → ℕ → ℝ) :
    Host.absf (rv3 φ f : FVec Ideal ⟨3, ![l, m, n]⟩ φ) = rv3 φ fun a r c => |f a r c| :=
  funext fun i => by
    change max ((f (i 0).val (i 1).val (i 2).val : ℝ) : EReal) (-((f (i 0).val (i 1).val (i 2).val : ℝ) : EReal)) = _
    rw [← EReal.coe_neg, ← coe_max']
    rfl

theorem exp_rv3 (f : ℕ → ℕ → ℕ → ℝ) :
    Host.exp (rv3 φ f : FVec Ideal ⟨3, ![l, m, n]⟩ φ) = rv3 φ fun a r c => Real.exp (f a r c) := rfl

theorem log1p_rv3 (f : ℕ → ℕ → ℕ → ℝ) :
    Host.log1p (rv3 φ (fun a r c => Real.exp (f a r c)) : FVec Ideal ⟨3, ![l, m, n]⟩ φ)
      = rv3 φ fun a r c => Real.log (1 + Real.exp (f a r c)) :=
  funext fun i => by
    change Ideal.log (1 + ((Real.exp (f (i 0).val (i 1).val (i 2).val) : ℝ) : EReal)) = _
    rw [← EReal.coe_one, ← EReal.coe_add]
    exact if_neg (not_le.mpr (add_pos one_pos (Real.exp_pos _)))

theorem select_rv3 (p : ℕ → ℕ → ℕ → Prop) [∀ a r c, Decidable (p a r c)] (f g : ℕ → ℕ → ℕ → ℝ) :
    select (mk3 p : IVec ⟨3, ![l, m, n]⟩ 1) (rv3 φ f : FVec Ideal ⟨3, ![l, m, n]⟩ φ) (rv3 φ g)
      = rv3 φ fun a r c => if p a r c then f a r c else g a r c :=
  funext fun i => by
    by_cases h : p (i 0).val (i 1).val (i 2).val <;> simp [select, Scalar.select, mk3, rv3, h]

theorem select_false (x y : FVec Ideal ⟨3, ![l, m, n]⟩ φ) :
    select (mk3 (fun _ _ _ => False) : IVec ⟨3, ![l, m, n]⟩ 1) x y = y :=
  funext fun i => by simp [select, Scalar.select, mk3]

/-- No entry differs from itself. -/
theorem cmpf_une_self (x : FVec Ideal ⟨3, ![l, m, n]⟩ φ) : cmpf .une x x = mk3 fun _ _ _ => False :=
  funext fun i => by
    change BitVec.ofBool (decide (x i ≠ x i)) = _
    simp [mk3]

/-- The word of `+∞`. -/
theorem top_word : (Ideal.ofBits .f32 0x7F800000#32 : EReal) = ⊤ := by
  simp [Ideal.ofBits, Ideal.ieee]

/-- No real number is `+∞`. -/
theorem cmpf_oeq_top (f : ℕ → ℕ → ℕ → ℝ) (x : FVec Ideal ⟨3, ![l, m, n]⟩ .f32) (hx : ∀ i, x i = (⊤ : EReal)) :
    cmpf .oeq (rv3 .f32 f : FVec Ideal ⟨3, ![l, m, n]⟩ .f32) x = mk3 fun _ _ _ => False :=
  funext fun i => by
    change BitVec.ofBool (decide (((f (i 0).val (i 1).val (i 2).val : ℝ) : EReal) = x i)) = _
    rw [hx]
    simp [mk3]

theorem constant3_zero (h : (⟨0, ![]⟩ : Shape).BroadcastsInDim ⟨3, ![l, m, n]⟩ ![]) :
    (broadcastInDim ⟨3, ![l, m, n]⟩ ![] h (constant ⟨0, ![]⟩ .f32 0x00000000#32) : FVec Ideal ⟨3, ![l, m, n]⟩ .f32)
      = rv3 .f32 fun _ _ _ => 0 := funext fun _ => zero_word

theorem constant3_eighth (h : (⟨0, ![]⟩ : Shape).BroadcastsInDim ⟨3, ![l, m, n]⟩ ![]) :
    (broadcastInDim ⟨3, ![l, m, n]⟩ ![] h (constant ⟨0, ![]⟩ .f32 0x3E000000#32) : FVec Ideal ⟨3, ![l, m, n]⟩ .f32)
      = rv3 .f32 fun _ _ _ => 1 / 8 := funext fun _ => eighth_word

theorem constant3_top (h : (⟨0, ![]⟩ : Shape).BroadcastsInDim ⟨3, ![l, m, n]⟩ ![]) (i) :
    (broadcastInDim ⟨3, ![l, m, n]⟩ ![] h (constant ⟨0, ![]⟩ .f32 0x7F800000#32) : FVec Ideal ⟨3, ![l, m, n]⟩ .f32) i
      = (⊤ : EReal) := top_word

end Pointwise

/-! ## The running sums -/

theorem foldl_add {ι : Type*} (L : List ι) (g : ι → EReal) (v : EReal) :
    L.foldl (fun r n => r + g n) v = v + (L.map g).sum := by
  induction L generalizing v with
  | nil => simp
  | cons a L ih => rw [List.foldl_cons, ih, List.map_cons, List.sum_cons, add_assoc]

/-- The positions of a window along the last axis. -/
def lastAxis (w : ℕ) : (⟨3, ![1, 1, w]⟩ : Shape).Idx ≃ Fin w where
  toFun i := i 2
  invFun k := ix3 (0 : Fin 1) (0 : Fin 1) k
  left_inv i := by
    have h0 : (i 0).val < 1 := (i 0).isLt
    have h1 : (i 1).val < 1 := (i 1).isLt
    funext a
    match a with
    | ⟨0, _⟩ => exact Fin.ext (by show 0 = (i 0).val; omega)
    | ⟨1, _⟩ => exact Fin.ext (by show 0 = (i 1).val; omega)
    | ⟨2, _⟩ => rfl
  right_inv _ := rfl

/-- The sum over a window of the whole length along the last axis, `lo` positions of padding coming before the array. -/
theorem windowSum_rv3 {l m n : ℕ} (lo hi : ℕ) (f : ℕ → ℕ → ℕ → ℝ) (h) :
    Ideal.hostReduceWindowAdd (s := ⟨3, ![l, m, n]⟩) (t := ⟨3, ![l, m, n]⟩) ![1, 1, n] ![1, 1, 1] ![0, 0, lo] ![0, 0, hi] h
        (rv3 .f32 f : FVec Ideal ⟨3, ![l, m, n]⟩ .f32) ((0 : ℝ) : EReal)
      = (rv3 .f32 fun a r c => ∑ k ∈ Finset.range n, if lo ≤ c + k ∧ c + k - lo < n then f a r (c + k - lo) else 0 :
          FVec Ideal ⟨3, ![l, m, n]⟩ .f32) := by
  funext j
  have j0 : (j 0).val < l := (j 0).isLt
  have j1 : (j 1).val < m := (j 1).isLt
  unfold Ideal.hostReduceWindowAdd Host.reduceWindow
  dsimp only
  rw [foldl_add, EReal.coe_zero, zero_add, ← Fin.sum_univ_def]
  let G : (⟨3, ![1, 1, n]⟩ : Shape).Idx → EReal := fun p =>
    if lo ≤ (j 2).val + (p 2).val ∧ (j 2).val + (p 2).val - lo < n then
      ((f (j 0).val (j 1).val ((j 2).val + (p 2).val - lo) : ℝ) : EReal) else 0
  refine (Finset.sum_congr rfl fun i _ => (?_ : _ = G ((Shape.rowMajor ⟨3, ![1, 1, n]⟩).symm i))).trans ?_
  · let p : (⟨3, ![1, 1, n]⟩ : Shape).Idx := (Shape.rowMajor ⟨3, ![1, 1, n]⟩).symm i
    have p0 : (p 0).val < 1 := (p 0).isLt
    have p1 : (p 1).val < 1 := (p 1).isLt
    by_cases hk : lo ≤ (j 2).val + (p 2).val ∧ (j 2).val + (p 2).val - lo < n
    · rw [dif_pos ?_]
      · refine Eq.trans ?_ (if_pos hk).symm
        change ((f ((j 0).val * 1 + (p 0).val - 0) ((j 1).val * 1 + (p 1).val - 0) ((j 2).val * 1 + (p 2).val - lo) : ℝ) : EReal) = _
        rw [show (j 0).val * 1 + (p 0).val - 0 = (j 0).val by omega, show (j 1).val * 1 + (p 1).val - 0 = (j 1).val by omega,
          Nat.mul_one]
      · intro a
        match a with
        | ⟨0, _⟩ => exact ⟨Nat.zero_le _, by show (j 0).val * 1 + (p 0).val - 0 < l; omega⟩
        | ⟨1, _⟩ => exact ⟨Nat.zero_le _, by show (j 1).val * 1 + (p 1).val - 0 < m; omega⟩
        | ⟨2, _⟩ => exact ⟨by show lo ≤ (j 2).val * 1 + (p 2).val; omega, by show (j 2).val * 1 + (p 2).val - lo < n; omega⟩
    · rw [dif_neg ?_]
      · exact (if_neg hk).symm
      · intro hall
        have : lo ≤ (j 2).val * 1 + (p 2).val ∧ (j 2).val * 1 + (p 2).val - lo < n := hall 2
        rw [Nat.mul_one] at this
        exact hk this
  refine (Equiv.sum_comp (Shape.rowMajor ⟨3, ![1, 1, n]⟩).symm G).trans ((Equiv.sum_comp (lastAxis n).symm G).symm.trans ?_)
  change _ = ((∑ k ∈ Finset.range n, if lo ≤ (j 2).val + k ∧ (j 2).val + k - lo < n then f (j 0).val (j 1).val ((j 2).val + k - lo)
      else 0 : ℝ) : EReal)
  rw [Finset.sum_range, coe_sum]
  refine Finset.sum_congr rfl fun k _ => ?_
  by_cases hk : lo ≤ (j 2).val + k.val ∧ (j 2).val + k.val - lo < n
  · exact (if_pos hk).trans (congrArg Real.toEReal (if_pos hk)).symm
  · exact (if_neg hk).trans (congrArg Real.toEReal (if_neg hk)).symm

/-- The same of the program's operation, whose initial value is zero. -/
theorem reduceWindowAdd_rv3 {l m n : ℕ} (lo hi : ℕ) (f : ℕ → ℕ → ℕ → ℝ) (v : FVec Ideal ⟨0, ![]⟩ .f32)
    (hv : ∀ i, v i = ((0 : ℝ) : EReal)) (h) (hu) :
    Host.reduceWindowAdd (s := ⟨3, ![l, m, n]⟩) (t := ⟨3, ![l, m, n]⟩) ![1, 1, n] ![1, 1, 1] ![0, 0, lo] ![0, 0, hi]
        (rv3 .f32 f : FVec Ideal ⟨3, ![l, m, n]⟩ .f32) v h hu
      = (rv3 .f32 fun a r c => ∑ k ∈ Finset.range n, if lo ≤ c + k ∧ c + k - lo < n then f a r (c + k - lo) else 0 :
          FVec Ideal ⟨3, ![l, m, n]⟩ .f32) := by
  rw [← windowSum_rv3 lo hi f h, ← hv (Shape.Idx.first hu)]
  rfl

/-- The sum of the entries from `c` on. -/
theorem sum_from (n c : ℕ) (hc : c < n) (f : ℕ → ℝ) :
    (∑ k ∈ Finset.range n, if 0 ≤ c + k ∧ c + k - 0 < n then f (c + k - 0) else 0) = ∑ s ∈ Finset.range n, if c ≤ s then f s else 0 := by
  obtain ⟨e, rfl⟩ : ∃ e, n = c + e := ⟨n - c, by omega⟩
  rw [Finset.sum_range_add (fun s => if c ≤ s then f s else 0) c e, Finset.sum_eq_zero (s := Finset.range c) fun s hs => if_neg (by
      have := Finset.mem_range.mp hs; omega), zero_add, Nat.add_comm c e,
    Finset.sum_range_add _ e c, Finset.sum_eq_zero (s := Finset.range c) fun s _ => if_neg (by omega), add_zero]
  refine Finset.sum_congr rfl fun k hk => ?_
  have := Finset.mem_range.mp hk
  rw [if_pos (by omega), if_pos (by omega)]
  rfl

/-- The sum of the entries up to `c`. -/
theorem sum_through (n c : ℕ) (hc : c < n + 1) (f : ℕ → ℝ) :
    (∑ k ∈ Finset.range (n + 1), if n ≤ c + k ∧ c + k - n < n + 1 then f (c + k - n) else 0) = ∑ s ∈ Finset.range (c + 1), f s := by
  obtain ⟨e, rfl⟩ : ∃ e, n = e + c := ⟨n - c, by omega⟩
  rw [show e + c + 1 = e + (c + 1) by omega, Finset.sum_range_add _ e (c + 1),
    Finset.sum_eq_zero (s := Finset.range e) fun s hs => if_neg (by have := Finset.mem_range.mp hs; omega), zero_add]
  refine Finset.sum_congr rfl fun k hk => ?_
  have := Finset.mem_range.mp hk
  rw [if_pos (by omega), show c + (e + k) - (e + c) = k by omega]

/-! ## The logarithm of the logistic function -/

/-- The logarithm of `1 + exp x`, as the host's library writes it. -/
def spl (x : ℝ) : ℝ := max x 0 + Real.log (1 + Real.exp (-|x - 0|))

theorem ee_eq (x : ℝ) : Real.exp (-|x - 0|) = ee x := by rw [sub_zero, ee, zero_sub]

theorem lb_eq (z : ℝ) : lb z = -spl (-z) := by
  rw [lb, spl, ee_eq, ee, ee, abs_neg, neg_add, ← sub_eq_add_neg]
  congr 1
  rcases le_total z 0 with h | h
  · rw [min_eq_left h, max_eq_left (by linarith), neg_neg]
  · rw [min_eq_right h, max_eq_right (by linarith), neg_zero]

theorem lb_sub (z : ℝ) : lb z - z = -spl z := by
  rw [lb, spl, ee_eq, neg_add]
  rcases le_total z 0 with h | h
  · rw [min_eq_left h, max_eq_right h]; ring
  · rw [min_eq_right h, max_eq_left h]; ring

theorem ee_pos (x : ℝ) : 0 < ee x := Real.exp_pos _

theorem exp_neg_log (x : ℝ) : Real.exp (-Real.log (1 + ee x)) = 1 / (1 + ee x) := by
  rw [Real.exp_neg, Real.exp_log (add_pos one_pos (ee_pos x)), one_div]

theorem exp_sub_spl (z : ℝ) : Real.exp (z - spl z) = sg z := by
  rw [spl, ee_eq, sg]
  split
  · next h => rw [max_eq_left h, ← exp_neg_log]; congr 1; ring
  · next h =>
    have h' : z ≤ 0 := le_of_lt (not_le.mp h)
    rw [max_eq_right h', ← exp_neg_log, zero_add, sub_eq_add_neg, Real.exp_add]
    congr 1
    rw [ee, abs_of_nonpos h']; congr 1; ring

theorem exp_neg_sub_spl (z : ℝ) : Real.exp (-z - spl (-z)) = 1 - sg z := by
  rw [exp_sub_spl, sg, sg]
  have e : ee (-z) = ee z := by rw [ee, ee, abs_neg]
  have p := ee_pos z
  rw [e]
  rcases lt_trichotomy z 0 with h | h | h
  · rw [if_pos (by linarith), if_neg (by linarith)]; field_simp; ring
  · subst h
    rw [if_pos (by simp), if_pos (le_refl _), ee]; norm_num
  · rw [if_neg (by linarith), if_pos (by linarith)]; field_simp; ring

end Cert.Stick
-- ==== Proof.Finite.lean ====
/-
  The precondition: every entry of the four argument arrays is a real number. An array that meets it is the array of the
  real numbers its entries are.
-/
module

public import proofs.«01_k».proof.Proof.Host
public import proofs.«01_k».proof.Pre_finite

@[expose] public section

set_option maxRecDepth 16384

noncomputable section

namespace Cert.Stick

open Idealize.ShloMosaic Idealize.ShloMosaic.ValueIdx
open scoped Classical

/-- The precondition's shape relation. -/
theorem finiteFacts : Cert.Pre_finite.Facts where
  bcast_S_S16x2048x64 := by decide

/-- The real entries of an array. -/
def entries (x : FVec Ideal ⟨3, ![16, 2048, 64]⟩ .f32) (h t d : ℕ) : ℝ :=
  EReal.toReal (x (ix3 ⟨h % 16, Nat.mod_lt _ (by decide)⟩ ⟨t % 2048, Nat.mod_lt _ (by decide)⟩ ⟨d % 64, Nat.mod_lt _ (by decide)⟩))

theorem rv3_entries (x : FVec Ideal ⟨3, ![16, 2048, 64]⟩ .f32) (hx : ∀ i, ∃ r : ℝ, x i = (r : EReal)) : x = rv3 .f32 (entries x) := by
  funext i
  have i0 : (i 0).val < 16 := (i 0).isLt
  have i1 : (i 1).val < 2048 := (i 1).isLt
  have i2 : (i 2).val < 64 := (i 2).isLt
  obtain ⟨r, hr⟩ := hx i
  change _ = ((entries x (i 0).val (i 1).val (i 2).val : ℝ) : EReal)
  have hi : ix3 (⟨(i 0).val % 16, Nat.mod_lt _ (by decide)⟩ : Fin 16) (⟨(i 1).val % 2048, Nat.mod_lt _ (by decide)⟩ : Fin 2048)
      (⟨(i 2).val % 64, Nat.mod_lt _ (by decide)⟩ : Fin 64) = i := by
    funext a
    match a with
    | ⟨0, _⟩ => exact Fin.ext (Nat.mod_eq_of_lt i0)
    | ⟨1, _⟩ => exact Fin.ext (Nat.mod_eq_of_lt i1)
    | ⟨2, _⟩ => exact Fin.ext (Nat.mod_eq_of_lt i2)
  unfold entries
  rw [hi, hr, EReal.toReal_coe]

/-- An entry whose absolute value is below `+∞` is a real number. -/
theorem real_of_lt_top (a : EReal) (h : BitVec.ofBool (decide (max a (-a) < (⊤ : EReal))) = 1#1) : ∃ r : ℝ, a = (r : EReal) := by
  have h' : max a (-a) < (⊤ : EReal) := by
    by_contra hn
    rw [decide_eq_false hn] at h
    exact absurd h (by decide)
  induction a with
  | bot => simp at h'
  | top => simp at h'
  | coe r => exact ⟨r, rfl⟩

theorem and_ones {a b : BitVec 1} (h : a &&& b = 1#1) : a = 1#1 ∧ b = 1#1 := by
  revert a b; decide

/-- The precondition, spelled out at the arrays' entries. -/
theorem finite_iff [Cert.Pre_finite.Facts] {x0 x1 x2 x3 : FVec Ideal Cert.Pre_finite.S16x2048x64 .f32}
    (h : Cert.Pre_finite.fn (F := Ideal) x0 x1 x2 x3 = fun _ => 1#1) :
    x0 = rv3 .f32 (entries x0) ∧ x1 = rv3 .f32 (entries x1) ∧ x2 = rv3 .f32 (entries x2) ∧ x3 = rv3 .f32 (entries x3) := by
  have bits : ∀ i, BitVec.ofBool (decide (max (x0 i : EReal) (-x0 i) < (⊤ : EReal))) = 1#1
      ∧ BitVec.ofBool (decide (max (x1 i : EReal) (-x1 i) < (⊤ : EReal))) = 1#1
      ∧ BitVec.ofBool (decide (max (x2 i : EReal) (-x2 i) < (⊤ : EReal))) = 1#1
      ∧ BitVec.ofBool (decide (max (x3 i : EReal) (-x3 i) < (⊤ : EReal))) = 1#1 := by
    intro i
    have e := congrFun h i
    have e' : ((BitVec.ofBool (decide (max (x0 i : EReal) (-x0 i) < Ideal.ofBits .f32 0x7F800000#32))
        &&& BitVec.ofBool (decide (max (x1 i : EReal) (-x1 i) < Ideal.ofBits .f32 0x7F800000#32)))
        &&& BitVec.ofBool (decide (max (x2 i : EReal) (-x2 i) < Ideal.ofBits .f32 0x7F800000#32)))
        &&& BitVec.ofBool (decide (max (x3 i : EReal) (-x3 i) < Ideal.ofBits .f32 0x7F800000#32)) = 1#1 := e
    rw [top_word] at e'
    obtain ⟨e1, h3⟩ := and_ones e'
    obtain ⟨e2, h2⟩ := and_ones e1
    obtain ⟨h0, h1⟩ := and_ones e2
    exact ⟨h0, h1, h2, h3⟩
  exact ⟨rv3_entries x0 fun i => real_of_lt_top _ (bits i).1, rv3_entries x1 fun i => real_of_lt_top _ (bits i).2.1,
    rv3_entries x2 fun i => real_of_lt_top _ (bits i).2.2.1, rv3_entries x3 fun i => real_of_lt_top _ (bits i).2.2.2⟩

end Cert.Stick
-- ==== Proof.Sums.lean ====
/-
  From one block to a row of all keys. The 512 query rows of one block see all 2048 keys; the pair of row `r` of row
  block `n` and key `s` takes part if `s < 512 n + r`. Cut into blocks of 512 keys, the sums along a row are the sums of
  the blocks before plus the sum inside the block, and so each block computes a piece of the same quantities.
-/
module

public import proofs.«01_k».proof.Proof.Block

@[expose] public section

noncomputable section

namespace Cert.Stick

open scoped Classical

/-- The pairs of row block `n`: the key comes strictly before the query. -/
def strictP (n : ℕ) : ℕ → ℕ → Prop := fun r s => s < 512 * n + r

section Row

variable (n : ℕ) (Q K D V : ℕ → ℕ → ℝ) (T : ℕ → ℝ)

/-- The weights of a row block. -/
def wR : ℕ → ℕ → ℝ := wB (strictP n) (zB Q K) T fun _ => 0

/-- The gradient of the exponents of a row block. -/
def gR : ℕ → ℕ → ℝ := gB (wR n Q K T) (zB D V)

/-- The gradient of the logits of a row block. -/
def dzR : ℕ → ℕ → ℝ := dzB (strictP n) (zB Q K) (gR n Q K D V T) (bB (fun _ => 0) (gR n Q K D V T))

/-- The sum of the logarithms over the first `j` key blocks. -/
def runR (j : ℕ) (r : ℕ) : ℝ := ∑ s ∈ Finset.range (512 * j), lkB (strictP n) (zB Q K) r s

/-- The sum of `gR` over the first `j` key blocks. -/
def grunR (j : ℕ) (r : ℕ) : ℝ := ∑ s ∈ Finset.range (512 * j), gR n Q K D V T r s

/-- What the first `j` key blocks add to the gradient of the queries. -/
def dqR (j : ℕ) (r d : ℕ) : ℝ := ∑ s ∈ Finset.range (512 * j), dzR n Q K D V T r s * K s d

/-- What the row block adds to the gradient of key `s`, up to a factor. -/
def dkR (s d : ℕ) : ℝ := ∑ r ∈ Finset.range 512, dzR n Q K D V T r s * Q r d

/-- What the row block adds to the gradient of value `s`. -/
def dvR (s d : ℕ) : ℝ := ∑ r ∈ Finset.range 512, wR n Q K T r s * D r d

end Row

/-- Key block `j`. -/
def kblk (K : ℕ → ℕ → ℝ) (j : ℕ) : ℕ → ℕ → ℝ := fun c d => K (512 * j + c) d

section Cut

variable {n j : ℕ} {p : ℕ → ℕ → Prop} (hp : ∀ r < 512, ∀ c < 512, (p r c ↔ strictP n r (512 * j + c)))
variable (Q K D V : ℕ → ℕ → ℝ) (T : ℕ → ℝ) {r c : ℕ} (hr : r < 512) (hc : c < 512)

theorem sum_blocks (f : ℕ → ℝ) (m : ℕ) :
    ∑ s ∈ Finset.range (512 * j + m), f s = ∑ s ∈ Finset.range (512 * j), f s + ∑ s ∈ Finset.range m, f (512 * j + s) :=
  Finset.sum_range_add f (512 * j) m

theorem sum_next (f : ℕ → ℝ) :
    ∑ s ∈ Finset.range (512 * (j + 1)), f s
      = ∑ s ∈ Finset.range (512 * j), f s + ∑ s ∈ Finset.range 512, f (512 * j + s) := by
  rw [Nat.mul_add, Nat.mul_one, sum_blocks]

include hp hr

include hc in
theorem lkB_cut : lkB p (zB Q (kblk K j)) r c = lkB (strictP n) (zB Q K) r (512 * j + c) :=
  if_congr (hp r hr c hc) rfl rfl

include hc in
theorem wB_cut : wB p (zB Q (kblk K j)) T (runR n Q K j) r c = wR n Q K T r (512 * j + c) := by
  refine if_congr (hp r hr c hc) (congrArg Real.exp ?_) rfl
  refine congrArg (lb (zB Q K r (512 * j + c)) + T r - ·) ?_
  rw [zero_add, Nat.add_assoc, sum_blocks]
  refine congrArg (runR n Q K j r + ·) (Finset.sum_congr rfl fun s hs => lkB_cut hp Q K hr ?_)
  have := Finset.mem_range.mp hs
  omega

include hc in
theorem gB_cut : gB (wB p (zB Q (kblk K j)) T (runR n Q K j)) (zB D (kblk V j)) r c = gR n Q K D V T r (512 * j + c) :=
  congrArg (· * zB D V r (512 * j + c)) (wB_cut hp Q K T hr hc)

include hc in
theorem bB_cut : bB (grunR n Q K D V T j) (gB (wB p (zB Q (kblk K j)) T (runR n Q K j)) (zB D (kblk V j))) r c
    = bB (fun _ => 0) (gR n Q K D V T) r (512 * j + c) := by
  unfold bB
  rw [zero_add, sum_blocks]
  refine congrArg (grunR n Q K D V T j r + ·) (Finset.sum_congr rfl fun s hs => gB_cut hp Q K D V T hr ?_)
  have := Finset.mem_range.mp hs
  omega

include hc in
theorem dzB_cut : dzB p (zB Q (kblk K j)) (gB (wB p (zB Q (kblk K j)) T (runR n Q K j)) (zB D (kblk V j)))
      (bB (grunR n Q K D V T j) (gB (wB p (zB Q (kblk K j)) T (runR n Q K j)) (zB D (kblk V j)))) r c
    = dzR n Q K D V T r (512 * j + c) := by
  unfold dzB
  rw [gB_cut hp Q K D V T hr hc, bB_cut hp Q K D V T hr hc]
  exact if_congr (hp r hr c hc) rfl rfl

theorem run_next : runR n Q K j r + ∑ c ∈ Finset.range 512, lkB p (zB Q (kblk K j)) r c = runR n Q K (j + 1) r := by
  unfold runR
  rw [sum_next]
  exact congrArg (_ + ·) (Finset.sum_congr rfl fun s hs => lkB_cut hp Q K hr (Finset.mem_range.mp hs))

theorem grun_next : grunR n Q K D V T j r
      + ∑ c ∈ Finset.range 512, gB (wB p (zB Q (kblk K j)) T (runR n Q K j)) (zB D (kblk V j)) r c
    = grunR n Q K D V T (j + 1) r := by
  unfold grunR
  rw [sum_next]
  exact congrArg (_ + ·) (Finset.sum_congr rfl fun s hs => gB_cut hp Q K D V T hr (Finset.mem_range.mp hs))

theorem dq_next (d : ℕ) : dqR n Q K D V T j r d
      + ∑ c ∈ Finset.range 512, dzB p (zB Q (kblk K j)) (gB (wB p (zB Q (kblk K j)) T (runR n Q K j)) (zB D (kblk V j)))
          (bB (grunR n Q K D V T j) (gB (wB p (zB Q (kblk K j)) T (runR n Q K j)) (zB D (kblk V j)))) r c * kblk K j c d
    = dqR n Q K D V T (j + 1) r d := by
  unfold dqR
  rw [sum_next]
  exact congrArg (_ + ·) (Finset.sum_congr rfl fun s hs =>
    congrArg (· * K (512 * j + s) d) (dzB_cut hp Q K D V T hr (Finset.mem_range.mp hs)))

omit hr in
include hc in
theorem dk_cut (d : ℕ) : ∑ r ∈ Finset.range 512,
      dzB p (zB Q (kblk K j)) (gB (wB p (zB Q (kblk K j)) T (runR n Q K j)) (zB D (kblk V j)))
        (bB (grunR n Q K D V T j) (gB (wB p (zB Q (kblk K j)) T (runR n Q K j)) (zB D (kblk V j)))) r c * Q r d
    = dkR n Q K D V T (512 * j + c) d :=
  Finset.sum_congr rfl fun r hr => congrArg (· * Q r d) (dzB_cut hp Q K D V T (Finset.mem_range.mp hr) hc)

omit hr in
include hc in
theorem dv_cut (d : ℕ) : ∑ r ∈ Finset.range 512, wB p (zB Q (kblk K j)) T (runR n Q K j) r c * D r d
    = dvR n Q K D T (512 * j + c) d :=
  Finset.sum_congr rfl fun r hr => congrArg (· * D r d) (wB_cut hp Q K T (Finset.mem_range.mp hr) hc)

end Cut

/-- Left of the diagonal every pair takes part. -/
theorem allP_cut {n j : ℕ} (h : j < n) : ∀ r < 512, ∀ c < 512, (allP r c ↔ strictP n r (512 * j + c)) := fun r _ c hc =>
  ⟨fun _ => by unfold strictP; omega, fun _ => trivial⟩

/-- On the diagonal the pairs below it do. -/
theorem belowP_cut (n : ℕ) : ∀ r < 512, ∀ c < 512, (belowP r c ↔ strictP n r (512 * n + c)) := fun r _ c _ => by
  unfold belowP strictP
  omega

/-- Right of the diagonal none does. -/
theorem dkR_right {n : ℕ} (Q K D V : ℕ → ℕ → ℝ) (T : ℕ → ℝ) {s : ℕ} (hs : 512 * (n + 1) ≤ s) (d : ℕ) :
    dkR n Q K D V T s d = 0 :=
  Finset.sum_eq_zero fun r hr => by
    have := Finset.mem_range.mp hr
    rw [dzR, dzB, if_neg (by unfold strictP; omega), zero_mul]

theorem dvR_right {n : ℕ} (Q K D : ℕ → ℕ → ℝ) (T : ℕ → ℝ) {s : ℕ} (hs : 512 * (n + 1) ≤ s) (d : ℕ) :
    dvR n Q K D T s d = 0 :=
  Finset.sum_eq_zero fun r hr => by
    have := Finset.mem_range.mp hr
    rw [wR, wB, if_neg (by unfold strictP; omega), zero_mul]

end Cert.Stick

end
-- ==== Proof.Windows.lean ====
/-
  Loading 512 rows of a whole head, and storing 512 rows of it, where what the memory holds is known by its entries.
-/
module

public import proofs.«01_k».proof.Proof.Sums
public import Idealize.ShloMosaic.Lib.VecWindow
public import Idealize.ShloMosaic.Lib.WritesUnit

@[expose] public section

set_option maxRecDepth 16384

noncomputable section

namespace Cert.Stick

open Idealize.ShloMosaic Cert.KernelIdeal Cert.KernelIdeal.Gen
open scoped Classical

/-- The rectangle of 512 rows from row `o` on. -/
theorem window_rows {φ : FTy} (K : ℕ → ℕ → ℕ → ℝ) (o : ℕ) (inb) :
    VecWindow.window (s := S1x2048x64) (rv3 φ K : FVec Ideal S1x2048x64 φ) ![0, o, 0] ![1, 512, 64] inb
      = (rv3 φ fun a r d => K a (o + r) d : FVec Ideal S1x512x64 φ) := by
  funext y
  unfold VecWindow.window rv3
  have h0 : (0 + 1 * (y 0).val) = (y 0).val := by omega
  have h1 : (o + 1 * (y 1).val) = o + (y 1).val := by omega
  have h2 : (0 + 1 * (y 2).val) = (y 2).val := by omega
  exact congrArg Real.toEReal ((congrArg (fun a => K a (o + 1 * (y 1).val) (0 + 1 * (y 2).val)) h0).trans
    ((congrArg (fun a => K (y 0).val a (0 + 1 * (y 2).val)) h1).trans (congrArg (K (y 0).val (o + (y 1).val)) h2)))

theorem inb_rows {o : ℕ} (ho : o + 512 ≤ 2048) :
    ∀ a, (![0, o, 0] : Fin 3 → ℕ) a + (![1, 512, 64] : Fin 3 → ℕ) a ≤ S1x2048x64.size a :=
  Fin.forall_fin_succ.mpr ⟨le_refl 1, Fin.forall_fin_two.mpr ⟨ho, le_refl 64⟩⟩

theorem load_bf16 {κ sp} (v : View sig κ sp S1x2048x64 .bf16) (f : v.ty.Contents (Elt Ideal)) {K : ℕ → ℕ → ℕ → ℝ}
    (h : v.read (Elt Ideal) f = (rv3 .bf16 K : FVec Ideal S1x2048x64 .bf16)) {off : Fin 3 → ℕ} {o : ℕ}
    (e : off = ![0, o, 0]) (ho : o + 512 ≤ 2048) (inb) :
    v.readAt (Elt Ideal) (Rect.unit (s := S1x2048x64) off ![1, 512, 64] inb).toLoadRect f
      = (rv3 .bf16 fun a r d => K a (o + r) d : FVec Ideal S1x512x64 .bf16) :=
  (View.readAt_unit v f inb e (inb_rows ho)).trans
    ((congrArg (fun x => VecWindow.window x ![0, o, 0] ![1, 512, 64] (inb_rows ho)) h).trans (window_rows K o _))

theorem load_f32 {κ sp} (v : View sig κ sp S1x2048x64 .f32) (f : v.ty.Contents (Elt Ideal)) {K : ℕ → ℕ → ℕ → ℝ}
    (h : v.read (Elt Ideal) f = (rv3 .f32 K : FVec Ideal S1x2048x64 .f32)) {off : Fin 3 → ℕ} {o : ℕ}
    (e : off = ![0, o, 0]) (ho : o + 512 ≤ 2048) (inb) :
    v.readAt (Elt Ideal) (Rect.unit (s := S1x2048x64) off ![1, 512, 64] inb).toLoadRect f
      = (rv3 .f32 fun a r d => K a (o + r) d : FVec Ideal S1x512x64 .f32) :=
  (View.readAt_unit v f inb e (inb_rows ho)).trans
    ((congrArg (fun x => VecWindow.window x ![0, o, 0] ![1, 512, 64] (inb_rows ho)) h).trans (window_rows K o _))

/-- What a store of 512 rows leaves. -/
theorem store_f32 {κ sp} (v : View sig κ sp S1x2048x64 .f32) (f : v.ty.Contents (Elt Ideal))
    (L : List (View.Piece (Elt Ideal) S1x2048x64 .f32)) {A w : ℕ → ℕ → ℕ → ℝ}
    (h : v.read (Elt Ideal) (v.writes (Elt Ideal) f L) = (rv3 .f32 A : FVec Ideal S1x2048x64 .f32))
    {off : Fin 3 → ℕ} {o : ℕ} (e : off = ![0, o, 0]) (inb) (x : FVec Ideal S1x512x64 .f32) (hx : x = rv3 .f32 w) :
    v.read (Elt Ideal) (v.writes (Elt Ideal) f (⟨Rect.unit (s := S1x2048x64) off ![1, 512, 64] inb, x⟩ :: L))
      = (rv3 .f32 fun a s d => if o ≤ s ∧ s < o + 512 then w a (s - o) d else A a s d : FVec Ideal S1x2048x64 .f32) := by
  funext y
  have h0 : (y 0).val < 1 := (y 0).isLt
  have h2 : (y 2).val < 64 := (y 2).isLt
  refine (View.read_writes_cons_unit v f inb x L y e).trans ?_
  by_cases hy : o ≤ (y 1).val ∧ (y 1).val < o + 512
  · have hm : ∀ a : Fin 3, (![0, o, 0] : Fin 3 → ℕ) a ≤ (y a).val ∧
        (y a).val < (![0, o, 0] : Fin 3 → ℕ) a + (![1, 512, 64] : Fin 3 → ℕ) a :=
      Fin.forall_fin_succ.mpr ⟨⟨Nat.zero_le _, by exact (Nat.zero_add 1).symm ▸ h0⟩, Fin.forall_fin_two.mpr ⟨hy, Nat.zero_le _, by
        exact (Nat.zero_add 64).symm ▸ h2⟩⟩
    refine (dif_pos hm).trans ?_
    subst hx
    exact congrArg Real.toEReal (if_pos hy).symm
  · refine (dif_neg fun hm => hy (hm 1)).trans ((congrFun h y).trans ?_)
    exact congrArg Real.toEReal (if_neg hy).symm

end Cert.Stick

end
-- ==== Proof.Loop.lean ====
/-
  The loop over the key blocks before the diagonal. Before block `k` the loop carries, of every query row, the sum of the
  logarithms, the sum of `g` and the partial gradient over the first `512 k` keys, and has added to the rows of the key
  and value gradients below `512 k` what this row block gives them.
-/
module

public import proofs.«01_k».proof.Proof.Windows
public import proofs.«01_k».proof.Proof.Gen.KernelIdeal.Loops

@[expose] public section

set_option maxRecDepth 16384

noncomputable section

namespace Cert.Stick

open Idealize.ShloMosaic Cert.KernelIdeal Cert.KernelIdeal.Gen
open scoped Classical

/-- The row block `n` has `n` key blocks before the diagonal. -/
theorem trips_eq (i : grid0.Coords) : (k0_t1_loop i).trips = (i 1).val :=
  (by decide : ∀ n : Fin 4, Scf.trips 0#32 (Scalar.addi 0#32 (Scalar.muli (Scalar.divsi (Scalar.subi (BitVec.ofNat 32 n.val) 0#32) 1#32) 1#32)) 1#32 = n.val) (i 1)

theorem row_lt (i : grid0.Coords) : (i 1).val < 4 := (i 1).isLt

theorem off1_eq (i : grid0.Coords) (k : Fin (k0_t1_loop i).trips) : k0_off1 i k = ![0, 512 * k.val, 0] := by
  have hk : k.val < 4 := lt_trans (lt_of_lt_of_eq k.isLt (trips_eq i)) (row_lt i)
  unfold k0_off1
  exact congrArg (fun x : ℕ => (![0, x, 0] : Fin 3 → ℕ))
    ((by decide : ∀ k : Fin 4, (Scalar.muli (Scf.iv 0#32 1#32 k.val) 512#32).toNat = 512 * k.val) ⟨k.val, hk⟩)

theorem off3_eq (i : grid0.Coords) : k0_off3 i = ![0, 512 * (i 1).val, 0] := by
  unfold k0_off3
  exact congrArg (fun x : ℕ => (![0, x, 0] : Fin 3 → ℕ))
    ((by decide : ∀ k : Fin 4, (Scalar.muli (BitVec.ofNat 32 k.val) 512#32).toNat = 512 * k.val) (i 1))

theorem col_congr {f g : ℕ → ℝ} (h : ∀ r < 512, f r = g r) : col f = col g := rv2_congr fun r hr _ _ => h r hr

theorem pay30_eq : k0_pay30 (F := Ideal) = col fun _ => 0 := broadcast_zero

theorem pay31_eq : k0_pay31 (F := Ideal) = rv2 .f32 fun _ _ => 0 := broadcast_zero

theorem pay28_eq : k0_pay28 (F := Ideal) = rv3 .f32 fun _ _ _ => 0 := funext fun _ => zero_word

theorem pay29_eq : k0_pay29 (F := Ideal) = rv3 .f32 fun _ _ _ => 0 := funext fun _ => zero_word

section Trip

variable (𝒱 : Variants) (c : Dev nD) (bd : Option 𝒱.V) (i : grid0.Coords) (arg2 : Memref sig .tc .vmem S1x512x64 .bf16) (harg2 : arg2.IsWhole)
  (arg3 : Memref sig .tc .vmem S1x2048x64 .bf16) (harg3 : arg3.IsWhole) (arg4 : Memref sig .tc .vmem S1x2048x64 .bf16) (harg4 : arg4.IsWhole)
  (arg5 : Memref sig .tc .vmem S1x512x1 .f32) (harg5 : arg5.IsWhole) (arg6 : Memref sig .tc .vmem S1x512x64 .f32) (harg6 : arg6.IsWhole)
  (arg7 : Memref sig .tc .vmem S1x512x64 .f32) (harg7 : arg7.IsWhole) (arg8 : Memref sig .tc .vmem S1x2048x64 .f32) (harg8 : arg8.IsWhole)
  (arg9 : Memref sig .tc .vmem S1x2048x64 .f32) (harg9 : arg9.IsWhole)
  (v0 : Vec Ideal S1x512x64 .bf16) (v2 : Vec Ideal S1x512x64 .f32) (v5 : Vec Ideal S1x512x1 .f32)
  (X3 : BufTy.Contents (Elt Ideal) arg3.view.ty) (X4 : BufTy.Contents (Elt Ideal) arg4.view.ty)
  (Q K D V A B : ℕ → ℕ → ℝ) (T : ℕ → ℝ)
  (hv0 : v0 = (rv3 .bf16 fun _ => Q : FVec Ideal S1x512x64 .bf16)) (hv2 : v2 = (rv3 .f32 fun _ => D : FVec Ideal S1x512x64 .f32))
  (hv5 : v5 = (rv3 .f32 fun _ r _ => T r : FVec Ideal S1x512x1 .f32))
  (h3 : arg3.view.read (Elt Ideal) X3 = (rv3 .bf16 fun _ => K : FVec Ideal S1x2048x64 .bf16))
  (h4 : arg4.view.read (Elt Ideal) X4 = (rv3 .bf16 fun _ => V : FVec Ideal S1x2048x64 .bf16))

include hv0 hv2 hv5 h3 h4

/-- What one trip carries on. -/
theorem trip_carry (k : Fin (k0_t1_loop i).trips) (run grun : ℕ → ℝ) (dq : ℕ → ℕ → ℝ) (f8 f9) :
    tripR_k0_t1 (F := Ideal) 𝒱 c bd i arg2 harg2 arg3 harg3 arg4 harg4 arg5 harg5 arg6 harg6 arg7 harg7 arg8 harg8 arg9 harg9 v0 v2 v5 X3 X4 k
      (col run, col grun, rv2 .f32 dq) f8 f9
    = (col fun r => run r + ∑ s ∈ Finset.range 512, lkB allP (zB Q (kblk K k)) r s,
       col fun r => grun r + ∑ s ∈ Finset.range 512, gB (wB allP (zB Q (kblk K k)) T run) (zB D (kblk V k)) r s,
       rv2 .f32 fun r d => dq r d + ∑ s ∈ Finset.range 512, dzB allP (zB Q (kblk K k))
         (gB (wB allP (zB Q (kblk K k)) T run) (zB D (kblk V k)))
         (bB grun (gB (wB allP (zB Q (kblk K k)) T run) (zB D (kblk V k)))) r s * kblk K k s d) := by
  have hk : k.val < 4 := lt_trans (lt_of_lt_of_eq k.isLt (trips_eq i)) (row_lt i)
  have ho : 512 * k.val + 512 ≤ 2048 := by omega
  have l3 : ∀ inb, arg3.view.readAt (Elt Ideal) (Rect.unit (s := S1x2048x64) (k0_off1 i k) S1x512x64.size inb).toLoadRect X3
      = (rv3 .bf16 fun _ => kblk K k : FVec Ideal S1x512x64 .bf16) := fun inb => load_bf16 arg3.view X3 h3 (off1_eq i k) ho inb
  have l4 : ∀ inb, arg4.view.readAt (Elt Ideal) (Rect.unit (s := S1x2048x64) (k0_off1 i k) S1x512x64.size inb).toLoadRect X4
      = (rv3 .bf16 fun _ => kblk V k : FVec Ideal S1x512x64 .bf16) := fun inb => load_bf16 arg4.view X4 h4 (off1_eq i k) ho inb
  unfold tripR_k0_t1 trip_k0_t1
  dsimp only
  unfold trip_k0_t1.sl.r trip_k0_t1.sl.r_1 trip_k0_t1.sl.r_2 trip_k0_t1.sl.r_3 trip_k0_t1.sl.r_5 trip_k0_t1.sl.r_6 trip_k0_t1.sl.r_7
  subst hv0 hv2 hv5
  rw [l3, l4, pay23_eq, pay24_eq, pay25_eq, pay5_eq, pay6_eq, pay7_eq, pay9_eq]
  dsimp only
  rw [pay12_eq (h := pay11_eq ..), pay11_eq, pay13_eq, pay35_eq, pay36_eq]
  refine congrArg _ (congrArg _ ?_)
  exact pay37_eq ..

/-- The store into the key gradient. -/
theorem trip_store8 (k : Fin (k0_t1_loop i).trips) (run grun : ℕ → ℝ) (dq : ℕ → ℕ → ℝ) (f8 f9)
    (h8 : arg8.view.read (Elt Ideal) f8 = (rv3 .f32 fun _ => A : FVec Ideal S1x2048x64 .f32)) (G8 L8)
    (hf8 : f8 = arg8.view.writes (Elt Ideal) G8 L8) :
    arg8.view.read (Elt Ideal) (arg8.view.writes (Elt Ideal) G8
      ((tripL_k0_t1 (F := Ideal) 𝒱 c bd i arg2 harg2 arg3 harg3 arg4 harg4 arg5 harg5 arg6 harg6 arg7 harg7 arg8 harg8 arg9 harg9 v0 v2 v5 X3 X4 k
        (col run, col grun, rv2 .f32 dq) f8 f9).1 ++ L8))
    = (rv3 .f32 fun _ s d => if 512 * k.val ≤ s ∧ s < 512 * k.val + 512 then
        A (512 * k.val + (s - 512 * k.val)) d + ∑ r ∈ Finset.range 512, dzB allP (zB Q (kblk K k))
         (gB (wB allP (zB Q (kblk K k)) T run) (zB D (kblk V k)))
         (bB grun (gB (wB allP (zB Q (kblk K k)) T run) (zB D (kblk V k)))) r (s - 512 * k.val) * Q r d
        else A s d : FVec Ideal S1x2048x64 .f32) := by
  have hk : k.val < 4 := lt_trans (lt_of_lt_of_eq k.isLt (trips_eq i)) (row_lt i)
  have ho : 512 * k.val + 512 ≤ 2048 := by omega
  have l3 : ∀ inb, arg3.view.readAt (Elt Ideal) (Rect.unit (s := S1x2048x64) (k0_off1 i k) S1x512x64.size inb).toLoadRect X3
      = (rv3 .bf16 fun _ => kblk K k : FVec Ideal S1x512x64 .bf16) := fun inb => load_bf16 arg3.view X3 h3 (off1_eq i k) ho inb
  have l4 : ∀ inb, arg4.view.readAt (Elt Ideal) (Rect.unit (s := S1x2048x64) (k0_off1 i k) S1x512x64.size inb).toLoadRect X4
      = (rv3 .bf16 fun _ => kblk V k : FVec Ideal S1x512x64 .bf16) := fun inb => load_bf16 arg4.view X4 h4 (off1_eq i k) ho inb
  have l8 : ∀ inb, arg8.view.readAt (Elt Ideal) (Rect.unit (s := S1x2048x64) (k0_off1 i k) S1x512x64.size inb).toLoadRect f8
      = (rv3 .f32 fun _ => kblk A k : FVec Ideal S1x512x64 .f32) := fun inb => load_f32 arg8.view f8 h8 (off1_eq i k) ho inb
  unfold tripL_k0_t1 trip_k0_t1
  dsimp only
  refine (store_f32 arg8.view G8 L8 (hf8 ▸ h8) (off1_eq i k) _ _ (w := fun _ s d => A (512 * k.val + s) d + ∑ r ∈ Finset.range 512, dzB allP (zB Q (kblk K k))
         (gB (wB allP (zB Q (kblk K k)) T run) (zB D (kblk V k)))
         (bB grun (gB (wB allP (zB Q (kblk K k)) T run) (zB D (kblk V k)))) r s * Q r d) ?_).trans rfl
  unfold trip_k0_t1.sl.r_1 trip_k0_t1.sl.r_2 trip_k0_t1.sl.r_5 trip_k0_t1.sl.r_6 trip_k0_t1.sl.r_7
  subst hv0 hv2 hv5
  rw [l3, l4, l8, pay23_eq, pay24_eq, pay25_eq, pay6_eq, pay7_eq]
  dsimp only
  rw [pay12_eq (h := pay11_eq ..), pay11_eq, pay13_eq]
  exact pay33_eq ..

/-- The store into the value gradient. -/
theorem trip_store9 (k : Fin (k0_t1_loop i).trips) (run grun : ℕ → ℝ) (dq : ℕ → ℕ → ℝ) (f8 f9)
    (h9 : arg9.view.read (Elt Ideal) f9 = (rv3 .f32 fun _ => A : FVec Ideal S1x2048x64 .f32)) (G9 L9)
    (hf9 : f9 = arg9.view.writes (Elt Ideal) G9 L9) :
    arg9.view.read (Elt Ideal) (arg9.view.writes (Elt Ideal) G9
      ((tripL_k0_t1 (F := Ideal) 𝒱 c bd i arg2 harg2 arg3 harg3 arg4 harg4 arg5 harg5 arg6 harg6 arg7 harg7 arg8 harg8 arg9 harg9 v0 v2 v5 X3 X4 k
        (col run, col grun, rv2 .f32 dq) f8 f9).2 ++ L9))
    = (rv3 .f32 fun _ s d => if 512 * k.val ≤ s ∧ s < 512 * k.val + 512 then
        A (512 * k.val + (s - 512 * k.val)) d + ∑ r ∈ Finset.range 512, wB allP (zB Q (kblk K k)) T run r (s - 512 * k.val) * D r d
        else A s d : FVec Ideal S1x2048x64 .f32) := by
  have hk : k.val < 4 := lt_trans (lt_of_lt_of_eq k.isLt (trips_eq i)) (row_lt i)
  have ho : 512 * k.val + 512 ≤ 2048 := by omega
  have l3 : ∀ inb, arg3.view.readAt (Elt Ideal) (Rect.unit (s := S1x2048x64) (k0_off1 i k) S1x512x64.size inb).toLoadRect X3
      = (rv3 .bf16 fun _ => kblk K k : FVec Ideal S1x512x64 .bf16) := fun inb => load_bf16 arg3.view X3 h3 (off1_eq i k) ho inb
  have l9 : ∀ inb, arg9.view.readAt (Elt Ideal) (Rect.unit (s := S1x2048x64) (k0_off1 i k) S1x512x64.size inb).toLoadRect f9
      = (rv3 .f32 fun _ => kblk A k : FVec Ideal S1x512x64 .f32) := fun inb => load_f32 arg9.view f9 h9 (off1_eq i k) ho inb
  unfold tripL_k0_t1 trip_k0_t1
  dsimp only
  refine (store_f32 arg9.view G9 L9 (hf9 ▸ h9) (off1_eq i k) _ _ (w := fun _ s d => A (512 * k.val + s) d + ∑ r ∈ Finset.range 512,
    wB allP (zB Q (kblk K k)) T run r s * D r d) ?_).trans rfl
  unfold trip_k0_t1.sl.r_4
  subst hv0 hv2 hv5
  rw [l3, l9, pay23_eq, pay25_eq]
  dsimp only
  rw [pay10_eq]
  exact pay34_eq ..

/-- What the loop holds before trip `k`. -/
theorem loop_inv (G8 G9) (h8 : arg8.view.read (Elt Ideal) G8 = (rv3 .f32 fun _ => A : FVec Ideal S1x2048x64 .f32))
    (h9 : arg9.view.read (Elt Ideal) G9 = (rv3 .f32 fun _ => B : FVec Ideal S1x2048x64 .f32)) {n : ℕ} (hn : n = (i 1).val) :
    ∀ k : ℕ, k ≤ n → ∃ P8 P9, st_k0_t1 (F := Ideal) 𝒱 c bd i arg2 harg2 arg3 harg3 arg4 harg4 arg5 harg5 arg6 harg6 arg7 harg7 arg8 harg8 arg9 harg9
        v0 v2 v5 X3 X4 G8 G9 (k0_pay30, k0_pay30, k0_pay31) k
      = ((col (runR n Q K k), col (grunR n Q K D V T k), rv2 .f32 (dqR n Q K D V T k)), P8, P9)
      ∧ arg8.view.read (Elt Ideal) (arg8.view.writes (Elt Ideal) G8 P8)
        = (rv3 .f32 fun _ s d => A s d + if s < 512 * k then dkR n Q K D V T s d else 0 : FVec Ideal S1x2048x64 .f32)
      ∧ arg9.view.read (Elt Ideal) (arg9.view.writes (Elt Ideal) G9 P9)
        = (rv3 .f32 fun _ s d => B s d + if s < 512 * k then dvR n Q K D T s d else 0 : FVec Ideal S1x2048x64 .f32)
  | 0, _ => ⟨[], [], congrArg (·, [], []) (Prod.ext pay30_eq (Prod.ext pay30_eq pay31_eq)),
      h8.trans (rv3_congr fun _ _ s _ d _ => (by rw [if_neg (by omega), add_zero])),
      h9.trans (rv3_congr fun _ _ s _ d _ => (by rw [if_neg (by omega), add_zero]))⟩
  | k + 1, hk => by
      obtain ⟨P8, P9, e, e8, e9⟩ := loop_inv G8 G9 h8 h9 hn k (by omega)
      have hk' : k < (k0_t1_loop i).trips := by rw [trips_eq, ← hn]; omega
      have hp := allP_cut (show k < n by omega)
      have step := st_k0_t1_succ 𝒱 c bd i arg2 harg2 arg3 harg3 arg4 harg4 arg5 harg5 arg6 harg6 arg7 harg7 arg8 harg8 arg9 harg9 v0 v2 v5 X3 X4 G8 G9
        (k0_pay30 (F := Ideal), k0_pay30 (F := Ideal), k0_pay31 (F := Ideal)) ⟨k, hk'⟩
      rw [e] at step
      refine ⟨_, _, step.trans (Prod.ext ?_ rfl), ?_, ?_⟩
      · refine (trip_carry 𝒱 c bd i arg2 harg2 arg3 harg3 arg4 harg4 arg5 harg5 arg6 harg6 arg7 harg7 arg8 harg8 arg9 harg9 v0 v2 v5 X3 X4 Q K D V T
          hv0 hv2 hv5 h3 h4 ⟨k, hk'⟩ _ _ _ _ _).trans ?_
        exact congrArg₂ Prod.mk (col_congr fun r hr => run_next hp Q K hr) (congrArg₂ Prod.mk
          (col_congr fun r hr => grun_next hp Q K D V T hr) (rv2_congr fun r hr d _ => dq_next hp Q K D V T hr d))
      · refine (trip_store8 𝒱 c bd i arg2 harg2 arg3 harg3 arg4 harg4 arg5 harg5 arg6 harg6 arg7 harg7 arg8 harg8 arg9 harg9 v0 v2 v5 X3 X4 Q K D V _ T
          hv0 hv2 hv5 h3 h4 ⟨k, hk'⟩ _ _ _ _ _ e8 G8 P8 rfl).trans (rv3_congr fun _ _ s _ d _ => ?_)
        dsimp only
        by_cases hs : 512 * k ≤ s ∧ s < 512 * k + 512
        · have es : 512 * k + (s - 512 * k) = s := by omega
          rw [if_pos hs, dk_cut hp Q K D V T (by omega), es, if_neg (by omega), if_pos (by omega), add_zero]
        · rw [if_neg hs]
          exact congrArg (A s d + ·) (if_congr (by omega) rfl rfl)
      · refine (trip_store9 𝒱 c bd i arg2 harg2 arg3 harg3 arg4 harg4 arg5 harg5 arg6 harg6 arg7 harg7 arg8 harg8 arg9 harg9 v0 v2 v5 X3 X4 Q K D V _ T
          hv0 hv2 hv5 h3 h4 ⟨k, hk'⟩ _ _ _ _ _ e9 G9 P9 rfl).trans (rv3_congr fun _ _ s _ d _ => ?_)
        dsimp only
        by_cases hs : 512 * k ≤ s ∧ s < 512 * k + 512
        · have es : 512 * k + (s - 512 * k) = s := by omega
          rw [if_pos hs, dv_cut hp Q K D T (by omega), es, if_neg (by omega), if_pos (by omega), add_zero]
        · rw [if_neg hs]
          exact congrArg (B s d + ·) (if_congr (by omega) rfl rfl)

end Trip

end Cert.Stick

end
-- ==== Proof.Point.lean ====
/-
  One grid point: the row block `n` of one head. It runs the loop over the key blocks before the diagonal and then the
  diagonal block, where the pairs below the diagonal take part, and leaves the gradient of its queries, and the gradients
  of the keys and values with what this row block adds to them.
-/
module

public import proofs.«01_k».proof.Proof.Loop
public import proofs.«01_k».proof.Proof.Gen.KernelIdeal.Frame
public import Idealize.ShloMosaic.Lib.LoopRemainder

@[expose] public section

set_option maxRecDepth 16384

noncomputable section

namespace Cert.Stick

open Idealize.ShloMosaic Cert.KernelIdeal Cert.KernelIdeal.Gen
open scoped Classical

section Point

variable (c : Dev nD) (i : grid0.Coords) (arg2 : Memref sig .tc .vmem S1x512x64 .bf16) (harg2 : arg2.IsWhole)
  (arg3 : Memref sig .tc .vmem S1x2048x64 .bf16) (harg3 : arg3.IsWhole) (arg4 : Memref sig .tc .vmem S1x2048x64 .bf16) (harg4 : arg4.IsWhole)
  (arg5 : Memref sig .tc .vmem S1x512x1 .f32) (harg5 : arg5.IsWhole) (arg6 : Memref sig .tc .vmem S1x512x64 .f32) (harg6 : arg6.IsWhole)
  (arg7 : Memref sig .tc .vmem S1x512x64 .f32) (harg7 : arg7.IsWhole) (arg8 : Memref sig .tc .vmem S1x2048x64 .f32) (harg8 : arg8.IsWhole)
  (arg9 : Memref sig .tc .vmem S1x2048x64 .f32) (harg9 : arg9.IsWhole)

/-- The number of trips, as the run writes it. -/
theorem trips_eq' : Scf.trips (k0_t1_loop i).lb (k0_t1_loop i).ub (k0_t1_loop i).st = (i 1).val :=
  trips_eq i

/-- The loop over the rest has no trip. -/
theorem rest_eq (v0 v2 v5 v26 G3 G4 G8 G9 init) : st_k0_t2 (F := Ideal) Variants.none c none i arg2 harg2 arg3 harg3 arg4 harg4 arg5 harg5 arg6 harg6 arg7 harg7 arg8 harg8 arg9 harg9
    v0 v2 v5 v26 G3 G4 G8 G9 init (Scf.trips (k0_t2_loop i).lb (k0_t2_loop i).ub (k0_t2_loop i).st) = (init, [], []) := by
  rw [show Scf.trips (k0_t2_loop i).lb (k0_t2_loop i).ub (k0_t2_loop i).st = 0 from Scf.rem_trips _ _]
  rfl

variable (x0 : Vec Ideal S1x512x64 .bf16) (x1 x2 : Vec Ideal S1x2048x64 .bf16) (x3 : Vec Ideal S1x512x1 .f32) (x4 : Vec Ideal S1x512x64 .f32)
  (Q K D V : ℕ → ℕ → ℝ) (T : ℕ → ℝ)
  (h0 : x0 = (rv3 .bf16 fun _ => Q : FVec Ideal S1x512x64 .bf16)) (h4 : x4 = (rv3 .f32 fun _ => D : FVec Ideal S1x512x64 .f32))
  (h3 : x3 = (rv3 .f32 fun _ r _ => T r : FVec Ideal S1x512x1 .f32))
  (h1 : x1 = (rv3 .bf16 fun _ => K : FVec Ideal S1x2048x64 .bf16))
  (h2 : x2 = (rv3 .bf16 fun _ => V : FVec Ideal S1x2048x64 .bf16))

include h0 h1 h2 h3 h4

/-- The first point of a head: it clears what the gradients of the keys and values held. -/
theorem pointA (hc0 : cond0_0 i) :
    out0_A_5 (F := Ideal) c i arg2 harg2 arg3 harg3 arg4 harg4 arg5 harg5 arg6 harg6 arg7 harg7 arg8 harg8 arg9 harg9 hc0 x0 x1 x2 x3 x4
      = (rv3 .f32 fun _ r d => dqR (i 1).val Q K D V T ((i 1).val + 1) r d * (1 / 8) : FVec Ideal S1x512x64 .f32)
    ∧ out0_A_6 (F := Ideal) c i arg2 harg2 arg3 harg3 arg4 harg4 arg5 harg5 arg6 harg6 arg7 harg7 arg8 harg8 arg9 harg9 hc0 x0 x1 x2 x3 x4
      = (rv3 .f32 fun _ s d => dkR (i 1).val Q K D V T s d : FVec Ideal S1x2048x64 .f32)
    ∧ out0_A_7 (F := Ideal) c i arg2 harg2 arg3 harg3 arg4 harg4 arg5 harg5 arg6 harg6 arg7 harg7 arg8 harg8 arg9 harg9 hc0 x0 x1 x2 x3 x4
      = (rv3 .f32 fun _ s d => dvR (i 1).val Q K D T s d : FVec Ideal S1x2048x64 .f32) := by
  have hn := row_lt i
  have ho : 512 * (i 1).val + 512 ≤ 2048 := by omega
  have hp := belowP_cut (i 1).val
  obtain ⟨P8, P9, e, e8, e9⟩ := loop_inv Variants.none c none i arg2 harg2 arg3 harg3 arg4 harg4 arg5 harg5 arg6 harg6 arg7 harg7 arg8 harg8 arg9 harg9
    (arg2.view.readAt (Elt Ideal) (Rect.unit ![0, 0, 0] S1x512x64.size inb_S1x512x64_S1x512x64_0_0_0).toLoadRect (harg2.unread x0))
    (arg6.view.readAt (Elt Ideal) (Rect.unit ![0, 0, 0] S1x512x64.size inb_S1x512x64_S1x512x64_0_0_0).toLoadRect (harg6.unread x4))
    (arg5.view.readAt (Elt Ideal) (Rect.unit ![0, 0, 0] S1x512x1.size inb_S1x512x1_S1x512x1_0_0_0).toLoadRect (harg5.unread x3))
    (harg3.unread x1) (harg4.unread x2) Q K D V (fun _ _ => 0) (fun _ _ => 0) T
    ((View.readAt_full _ _ _).trans ((harg2.read_unread x0).trans h0)) ((View.readAt_full _ _ _).trans ((harg6.read_unread x4).trans h4))
    ((View.readAt_full _ _ _).trans ((harg5.read_unread x3).trans h3)) ((harg3.read_unread x1).trans h1) ((harg4.read_unread x2).trans h2)
    (arg8.view.writes (Elt Ideal) arg8.view.junk kernelRun0_A.sl.H6_1) (arg9.view.writes (Elt Ideal) arg9.view.junk kernelRun0_A.sl.H7_1)
    ((View.read_writes_full _ _ _ _ _).trans pay28_eq) ((View.read_writes_full _ _ _ _ _).trans pay29_eq) rfl (i 1).val le_rfl
  replace e := (congrArg (st_k0_t1 (F := Ideal) Variants.none c none i arg2 harg2 arg3 harg3 arg4 harg4 arg5 harg5 arg6 harg6 arg7 harg7 arg8 harg8 arg9 harg9
    _ _ _ _ _ _ _ _) (trips_eq' i)).trans e
  have f8 := (congrArg (arg8.view.read (Elt Ideal)) (View.writes_append arg8.view arg8.view.junk P8 kernelRun0_A.sl.H6_1)).trans e8
  have g8 := (View.read_writes_junk_eq_canon VO0_6 (P8 ++ kernelRun0_A.sl.H6_1)).trans ((View.read_writes_junk_eq_canon arg8.view _).symm.trans f8)
  have f9 := (congrArg (arg9.view.read (Elt Ideal)) (View.writes_append arg9.view arg9.view.junk P9 kernelRun0_A.sl.H7_1)).trans e9
  have g9 := (View.read_writes_junk_eq_canon VO0_7 (P9 ++ kernelRun0_A.sl.H7_1)).trans ((View.read_writes_junk_eq_canon arg9.view _).symm.trans f9)
  have l3 : ∀ inb, arg3.view.readAt (Elt Ideal) (Rect.unit (s := S1x2048x64) (k0_off3 i) S1x512x64.size inb).toLoadRect (harg3.unread x1)
      = (rv3 .bf16 fun _ => kblk K (i 1).val : FVec Ideal S1x512x64 .bf16) := fun inb =>
    load_bf16 arg3.view _ ((harg3.read_unread x1).trans h1) (off3_eq i) ho inb
  have l4 : ∀ inb, arg4.view.readAt (Elt Ideal) (Rect.unit (s := S1x2048x64) (k0_off3 i) S1x512x64.size inb).toLoadRect (harg4.unread x2)
      = (rv3 .bf16 fun _ => kblk V (i 1).val : FVec Ideal S1x512x64 .bf16) := fun inb =>
    load_bf16 arg4.view _ ((harg4.read_unread x2).trans h2) (off3_eq i) ho inb
  have e0 : kernelRun0_A.sl.r c arg2 harg2 x0 = rv2 .bf16 Q :=
    (congrArg k0_pay23 ((View.readAt_full _ _ _).trans ((harg2.read_unread x0).trans h0))).trans (pay23_eq _)
  have e1 : kernelRun0_A.sl.r_1 c arg6 harg6 x4 = rv2 .bf16 D :=
    (congrArg k0_pay24 ((View.readAt_full _ _ _).trans ((harg6.read_unread x4).trans h4))).trans (pay24_eq _)
  have e2 : kernelRun0_A.sl.r_2 c arg5 harg5 x3 = col T :=
    (congrArg k0_pay25 ((View.readAt_full _ _ _).trans ((harg5.read_unread x3).trans h3))).trans (pay25_eq _)
  have e3 : kernelRun0_A.sl.r_3 c i arg2 harg2 arg3 harg3 arg4 harg4 arg5 harg5 arg6 harg6 arg7 harg7 arg8 harg8 arg9 harg9 x0 x1 x2 x3 x4
      = col (runR (i 1).val Q K (i 1).val) := by
    unfold kernelRun0_A.sl.r_3
    rw [rest_eq, e]
  have e4 : kernelRun0_A.sl.r_4 c i arg2 harg2 arg3 harg3 arg4 harg4 arg5 harg5 arg6 harg6 arg7 harg7 arg8 harg8 arg9 harg9 x0 x1 x2 x3 x4
      = col (grunR (i 1).val Q K D V T (i 1).val) := by
    unfold kernelRun0_A.sl.r_4
    rw [rest_eq, e]
  have e5 : kernelRun0_A.sl.r_5 c i arg2 harg2 arg3 harg3 arg4 harg4 arg5 harg5 arg6 harg6 arg7 harg7 arg8 harg8 arg9 harg9 x0 x1 x2 x3 x4
      = rv2 .f32 (dqR (i 1).val Q K D V T (i 1).val) := by
    unfold kernelRun0_A.sl.r_5
    rw [rest_eq, e]
  have e6 : kernelRun0_A.sl.r_6 i arg3 harg3 x1 = rv2 .bf16 (kblk K (i 1).val) := (congrArg k0_pay45 (l3 _)).trans (pay45_eq _)
  have e10 : kernelRun0_A.sl.r_10 c i arg2 harg2 arg3 harg3 x0 x1 = rv2 .f32 fun r s => sg (zB Q (kblk K (i 1).val) r s) := by
    unfold kernelRun0_A.sl.r_10
    rw [e0, e6, pay51_eq]
  have e7 : kernelRun0_A.sl.r_7 c i arg2 harg2 arg3 harg3 arg4 harg4 arg5 harg5 arg6 harg6 arg7 harg7 arg8 harg8 arg9 harg9 x0 x1 x2 x3 x4
      = rv2 .f32 (wB belowP (zB Q (kblk K (i 1).val)) T (runR (i 1).val Q K (i 1).val)) := by
    unfold kernelRun0_A.sl.r_7
    rw [e0, e2, e3, e6, pay48_eq]
  have e8' : kernelRun0_A.sl.r_8 c i arg2 harg2 arg3 harg3 arg4 harg4 arg5 harg5 arg6 harg6 arg7 harg7 arg8 harg8 arg9 harg9 x0 x1 x2 x3 x4
      = rv2 .f32 (gB (wB belowP (zB Q (kblk K (i 1).val)) T (runR (i 1).val Q K (i 1).val)) (zB D (kblk V (i 1).val))) := by
    unfold kernelRun0_A.sl.r_8
    rw [e0, e1, e2, e3, e6, l4, pay49_eq]
  have e9' : kernelRun0_A.sl.r_9 c i arg2 harg2 arg3 harg3 arg4 harg4 arg5 harg5 arg6 harg6 arg7 harg7 arg8 harg8 arg9 harg9 x0 x1 x2 x3 x4
      = rv2 .f32 (bB (grunR (i 1).val Q K D V T (i 1).val)
        (gB (wB belowP (zB Q (kblk K (i 1).val)) T (runR (i 1).val Q K (i 1).val)) (zB D (kblk V (i 1).val)))) := by
    unfold kernelRun0_A.sl.r_9
    rw [e0, e1, e2, e3, e4, e6, l4, pay50_eq (h := pay49_eq ..)]
  have s8 : kernelRun0_A.sl.v90 c i arg2 harg2 arg3 harg3 arg4 harg4 arg5 harg5 arg6 harg6 arg7 harg7 arg8 harg8 arg9 harg9 x0 x1 x2 x3 x4
      = (rv3 .f32 fun _ _ _ => 0 : FVec Ideal S1x512x64 .f32) := by
    unfold kernelRun0_A.sl.v90
    rw [rest_eq, e]
    refine (load_f32 arg8.view _ f8 (off3_eq i) ho _).trans (rv3_congr fun _ _ s _ d _ => ?_)
    rw [if_neg (by omega), add_zero]
  have s9 : kernelRun0_A.sl.v99 c i arg2 harg2 arg3 harg3 arg4 harg4 arg5 harg5 arg6 harg6 arg7 harg7 arg8 harg8 arg9 harg9 x0 x1 x2 x3 x4
      = (rv3 .f32 fun _ _ _ => 0 : FVec Ideal S1x512x64 .f32) := by
    unfold kernelRun0_A.sl.v99
    rw [rest_eq, e]
    refine (load_f32 arg9.view _ f9 (off3_eq i) ho _).trans (rv3_congr fun _ _ s _ d _ => ?_)
    rw [if_neg (by omega), add_zero]
  refine ⟨?_, ?_, ?_⟩
  · unfold out0_A_5 kernelRun0_A
    dsimp only
    refine (View.read_writes_full _ _ _ _ _).trans ?_
    rw [e5, e6, e8', e9', e10]
    refine (pay4_eq ..).trans (rv3_congr fun _ _ r hr d _ => congrArg (· * (1 / 8)) ?_)
    exact dq_next hp Q K D V T hr d
  · unfold out0_A_6 kernelRun0_A
    dsimp only
    refine Eq.trans (congrArg (fun L => VO0_6.read (Elt Ideal) (VO0_6.writes (Elt Ideal) VO0_6.junk (_ :: L)))
      (congrArg₂ HAppend.hAppend (congrArg (fun x => x.2.1) (rest_eq ..)) (congrArg (fun x => x.2.1 ++ kernelRun0_A.sl.H6_1) e))) ?_
    rw [e0, e8', e9', e10, s8]
    refine (store_f32 VO0_6 _ (P8 ++ kernelRun0_A.sl.H6_1) g8 (off3_eq i) _ _ (pay2_eq ..)).trans (rv3_congr fun _ _ s _ d _ => ?_)
    dsimp only
    simp only [zero_add]
    by_cases hs : 512 * (i 1).val ≤ s ∧ s < 512 * (i 1).val + 512
    · have es : 512 * (i 1).val + (s - 512 * (i 1).val) = s := by omega
      rw [if_pos hs, dk_cut hp Q K D V T (by omega), es]
    · rw [if_neg hs]
      by_cases hl : s < 512 * (i 1).val
      · rw [if_pos hl]
      · rw [if_neg hl, dkR_right Q K D V T (by omega)]
  · unfold out0_A_7 kernelRun0_A
    dsimp only
    refine Eq.trans (congrArg (fun L => VO0_7.read (Elt Ideal) (VO0_7.writes (Elt Ideal) VO0_7.junk (_ :: L)))
      (congrArg₂ HAppend.hAppend (congrArg (fun x => x.2.2) (rest_eq ..)) (congrArg (fun x => x.2.2 ++ kernelRun0_A.sl.H7_1) e))) ?_
    rw [e1, e7, s9]
    refine (store_f32 VO0_7 _ (P9 ++ kernelRun0_A.sl.H7_1) g9 (off3_eq i) _ _ (pay3_eq ..)).trans (rv3_congr fun _ _ s _ d _ => ?_)
    dsimp only
    simp only [zero_add]
    by_cases hs : 512 * (i 1).val ≤ s ∧ s < 512 * (i 1).val + 512
    · have es : 512 * (i 1).val + (s - 512 * (i 1).val) = s := by omega
      rw [if_pos hs, dv_cut hp Q K D T (by omega), es]
    · rw [if_neg hs]
      by_cases hl : s < 512 * (i 1).val
      · rw [if_pos hl]
      · rw [if_neg hl, dvR_right Q K D T (by omega)]

variable (xo6 xo7 : Vec Ideal S1x2048x64 .f32) (A B : ℕ → ℕ → ℝ)
  (h6 : xo6 = (rv3 .f32 fun _ => A : FVec Ideal S1x2048x64 .f32)) (h7 : xo7 = (rv3 .f32 fun _ => B : FVec Ideal S1x2048x64 .f32))

include h6 h7

/-- A point after the first of its head. -/
theorem pointB (hc0 : ¬ cond0_0 i) :
    out0_B_5 (F := Ideal) c i arg2 harg2 arg3 harg3 arg4 harg4 arg5 harg5 arg6 harg6 arg7 harg7 arg8 harg8 arg9 harg9 hc0 x0 x1 x2 x3 x4 xo6 xo7
      = (rv3 .f32 fun _ r d => dqR (i 1).val Q K D V T ((i 1).val + 1) r d * (1 / 8) : FVec Ideal S1x512x64 .f32)
    ∧ out0_B_6 (F := Ideal) c i arg2 harg2 arg3 harg3 arg4 harg4 arg5 harg5 arg6 harg6 arg7 harg7 arg8 harg8 arg9 harg9 hc0 x0 x1 x2 x3 x4 xo6 xo7
      = (rv3 .f32 fun _ s d => A s d + dkR (i 1).val Q K D V T s d : FVec Ideal S1x2048x64 .f32)
    ∧ out0_B_7 (F := Ideal) c i arg2 harg2 arg3 harg3 arg4 harg4 arg5 harg5 arg6 harg6 arg7 harg7 arg8 harg8 arg9 harg9 hc0 x0 x1 x2 x3 x4 xo6 xo7
      = (rv3 .f32 fun _ s d => B s d + dvR (i 1).val Q K D T s d : FVec Ideal S1x2048x64 .f32) := by
  have hn := row_lt i
  have ho : 512 * (i 1).val + 512 ≤ 2048 := by omega
  have hp := belowP_cut (i 1).val
  obtain ⟨P8, P9, e, e8, e9⟩ := loop_inv Variants.none c none i arg2 harg2 arg3 harg3 arg4 harg4 arg5 harg5 arg6 harg6 arg7 harg7 arg8 harg8 arg9 harg9
    (arg2.view.readAt (Elt Ideal) (Rect.unit ![0, 0, 0] S1x512x64.size inb_S1x512x64_S1x512x64_0_0_0).toLoadRect (harg2.unread x0))
    (arg6.view.readAt (Elt Ideal) (Rect.unit ![0, 0, 0] S1x512x64.size inb_S1x512x64_S1x512x64_0_0_0).toLoadRect (harg6.unread x4))
    (arg5.view.readAt (Elt Ideal) (Rect.unit ![0, 0, 0] S1x512x1.size inb_S1x512x1_S1x512x1_0_0_0).toLoadRect (harg5.unread x3))
    (harg3.unread x1) (harg4.unread x2) Q K D V A B T
    ((View.readAt_full _ _ _).trans ((harg2.read_unread x0).trans h0)) ((View.readAt_full _ _ _).trans ((harg6.read_unread x4).trans h4))
    ((View.readAt_full _ _ _).trans ((harg5.read_unread x3).trans h3)) ((harg3.read_unread x1).trans h1) ((harg4.read_unread x2).trans h2)
    (harg8.unread xo6) (harg9.unread xo7) ((harg8.read_unread xo6).trans h6) ((harg9.read_unread xo7).trans h7) rfl (i 1).val le_rfl
  replace e := (congrArg (st_k0_t1 (F := Ideal) Variants.none c none i arg2 harg2 arg3 harg3 arg4 harg4 arg5 harg5 arg6 harg6 arg7 harg7 arg8 harg8 arg9 harg9
    _ _ _ _ _ _ _ _) (trips_eq' i)).trans e
  have l3 : ∀ inb, arg3.view.readAt (Elt Ideal) (Rect.unit (s := S1x2048x64) (k0_off3 i) S1x512x64.size inb).toLoadRect (harg3.unread x1)
      = (rv3 .bf16 fun _ => kblk K (i 1).val : FVec Ideal S1x512x64 .bf16) := fun inb =>
    load_bf16 arg3.view _ ((harg3.read_unread x1).trans h1) (off3_eq i) ho inb
  have l4 : ∀ inb, arg4.view.readAt (Elt Ideal) (Rect.unit (s := S1x2048x64) (k0_off3 i) S1x512x64.size inb).toLoadRect (harg4.unread x2)
      = (rv3 .bf16 fun _ => kblk V (i 1).val : FVec Ideal S1x512x64 .bf16) := fun inb =>
    load_bf16 arg4.view _ ((harg4.read_unread x2).trans h2) (off3_eq i) ho inb
  have e0 : kernelRun0_B.sl.r c arg2 harg2 x0 = rv2 .bf16 Q :=
    (congrArg k0_pay23 ((View.readAt_full _ _ _).trans ((harg2.read_unread x0).trans h0))).trans (pay23_eq _)
  have e1 : kernelRun0_B.sl.r_1 c arg6 harg6 x4 = rv2 .bf16 D :=
    (congrArg k0_pay24 ((View.readAt_full _ _ _).trans ((harg6.read_unread x4).trans h4))).trans (pay24_eq _)
  have e2 : kernelRun0_B.sl.r_2 c arg5 harg5 x3 = col T :=
    (congrArg k0_pay25 ((View.readAt_full _ _ _).trans ((harg5.read_unread x3).trans h3))).trans (pay25_eq _)
  have e3 : kernelRun0_B.sl.r_3 c i arg2 harg2 arg3 harg3 arg4 harg4 arg5 harg5 arg6 harg6 arg7 harg7 arg8 harg8 arg9 harg9 x0 x1 x2 x3 x4 xo6 xo7
      = col (runR (i 1).val Q K (i 1).val) := by
    unfold kernelRun0_B.sl.r_3
    rw [rest_eq, e]
  have e4 : kernelRun0_B.sl.r_4 c i arg2 harg2 arg3 harg3 arg4 harg4 arg5 harg5 arg6 harg6 arg7 harg7 arg8 harg8 arg9 harg9 x0 x1 x2 x3 x4 xo6 xo7
      = col (grunR (i 1).val Q K D V T (i 1).val) := by
    unfold kernelRun0_B.sl.r_4
    rw [rest_eq, e]
  have e5 : kernelRun0_B.sl.r_5 c i arg2 harg2 arg3 harg3 arg4 harg4 arg5 harg5 arg6 harg6 arg7 harg7 arg8 harg8 arg9 harg9 x0 x1 x2 x3 x4 xo6 xo7
      = rv2 .f32 (dqR (i 1).val Q K D V T (i 1).val) := by
    unfold kernelRun0_B.sl.r_5
    rw [rest_eq, e]
  have e6 : kernelRun0_B.sl.r_6 i arg3 harg3 x1 = rv2 .bf16 (kblk K (i 1).val) := (congrArg k0_pay45 (l3 _)).trans (pay45_eq _)
  have e10 : kernelRun0_B.sl.r_10 c i arg2 harg2 arg3 harg3 x0 x1 = rv2 .f32 fun r s => sg (zB Q (kblk K (i 1).val) r s) := by
    unfold kernelRun0_B.sl.r_10
    rw [e0, e6, pay51_eq]
  have e7 : kernelRun0_B.sl.r_7 c i arg2 harg2 arg3 harg3 arg4 harg4 arg5 harg5 arg6 harg6 arg7 harg7 arg8 harg8 arg9 harg9 x0 x1 x2 x3 x4 xo6 xo7
      = rv2 .f32 (wB belowP (zB Q (kblk K (i 1).val)) T (runR (i 1).val Q K (i 1).val)) := by
    unfold kernelRun0_B.sl.r_7
    rw [e0, e2, e3, e6, pay48_eq]
  have e8' : kernelRun0_B.sl.r_8 c i arg2 harg2 arg3 harg3 arg4 harg4 arg5 harg5 arg6 harg6 arg7 harg7 arg8 harg8 arg9 harg9 x0 x1 x2 x3 x4 xo6 xo7
      = rv2 .f32 (gB (wB belowP (zB Q (kblk K (i 1).val)) T (runR (i 1).val Q K (i 1).val)) (zB D (kblk V (i 1).val))) := by
    unfold kernelRun0_B.sl.r_8
    rw [e0, e1, e2, e3, e6, l4, pay49_eq]
  have e9' : kernelRun0_B.sl.r_9 c i arg2 harg2 arg3 harg3 arg4 harg4 arg5 harg5 arg6 harg6 arg7 harg7 arg8 harg8 arg9 harg9 x0 x1 x2 x3 x4 xo6 xo7
      = rv2 .f32 (bB (grunR (i 1).val Q K D V T (i 1).val)
        (gB (wB belowP (zB Q (kblk K (i 1).val)) T (runR (i 1).val Q K (i 1).val)) (zB D (kblk V (i 1).val)))) := by
    unfold kernelRun0_B.sl.r_9
    rw [e0, e1, e2, e3, e4, e6, l4, pay50_eq (h := pay49_eq ..)]
  have s8 : kernelRun0_B.sl.v90 c i arg2 harg2 arg3 harg3 arg4 harg4 arg5 harg5 arg6 harg6 arg7 harg7 arg8 harg8 arg9 harg9 x0 x1 x2 x3 x4 xo6 xo7
      = (rv3 .f32 fun _ s d => A (512 * (i 1).val + s) d : FVec Ideal S1x512x64 .f32) := by
    unfold kernelRun0_B.sl.v90
    rw [rest_eq, e]
    refine (load_f32 arg8.view _ e8 (off3_eq i) ho _).trans (rv3_congr fun _ _ s _ d _ => ?_)
    rw [if_neg (by omega), add_zero]
  have s9 : kernelRun0_B.sl.v99 c i arg2 harg2 arg3 harg3 arg4 harg4 arg5 harg5 arg6 harg6 arg7 harg7 arg8 harg8 arg9 harg9 x0 x1 x2 x3 x4 xo6 xo7
      = (rv3 .f32 fun _ s d => B (512 * (i 1).val + s) d : FVec Ideal S1x512x64 .f32) := by
    unfold kernelRun0_B.sl.v99
    rw [rest_eq, e]
    refine (load_f32 arg9.view _ e9 (off3_eq i) ho _).trans (rv3_congr fun _ _ s _ d _ => ?_)
    rw [if_neg (by omega), add_zero]
  refine ⟨?_, ?_, ?_⟩
  · unfold out0_B_5 kernelRun0_B
    dsimp only
    refine (View.read_writes_full _ _ _ _ _).trans ?_
    rw [e5, e6, e8', e9', e10]
    refine (pay4_eq ..).trans (rv3_congr fun _ _ r hr d _ => congrArg (· * (1 / 8)) ?_)
    exact dq_next hp Q K D V T hr d
  · unfold out0_B_6 kernelRun0_B
    dsimp only
    refine Eq.trans (congrArg (fun L => arg8.view.read (Elt Ideal) (arg8.view.writes (Elt Ideal) (harg8.unread xo6) (_ :: L)))
      (congrArg₂ HAppend.hAppend (congrArg (fun x => x.2.1) (rest_eq ..)) (congrArg (fun x => x.2.1) e))) ?_
    rw [e0, e8', e9', e10, s8]
    refine (store_f32 arg8.view _ P8 e8 (off3_eq i) _ _ (pay2_eq ..)).trans (rv3_congr fun _ _ s _ d _ => ?_)
    dsimp only
    by_cases hs : 512 * (i 1).val ≤ s ∧ s < 512 * (i 1).val + 512
    · have es : 512 * (i 1).val + (s - 512 * (i 1).val) = s := by omega
      rw [if_pos hs, dk_cut hp Q K D V T (by omega), es]
    · rw [if_neg hs]
      by_cases hl : s < 512 * (i 1).val
      · rw [if_pos hl]
      · rw [if_neg hl, dkR_right Q K D V T (by omega)]
  · unfold out0_B_7 kernelRun0_B
    dsimp only
    refine Eq.trans (congrArg (fun L => arg9.view.read (Elt Ideal) (arg9.view.writes (Elt Ideal) (harg9.unread xo7) (_ :: L)))
      (congrArg₂ HAppend.hAppend (congrArg (fun x => x.2.2) (rest_eq ..)) (congrArg (fun x => x.2.2) e))) ?_
    rw [e1, e7, s9]
    refine (store_f32 arg9.view _ P9 e9 (off3_eq i) _ _ (pay3_eq ..)).trans (rv3_congr fun _ _ s _ d _ => ?_)
    dsimp only
    by_cases hs : 512 * (i 1).val ≤ s ∧ s < 512 * (i 1).val + 512
    · have es : 512 * (i 1).val + (s - 512 * (i 1).val) = s := by omega
      rw [if_pos hs, dv_cut hp Q K D T (by omega), es]
    · rw [if_neg hs]
      by_cases hl : s < 512 * (i 1).val
      · rw [if_pos hl]
      · rw [if_neg hl, dvR_right Q K D T (by omega)]

end Point

end Cert.Stick
-- ==== Proof.Entries.lean ====
/-
  Arrays of the ideal reading, written by their entries: `ev2 φ f` is the matrix holding the extended real `f r c` at row
  `r`, column `c`, and `ev3 φ f` the same with three coordinates. Every array is one. The operations of the channel
  mixer's calls, and the three orders of a product of two matrices, applied to such arrays.
-/
module

public import Idealize.ShloMosaic.Lib.ValueIdx
public import Idealize.ShloMosaic.Lib.Pipeline.Value
public import Idealize.ShloMosaic.PureOps.Ideal.Laws
public import Idealize.ShloMosaic.Lib.IdealHost
public import Idealize.ShloMosaic.Lib.MatmulPlain
public import Idealize.ShloMosaic.Lib.ValueLayout
public import Idealize.ShloMosaic.Lib.ValueLayoutCasts

@[expose] public section

set_option maxRecDepth 16384

noncomputable section

namespace Cert.Mixer

open Idealize.ShloMosaic Idealize.ShloMosaic.ValueIdx

/-- The matrix of the extended reals `f r c`. -/
def ev2 {m n : ℕ} (φ : FTy) (f : ℕ → ℕ → EReal) : FVec Ideal ⟨2, ![m, n]⟩ φ :=
  fun i => f (i 0).val (i 1).val

/-- The three-dimensional array of the extended reals `f a r c`. -/
def ev3 {l m n : ℕ} (φ : FTy) (f : ℕ → ℕ → ℕ → EReal) : FVec Ideal ⟨3, ![l, m, n]⟩ φ :=
  fun i => f (i 0).val (i 1).val (i 2).val

theorem ev2_congr {m n : ℕ} {φ : FTy} {f g : ℕ → ℕ → EReal} (h : ∀ r < m, ∀ c < n, f r c = g r c) :
    (ev2 φ f : FVec Ideal ⟨2, ![m, n]⟩ φ) = ev2 φ g :=
  funext fun i => h _ (i 0).isLt _ (i 1).isLt

theorem ev3_congr {l m n : ℕ} {φ : FTy} {f g : ℕ → ℕ → ℕ → EReal} (h : ∀ a < l, ∀ r < m, ∀ c < n, f a r c = g a r c) :
    (ev3 φ f : FVec Ideal ⟨3, ![l, m, n]⟩ φ) = ev3 φ g :=
  funext fun i => h _ (i 0).isLt _ (i 1).isLt _ (i 2).isLt

/-- The entries of a matrix. -/
def en2 {m n : ℕ} {φ : FTy} (x : FVec Ideal ⟨2, ![m, n]⟩ φ) (r c : ℕ) : EReal :=
  if h : r < m ∧ c < n then x (ix2 ⟨r, h.1⟩ ⟨c, h.2⟩) else 0

/-- The entries of a three-dimensional array. -/
def en3 {l m n : ℕ} {φ : FTy} (x : FVec Ideal ⟨3, ![l, m, n]⟩ φ) (a r c : ℕ) : EReal :=
  if h : a < l ∧ r < m ∧ c < n then x (ix3 ⟨a, h.1⟩ ⟨r, h.2.1⟩ ⟨c, h.2.2⟩) else 0

theorem eq_ev2 {m n : ℕ} {φ : FTy} (x : FVec Ideal ⟨2, ![m, n]⟩ φ) : x = ev2 φ (en2 x) :=
  funext fun i => by
    show x i = dite _ _ _
    rw [dif_pos (⟨(i 0).isLt, (i 1).isLt⟩ : (i 0).val < m ∧ (i 1).val < n)]
    exact congrArg x (eq_ix2 i)

theorem eq_ev3 {l m n : ℕ} {φ : FTy} (x : FVec Ideal ⟨3, ![l, m, n]⟩ φ) : x = ev3 φ (en3 x) :=
  funext fun i => by
    show x i = dite _ _ _
    rw [dif_pos (⟨(i 0).isLt, (i 1).isLt, (i 2).isLt⟩ : (i 0).val < l ∧ (i 1).val < m ∧ (i 2).val < n)]
    exact congrArg x (eq_ix3 i)

section Pointwise

variable {m n : ℕ} {φ : FTy}

theorem addf_ev2 (f g : ℕ → ℕ → EReal) :
    addf (ev2 φ f : FVec Ideal ⟨2, ![m, n]⟩ φ) (ev2 φ g) = ev2 φ fun r c => f r c + g r c := rfl

theorem mulf_ev2 (f g : ℕ → ℕ → EReal) :
    mulf (ev2 φ f : FVec Ideal ⟨2, ![m, n]⟩ φ) (ev2 φ g) = ev2 φ fun r c => f r c * g r c := rfl

theorem maximumf_ev2 (f g : ℕ → ℕ → EReal) :
    maximumf (ev2 φ f : FVec Ideal ⟨2, ![m, n]⟩ φ) (ev2 φ g) = ev2 φ fun r c => max (f r c) (g r c) := rfl

theorem truncf_ev2 {ψ : FTy} (f : ℕ → ℕ → EReal) (h) :
    truncf ψ (ev2 φ f : FVec Ideal ⟨2, ![m, n]⟩ φ) h = ev2 ψ f := rfl

theorem truncf_ev3 {l : ℕ} {ψ : FTy} (f : ℕ → ℕ → ℕ → EReal) (h) :
    truncf ψ (ev3 φ f : FVec Ideal ⟨3, ![l, m, n]⟩ φ) h = ev3 ψ f := rfl

theorem extf_ev2 {ψ : FTy} (f : ℕ → ℕ → EReal) (h) :
    extf ψ (ev2 φ f : FVec Ideal ⟨2, ![m, n]⟩ φ) h = ev2 ψ f := rfl

theorem broadcast_ev2 (x : Ideal φ) : (broadcast ⟨2, ![m, n]⟩ x : FVec Ideal ⟨2, ![m, n]⟩ φ) = ev2 φ fun _ _ => x := rfl

/-- The word of zero. -/
theorem zero_word : (Scalar.ofBits .f32 0x00000000#32 : Ideal .f32) = (0 : EReal) := by
  simp [Scalar.ofBits, Ideal.ofBits_def]

/-- The word of two. -/
theorem two_word : (Scalar.ofBits .f32 0x40000000#32 : Ideal .f32) = (2 : EReal) := by
  change Ideal.ofBits .f32 0x40000000#32 = _
  simp [Ideal.ofBits, Ideal.ieee, -EReal.coe_mul]
  norm_num
  rfl

theorem constant_zero : (constant ⟨2, ![m, n]⟩ .f32 0x00000000#32 : FVec Ideal ⟨2, ![m, n]⟩ .f32)
    = ev2 .f32 fun _ _ => 0 := funext fun _ => zero_word

theorem shapeCast_ev3 (f : ℕ → ℕ → ℕ → EReal) (h) :
    shapeCast ⟨2, ![m, n]⟩ (ev3 φ f : FVec Ideal ⟨3, ![1, m, n]⟩ φ) h = ev2 φ (f 0) :=
  funext fun i => (congrArg _ (eq_ix2 i)).trans (shapeCast_1ab_ab_apply (ev3 φ f) h (i 0) (i 1))

theorem shapeCast_ev2 (f : ℕ → ℕ → EReal) (h) :
    shapeCast ⟨3, ![1, m, n]⟩ (ev2 φ f : FVec Ideal ⟨2, ![m, n]⟩ φ) h = ev3 φ fun _ => f :=
  funext fun i => (congrArg _ (eq_ix3 i)).trans (shapeCast_ab_1ab_apply (ev2 φ f) h (i 0) (i 1) (i 2))

end Pointwise

section Products

variable {φ₁ φ₂ : FTy} (M K N : ℕ)

/-- `a · b`. -/
theorem matmul_nn (prec) (a b : ℕ → ℕ → EReal) :
    matmul (DotDims.plain M K N) prec (ev2 φ₁ a : FVec Ideal ⟨2, ![M, K]⟩ φ₁) (ev2 φ₂ b : FVec Ideal ⟨2, ![K, N]⟩ φ₂)
        (ev2 .f32 fun _ _ => 0)
      = ev2 .f32 fun r c => ∑ k ∈ Finset.range K, a r k * b k c :=
  funext fun i => by
    rw [eq_ix2 i]
    refine (Ideal.matmul_plain_apply (M := M) (K := K) (N := N) prec _ _ _ (i 0) (i 1)).trans ?_
    refine (zero_add _).trans ?_
    change _ = ∑ k ∈ Finset.range K, a (i 0).val k * b k (i 1).val
    rw [Finset.sum_range]
    rfl

/-- `a · bᵀ`. -/
theorem matmul_nt (prec) (a b : ℕ → ℕ → EReal) :
    matmul (DotDims.transposedRhs M K N) prec (ev2 φ₁ a : FVec Ideal ⟨2, ![M, K]⟩ φ₁) (ev2 φ₂ b : FVec Ideal ⟨2, ![N, K]⟩ φ₂)
        (ev2 .f32 fun _ _ => 0)
      = ev2 .f32 fun r c => ∑ k ∈ Finset.range K, a r k * b c k :=
  funext fun i => by
    rw [eq_ix2 i]
    refine (Ideal.matmul_transposedRhs_apply (M := M) (K := K) (N := N) prec _ _ _ (i 0) (i 1)).trans ?_
    refine (zero_add _).trans ?_
    change _ = ∑ k ∈ Finset.range K, a (i 0).val k * b (i 1).val k
    rw [Finset.sum_range]
    rfl

/-- The contraction over the rows of both matrices. -/
def rowsDims : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := by
    refine ⟨rfl, by simp, rfl, by simp, by simp, by simp, (by decide : ([] ++ [1] ++ [0] : List (Fin 2)).Perm (List.finRange 2)),
      (by decide : ([] ++ [1] ++ [0] : List (Fin 2)).Perm (List.finRange 2)), rfl, Nat.two_pos, fun a => ?_⟩
    match a with
    | ⟨0, _⟩ => rfl
    | ⟨1, _⟩ => rfl

/-- `aᵀ · b`. -/
theorem matmul_tn (prec) (a b : ℕ → ℕ → EReal) :
    matmul (rowsDims M K N) prec (ev2 φ₁ a : FVec Ideal ⟨2, ![K, M]⟩ φ₁) (ev2 φ₂ b : FVec Ideal ⟨2, ![K, N]⟩ φ₂)
        (ev2 .f32 fun _ _ => 0)
      = ev2 .f32 fun r c => ∑ k ∈ Finset.range K, a k r * b k c :=
  funext fun i => by
    refine (Ideal.matmul_apply _ prec _ _ _ i).trans ?_
    refine (zero_add _).trans ?_
    change _ = ∑ k ∈ Finset.range K, a k (i 0).val * b k (i 1).val
    rw [Finset.sum_range, ← Equiv.sum_comp (contrEquiv1 (rowsDims M K N) K rfl rfl).symm]
    refine Finset.sum_congr rfl fun k _ => ?_
    have hk := contrEquiv1_symm_val (rowsDims M K N) K rfl rfl k
    have l0 := (rowsDims M K N).lhsIdx_val_of_single rfl i ((contrEquiv1 (rowsDims M K N) K rfl rfl).symm k)
    have r0 := (rowsDims M K N).rhsIdx_val_of_single rfl i ((contrEquiv1 (rowsDims M K N) K rfl rfl).symm k)
    exact congrArg₂ (· * ·) (congrArg (fun z => a z (i 0).val) (l0.trans hk)) (congrArg (fun z => b z (i 1).val) (r0.trans hk))

end Products

end Cert.Mixer

end
-- ==== Proof.Tiles.lean ====
/-
  Tiles of matrices given by their entries: a block read out of a matrix is given by the matrix's entries, shifted by
  where the block starts.
-/
module

public import proofs.«01_k».proof.Proof.Entries

@[expose] public section

noncomputable section

namespace Cert.Mixer

open Idealize.ShloMosaic

/-- An array in 16 bits. -/
def narrow {s : Shape} (x : FVec Ideal s .f32) : FVec Ideal s .bf16 := truncf .bf16 x (by decide)

theorem narrow_ev2 {m n : ℕ} {x : FVec Ideal ⟨2, ![m, n]⟩ .f32} {A : ℕ → ℕ → EReal} (h : x = ev2 .f32 A) :
    narrow x = ev2 .bf16 A := congrArg narrow h

theorem narrow_ev3 {l m n : ℕ} {x : FVec Ideal ⟨3, ![l, m, n]⟩ .f32} {A : ℕ → ℕ → ℕ → EReal} (h : x = ev3 .f32 A) :
    narrow x = ev3 .bf16 A := congrArg narrow h

theorem tile2 {M N m n : ℕ} {φ : FTy} (x : FVec Ideal ⟨2, ![M, N]⟩ φ) {A : ℕ → ℕ → EReal} (hx : x = ev2 φ A)
    (z : FVec Ideal ⟨2, ![m, n]⟩ φ) (e : (⟨2, ![m, n]⟩ : Shape).Idx → (⟨2, ![M, N]⟩ : Shape).Idx) (hz : ∀ y, z y = x (e y))
    (a b : ℕ) (h0 : ∀ y, (e y 0).val = a + (y 0).val) (h1 : ∀ y, (e y 1).val = b + (y 1).val) :
    z = ev2 φ fun r c => A (a + r) (b + c) :=
  funext fun y => by
    rw [hz, hx]
    show A (e y 0).val (e y 1).val = _
    rw [h0, h1]
    rfl

/-- A block of one of the matrices of a three-dimensional array. -/
theorem tile3 {L M N m n : ℕ} {φ : FTy} (x : FVec Ideal ⟨3, ![L, M, N]⟩ φ) {A : ℕ → ℕ → ℕ → EReal} (hx : x = ev3 φ A)
    (z : FVec Ideal ⟨3, ![1, m, n]⟩ φ) (e : (⟨3, ![1, m, n]⟩ : Shape).Idx → (⟨3, ![L, M, N]⟩ : Shape).Idx)
    (hz : ∀ y, z y = x (e y)) (p a b : ℕ) (h0 : ∀ y, (e y 0).val = p + (y 0).val) (h1 : ∀ y, (e y 1).val = a + (y 1).val)
    (h2 : ∀ y, (e y 2).val = b + (y 2).val) : z = ev3 φ fun _ r c => A p (a + r) (b + c) :=
  funext fun y => by
    have y0 : (y 0).val < 1 := (y 0).isLt
    rw [hz, hx]
    show A (e y 0).val (e y 1).val (e y 2).val = _
    rw [h0, h1, h2, show p + (y 0).val = p by omega]
    rfl

/-- A block of a matrix, from where it starts. -/
theorem tileAt2 {M N m n : ℕ} {φ : FTy} (x : FVec Ideal ⟨2, ![M, N]⟩ φ) {A : ℕ → ℕ → EReal} (hx : x = ev2 φ A)
    (z : FVec Ideal ⟨2, ![m, n]⟩ φ) (e : (⟨2, ![m, n]⟩ : Shape).Idx → (⟨2, ![M, N]⟩ : Shape).Idx) (hz : ∀ y, z y = x (e y))
    {o : Fin 2 → ℕ} {a b : ℕ} (he : ∀ y k, (e y k).val = o k + (y k).val) (h : o 0 = a ∧ o 1 = b) :
    z = ev2 φ fun r c => A (a + r) (b + c) :=
  tile2 x hx z e hz a b (fun y => h.1 ▸ he y 0) (fun y => h.2 ▸ he y 1)

theorem tileAt3 {L M N m n : ℕ} {φ : FTy} (x : FVec Ideal ⟨3, ![L, M, N]⟩ φ) {A : ℕ → ℕ → ℕ → EReal} (hx : x = ev3 φ A)
    (z : FVec Ideal ⟨3, ![1, m, n]⟩ φ) (e : (⟨3, ![1, m, n]⟩ : Shape).Idx → (⟨3, ![L, M, N]⟩ : Shape).Idx)
    (hz : ∀ y, z y = x (e y)) {o : Fin 3 → ℕ} {p a b : ℕ} (he : ∀ y k, (e y k).val = o k + (y k).val)
    (h : o 0 = p ∧ o 1 = a ∧ o 2 = b) : z = ev3 φ fun _ r c => A p (a + r) (b + c) :=
  tile3 x hx z e hz p a b (fun y => h.1 ▸ he y 0) (fun y => h.2.1 ▸ he y 1) (fun y => h.2.2 ▸ he y 2)

/-- What a block of the matrix with given entries holds, from where it starts. -/
theorem block2 {M N m n : ℕ} {φ : FTy} (A : ℕ → ℕ → EReal) (e : (⟨2, ![m, n]⟩ : Shape).Idx → (⟨2, ![M, N]⟩ : Shape).Idx)
    {o : Fin 2 → ℕ} {a b : ℕ} (he : ∀ y k, (e y k).val = o k + (y k).val) (h : o 0 = a ∧ o 1 = b) :
    (fun y => (ev2 φ A : FVec Ideal ⟨2, ![M, N]⟩ φ) (e y)) = (ev2 φ fun r c => A (a + r) (b + c) : FVec Ideal ⟨2, ![m, n]⟩ φ) :=
  tileAt2 _ rfl _ e (fun _ => rfl) he h

theorem block3 {L M N m n : ℕ} {φ : FTy} (A : ℕ → ℕ → ℕ → EReal)
    (e : (⟨3, ![1, m, n]⟩ : Shape).Idx → (⟨3, ![L, M, N]⟩ : Shape).Idx) {o : Fin 3 → ℕ} {p a b : ℕ}
    (he : ∀ y k, (e y k).val = o k + (y k).val) (h : o 0 = p ∧ o 1 = a ∧ o 2 = b) :
    (fun y => (ev3 φ A : FVec Ideal ⟨3, ![L, M, N]⟩ φ) (e y)) = (ev3 φ fun _ r c => A p (a + r) (b + c) : FVec Ideal ⟨3, ![1, m, n]⟩ φ) :=
  tileAt3 _ rfl _ e (fun _ => rfl) he h

/-- An index is in a block when both its coordinates are. -/
theorem mem_block2 {M N a b p q : ℕ} {off size : Fin 2 → ℕ} {inb} {i : (⟨2, ![M, N]⟩ : Shape).Idx}
    (h : (off 0 = a ∧ off 1 = b) ∧ size 0 = p ∧ size 1 = q) (h0 : a ≤ (i 0).val ∧ (i 0).val < a + p)
    (h1 : b ≤ (i 1).val ∧ (i 1).val < b + q) : i ∈ (Rect.unit (s := ⟨2, ![M, N]⟩) off size inb).set := by
  obtain ⟨⟨rfl, rfl⟩, rfl, rfl⟩ := h
  exact Rect.mem_set_unit.mpr fun x => match x with
    | ⟨0, _⟩ => h0
    | ⟨1, _⟩ => h1

/-- An index is in a block when its three coordinates are. -/
theorem mem_block3 {L M N a b c p q r : ℕ} {off size : Fin 3 → ℕ} {inb} {i : (⟨3, ![L, M, N]⟩ : Shape).Idx}
    (h : (off 0 = a ∧ off 1 = b ∧ off 2 = c) ∧ size 0 = p ∧ size 1 = q ∧ size 2 = r) (h0 : a ≤ (i 0).val ∧ (i 0).val < a + p)
    (h1 : b ≤ (i 1).val ∧ (i 1).val < b + q) (h2 : c ≤ (i 2).val ∧ (i 2).val < c + r) :
    i ∈ (Rect.unit (s := ⟨3, ![L, M, N]⟩) off size inb).set := by
  obtain ⟨⟨rfl, rfl, rfl⟩, rfl, rfl, rfl⟩ := h
  exact Rect.mem_set_unit.mpr fun x => match x with
    | ⟨0, _⟩ => h0
    | ⟨1, _⟩ => h1
    | ⟨2, _⟩ => h2

end Cert.Mixer

end
-- ==== Proof.Array.lean ====
/-
  The arrays the kernel's call leaves. The grid runs over the sixteen heads and, for each, over its four row blocks in
  order; the blocks the points write back tile the three result arrays, so each result is read off the points: the
  gradient of the queries from the point of their row block, the gradients of the keys and values from the last point of
  the head, which holds the sum over the four row blocks.
-/
module

public import proofs.«01_k».proof.Proof.Point
public import proofs.«01_k».proof.Proof.Tiles
public import proofs.«01_k».proof.Proof.Gen.KernelIdeal.Value

@[expose] public section

set_option maxRecDepth 16384

noncomputable section

namespace Cert.Stick

open Idealize.ShloMosaic Cert.KernelIdeal Cert.KernelIdeal.Gen
open scoped Classical

/-- The grid's coordinates at a point: the head, and the row block of the head. -/
theorem coords_eq : ∀ t : Fin cfg0.N, ((grid0.coords t) 0).val = t.val / 4 ∧ ((grid0.coords t) 1).val = t.val % 4 :=
  (by decide +kernel : ∀ t : Fin grid0.N, ((grid0.coords t) 0).val = t.val / 4 ∧ ((grid0.coords t) 1).val = t.val % 4)

/-- A block of one of the matrices of a three-dimensional array of real numbers, all its columns. -/
theorem tile3 {L M N m n : ℕ} {φ : FTy} (x : FVec Ideal ⟨3, ![L, M, N]⟩ φ) {A : ℕ → ℕ → ℕ → ℝ} (hx : x = rv3 φ A)
    (z : FVec Ideal ⟨3, ![1, m, n]⟩ φ) (e : (⟨3, ![1, m, n]⟩ : Shape).Idx → (⟨3, ![L, M, N]⟩ : Shape).Idx)
    (hz : ∀ y, z y = x (e y)) {o : Fin 3 → ℕ} {p a : ℕ} (he : ∀ y k, (e y k).val = o k + (y k).val)
    (h : o 0 = p ∧ o 1 = a ∧ o 2 = 0) : z = rv3 φ fun _ r c => A p (a + r) c :=
  (Mixer.tileAt3 x (A := fun h r c => ((A h r c : ℝ) : EReal)) hx z e hz he h).trans
    (Mixer.ev3_congr (g := fun _ r c => ((A p (a + r) c : ℝ) : EReal)) fun _ _ _ _ c _ => by rw [Nat.zero_add c])

/-- Where the block of queries of a point starts. -/
theorem at0 : ∀ t : Fin cfg0.N, win0_0.index t 0 * win0_0.size 0 = t.val / 4 ∧ win0_0.index t 1 * win0_0.size 1 = 512 * (t.val % 4)
    ∧ win0_0.index t 2 * win0_0.size 2 = 0 :=
  (by decide +kernel : ∀ t : Fin grid0.N, win0_0.index t 0 * win0_0.size 0 = t.val / 4 ∧ win0_0.index t 1 * win0_0.size 1 = 512 * (t.val % 4)
    ∧ win0_0.index t 2 * win0_0.size 2 = 0)

/-- Where the keys of a point start. -/
theorem at1 : ∀ t : Fin cfg0.N, win0_1.index t 0 * win0_1.size 0 = t.val / 4 ∧ win0_1.index t 1 * win0_1.size 1 = 0
    ∧ win0_1.index t 2 * win0_1.size 2 = 0 :=
  (by decide +kernel : ∀ t : Fin grid0.N, win0_1.index t 0 * win0_1.size 0 = t.val / 4 ∧ win0_1.index t 1 * win0_1.size 1 = 0
    ∧ win0_1.index t 2 * win0_1.size 2 = 0)

/-- Where the values of a point start. -/
theorem at2 : ∀ t : Fin cfg0.N, win0_2.index t 0 * win0_2.size 0 = t.val / 4 ∧ win0_2.index t 1 * win0_2.size 1 = 0
    ∧ win0_2.index t 2 * win0_2.size 2 = 0 :=
  (by decide +kernel : ∀ t : Fin grid0.N, win0_2.index t 0 * win0_2.size 0 = t.val / 4 ∧ win0_2.index t 1 * win0_2.size 1 = 0
    ∧ win0_2.index t 2 * win0_2.size 2 = 0)

/-- Where the block of totals of a point starts. -/
theorem at3 : ∀ t : Fin cfg0.N, win0_3.index t 0 * win0_3.size 0 = t.val / 4 ∧ win0_3.index t 1 * win0_3.size 1 = 512 * (t.val % 4)
    ∧ win0_3.index t 2 * win0_3.size 2 = 0 :=
  (by decide +kernel : ∀ t : Fin grid0.N, win0_3.index t 0 * win0_3.size 0 = t.val / 4 ∧ win0_3.index t 1 * win0_3.size 1 = 512 * (t.val % 4)
    ∧ win0_3.index t 2 * win0_3.size 2 = 0)

/-- Where the block of cotangents of a point starts. -/
theorem at4 : ∀ t : Fin cfg0.N, win0_4.index t 0 * win0_4.size 0 = t.val / 4 ∧ win0_4.index t 1 * win0_4.size 1 = 512 * (t.val % 4)
    ∧ win0_4.index t 2 * win0_4.size 2 = 0 :=
  (by decide +kernel : ∀ t : Fin grid0.N, win0_4.index t 0 * win0_4.size 0 = t.val / 4 ∧ win0_4.index t 1 * win0_4.size 1 = 512 * (t.val % 4)
    ∧ win0_4.index t 2 * win0_4.size 2 = 0)

/-- Where the block of the queries' gradient of a point starts, and its extents. -/
theorem at5 : ∀ t : Fin cfg0.N, (win0_5.index t 0 * win0_5.size 0 = t.val / 4 ∧ win0_5.index t 1 * win0_5.size 1 = 512 * (t.val % 4)
    ∧ win0_5.index t 2 * win0_5.size 2 = 0) ∧ win0_5.xsize (grid0.coords t) 0 = 1 ∧ win0_5.xsize (grid0.coords t) 1 = 512
    ∧ win0_5.xsize (grid0.coords t) 2 = 64 :=
  (by decide +kernel : ∀ t : Fin grid0.N, (win0_5.index t 0 * win0_5.size 0 = t.val / 4 ∧ win0_5.index t 1 * win0_5.size 1 = 512 * (t.val % 4)
    ∧ win0_5.index t 2 * win0_5.size 2 = 0) ∧ win0_5.xsize (grid0.coords t) 0 = 1 ∧ win0_5.xsize (grid0.coords t) 1 = 512
    ∧ win0_5.xsize (grid0.coords t) 2 = 64)

/-- Where the keys' gradient of a point starts, and its extents. -/
theorem at6 : ∀ t : Fin cfg0.N, (win0_6.index t 0 * win0_6.size 0 = t.val / 4 ∧ win0_6.index t 1 * win0_6.size 1 = 0
    ∧ win0_6.index t 2 * win0_6.size 2 = 0) ∧ win0_6.xsize (grid0.coords t) 0 = 1 ∧ win0_6.xsize (grid0.coords t) 1 = 2048
    ∧ win0_6.xsize (grid0.coords t) 2 = 64 :=
  (by decide +kernel : ∀ t : Fin grid0.N, (win0_6.index t 0 * win0_6.size 0 = t.val / 4 ∧ win0_6.index t 1 * win0_6.size 1 = 0
    ∧ win0_6.index t 2 * win0_6.size 2 = 0) ∧ win0_6.xsize (grid0.coords t) 0 = 1 ∧ win0_6.xsize (grid0.coords t) 1 = 2048
    ∧ win0_6.xsize (grid0.coords t) 2 = 64)

/-- Where the values' gradient of a point starts, and its extents. -/
theorem at7 : ∀ t : Fin cfg0.N, (win0_7.index t 0 * win0_7.size 0 = t.val / 4 ∧ win0_7.index t 1 * win0_7.size 1 = 0
    ∧ win0_7.index t 2 * win0_7.size 2 = 0) ∧ win0_7.xsize (grid0.coords t) 0 = 1 ∧ win0_7.xsize (grid0.coords t) 1 = 2048
    ∧ win0_7.xsize (grid0.coords t) 2 = 64 :=
  (by decide +kernel : ∀ t : Fin grid0.N, (win0_7.index t 0 * win0_7.size 0 = t.val / 4 ∧ win0_7.index t 1 * win0_7.size 1 = 0
    ∧ win0_7.index t 2 * win0_7.size 2 = 0) ∧ win0_7.xsize (grid0.coords t) 0 = 1 ∧ win0_7.xsize (grid0.coords t) 1 = 2048
    ∧ win0_7.xsize (grid0.coords t) 2 = 64)

section Arrays

variable (m : (ℓ : Loc nD τ sig) → Buf (Elt Ideal) ℓ) (c : Dev nD) (q k v g : ℕ → ℕ → ℕ → ℝ) (T : ℕ → ℕ → ℝ)
  (hq : (V m c main_v2 : FVec Ideal S16x2048x64 .bf16) = rv3 .bf16 q)
  (hk : (V m c main_v3 : FVec Ideal S16x2048x64 .bf16) = rv3 .bf16 k)
  (hv : (V m c main_v4 : FVec Ideal S16x2048x64 .bf16) = rv3 .bf16 v)
  (ht : (V m c main_v20 : FVec Ideal S16x2048x1 .f32) = rv3 .f32 fun h r _ => T h r)
  (hg : (V m c main_arg3 : FVec Ideal S16x2048x64 .f32) = rv3 .f32 g)

include hq in
/-- The block of queries a point reads. -/
theorem read0 (t : Fin cfg0.N) : (iblk m c 0 t : Vec Ideal S1x512x64 .bf16)
    = (rv3 .bf16 fun _ => kblk (q (t.val / 4)) (t.val % 4) : FVec Ideal S1x512x64 .bf16) :=
  tile3 _ hq _ (win0_0.rect t).emb (fun _ => rfl) (win0_0.rect_emb_val t) (at0 t)

include hg in
/-- The block of cotangents a point reads. -/
theorem read4 (t : Fin cfg0.N) : (iblk m c 4 t : Vec Ideal S1x512x64 .f32)
    = (rv3 .f32 fun _ => kblk (g (t.val / 4)) (t.val % 4) : FVec Ideal S1x512x64 .f32) :=
  tile3 _ hg _ (win0_4.rect t).emb (fun _ => rfl) (win0_4.rect_emb_val t) (at4 t)

include ht in
/-- The block of totals a point reads. -/
theorem read3 (t : Fin cfg0.N) : (iblk m c 3 t : Vec Ideal S1x512x1 .f32)
    = (rv3 .f32 fun _ r _ => T (t.val / 4) (512 * (t.val % 4) + r) : FVec Ideal S1x512x1 .f32) :=
  tile3 _ ht _ (win0_3.rect t).emb (fun _ => rfl) (win0_3.rect_emb_val t) (at3 t)

include hk in
/-- The keys a point reads: all of its head. -/
theorem read1 (t : Fin cfg0.N) : (iblk m c 1 t : Vec Ideal S1x2048x64 .bf16)
    = (rv3 .bf16 fun _ => k (t.val / 4) : FVec Ideal S1x2048x64 .bf16) :=
  (tile3 _ hk _ (win0_1.rect t).emb (fun _ => rfl) (win0_1.rect_emb_val t) (at1 t)).trans
    (rv3_congr fun _ _ r _ _ _ => by rw [Nat.zero_add r])

include hv in
/-- The values a point reads: all of its head. -/
theorem read2 (t : Fin cfg0.N) : (iblk m c 2 t : Vec Ideal S1x2048x64 .bf16)
    = (rv3 .bf16 fun _ => v (t.val / 4) : FVec Ideal S1x2048x64 .bf16) :=
  (tile3 _ hv _ (win0_2.rect t).emb (fun _ => rfl) (win0_2.rect_emb_val t) (at2 t)).trans
    (rv3_congr fun _ _ r _ _ _ => by rw [Nat.zero_add r])

/-- The queries' gradient of row block `n` of head `h`, at row `r` of the block. -/
def dqG (h n r d : ℕ) : ℝ :=
  dqR n (kblk (q h) n) (k h) (kblk (g h) n) (v h) (fun r => T h (512 * n + r)) (n + 1) r d * (1 / 8)

/-- What row block `n` of head `h` adds to the gradient of key `s`. -/
def dkG (h n s d : ℕ) : ℝ :=
  dkR n (kblk (q h) n) (k h) (kblk (g h) n) (v h) (fun r => T h (512 * n + r)) s d

/-- What row block `n` of head `h` adds to the gradient of value `s`. -/
def dvG (h n s d : ℕ) : ℝ :=
  dvR n (kblk (q h) n) (k h) (kblk (g h) n) (fun r => T h (512 * n + r)) s d

include hq hk hv ht hg

/-- What the three results' buffers hold after the point of head `h` and row block `n`. -/
theorem outs_eq (n : ℕ) : ∀ t : Fin cfg0.N, t.val % 4 = n →
    (outsAt0 m c t.val t.isLt).1 = (rv3 .f32 fun _ r d => dqG q k v g T (t.val / 4) n r d : FVec Ideal S1x512x64 .f32)
    ∧ (outsAt0 m c t.val t.isLt).2.1
      = (rv3 .f32 fun _ s d => ∑ j ∈ Finset.range (n + 1), dkG q k v g T (t.val / 4) j s d : FVec Ideal S1x2048x64 .f32)
    ∧ (outsAt0 m c t.val t.isLt).2.2
      = (rv3 .f32 fun _ s d => ∑ j ∈ Finset.range (n + 1), dvG q k g T (t.val / 4) j s d : FVec Ideal S1x2048x64 .f32) := by
  induction n with
  | zero =>
    intro t hn
    have P := pointA c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) _ _ _ _ _ _ _ _ _ _
      (read0 m c q hq t) (read4 m c g hg t) (read3 m c T ht t) (read1 m c k hk t) (read2 m c v hv t) ((hcond0_0 t).mpr hn)
    rw [(coords_eq t).2] at P
    rw [outsAt0_A m c t hn]
    dsimp only
    rw [P.1, P.2.1, P.2.2]
    refine ⟨rv3_congr fun _ _ r _ d _ => ?_, rv3_congr fun _ _ s _ d _ => ?_, rv3_congr fun _ _ s _ d _ => ?_⟩
    · rw [hn]; rfl
    · rw [hn, Finset.sum_range_one]; rfl
    · rw [hn, Finset.sum_range_one]; rfl
  | succ n ih =>
    intro t hn
    have h0 : ¬ t.val % 4 = 0 := by omega
    have hd : (t.val - 1) / 4 = t.val / 4 := by omega
    have I := ih ⟨t.val - 1, Nat.lt_of_le_of_lt (Nat.sub_le _ _) t.isLt⟩ (by show (t.val - 1) % 4 = n; omega)
    dsimp only at I
    rw [hd] at I
    have P := pointB c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) _ _ _ _ _ _ _ _ _ _
      (read0 m c q hq t) (read4 m c g hg t) (read3 m c T ht t) (read1 m c k hk t) (read2 m c v hv t) _ _ _ _ I.2.1 I.2.2
      (fun h => h0 ((hcond0_0 t).mp h))
    rw [(coords_eq t).2] at P
    rw [outsAt0_B m c t h0]
    dsimp only
    rw [P.1, P.2.1, P.2.2]
    refine ⟨rv3_congr fun _ _ r _ d _ => ?_, rv3_congr fun _ _ s _ d _ => ?_, rv3_congr fun _ _ s _ d _ => ?_⟩
    · rw [hn]; rfl
    · rw [hn, Finset.sum_range_succ _ (n + 1)]; rfl
    · rw [hn, Finset.sum_range_succ _ (n + 1)]; rfl

/-- The queries' gradient. -/
theorem final5 : ((dats m 0 c).arrAt 5 cfg0.N : FVec Ideal S16x2048x64 .f32)
    = rv3 .f32 fun h r d => dqG q k v g T h (r / 512) (r % 512) d := by
  refine (dats m 0 c).arrAt_eq_of_cover 5 _ (fun t _ => ?_) (fun i => ?_)
  · rw [Cert.KernelIdeal.Value.flushed5, (outs_eq m c q k v g T hq hk hv ht hg _ t rfl).1]
    funext y
    have y0 : (y 0).val < 1 := (y 0).isLt
    have y1 : (y 1).val < 512 := (y 1).isLt
    rw [View.read_apply]
    have e0 := win0_5.rect_emb_val t y 0
    have e1 := win0_5.rect_emb_val t y 1
    have e2 := win0_5.rect_emb_val t y 2
    rw [(at5 t).1.1] at e0
    rw [(at5 t).1.2.1] at e1
    rw [(at5 t).1.2.2] at e2
    have e0' : ((win0_5.rect t).emb y 0 : ℕ) = t.val / 4 := by rw [e0]; show t.val / 4 + (y 0).val = _; omega
    have e1' : ((win0_5.rect t).emb y 1 : ℕ) / 512 = t.val % 4 := by rw [e1]; show (512 * (t.val % 4) + (y 1).val) / 512 = _; omega
    have e1'' : ((win0_5.rect t).emb y 1 : ℕ) % 512 = (y 1).val := by rw [e1]; show (512 * (t.val % 4) + (y 1).val) % 512 = _; omega
    have e2' : ((win0_5.rect t).emb y 2 : ℕ) = (y 2).val := by rw [e2]; show 0 + (y 2).val = _; omega
    show ((dqG q k v g T (t.val / 4) (t.val % 4) (y 1).val (y 2).val : ℝ) : EReal)
      = ((dqG q k v g T ((win0_5.rect t).emb y 0 : ℕ) (((win0_5.rect t).emb y 1 : ℕ) / 512) (((win0_5.rect t).emb y 1 : ℕ) % 512)
          ((win0_5.rect t).emb y 2 : ℕ) : ℝ) : EReal)
    rw [e0', e1', e1'', e2']
  · have i0 : (i 0 : ℕ) < 16 := (i 0).isLt
    have i1 : (i 1 : ℕ) < 2048 := (i 1).isLt
    have i2 : (i 2 : ℕ) < 64 := (i 2).isLt
    have hN : cfg0.N = 64 := N_0
    refine ⟨⟨4 * (i 0 : ℕ) + (i 1 : ℕ) / 512, by omega⟩, flush0_5 _, ?_⟩
    generalize ht' : (⟨4 * (i 0 : ℕ) + (i 1 : ℕ) / 512, _⟩ : Fin cfg0.N) = t
    have hv' : t.val = 4 * (i 0 : ℕ) + (i 1 : ℕ) / 512 := by rw [← ht']
    show i ∈ ((View.whole main_v21_0).slice (win0_5.rect t)).set
    rw [View.set_slice_whole]
    exact Mixer.mem_block3 (at5 t) (by omega) (by omega) (by omega)

/-- The keys' gradient. -/
theorem final6 : ((dats m 0 c).arrAt 6 cfg0.N : FVec Ideal S16x2048x64 .f32)
    = rv3 .f32 fun h s d => ∑ j ∈ Finset.range 4, dkG q k v g T h j s d := by
  refine (dats m 0 c).arrAt_eq_of_cover 6 _ (fun t hf => ?_) (fun i => ?_)
  · rw [Cert.KernelIdeal.Value.flushed6, (outs_eq m c q k v g T hq hk hv ht hg 3 t ((flush0_6 t).mp hf)).2.1]
    funext y
    have y0 : (y 0).val < 1 := (y 0).isLt
    rw [View.read_apply]
    have e0 := win0_6.rect_emb_val t y 0
    have e1 := win0_6.rect_emb_val t y 1
    have e2 := win0_6.rect_emb_val t y 2
    rw [(at6 t).1.1] at e0
    rw [(at6 t).1.2.1] at e1
    rw [(at6 t).1.2.2] at e2
    have e0' : ((win0_6.rect t).emb y 0 : ℕ) = t.val / 4 := by rw [e0]; show t.val / 4 + (y 0).val = _; omega
    have e1' : ((win0_6.rect t).emb y 1 : ℕ) = (y 1).val := by rw [e1]; show 0 + (y 1).val = _; omega
    have e2' : ((win0_6.rect t).emb y 2 : ℕ) = (y 2).val := by rw [e2]; show 0 + (y 2).val = _; omega
    show ((∑ j ∈ Finset.range 4, dkG q k v g T (t.val / 4) j (y 1).val (y 2).val : ℝ) : EReal)
      = ((∑ j ∈ Finset.range 4, dkG q k v g T ((win0_6.rect t).emb y 0 : ℕ) j ((win0_6.rect t).emb y 1 : ℕ)
          ((win0_6.rect t).emb y 2 : ℕ) : ℝ) : EReal)
    rw [e0', e1', e2']
  · have i0 : (i 0 : ℕ) < 16 := (i 0).isLt
    have i1 : (i 1 : ℕ) < 2048 := (i 1).isLt
    have i2 : (i 2 : ℕ) < 64 := (i 2).isLt
    have hN : cfg0.N = 64 := N_0
    refine ⟨⟨4 * (i 0 : ℕ) + 3, by omega⟩, (flush0_6 _).mpr (by dsimp only; omega), ?_⟩
    generalize ht' : (⟨4 * (i 0 : ℕ) + 3, _⟩ : Fin cfg0.N) = t
    have hv' : t.val = 4 * (i 0 : ℕ) + 3 := by rw [← ht']
    show i ∈ ((View.whole main_v21_1).slice (win0_6.rect t)).set
    rw [View.set_slice_whole]
    exact Mixer.mem_block3 (at6 t) (by omega) (by omega) (by omega)

/-- The values' gradient. -/
theorem final7 : ((dats m 0 c).arrAt 7 cfg0.N : FVec Ideal S16x2048x64 .f32)
    = rv3 .f32 fun h s d => ∑ j ∈ Finset.range 4, dvG q k g T h j s d := by
  refine (dats m 0 c).arrAt_eq_of_cover 7 _ (fun t hf => ?_) (fun i => ?_)
  · rw [Cert.KernelIdeal.Value.flushed7, (outs_eq m c q k v g T hq hk hv ht hg 3 t ((flush0_7 t).mp hf)).2.2]
    funext y
    have y0 : (y 0).val < 1 := (y 0).isLt
    rw [View.read_apply]
    have e0 := win0_7.rect_emb_val t y 0
    have e1 := win0_7.rect_emb_val t y 1
    have e2 := win0_7.rect_emb_val t y 2
    rw [(at7 t).1.1] at e0
    rw [(at7 t).1.2.1] at e1
    rw [(at7 t).1.2.2] at e2
    have e0' : ((win0_7.rect t).emb y 0 : ℕ) = t.val / 4 := by rw [e0]; show t.val / 4 + (y 0).val = _; omega
    have e1' : ((win0_7.rect t).emb y 1 : ℕ) = (y 1).val := by rw [e1]; show 0 + (y 1).val = _; omega
    have e2' : ((win0_7.rect t).emb y 2 : ℕ) = (y 2).val := by rw [e2]; show 0 + (y 2).val = _; omega
    show ((∑ j ∈ Finset.range 4, dvG q k g T (t.val / 4) j (y 1).val (y 2).val : ℝ) : EReal)
      = ((∑ j ∈ Finset.range 4, dvG q k g T ((win0_7.rect t).emb y 0 : ℕ) j ((win0_7.rect t).emb y 1 : ℕ)
          ((win0_7.rect t).emb y 2 : ℕ) : ℝ) : EReal)
    rw [e0', e1', e2']
  · have i0 : (i 0 : ℕ) < 16 := (i 0).isLt
    have i1 : (i 1 : ℕ) < 2048 := (i 1).isLt
    have i2 : (i 2 : ℕ) < 64 := (i 2).isLt
    have hN : cfg0.N = 64 := N_0
    refine ⟨⟨4 * (i 0 : ℕ) + 3, by omega⟩, (flush0_7 _).mpr (by dsimp only; omega), ?_⟩
    generalize ht' : (⟨4 * (i 0 : ℕ) + 3, _⟩ : Fin cfg0.N) = t
    have hv' : t.val = 4 * (i 0 : ℕ) + 3 := by rw [← ht']
    show i ∈ ((View.whole main_v21_2).slice (win0_7.rect t)).set
    rw [View.set_slice_whole]
    exact Mixer.mem_block3 (at7 t) (by omega) (by omega) (by omega)

end Arrays

end Cert.Stick
-- ==== Proof.Reference.lean ====
/-
  The reference's three gradients, for arguments whose entries are real numbers, as explicit sums.
-/
module

public import proofs.«01_k».proof.Proof.Host
public import proofs.«01_k».proof.Proof.Gen.ReferenceIdeal.Read

@[expose] public section

set_option maxRecDepth 16384

noncomputable section

namespace Cert.Stick

open Idealize.ShloMosaic Cert.ReferenceIdeal Cert.ReferenceIdeal.Gen Cert.ReferenceIdeal.Read
open scoped Classical

section Model

variable (q k v g : ℕ → ℕ → ℕ → ℝ) (h t s : ℕ)

/-- The logit of query `t` at key `s`. -/
def zA : ℝ := (∑ d ∈ Finset.range 64, q h t d * k h s d) * (1 / 8)

/-- The logarithm of what key `s` leaves over, for the keys before the query. -/
def lkA : ℝ := if s < t then -spl (zA q k h t s) else 0

/-- The weight of key `s`, before the mask. -/
def uA : ℝ := Real.exp (-spl (-zA q k h t s) + ((∑ j ∈ Finset.range 2048, if s ≤ j then lkA q k h t j else 0) - lkA q k h t s))

/-- The weight of key `s`. -/
def wA : ℝ := if s < t then uA q k h t s else 0

/-- The gradient of the weight's exponent. -/
def gA : ℝ := (if s < t then ∑ d ∈ Finset.range 64, g h t d * v h s d else 0) * uA q k h t s

/-- The gradient of the logit. -/
def dzA : ℝ :=
  - -(-(if s < t then -gA q k v g h t s + ∑ j ∈ Finset.range (s + 1), gA q k v g h t j else 0) * sg (zA q k h t s))
    + -(-gA q k v g h t s * (1 - sg (zA q k h t s)))

end Model

/-- `- -` stands before the product as the program writes it. -/
theorem dzA_eq (q k v g : ℕ → ℕ → ℕ → ℝ) (h t s : ℕ) : dzA q k v g h t s
    = if s < t then gA q k v g h t s * (1 - sg (zA q k h t s)) - sg (zA q k h t s) * ∑ j ∈ Finset.range s, gA q k v g h t j else 0 := by
  unfold dzA
  split
  · rw [Finset.sum_range_succ]; ring
  · next hs => rw [show gA q k v g h t s = 0 by rw [gA, if_neg hs, zero_mul]]; ring

section Values

variable {x0 x1 x2 x3 : (⟨S16x2048x64, .f32⟩ : BufTy).Contents (Elt Ideal)} {q k v g : ℕ → ℕ → ℕ → ℝ}
  (h0 : x0 = (rv3 .f32 q : FVec Ideal S16x2048x64 .f32)) (h1 : x1 = (rv3 .f32 k : FVec Ideal S16x2048x64 .f32))
  (h2 : x2 = (rv3 .f32 v : FVec Ideal S16x2048x64 .f32)) (h3 : x3 = (rv3 .f32 g : FVec Ideal S16x2048x64 .f32))

theorem strict_eq : (val_main_v9 (F := Ideal)) = mk2 fun t s => s < t := by
  funext i
  have i0 : (i 0).val < 2048 := (i 0).isLt
  have i1 : (i 1).val < 2048 := (i 1).isLt
  rw [val_main_v9_apply, val_main_v7_apply, val_main_v4_apply, val_main_v3_apply, val_main_v8_apply, val_main_v6_apply, val_main_v5_apply]
  refine (WordCmp.cmpi_slt_ofNat (w := 32) (a := (i 1).val) (b := (i 0).val) (by omega) (by omega)).trans ?_
  exact congrArg BitVec.ofBool (decide_eq_decide.mpr Iff.rfl)

theorem strict14 : (val_main_v14_1 (F := Ideal)) = mk3 fun _ t s => s < t := by
  funext i
  rw [val_main_v14_1_apply, val_main_v11_apply, strict_eq]
  rfl

theorem strict20 : (val_main_v20_1 (F := Ideal)) = mk3 fun _ t s => s < t := by
  funext i
  rw [val_main_v20_1_apply, val_main_v17_apply, strict_eq]
  rfl

include h0 h1

theorem products : val_main_v0 (F := Ideal) x0 x1 = rv3 .f32 fun h t s => ∑ d ∈ Finset.range 64, q h t d * k h s d := by
  subst h0 h1
  funext i
  rw [val_main_v0_apply]
  change _ = ((∑ d ∈ Finset.range 64, q (i 0).val (i 1).val d * k (i 0).val (i 2).val d : ℝ) : EReal)
  rw [Finset.sum_range, coe_sum]
  exact Finset.sum_congr rfl fun d _ => (EReal.coe_mul _ _).symm

theorem logits : val_main_v2 (F := Ideal) x0 x1 = rv3 .f32 (zA q k) := by
  unfold val_main_v2 val_main_v1 val_main_cst
  rw [products h0 h1, constant3_eighth, mulf_rv3]
  rfl

/-- The logarithm of `1 + exp (-z)`. -/
theorem spl0 : val_main_call0_v1_0 (F := Ideal) x0 x1 = rv3 .f32 fun h t s => spl (-zA q k h t s) := by
  unfold val_main_call0_v1_0 val_main_call0_call0_v4
  rw [cmpf_une_self (φ := .f32), select_false (φ := .f32)]
  unfold val_main_call0_call0_v11 val_main_call0_call0_v10 val_main_call0_call0_v9 val_main_call0_call0_v8 val_main_call0_call0_v7
    val_main_call0_call0_v3 val_main_call0_call0_v2 val_main_call0_call0_v1 val_main_call0_call0_v0 val_main_call0_call0_cst val_main_call0_v0
  rw [logits h0 h1, constant3_zero, negf_rv3, maximumf_rv3, subf_rv3, absf_rv3, negf_rv3, exp_rv3, log1p_rv3, addf_rv3]
  rfl

/-- The logarithm of `1 + exp z`. -/
theorem spl1 : val_main_call1_v1_0 (F := Ideal) x0 x1 = rv3 .f32 fun h t s => spl (zA q k h t s) := by
  unfold val_main_call1_v1_0 val_main_call1_call0_v4
  rw [cmpf_une_self (φ := .f32), select_false (φ := .f32)]
  unfold val_main_call1_call0_v11 val_main_call1_call0_v10 val_main_call1_call0_v9 val_main_call1_call0_v8 val_main_call1_call0_v7
    val_main_call1_call0_v3 val_main_call1_call0_v2 val_main_call1_call0_v1 val_main_call1_call0_v0 val_main_call1_call0_cst val_main_call1_v0
    val_main_v12
  rw [logits h0 h1, constant3_zero, negf_rv3, negf_rv3, maximumf_rv3, subf_rv3, absf_rv3, negf_rv3, exp_rv3, log1p_rv3, addf_rv3]
  simp only [neg_neg]
  rfl

/-- What the first logarithm's derivative is taken from. -/
theorem res0 : val_main_v10_1 (F := Ideal) x0 x1 = rv3 .f32 fun h t s => 1 - sg (zA q k h t s) := by
  unfold val_main_v10_1 val_main_call0_call0_v21 val_main_call0_call0_v16 val_main_call0_call0_v20 val_main_call0_call0_v14
    val_main_call0_call0_v18 val_main_call0_call0_v13 val_main_call0_call0_v17 val_main_call0_call0_cst_0 val_main_call0_call0_cst_2
    val_main_call0_v0
  rw [spl0 h0 h1, logits h0 h1, negf_rv3, cmpf_oeq_top _ _ fun i => constant3_top _ i, cmpf_oeq_top _ _ fun i => constant3_top _ i,
    select_false (φ := .f32), select_false (φ := .f32), subf_rv3, exp_rv3]
  exact rv3_congr fun _ _ _ _ _ _ => exp_neg_sub_spl _

/-- What the second logarithm's derivative is taken from. -/
theorem res1 : val_main_v13_1 (F := Ideal) x0 x1 = rv3 .f32 fun h t s => sg (zA q k h t s) := by
  unfold val_main_v13_1 val_main_call1_call0_v21 val_main_call1_call0_v16 val_main_call1_call0_v20 val_main_call1_call0_v14
    val_main_call1_call0_v18 val_main_call1_call0_v13 val_main_call1_call0_v17 val_main_call1_call0_cst_0 val_main_call1_call0_cst_2
    val_main_call1_v0 val_main_v12
  rw [spl1 h0 h1, logits h0 h1, negf_rv3, negf_rv3, cmpf_oeq_top _ _ fun i => constant3_top _ i, cmpf_oeq_top _ _ fun i => constant3_top _ i,
    select_false (φ := .f32), select_false (φ := .f32), subf_rv3, exp_rv3]
  simp only [neg_neg]
  exact rv3_congr fun _ _ _ _ _ _ => exp_sub_spl _

theorem left_over : val_main_v14_0 (F := Ideal) x0 x1 = rv3 .f32 (lkA q k) := by
  unfold val_main_v14_0 val_main_v13_0 val_main_call2_v2 val_main_call2_v0 val_main_cst_0 id
  rw [strict14, spl1 h0 h1, negf_rv3, constant3_zero, select_rv3]
  rfl

theorem suffix : val_main_v15 (F := Ideal) x0 x1
    = rv3 .f32 fun h t s => ∑ j ∈ Finset.range 2048, if s ≤ j then lkA q k h t j else 0 := by
  unfold val_main_v15
  rw [left_over h0 h1]
  refine (reduceWindowAdd_rv3 0 2047 (lkA q k) _ (fun _ => zero_word) _ _).trans ?_
  exact rv3_congr fun _ _ _ _ c hc => sum_from 2048 c hc _

theorem weights : val_main_v19 (F := Ideal) x0 x1 = rv3 .f32 (uA q k) := by
  unfold val_main_v19 val_main_v18 val_main_v16 val_main_v10_0
  rw [suffix h0 h1, left_over h0 h1, spl0 h0 h1, negf_rv3, subf_rv3, addf_rv3, exp_rv3]
  rfl

theorem masked : val_main_v20_0 (F := Ideal) x0 x1 = rv3 .f32 (wA q k) := by
  unfold val_main_v20_0 val_main_call4_v2 val_main_call4_v0 val_main_cst_1 id
  rw [strict20, weights h0 h1, constant3_zero, select_rv3]
  rfl

include h3 in
/-- The values' gradient. -/
theorem grad_v : val_main_v23 (F := Ideal) x0 x1 x3
    = rv3 .f32 fun h s d => ∑ t ∈ Finset.range 2048, wA q k h t s * g h t d := by
  funext i
  rw [val_main_v23_apply, val_main_v22_apply, masked h0 h1]
  subst h3
  change _ = ((∑ t ∈ Finset.range 2048, wA q k (i 0).val t (i 1).val * g (i 0).val t (i 2).val : ℝ) : EReal)
  rw [Finset.sum_range, coe_sum]
  exact Finset.sum_congr rfl fun t _ => (EReal.coe_mul _ _).symm.trans (congrArg Real.toEReal (mul_comm _ _))

include h2 h3

theorem grad_weights : val_main_v24 (F := Ideal) x2 x3 = rv3 .f32 fun h t s => ∑ d ∈ Finset.range 64, g h t d * v h s d := by
  subst h2 h3
  funext i
  rw [val_main_v24_apply]
  change _ = ((∑ d ∈ Finset.range 64, g (i 0).val (i 1).val d * v (i 0).val (i 2).val d : ℝ) : EReal)
  rw [Finset.sum_range, coe_sum]
  exact Finset.sum_congr rfl fun d _ => (EReal.coe_mul _ _).symm

theorem grad_exponents : val_main_v26 (F := Ideal) x0 x1 x2 x3 = rv3 .f32 (gA q k v g) := by
  unfold val_main_v26 val_main_v25 val_main_call5_v0 val_main_call5_cst
  rw [strict20, weights h0 h1, grad_weights h0 h1 h2 h3, constant3_zero, select_rv3, mulf_rv3]
  rfl

theorem prefix_sum : val_main_v28 (F := Ideal) x0 x1 x2 x3
    = rv3 .f32 fun h t s => ∑ j ∈ Finset.range (s + 1), gA q k v g h t j := by
  unfold val_main_v28
  rw [grad_exponents h0 h1 h2 h3]
  refine (reduceWindowAdd_rv3 2047 0 (gA q k v g) _ (fun _ => zero_word) _ _).trans ?_
  exact rv3_congr fun _ _ _ _ c hc => sum_through 2047 c hc _

theorem grad_logits : val_main_v34 (F := Ideal) x0 x1 x2 x3 = rv3 .f32 (dzA q k v g) := by
  unfold val_main_v34 val_main_v33 val_main_call9_v1 val_main_call9_v0 val_main_v32 val_main_v31 val_main_call8_v1 val_main_call8_v0
    val_main_v30 val_main_v29 val_main_v27 val_main_call7_v0 val_main_call7_cst
  rw [strict14, prefix_sum h0 h1 h2 h3, grad_exponents h0 h1 h2 h3, res0 h0 h1, res1 h0 h1, constant3_zero, negf_rv3, addf_rv3,
    select_rv3, negf_rv3, mulf_rv3, negf_rv3, negf_rv3, mulf_rv3, negf_rv3, addf_rv3]
  rfl

theorem grad_products : val_main_v36 (F := Ideal) x0 x1 x2 x3 = rv3 .f32 fun h t s => dzA q k v g h t s * (1 / 8) := by
  unfold val_main_v36 val_main_v35 val_main_cst_2
  rw [grad_logits h0 h1 h2 h3, constant3_eighth, mulf_rv3]

/-- The keys' gradient. -/
theorem grad_k : val_main_v37 (F := Ideal) x0 x1 x2 x3
    = rv3 .f32 fun h s d => ∑ t ∈ Finset.range 2048, dzA q k v g h t s * (1 / 8) * q h t d := by
  funext i
  rw [val_main_v37_apply, grad_products h0 h1 h2 h3]
  subst h0
  change _ = ((∑ t ∈ Finset.range 2048, dzA q k v g (i 0).val t (i 1).val * (1 / 8) * q (i 0).val t (i 2).val : ℝ) : EReal)
  rw [Finset.sum_range, coe_sum]
  exact Finset.sum_congr rfl fun t _ => (EReal.coe_mul _ _).symm

/-- The queries' gradient. -/
theorem grad_q : val_main_v38 (F := Ideal) x0 x1 x2 x3
    = rv3 .f32 fun h t d => ∑ s ∈ Finset.range 2048, dzA q k v g h t s * (1 / 8) * k h s d := by
  funext i
  rw [val_main_v38_apply, grad_products h0 h1 h2 h3]
  subst h1
  change _ = ((∑ s ∈ Finset.range 2048, dzA q k v g (i 0).val (i 1).val s * (1 / 8) * k (i 0).val s (i 2).val : ℝ) : EReal)
  rw [Finset.sum_range, coe_sum]
  exact Finset.sum_congr rfl fun s _ => (EReal.coe_mul _ _).symm

end Values

end Cert.Stick
-- ==== Proof.Equation.lean ====
/-
  The equation between the two programs' sums, over the real numbers: what the kernel's grid accumulates block by block
  is what the reference sums over whole rows and columns. The kernel forms a weight's exponent from the total of a row and
  its prefix sums; the reference forms it from suffix sums, and the two differ by the total.
-/
module

public import proofs.«01_k».proof.Proof.Array
public import proofs.«01_k».proof.Proof.Reference

@[expose] public section

set_option maxRecDepth 16384

noncomputable section

namespace Cert.Stick

open Idealize.ShloMosaic
open scoped Classical

/-- The scaled queries. -/
def qS (q : ℕ → ℕ → ℕ → ℝ) (h t d : ℕ) : ℝ := q h t d * (1 / 8)

/-- The total of a row, over all keys before the query. -/
def totA (q k : ℕ → ℕ → ℕ → ℝ) (h t : ℕ) : ℝ := ∑ s ∈ Finset.range 2048, lkA q k h t s

/-- A sum over `m` blocks of 512. -/
theorem sum_by_blocks (f : ℕ → ℝ) (m : ℕ) :
    ∑ t ∈ Finset.range (512 * m), f t = ∑ j ∈ Finset.range m, ∑ r ∈ Finset.range 512, f (512 * j + r) := by
  induction m with
  | zero => simp
  | succ m ih => rw [Nat.mul_succ, Finset.sum_range_add, ih, Finset.sum_range_succ _ m]

/-- A sum is its first part and the rest. -/
theorem sum_split (n c : ℕ) (hc : c ≤ n) (f : ℕ → ℝ) :
    ∑ s ∈ Finset.range n, f s = ∑ s ∈ Finset.range c, f s + ∑ s ∈ Finset.range n, if c ≤ s then f s else 0 := by
  obtain ⟨e, rfl⟩ : ∃ e, n = c + e := ⟨n - c, by omega⟩
  rw [Finset.sum_range_add f c e, Finset.sum_range_add (fun s => if c ≤ s then f s else 0) c e,
    Finset.sum_eq_zero (s := Finset.range c) (f := fun s => if c ≤ s then f s else 0) fun s hs => if_neg (by
      have := Finset.mem_range.mp hs; omega), zero_add]
  congr 1
  exact Finset.sum_congr rfl fun s _ => (if_pos (by omega)).symm

section Rows

variable (q k v g : ℕ → ℕ → ℕ → ℝ) (h n r s : ℕ)

theorem z_eq : zB (kblk (qS q h) n) (k h) r s = zA q k h (512 * n + r) s := by
  unfold zB zA kblk qS
  rw [Finset.sum_mul]
  exact Finset.sum_congr rfl fun d _ => by ring

theorem lk_eq : lkB (strictP n) (zB (kblk (qS q h) n) (k h)) r s = lkA q k h (512 * n + r) s := by
  unfold lkB lkA
  rw [z_eq, lb_sub]
  exact if_congr Iff.rfl rfl rfl

variable {s} (hs : s < 2048)
include hs

theorem w_eq : wR n (kblk (qS q h) n) (k h) (fun r => totA q k h (512 * n + r)) r s = wA q k h (512 * n + r) s := by
  unfold wR wB wA
  refine if_congr Iff.rfl (congrArg Real.exp ?_) rfl
  rw [z_eq, lb_eq, Finset.sum_congr rfl fun j _ => lk_eq q k h n r j]
  beta_reduce
  rw [totA, sum_split 2048 s (by omega), Finset.sum_range_succ _ s]
  ring

theorem g_eq : gR n (kblk (qS q h) n) (k h) (kblk (g h) n) (v h) (fun r => totA q k h (512 * n + r)) r s
    = gA q k v g h (512 * n + r) s := by
  unfold gR gB gA
  rw [w_eq q k h n r hs, wA, zB]
  split
  · exact mul_comm _ _
  · rw [zero_mul, zero_mul]

theorem dz_eq : dzR n (kblk (qS q h) n) (k h) (kblk (g h) n) (v h) (fun r => totA q k h (512 * n + r)) r s
    = dzA q k v g h (512 * n + r) s := by
  rw [dzA_eq]
  unfold dzR dzB bB
  refine if_congr Iff.rfl ?_ rfl
  rw [z_eq, g_eq q k v g h n r hs, zero_add,
    Finset.sum_congr rfl fun j hj => g_eq q k v g h n r (lt_trans (Finset.mem_range.mp hj) hs)]

end Rows

section Results

variable (q k v g : ℕ → ℕ → ℕ → ℝ) (h : ℕ)

theorem dq_eq (t d : ℕ) (ht : t < 2048) : dqG (qS q) k v g (totA q k) h (t / 512) (t % 512) d
    = ∑ s ∈ Finset.range 2048, dzA q k v g h t s * (1 / 8) * k h s d := by
  have ht' : 512 * (t / 512) + t % 512 = t := Nat.div_add_mod t 512
  have hn : 512 * (t / 512 + 1) ≤ 2048 := by omega
  unfold dqG dqR
  rw [sum_split 2048 (512 * (t / 512 + 1)) hn, Finset.sum_eq_zero (s := Finset.range 2048) fun s _ => ?_, add_zero, Finset.sum_mul]
  · refine Finset.sum_congr rfl fun s hs => ?_
    have := Finset.mem_range.mp hs
    rw [dz_eq q k v g h _ _ (by omega), ht']
    ring
  · split
    · rw [dzA_eq, if_neg (by omega), zero_mul, zero_mul]
    · rfl

theorem dk_eq (s d : ℕ) (hs : s < 2048) : ∑ j ∈ Finset.range 4, dkG (qS q) k v g (totA q k) h j s d
    = ∑ t ∈ Finset.range 2048, dzA q k v g h t s * (1 / 8) * q h t d := by
  rw [show (2048 : ℕ) = 512 * 4 from rfl, sum_by_blocks]
  refine Finset.sum_congr rfl fun j _ => ?_
  unfold dkG dkR
  refine Finset.sum_congr rfl fun r _ => ?_
  rw [dz_eq q k v g h j r hs]
  unfold kblk qS
  ring

theorem dv_eq (s d : ℕ) (hs : s < 2048) : ∑ j ∈ Finset.range 4, dvG (qS q) k g (totA q k) h j s d
    = ∑ t ∈ Finset.range 2048, wA q k h t s * g h t d := by
  rw [show (2048 : ℕ) = 512 * 4 from rfl, sum_by_blocks]
  refine Finset.sum_congr rfl fun j _ => ?_
  unfold dvG dvR
  refine Finset.sum_congr rfl fun r _ => ?_
  rw [w_eq q k h j r hs]
  rfl

end Results

end Cert.Stick
-- ==== Proof.KernelHost.lean ====
/-
  What the kernel's host code prepares: the scaled queries, the keys and values, and each row's total of the logarithms of
  what the keys leave over.
-/
module

public import proofs.«01_k».proof.Proof.Equation

@[expose] public section

set_option maxRecDepth 16384

noncomputable section

namespace Cert.Stick

open Idealize.ShloMosaic Cert.KernelIdeal Cert.KernelIdeal.Gen Cert.KernelIdeal.Value Idealize.ShloMosaic.ValueIdx
open StableHlo
open scoped Classical

/-- The word of an eighth, in 16 bits. -/
theorem eighth_word16 : (Ideal.ofBits .bf16 0x3E00#16 : EReal) = ((1 / 8 : ℝ) : EReal) := by
  simp [Ideal.ofBits, Ideal.ieee, -EReal.coe_mul]; norm_num

/-- The queries, scaled. -/
def scaledT (x0 : FVec Ideal S16x2048x64 .f32) : FVec Ideal S16x2048x64 .bf16 :=
  mulf (truncf .bf16 x0 bitsLt_bf16_f32) (broadcastInDim S16x2048x64 ![] bcast_S_S16x2048x64 (constant S_ .bf16 0x3E00#16))

/-- The keys and the values, in 16 bits. -/
def narrowT (x : FVec Ideal S16x2048x64 .f32) : FVec Ideal S16x2048x64 .bf16 := truncf .bf16 x bitsLt_bf16_f32

/-- The logits. -/
def logitsT (a b : FVec Ideal S16x2048x64 .bf16) : FVec Ideal S16x2048x2048 .f32 :=
  Host.dotGeneral dot_S16x2048x64_S16x2048x64_S16x2048x2048_2_2_1_1_0_0 none (extf .f32 a bitsLt_bf16_f32) (extf .f32 b bitsLt_bf16_f32)

/-- The keys before the query. -/
def strictT : IVec S2048x2048 1 :=
  cmpi .slt (broadcastInDim S2048x2048 ![0, 1] bcast_S1x2048_S2048x2048_0_1 (broadcastInDim S1x2048 ![1] bcast_S2048_S1x2048_1 (iotaInDim S2048 32 0)))
    (broadcastInDim S2048x2048 ![0, 1] bcast_S2048x1_S2048x2048_0_1 (broadcastInDim S2048x1 ![0] bcast_S2048_S2048x1_0 (iotaInDim S2048 32 0)))

/-- Zero everywhere. -/
def zeroT : FVec Ideal S16x2048x2048 .f32 := broadcastInDim S16x2048x2048 ![] bcast_S_S16x2048x2048 (constant S_ .f32 0x00000000#32)

/-- The logarithm of `1 + exp y`, as the host's library spells it. -/
def softplusT (y : FVec Ideal S16x2048x2048 .f32) : FVec Ideal S16x2048x2048 .f32 :=
  select (cmpf .une (subf y zeroT) (subf y zeroT)) (addf y zeroT)
    (addf (maximumf y zeroT) (Host.log1p (Host.exp (Host.negf (Host.absf (subf y zeroT))))))

/-- The totals of the rows. -/
def totalsT (z : FVec Ideal S16x2048x2048 .f32) : FVec Ideal S16x2048x1 .f32 :=
  broadcastInDim S16x2048x1 ![0, 1] bcast_S16x2048_S16x2048x1_0_1
    (Host.reduceAdd
      (select (broadcastInDim S16x2048x2048 ![0, 1, 2] bcast_S1x2048x2048_S16x2048x2048_0_1_2 (broadcastInDim S1x2048x2048 ![1, 2] bcast_S2048x2048_S1x2048x2048_1_2 strictT))
        (Host.negf (softplusT (Host.negf (Host.negf z)))) zeroT)
      (constant S_ .f32 0x00000000#32) reducesTo_S16x2048x2048_S16x2048_d2 h_S_)

section Read

variable (m : (ℓ : Loc nD τ sig) → Buf (Elt Ideal) ℓ) (c : Dev nD)

theorem V_main_v2 : V m c main_v2 = scaledT (m ((c.tc : Thread nD τ).loc main_arg0) : FVec Ideal S16x2048x64 .f32) := by
  simp only [V, hostOps0, hostOps0_1, hostOps0_2, hostOps0_3, hostOps0_4, List.flatten_cons, List.flatten_nil, List.append_nil,
    List.cons_append, List.nil_append, TRef.binary, TRef.nullary, TRef.ternary, TRef.unary, TRef.toBuf, TRef.ofBuf, cast_eq]
  after_results_simp <;> rfl

theorem V_main_v3 : (V m c main_v3 : FVec Ideal S16x2048x64 .bf16) = narrowT (m ((c.tc : Thread nD τ).loc main_arg1) : FVec Ideal S16x2048x64 .f32) := by
  simp only [V, hostOps0, hostOps0_1, hostOps0_2, hostOps0_3, hostOps0_4, List.flatten_cons, List.flatten_nil, List.append_nil,
    List.cons_append, List.nil_append, TRef.binary, TRef.nullary, TRef.ternary, TRef.unary, TRef.toBuf, TRef.ofBuf, cast_eq]
  after_results_simp <;> rfl

theorem V_main_v4 : (V m c main_v4 : FVec Ideal S16x2048x64 .bf16) = narrowT (m ((c.tc : Thread nD τ).loc main_arg2) : FVec Ideal S16x2048x64 .f32) := by
  simp only [V, hostOps0, hostOps0_1, hostOps0_2, hostOps0_3, hostOps0_4, List.flatten_cons, List.flatten_nil, List.append_nil,
    List.cons_append, List.nil_append, TRef.binary, TRef.nullary, TRef.ternary, TRef.unary, TRef.toBuf, TRef.ofBuf, cast_eq]
  after_results_simp <;> rfl

set_option maxHeartbeats 4000000 in
theorem V_main_v20 : V m c main_v20 = totalsT (logitsT (scaledT (m ((c.tc : Thread nD τ).loc main_arg0) : FVec Ideal S16x2048x64 .f32)) (narrowT (m ((c.tc : Thread nD τ).loc main_arg1)))) := by
  simp only [V, hostOps0, hostOps0_1, hostOps0_2, hostOps0_3, hostOps0_4, List.flatten_cons, List.flatten_nil, List.append_nil,
    List.cons_append, List.nil_append, TRef.binary, TRef.nullary, TRef.ternary, TRef.unary, TRef.toBuf, TRef.ofBuf, cast_eq]
  after_results_simp <;> rfl

end Read

section Values

variable (q k : ℕ → ℕ → ℕ → ℝ)

theorem scaledT_rv3 : scaledT (rv3 .f32 q) = rv3 .bf16 (qS q) := by
  funext i
  change ((q (i 0).val (i 1).val (i 2).val : ℝ) : EReal) * (Ideal.ofBits .bf16 0x3E00#16 : EReal) = _
  rw [eighth_word16]
  exact (EReal.coe_mul _ _).symm

theorem narrowT_rv3 : narrowT (rv3 .f32 k) = rv3 .bf16 k := rfl

theorem logitsT_rv3 : logitsT (rv3 .bf16 (qS q)) (rv3 .bf16 k) = rv3 .f32 (zA q k) := by
  refine (products (q := qS q) (k := k) rfl rfl).trans (rv3_congr fun h _ t _ s _ => ?_)
  unfold zA qS
  rw [Finset.sum_mul]
  exact Finset.sum_congr rfl fun d _ => by ring

theorem strictT_eq : strictT = mk2 fun t s => s < t := strict_eq

theorem strict3 : broadcastInDim S16x2048x2048 ![0, 1, 2] bcast_S1x2048x2048_S16x2048x2048_0_1_2
    (broadcastInDim S1x2048x2048 ![1, 2] bcast_S2048x2048_S1x2048x2048_1_2 strictT) = mk3 fun _ t s => s < t := strict14

theorem zeroT_rv3 : zeroT = rv3 .f32 fun _ _ _ => 0 := constant3_zero _

theorem softplusT_rv3 (f : ℕ → ℕ → ℕ → ℝ) : softplusT (rv3 .f32 f) = rv3 .f32 fun h t s => spl (f h t s) := by
  unfold softplusT
  rw [cmpf_une_self (φ := .f32), select_false (φ := .f32), zeroT_rv3, maximumf_rv3, subf_rv3, absf_rv3, negf_rv3, exp_rv3, log1p_rv3, addf_rv3]
  rfl

theorem reduces_d2 : S16x2048x2048.Reduces [2] S16x2048 := by decide

theorem rows_sum (f : ℕ → ℕ → ℕ → ℝ) (j : S16x2048.Idx) :
    (Host.reduceAdd (rv3 .f32 f : FVec Ideal S16x2048x2048 .f32) (constant S_ .f32 0x00000000#32) reducesTo_S16x2048x2048_S16x2048_d2 h_S_ j : EReal)
      = ((∑ s ∈ Finset.range 2048, f (j 0).val (j 1).val s : ℝ) : EReal) := by
  rw [hostReduceAdd_apply, Ideal.hostReduceAdd_single reducesTo_S16x2048x2048_S16x2048_d2 reduces_d2]
  refine (congrArg₂ (· + ·) (zero_word : _ = ((0 : ℝ) : EReal)) rfl).trans ?_
  rw [EReal.coe_zero, zero_add, Finset.sum_range, coe_sum]
  rfl

/-- The totals, standing in a column. -/
theorem column_rv3 (x : FVec Ideal S16x2048 .f32) (f : ℕ → ℕ → ℝ)
    (hx : ∀ j : S16x2048.Idx, x j = ((f (j 0).val (j 1).val : ℝ) : EReal)) :
    broadcastInDim S16x2048x1 ![0, 1] bcast_S16x2048_S16x2048x1_0_1 x = rv3 .f32 fun h t _ => f h t := by
  funext i
  let j : S16x2048.Idx := ix2 (i 0 : Fin 16) (i 1 : Fin 2048)
  have e : broadcastInDim S16x2048x1 ![0, 1] bcast_S16x2048_S16x2048x1_0_1 x i = x j :=
    broadcastInDim_apply ![0, 1] bcast_S16x2048_S16x2048x1_0_1 x i j fun a => by match a with | ⟨0, _⟩ => rfl | ⟨1, _⟩ => rfl
  exact e.trans (hx j)

theorem left_overT : (rv3 .f32 fun h t s => if s < t then -spl (- -zA q k h t s) else 0 : FVec Ideal S16x2048x2048 .f32)
    = rv3 .f32 (lkA q k) :=
  rv3_congr fun h _ t _ s _ => by rw [neg_neg, lkA]

theorem totalsT_rv3 : totalsT (rv3 .f32 (zA q k)) = rv3 .f32 fun h t _ => totA q k h t := by
  unfold totalsT
  rw [strict3, negf_rv3, negf_rv3, softplusT_rv3, negf_rv3, zeroT_rv3, select_rv3, left_overT]
  exact column_rv3 _ (totA q k) fun j => rows_sum (lkA q k) j

end Values

end Cert.Stick
-- ==== Proof.Results.lean ====
/-
  The kernel's three results, and the reference's, at arguments that are arrays of real numbers: the same arrays.
-/
module

public import proofs.«01_k».proof.Proof.KernelHost

@[expose] public section

set_option maxRecDepth 16384

noncomputable section

namespace Cert.Stick

open Idealize.ShloMosaic Cert.KernelIdeal Cert.KernelIdeal.Gen Cert.KernelIdeal.Value
open scoped Classical

section Kernel

variable (m : (ℓ : Loc nD τ sig) → Buf (Elt Ideal) ℓ) (c : Dev nD) (q k v g : ℕ → ℕ → ℕ → ℝ)
  (h0 : (m ((c.tc : Thread nD τ).loc main_arg0) : FVec Ideal S16x2048x64 .f32) = rv3 .f32 q)
  (h1 : (m ((c.tc : Thread nD τ).loc main_arg1) : FVec Ideal S16x2048x64 .f32) = rv3 .f32 k)
  (h2 : (m ((c.tc : Thread nD τ).loc main_arg2) : FVec Ideal S16x2048x64 .f32) = rv3 .f32 v)
  (h3 : (m ((c.tc : Thread nD τ).loc main_arg3) : FVec Ideal S16x2048x64 .f32) = rv3 .f32 g)

include h0 in
theorem entry_q : (V m c main_v2 : FVec Ideal S16x2048x64 .bf16) = rv3 .bf16 (qS q) :=
  (V_main_v2 m c).trans ((congrArg scaledT h0).trans (scaledT_rv3 q))

include h1 in
theorem entry_k : (V m c main_v3 : FVec Ideal S16x2048x64 .bf16) = rv3 .bf16 k :=
  (V_main_v3 m c).trans (congrArg narrowT h1)

include h2 in
theorem entry_v : (V m c main_v4 : FVec Ideal S16x2048x64 .bf16) = rv3 .bf16 v :=
  (V_main_v4 m c).trans (congrArg narrowT h2)

include h0 h1 in
theorem entry_t : (V m c main_v20 : FVec Ideal S16x2048x1 .f32) = rv3 .f32 fun h t _ => totA q k h t :=
  (V_main_v20 m c).trans (((congrArg₂ (fun a b => totalsT (logitsT (scaledT a) (narrowT b))) h0 h1).trans
    (congrArg totalsT ((congrArg₂ logitsT (scaledT_rv3 q) (narrowT_rv3 k)).trans (logitsT_rv3 q k)))).trans (totalsT_rv3 q k))

include h3 in
theorem entry_g : (V m c main_arg3 : FVec Ideal S16x2048x64 .f32) = rv3 .f32 g :=
  (V_main_arg3 m c).trans h3

include h0 h1 h2 h3

/-- The kernel's gradient of the queries. -/
theorem kernel_q : ((dats m 0 c).arrAt 5 cfg0.N : FVec Ideal S16x2048x64 .f32)
    = rv3 .f32 fun h t d => ∑ s ∈ Finset.range 2048, dzA q k v g h t s * (1 / 8) * k h s d :=
  (final5 m c (qS q) k v g (totA q k) (entry_q m c q h0) (entry_k m c k h1) (entry_v m c v h2) (entry_t m c q k h0 h1)
    (entry_g m c g h3)).trans (rv3_congr fun h _ t ht d _ => dq_eq q k v g h t d ht)

/-- The kernel's gradient of the keys. -/
theorem kernel_k : ((dats m 0 c).arrAt 6 cfg0.N : FVec Ideal S16x2048x64 .f32)
    = rv3 .f32 fun h s d => ∑ t ∈ Finset.range 2048, dzA q k v g h t s * (1 / 8) * q h t d :=
  (final6 m c (qS q) k v g (totA q k) (entry_q m c q h0) (entry_k m c k h1) (entry_v m c v h2) (entry_t m c q k h0 h1)
    (entry_g m c g h3)).trans (rv3_congr fun h _ s hs d _ => dk_eq q k v g h s d hs)

/-- The kernel's gradient of the values. -/
theorem kernel_v : ((dats m 0 c).arrAt 7 cfg0.N : FVec Ideal S16x2048x64 .f32)
    = rv3 .f32 fun h s d => ∑ t ∈ Finset.range 2048, wA q k h t s * g h t d :=
  (final7 m c (qS q) k v g (totA q k) (entry_q m c q h0) (entry_k m c k h1) (entry_v m c v h2) (entry_t m c q k h0 h1)
    (entry_g m c g h3)).trans (rv3_congr fun h _ s hs d _ => dv_eq q k g h s d hs)

end Kernel

end Cert.Stick
-- ==== Proof.FwdBlock.lean ====
/-
  One block of the forward call of the attention: 512 queries against 512 keys. The queries and keys are real numbers; the
  values are extended reals, whatever they are. Of each payload, which arrays it gives at such arguments.
-/
module

public import proofs.«01_k».proof.Proof.Sums
public import proofs.«01_k».proof.Proof.Entries
public import proofs.«01_k».proof.Proof.Gen.StickFwdIdeal.Skeleton

@[expose] public section

set_option maxRecDepth 16384

noncomputable section

namespace Cert.Stick.Fwd

open Idealize.ShloMosaic Cert.StickFwdIdeal Cert.StickFwdIdeal.Gen Idealize.ShloMosaic.ValueIdx
open Cert.Mixer (ev2 ev3 ev2_congr ev3_congr addf_ev2 truncf_ev2 shapeCast_ev3 shapeCast_ev2)
open scoped Classical

/-- The weights of a block, `run` being the sum of `lkB` over the blocks after it. -/
def wF (p : ℕ → ℕ → Prop) (z : ℕ → ℕ → ℝ) (run : ℕ → ℝ) (r c : ℕ) : ℝ :=
  if p r c then Real.exp (lb (z r c) + run r + ∑ s ∈ Finset.range 512, if c < s then lkB p z r s else 0) else 0

/-- A column of 512 numbers. -/
abbrev col1 (f : ℕ → ℝ) : FVec Ideal S512x1 .f32 := rv2 .f32 fun r _ => f r

/-! ## The operations that carry a shape -/

theorem products_nt (a b : ℕ → ℕ → ℝ) :
    matmul dot_S512x64_S512x64_S512x512_1_1_0_0_n_n none (rv2 .bf16 a : FVec Ideal S512x64 .bf16) (rv2 .bf16 b : FVec Ideal S512x64 .bf16)
        (rv2 .f32 fun _ _ => 0)
      = rv2 .f32 fun r c => ∑ d ∈ Finset.range 64, a r d * b c d := matmul_nt none a b

theorem products_nn (a b : ℕ → ℕ → ℝ) :
    matmul dot_S512x512_S512x512_S512x512_1_0_0_1_n_n none (rv2 .bf16 a : FVec Ideal S512x512 .bf16) (rv2 .bf16 b : FVec Ideal S512x512 .bf16)
        (rv2 .f32 fun _ _ => 0)
      = rv2 .f32 fun r c => ∑ s ∈ Finset.range 512, a r s * b s c := matmul_nn none a b

/-- The product of a block of real numbers with a block of values. -/
theorem products_values (a : ℕ → ℕ → ℝ) (b : ℕ → ℕ → EReal) :
    matmul dot_S512x512_S512x64_S512x64_1_0_0_1_n_n none (rv2 .bf16 a : FVec Ideal S512x512 .bf16) (ev2 .bf16 b : FVec Ideal S512x64 .bf16)
        (rv2 .f32 fun _ _ => 0)
      = ev2 .f32 fun r d => ∑ s ∈ Finset.range 512, (a r s : EReal) * b s d :=
  Cert.Mixer.matmul_nn (M := 512) (K := 512) (N := 64) (φ₁ := .bf16) (φ₂ := .bf16) none (fun r c => (a r c : EReal)) b

theorem column (f : ℕ → ℝ) : broadcastTo S512x512 (col1 f) broadcasts_S512x1_S512x512 = rv2 .f32 fun r _ => f r :=
  broadcastTo_column (φ := .f32) (fun r _ => f r) _

theorem row_sums (f : ℕ → ℕ → ℝ) :
    shapeCast S512x1 (multiReduction .add [1] S512 (rv2 .f32 f : FVec Ideal S512x512 .f32) 0x00000000#32 reduces_S512x512_S512 (.inl rfl) rfl)
      shapeCasts_S512_S512x1 = rv2 .f32 fun r _ => ∑ c ∈ Finset.range 512, f r c :=
  rowSum_rv2 f _ _ _ _

/-! ## The triangle of ones, and the mask of the diagonal block -/

theorem above_eq : (k0_pay16 (F := Ideal)) = rv2 .bf16 fun r c => if c < r then 1 else 0 :=
  funext fun i => by
    have h0 : (i 0).val < 512 := (i 0).isLt
    have h1 : (i 1).val < 512 := (i 1).isLt
    exact ones_of_bool ((congrArg₂ (IntOp.cmpi .sgt) (iota_row _ i) (iota_column _ i)).trans
      (WordCmp.cmpi_sgt_ofNat (w := 32) (a := (i 0).val) (b := (i 1).val) (by omega) (by omega)))

theorem diagonal_mask : k0_pay19 = mk2 belowP := mask_eq

/-- A product with the triangle `r > c` sums a row from after the column on. -/
theorem sum_above (c : ℕ) (f : ℕ → ℝ) :
    ∑ s ∈ Finset.range 512, f s * (if c < s then 1 else 0) = ∑ s ∈ Finset.range 512, if c < s then f s else 0 := by
  simp only [mul_ite, mul_one, mul_zero]

/-! ## A block left of the diagonal -/

section Full

variable (q : ℕ → ℕ → ℝ) (k3 : ℕ → ℕ → ℕ → ℝ) (v3 : ℕ → ℕ → ℕ → EReal) (run : ℕ → ℝ) (acc : ℕ → ℕ → EReal)

theorem logits_eq : k0_pay3 (F := Ideal) (rv2 .bf16 q) (rv3 .bf16 k3) = rv2 .f32 (zB q (k3 0)) := by
  unfold k0_pay3
  dsimp only
  rw [shapeCast_rv3, constant_zero, products_nt]
  rfl

theorem logarithms_eq : k0_pay4 (F := Ideal) (rv2 .bf16 q) (rv3 .bf16 k3) = rv2 .f32 fun r c => lb (zB q (k3 0) r c) := by
  unfold k0_pay4
  dsimp only
  rw [logits_eq, broadcast_zero, broadcast_one, absf_rv2, subf_rv2, exp_rv2, minimumf_rv2, addf_rv2, log_rv2, subf_rv2]
  rfl

theorem left_over_eq : k0_pay5 (F := Ideal) (rv2 .bf16 q) (rv3 .bf16 k3) = rv2 .f32 (lkB allP (zB q (k3 0))) := by
  unfold k0_pay5
  dsimp only
  rw [logits_eq, logarithms_eq, subf_rv2]
  exact rv2_congr fun r _ c _ => (if_pos trivial).symm

theorem run_eq : k0_pay6 (F := Ideal) (rv2 .bf16 q) (col1 run) (rv3 .bf16 k3)
    = col1 fun r => run r + ∑ c ∈ Finset.range 512, lkB allP (zB q (k3 0)) r c := by
  unfold k0_pay6
  dsimp only
  rw [left_over_eq, row_sums, addf_rv2]

theorem acc_eq : k0_pay7 (F := Ideal) (rv2 .bf16 q) k0_pay16 (col1 run) (ev2 .f32 acc) (rv3 .bf16 k3) (ev3 .bf16 v3)
    = ev2 .f32 fun r d => acc r d + ∑ s ∈ Finset.range 512, (wF allP (zB q (k3 0)) run r s : EReal) * v3 0 s d := by
  unfold k0_pay7
  dsimp only
  rw [left_over_eq, logarithms_eq, above_eq, column, shapeCast_ev3, addf_rv2, truncf_rv2, extf_rv2, subf_rv2, truncf_rv2,
    constant_zero, constant_zero, products_nn, products_nn, addf_rv2, addf_rv2, exp_rv2, truncf_rv2, products_values, addf_ev2]
  refine ev2_congr fun r _ d _ => congrArg (acc r d + ·) (Finset.sum_congr rfl fun s _ => congrArg (fun x : ℝ => (x : EReal) * v3 0 s d) ?_)
  simp only [sub_self, zero_mul, Finset.sum_const_zero, add_zero, sum_above]
  exact (if_pos trivial).symm

end Full

/-! ## The block on the diagonal -/

section Diagonal

variable (q3 k3 : ℕ → ℕ → ℕ → ℝ) (v : ℕ → ℕ → EReal) (run : ℕ → ℝ) (acc : ℕ → ℕ → EReal)

theorem queries_eq : k0_pay15 (F := Ideal) (rv3 .bf16 q3) = rv2 .bf16 (q3 0) := shapeCast_rv3 _ _

theorem values_eq (v3 : ℕ → ℕ → ℕ → EReal) : k0_pay20 (F := Ideal) (ev3 .bf16 v3) = ev2 .bf16 (v3 0) := shapeCast_ev3 _ _

theorem run_start : k0_pay17 (F := Ideal) = col1 fun _ => 0 := broadcast_zero

theorem acc_start : k0_pay18 (F := Ideal) = ev2 .f32 fun _ _ => 0 := broadcast_zero

theorem diagonal_logits : k0_pay21 (F := Ideal) (rv3 .bf16 q3) (rv3 .bf16 k3) = rv2 .f32 (zB (q3 0) (k3 0)) := by
  unfold k0_pay21
  dsimp only
  rw [queries_eq, shapeCast_rv3, constant_zero, products_nt]
  rfl

theorem diagonal_logarithms : k0_pay22 (F := Ideal) (rv3 .bf16 q3) (rv3 .bf16 k3) = rv2 .f32 fun r c => lb (zB (q3 0) (k3 0) r c) := by
  unfold k0_pay22
  dsimp only
  rw [diagonal_logits, broadcast_zero, broadcast_one, absf_rv2, subf_rv2, exp_rv2, minimumf_rv2, addf_rv2, log_rv2, subf_rv2]
  rfl

theorem diagonal_left_over : k0_pay23 (F := Ideal) (rv3 .bf16 q3) (rv3 .bf16 k3) = rv2 .f32 (lkB belowP (zB (q3 0) (k3 0))) := by
  unfold k0_pay23
  dsimp only
  rw [diagonal_logits, diagonal_logarithms, subf_rv2, broadcast_zero, diagonal_mask, select_rv2]
  rfl

theorem diagonal_run (f : ℕ → ℕ → ℝ) : k0_pay1 (F := Ideal) (col1 run) (rv2 .f32 f)
    = col1 fun r => run r + ∑ c ∈ Finset.range 512, f r c := by
  unfold k0_pay1
  dsimp only
  rw [row_sums, addf_rv2]

theorem diagonal_acc : k0_pay2 (F := Ideal) k0_pay16 (ev2 .f32 acc) k0_pay19 (ev2 .bf16 v) (k0_pay24 (rv3 .bf16 q3) (rv3 .bf16 k3))
      (k0_pay26 (rv3 .bf16 q3) (rv3 .bf16 k3)) (k0_pay27 (rv3 .bf16 q3) (rv3 .bf16 k3))
    = ev2 .f32 fun r d => acc r d + ∑ s ∈ Finset.range 512, (wF belowP (zB (q3 0) (k3 0)) (fun _ => 0) r s : EReal) * v s d := by
  unfold k0_pay2 k0_pay24 k0_pay26 k0_pay27 k0_pay25
  dsimp only
  rw [diagonal_left_over, diagonal_logarithms, run_start, above_eq, diagonal_mask, column, addf_rv2, truncf_rv2, extf_rv2, subf_rv2,
    truncf_rv2, constant_zero, constant_zero, products_nn, products_nn, addf_rv2, addf_rv2, exp_rv2, broadcast_zero, select_rv2, truncf_rv2,
    products_values, addf_ev2]
  refine ev2_congr fun r _ d _ => congrArg (acc r d + ·) (Finset.sum_congr rfl fun s _ => congrArg (fun x : ℝ => (x : EReal) * v s d) ?_)
  simp only [sub_self, zero_mul, Finset.sum_const_zero, add_zero, sum_above]
  unfold wF
  simp only [add_zero]

theorem column_out : k0_pay13 (F := Ideal) (col1 run) = rv3 .f32 fun _ r _ => run r := shapeCast_rv2 (fun r _ => run r) _

theorem block_out : k0_pay14 (F := Ideal) (ev2 .f32 acc) = ev3 .f32 fun _ => acc := shapeCast_ev2 _ _

end Diagonal

end Cert.Stick.Fwd

end
-- ==== Proof.FwdSums.lean ====
/-
  A row block of the forward call, described over all keys, and how one key block carries the description on: the blocks
  are taken from the diagonal down to the first, so that what is carried are sums over the keys from a block on.
-/
module

public import proofs.«01_k».proof.Proof.FwdBlock
public import proofs.«01_k».proof.Proof.Equation

@[expose] public section

noncomputable section

namespace Cert.Stick.Fwd

open scoped Classical

section Row

variable (n : ℕ) (Q K : ℕ → ℕ → ℝ) (V : ℕ → ℕ → EReal)

/-- The sum of the logarithms over the keys from block `j` on. -/
def sufF (j r : ℕ) : ℝ := ∑ s ∈ Finset.range 2048, if 512 * j ≤ s then lkB (strictP n) (zB Q K) r s else 0

/-- The weights of a row block. -/
def wS (r s : ℕ) : ℝ :=
  if strictP n r s then Real.exp (lb (zB Q K r s) + ∑ j ∈ Finset.range 2048, if s < j then lkB (strictP n) (zB Q K) r j else 0) else 0

/-- The weighted sum of the values of the keys from block `j` on. -/
def accF (j r d : ℕ) : EReal := ∑ s ∈ Finset.range 2048, if 512 * j ≤ s then (wS n Q K r s : EReal) * V s d else 0

end Row

/-- A sum from block `j` on is the sum over block `j` and the sum from the next block on. -/
theorem sum_from_block {M : Type} [AddCommMonoid M] (f : ℕ → M) {j : ℕ} (hj : j < 4) :
    (∑ s ∈ Finset.range 2048, if 512 * j ≤ s then f s else 0)
      = (∑ c ∈ Finset.range 512, f (512 * j + c)) + ∑ s ∈ Finset.range 2048, if 512 * (j + 1) ≤ s then f s else 0 := by
  obtain ⟨e, he⟩ : ∃ e, 2048 = 512 * j + (512 + e) := ⟨2048 - 512 * j - 512, by omega⟩
  rw [he, Finset.sum_range_add, Finset.sum_range_add, Finset.sum_range_add, Finset.sum_range_add]
  have z1 : (∑ s ∈ Finset.range (512 * j), if 512 * j ≤ s then f s else 0) = 0 := Finset.sum_eq_zero fun s hs => if_neg (by
    have := Finset.mem_range.mp hs; omega)
  have z2 : (∑ s ∈ Finset.range (512 * j), if 512 * (j + 1) ≤ s then f s else 0) = 0 := Finset.sum_eq_zero fun s hs => if_neg (by
    have := Finset.mem_range.mp hs; omega)
  have z3 : (∑ s ∈ Finset.range 512, if 512 * (j + 1) ≤ 512 * j + s then f (512 * j + s) else 0) = 0 :=
    Finset.sum_eq_zero fun s hs => if_neg (by have := Finset.mem_range.mp hs; omega)
  rw [z1, z2, z3, zero_add, zero_add, zero_add]
  exact congrArg₂ (· + ·) (Finset.sum_congr rfl fun s _ => if_pos (by omega))
    (Finset.sum_congr rfl fun s _ => (if_pos (by omega)).trans (if_pos (by omega)).symm)

/-- The same of a sum from after a position of block `j` on. -/
theorem sum_after_position (g : ℕ → ℝ) {j c : ℕ} (hj : j < 4) (hc : c < 512) :
    (∑ x ∈ Finset.range 2048, if 512 * j + c < x then g x else 0)
      = (∑ s ∈ Finset.range 512, if c < s then g (512 * j + s) else 0) + ∑ x ∈ Finset.range 2048, if 512 * (j + 1) ≤ x then g x else 0 := by
  have e := sum_from_block (fun x => if 512 * j + c < x then g x else 0) hj
  rw [Finset.sum_congr rfl fun x _ => (show (if 512 * j ≤ x then (if 512 * j + c < x then g x else 0) else 0) = if 512 * j + c < x then g x else 0 by
    split_ifs <;> first | rfl | omega)] at e
  rw [e]
  refine congrArg₂ (· + ·) (Finset.sum_congr rfl fun s _ => if_congr (by omega) rfl rfl) (Finset.sum_congr rfl fun x _ => ?_)
  split_ifs <;> first | rfl | omega

section Cut

variable {n j : ℕ} {p : ℕ → ℕ → Prop} (hp : ∀ r < 512, ∀ c < 512, (p r c ↔ strictP n r (512 * j + c))) (hj : j < 4)
variable (Q K : ℕ → ℕ → ℝ) (V : ℕ → ℕ → EReal) {r c : ℕ} (hr : r < 512) (hc : c < 512)
include hp hr hj

include hc in
theorem wF_cut {run : ℕ → ℝ} (hrun : run r = sufF n Q K (j + 1) r) :
    wF p (zB Q (kblk K j)) run r c = wS n Q K r (512 * j + c) := by
  refine if_congr (hp r hr c hc) (congrArg Real.exp ?_) rfl
  rw [hrun, sum_after_position _ hj hc, add_assoc, add_comm (sufF n Q K (j + 1) r)]
  refine congrArg (lb (zB Q K r (512 * j + c)) + ·) (congrArg (· + sufF n Q K (j + 1) r) (Finset.sum_congr rfl fun s hs => ?_))
  rw [lkB_cut hp Q K hr (Finset.mem_range.mp hs)]

theorem suf_next {run : ℕ → ℝ} (hrun : run r = sufF n Q K (j + 1) r) :
    run r + ∑ c ∈ Finset.range 512, lkB p (zB Q (kblk K j)) r c = sufF n Q K j r := by
  rw [hrun, add_comm, sufF, sufF, sum_from_block _ hj]
  exact congrArg (· + _) (Finset.sum_congr rfl fun s hs => lkB_cut hp Q K hr (Finset.mem_range.mp hs))

theorem acc_next {run : ℕ → ℝ} (hrun : run r = sufF n Q K (j + 1) r) (d : ℕ) {a : EReal} (ha : a = accF n Q K V (j + 1) r d) :
    a + ∑ s ∈ Finset.range 512, (wF p (zB Q (kblk K j)) run r s : EReal) * V (512 * j + s) d = accF n Q K V j r d := by
  rw [ha, add_comm, accF, accF, sum_from_block _ hj]
  exact congrArg (· + _) (Finset.sum_congr rfl fun s hs =>
    congrArg (fun x : ℝ => (x : EReal) * V (512 * j + s) d) (wF_cut hp hj Q K hr (Finset.mem_range.mp hs) hrun))

end Cut

/-- After the diagonal block no key takes part. -/
theorem suf_right {n : ℕ} (Q K : ℕ → ℕ → ℝ) {r : ℕ} (hr : r < 512) : sufF n Q K (n + 1) r = 0 :=
  Finset.sum_eq_zero fun s _ => by
    split
    · exact if_neg (by unfold strictP; omega)
    · rfl

theorem acc_right {n : ℕ} (Q K : ℕ → ℕ → ℝ) (V : ℕ → ℕ → EReal) {r : ℕ} (hr : r < 512) (d : ℕ) : accF n Q K V (n + 1) r d = 0 :=
  Finset.sum_eq_zero fun s _ => by
    split
    · rw [wS, if_neg (by unfold strictP; omega), EReal.coe_zero, zero_mul]
    · rfl

/-! ## The description of the reference -/

section Reference

variable (q k : ℕ → ℕ → ℕ → ℝ) (h n r : ℕ)

theorem suf_all : sufF n (kblk (qS q h) n) (k h) 0 r = totA q k h (512 * n + r) :=
  Finset.sum_congr rfl fun s _ => (if_pos (by omega)).trans (lk_eq q k h n r s)

theorem wS_eq {s : ℕ} (hs : s < 2048) : wS n (kblk (qS q h) n) (k h) r s = wA q k h (512 * n + r) s := by
  unfold wS wA uA
  refine if_congr Iff.rfl (congrArg Real.exp ?_) rfl
  rw [z_eq, lb_eq]
  refine congrArg (-spl (-zA q k h (512 * n + r) s) + ·) (eq_sub_of_add_eq ?_)
  rw [Finset.sum_congr rfl fun j _ => (show (if s < j then lkB (strictP n) (zB (kblk (qS q h) n) (k h)) r j else 0)
      = if s < j then lkA q k h (512 * n + r) j else 0 by rw [lk_eq])]
  have e : lkA q k h (512 * n + r) s = ∑ j ∈ Finset.range 2048, if j = s then lkA q k h (512 * n + r) j else 0 := by
    rw [Finset.sum_ite_eq' (Finset.range 2048) s, if_pos (Finset.mem_range.mpr hs)]
  rw [e, ← Finset.sum_add_distrib]
  refine Finset.sum_congr rfl fun j _ => ?_
  split_ifs <;> first | omega | simp

theorem acc_all (V : ℕ → ℕ → EReal) (d : ℕ) : accF n (kblk (qS q h) n) (k h) V 0 r d
    = ∑ s ∈ Finset.range 2048, (wA q k h (512 * n + r) s : EReal) * V s d :=
  Finset.sum_congr rfl fun s hs => (if_pos (by omega)).trans
    (congrArg (fun x : ℝ => (x : EReal) * V s d) (wS_eq q k h n r (Finset.mem_range.mp hs)))

end Reference

end Cert.Stick.Fwd

end
-- ==== Proof.FwdLoop.lean ====
/-
  The loop of the forward call over the key blocks before the diagonal, which it takes from the diagonal down to the first.
  It carries, of every query row, the sum of the logarithms and the weighted sum of the values over the keys met so far.
-/
module

public import proofs.«01_k».proof.Proof.FwdSums
public import proofs.«01_k».proof.Proof.Windows
public import proofs.«01_k».proof.Proof.Gen.StickFwdIdeal.Loops

@[expose] public section

set_option maxRecDepth 16384

noncomputable section

namespace Cert.Stick.Fwd

open Idealize.ShloMosaic Cert.StickFwdIdeal Cert.StickFwdIdeal.Gen
open Cert.Mixer (ev2 ev3 ev2_congr ev3_congr)
open scoped Classical

/-- The row block `n` has `n` key blocks before the diagonal. -/
theorem trips_eq (i : grid0.Coords) : (k0_t1_loop i).trips = (i 1).val :=
  (by decide : ∀ n : Fin 4, Scf.trips 1#32 (Scalar.addi 1#32 (Scalar.muli (Scalar.divsi (Scalar.subi (Scalar.addi (BitVec.ofNat 32 n.val) 1#32) 1#32) 1#32) 1#32)) 1#32
    = n.val) (i 1)

theorem row_lt (i : grid0.Coords) : (i 1).val < 4 := (i 1).isLt

theorem off1_eq (i : grid0.Coords) : k0_off1 i = ![0, 512 * (i 1).val, 0] := by
  unfold k0_off1
  exact congrArg (fun x : ℕ => (![0, x, 0] : Fin 3 → ℕ))
    ((by decide : ∀ n : Fin 4, (Scalar.muli (BitVec.ofNat 32 n.val) 512#32).toNat = 512 * n.val) (i 1))

/-- Trip `k` of row block `n` takes key block `n - 1 - k`. -/
theorem off2_eq (i : grid0.Coords) (k : Fin (k0_t1_loop i).trips) : k0_off2 i k = ![0, 512 * ((i 1).val - 1 - k.val), 0] := by
  have hk : k.val < (i 1).val := lt_of_lt_of_eq k.isLt (trips_eq i)
  have hk4 : k.val < 4 := lt_trans hk (row_lt i)
  unfold k0_off2
  exact congrArg (fun x : ℕ => (![0, x, 0] : Fin 3 → ℕ))
    ((by decide : ∀ n k : Fin 4, k.val < n.val →
      (Scalar.muli (Scalar.subi (BitVec.ofNat 32 n.val) (Scf.iv 1#32 1#32 k.val)) 512#32).toNat = 512 * (n.val - 1 - k.val))
      (i 1) ⟨k.val, hk4⟩ hk)

/-- Loading 512 rows of a whole head. -/
theorem load_rows {κ sp} (v : View sig κ sp S1x2048x64 .bf16) (f : v.ty.Contents (Elt Ideal)) {K : ℕ → ℕ → ℕ → EReal}
    (h : v.read (Elt Ideal) f = (ev3 .bf16 K : FVec Ideal S1x2048x64 .bf16)) {off : Fin 3 → ℕ} {o : ℕ}
    (e : off = ![0, o, 0]) (ho : o + 512 ≤ 2048) (inb) :
    v.readAt (Elt Ideal) (Rect.unit (s := S1x2048x64) off ![1, 512, 64] inb).toLoadRect f
      = (ev3 .bf16 fun a r d => K a (o + r) d : FVec Ideal S1x512x64 .bf16) := by
  refine (View.readAt_unit v f inb e (inb_rows ho)).trans
    ((congrArg (fun x => VecWindow.window x ![0, o, 0] ![1, 512, 64] (inb_rows ho)) h).trans (funext fun y => ?_))
  unfold VecWindow.window ev3
  have h0 : (0 + 1 * (y 0).val) = (y 0).val := by omega
  have h1 : (o + 1 * (y 1).val) = o + (y 1).val := by omega
  have h2 : (0 + 1 * (y 2).val) = (y 2).val := by omega
  exact (congrArg (fun a => K a (o + 1 * (y 1).val) (0 + 1 * (y 2).val)) h0).trans
    ((congrArg (fun a => K (y 0).val a (0 + 1 * (y 2).val)) h1).trans (congrArg (K (y 0).val (o + (y 1).val)) h2))

section Trip

variable (𝒱 : Variants) (c : Dev nD) (bd : Option 𝒱.V) (i : grid0.Coords) (arg2 : Memref sig .tc .vmem S1x512x64 .bf16) (harg2 : arg2.IsWhole)
  (arg3 : Memref sig .tc .vmem S1x2048x64 .bf16) (harg3 : arg3.IsWhole) (arg4 : Memref sig .tc .vmem S1x2048x64 .bf16) (harg4 : arg4.IsWhole)
  (arg5 : Memref sig .tc .vmem S1x512x64 .f32) (harg5 : arg5.IsWhole) (arg6 : Memref sig .tc .vmem S1x512x1 .f32) (harg6 : arg6.IsWhole)
  (X3 : BufTy.Contents (Elt Ideal) arg3.view.ty) (X4 : BufTy.Contents (Elt Ideal) arg4.view.ty)
  (Q K : ℕ → ℕ → ℝ) (V : ℕ → ℕ → EReal)
  (h3 : arg3.view.read (Elt Ideal) X3 = (rv3 .bf16 fun _ => K : FVec Ideal S1x2048x64 .bf16))
  (h4 : arg4.view.read (Elt Ideal) X4 = (ev3 .bf16 fun _ => V : FVec Ideal S1x2048x64 .bf16))

include h3 h4

/-- What one trip carries on. -/
theorem trip_carry (k : Fin (k0_t1_loop i).trips) (run : ℕ → ℝ) (acc : ℕ → ℕ → EReal) :
    tripR_k0_t1 (F := Ideal) 𝒱 c bd i arg2 harg2 arg3 harg3 arg4 harg4 arg5 harg5 arg6 harg6 (rv2 .bf16 Q) k0_pay16 X3 X4 k
      (col1 run, ev2 .f32 acc)
    = (col1 fun r => run r + ∑ s ∈ Finset.range 512, lkB allP (zB Q (kblk K ((i 1).val - 1 - k.val))) r s,
       ev2 .f32 fun r d => acc r d + ∑ s ∈ Finset.range 512,
        (wF allP (zB Q (kblk K ((i 1).val - 1 - k.val))) run r s : EReal) * V (512 * ((i 1).val - 1 - k.val) + s) d) := by
  have hn := row_lt i
  have ho : 512 * ((i 1).val - 1 - k.val) + 512 ≤ 2048 := by omega
  have l3 : ∀ inb, arg3.view.readAt (Elt Ideal) (Rect.unit (s := S1x2048x64) (k0_off2 i k) S1x512x64.size inb).toLoadRect X3
      = (rv3 .bf16 fun _ => kblk K ((i 1).val - 1 - k.val) : FVec Ideal S1x512x64 .bf16) := fun inb =>
    load_rows (K := fun _ s d => (K s d : EReal)) arg3.view X3 h3 (off2_eq i k) ho inb
  have l4 : ∀ inb, arg4.view.readAt (Elt Ideal) (Rect.unit (s := S1x2048x64) (k0_off2 i k) S1x512x64.size inb).toLoadRect X4
      = (ev3 .bf16 fun _ s d => V (512 * ((i 1).val - 1 - k.val) + s) d : FVec Ideal S1x512x64 .bf16) := fun inb =>
    load_rows arg4.view X4 h4 (off2_eq i k) ho inb
  unfold tripR_k0_t1 trip_k0_t1
  dsimp only
  rw [l3, l4, run_eq, acc_eq]

/-- What the loop holds before trip `k`. -/
theorem loop_inv {n : ℕ} (hn : n = (i 1).val) : ∀ k : ℕ, k ≤ n →
    st_k0_t1 (F := Ideal) 𝒱 c bd i arg2 harg2 arg3 harg3 arg4 harg4 arg5 harg5 arg6 harg6 (rv2 .bf16 Q) k0_pay16 X3 X4
        (col1 (sufF n Q K n), ev2 .f32 (accF n Q K V n)) k
      = (col1 (sufF n Q K (n - k)), ev2 .f32 (accF n Q K V (n - k)))
  | 0, _ => rfl
  | k + 1, hk => by
      have hn4 := row_lt i
      have e := loop_inv hn k (by omega)
      have hk' : k < (k0_t1_loop i).trips := by rw [trips_eq, ← hn]; omega
      have hp := allP_cut (show n - 1 - k < n by omega)
      have step := st_k0_t1_succ 𝒱 c bd i arg2 harg2 arg3 harg3 arg4 harg4 arg5 harg5 arg6 harg6 (rv2 .bf16 Q) k0_pay16 X3 X4
        (col1 (sufF n Q K n), ev2 .f32 (accF n Q K V n)) ⟨k, hk'⟩
      have ej : n - k = n - 1 - k + 1 := by omega
      have ej' : n - (k + 1) = n - 1 - k := by omega
      rw [e] at step
      refine step.trans ((trip_carry 𝒱 c bd i arg2 harg2 arg3 harg3 arg4 harg4 arg5 harg5 arg6 harg6 X3 X4 Q K V h3 h4 ⟨k, hk'⟩ _ _).trans ?_)
      rw [← hn, ej, ej']
      exact congrArg₂ Prod.mk (rv2_congr fun r hr _ _ => suf_next hp (by omega) Q K hr rfl)
        (ev2_congr fun r hr d _ => acc_next hp (by omega) Q K V hr rfl d rfl)

end Trip

end Cert.Stick.Fwd

end
-- ==== Proof.FwdPoint.lean ====
/-
  One grid point of the forward call: row block `n` of one head. The diagonal block comes first, then the loop over the key
  blocks before it; the point leaves the weighted sums of the values and the sums of the logarithms of its rows.
-/
module

public import proofs.«01_k».proof.Proof.FwdLoop
public import proofs.«01_k».proof.Proof.Gen.StickFwdIdeal.Frame
public import Idealize.ShloMosaic.Lib.LoopRemainder

@[expose] public section

set_option maxRecDepth 16384

noncomputable section

namespace Cert.Stick.Fwd

open Idealize.ShloMosaic Cert.StickFwdIdeal Cert.StickFwdIdeal.Gen
open Cert.Mixer (ev2 ev3 ev2_congr ev3_congr)
open scoped Classical

section Point

variable (c : Dev nD) (i : grid0.Coords) (arg2 : Memref sig .tc .vmem S1x512x64 .bf16) (harg2 : arg2.IsWhole)
  (arg3 : Memref sig .tc .vmem S1x2048x64 .bf16) (harg3 : arg3.IsWhole) (arg4 : Memref sig .tc .vmem S1x2048x64 .bf16) (harg4 : arg4.IsWhole)
  (arg5 : Memref sig .tc .vmem S1x512x64 .f32) (harg5 : arg5.IsWhole) (arg6 : Memref sig .tc .vmem S1x512x1 .f32) (harg6 : arg6.IsWhole)

/-- The number of trips, as the run writes it. -/
theorem trips_eq' : Scf.trips (k0_t1_loop i).lb (k0_t1_loop i).ub (k0_t1_loop i).st = (i 1).val :=
  trips_eq i

/-- The loop over the rest has no trip. -/
theorem rest_eq (v1 v7 X3 X4 init) : st_k0_t2 (F := Ideal) Variants.none c none i arg2 harg2 arg3 harg3 arg4 harg4 arg5 harg5 arg6 harg6
    v1 v7 X3 X4 init (Scf.trips (k0_t2_loop i).lb (k0_t2_loop i).ub (k0_t2_loop i).st) = init := by
  rw [show Scf.trips (k0_t2_loop i).lb (k0_t2_loop i).ub (k0_t2_loop i).st = 0 from Scf.rem_trips _ _]
  rfl

variable (x0 : Vec Ideal S1x512x64 .bf16) (x1 x2 : Vec Ideal S1x2048x64 .bf16)
  (Q K : ℕ → ℕ → ℝ) (V : ℕ → ℕ → EReal)
  (h0 : x0 = (rv3 .bf16 fun _ => Q : FVec Ideal S1x512x64 .bf16))
  (h1 : x1 = (rv3 .bf16 fun _ => K : FVec Ideal S1x2048x64 .bf16))
  (h2 : x2 = (ev3 .bf16 fun _ => V : FVec Ideal S1x2048x64 .bf16))

include h0 h1 h2

theorem point :
    out0_A_3 (F := Ideal) c i arg2 harg2 arg3 harg3 arg4 harg4 arg5 harg5 arg6 harg6 x0 x1 x2
      = (ev3 .f32 fun _ => accF (i 1).val Q K V 0 : FVec Ideal S1x512x64 .f32)
    ∧ out0_A_4 (F := Ideal) c i arg2 harg2 arg3 harg3 arg4 harg4 arg5 harg5 arg6 harg6 x0 x1 x2
      = (rv3 .f32 fun _ r _ => sufF (i 1).val Q K 0 r : FVec Ideal S1x512x1 .f32) := by
  have hn := row_lt i
  have ho : 512 * (i 1).val + 512 ≤ 2048 := by omega
  have hp := belowP_cut (i 1).val
  have l2 : ∀ inb, arg2.view.readAt (Elt Ideal) (Rect.unit (s := S1x512x64) ![0, 0, 0] S1x512x64.size inb).toLoadRect (harg2.unread x0)
      = (rv3 .bf16 fun _ => Q : FVec Ideal S1x512x64 .bf16) := fun _ => (View.readAt_full _ _ _).trans ((harg2.read_unread x0).trans h0)
  have l3 : ∀ inb, arg3.view.readAt (Elt Ideal) (Rect.unit (s := S1x2048x64) (k0_off1 i) S1x512x64.size inb).toLoadRect (harg3.unread x1)
      = (rv3 .bf16 fun _ => kblk K (i 1).val : FVec Ideal S1x512x64 .bf16) := fun inb =>
    load_rows (K := fun _ s d => (K s d : EReal)) arg3.view _ ((harg3.read_unread x1).trans h1) (off1_eq i) ho inb
  have l4 : ∀ inb, arg4.view.readAt (Elt Ideal) (Rect.unit (s := S1x2048x64) (k0_off1 i) S1x512x64.size inb).toLoadRect (harg4.unread x2)
      = (ev3 .bf16 fun _ s d => V (512 * (i 1).val + s) d : FVec Ideal S1x512x64 .bf16) := fun inb =>
    load_rows arg4.view _ ((harg4.read_unread x2).trans h2) (off1_eq i) ho inb
  have e0 : kernelRun0_A.sl.r c arg2 harg2 x0 = rv2 .bf16 Q := (congrArg k0_pay15 (l2 _)).trans (queries_eq _)
  have e1 : kernelRun0_A.sl.r_1 c i arg4 harg4 x2 = ev2 .bf16 fun s d => V (512 * (i 1).val + s) d := (congrArg k0_pay20 (l4 _)).trans (values_eq _)
  have e2 : kernelRun0_A.sl.r_2 c i arg2 harg2 arg3 harg3 x0 x1 = rv2 .f32 (lkB belowP (zB Q (kblk K (i 1).val))) :=
    (congrArg₂ k0_pay23 (l2 _) (l3 _)).trans (diagonal_left_over _ _)
  have e3 : kernelRun0_A.sl.r_3 c i arg2 harg2 arg3 harg3 x0 x1 = k0_pay24 (rv3 .bf16 fun _ => Q) (rv3 .bf16 fun _ => kblk K (i 1).val) :=
    congrArg₂ k0_pay24 (l2 _) (l3 _)
  have e4 : kernelRun0_A.sl.r_4 c i arg2 harg2 arg3 harg3 x0 x1 = k0_pay26 (rv3 .bf16 fun _ => Q) (rv3 .bf16 fun _ => kblk K (i 1).val) :=
    congrArg₂ k0_pay26 (l2 _) (l3 _)
  have e5 : kernelRun0_A.sl.r_5 c i arg2 harg2 arg3 harg3 x0 x1 = k0_pay27 (rv3 .bf16 fun _ => Q) (rv3 .bf16 fun _ => kblk K (i 1).val) :=
    congrArg₂ k0_pay27 (l2 _) (l3 _)
  have d0 : k0_pay1 (F := Ideal) k0_pay17 (rv2 .f32 (lkB belowP (zB Q (kblk K (i 1).val)))) = col1 (sufF (i 1).val Q K (i 1).val) := by
    rw [run_start, diagonal_run]
    exact rv2_congr fun r hr _ _ => suf_next hp hn Q K hr (run := fun _ => 0) (suf_right Q K hr).symm
  have d1 : k0_pay2 (F := Ideal) k0_pay16 k0_pay18 k0_pay19 (ev2 .bf16 fun s d => V (512 * (i 1).val + s) d)
      (k0_pay24 (rv3 .bf16 fun _ => Q) (rv3 .bf16 fun _ => kblk K (i 1).val)) (k0_pay26 (rv3 .bf16 fun _ => Q) (rv3 .bf16 fun _ => kblk K (i 1).val))
      (k0_pay27 (rv3 .bf16 fun _ => Q) (rv3 .bf16 fun _ => kblk K (i 1).val)) = ev2 .f32 (accF (i 1).val Q K V (i 1).val) := by
    rw [acc_start, diagonal_acc]
    exact ev2_congr fun r hr d _ => acc_next hp hn Q K V hr (run := fun _ => 0) (suf_right Q K hr).symm d (acc_right Q K V hr d).symm
  have e := loop_inv Variants.none c none i arg2 harg2 arg3 harg3 arg4 harg4 arg5 harg5 arg6 harg6 (harg3.unread x1) (harg4.unread x2) Q K V
    ((harg3.read_unread x1).trans h1) ((harg4.read_unread x2).trans h2) rfl (i 1).val le_rfl
  rw [Nat.sub_self] at e
  replace e := (congrArg (st_k0_t1 (F := Ideal) Variants.none c none i arg2 harg2 arg3 harg3 arg4 harg4 arg5 harg5 arg6 harg6
    _ _ _ _ _) (trips_eq' i)).trans e
  refine ⟨?_, ?_⟩
  · unfold out0_A_3 kernelRun0_A
    dsimp only
    refine (View.read_writes_full _ _ _ _ _).trans ?_
    rw [e0, e1, e2, e3, e4, e5, d0, d1]
    exact (congrArg k0_pay14 (congrArg Prod.snd ((rest_eq ..).trans e))).trans (block_out (accF (i 1).val Q K V 0))
  · unfold out0_A_4 kernelRun0_A
    dsimp only
    refine (View.read_writes_full _ _ _ _ _).trans ?_
    rw [e0, e1, e2, e3, e4, e5, d0, d1]
    exact (congrArg k0_pay13 (congrArg Prod.fst ((rest_eq ..).trans e))).trans (column_out (sufF (i 1).val Q K 0))

end Point

end Cert.Stick.Fwd

end
-- ==== Proof.FwdArray.lean ====
/-
  The arrays the forward call leaves. The grid runs over the sixteen heads and their four row blocks; the blocks the points
  write back tile the two result arrays, so each result is read off the point of its head and row block.
-/
module

public import proofs.«01_k».proof.Proof.FwdPoint
public import proofs.«01_k».proof.Proof.Tiles
public import proofs.«01_k».proof.Proof.Gen.StickFwdIdeal.Value

@[expose] public section

set_option maxRecDepth 16384

noncomputable section

namespace Cert.Stick.Fwd

open Idealize.ShloMosaic Cert.StickFwdIdeal Cert.StickFwdIdeal.Gen
open Cert.Mixer (ev2 ev3 ev2_congr ev3_congr)
open scoped Classical

/-- The grid's coordinates at a point: the head, and the row block of the head. -/
theorem coords_eq : ∀ t : Fin cfg0.N, ((grid0.coords t) 0).val = t.val / 4 ∧ ((grid0.coords t) 1).val = t.val % 4 :=
  (by decide +kernel : ∀ t : Fin grid0.N, ((grid0.coords t) 0).val = t.val / 4 ∧ ((grid0.coords t) 1).val = t.val % 4)

/-- Where the block of queries of a point starts. -/
theorem at0 : ∀ t : Fin cfg0.N, win0_0.index t 0 * win0_0.size 0 = t.val / 4 ∧ win0_0.index t 1 * win0_0.size 1 = 512 * (t.val % 4)
    ∧ win0_0.index t 2 * win0_0.size 2 = 0 :=
  (by decide +kernel : ∀ t : Fin grid0.N, win0_0.index t 0 * win0_0.size 0 = t.val / 4 ∧ win0_0.index t 1 * win0_0.size 1 = 512 * (t.val % 4)
    ∧ win0_0.index t 2 * win0_0.size 2 = 0)

/-- Where the keys of a point start. -/
theorem at1 : ∀ t : Fin cfg0.N, win0_1.index t 0 * win0_1.size 0 = t.val / 4 ∧ win0_1.index t 1 * win0_1.size 1 = 0
    ∧ win0_1.index t 2 * win0_1.size 2 = 0 :=
  (by decide +kernel : ∀ t : Fin grid0.N, win0_1.index t 0 * win0_1.size 0 = t.val / 4 ∧ win0_1.index t 1 * win0_1.size 1 = 0
    ∧ win0_1.index t 2 * win0_1.size 2 = 0)

/-- Where the values of a point start. -/
theorem at2 : ∀ t : Fin cfg0.N, win0_2.index t 0 * win0_2.size 0 = t.val / 4 ∧ win0_2.index t 1 * win0_2.size 1 = 0
    ∧ win0_2.index t 2 * win0_2.size 2 = 0 :=
  (by decide +kernel : ∀ t : Fin grid0.N, win0_2.index t 0 * win0_2.size 0 = t.val / 4 ∧ win0_2.index t 1 * win0_2.size 1 = 0
    ∧ win0_2.index t 2 * win0_2.size 2 = 0)

/-- Where the block of weighted sums of a point starts, and its extents. -/
theorem at3 : ∀ t : Fin cfg0.N, (win0_3.index t 0 * win0_3.size 0 = t.val / 4 ∧ win0_3.index t 1 * win0_3.size 1 = 512 * (t.val % 4)
    ∧ win0_3.index t 2 * win0_3.size 2 = 0) ∧ win0_3.xsize (grid0.coords t) 0 = 1 ∧ win0_3.xsize (grid0.coords t) 1 = 512
    ∧ win0_3.xsize (grid0.coords t) 2 = 64 :=
  (by decide +kernel : ∀ t : Fin grid0.N, (win0_3.index t 0 * win0_3.size 0 = t.val / 4 ∧ win0_3.index t 1 * win0_3.size 1 = 512 * (t.val % 4)
    ∧ win0_3.index t 2 * win0_3.size 2 = 0) ∧ win0_3.xsize (grid0.coords t) 0 = 1 ∧ win0_3.xsize (grid0.coords t) 1 = 512
    ∧ win0_3.xsize (grid0.coords t) 2 = 64)

/-- Where the block of totals of a point starts, and its extents. -/
theorem at4 : ∀ t : Fin cfg0.N, (win0_4.index t 0 * win0_4.size 0 = t.val / 4 ∧ win0_4.index t 1 * win0_4.size 1 = 512 * (t.val % 4)
    ∧ win0_4.index t 2 * win0_4.size 2 = 0) ∧ win0_4.xsize (grid0.coords t) 0 = 1 ∧ win0_4.xsize (grid0.coords t) 1 = 512
    ∧ win0_4.xsize (grid0.coords t) 2 = 1 :=
  (by decide +kernel : ∀ t : Fin grid0.N, (win0_4.index t 0 * win0_4.size 0 = t.val / 4 ∧ win0_4.index t 1 * win0_4.size 1 = 512 * (t.val % 4)
    ∧ win0_4.index t 2 * win0_4.size 2 = 0) ∧ win0_4.xsize (grid0.coords t) 0 = 1 ∧ win0_4.xsize (grid0.coords t) 1 = 512
    ∧ win0_4.xsize (grid0.coords t) 2 = 1)

section Arrays

variable (m : (ℓ : Loc nD τ sig) → Buf (Elt Ideal) ℓ) (c : Dev nD) (q k : ℕ → ℕ → ℕ → ℝ) (v : ℕ → ℕ → ℕ → EReal)
  (hq : (V m c main_v2 : FVec Ideal S16x2048x64 .bf16) = rv3 .bf16 q)
  (hk : (V m c main_v3 : FVec Ideal S16x2048x64 .bf16) = rv3 .bf16 k)
  (hv : (V m c main_v4 : FVec Ideal S16x2048x64 .bf16) = ev3 .bf16 v)

include hq in
/-- The block of queries a point reads. -/
theorem read0 (t : Fin cfg0.N) : (iblk m c 0 t : Vec Ideal S1x512x64 .bf16)
    = (rv3 .bf16 fun _ => kblk (q (t.val / 4)) (t.val % 4) : FVec Ideal S1x512x64 .bf16) :=
  tile3 _ hq _ (win0_0.rect t).emb (fun _ => rfl) (win0_0.rect_emb_val t) (at0 t)

include hk in
/-- The keys a point reads: all of its head. -/
theorem read1 (t : Fin cfg0.N) : (iblk m c 1 t : Vec Ideal S1x2048x64 .bf16)
    = (rv3 .bf16 fun _ => k (t.val / 4) : FVec Ideal S1x2048x64 .bf16) :=
  (tile3 _ hk _ (win0_1.rect t).emb (fun _ => rfl) (win0_1.rect_emb_val t) (at1 t)).trans
    (rv3_congr fun _ _ r _ _ _ => by rw [Nat.zero_add r])

include hv in
/-- The values a point reads: all of its head. -/
theorem read2 (t : Fin cfg0.N) : (iblk m c 2 t : Vec Ideal S1x2048x64 .bf16)
    = (ev3 .bf16 fun _ => v (t.val / 4) : FVec Ideal S1x2048x64 .bf16) :=
  (Mixer.tileAt3 _ (A := v) hv _ (win0_2.rect t).emb (fun _ => rfl) (win0_2.rect_emb_val t) (at2 t)).trans
    (Mixer.ev3_congr fun _ _ r _ d _ => by rw [Nat.zero_add r, Nat.zero_add d])

/-- The weighted sums of row block `n` of head `h`. -/
def oG (h n r d : ℕ) : EReal := accF n (kblk (q h) n) (k h) (v h) 0 r d

/-- The sums of the logarithms of row block `n` of head `h`. -/
def totG (h n r : ℕ) : ℝ := sufF n (kblk (q h) n) (k h) 0 r

include hq hk hv

/-- What the two results' buffers hold after a point. -/
theorem outs_eq (t : Fin cfg0.N) :
    (outsAt0 m c t).1 = (ev3 .f32 fun _ r d => oG q k v (t.val / 4) (t.val % 4) r d : FVec Ideal S1x512x64 .f32)
    ∧ (outsAt0 m c t).2 = (rv3 .f32 fun _ r _ => totG q k (t.val / 4) (t.val % 4) r : FVec Ideal S1x512x1 .f32) := by
  have P := point c (grid0.coords t) (ms0_0 t) (hs0_0 t) (ms0_1 t) (hs0_1 t) (ms0_2 t) (hs0_2 t) (ms0_3 t) (hs0_3 t)
    (ms0_4 t) (hs0_4 t) _ _ _ _ _ _ (read0 m c q hq t) (read1 m c k hk t) (read2 m c v hv t)
  rw [(coords_eq t).2] at P
  unfold outsAt0
  dsimp only
  exact ⟨P.1, P.2⟩

/-- The weighted sums. -/
theorem final3 : ((dats m 0 c).arrAt 3 cfg0.N : FVec Ideal S16x2048x64 .f32)
    = ev3 .f32 fun h r d => oG q k v h (r / 512) (r % 512) d := by
  refine (dats m 0 c).arrAt_eq_of_cover 3 _ (fun t _ => ?_) (fun i => ?_)
  · rw [Cert.StickFwdIdeal.Value.flushed3, (outs_eq m c q k v hq hk hv t).1]
    funext y
    have y0 : (y 0).val < 1 := (y 0).isLt
    have y1 : (y 1).val < 512 := (y 1).isLt
    rw [View.read_apply]
    have e0 := win0_3.rect_emb_val t y 0
    have e1 := win0_3.rect_emb_val t y 1
    have e2 := win0_3.rect_emb_val t y 2
    rw [(at3 t).1.1] at e0
    rw [(at3 t).1.2.1] at e1
    rw [(at3 t).1.2.2] at e2
    have e0' : ((win0_3.rect t).emb y 0 : ℕ) = t.val / 4 := by rw [e0]; show t.val / 4 + (y 0).val = _; omega
    have e1' : ((win0_3.rect t).emb y 1 : ℕ) / 512 = t.val % 4 := by rw [e1]; show (512 * (t.val % 4) + (y 1).val) / 512 = _; omega
    have e1'' : ((win0_3.rect t).emb y 1 : ℕ) % 512 = (y 1).val := by rw [e1]; show (512 * (t.val % 4) + (y 1).val) % 512 = _; omega
    have e2' : ((win0_3.rect t).emb y 2 : ℕ) = (y 2).val := by rw [e2]; show 0 + (y 2).val = _; omega
    show oG q k v (t.val / 4) (t.val % 4) (y 1).val (y 2).val
      = oG q k v ((win0_3.rect t).emb y 0 : ℕ) (((win0_3.rect t).emb y 1 : ℕ) / 512) (((win0_3.rect t).emb y 1 : ℕ) % 512)
          ((win0_3.rect t).emb y 2 : ℕ)
    rw [e0', e1', e1'', e2']
  · have i0 : (i 0 : ℕ) < 16 := (i 0).isLt
    have i1 : (i 1 : ℕ) < 2048 := (i 1).isLt
    have i2 : (i 2 : ℕ) < 64 := (i 2).isLt
    have hN : cfg0.N = 64 := N_0
    refine ⟨⟨4 * (i 0 : ℕ) + (i 1 : ℕ) / 512, by omega⟩, flush0_3 _, ?_⟩
    generalize ht' : (⟨4 * (i 0 : ℕ) + (i 1 : ℕ) / 512, _⟩ : Fin cfg0.N) = t
    have hv' : t.val = 4 * (i 0 : ℕ) + (i 1 : ℕ) / 512 := by rw [← ht']
    show i ∈ ((View.whole main_v5_0).slice (win0_3.rect t)).set
    rw [View.set_slice_whole]
    exact Mixer.mem_block3 (at3 t) (by omega) (by omega) (by omega)

/-- The sums of the logarithms. -/
theorem final4 : ((dats m 0 c).arrAt 4 cfg0.N : FVec Ideal S16x2048x1 .f32)
    = rv3 .f32 fun h r _ => totG q k h (r / 512) (r % 512) := by
  refine (dats m 0 c).arrAt_eq_of_cover 4 _ (fun t _ => ?_) (fun i => ?_)
  · rw [Cert.StickFwdIdeal.Value.flushed4, (outs_eq m c q k v hq hk hv t).2]
    funext y
    have y0 : (y 0).val < 1 := (y 0).isLt
    have y1 : (y 1).val < 512 := (y 1).isLt
    rw [View.read_apply]
    have e0 := win0_4.rect_emb_val t y 0
    have e1 := win0_4.rect_emb_val t y 1
    rw [(at4 t).1.1] at e0
    rw [(at4 t).1.2.1] at e1
    have e0' : ((win0_4.rect t).emb y 0 : ℕ) = t.val / 4 := by rw [e0]; show t.val / 4 + (y 0).val = _; omega
    have e1' : ((win0_4.rect t).emb y 1 : ℕ) / 512 = t.val % 4 := by rw [e1]; show (512 * (t.val % 4) + (y 1).val) / 512 = _; omega
    have e1'' : ((win0_4.rect t).emb y 1 : ℕ) % 512 = (y 1).val := by rw [e1]; show (512 * (t.val % 4) + (y 1).val) % 512 = _; omega
    show ((totG q k (t.val / 4) (t.val % 4) (y 1).val : ℝ) : EReal)
      = ((totG q k ((win0_4.rect t).emb y 0 : ℕ) (((win0_4.rect t).emb y 1 : ℕ) / 512) (((win0_4.rect t).emb y 1 : ℕ) % 512) : ℝ) : EReal)
    rw [e0', e1', e1'']
  · have i0 : (i 0 : ℕ) < 16 := (i 0).isLt
    have i1 : (i 1 : ℕ) < 2048 := (i 1).isLt
    have i2 : (i 2 : ℕ) < 1 := (i 2).isLt
    have hN : cfg0.N = 64 := N_0
    refine ⟨⟨4 * (i 0 : ℕ) + (i 1 : ℕ) / 512, by omega⟩, flush0_4 _, ?_⟩
    generalize ht' : (⟨4 * (i 0 : ℕ) + (i 1 : ℕ) / 512, _⟩ : Fin cfg0.N) = t
    have hv' : t.val = 4 * (i 0 : ℕ) + (i 1 : ℕ) / 512 := by rw [← ht']
    show i ∈ ((View.whole main_v5_1).slice (win0_4.rect t)).set
    rw [View.set_slice_whole]
    exact Mixer.mem_block3 (at4 t) (by omega) (by omega) (by omega)

end Arrays

end Cert.Stick.Fwd

end
-- ==== Proof.FwdResults.lean ====
/-
  The forward call's two results, and its reference's, where the queries and keys are arrays of real numbers: the same
  arrays, whatever the values are. The reference's weights and logarithms are those of the forward pass the reference of
  the gradients runs.
-/
module

public import proofs.«01_k».proof.Proof.FwdArray
public import proofs.«01_k».proof.Proof.KernelHost
public import proofs.«01_k».proof.Proof.Finite
public import proofs.«01_k».proof.Proof.Gen.StickFwdRefIdeal.Read
public import proofs.«01_k».proof.Pre_finite_logits

@[expose] public section

set_option maxRecDepth 16384

noncomputable section

namespace Cert.Stick.Fwd

open Idealize.ShloMosaic
open Cert.Mixer (ev2 ev3 en3 eq_ev3 ev2_congr ev3_congr)
open scoped Classical

/-- The weighted sums of the values. -/
def oA (q k : ℕ → ℕ → ℕ → ℝ) (v : ℕ → ℕ → ℕ → EReal) (h t d : ℕ) : EReal :=
  ∑ s ∈ Finset.range 2048, (wA q k h t s : EReal) * v h s d

section Kernel

open StableHlo Cert.StickFwdIdeal Cert.StickFwdIdeal.Gen

variable (m : (ℓ : Loc nD τ sig) → Buf (Elt Ideal) ℓ) (c : Dev nD)

theorem V_main_v2 : V m c main_v2 = scaledT (m ((c.tc : Thread nD τ).loc main_arg0) : FVec Ideal S16x2048x64 .f32) := by
  simp only [V, hostOps0, List.flatten_cons, List.flatten_nil, List.append_nil,
    List.cons_append, List.nil_append, TRef.binary, TRef.nullary, TRef.ternary, TRef.unary, TRef.toBuf, TRef.ofBuf, cast_eq]
  after_results_simp <;> rfl

theorem V_main_v3 : (V m c main_v3 : FVec Ideal S16x2048x64 .bf16) = narrowT (m ((c.tc : Thread nD τ).loc main_arg1) : FVec Ideal S16x2048x64 .f32) := by
  simp only [V, hostOps0, List.flatten_cons, List.flatten_nil, List.append_nil,
    List.cons_append, List.nil_append, TRef.binary, TRef.nullary, TRef.ternary, TRef.unary, TRef.toBuf, TRef.ofBuf, cast_eq]
  after_results_simp <;> rfl

theorem V_main_v4 : (V m c main_v4 : FVec Ideal S16x2048x64 .bf16) = narrowT (m ((c.tc : Thread nD τ).loc main_arg2) : FVec Ideal S16x2048x64 .f32) := by
  simp only [V, hostOps0, List.flatten_cons, List.flatten_nil, List.append_nil,
    List.cons_append, List.nil_append, TRef.binary, TRef.nullary, TRef.ternary, TRef.unary, TRef.toBuf, TRef.ofBuf, cast_eq]
  after_results_simp <;> rfl

variable (q k : ℕ → ℕ → ℕ → ℝ) (v : ℕ → ℕ → ℕ → EReal)
  (h0 : (m ((c.tc : Thread nD τ).loc main_arg0) : FVec Ideal S16x2048x64 .f32) = rv3 .f32 q)
  (h1 : (m ((c.tc : Thread nD τ).loc main_arg1) : FVec Ideal S16x2048x64 .f32) = rv3 .f32 k)
  (h2 : (m ((c.tc : Thread nD τ).loc main_arg2) : FVec Ideal S16x2048x64 .f32) = ev3 .f32 v)

include h0 in
theorem entry_q : (V m c main_v2 : FVec Ideal S16x2048x64 .bf16) = rv3 .bf16 (qS q) :=
  (V_main_v2 m c).trans ((congrArg scaledT h0).trans (scaledT_rv3 q))

include h1 in
theorem entry_k : (V m c main_v3 : FVec Ideal S16x2048x64 .bf16) = rv3 .bf16 k :=
  (V_main_v3 m c).trans (congrArg narrowT h1)

include h2 in
theorem entry_v : (V m c main_v4 : FVec Ideal S16x2048x64 .bf16) = ev3 .bf16 v :=
  (V_main_v4 m c).trans (congrArg narrowT h2)

include h0 h1 h2

/-- The kernel's weighted sums. -/
theorem kernel_o : ((dats m 0 c).arrAt 3 cfg0.N : FVec Ideal S16x2048x64 .f32) = ev3 .f32 (oA q k v) :=
  (final3 m c (qS q) k v (entry_q m c q h0) (entry_k m c k h1) (entry_v m c v h2)).trans (ev3_congr fun h _ t ht d _ =>
    (acc_all q k h (t / 512) (t % 512) (v h) d).trans (by rw [Nat.div_add_mod]; rfl))

/-- The kernel's totals. -/
theorem kernel_tot : ((dats m 0 c).arrAt 4 cfg0.N : FVec Ideal S16x2048x1 .f32) = rv3 .f32 fun h t _ => totA q k h t :=
  (final4 m c (qS q) k v (entry_q m c q h0) (entry_k m c k h1) (entry_v m c v h2)).trans (rv3_congr fun h _ t ht d _ =>
    (suf_all q k h (t / 512) (t % 512)).trans (by rw [Nat.div_add_mod]))

end Kernel

section Reference

open Cert.StickFwdRefIdeal Cert.StickFwdRefIdeal.Gen Cert.StickFwdRefIdeal.Read

variable {x0 x1 x2 : FVec Ideal S16x2048x64 .f32} {q k : ℕ → ℕ → ℕ → ℝ} {v : ℕ → ℕ → ℕ → EReal}
  (h0 : x0 = rv3 .f32 q) (h1 : x1 = rv3 .f32 k) (h2 : x2 = ev3 .f32 v)

include h0 h1

theorem ref_left_over : val_main_v14 (F := Ideal) x0 x1 = rv3 .f32 (lkA q k) :=
  (show val_main_v14 (F := Ideal) x0 x1 = Cert.ReferenceIdeal.Read.val_main_v14_0 (F := Ideal) x0 x1 from rfl).trans (left_over h0 h1)

theorem ref_masked : val_main_v20 (F := Ideal) x0 x1 = rv3 .f32 (wA q k) :=
  (show val_main_v20 (F := Ideal) x0 x1 = Cert.ReferenceIdeal.Read.val_main_v20_0 (F := Ideal) x0 x1 from rfl).trans (masked h0 h1)

/-- The reference's totals. -/
theorem ref_tot : val_main_v23 (F := Ideal) x0 x1 = rv3 .f32 fun h t _ => totA q k h t := by
  funext i
  rw [val_main_v23_apply, val_main_v22_apply, ref_left_over h0 h1]
  refine (congrArg (· + _) zero_word).trans ?_
  change ((0 : ℝ) : EReal) + _ = ((totA q k (i 0).val (i 1).val : ℝ) : EReal)
  rw [EReal.coe_zero, zero_add, totA, Finset.sum_range, coe_sum]
  rfl

include h2 in
/-- The reference's weighted sums. -/
theorem ref_o : val_main_v21 (F := Ideal) x0 x1 x2 = ev3 .f32 (oA q k v) := by
  funext i
  rw [val_main_v21_apply, ref_masked h0 h1]
  subst h2
  change _ = ∑ s ∈ Finset.range 2048, (wA q k (i 0).val (i 1).val s : EReal) * v (i 0).val s (i 2).val
  rw [Finset.sum_range]
  rfl

end Reference

/-! ## The precondition -/

/-- The precondition's shape relation. -/
theorem logitsFacts : Cert.Pre_finite_logits.Facts where
  bcast_S_S16x2048x64 := by decide

/-- The precondition, spelled out at the arrays' entries: the queries and keys are real numbers. -/
theorem logits_iff [Cert.Pre_finite_logits.Facts] {x0 x1 x2 : FVec Ideal Cert.Pre_finite_logits.S16x2048x64 .f32}
    (h : Cert.Pre_finite_logits.fn (F := Ideal) x0 x1 x2 = fun _ => 1#1) :
    x0 = rv3 .f32 (entries x0) ∧ x1 = rv3 .f32 (entries x1) := by
  have bits : ∀ i, BitVec.ofBool (decide (max (x0 i : EReal) (-x0 i) < (⊤ : EReal))) = 1#1
      ∧ BitVec.ofBool (decide (max (x1 i : EReal) (-x1 i) < (⊤ : EReal))) = 1#1 := by
    intro i
    have e : BitVec.ofBool (decide (max (x0 i : EReal) (-x0 i) < Ideal.ofBits .f32 0x7F800000#32))
        &&& BitVec.ofBool (decide (max (x1 i : EReal) (-x1 i) < Ideal.ofBits .f32 0x7F800000#32)) = 1#1 := congrFun h i
    rw [top_word] at e
    exact and_ones e
  exact ⟨rv3_entries x0 fun i => real_of_lt_top _ (bits i).1, rv3_entries x1 fun i => real_of_lt_top _ (bits i).2⟩

end Cert.Stick.Fwd

end
-- ==== Proof.NormBlock.lean ====
/-
  The gradient of the layer norm, on a block of 256 rows of real numbers: which arrays each step of the kernel gives. A row
  `u` is centred and divided by its deviation; the gradient of the row is the cotangent, weighted, less its mean and less
  its part along the normalised row, over the deviation. The gradients of the weight and of the bias are sums over the rows.

The entries of `u` need not be numbers. A row with an infinite entry has an infinite mean, all its centred entries are infinite, its
deviation is +∞, and its normalised entries are 0: such a row gets the gradient 0.
-/
module

public import proofs.«01_k».proof.Proof.Rows
public import proofs.«01_k».proof.Proof.Entries
public import proofs.«01_k».proof.Proof.Gen.NormBwdIdeal.Frame
public import Idealize.ShloMosaic.Lib.VecWindow

@[expose] public section

set_option maxRecDepth 16384

noncomputable section

namespace Cert.Norm

open Idealize.ShloMosaic Idealize.ShloMosaic.ValueIdx
open Cert.Stick Cert.Mixer

/-! ## The numbers -/

/-- The number added to the variance: the 32-bit word of `1e-5`. -/
def eps : ℝ := 10995116 / 2 ^ 40

/-- The mean of a row. -/
def mean (U : ℕ → ℕ → ℝ) (r : ℕ) : ℝ := (∑ c ∈ Finset.range 2048, U r c) * (1 / 2048)

/-- The row, centred. -/
def cen (U : ℕ → ℕ → ℝ) (r c : ℕ) : ℝ := U r c - mean U r

/-- The variance of a row, and `eps`. -/
def vare (U : ℕ → ℕ → ℝ) (r : ℕ) : ℝ := mean (fun r c => cen U r c * cen U r c) r + eps

/-- One over the deviation. -/
def inv (U : ℕ → ℕ → ℝ) (r : ℕ) : ℝ := (Real.sqrt (vare U r))⁻¹

/-- The normalised row. -/
def hat (U : ℕ → ℕ → ℝ) (r c : ℕ) : ℝ := cen U r c * inv U r

/-- The gradient of a row, from the normalised rows `H` and one over their deviations, `I`. -/
def duR (D H : ℕ → ℕ → ℝ) (I G : ℕ → ℝ) (r c : ℕ) : ℝ :=
  (D r c * G c - H r c * mean (fun r c => D r c * G c * H r c) r - mean (fun r c => D r c * G c) r) * I r

theorem vare_pos (U : ℕ → ℕ → ℝ) (r : ℕ) : 0 < vare U r := by
  refine add_pos_of_nonneg_of_pos (mul_nonneg (Finset.sum_nonneg fun c _ => mul_self_nonneg _) (by norm_num)) ?_
  unfold eps; norm_num

theorem count_word : (Scalar.ofBits .f32 0x45000000#32 : Ideal .f32) = ((2048 : ℝ) : EReal) := by
  change Ideal.ofBits .f32 0x45000000#32 = _
  simp [Ideal.ofBits, Ideal.ieee, -EReal.coe_mul]; norm_num

theorem eps_word : (Scalar.ofBits .f32 0x3727C5AC#32 : Ideal .f32) = ((eps : ℝ) : EReal) := by
  change Ideal.ofBits .f32 0x3727C5AC#32 = _
  unfold eps
  simp [Ideal.ofBits, Ideal.ieee, -EReal.coe_mul]; norm_num

theorem div_countE (x : EReal) : Ideal.div x (Scalar.ofBits .f32 0x45000000#32 : Ideal .f32) = x * ((1 / 2048 : ℝ) : EReal) := by
  rw [count_word]
  exact Ideal.div_coe (by norm_num) _

theorem div_count (x : ℝ) : Ideal.div (x : EReal) (Scalar.ofBits .f32 0x45000000#32 : Ideal .f32) = ((x * (1 / 2048) : ℝ) : EReal) :=
  (div_countE _).trans (EReal.coe_mul _ _).symm

theorem rsqrt_pos {x : ℝ} (h : 0 < x) : Ideal.rsqrt (x : EReal) = (((Real.sqrt x)⁻¹ : ℝ) : EReal) :=
  (if_neg (not_lt.mpr h.le)).trans (if_neg h.ne')

/-! ## Rows of extended reals -/

/-- The mean of a row. -/
def meanE (E : ℕ → ℕ → EReal) (r : ℕ) : EReal := (∑ c ∈ Finset.range 2048, E r c) * ((1 / 2048 : ℝ) : EReal)

/-- The row, centred. -/
def cenE (E : ℕ → ℕ → EReal) (r c : ℕ) : EReal := E r c - meanE E r

/-- The variance of a row, and `eps`. -/
def vareE (E : ℕ → ℕ → EReal) (r : ℕ) : EReal := meanE (fun r c => cenE E r c * cenE E r c) r + (eps : EReal)

/-- Every entry of the row is a number. -/
def Numbers (E : ℕ → ℕ → EReal) (r : ℕ) : Prop := ∀ c < 2048, ∃ x : ℝ, E r c = (x : EReal)

/-- The entries as real numbers. -/
def reals (E : ℕ → ℕ → EReal) (r c : ℕ) : ℝ := (E r c).toReal

open Classical in
/-- One over the deviation: 0 at a row that holds an infinity. -/
def invN (E : ℕ → ℕ → EReal) (r : ℕ) : ℝ := if Numbers E r then inv (reals E) r else 0

open Classical in
/-- The normalised row: 0 at a row that holds an infinity. -/
def hatN (E : ℕ → ℕ → EReal) (r c : ℕ) : ℝ := if Numbers E r then hat (reals E) r c else 0

/-- The gradient of a row. -/
def duN (D : ℕ → ℕ → ℝ) (E : ℕ → ℕ → EReal) (G : ℕ → ℝ) : ℕ → ℕ → ℝ := duR D (hatN E) (invN E) G

section Numbers

variable {E : ℕ → ℕ → EReal} {r : ℕ} (h : Numbers E r)

include h

theorem entry_coe {c : ℕ} (hc : c < 2048) : E r c = ((reals E r c : ℝ) : EReal) := by
  obtain ⟨x, hx⟩ := h c hc
  unfold reals
  rw [hx, EReal.toReal_coe]

theorem mean_coe : meanE E r = ((mean (reals E) r : ℝ) : EReal) := by
  unfold meanE mean
  rw [EReal.coe_mul, Finset.sum_range, Finset.sum_range, coe_sum]
  exact congrArg (· * _) (Finset.sum_congr rfl fun k _ => entry_coe h k.isLt)

theorem cen_coe {c : ℕ} (hc : c < 2048) : cenE E r c = ((cen (reals E) r c : ℝ) : EReal) := by
  unfold cenE cen
  rw [entry_coe h hc, mean_coe h, EReal.coe_sub]

theorem vare_coe : vareE E r = ((vare (reals E) r : ℝ) : EReal) := by
  unfold vareE vare meanE mean
  rw [EReal.coe_add, EReal.coe_mul, Finset.sum_range, Finset.sum_range, coe_sum]
  exact congrArg (· * _ + _) (Finset.sum_congr rfl fun k _ => by
    beta_reduce
    rw [cen_coe h k.isLt, EReal.coe_mul])

end Numbers

section Infinities

/-- The parts of a sum that is a number are numbers. -/
theorem parts {a b : EReal} (h : ∃ x : ℝ, a + b = (x : EReal)) : (∃ x : ℝ, a = (x : EReal)) ∧ ∃ x : ℝ, b = (x : EReal) := by
  obtain ⟨x, hx⟩ := h
  induction a with
  | bot => rw [EReal.bot_add] at hx; exact absurd hx (EReal.bot_ne_coe x)
  | top =>
    induction b with
    | bot => rw [EReal.add_bot] at hx; exact absurd hx (EReal.bot_ne_coe x)
    | top => exact absurd hx (EReal.top_ne_coe x)
    | coe b => rw [EReal.top_add_coe] at hx; exact absurd hx (EReal.top_ne_coe x)
  | coe a =>
    induction b with
    | bot => rw [EReal.add_bot] at hx; exact absurd hx (EReal.bot_ne_coe x)
    | top => rw [EReal.coe_add_top] at hx; exact absurd hx (EReal.top_ne_coe x)
    | coe b => exact ⟨⟨a, rfl⟩, ⟨b, rfl⟩⟩

theorem terms (f : ℕ → EReal) (n : ℕ) (h : ∃ x : ℝ, ∑ c ∈ Finset.range n, f c = (x : EReal)) : ∀ c < n, ∃ x : ℝ, f c = (x : EReal) := by
  induction n with
  | zero => exact fun c hc => absurd hc (Nat.not_lt_zero c)
  | succ n ih =>
    rw [Finset.sum_range_succ] at h
    intro c hc
    rcases Nat.lt_succ_iff_lt_or_eq.mp hc with h' | h'
    · exact ih (parts h).1 c h'
    · exact h' ▸ (parts h).2

theorem sum_top (n : ℕ) : ∑ _c ∈ Finset.range (n + 1), (⊤ : EReal) = ⊤ := by
  induction n with
  | zero => exact Finset.sum_range_one _
  | succ n ih => rw [Finset.sum_range_succ, ih]; rfl

variable {E : ℕ → ℕ → EReal} {r : ℕ} (h : ¬Numbers E r)

include h

theorem mean_infinite : meanE E r = ⊤ ∨ meanE E r = ⊥ := by
  have hs : ¬∃ x : ℝ, ∑ c ∈ Finset.range 2048, E r c = (x : EReal) := fun hx => h (terms (E r) 2048 hx)
  unfold meanE
  generalize ∑ c ∈ Finset.range 2048, E r c = s at hs
  induction s with
  | bot => exact .inr (EReal.bot_mul_coe_of_pos (by norm_num))
  | top => exact .inl (EReal.top_mul_coe_of_pos (by norm_num))
  | coe x => exact absurd ⟨x, rfl⟩ hs

theorem cen_infinite (c : ℕ) : cenE E r c = ⊤ ∨ cenE E r c = ⊥ := by
  unfold cenE
  rcases mean_infinite h with e | e <;> rw [e]
  · exact .inr (by rw [sub_eq_add_neg, EReal.neg_top, EReal.add_bot])
  · rw [sub_eq_add_neg, EReal.neg_bot]
    generalize E r c = a
    induction a with
    | bot => exact .inr (EReal.bot_add _)
    | top => exact .inl rfl
    | coe a => exact .inl (EReal.coe_add_top a)

theorem vare_infinite : vareE E r = ⊤ := by
  have e : ∀ c, cenE E r c * cenE E r c = ⊤ := fun c => by
    rcases cen_infinite h c with e | e <;> rw [e]
    · exact EReal.top_mul_top
    · exact EReal.bot_mul_bot
  unfold vareE meanE
  simp only [e]
  rw [sum_top 2047, EReal.top_mul_coe_of_pos (by norm_num), EReal.top_add_coe]

end Infinities

theorem inverse (E : ℕ → ℕ → EReal) (r : ℕ) : Ideal.rsqrt (vareE E r) = ((invN E r : ℝ) : EReal) := by
  unfold invN
  by_cases h : Numbers E r
  · rw [if_pos h, vare_coe h]; exact rsqrt_pos (vare_pos _ r)
  · rw [if_neg h, vare_infinite h]; rfl

theorem normalised (E : ℕ → ℕ → EReal) (r : ℕ) {c : ℕ} (hc : c < 2048) : cenE E r c * ((invN E r : ℝ) : EReal) = ((hatN E r c : ℝ) : EReal) := by
  unfold invN hatN
  by_cases h : Numbers E r
  · rw [if_pos h, if_pos h, cen_coe h hc]; exact (EReal.coe_mul _ _).symm
  · rw [if_neg h, if_neg h, EReal.coe_zero, mul_zero]

section Kernel

open Cert.NormBwdIdeal Cert.NormBwdIdeal.Gen

/-! ## The operations that carry a shape -/

theorem row_sumsE (f : ℕ → ℕ → EReal) :
    shapeCast S256x1 (multiReduction .add [1] S256 (ev2 .f32 f : FVec Ideal S256x2048 .f32) 0x00000000#32 reduces_S256x2048_S256 (.inl rfl) rfl)
      shapeCasts_S256_S256x1 = ev2 .f32 fun r _ => ∑ c ∈ Finset.range 2048, f r c :=
  funext fun i => by
    refine (congrArg _ (eq_ix2 i)).trans ((shapeCast_a_a1_apply _ shapeCasts_S256_S256x1 (i 0) (i 1)).trans ?_)
    refine (Ideal.multiReduction_add_single (ev2 .f32 f : FVec Ideal S256x2048 .f32) _ reduces_S256x2048_S256 (.inl rfl) rfl _).trans ?_
    change _ = ∑ c ∈ Finset.range 2048, f (i 0).val c
    rw [Finset.sum_range]
    refine Finset.sum_congr rfl fun k _ => ?_
    rfl

theorem row_sums (f : ℕ → ℕ → ℝ) :
    shapeCast S256x1 (multiReduction .add [1] S256 (rv2 .f32 f : FVec Ideal S256x2048 .f32) 0x00000000#32 reduces_S256x2048_S256 (.inl rfl) rfl)
      shapeCasts_S256_S256x1 = rv2 .f32 fun r _ => ∑ c ∈ Finset.range 2048, f r c :=
  (row_sumsE fun r c => (f r c : EReal)).trans (funext fun i => by
    change ∑ c ∈ Finset.range 2048, (f (i 0).val c : EReal) = (((∑ c ∈ Finset.range 2048, f (i 0).val c : ℝ)) : EReal)
    rw [Finset.sum_range, Finset.sum_range, coe_sum])

theorem column_sums (f : ℕ → ℕ → ℝ) :
    shapeCast S1x2048 (multiReduction .add [0] S2048 (rv2 .f32 f : FVec Ideal S256x2048 .f32) 0x00000000#32 reduces_S256x2048_S2048 (.inl rfl) rfl)
      shapeCasts_S2048_S1x2048 = rv2 .f32 fun _ c => ∑ r ∈ Finset.range 256, f r c :=
  funext fun i => by
    have h0 : (i 0).val < 1 := (i 0).isLt
    refine (shapeCast_apply _ shapeCasts_S2048_S1x2048 i (ix1 (i 1)) ?_).trans ?_
    · rewrite [Shape.rowMajor_val_one, Shape.rowMajor_val_two]
      show (i 1).val = (i 0).val * 2048 + (i 1).val
      omega
    refine (Ideal.multiReduction_add_single (rv2 .f32 f : FVec Ideal S256x2048 .f32) _ reduces_S256x2048_S2048 (.inl rfl) rfl _).trans ?_
    change _ = (((∑ r ∈ Finset.range 256, f r (i 1).val : ℝ)) : EReal)
    rw [Finset.sum_range, coe_sum]
    refine Finset.sum_congr rfl fun k _ => ?_
    rfl

/-- One column, repeated along the rows. -/
theorem columnE (f : ℕ → ℕ → EReal) : broadcastTo S256x2048 (ev2 .f32 f : FVec Ideal S256x1 .f32) broadcasts_S256x1_S256x2048
    = ev2 .f32 fun r _ => f r 0 :=
  funext fun i => by
    rw [broadcastTo_apply (ev2 .f32 f : FVec Ideal S256x1 .f32) broadcasts_S256x1_S256x2048 i (ix2 (i 0) (0 : Fin 1)) fun a => ?_]
    · rfl
    · match a with
      | ⟨0, _⟩ => rfl
      | ⟨1, _⟩ => rfl

theorem column (f : ℕ → ℕ → ℝ) : broadcastTo S256x2048 (rv2 .f32 f : FVec Ideal S256x1 .f32) broadcasts_S256x1_S256x2048
    = rv2 .f32 fun r _ => f r 0 := columnE fun r c => (f r c : EReal)

/-- One row, repeated along the columns. -/
theorem row (f : ℕ → ℕ → ℝ) : broadcastTo S256x2048 (rv2 .f32 f : FVec Ideal S1x2048 .f32) broadcasts_S1x2048_S256x2048
    = rv2 .f32 fun _ c => f 0 c :=
  funext fun i => by
    rw [broadcastTo_apply (rv2 .f32 f : FVec Ideal S1x2048 .f32) broadcasts_S1x2048_S256x2048 i (ix2 (0 : Fin 1) (i 1)) fun a => ?_]
    · rfl
    · match a with
      | ⟨0, _⟩ => rfl
      | ⟨1, _⟩ => rfl

theorem over_count (f : ℕ → ℕ → ℝ) :
    divf (rv2 .f32 f : FVec Ideal S256x1 .f32) (broadcast S256x1 (Scalar.ofBits .f32 0x45000000#32))
      = rv2 .f32 fun r c => f r c * (1 / 2048) := funext fun _ => div_count _

theorem over_countE (f : ℕ → ℕ → EReal) :
    divf (ev2 .f32 f : FVec Ideal S256x1 .f32) (broadcast S256x1 (Scalar.ofBits .f32 0x45000000#32))
      = ev2 .f32 fun r c => f r c * ((1 / 2048 : ℝ) : EReal) := funext fun _ => div_countE _

theorem broadcast_eps : (broadcast S256x1 (Scalar.ofBits .f32 0x3727C5AC#32) : FVec Ideal S256x1 .f32)
    = rv2 .f32 fun _ _ => eps := funext fun _ => eps_word

/-! ## The steps -/

variable (U : ℕ → ℕ → EReal) (D : ℕ → ℕ → ℝ) (G : ℕ → ℝ)

theorem centred_eq : k0_pay5 (F := Ideal) (ev2 .f32 U) = ev2 .f32 (cenE U) := by
  unfold k0_pay5
  dsimp only
  rw [row_sumsE, over_countE, columnE]
  rfl

theorem inverse_eq : k0_pay6 (F := Ideal) (ev2 .f32 U) = rv2 .f32 fun r _ => invN U r := by
  unfold k0_pay6
  dsimp only
  rw [centred_eq, mulf_ev2, row_sumsE, over_countE, broadcast_eps]
  exact funext fun i => inverse U (i 0).val

theorem normalised_eq : k0_pay7 (F := Ideal) (ev2 .f32 U) = rv2 .f32 (hatN U) := by
  unfold k0_pay7
  dsimp only
  rw [centred_eq, inverse_eq, column]
  exact funext fun i => normalised U (i 0).val (i 1).isLt

theorem du_eq : k0_pay8 (F := Ideal) (ev2 .f32 U) (rv2 .f32 D) (rv2 .f32 fun _ => G) = rv2 .f32 (duN D U G) := by
  unfold k0_pay8
  dsimp only
  rw [shapeCast_self, row, inverse_eq, normalised_eq, mulf_rv2, mulf_rv2, row_sums, row_sums, over_count, over_count, column, column, column,
    mulf_rv2, subf_rv2, subf_rv2, mulf_rv2]
  rfl

theorem du16_eq : k0_pay9 (F := Ideal) (ev2 .f32 U) (rv2 .f32 D) (rv2 .f32 fun _ => G) = rv2 .bf16 (duN D U G) :=
  congrArg (fun x => truncf .bf16 x bitsLt_bf16_f32) (du_eq U D G)

theorem dg_step (H : ℕ → ℕ → ℝ) (s : ℕ → ℝ) : k0_pay3 (F := Ideal) (rv2 .f32 D) (rv2 .f32 H) (rv2 .f32 fun _ => s)
    = rv2 .f32 fun _ c => s c + ∑ r ∈ Finset.range 256, D r c * H r c := by
  unfold k0_pay3
  dsimp only
  rw [shapeCast_self, mulf_rv2, column_sums, addf_rv2]

theorem db_step (s : ℕ → ℝ) : k0_pay4 (F := Ideal) (rv2 .f32 D) (rv2 .f32 fun _ => s)
    = rv2 .f32 fun _ c => s c + ∑ r ∈ Finset.range 256, D r c := by
  unfold k0_pay4
  dsimp only
  rw [shapeCast_self, column_sums, addf_rv2]

theorem dg_start : k0_pay1 (F := Ideal) = rv2 .f32 fun _ _ => 0 := broadcast_zero

theorem db_start : k0_pay2 (F := Ideal) = rv2 .f32 fun _ _ => 0 := broadcast_zero

/-! ## One grid point -/

section Point

variable (c : Dev nD) (i : grid0.Coords) (arg1 : Memref sig .tc .vmem S256x2048 .f32) (harg1 : arg1.IsWhole)
  (arg2 : Memref sig .tc .vmem S256x2048 .f32) (harg2 : arg2.IsWhole) (arg3 : Memref sig .tc .vmem S1x2048 .f32) (harg3 : arg3.IsWhole)
  (arg5 : Memref sig .tc .vmem S256x2048 .f32) (harg5 : arg5.IsWhole) (arg6 : Memref sig .tc .vmem S256x2048 .bf16) (harg6 : arg6.IsWhole)
  (arg7 : Memref sig .tc .vmem S1x2048 .f32) (harg7 : arg7.IsWhole) (arg8 : Memref sig .tc .vmem S1x2048 .f32) (harg8 : arg8.IsWhole)
  {x0 x1 : Vec Ideal S256x2048 .f32} {x2 y z : Vec Ideal S1x2048 .f32} {U : ℕ → ℕ → EReal} {D : ℕ → ℕ → ℝ} {G s t : ℕ → ℝ}
  (h0 : x0 = (rv2 .f32 D : FVec Ideal S256x2048 .f32)) (h1 : x1 = (ev2 .f32 U : FVec Ideal S256x2048 .f32))
  (h2 : x2 = (rv2 .f32 fun _ => G : FVec Ideal S1x2048 .f32))
  (hy : y = (rv2 .f32 fun _ => s : FVec Ideal S1x2048 .f32)) (hz : z = (rv2 .f32 fun _ => t : FVec Ideal S1x2048 .f32))

include h0 h1 h2

/-- What the first point leaves. -/
theorem first (hc : cond0_0 i) :
    out0_A_3 (F := Ideal) c i arg1 harg1 arg2 harg2 arg3 harg3 arg5 harg5 arg6 harg6 arg7 harg7 arg8 harg8 hc x0 x1 x2
      = (rv2 .f32 (duN D U G) : FVec Ideal S256x2048 .f32)
    ∧ out0_A_4 (F := Ideal) c i arg1 harg1 arg2 harg2 arg3 harg3 arg5 harg5 arg6 harg6 arg7 harg7 arg8 harg8 hc x0 x1 x2
      = (rv2 .bf16 (duN D U G) : FVec Ideal S256x2048 .bf16)
    ∧ out0_A_5 (F := Ideal) c i arg1 harg1 arg2 harg2 arg3 harg3 arg5 harg5 arg6 harg6 arg7 harg7 arg8 harg8 hc x0 x1 x2
      = (rv2 .f32 fun _ d => ∑ r ∈ Finset.range 256, D r d * hatN U r d : FVec Ideal S1x2048 .f32)
    ∧ out0_A_6 (F := Ideal) c i arg1 harg1 arg2 harg2 arg3 harg3 arg5 harg5 arg6 harg6 arg7 harg7 arg8 harg8 hc x0 x1 x2
      = (rv2 .f32 fun _ d => ∑ r ∈ Finset.range 256, D r d : FVec Ideal S1x2048 .f32) := by
  have l1 : ∀ inb, arg1.view.readAt (Elt Ideal) (Rect.unit (s := S256x2048) ![0, 0] S256x2048.size inb).toLoadRect (harg1.unread x0)
      = (rv2 .f32 D : FVec Ideal S256x2048 .f32) := fun _ => (View.readAt_full _ _ _).trans ((harg1.read_unread x0).trans h0)
  have l2 : ∀ inb, arg2.view.readAt (Elt Ideal) (Rect.unit (s := S256x2048) ![0, 0] S256x2048.size inb).toLoadRect (harg2.unread x1)
      = (ev2 .f32 U : FVec Ideal S256x2048 .f32) := fun _ => (View.readAt_full _ _ _).trans ((harg2.read_unread x1).trans h1)
  have l3 : ∀ inb, arg3.view.readAt (Elt Ideal) (Rect.unit (s := S1x2048) ![0, 0] S1x2048.size inb).toLoadRect (harg3.unread x2)
      = (rv2 .f32 fun _ => G : FVec Ideal S1x2048 .f32) := fun _ => (View.readAt_full _ _ _).trans ((harg3.read_unread x2).trans h2)
  have e0 : kernelRun0_A.sl.r c arg1 harg1 x0 = (rv2 .f32 D : FVec Ideal S256x2048 .f32) := l1 _
  have e1 : kernelRun0_A.sl.r_1 c arg2 harg2 x1 = (rv2 .f32 (hatN U) : FVec Ideal S256x2048 .f32) := (congrArg k0_pay7 (l2 _)).trans (normalised_eq U)
  have e2 : kernelRun0_A.sl.r_2 c arg1 harg1 arg2 harg2 arg3 harg3 x0 x1 x2 = (rv2 .bf16 (duN D U G) : FVec Ideal S256x2048 .bf16) :=
    (congr (congr (congrArg k0_pay9 (l2 _)) (l1 _)) (l3 _)).trans (du16_eq U D G)
  refine ⟨?_, ?_, ?_, ?_⟩
  · unfold out0_A_3 kernelRun0_A
    dsimp only
    exact (View.read_writes_full _ _ _ _ _).trans ((congr (congr (congrArg k0_pay8 (l2 _)) (l1 _)) (l3 _)).trans (du_eq U D G))
  · unfold out0_A_4 kernelRun0_A
    dsimp only
    exact (View.read_writes_full _ _ _ _ _).trans e2
  · unfold out0_A_5 kernelRun0_A
    dsimp only
    refine (View.read_writes_full _ _ _ _ _).trans ?_
    rw [e0, e1]
    refine (congrArg (k0_pay3 _ _) ((View.readAt_full _ _ _).trans ((View.read_writes_full _ _ _ _ _).trans dg_start))).trans ((dg_step D (hatN U) _).trans (rv2_congr fun _ _ _ _ => zero_add _))
  · unfold out0_A_6 kernelRun0_A
    dsimp only
    refine (View.read_writes_full _ _ _ _ _).trans ?_
    rw [e0]
    refine (congrArg (k0_pay4 _) ((View.readAt_full _ _ _).trans ((View.read_writes_full _ _ _ _ _).trans db_start))).trans ((db_step D _).trans (rv2_congr fun _ _ _ _ => zero_add _))

include hy hz

/-- What a later point leaves, over the sums the point before left. -/
theorem later (hc : ¬cond0_0 i) :
    out0_B_3 (F := Ideal) c i arg1 harg1 arg2 harg2 arg3 harg3 arg5 harg5 arg6 harg6 arg7 harg7 arg8 harg8 hc x0 x1 x2 y z
      = (rv2 .f32 (duN D U G) : FVec Ideal S256x2048 .f32)
    ∧ out0_B_4 (F := Ideal) c i arg1 harg1 arg2 harg2 arg3 harg3 arg5 harg5 arg6 harg6 arg7 harg7 arg8 harg8 hc x0 x1 x2 y z
      = (rv2 .bf16 (duN D U G) : FVec Ideal S256x2048 .bf16)
    ∧ out0_B_5 (F := Ideal) c i arg1 harg1 arg2 harg2 arg3 harg3 arg5 harg5 arg6 harg6 arg7 harg7 arg8 harg8 hc x0 x1 x2 y z
      = (rv2 .f32 fun _ d => s d + ∑ r ∈ Finset.range 256, D r d * hatN U r d : FVec Ideal S1x2048 .f32)
    ∧ out0_B_6 (F := Ideal) c i arg1 harg1 arg2 harg2 arg3 harg3 arg5 harg5 arg6 harg6 arg7 harg7 arg8 harg8 hc x0 x1 x2 y z
      = (rv2 .f32 fun _ d => t d + ∑ r ∈ Finset.range 256, D r d : FVec Ideal S1x2048 .f32) := by
  have l1 : ∀ inb, arg1.view.readAt (Elt Ideal) (Rect.unit (s := S256x2048) ![0, 0] S256x2048.size inb).toLoadRect (harg1.unread x0)
      = (rv2 .f32 D : FVec Ideal S256x2048 .f32) := fun _ => (View.readAt_full _ _ _).trans ((harg1.read_unread x0).trans h0)
  have l2 : ∀ inb, arg2.view.readAt (Elt Ideal) (Rect.unit (s := S256x2048) ![0, 0] S256x2048.size inb).toLoadRect (harg2.unread x1)
      = (ev2 .f32 U : FVec Ideal S256x2048 .f32) := fun _ => (View.readAt_full _ _ _).trans ((harg2.read_unread x1).trans h1)
  have l3 : ∀ inb, arg3.view.readAt (Elt Ideal) (Rect.unit (s := S1x2048) ![0, 0] S1x2048.size inb).toLoadRect (harg3.unread x2)
      = (rv2 .f32 fun _ => G : FVec Ideal S1x2048 .f32) := fun _ => (View.readAt_full _ _ _).trans ((harg3.read_unread x2).trans h2)
  have e0 : kernelRun0_B.sl.r c arg1 harg1 x0 = (rv2 .f32 D : FVec Ideal S256x2048 .f32) := l1 _
  have e1 : kernelRun0_B.sl.r_1 c arg2 harg2 x1 = (rv2 .f32 (hatN U) : FVec Ideal S256x2048 .f32) := (congrArg k0_pay7 (l2 _)).trans (normalised_eq U)
  have e2 : kernelRun0_B.sl.r_2 c arg1 harg1 arg2 harg2 arg3 harg3 x0 x1 x2 = (rv2 .bf16 (duN D U G) : FVec Ideal S256x2048 .bf16) :=
    (congr (congr (congrArg k0_pay9 (l2 _)) (l1 _)) (l3 _)).trans (du16_eq U D G)
  refine ⟨?_, ?_, ?_, ?_⟩
  · unfold out0_B_3 kernelRun0_B
    dsimp only
    exact (View.read_writes_full _ _ _ _ _).trans ((congr (congr (congrArg k0_pay8 (l2 _)) (l1 _)) (l3 _)).trans (du_eq U D G))
  · unfold out0_B_4 kernelRun0_B
    dsimp only
    exact (View.read_writes_full _ _ _ _ _).trans e2
  · unfold out0_B_5 kernelRun0_B
    dsimp only
    refine (View.read_writes_full _ _ _ _ _).trans ?_
    rw [e0, e1]
    refine (congrArg (k0_pay3 _ _) ((View.readAt_full _ _ _).trans ((harg7.read_unread y).trans hy))).trans ((dg_step D (hatN U) _).trans rfl)
  · unfold out0_B_6 kernelRun0_B
    dsimp only
    refine (View.read_writes_full _ _ _ _ _).trans ?_
    rw [e0]
    refine (congrArg (k0_pay4 _) ((View.readAt_full _ _ _).trans ((harg8.read_unread z).trans hz))).trans ((db_step D _).trans rfl)

end Point

end Kernel

end Cert.Norm

end
-- ==== Proof.NormArray.lean ====
/-
  The arrays the layer norm's gradient leaves. The grid runs over the eight blocks of 256 rows, in order. The blocks of the
  rows' gradient tile that result, in 32 bits and in 16; the gradients of the weight and of the bias are added up from
  block to block, and the last point writes them.
-/
module

public import proofs.«01_k».proof.Proof.NormBlock
public import proofs.«01_k».proof.Proof.Tiles
public import proofs.«01_k».proof.Proof.Gen.NormBwdIdeal.Value

@[expose] public section

set_option maxRecDepth 16384

noncomputable section

namespace Cert.Norm

open Idealize.ShloMosaic Cert.Stick Cert.Mixer Cert.NormBwdIdeal Cert.NormBwdIdeal.Gen

/-- The sum of the first blocks of 256. -/
def blocks (f : ℕ → ℕ → ℝ) (n d : ℕ) : ℝ := ∑ j ∈ Finset.range n, ∑ r ∈ Finset.range 256, f (256 * j + r) d

/-- The blocks are the whole sum. -/
theorem blocks_eq (f : ℕ → ℕ → ℝ) (n d : ℕ) : blocks f n d = ∑ r ∈ Finset.range (256 * n), f r d := by
  induction n with
  | zero => rfl
  | succ n ih => rw [Nat.mul_succ, Finset.sum_range_add, ← ih]; exact Finset.sum_range_succ _ n

/-- A block of a matrix of extended reals, all its columns. -/
theorem tileE {M N m n : ℕ} {φ : FTy} (x : FVec Ideal ⟨2, ![M, N]⟩ φ) {A : ℕ → ℕ → EReal} (hx : x = ev2 φ A)
    (z : FVec Ideal ⟨2, ![m, n]⟩ φ) (e : (⟨2, ![m, n]⟩ : Shape).Idx → (⟨2, ![M, N]⟩ : Shape).Idx) (hz : ∀ y, z y = x (e y))
    {o : Fin 2 → ℕ} {a : ℕ} (he : ∀ y k, (e y k).val = o k + (y k).val) (h : o 0 = a ∧ o 1 = 0) :
    z = ev2 φ fun r c => A (a + r) c :=
  (tileAt2 x hx z e hz he h).trans (ev2_congr fun _ _ c _ => by rw [Nat.zero_add c])

/-- A block of a matrix of real numbers. -/
theorem tile {M N m n : ℕ} {φ : FTy} (x : FVec Ideal ⟨2, ![M, N]⟩ φ) {A : ℕ → ℕ → ℝ} (hx : x = rv2 φ A)
    (z : FVec Ideal ⟨2, ![m, n]⟩ φ) (e : (⟨2, ![m, n]⟩ : Shape).Idx → (⟨2, ![M, N]⟩ : Shape).Idx) (hz : ∀ y, z y = x (e y))
    {o : Fin 2 → ℕ} {a : ℕ} (he : ∀ y k, (e y k).val = o k + (y k).val) (h : o 0 = a ∧ o 1 = 0) :
    z = rv2 φ fun r c => A (a + r) c :=
  tileE x (A := fun r c => (A r c : EReal)) hx z e hz he h

/-- Where a point's rows of the cotangent start. -/
theorem at0 : ∀ t : Fin cfg0.N, win0_0.index t 0 * win0_0.size 0 = 256 * t.val ∧ win0_0.index t 1 * win0_0.size 1 = 0 :=
  by decide +kernel

/-- Where a point's rows start. -/
theorem at1 : ∀ t : Fin cfg0.N, win0_1.index t 0 * win0_1.size 0 = 256 * t.val ∧ win0_1.index t 1 * win0_1.size 1 = 0 :=
  by decide +kernel

/-- Where the weight starts. -/
theorem at2 : ∀ t : Fin cfg0.N, win0_2.index t 0 * win0_2.size 0 = 0 ∧ win0_2.index t 1 * win0_2.size 1 = 0 :=
  by decide +kernel

/-- Where a point's rows of the gradient start, and their extents. -/
theorem at3 : ∀ t : Fin cfg0.N, (win0_3.index t 0 * win0_3.size 0 = 256 * t.val ∧ win0_3.index t 1 * win0_3.size 1 = 0)
    ∧ win0_3.xsize (grid0.coords t) 0 = 256 ∧ win0_3.xsize (grid0.coords t) 1 = 2048 :=
  by decide +kernel

/-- The same, for the gradient in 16 bits. -/
theorem at4 : ∀ t : Fin cfg0.N, (win0_4.index t 0 * win0_4.size 0 = 256 * t.val ∧ win0_4.index t 1 * win0_4.size 1 = 0)
    ∧ win0_4.xsize (grid0.coords t) 0 = 256 ∧ win0_4.xsize (grid0.coords t) 1 = 2048 :=
  by decide +kernel

/-- Where the weight's gradient starts, and its extents. -/
theorem at5 : ∀ t : Fin cfg0.N, (win0_5.index t 0 * win0_5.size 0 = 0 ∧ win0_5.index t 1 * win0_5.size 1 = 0)
    ∧ win0_5.xsize (grid0.coords t) 0 = 1 ∧ win0_5.xsize (grid0.coords t) 1 = 2048 :=
  by decide +kernel

/-- Where the bias's gradient starts, and its extents. -/
theorem at6 : ∀ t : Fin cfg0.N, (win0_6.index t 0 * win0_6.size 0 = 0 ∧ win0_6.index t 1 * win0_6.size 1 = 0)
    ∧ win0_6.xsize (grid0.coords t) 0 = 1 ∧ win0_6.xsize (grid0.coords t) 1 = 2048 :=
  by decide +kernel

section Arrays

variable (m : (ℓ : Loc nD τ sig) → Buf (Elt Ideal) ℓ) (c : Dev nD) (D : ℕ → ℕ → ℝ) (U : ℕ → ℕ → EReal) (G : ℕ → ℝ)
  (hD : (V m c main_arg0 : FVec Ideal S2048x2048 .f32) = rv2 .f32 D)
  (hU : (V m c main_arg1 : FVec Ideal S2048x2048 .f32) = ev2 .f32 U)
  (hG : (V m c main_v1 : FVec Ideal S1x2048 .f32) = rv2 .f32 fun _ => G)

include hD in
theorem read0 (t : Fin cfg0.N) : (iblk m c 0 t : FVec Ideal S256x2048 .f32) = rv2 .f32 fun r d => D (256 * t.val + r) d :=
  tile _ hD _ (win0_0.rect t).emb (fun _ => rfl) (win0_0.rect_emb_val t) (at0 t)

include hU in
theorem read1 (t : Fin cfg0.N) : (iblk m c 1 t : FVec Ideal S256x2048 .f32) = ev2 .f32 fun r d => U (256 * t.val + r) d :=
  tileE _ hU _ (win0_1.rect t).emb (fun _ => rfl) (win0_1.rect_emb_val t) (at1 t)

include hG in
theorem read2 (t : Fin cfg0.N) : (iblk m c 2 t : FVec Ideal S1x2048 .f32) = rv2 .f32 fun _ => G :=
  tile _ hG _ (win0_2.rect t).emb (fun _ => rfl) (win0_2.rect_emb_val t) (at2 t)

include hD hU hG

/-- What the points leave: the gradient of their rows, and the sums so far. -/
def Left (n : ℕ) (o : Vec Ideal S256x2048 .f32 × Vec Ideal S256x2048 .bf16 × Vec Ideal S1x2048 .f32 × Vec Ideal S1x2048 .f32) : Prop :=
  o.1 = (rv2 .f32 fun r d => duN D U G (256 * n + r) d : FVec Ideal S256x2048 .f32)
    ∧ o.2.1 = (rv2 .bf16 fun r d => duN D U G (256 * n + r) d : FVec Ideal S256x2048 .bf16)
    ∧ o.2.2.1 = (rv2 .f32 fun _ d => blocks (fun r d => D r d * hatN U r d) (n + 1) d : FVec Ideal S1x2048 .f32)
    ∧ o.2.2.2 = (rv2 .f32 fun _ d => blocks D (n + 1) d : FVec Ideal S1x2048 .f32)

theorem outs_first (t : Fin cfg0.N) (h0 : t.val = 0) : Left D U G t.val (outsAt0 m c t.val t.isLt) := by
  have h8 : t.val % 8 = 0 := by omega
  obtain ⟨p3, p4, p5, p6⟩ := first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    (read0 m c D hD t) (read1 m c U hU t) (read2 m c G hG t) ((hcond0_0 t).mpr h8)
  have e : ∀ f : ℕ → ℕ → ℝ, ∀ d, ∑ r ∈ Finset.range 256, f (256 * t.val + r) d = blocks f (t.val + 1) d := fun f d => by
    rw [h0, blocks, Nat.zero_add, Finset.sum_range_one]
  unfold Left
  rw [outsAt0_A m c t h8]
  dsimp only
  exact ⟨p3, p4, p5.trans (rv2_congr fun _ _ d _ => e (fun r d => D r d * hatN U r d) d), p6.trans (rv2_congr fun _ _ d _ => e D d)⟩

theorem outs_later (t : Fin cfg0.N) (h0 : ¬t.val % 8 = 0)
    (ih : Left D U G (t.val - 1) (outsAt0 m c (t.val - 1) (Nat.lt_of_le_of_lt (Nat.sub_le _ _) t.isLt))) :
    Left D U G t.val (outsAt0 m c t.val t.isLt) := by
  obtain ⟨-, -, i5, i6⟩ := ih
  obtain ⟨p3, p4, p5, p6⟩ := later c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    (read0 m c D hD t) (read1 m c U hU t) (read2 m c G hG t) i5 i6 (fun h => h0 ((hcond0_0 t).mp h))
  have e : ∀ f : ℕ → ℕ → ℝ, ∀ d, blocks f (t.val - 1 + 1) d + ∑ r ∈ Finset.range 256, f (256 * t.val + r) d = blocks f (t.val + 1) d :=
    fun f d => by rw [show t.val - 1 + 1 = t.val by omega]; exact (Finset.sum_range_succ _ t.val).symm
  unfold Left
  rw [outsAt0_B m c t h0]
  dsimp only
  exact ⟨p3, p4, p5.trans (rv2_congr fun _ _ d _ => e (fun r d => D r d * hatN U r d) d), p6.trans (rv2_congr fun _ _ d _ => e D d)⟩

theorem outs_eq (n : ℕ) : ∀ hn : n < cfg0.N, Left D U G n (outsAt0 m c n hn) := by
  induction n with
  | zero => exact fun hn => outs_first m c D U G hD hU hG ⟨0, hn⟩ rfl
  | succ n ih =>
    intro hn
    have hN : cfg0.N = 8 := N_0
    exact outs_later m c D U G hD hU hG ⟨n + 1, hn⟩ (by show ¬(n + 1) % 8 = 0; omega) (ih (Nat.lt_of_succ_lt hn))

/-- The gradient of the rows. -/
theorem final3 : ((dats m 0 c).arrAt 3 cfg0.N : FVec Ideal S2048x2048 .f32) = rv2 .f32 (duN D U G) := by
  refine (dats m 0 c).arrAt_eq_of_cover 3 _ (fun t _ => ?_) (fun i => ?_)
  · rw [Cert.NormBwdIdeal.Value.flushed3]
    refine (congrArg _ (outs_eq m c D U G hD hU hG t.val t.isLt).1).trans ?_
    exact Eq.symm (tile (rv2 .f32 (duN D U G) : FVec Ideal S2048x2048 .f32) rfl
      (fun y : S256x2048.Idx => (rv2 .f32 (duN D U G) : FVec Ideal S2048x2048 .f32) ((win0_3.rect t).emb y))
      (win0_3.rect t).emb (fun _ => rfl) (win0_3.rect_emb_val t) (at3 t).1)
  · have i0 : (i 0 : ℕ) < 2048 := (i 0).isLt
    have i1 : (i 1 : ℕ) < 2048 := (i 1).isLt
    have hN : cfg0.N = 8 := N_0
    refine ⟨⟨(i 0 : ℕ) / 256, by omega⟩, flush0_3 _, ?_⟩
    generalize ht' : (⟨(i 0 : ℕ) / 256, _⟩ : Fin cfg0.N) = t
    have hv' : t.val = (i 0 : ℕ) / 256 := by rw [← ht']
    show i ∈ ((View.whole main_v2_0).slice (win0_3.rect t)).set
    rw [View.set_slice_whole]
    exact mem_block2 (at3 t) (by omega) (by omega)

/-- The gradient of the rows, in 16 bits. -/
theorem final4 : ((dats m 0 c).arrAt 4 cfg0.N : FVec Ideal S2048x2048 .bf16) = rv2 .bf16 (duN D U G) := by
  refine (dats m 0 c).arrAt_eq_of_cover 4 _ (fun t _ => ?_) (fun i => ?_)
  · rw [Cert.NormBwdIdeal.Value.flushed4]
    refine (congrArg _ (outs_eq m c D U G hD hU hG t.val t.isLt).2.1).trans ?_
    exact Eq.symm (tile (rv2 .bf16 (duN D U G) : FVec Ideal S2048x2048 .bf16) rfl
      (fun y : S256x2048.Idx => (rv2 .bf16 (duN D U G) : FVec Ideal S2048x2048 .bf16) ((win0_4.rect t).emb y))
      (win0_4.rect t).emb (fun _ => rfl) (win0_4.rect_emb_val t) (at4 t).1)
  · have i0 : (i 0 : ℕ) < 2048 := (i 0).isLt
    have i1 : (i 1 : ℕ) < 2048 := (i 1).isLt
    have hN : cfg0.N = 8 := N_0
    refine ⟨⟨(i 0 : ℕ) / 256, by omega⟩, flush0_4 _, ?_⟩
    generalize ht' : (⟨(i 0 : ℕ) / 256, _⟩ : Fin cfg0.N) = t
    have hv' : t.val = (i 0 : ℕ) / 256 := by rw [← ht']
    show i ∈ ((View.whole main_v2_1).slice (win0_4.rect t)).set
    rw [View.set_slice_whole]
    exact mem_block2 (at4 t) (by omega) (by omega)

/-- The weight's gradient. -/
theorem final5 : ((dats m 0 c).arrAt 5 cfg0.N : FVec Ideal S1x2048 .f32) = rv2 .f32 fun _ d => ∑ r ∈ Finset.range 2048, D r d * hatN U r d := by
  refine (dats m 0 c).arrAt_eq_of_cover 5 _ (fun t ht => ?_) (fun i => ?_)
  · have h7 : t.val = 7 := by have := (flush0_5 t).mp ht; have := t.isLt; have : cfg0.N = 8 := N_0; omega
    rw [Cert.NormBwdIdeal.Value.flushed5]
    refine (congrArg _ ((outs_eq m c D U G hD hU hG t.val t.isLt).2.2.1.trans
      (rv2_congr fun _ _ _ _ => (blocks_eq _ _ _).trans (by rw [h7])))).trans ?_
    exact Eq.symm (tile (rv2 .f32 (fun _ d => ∑ r ∈ Finset.range 2048, D r d * hatN U r d) : FVec Ideal S1x2048 .f32) rfl
      (fun y : S1x2048.Idx => (rv2 .f32 (fun _ d => ∑ r ∈ Finset.range 2048, D r d * hatN U r d) : FVec Ideal S1x2048 .f32) ((win0_5.rect t).emb y))
      (win0_5.rect t).emb (fun _ => rfl) (win0_5.rect_emb_val t) (at5 t).1)
  · have i0 : (i 0 : ℕ) < 1 := (i 0).isLt
    have i1 : (i 1 : ℕ) < 2048 := (i 1).isLt
    have hN : cfg0.N = 8 := N_0
    refine ⟨⟨7, by omega⟩, (flush0_5 _).mpr rfl, ?_⟩
    generalize (⟨7, _⟩ : Fin cfg0.N) = t
    show i ∈ ((View.whole main_v2_2).slice (win0_5.rect t)).set
    rw [View.set_slice_whole]
    exact mem_block2 (at5 t) (by omega) (by omega)

/-- The bias's gradient. -/
theorem final6 : ((dats m 0 c).arrAt 6 cfg0.N : FVec Ideal S1x2048 .f32) = rv2 .f32 fun _ d => ∑ r ∈ Finset.range 2048, D r d := by
  refine (dats m 0 c).arrAt_eq_of_cover 6 _ (fun t ht => ?_) (fun i => ?_)
  · have h7 : t.val = 7 := by have := (flush0_6 t).mp ht; have := t.isLt; have : cfg0.N = 8 := N_0; omega
    rw [Cert.NormBwdIdeal.Value.flushed6]
    refine (congrArg _ ((outs_eq m c D U G hD hU hG t.val t.isLt).2.2.2.trans
      (rv2_congr fun _ _ _ _ => (blocks_eq _ _ _).trans (by rw [h7])))).trans ?_
    exact Eq.symm (tile (rv2 .f32 (fun _ d => ∑ r ∈ Finset.range 2048, D r d) : FVec Ideal S1x2048 .f32) rfl
      (fun y : S1x2048.Idx => (rv2 .f32 (fun _ d => ∑ r ∈ Finset.range 2048, D r d) : FVec Ideal S1x2048 .f32) ((win0_6.rect t).emb y))
      (win0_6.rect t).emb (fun _ => rfl) (win0_6.rect_emb_val t) (at6 t).1)
  · have i0 : (i 0 : ℕ) < 1 := (i 0).isLt
    have i1 : (i 1 : ℕ) < 2048 := (i 1).isLt
    have hN : cfg0.N = 8 := N_0
    refine ⟨⟨7, by omega⟩, (flush0_6 _).mpr rfl, ?_⟩
    generalize (⟨7, _⟩ : Fin cfg0.N) = t
    show i ∈ ((View.whole main_v2_3).slice (win0_6.rect t)).set
    rw [View.set_slice_whole]
    exact mem_block2 (at6 t) (by omega) (by omega)

end Arrays

end Cert.Norm

end
-- ==== Proof.NormResults.lean ====
/-
  The results of the layer norm's gradient, and of its reference, at a real cotangent and a real weight: the same arrays.
  The reference differentiates the layer norm as it is written, through the mean and through the deviation: the derivative
  of the deviation is a product by its cube, and the mean of the centred row vanishes. At a row that holds an infinity one
  over the deviation is 0, and so is the gradient of the row in both.
-/
module

public import proofs.«01_k».proof.Proof.NormArray
public import proofs.«01_k».proof.Proof.Finite
public import proofs.«01_k».proof.Proof.Gen.NormBwdRefIdeal.Read
public import proofs.«01_k».proof.Pre_finite_rows

@[expose] public section

set_option maxRecDepth 16384

noncomputable section

namespace Cert.Norm

open Idealize.ShloMosaic Idealize.ShloMosaic.ValueIdx
open Cert.Stick Cert.Mixer

/-- The vector of the real numbers `f c`. -/
def rv1 {n : ℕ} (f : ℕ → ℝ) : FVec Ideal ⟨1, ![n]⟩ .f32 := fun i => ((f (i 0).val : ℝ) : EReal)

/-! ## The equation of a row -/

/-- The gradient of a row before the mean is subtracted, as the reference adds it up. -/
def preR (D U : ℕ → ℕ → ℝ) (G : ℕ → ℝ) (r c : ℕ) : ℝ :=
  D r c * G c * inv U r
    + cen U r c * ((∑ d ∈ Finset.range 2048, cen U r d * (D r d * G d)) * (-(1 / 2) * (inv U r * (1 / vare U r))) * (1 / 2048))
    + ((∑ d ∈ Finset.range 2048, cen U r d * (D r d * G d)) * (-(1 / 2) * (inv U r * (1 / vare U r))) * (1 / 2048)) * cen U r c

theorem inv_sq (U : ℕ → ℕ → ℝ) (r : ℕ) : 1 / vare U r = inv U r * inv U r := by
  unfold inv
  rw [← mul_inv, Real.mul_self_sqrt (vare_pos U r).le, one_div]

/-- A centred row adds up to zero. -/
theorem cen_sum (U : ℕ → ℕ → ℝ) (r : ℕ) : ∑ c ∈ Finset.range 2048, cen U r c = 0 := by
  simp only [cen, Finset.sum_sub_distrib, Finset.sum_const, Finset.card_range, mean, nsmul_eq_mul]
  push_cast
  ring

theorem row_eq (D U : ℕ → ℕ → ℝ) (G : ℕ → ℝ) (r c : ℕ) :
    preR D U G r c + (∑ d ∈ Finset.range 2048, -preR D U G r d) * (1 / 2048) = duR D (hat U) (inv U) G r c := by
  have e1 : mean (fun r c => D r c * G c * hat U r c) r
      = (∑ d ∈ Finset.range 2048, cen U r d * (D r d * G d)) * inv U r * (1 / 2048) := by
    unfold mean
    refine congrArg (· * (1 / 2048)) ((Finset.sum_congr rfl fun d _ => ?_).trans (Finset.sum_mul _ _ _).symm)
    unfold hat
    ring
  have e2 : ∑ d ∈ Finset.range 2048, preR D U G r d = (∑ d ∈ Finset.range 2048, D r d * G d) * inv U r := by
    unfold preR
    rw [Finset.sum_add_distrib, Finset.sum_add_distrib, ← Finset.sum_mul, ← Finset.sum_mul, ← Finset.mul_sum, cen_sum]
    ring
  rw [Finset.sum_neg_distrib, e2]
  unfold preR duR
  rw [e1, inv_sq]
  unfold hat mean
  ring

open Classical in
/-- The slope of one over the deviation, in the variance. -/
def slopeN (E : ℕ → ℕ → EReal) (r : ℕ) : ℝ := if Numbers E r then -(1 / 2) * (inv (reals E) r * (1 / vare (reals E) r)) else 0

open Classical in
/-- The factor of the centred row in its gradient, once for each of the two factors of its square. -/
def alongN (D : ℕ → ℕ → ℝ) (E : ℕ → ℕ → EReal) (G : ℕ → ℝ) (r : ℕ) : ℝ :=
  if Numbers E r then (∑ d ∈ Finset.range 2048, cen (reals E) r d * (D r d * G d))
    * (-(1 / 2) * (inv (reals E) r * (1 / vare (reals E) r))) * (1 / 2048) else 0

open Classical in
/-- The gradient of a row before the mean is subtracted. -/
def preN (D : ℕ → ℕ → ℝ) (E : ℕ → ℕ → EReal) (G : ℕ → ℝ) (r c : ℕ) : ℝ := if Numbers E r then preR D (reals E) G r c else 0

theorem rowN_eq (D : ℕ → ℕ → ℝ) (E : ℕ → ℕ → EReal) (G : ℕ → ℝ) (r c : ℕ) :
    preN D E G r c + (∑ d ∈ Finset.range 2048, -preN D E G r d) * (1 / 2048) = duN D E G r c := by
  unfold preN duN duR mean hatN invN
  by_cases h : Numbers E r
  · simp only [if_pos h]
    exact row_eq D (reals E) G r c
  · simp only [if_neg h, neg_zero, Finset.sum_const_zero, zero_mul, add_zero, mul_zero]

theorem slope (E : ℕ → ℕ → EReal) (r : ℕ) :
    ((-(1 / 2) : ℝ) : EReal) * Ideal.div ((invN E r : ℝ) : EReal) (vareE E r) = ((slopeN E r : ℝ) : EReal) := by
  unfold invN slopeN
  by_cases h : Numbers E r
  · rw [if_pos h, if_pos h, vare_coe h, Ideal.div_coe (vare_pos _ r).ne', EReal.coe_mul, EReal.coe_mul]
  · rw [if_neg h, if_neg h, vare_infinite h, EReal.coe_zero, Ideal.div, if_neg EReal.top_ne_zero, zero_mul, mul_zero]

theorem along (D : ℕ → ℕ → ℝ) (E : ℕ → ℕ → EReal) (G : ℕ → ℝ) (r : ℕ) :
    (∑ k : Fin 2048, cenE E r k.val * ((D r k.val * G k.val : ℝ) : EReal)) * ((slopeN E r : ℝ) : EReal) * ((1 / 2048 : ℝ) : EReal)
      = ((alongN D E G r : ℝ) : EReal) := by
  unfold slopeN alongN
  by_cases h : Numbers E r
  · rw [if_pos h, if_pos h, EReal.coe_mul (_ * _) (1 / 2048), EReal.coe_mul (∑ d ∈ Finset.range 2048, _) _, Finset.sum_range, coe_sum]
    exact congrArg (· * _ * _) (Finset.sum_congr rfl fun k _ => by rw [cen_coe h k.isLt, ← EReal.coe_mul])
  · rw [if_neg h, if_neg h, EReal.coe_zero, mul_zero, zero_mul]

theorem pre (D : ℕ → ℕ → ℝ) (E : ℕ → ℕ → EReal) (G : ℕ → ℝ) (r : ℕ) {c : ℕ} (hc : c < 2048) :
    ((D r c * G c : ℝ) : EReal) * ((invN E r : ℝ) : EReal) + cenE E r c * ((alongN D E G r : ℝ) : EReal)
      + ((alongN D E G r : ℝ) : EReal) * cenE E r c = ((preN D E G r c : ℝ) : EReal) := by
  unfold invN alongN preN
  by_cases h : Numbers E r
  · rw [if_pos h, if_pos h, if_pos h, cen_coe h hc]
    unfold preR
    simp only [EReal.coe_add, EReal.coe_mul]
  · rw [if_neg h, if_neg h, if_neg h, EReal.coe_zero, mul_zero, mul_zero, zero_mul, add_zero, add_zero]

section Kernel

open StableHlo Cert.NormBwdIdeal Cert.NormBwdIdeal.Gen

variable (m : (ℓ : Loc nD τ sig) → Buf (Elt Ideal) ℓ) (c : Dev nD)

/-- What the host hands the grid: the weight, as a row. -/
theorem V_main_v1 : (V m c main_v1 : FVec Ideal S1x2048 .f32)
    = shapeCast S1x2048 (m ((c.tc : Thread nD τ).loc main_arg2) : FVec Ideal S2048 .f32) shapeCasts_S2048_S1x2048 := by
  simp only [V, hostOps0, List.flatten_cons, List.flatten_nil, List.append_nil,
    List.cons_append, List.nil_append, TRef.binary, TRef.nullary, TRef.ternary, TRef.unary, TRef.toBuf, TRef.ofBuf, cast_eq]
  after_results_simp <;> rfl

variable (D : ℕ → ℕ → ℝ) (U : ℕ → ℕ → EReal) (G : ℕ → ℝ)
  (h0 : (m ((c.tc : Thread nD τ).loc main_arg0) : FVec Ideal S2048x2048 .f32) = rv2 .f32 D)
  (h1 : (m ((c.tc : Thread nD τ).loc main_arg1) : FVec Ideal S2048x2048 .f32) = ev2 .f32 U)
  (h2 : (m ((c.tc : Thread nD τ).loc main_arg2) : FVec Ideal S2048 .f32) = rv1 G)

include h2 in
theorem entry_g : (V m c main_v1 : FVec Ideal S1x2048 .f32) = rv2 .f32 fun _ => G := by
  rw [V_main_v1, h2]
  funext i
  have i0 : (i 0).val < 1 := (i 0).isLt
  refine (shapeCast_apply _ shapeCasts_S2048_S1x2048 i (ix1 (i 1)) ?_).trans rfl
  rewrite [Shape.rowMajor_val_one, Shape.rowMajor_val_two]
  show (i 1).val = (i 0).val * 2048 + (i 1).val
  omega

include h0 h1 h2

theorem kernel_du : ((dats m 0 c).arrAt 3 cfg0.N : FVec Ideal S2048x2048 .f32) = rv2 .f32 (duN D U G) :=
  final3 m c D U G ((V_main_arg0 m c).trans h0) ((V_main_arg1 m c).trans h1) (entry_g m c G h2)

theorem kernel_du16 : ((dats m 0 c).arrAt 4 cfg0.N : FVec Ideal S2048x2048 .bf16) = rv2 .bf16 (duN D U G) :=
  final4 m c D U G ((V_main_arg0 m c).trans h0) ((V_main_arg1 m c).trans h1) (entry_g m c G h2)

theorem kernel_dg : ((dats m 0 c).arrAt 5 cfg0.N : FVec Ideal S1x2048 .f32) = rv2 .f32 fun _ d => ∑ r ∈ Finset.range 2048, D r d * hatN U r d :=
  final5 m c D U G ((V_main_arg0 m c).trans h0) ((V_main_arg1 m c).trans h1) (entry_g m c G h2)

theorem kernel_db : ((dats m 0 c).arrAt 6 cfg0.N : FVec Ideal S1x2048 .f32) = rv2 .f32 fun _ d => ∑ r ∈ Finset.range 2048, D r d :=
  final6 m c D U G ((V_main_arg0 m c).trans h0) ((V_main_arg1 m c).trans h1) (entry_g m c G h2)

end Kernel

section Reference

open Cert.NormBwdRefIdeal Cert.NormBwdRefIdeal.Gen Cert.NormBwdRefIdeal.Read

/-- Zero and a sum. -/
theorem zero_add_sumE {n : ℕ} (f : Fin n → EReal) : (Scalar.ofBits .f32 0x00000000#32 : Ideal .f32) + ∑ k : Fin n, f k = ∑ k : Fin n, f k := by
  refine (congrArg (· + _) Cert.Mixer.zero_word).trans ?_
  exact zero_add _

/-- Zero and a sum of real numbers. -/
theorem zero_add_sum {n : ℕ} (f : Fin n → EReal) (g : ℕ → ℝ) (h : ∀ k, f k = ((g k.val : ℝ) : EReal)) :
    (Scalar.ofBits .f32 0x00000000#32 : Ideal .f32) + ∑ k : Fin n, f k = ((∑ k ∈ Finset.range n, g k : ℝ) : EReal) := by
  rw [zero_add_sumE, Finset.sum_range, coe_sum]
  exact Finset.sum_congr rfl fun k _ => h k

/-- The word of minus a half. -/
theorem half_word : (Scalar.ofBits .f32 0xBF000000#32 : Ideal .f32) = ((-(1 / 2) : ℝ) : EReal) := by
  change Ideal.ofBits .f32 0xBF000000#32 = _
  simp [Ideal.ofBits, Ideal.ieee, -EReal.coe_mul]; norm_num

variable {x0 x1 : FVec Ideal S2048x2048 .f32} {x2 : FVec Ideal S2048 .f32} {D : ℕ → ℕ → ℝ} {U : ℕ → ℕ → EReal} {G : ℕ → ℝ}
  (h0 : x0 = rv2 .f32 D) (h1 : x1 = ev2 .f32 U) (h2 : x2 = rv1 G)

include h1

theorem ref_mean : val_main_v4 (F := Ideal) x1 = ev2 .f32 fun r _ => meanE U r := by
  funext i
  rw [val_main_v4_apply, val_main_v2_apply, val_main_v1_apply, val_main_v3_apply, val_main_cst_0_apply, val_main_cst_1_apply, h1]
  have e := zero_add_sumE (fun k => (ev2 .f32 U : FVec Ideal S2048x2048 .f32) (idx_main_v1 (idx_main_v2 i) k))
  exact (congrArg (fun x : EReal => Ideal.div x (Scalar.ofBits .f32 0x45000000#32 : Ideal .f32)) e).trans
    ((div_countE _).trans (congrArg (· * _) (Finset.sum_range fun k => U (i 0).val k).symm))

theorem ref_cen : val_main_v6 (F := Ideal) x1 = ev2 .f32 (cenE U) := by
  funext i
  rw [val_main_v6_apply, val_main_v5_apply, ref_mean h1, h1]
  rfl

theorem ref_vare : val_main_v13 (F := Ideal) x1 = ev2 .f32 fun r _ => vareE U r := by
  funext i
  rw [val_main_v13_apply, val_main_v11_apply, val_main_v9_apply, val_main_v8_apply, val_main_v10_apply, val_main_v12_apply]
  refine congrArg₂ (fun x y : EReal => x + y) ((congrArg (fun x : EReal => Ideal.div x _) (zero_add_sumE _)).trans
    ((div_countE _).trans (congrArg (· * _) ?_))) eps_word
  rw [Finset.sum_range]
  refine Finset.sum_congr rfl fun k _ => ?_
  rw [val_main_v7_apply, ref_cen h1]
  rfl

theorem ref_inv : val_main_v14 (F := Ideal) x1 = rv2 .f32 fun r _ => invN U r := by
  funext i
  rw [val_main_v14_apply, ref_vare h1]
  exact inverse U (i 0).val

theorem ref_slope : val_main_v17 (F := Ideal) x1 = rv2 .f32 fun r _ => slopeN U r := by
  funext i
  rw [val_main_v17_apply, val_main_v16_apply, val_main_v15_apply, ref_vare h1, ref_inv h1]
  exact (congrArg (fun x : EReal => x * _) half_word).trans (slope U (i 0).val)

theorem ref_hat : val_main_v19 (F := Ideal) x1 = rv2 .f32 (hatN U) := by
  funext i
  rw [val_main_v19_apply, val_main_v18_apply, ref_cen h1, ref_inv h1]
  exact normalised U (i 0).val (i 1).isLt

include h0

theorem ref_dg : val_main_v59 (F := Ideal) x0 x1 = rv2 .f32 fun _ d => ∑ r ∈ Finset.range 2048, D r d * hatN U r d := by
  funext i
  rw [val_main_v59_apply, val_main_v35_apply]
  refine (zero_add_sum _ (fun _ => ∑ r ∈ Finset.range 2048, D r (i 1).val * hatN U r (i 1).val) fun k => ?_).trans
    (congrArg Real.toEReal (Finset.sum_range_one _))
  rw [val_main_v32_apply, val_main_v31_apply]
  refine zero_add_sum _ _ fun r => ?_
  rw [val_main_v30_apply, ref_hat h1, show val_main_v26 (F := Ideal) x0 = x0 from shapeCast_self _ _, h0]
  have k0 : k.val = 0 := by have := k.isLt; omega
  refine (EReal.coe_mul _ _).symm.trans (congrArg Real.toEReal ?_)
  show hatN U r.val (k.val * 2048 + (i 1).val) * D r.val (k.val * 2048 + (i 1).val) = _
  rw [k0, Nat.zero_mul, Nat.zero_add, mul_comm]

omit h1 in
theorem ref_db : val_main_v60 (F := Ideal) x0 = rv2 .f32 fun _ d => ∑ r ∈ Finset.range 2048, D r d := by
  funext i
  rw [val_main_v60_apply, val_main_v29_apply]
  refine (zero_add_sum _ (fun _ => ∑ r ∈ Finset.range 2048, D r (i 1).val) fun k => ?_).trans
    (congrArg Real.toEReal (Finset.sum_range_one _))
  rw [val_main_v28_apply, val_main_v27_apply]
  refine zero_add_sum _ _ fun r => ?_
  have k0 : k.val = 0 := by have := k.isLt; omega
  rw [h0]
  show ((D r.val (k.val * 2048 + (i 1).val) : ℝ) : EReal) = _
  rw [k0, Nat.zero_mul, Nat.zero_add]

include h2

omit h1 in
theorem ref_weighted : val_main_v34 (F := Ideal) x0 x2 = rv2 .f32 fun r d => D r d * G d := by
  funext i
  rw [val_main_v34_apply, val_main_v33_apply, val_main_v20_apply, show val_main_v26 (F := Ideal) x0 = x0 from shapeCast_self _ _, h0, h2]
  exact (EReal.coe_mul _ _).symm

theorem ref_along : val_main_v45 (F := Ideal) x0 x1 x2 = rv2 .f32 fun r _ => alongN D U G r := by
  funext i
  rw [val_main_v45_apply, val_main_v44_apply]
  refine (zero_add_sum _ (fun _ => alongN D U G (i 0).val) fun k => ?_).trans (congrArg Real.toEReal (Finset.sum_range_one _))
  have k0 : k.val = 0 := by have := k.isLt; omega
  rw [val_main_v43_apply, val_main_v41_apply, val_main_v42_apply, val_main_v38_apply, val_main_v37_apply, ref_slope h1]
  refine ((congrArg (fun x : EReal => Ideal.div (x * _) _) ((zero_add_sumE _).trans (Finset.sum_congr rfl fun d _ => ?_))).trans
    (div_countE _)).trans (along D U G (i 0).val)
  rw [val_main_v36_apply, ref_cen h1, ref_weighted h0 h2]
  show cenE U ((i 0).val * 1 + k.val) d.val * ((D ((i 0).val * 1 + k.val) d.val * G d.val : ℝ) : EReal) = _
  rw [k0, Nat.mul_one, Nat.add_zero]

theorem ref_pre : val_main_v49 (F := Ideal) x0 x1 x2 = rv2 .f32 (preN D U G) := by
  funext i
  rw [val_main_v49_apply, val_main_v47_apply, val_main_v40_apply, val_main_v46_apply, val_main_v48_apply, val_main_v39_apply,
    ref_cen h1, ref_along h0 h1 h2, ref_weighted h0 h2, ref_inv h1]
  exact pre D U G (i 0).val (i 1).isLt

theorem ref_du : val_main_v57 (F := Ideal) x0 x1 x2 = rv2 .f32 (duN D U G) := by
  funext i
  rw [val_main_v57_apply, val_main_v56_apply, val_main_v55_apply, ref_pre h0 h1 h2]
  refine (congrArg (fun x : EReal => _ + x) ((zero_add_sum _ (fun _ => (∑ d ∈ Finset.range 2048, -preN D U G (i 0).val d) * (1 / 2048)) fun k => ?_).trans
    (congrArg Real.toEReal (Finset.sum_range_one _)))).trans ((EReal.coe_add _ _).symm.trans (congrArg Real.toEReal (rowN_eq D U G (i 0).val (i 1).val)))
  have k0 : k.val = 0 := by have := k.isLt; omega
  rw [val_main_v54_apply, val_main_v53_apply, val_main_v52_apply, val_main_v51_apply]
  refine (congrArg (fun x : EReal => Ideal.div x _) (zero_add_sum _ (fun d => -preN D U G (i 0).val d) fun d => ?_)).trans (div_count _)
  rw [val_main_v50_apply, ref_pre h0 h1 h2]
  refine (EReal.coe_neg _).symm.trans (congrArg Real.toEReal ?_)
  show -preN D U G ((i 0).val * 1 + k.val) d.val = _
  rw [k0, Nat.mul_one, Nat.add_zero]

theorem ref_du16 : val_main_v58 (F := Ideal) x0 x1 x2 = rv2 .bf16 (duN D U G) :=
  congrArg (fun x => truncf .bf16 x bitsLt_bf16_f32) (ref_du h0 h1 h2)

end Reference

/-! ## The precondition -/

/-- The precondition's shape relations. -/
theorem rowsFacts : Cert.Pre_finite_rows.Facts where
  bcast_S_S2048x2048 := by decide
  bcast_S_S2048 := by decide
  bcast_S2048_S1x2048_1 := by decide
  bcast_S1x2048_S2048x2048_0_1 := by decide

/-- The real entries of a matrix. -/
def entries2 (x : FVec Ideal ⟨2, ![2048, 2048]⟩ .f32) (r c : ℕ) : ℝ :=
  EReal.toReal (x (ix2 ⟨r % 2048, Nat.mod_lt _ (by decide)⟩ ⟨c % 2048, Nat.mod_lt _ (by decide)⟩))

/-- The real entries of a vector. -/
def entries1 (x : FVec Ideal ⟨1, ![2048]⟩ .f32) (c : ℕ) : ℝ := EReal.toReal (x (ix1 ⟨c % 2048, Nat.mod_lt _ (by decide)⟩))

theorem rv2_entries (x : FVec Ideal ⟨2, ![2048, 2048]⟩ .f32) (hx : ∀ i, ∃ r : ℝ, x i = (r : EReal)) : x = rv2 .f32 (entries2 x) := by
  funext i
  have i0 : (i 0).val < 2048 := (i 0).isLt
  have i1 : (i 1).val < 2048 := (i 1).isLt
  have e : (ix2 ⟨(i 0).val % 2048, Nat.mod_lt _ (by decide)⟩ ⟨(i 1).val % 2048, Nat.mod_lt _ (by decide)⟩ : (⟨2, ![2048, 2048]⟩ : Shape).Idx) = i := by
    funext a
    match a with
    | ⟨0, _⟩ => exact Fin.ext (Nat.mod_eq_of_lt i0)
    | ⟨1, _⟩ => exact Fin.ext (Nat.mod_eq_of_lt i1)
  obtain ⟨r, hr⟩ := hx i
  show x i = ((EReal.toReal (x (ix2 _ _)) : ℝ) : EReal)
  rw [e, hr, EReal.toReal_coe]

theorem rv1_entries (x : FVec Ideal ⟨1, ![2048]⟩ .f32) (hx : ∀ i, ∃ r : ℝ, x i = (r : EReal)) : x = rv1 (entries1 x) := by
  funext i
  have i0 : (i 0).val < 2048 := (i 0).isLt
  have e : (ix1 ⟨(i 0).val % 2048, Nat.mod_lt _ (by decide)⟩ : (⟨1, ![2048]⟩ : Shape).Idx) = i := by
    funext a
    match a with
    | ⟨0, _⟩ => exact Fin.ext (Nat.mod_eq_of_lt i0)
  obtain ⟨r, hr⟩ := hx i
  show x i = ((EReal.toReal (x (ix1 _)) : ℝ) : EReal)
  rw [e, hr, EReal.toReal_coe]

/-- The precondition, spelled out: the entries of the cotangent and of the weight are real numbers. -/
theorem rows_iff [Cert.Pre_finite_rows.Facts] {x0 x1 : FVec Ideal Cert.Pre_finite_rows.S2048x2048 .f32} {x2 : FVec Ideal Cert.Pre_finite_rows.S2048 .f32}
    (h : Cert.Pre_finite_rows.fn (F := Ideal) x0 x1 x2 = fun _ => 1#1) :
    x0 = rv2 .f32 (entries2 x0) ∧ x2 = rv1 (entries1 x2) := by
  have bits : ∀ i : Cert.Pre_finite_rows.S2048x2048.Idx, BitVec.ofBool (decide (max (x0 i : EReal) (-x0 i) < (⊤ : EReal))) = 1#1
      ∧ BitVec.ofBool (decide (max (x2 (ix1 (i 1)) : EReal) (-x2 (ix1 (i 1))) < (⊤ : EReal))) = 1#1 := by
    intro i
    have b := broadcastInDim_apply (![0, 1] : Fin 2 → Fin 2) Cert.Pre_finite_rows.Facts.bcast_S1x2048_S2048x2048_0_1
      (broadcastInDim Cert.Pre_finite_rows.S1x2048 ![1] Cert.Pre_finite_rows.Facts.bcast_S2048_S1x2048_1
        (cmpf .olt (Host.absf x2) (broadcastInDim Cert.Pre_finite_rows.S2048 ![] Cert.Pre_finite_rows.Facts.bcast_S_S2048
          (constant Cert.Pre_finite_rows.S_ .f32 0x7F800000#32 : FVec Ideal Cert.Pre_finite_rows.S_ .f32)))) i (ix2 (0 : Fin 1) (i 1)) (fun a => match a with
      | ⟨0, _⟩ => rfl
      | ⟨1, _⟩ => rfl)
    have b' := broadcastInDim_apply (![1] : Fin 1 → Fin 2) Cert.Pre_finite_rows.Facts.bcast_S2048_S1x2048_1
      (cmpf .olt (Host.absf x2) (broadcastInDim Cert.Pre_finite_rows.S2048 ![] Cert.Pre_finite_rows.Facts.bcast_S_S2048
          (constant Cert.Pre_finite_rows.S_ .f32 0x7F800000#32 : FVec Ideal Cert.Pre_finite_rows.S_ .f32))) (ix2 (0 : Fin 1) (i 1)) (ix1 (i 1)) (fun a => match a with
      | ⟨0, _⟩ => rfl)
    have e := congrFun h i
    unfold Cert.Pre_finite_rows.fn at e
    dsimp only at e
    obtain ⟨e0, e2⟩ := and_ones (show BitVec.ofBool (decide (max (x0 i : EReal) (-x0 i) < Ideal.ofBits .f32 0x7F800000#32)) &&& _ = 1#1 from e)
    have e2' : BitVec.ofBool (decide (max (x2 (ix1 (i 1)) : EReal) (-x2 (ix1 (i 1))) < Ideal.ofBits .f32 0x7F800000#32)) = 1#1 :=
      (b.trans b').symm.trans e2
    rw [top_word] at e0 e2'
    exact ⟨e0, e2'⟩
  refine ⟨rv2_entries x0 fun i => real_of_lt_top _ (bits i).1, rv1_entries x2 fun i => ?_⟩
  have b := (bits (ix2 (0 : Fin 2048) (i 0))).2
  rw [show (ix1 ((ix2 (0 : Fin 2048) (i 0) : (⟨2, ![2048, 2048]⟩ : Shape).Idx) 1) : (⟨1, ![2048]⟩ : Shape).Idx) = i from
    funext fun a => match a with | ⟨0, _⟩ => rfl] at b
  exact real_of_lt_top _ b

end Cert.Norm

end
-- ==== Proof.NormRows.lean ====
/-
  Norms of rows, over the extended reals: each step of the kernels on a block of 256 rows of any width. A mean is a row's sum over
  the count, whose word is left as it stands; a row is divided by the root of its mean square and a small number.
-/
module

public import proofs.«01_k».proof.Proof.Tiles
public import Idealize.ShloMosaic.Lib.VecWindow

@[expose] public section

set_option maxRecDepth 16384

noncomputable section

namespace Cert.Norm

open Idealize.ShloMosaic Idealize.ShloMosaic.ValueIdx Cert.Mixer

/-! ## The values -/

/-- The mean of a row of `n` entries; `w` is the word of the count. -/
def meanW (n : ℕ) (w : BitVec 32) (E : ℕ → ℕ → EReal) (r : ℕ) : EReal :=
  Ideal.div (∑ c ∈ Finset.range n, E r c) (Scalar.ofBits .f32 w : Ideal .f32)

/-- The row, centred. -/
def cenW (n : ℕ) (w : BitVec 32) (E : ℕ → ℕ → EReal) (r c : ℕ) : EReal := E r c - meanW n w E r

/-- The row over the root of its mean square and the number whose word is `e`. -/
def overRoot (n : ℕ) (w e : BitVec 32) (E : ℕ → ℕ → EReal) (r c : ℕ) : EReal :=
  E r c * Ideal.rsqrt (meanW n w (fun r c => E r c * E r c) r + (Scalar.ofBits .f32 e : Ideal .f32))

/-! ## Vectors -/

/-- The vector of the entries `f c`. -/
def ev1 {n : ℕ} (f : ℕ → EReal) : FVec Ideal ⟨1, ![n]⟩ .f32 := fun i => f (i 0).val

/-- The entries of a vector. -/
def en1 {n : ℕ} (x : FVec Ideal ⟨1, ![n]⟩ .f32) (c : ℕ) : EReal := if h : c < n then x (ix1 ⟨c, h⟩) else 0

theorem eq_ev1 {n : ℕ} (x : FVec Ideal ⟨1, ![n]⟩ .f32) : x = ev1 (en1 x) :=
  funext fun i => by
    show x i = dite _ _ _
    rw [dif_pos (show (i 0).val < n from (i 0).isLt)]
    exact congrArg x (funext fun a => match a with | ⟨0, _⟩ => rfl)

/-- A vector as a row. -/
theorem row_ev1 {n : ℕ} (f : ℕ → EReal) (h) : shapeCast ⟨2, ![1, n]⟩ (ev1 f : FVec Ideal ⟨1, ![n]⟩ .f32) h = ev2 .f32 fun _ => f :=
  funext fun i => by
    have i0 : (i 0).val < 1 := (i 0).isLt
    refine (shapeCast_apply _ h i (ix1 (i 1)) ?_).trans rfl
    rewrite [Shape.rowMajor_val_one, Shape.rowMajor_val_two]
    show (i 1).val = (i 0).val * n + (i 1).val
    rw [show (i 0).val = 0 by omega, Nat.zero_mul, Nat.zero_add]

/-! ## The steps on a block -/

section Steps

variable {n : ℕ}

theorem subf_ev2 {m : ℕ} (f g : ℕ → ℕ → EReal) :
    subf (ev2 .f32 f : FVec Ideal ⟨2, ![m, n]⟩ .f32) (ev2 .f32 g) = ev2 .f32 fun r c => f r c - g r c := rfl

theorem means_ev2 (f : ℕ → ℕ → EReal) (w : BitVec 32) (hr : (⟨2, ![256, n]⟩ : Shape).Reduces [1] ⟨1, ![256]⟩) (hs) :
    divf (shapeCast ⟨2, ![256, 1]⟩ (multiReduction .add [1] ⟨1, ![256]⟩ (ev2 .f32 f : FVec Ideal ⟨2, ![256, n]⟩ .f32) 0x00000000#32 hr (.inl rfl) rfl) hs)
      (broadcast ⟨2, ![256, 1]⟩ (Scalar.ofBits .f32 w : Ideal .f32)) = ev2 .f32 fun r _ => meanW n w f r :=
  funext fun i => by
    refine congrArg (fun x : EReal => Ideal.div x (Scalar.ofBits .f32 w : Ideal .f32)) ?_
    refine (congrArg _ (eq_ix2 i)).trans ((shapeCast_a_a1_apply _ hs (i 0) (i 1)).trans ?_)
    refine (Ideal.multiReduction_add_single (ev2 .f32 f : FVec Ideal ⟨2, ![256, n]⟩ .f32) _ hr (.inl rfl) rfl _).trans ?_
    rw [Finset.sum_range]
    refine Finset.sum_congr rfl fun k _ => ?_
    rfl

/-- One column, repeated along the rows. -/
theorem column_ev2 (f : ℕ → ℕ → EReal) (h) : broadcastTo ⟨2, ![256, n]⟩ (ev2 .f32 f : FVec Ideal ⟨2, ![256, 1]⟩ .f32) h
    = ev2 .f32 fun r _ => f r 0 :=
  funext fun i => by
    rw [broadcastTo_apply (ev2 .f32 f : FVec Ideal ⟨2, ![256, 1]⟩ .f32) h i (ix2 (i 0) (0 : Fin 1)) fun a => ?_]
    · rfl
    · match a with
      | ⟨0, _⟩ => rfl
      | ⟨1, _⟩ => rfl

/-- One row, repeated along the columns. -/
theorem row_ev2 (hn : n ≠ 1) (f : ℕ → ℕ → EReal) (h) : broadcastTo ⟨2, ![256, n]⟩ (ev2 .f32 f : FVec Ideal ⟨2, ![1, n]⟩ .f32) h
    = ev2 .f32 fun _ c => f 0 c :=
  funext fun i => by
    rw [broadcastTo_apply (ev2 .f32 f : FVec Ideal ⟨2, ![1, n]⟩ .f32) h i (ix2 (0 : Fin 1) (i 1)) fun a => ?_]
    · rfl
    · match a with
      | ⟨0, _⟩ => rfl
      | ⟨1, _⟩ => exact (if_neg hn).symm

theorem centred_ev2 (f : ℕ → ℕ → EReal) (w : BitVec 32) (hr : (⟨2, ![256, n]⟩ : Shape).Reduces [1] ⟨1, ![256]⟩) (hs hb) :
    subf (ev2 .f32 f : FVec Ideal ⟨2, ![256, n]⟩ .f32) (broadcastTo ⟨2, ![256, n]⟩
      (divf (shapeCast ⟨2, ![256, 1]⟩ (multiReduction .add [1] ⟨1, ![256]⟩ (ev2 .f32 f : FVec Ideal ⟨2, ![256, n]⟩ .f32) 0x00000000#32 hr (.inl rfl) rfl) hs)
        (broadcast ⟨2, ![256, 1]⟩ (Scalar.ofBits .f32 w : Ideal .f32))) hb) = ev2 .f32 (cenW n w f) := by
  rw [means_ev2, column_ev2, subf_ev2]
  rfl

theorem over_root_ev2 (f : ℕ → ℕ → EReal) (w e : BitVec 32) (hr : (⟨2, ![256, n]⟩ : Shape).Reduces [1] ⟨1, ![256]⟩) (hs hb) :
    mulf (ev2 .f32 f : FVec Ideal ⟨2, ![256, n]⟩ .f32) (broadcastTo ⟨2, ![256, n]⟩
      (rsqrt (addf (divf (shapeCast ⟨2, ![256, 1]⟩ (multiReduction .add [1] ⟨1, ![256]⟩
        (mulf (ev2 .f32 f : FVec Ideal ⟨2, ![256, n]⟩ .f32) (ev2 .f32 f)) 0x00000000#32 hr (.inl rfl) rfl) hs)
        (broadcast ⟨2, ![256, 1]⟩ (Scalar.ofBits .f32 w : Ideal .f32))) (broadcast ⟨2, ![256, 1]⟩ (Scalar.ofBits .f32 e : Ideal .f32)))) hb)
      = ev2 .f32 (overRoot n w e f) := by
  rw [mulf_ev2, means_ev2, broadcast_ev2, addf_ev2]
  refine (congrArg (mulf _) (column_ev2 (fun r _ => Ideal.rsqrt (meanW n w (fun r c => f r c * f r c) r + (Scalar.ofBits .f32 e : Ideal .f32))) hb)).trans ?_
  rfl

end Steps

/-! ## Blocks of 256 rows -/

section Blocks

variable {n : ℕ}

/-- A point's block of the rows. -/
theorem block_ev2 {M m : ℕ} {φ : FTy} (x : FVec Ideal ⟨2, ![M, n]⟩ φ) {A : ℕ → ℕ → EReal} (hx : x = ev2 φ A)
    (z : FVec Ideal ⟨2, ![m, n]⟩ φ) (e : (⟨2, ![m, n]⟩ : Shape).Idx → (⟨2, ![M, n]⟩ : Shape).Idx) (hz : ∀ y, z y = x (e y))
    {a b : ℕ} (t : ℕ) (h : a = t ∧ b = 0) (h0 : ∀ y, (e y 0).val = a + (y 0).val) (h1 : ∀ y, (e y 1).val = b + (y 1).val) :
    z = ev2 φ fun r c => A (t + r) c :=
  (tile2 x hx z e hz a b h0 h1).trans (by rw [h.1, h.2]; exact ev2_congr fun _ _ _ _ => by rw [Nat.zero_add])

/-- An array is known from its eight blocks. -/
theorem rows_of_blocks {φ : FTy} {N : ℕ} (hN : N = 8) (A : FVec Ideal ⟨2, ![2048, n]⟩ φ) (f : ℕ → ℕ → EReal)
    (e : Fin N → (⟨2, ![256, n]⟩ : Shape).Idx → (⟨2, ![2048, n]⟩ : Shape).Idx) {a b : Fin N → ℕ} (h : ∀ t, a t = 256 * t.val ∧ b t = 0)
    (h0 : ∀ t y, (e t y 0).val = a t + (y 0).val) (h1 : ∀ t y, (e t y 1).val = b t + (y 1).val)
    (hA : ∀ t, (fun y => A (e t y) : FVec Ideal ⟨2, ![256, n]⟩ φ) = ev2 φ fun r c => f (256 * t.val + r) c) : A = ev2 φ f := by
  funext i
  have i0 : (i 0).val < 2048 := (i 0).isLt
  have i1 : (i 1).val < n := (i 1).isLt
  let t : Fin N := ⟨(i 0).val / 256, by omega⟩
  let y : (⟨2, ![256, n]⟩ : Shape).Idx := fun a => match a with
    | ⟨0, _⟩ => ⟨(i 0).val % 256, Nat.mod_lt _ (by decide)⟩
    | ⟨1, _⟩ => ⟨(i 1).val, i1⟩
  have hr : 256 * ((i 0).val / 256) + (i 0).val % 256 = (i 0).val := Nat.div_add_mod _ _
  have hy : e t y = i := by
    funext a
    apply Fin.ext
    fin_cases a
    · exact (h0 t y).trans (by rw [(h t).1]; exact hr)
    · exact (h1 t y).trans (by rw [(h t).2]; exact Nat.zero_add _)
  have := congrFun (hA t) y
  rw [← hy]
  refine this.trans ?_
  show f (256 * ((i 0).val / 256) + (i 0).val % 256) (i 1).val = f (e t y 0).val (e t y 1).val
  rw [hr, hy]

end Blocks

/-- Zero and a sum. -/
theorem zero_add_range {n : ℕ} (f : ℕ → EReal) : (Scalar.ofBits .f32 0x00000000#32 : Ideal .f32) + ∑ k : Fin n, f k.val = ∑ k ∈ Finset.range n, f k := by
  rw [Finset.sum_range]
  refine (congrArg (· + _) zero_word).trans ?_
  exact zero_add _

end Cert.Norm

end
-- ==== Proof.NormFwd.lean ====
/-
  The layer norm of a residual sum, forward: `alpha · x + r`, each row centred, over its deviation, times the weight and plus the
  bias. The grid runs over the eight blocks of 256 rows; the kernel and the reference compute the same expression, so that their
  results are the same arrays at any arguments.
-/
module

public import proofs.«01_k».proof.Defs
public import proofs.«01_k».proof.Proof.NormRows
public import proofs.«01_k».proof.Proof.Gen.NormFwdIdeal.Value
public import proofs.«01_k».proof.Proof.Gen.NormFwdRefIdeal.Read

@[expose] public section

set_option maxRecDepth 16384

noncomputable section

namespace Cert.Norm.Fwd

open Idealize.ShloMosaic Idealize.ShloMosaic.ValueIdx Cert.Mixer

/-- The residual sum. -/
def sumE (X R : ℕ → ℕ → EReal) (r c : ℕ) : EReal := (Scalar.ofBits .f32 0x3FB504F3#32 : Ideal .f32) * X r c + R r c

/-- The norm of the rows `U`. -/
def normE (U : ℕ → ℕ → EReal) (G B : ℕ → EReal) (r c : ℕ) : EReal :=
  overRoot 2048 0x45000000#32 0x3727C5AC#32 (cenW 2048 0x45000000#32 U) r c * G c + B c

section Kernel

open Cert.NormFwdIdeal Cert.NormFwdIdeal.Gen
open StableHlo

theorem pay1_eq (X R : ℕ → ℕ → EReal) : k0_pay1 (F := Ideal) (ev2 .f32 X) (ev2 .f32 R) = (ev2 .f32 (sumE X R) : FVec Ideal S256x2048 .f32) := rfl

theorem pay2_eq (X R : ℕ → ℕ → EReal) (G B : ℕ → EReal) :
    k0_pay2 (F := Ideal) (ev2 .f32 X) (ev2 .f32 R) (ev2 .f32 fun _ => G) (ev2 .f32 fun _ => B)
      = (ev2 .f32 (normE (sumE X R) G B) : FVec Ideal S256x2048 .f32) := by
  unfold k0_pay2
  dsimp only
  rw [pay1_eq, centred_ev2, over_root_ev2, shapeCast_self, shapeCast_self, row_ev2 (by decide), row_ev2 (by decide), mulf_ev2, addf_ev2]
  rfl

theorem out4_eq (X R : ℕ → ℕ → EReal) (G B : ℕ → EReal) :
    out0_4 (F := Ideal) (ev2 .f32 X) (ev2 .f32 R) (ev2 .f32 fun _ => G) (ev2 .f32 fun _ => B)
      = (ev2 .f32 (normE (sumE X R) G B) : FVec Ideal S256x2048 .f32) := by
  unfold out0_4
  rw [View.canon_cons_unit_zero (by funext a; fin_cases a <;> rfl)]
  iterate 4 rw [View.ld_unit_zero (by funext a; fin_cases a <;> rfl)]
  exact pay2_eq X R G B

theorem out5_eq (X R : ℕ → ℕ → EReal) (G B : ℕ → EReal) :
    out0_5 (F := Ideal) (ev2 .f32 X) (ev2 .f32 R) (ev2 .f32 fun _ => G) (ev2 .f32 fun _ => B)
      = (ev2 .bf16 (normE (sumE X R) G B) : FVec Ideal S256x2048 .bf16) := by
  unfold out0_5
  rw [View.canon_cons_unit_zero (by funext a; fin_cases a <;> rfl)]
  iterate 4 rw [View.ld_unit_zero (by funext a; fin_cases a <;> rfl)]
  exact congrArg narrow (pay2_eq X R G B)

theorem out6_eq (X R : ℕ → ℕ → EReal) (G B : ℕ → EReal) :
    out0_6 (F := Ideal) (ev2 .f32 X) (ev2 .f32 R) (ev2 .f32 fun _ => G) (ev2 .f32 fun _ => B)
      = (ev2 .f32 (sumE X R) : FVec Ideal S256x2048 .f32) := by
  unfold out0_6
  rw [View.canon_cons_unit_zero (by funext a; fin_cases a <;> rfl)]
  iterate 2 rw [View.ld_unit_zero (by funext a; fin_cases a <;> rfl)]
  exact pay1_eq X R

/-- Where the blocks a point reads start. -/
theorem atIn : ∀ t : Fin cfg0.N, (win0_0.index t 0 * win0_0.size 0 = 256 * t.val ∧ win0_0.index t 1 * win0_0.size 1 = 0)
    ∧ (win0_1.index t 0 * win0_1.size 0 = 256 * t.val ∧ win0_1.index t 1 * win0_1.size 1 = 0)
    ∧ (win0_2.index t 0 * win0_2.size 0 = 0 ∧ win0_2.index t 1 * win0_2.size 1 = 0)
    ∧ (win0_3.index t 0 * win0_3.size 0 = 0 ∧ win0_3.index t 1 * win0_3.size 1 = 0) :=
  by decide +kernel

/-- Where a point's block of each result starts. -/
theorem atOut : ∀ t : Fin cfg0.N, (win0_4.index t 0 * win0_4.size 0 = 256 * t.val ∧ win0_4.index t 1 * win0_4.size 1 = 0)
    ∧ (win0_5.index t 0 * win0_5.size 0 = 256 * t.val ∧ win0_5.index t 1 * win0_5.size 1 = 0)
    ∧ (win0_6.index t 0 * win0_6.size 0 = 256 * t.val ∧ win0_6.index t 1 * win0_6.size 1 = 0) :=
  by decide +kernel

section Arrays

variable (m : (ℓ : Loc nD τ sig) → Buf (Elt Ideal) ℓ) (c : Dev nD) (X R : ℕ → ℕ → EReal) (G B : ℕ → EReal)
  (hX : (m ((c.tc : Thread nD τ).loc main_arg0) : FVec Ideal S2048x2048 .f32) = ev2 .f32 X)
  (hR : (m ((c.tc : Thread nD τ).loc main_arg1) : FVec Ideal S2048x2048 .f32) = ev2 .f32 R)
  (hG : (m ((c.tc : Thread nD τ).loc main_arg2) : FVec Ideal S2048 .f32) = ev1 G)
  (hB : (m ((c.tc : Thread nD τ).loc main_arg3) : FVec Ideal S2048 .f32) = ev1 B)

/-- What the host hands the grid: the weight and the bias, as rows. -/
theorem V_main_v0 : (V m c main_v0 : FVec Ideal S1x2048 .f32)
    = shapeCast S1x2048 (m ((c.tc : Thread nD τ).loc main_arg2) : FVec Ideal S2048 .f32) shapeCasts_S2048_S1x2048 := by
  simp only [V, hostOps0, TRef.binary, TRef.nullary, TRef.ternary, TRef.unary, TRef.toBuf, TRef.ofBuf, cast_eq]
  after_results_simp <;> rfl

theorem V_main_v1 : (V m c main_v1 : FVec Ideal S1x2048 .f32)
    = shapeCast S1x2048 (m ((c.tc : Thread nD τ).loc main_arg3) : FVec Ideal S2048 .f32) shapeCasts_S2048_S1x2048 := by
  simp only [V, hostOps0, TRef.binary, TRef.nullary, TRef.ternary, TRef.unary, TRef.toBuf, TRef.ofBuf, cast_eq]
  after_results_simp <;> rfl

include hX in
theorem read0 (t : Fin cfg0.N) : (iblk m c 0 t : FVec Ideal S256x2048 .f32) = ev2 .f32 fun r d => X (256 * t.val + r) d :=
  block_ev2 _ ((V_main_arg0 m c).trans hX) _ (win0_0.rect t).emb (fun _ => rfl) _ (atIn t).1 (win0_0.rect_emb_val t · 0) (win0_0.rect_emb_val t · 1)

include hR in
theorem read1 (t : Fin cfg0.N) : (iblk m c 1 t : FVec Ideal S256x2048 .f32) = ev2 .f32 fun r d => R (256 * t.val + r) d :=
  block_ev2 _ ((V_main_arg1 m c).trans hR) _ (win0_1.rect t).emb (fun _ => rfl) _ (atIn t).2.1 (win0_1.rect_emb_val t · 0) (win0_1.rect_emb_val t · 1)

include hG in
theorem read2 (t : Fin cfg0.N) : (iblk m c 2 t : FVec Ideal S1x2048 .f32) = ev2 .f32 fun _ => G :=
  block_ev2 _ ((V_main_v0 m c).trans ((congrArg (shapeCast S1x2048 · _) hG).trans (row_ev1 G _))) _ (win0_2.rect t).emb (fun _ => rfl) _ (atIn t).2.2.1
    (win0_2.rect_emb_val t · 0) (win0_2.rect_emb_val t · 1)

include hB in
theorem read3 (t : Fin cfg0.N) : (iblk m c 3 t : FVec Ideal S1x2048 .f32) = ev2 .f32 fun _ => B :=
  block_ev2 _ ((V_main_v1 m c).trans ((congrArg (shapeCast S1x2048 · _) hB).trans (row_ev1 B _))) _ (win0_3.rect t).emb (fun _ => rfl) _ (atIn t).2.2.2
    (win0_3.rect_emb_val t · 0) (win0_3.rect_emb_val t · 1)

include hX hR hG hB

/-- The norm. -/
theorem final4 : ((dats m 0 c).arrAt 4 cfg0.N : FVec Ideal S2048x2048 .f32) = ev2 .f32 (normE (sumE X R) G B) :=
  rows_of_blocks N_0 _ _ (fun t => (win0_4.rect t).emb) (fun t => (atOut t).1) (fun t => (win0_4.rect_emb_val t · 0)) (fun t => (win0_4.rect_emb_val t · 1)) fun t =>
    (Cert.NormFwdIdeal.Value.blocks4 m c t (flush0_4 t)).trans ((Cert.NormFwdIdeal.Value.flushed4 m c t).trans
      (congrArg _ ((congr (congr (congr (congrArg out0_4 (read0 m c X hX t)) (read1 m c R hR t)) (read2 m c G hG t)) (read3 m c B hB t)).trans (out4_eq _ _ _ _))))

/-- The norm, in 16 bits. -/
theorem final5 : ((dats m 0 c).arrAt 5 cfg0.N : FVec Ideal S2048x2048 .bf16) = ev2 .bf16 (normE (sumE X R) G B) :=
  rows_of_blocks N_0 _ _ (fun t => (win0_5.rect t).emb) (fun t => (atOut t).2.1) (fun t => (win0_5.rect_emb_val t · 0)) (fun t => (win0_5.rect_emb_val t · 1)) fun t =>
    (Cert.NormFwdIdeal.Value.blocks5 m c t (flush0_5 t)).trans ((Cert.NormFwdIdeal.Value.flushed5 m c t).trans
      (congrArg _ ((congr (congr (congr (congrArg out0_5 (read0 m c X hX t)) (read1 m c R hR t)) (read2 m c G hG t)) (read3 m c B hB t)).trans (out5_eq _ _ _ _))))

/-- The residual sum. -/
theorem final6 : ((dats m 0 c).arrAt 6 cfg0.N : FVec Ideal S2048x2048 .f32) = ev2 .f32 (sumE X R) :=
  rows_of_blocks N_0 _ _ (fun t => (win0_6.rect t).emb) (fun t => (atOut t).2.2) (fun t => (win0_6.rect_emb_val t · 0)) (fun t => (win0_6.rect_emb_val t · 1)) fun t =>
    (Cert.NormFwdIdeal.Value.blocks6 m c t (flush0_6 t)).trans ((Cert.NormFwdIdeal.Value.flushed6 m c t).trans
      (congrArg _ ((congr (congr (congr (congrArg out0_6 (read0 m c X hX t)) (read1 m c R hR t)) (read2 m c G hG t)) (read3 m c B hB t)).trans (out6_eq _ _ _ _))))

end Arrays

end Kernel

section Reference

open Cert.NormFwdRefIdeal Cert.NormFwdRefIdeal.Read

variable {x0 x1 : FVec Ideal S2048x2048 .f32} {x2 x3 : FVec Ideal S2048 .f32} {X R : ℕ → ℕ → EReal} {G B : ℕ → EReal}
  (h0 : x0 = ev2 .f32 X) (h1 : x1 = ev2 .f32 R) (h2 : x2 = ev1 G) (h3 : x3 = ev1 B)

include h0 h1

theorem ref_sum : val_main_v2 (F := Ideal) x0 x1 = (ev2 .f32 (sumE X R) : FVec Ideal S2048x2048 .f32) := by
  funext i
  rw [val_main_v2_apply, val_main_v1_apply, val_main_v0_apply, val_main_cst_apply, h0, h1]
  rfl

theorem ref_cen : val_main_v8 (F := Ideal) x0 x1 = (ev2 .f32 (cenW 2048 0x45000000#32 (sumE X R)) : FVec Ideal S2048x2048 .f32) := by
  funext i
  rw [val_main_v8_apply, val_main_v7_apply, val_main_v6_apply, val_main_v4_apply, val_main_v3_apply, val_main_v5_apply,
    val_main_cst_0_apply, val_main_cst_1_apply, ref_sum h0 h1]
  exact congrArg (fun x : EReal => sumE X R (i 0).val (i 1).val - Ideal.div x (Scalar.ofBits .f32 0x45000000#32 : Ideal .f32))
    (zero_add_range fun k => sumE X R (i 0).val k)

theorem ref_over : val_main_v18 (F := Ideal) x0 x1
    = (ev2 .f32 (overRoot 2048 0x45000000#32 0x3727C5AC#32 (cenW 2048 0x45000000#32 (sumE X R))) : FVec Ideal S2048x2048 .f32) := by
  funext i
  rw [val_main_v18_apply, val_main_v17_apply, val_main_v16_apply, val_main_v15_apply, val_main_v13_apply, val_main_v11_apply,
    val_main_v10_apply, val_main_v12_apply, val_main_v14_apply, val_main_cst_2_apply, val_main_cst_3_apply, val_main_cst_4_apply, ref_cen h0 h1]
  refine congrArg (fun x : EReal => cenW 2048 0x45000000#32 (sumE X R) (i 0).val (i 1).val
    * Ideal.rsqrt (Ideal.div x (Scalar.ofBits .f32 0x45000000#32 : Ideal .f32) + (Scalar.ofBits .f32 0x3727C5AC#32 : Ideal .f32)))
    (Eq.trans ?_ (zero_add_range fun k => cenW 2048 0x45000000#32 (sumE X R) (i 0).val k * cenW 2048 0x45000000#32 (sumE X R) (i 0).val k))
  refine congrArg (fun x : EReal => _ + x) (Finset.sum_congr rfl fun k _ => ?_)
  rw [val_main_v9_apply, ref_cen h0 h1]
  rfl

include h2 h3

theorem ref_norm : val_main_v24 (F := Ideal) x0 x1 x2 x3 = (ev2 .f32 (normE (sumE X R) G B) : FVec Ideal S2048x2048 .f32) := by
  funext i
  rw [val_main_v24_apply, val_main_v21_apply, val_main_v20_apply, val_main_v19_apply, val_main_v23_apply, val_main_v22_apply, ref_over h0 h1, h2, h3]
  rfl

theorem ref_norm16 : val_main_v25 (F := Ideal) x0 x1 x2 x3 = (ev2 .bf16 (normE (sumE X R) G B) : FVec Ideal S2048x2048 .bf16) :=
  congrArg narrow (ref_norm h0 h1 h2 h3)

end Reference

open Idealize.SL.Sem

/-- The reference's frame: its run read at its arguments, which no operation writes; it declares no semaphore. -/
theorem frame_r : letI := Cert.NormFwdRefIdeal.Gen.facts; Cert.quiescent_NormFwdRefIdeal :=
  fun m ρ _ => (θ_run Cert.NormFwdRefIdeal.defs _ _).mono (fun r h => ⟨fun c => (h c).2.2.2, sem_eq_zero_of_no_sems (by decide) r.2⟩)
    (Cert.NormFwdRefIdeal.Value.run m ρ)

/-- The two programs' results are equal. -/
theorem algebraic : letI := Cert.NormFwdIdeal.Gen.facts; letI := Cert.NormFwdRefIdeal.Gen.facts; Cert.algebraic_NormFwdIdeal_NormFwdRefIdeal := by
  intro m g m' g' _ hagree
  refine ⟨fun c => (Cert.NormFwdIdeal.Gen.dats m 0 c).arrAt 4 Cert.NormFwdIdeal.cfg0.N, fun c => (Cert.NormFwdIdeal.Gen.dats m 0 c).arrAt 5 Cert.NormFwdIdeal.cfg0.N,
    fun c => (Cert.NormFwdIdeal.Gen.dats m 0 c).arrAt 6 Cert.NormFwdIdeal.cfg0.N, Cert.NormFwdIdeal.Value.run_blocks m g, ?_⟩
  refine (θ_run Cert.NormFwdRefIdeal.defs _ _).mono (fun r h c => ?_) (Cert.NormFwdRefIdeal.Value.run m' g')
  obtain ⟨a0, a1, a2, a3⟩ := hagree c
  obtain ⟨r0, r1, r2, rest⟩ := h c
  refine ⟨r0.trans ((Cert.NormFwdRefIdeal.Read.val_main_v24_eq _ _ _ _).trans ?_), r1.trans ((Cert.NormFwdRefIdeal.Read.val_main_v25_eq _ _ _ _).trans ?_),
    r2.trans ((Cert.NormFwdRefIdeal.Read.val_main_v2_eq _ _).trans ?_), rest⟩
  · rw [a0, a1, a2, a3]
    exact (ref_norm (eq_ev2 _) (eq_ev2 _) (eq_ev1 _) (eq_ev1 _)).trans (final4 m c _ _ _ _ (eq_ev2 _) (eq_ev2 _) (eq_ev1 _) (eq_ev1 _)).symm
  · rw [a0, a1, a2, a3]
    exact (ref_norm16 (eq_ev2 _) (eq_ev2 _) (eq_ev1 _) (eq_ev1 _)).trans (final5 m c _ _ _ _ (eq_ev2 _) (eq_ev2 _) (eq_ev1 _) (eq_ev1 _)).symm
  · rw [a0, a1]
    exact (ref_sum (eq_ev2 _) (eq_ev2 _)).trans (final6 m c _ _ _ _ (eq_ev2 _) (eq_ev2 _) (eq_ev1 _) (eq_ev1 _)).symm

end Cert.Norm.Fwd

end
-- ==== Proof.NormRms.lean ====
/-
  The root-mean-square norms, forward: each row over the root of the mean of its squares, times the weight. The queries have 512
  columns and the keys and values 256; each grid runs over the eight blocks of 256 rows, and kernel and reference compute the same
  expression, so that their results are the same arrays at any arguments.
-/
module

public import proofs.«01_k».proof.Defs
public import proofs.«01_k».proof.Proof.NormRows
public import proofs.«01_k».proof.Proof.Gen.QRmsIdeal.Value
public import proofs.«01_k».proof.Proof.Gen.QRmsRefIdeal.Read
public import proofs.«01_k».proof.Proof.Gen.KvRmsIdeal.Value
public import proofs.«01_k».proof.Proof.Gen.KvRmsRefIdeal.Read

@[expose] public section

set_option maxRecDepth 16384

noncomputable section

namespace Cert.Norm

open Idealize.ShloMosaic Idealize.ShloMosaic.ValueIdx Cert.Mixer

/-- The norm of the rows `X` of width `n`, whose word is `w`. -/
def rmsE (n : ℕ) (w : BitVec 32) (X : ℕ → ℕ → EReal) (G : ℕ → EReal) (r c : ℕ) : EReal :=
  overRoot n w 0x358637BD#32 X r c * G c

/-- A block's norm as the kernels take it. -/
theorem rms_ev2 {n : ℕ} (hn : n ≠ 1) (w : BitVec 32) (X : ℕ → ℕ → EReal) (G : ℕ → EReal) (hr : (⟨2, ![256, n]⟩ : Shape).Reduces [1] ⟨1, ![256]⟩) (hs hb hc hg) :
    mulf (mulf (ev2 .f32 X : FVec Ideal ⟨2, ![256, n]⟩ .f32) (broadcastTo ⟨2, ![256, n]⟩
      (rsqrt (addf (divf (shapeCast ⟨2, ![256, 1]⟩ (multiReduction .add [1] ⟨1, ![256]⟩
        (mulf (ev2 .f32 X : FVec Ideal ⟨2, ![256, n]⟩ .f32) (ev2 .f32 X)) 0x00000000#32 hr (.inl rfl) rfl) hs)
        (broadcast ⟨2, ![256, 1]⟩ (Scalar.ofBits .f32 w : Ideal .f32))) (broadcast ⟨2, ![256, 1]⟩ (Scalar.ofBits .f32 0x358637BD#32 : Ideal .f32)))) hb))
      (broadcastTo ⟨2, ![256, n]⟩ (shapeCast ⟨2, ![1, n]⟩ (ev2 .f32 fun _ => G : FVec Ideal ⟨2, ![1, n]⟩ .f32) hc) hg) = ev2 .f32 (rmsE n w X G) := by
  rw [over_root_ev2, shapeCast_self, row_ev2 hn, mulf_ev2]
  rfl

/-- A row's norm as the references sum it. -/
theorem rmsE_ref {n : ℕ} (w : BitVec 32) (X : ℕ → ℕ → EReal) (G : ℕ → EReal) (r c : ℕ) :
    X r c * Ideal.rsqrt (Ideal.div ((Scalar.ofBits .f32 0x00000000#32 : Ideal .f32) + ∑ k : Fin n, X r k.val * X r k.val) (Scalar.ofBits .f32 w : Ideal .f32)
      + (Scalar.ofBits .f32 0x358637BD#32 : Ideal .f32)) * G c = rmsE n w X G r c :=
  congrArg (fun x : EReal => X r c * Ideal.rsqrt (Ideal.div x (Scalar.ofBits .f32 w : Ideal .f32) + (Scalar.ofBits .f32 0x358637BD#32 : Ideal .f32)) * G c)
    (zero_add_range fun k => X r k * X r k)

end Cert.Norm

namespace Cert.Norm.Queries

open Idealize.ShloMosaic Idealize.ShloMosaic.ValueIdx Cert.Mixer

section Kernel

open Cert.QRmsIdeal Cert.QRmsIdeal.Gen
open StableHlo

/-- A block's norm. -/
def pay (X : ℕ → ℕ → EReal) (G : ℕ → EReal) : ℕ → ℕ → EReal := rmsE 512 0x44000000#32 X G

theorem pay_eq (X : ℕ → ℕ → EReal) (G : ℕ → EReal) : k0_pay1 (F := Ideal) (ev2 .f32 X) (ev2 .f32 fun _ => G) = (ev2 .f32 (pay X G) : FVec Ideal S256x512 .f32) :=
  rms_ev2 (by decide) _ _ _ _ _ _ _ _

theorem out2_eq (X : ℕ → ℕ → EReal) (G : ℕ → EReal) : out0_2 (F := Ideal) (ev2 .f32 X) (ev2 .f32 fun _ => G) = (ev2 .f32 (pay X G) : FVec Ideal S256x512 .f32) := by
  unfold out0_2
  rw [View.canon_cons_unit_zero (by funext a; fin_cases a <;> rfl)]
  iterate 2 rw [View.ld_unit_zero (by funext a; fin_cases a <;> rfl)]
  exact pay_eq X G

theorem out3_eq (X : ℕ → ℕ → EReal) (G : ℕ → EReal) : out0_3 (F := Ideal) (ev2 .f32 X) (ev2 .f32 fun _ => G) = (ev2 .bf16 (pay X G) : FVec Ideal S256x512 .bf16) := by
  unfold out0_3
  rw [View.canon_cons_unit_zero (by funext a; fin_cases a <;> rfl)]
  iterate 2 rw [View.ld_unit_zero (by funext a; fin_cases a <;> rfl)]
  exact congrArg narrow (pay_eq X G)

theorem out4_eq (x0 : FVec Ideal S256x512 .f32) (x1 : FVec Ideal S1x512 .f32) : out0_4 (F := Ideal) x0 x1 = x0 := by
  unfold out0_4
  rw [View.canon_cons_unit_zero (by funext a; fin_cases a <;> rfl), View.ld_unit_zero (by funext a; fin_cases a <;> rfl)]

/-- Where the blocks a point reads start. -/
theorem atIn : ∀ t : Fin cfg0.N, (win0_0.index t 0 * win0_0.size 0 = 256 * t.val ∧ win0_0.index t 1 * win0_0.size 1 = 0)
    ∧ (win0_1.index t 0 * win0_1.size 0 = 0 ∧ win0_1.index t 1 * win0_1.size 1 = 0) :=
  by decide +kernel

/-- Where a point's block of each result starts. -/
theorem atOut : ∀ t : Fin cfg0.N, (win0_2.index t 0 * win0_2.size 0 = 256 * t.val ∧ win0_2.index t 1 * win0_2.size 1 = 0)
    ∧ (win0_3.index t 0 * win0_3.size 0 = 256 * t.val ∧ win0_3.index t 1 * win0_3.size 1 = 0)
    ∧ (win0_4.index t 0 * win0_4.size 0 = 256 * t.val ∧ win0_4.index t 1 * win0_4.size 1 = 0) :=
  by decide +kernel

section Arrays

variable (m : (ℓ : Loc nD τ sig) → Buf (Elt Ideal) ℓ) (c : Dev nD) (X : ℕ → ℕ → EReal) (G : ℕ → EReal)
  (hX : (m ((c.tc : Thread nD τ).loc main_arg0) : FVec Ideal S2048x512 .f32) = ev2 .f32 X)
  (hG : (m ((c.tc : Thread nD τ).loc main_arg1) : FVec Ideal S512 .f32) = ev1 G)

/-- What the host hands the grid: the weight, as a row. -/
theorem V_main_v0 : (V m c main_v0 : FVec Ideal S1x512 .f32)
    = shapeCast S1x512 (m ((c.tc : Thread nD τ).loc main_arg1) : FVec Ideal S512 .f32) shapeCasts_S512_S1x512 := by
  simp only [V, hostOps0, TRef.binary, TRef.nullary, TRef.ternary, TRef.unary, TRef.toBuf, TRef.ofBuf, cast_eq]
  after_results_simp <;> rfl

include hX in
theorem read0 (t : Fin cfg0.N) : (iblk m c 0 t : FVec Ideal S256x512 .f32) = ev2 .f32 fun r d => X (256 * t.val + r) d :=
  block_ev2 _ ((V_main_arg0 m c).trans hX) _ (win0_0.rect t).emb (fun _ => rfl) _ (atIn t).1 (win0_0.rect_emb_val t · 0) (win0_0.rect_emb_val t · 1)

include hG in
theorem read1 (t : Fin cfg0.N) : (iblk m c 1 t : FVec Ideal S1x512 .f32) = ev2 .f32 fun _ => G :=
  block_ev2 _ ((V_main_v0 m c).trans ((congrArg (shapeCast S1x512 · _) hG).trans (row_ev1 G _))) _ (win0_1.rect t).emb (fun _ => rfl) _ (atIn t).2
    (win0_1.rect_emb_val t · 0) (win0_1.rect_emb_val t · 1)

include hX hG

/-- The norm. -/
theorem final2 : ((dats m 0 c).arrAt 2 cfg0.N : FVec Ideal S2048x512 .f32) = ev2 .f32 (pay X G) :=
  rows_of_blocks N_0 _ _ (fun t => (win0_2.rect t).emb) (fun t => (atOut t).1) (fun t => (win0_2.rect_emb_val t · 0)) (fun t => (win0_2.rect_emb_val t · 1)) fun t =>
    (Cert.QRmsIdeal.Value.blocks2 m c t (flush0_2 t)).trans ((Cert.QRmsIdeal.Value.flushed2 m c t).trans
      (congrArg _ ((congr (congrArg out0_2 (read0 m c X hX t)) (read1 m c G hG t)).trans (out2_eq _ _))))

/-- The norm, in 16 bits. -/
theorem final3 : ((dats m 0 c).arrAt 3 cfg0.N : FVec Ideal S2048x512 .bf16) = ev2 .bf16 (pay X G) :=
  rows_of_blocks N_0 _ _ (fun t => (win0_3.rect t).emb) (fun t => (atOut t).2.1) (fun t => (win0_3.rect_emb_val t · 0)) (fun t => (win0_3.rect_emb_val t · 1)) fun t =>
    (Cert.QRmsIdeal.Value.blocks3 m c t (flush0_3 t)).trans ((Cert.QRmsIdeal.Value.flushed3 m c t).trans
      (congrArg _ ((congr (congrArg out0_3 (read0 m c X hX t)) (read1 m c G hG t)).trans (out3_eq _ _))))

omit hG in
/-- The rows themselves. -/
theorem final4 : ((dats m 0 c).arrAt 4 cfg0.N : FVec Ideal S2048x512 .f32) = ev2 .f32 X :=
  rows_of_blocks N_0 _ _ (fun t => (win0_4.rect t).emb) (fun t => (atOut t).2.2) (fun t => (win0_4.rect_emb_val t · 0)) (fun t => (win0_4.rect_emb_val t · 1)) fun t =>
    (Cert.QRmsIdeal.Value.blocks4 m c t (flush0_4 t)).trans ((Cert.QRmsIdeal.Value.flushed4 m c t).trans
      (congrArg _ ((out4_eq _ _).trans (read0 m c X hX t))))

end Arrays

end Kernel

section Reference

open Cert.QRmsRefIdeal Cert.QRmsRefIdeal.Read

theorem ref_norm {x0 : FVec Ideal S2048x512 .f32} {x1 : FVec Ideal S512 .f32} {X : ℕ → ℕ → EReal} {G : ℕ → EReal} (h0 : x0 = ev2 .f32 X) (h1 : x1 = ev1 G) :
    val_main_v12 (F := Ideal) x0 x1 = (ev2 .f32 (pay X G) : FVec Ideal S2048x512 .f32) := by
  funext i
  rw [val_main_v12_apply, val_main_v11_apply, val_main_v10_apply, val_main_v9_apply, val_main_v8_apply, val_main_v7_apply, val_main_v6_apply, val_main_v4_apply,
    val_main_v2_apply, val_main_v1_apply, val_main_v3_apply, val_main_v5_apply, val_main_cst_apply, val_main_cst_0_apply, val_main_cst_1_apply, h0, h1]
  exact rmsE_ref 0x44000000#32 X G (i 0).val (i 1).val

end Reference

open Idealize.SL.Sem

/-- The reference's frame: its run read at its arguments, which no operation writes; it declares no semaphore. -/
theorem frame_r : letI := Cert.QRmsRefIdeal.Gen.facts; Cert.quiescent_QRmsRefIdeal :=
  fun m ρ _ => (θ_run Cert.QRmsRefIdeal.defs _ _).mono (fun r h => ⟨fun c => (h c).2.2.2, sem_eq_zero_of_no_sems (by decide) r.2⟩)
    (Cert.QRmsRefIdeal.Value.run m ρ)

/-- The two programs' results are equal. -/
theorem algebraic : letI := Cert.QRmsIdeal.Gen.facts; letI := Cert.QRmsRefIdeal.Gen.facts; Cert.algebraic_QRmsIdeal_QRmsRefIdeal := by
  intro m g m' g' _ hagree
  refine ⟨fun c => (Cert.QRmsIdeal.Gen.dats m 0 c).arrAt 2 Cert.QRmsIdeal.cfg0.N, fun c => (Cert.QRmsIdeal.Gen.dats m 0 c).arrAt 3 Cert.QRmsIdeal.cfg0.N,
    fun c => (Cert.QRmsIdeal.Gen.dats m 0 c).arrAt 4 Cert.QRmsIdeal.cfg0.N, Cert.QRmsIdeal.Value.run_blocks m g, ?_⟩
  refine (θ_run Cert.QRmsRefIdeal.defs _ _).mono (fun r h c => ?_) (Cert.QRmsRefIdeal.Value.run m' g')
  obtain ⟨a0, a1⟩ := hagree c
  obtain ⟨r0, r1, r2, rest⟩ := h c
  refine ⟨r0.trans ((Cert.QRmsRefIdeal.Read.val_main_v12_eq _ _).trans ?_), r1.trans ((Cert.QRmsRefIdeal.Read.val_main_v13_eq _ _).trans ?_), r2.trans ?_, rest⟩
  · rw [a0, a1]
    exact (ref_norm (eq_ev2 _) (eq_ev1 _)).trans (final2 m c _ _ (eq_ev2 _) (eq_ev1 _)).symm
  · rw [a0, a1]
    exact (congrArg narrow (ref_norm (eq_ev2 _) (eq_ev1 _))).trans (final3 m c _ _ (eq_ev2 _) (eq_ev1 _)).symm
  · exact a0.trans ((eq_ev2 _).trans (final4 m c _ (eq_ev2 _)).symm)

end Cert.Norm.Queries

namespace Cert.Norm.Keys

open Idealize.ShloMosaic Idealize.ShloMosaic.ValueIdx Cert.Mixer

section Kernel

open Cert.KvRmsIdeal Cert.KvRmsIdeal.Gen
open StableHlo

/-- A block's norm. -/
def pay (X : ℕ → ℕ → EReal) (G : ℕ → EReal) : ℕ → ℕ → EReal := rmsE 256 0x43800000#32 X G

theorem pay_eq (X : ℕ → ℕ → EReal) (G : ℕ → EReal) : k0_pay1 (F := Ideal) (ev2 .f32 X) (ev2 .f32 fun _ => G) = (ev2 .f32 (pay X G) : FVec Ideal S256x256 .f32) :=
  rms_ev2 (by decide) _ _ _ _ _ _ _ _

theorem out2_eq (X : ℕ → ℕ → EReal) (G : ℕ → EReal) : out0_2 (F := Ideal) (ev2 .f32 X) (ev2 .f32 fun _ => G) = (ev2 .f32 (pay X G) : FVec Ideal S256x256 .f32) := by
  unfold out0_2
  rw [View.canon_cons_unit_zero (by funext a; fin_cases a <;> rfl)]
  iterate 2 rw [View.ld_unit_zero (by funext a; fin_cases a <;> rfl)]
  exact pay_eq X G

theorem out3_eq (X : ℕ → ℕ → EReal) (G : ℕ → EReal) : out0_3 (F := Ideal) (ev2 .f32 X) (ev2 .f32 fun _ => G) = (ev2 .bf16 (pay X G) : FVec Ideal S256x256 .bf16) := by
  unfold out0_3
  rw [View.canon_cons_unit_zero (by funext a; fin_cases a <;> rfl)]
  iterate 2 rw [View.ld_unit_zero (by funext a; fin_cases a <;> rfl)]
  exact congrArg narrow (pay_eq X G)

theorem out4_eq (x0 : FVec Ideal S256x256 .f32) (x1 : FVec Ideal S1x256 .f32) : out0_4 (F := Ideal) x0 x1 = x0 := by
  unfold out0_4
  rw [View.canon_cons_unit_zero (by funext a; fin_cases a <;> rfl), View.ld_unit_zero (by funext a; fin_cases a <;> rfl)]

/-- Where the blocks a point reads start. -/
theorem atIn : ∀ t : Fin cfg0.N, (win0_0.index t 0 * win0_0.size 0 = 256 * t.val ∧ win0_0.index t 1 * win0_0.size 1 = 0)
    ∧ (win0_1.index t 0 * win0_1.size 0 = 0 ∧ win0_1.index t 1 * win0_1.size 1 = 0) :=
  by decide +kernel

/-- Where a point's block of each result starts. -/
theorem atOut : ∀ t : Fin cfg0.N, (win0_2.index t 0 * win0_2.size 0 = 256 * t.val ∧ win0_2.index t 1 * win0_2.size 1 = 0)
    ∧ (win0_3.index t 0 * win0_3.size 0 = 256 * t.val ∧ win0_3.index t 1 * win0_3.size 1 = 0)
    ∧ (win0_4.index t 0 * win0_4.size 0 = 256 * t.val ∧ win0_4.index t 1 * win0_4.size 1 = 0) :=
  by decide +kernel

section Arrays

variable (m : (ℓ : Loc nD τ sig) → Buf (Elt Ideal) ℓ) (c : Dev nD) (X : ℕ → ℕ → EReal) (G : ℕ → EReal)
  (hX : (m ((c.tc : Thread nD τ).loc main_arg0) : FVec Ideal S2048x256 .f32) = ev2 .f32 X)
  (hG : (m ((c.tc : Thread nD τ).loc main_arg1) : FVec Ideal S256 .f32) = ev1 G)

/-- What the host hands the grid: the weight, as a row. -/
theorem V_main_v0 : (V m c main_v0 : FVec Ideal S1x256 .f32)
    = shapeCast S1x256 (m ((c.tc : Thread nD τ).loc main_arg1) : FVec Ideal S256 .f32) shapeCasts_S256_S1x256 := by
  simp only [V, hostOps0, TRef.binary, TRef.nullary, TRef.ternary, TRef.unary, TRef.toBuf, TRef.ofBuf, cast_eq]
  after_results_simp <;> rfl

include hX in
theorem read0 (t : Fin cfg0.N) : (iblk m c 0 t : FVec Ideal S256x256 .f32) = ev2 .f32 fun r d => X (256 * t.val + r) d :=
  block_ev2 _ ((V_main_arg0 m c).trans hX) _ (win0_0.rect t).emb (fun _ => rfl) _ (atIn t).1 (win0_0.rect_emb_val t · 0) (win0_0.rect_emb_val t · 1)

include hG in
theorem read1 (t : Fin cfg0.N) : (iblk m c 1 t : FVec Ideal S1x256 .f32) = ev2 .f32 fun _ => G :=
  block_ev2 _ ((V_main_v0 m c).trans ((congrArg (shapeCast S1x256 · _) hG).trans (row_ev1 G _))) _ (win0_1.rect t).emb (fun _ => rfl) _ (atIn t).2
    (win0_1.rect_emb_val t · 0) (win0_1.rect_emb_val t · 1)

include hX hG

/-- The norm. -/
theorem final2 : ((dats m 0 c).arrAt 2 cfg0.N : FVec Ideal S2048x256 .f32) = ev2 .f32 (pay X G) :=
  rows_of_blocks N_0 _ _ (fun t => (win0_2.rect t).emb) (fun t => (atOut t).1) (fun t => (win0_2.rect_emb_val t · 0)) (fun t => (win0_2.rect_emb_val t · 1)) fun t =>
    (Cert.KvRmsIdeal.Value.blocks2 m c t (flush0_2 t)).trans ((Cert.KvRmsIdeal.Value.flushed2 m c t).trans
      (congrArg _ ((congr (congrArg out0_2 (read0 m c X hX t)) (read1 m c G hG t)).trans (out2_eq _ _))))

/-- The norm, in 16 bits. -/
theorem final3 : ((dats m 0 c).arrAt 3 cfg0.N : FVec Ideal S2048x256 .bf16) = ev2 .bf16 (pay X G) :=
  rows_of_blocks N_0 _ _ (fun t => (win0_3.rect t).emb) (fun t => (atOut t).2.1) (fun t => (win0_3.rect_emb_val t · 0)) (fun t => (win0_3.rect_emb_val t · 1)) fun t =>
    (Cert.KvRmsIdeal.Value.blocks3 m c t (flush0_3 t)).trans ((Cert.KvRmsIdeal.Value.flushed3 m c t).trans
      (congrArg _ ((congr (congrArg out0_3 (read0 m c X hX t)) (read1 m c G hG t)).trans (out3_eq _ _))))

omit hG in
/-- The rows themselves. -/
theorem final4 : ((dats m 0 c).arrAt 4 cfg0.N : FVec Ideal S2048x256 .f32) = ev2 .f32 X :=
  rows_of_blocks N_0 _ _ (fun t => (win0_4.rect t).emb) (fun t => (atOut t).2.2) (fun t => (win0_4.rect_emb_val t · 0)) (fun t => (win0_4.rect_emb_val t · 1)) fun t =>
    (Cert.KvRmsIdeal.Value.blocks4 m c t (flush0_4 t)).trans ((Cert.KvRmsIdeal.Value.flushed4 m c t).trans
      (congrArg _ ((out4_eq _ _).trans (read0 m c X hX t))))

end Arrays

end Kernel

section Reference

open Cert.KvRmsRefIdeal Cert.KvRmsRefIdeal.Read

theorem ref_norm {x0 : FVec Ideal S2048x256 .f32} {x1 : FVec Ideal S256 .f32} {X : ℕ → ℕ → EReal} {G : ℕ → EReal} (h0 : x0 = ev2 .f32 X) (h1 : x1 = ev1 G) :
    val_main_v12 (F := Ideal) x0 x1 = (ev2 .f32 (pay X G) : FVec Ideal S2048x256 .f32) := by
  funext i
  rw [val_main_v12_apply, val_main_v11_apply, val_main_v10_apply, val_main_v9_apply, val_main_v8_apply, val_main_v7_apply, val_main_v6_apply, val_main_v4_apply,
    val_main_v2_apply, val_main_v1_apply, val_main_v3_apply, val_main_v5_apply, val_main_cst_apply, val_main_cst_0_apply, val_main_cst_1_apply, h0, h1]
  exact rmsE_ref 0x43800000#32 X G (i 0).val (i 1).val

end Reference

open Idealize.SL.Sem

/-- The reference's frame: its run read at its arguments, which no operation writes; it declares no semaphore. -/
theorem frame_r : letI := Cert.KvRmsRefIdeal.Gen.facts; Cert.quiescent_KvRmsRefIdeal :=
  fun m ρ _ => (θ_run Cert.KvRmsRefIdeal.defs _ _).mono (fun r h => ⟨fun c => (h c).2.2.2, sem_eq_zero_of_no_sems (by decide) r.2⟩)
    (Cert.KvRmsRefIdeal.Value.run m ρ)

/-- The two programs' results are equal. -/
theorem algebraic : letI := Cert.KvRmsIdeal.Gen.facts; letI := Cert.KvRmsRefIdeal.Gen.facts; Cert.algebraic_KvRmsIdeal_KvRmsRefIdeal := by
  intro m g m' g' _ hagree
  refine ⟨fun c => (Cert.KvRmsIdeal.Gen.dats m 0 c).arrAt 2 Cert.KvRmsIdeal.cfg0.N, fun c => (Cert.KvRmsIdeal.Gen.dats m 0 c).arrAt 3 Cert.KvRmsIdeal.cfg0.N,
    fun c => (Cert.KvRmsIdeal.Gen.dats m 0 c).arrAt 4 Cert.KvRmsIdeal.cfg0.N, Cert.KvRmsIdeal.Value.run_blocks m g, ?_⟩
  refine (θ_run Cert.KvRmsRefIdeal.defs _ _).mono (fun r h c => ?_) (Cert.KvRmsRefIdeal.Value.run m' g')
  obtain ⟨a0, a1⟩ := hagree c
  obtain ⟨r0, r1, r2, rest⟩ := h c
  refine ⟨r0.trans ((Cert.KvRmsRefIdeal.Read.val_main_v12_eq _ _).trans ?_), r1.trans ((Cert.KvRmsRefIdeal.Read.val_main_v13_eq _ _).trans ?_), r2.trans ?_, rest⟩
  · rw [a0, a1]
    exact (ref_norm (eq_ev2 _) (eq_ev1 _)).trans (final2 m c _ _ (eq_ev2 _) (eq_ev1 _)).symm
  · rw [a0, a1]
    exact (congrArg narrow (ref_norm (eq_ev2 _) (eq_ev1 _))).trans (final3 m c _ _ (eq_ev2 _) (eq_ev1 _)).symm
  · exact a0.trans ((eq_ev2 _).trans (final4 m c _ (eq_ev2 _)).symm)

end Cert.Norm.Keys

end
-- ==== Proof.LossHead.lean ====
/-
  The loss: half of the sum over the rows of the mean of the squared differences, and its gradient. The grid runs over the eight
  blocks of 256 rows; the loss is summed in one row of 128 equal entries, which the first point clears and every point adds its
  block's part to. The results equal the reference's at any arguments: the constants are powers of two, and a nonnegative real
  distributes over a sum of extended reals.
-/
module

public import proofs.«01_k».proof.Defs
public import proofs.«01_k».proof.Proof.NormRows
public import Idealize.ShloMosaic.Lib.Pointwise.Reduce
public import proofs.«01_k».proof.Proof.Gen.LossHeadIdeal.Value
public import proofs.«01_k».proof.Proof.Gen.LossHeadRefIdeal.Read

@[expose] public section

set_option maxRecDepth 16384

noncomputable section

namespace Cert.Loss

open Idealize.ShloMosaic Idealize.ShloMosaic.ValueIdx Cert.Mixer Cert.Norm

/-- The differences. -/
def errE (X T : ℕ → ℕ → EReal) (r c : ℕ) : EReal := X r c - T r c

/-- The gradient. -/
def gradE (X T : ℕ → ℕ → EReal) (r c : ℕ) : EReal := errE X T r c * ((1 / 2048 : ℝ) : EReal)

/-- A block's part of the loss. -/
def partE (X T : ℕ → ℕ → EReal) : EReal := ((1 / 4096 : ℝ) : EReal) * ∑ r ∈ Finset.range 256, ∑ c ∈ Finset.range 2048, errE X T r c * errE X T r c

/-- The parts of the first blocks. -/
def partsE (X T : ℕ → ℕ → EReal) (n : ℕ) : EReal := ∑ t ∈ Finset.range n, partE (fun r => X (256 * t + r)) fun r => T (256 * t + r)

/-! ## Words and sums -/

theorem grad_word : (Scalar.ofBits .f32 0x3A000000#32 : Ideal .f32) = ((1 / 2048 : ℝ) : EReal) := by
  change Ideal.ofBits .f32 0x3A000000#32 = _
  simp [Ideal.ofBits, Ideal.ieee, -EReal.coe_mul]; norm_num

theorem part_word : (Scalar.ofBits .f32 0x39800000#32 : Ideal .f32) = ((1 / 4096 : ℝ) : EReal) := by
  change Ideal.ofBits .f32 0x39800000#32 = _
  simp [Ideal.ofBits, Ideal.ieee, -EReal.coe_mul]; norm_num

theorem half_word : (Scalar.ofBits .f32 0x3F000000#32 : Ideal .f32) = ((1 / 2 : ℝ) : EReal) := by
  change Ideal.ofBits .f32 0x3F000000#32 = _
  simp [Ideal.ofBits, Ideal.ieee, -EReal.coe_mul]; norm_num

theorem one_word : (Scalar.ofBits .f32 0x3F800000#32 : Ideal .f32) = ((1 : ℝ) : EReal) := by
  change Ideal.ofBits .f32 0x3F800000#32 = _
  simp [Ideal.ofBits, Ideal.ieee, -EReal.coe_mul]; norm_num

theorem rows_word : (Scalar.ofBits .f32 0x45000000#32 : Ideal .f32) = ((2048 : ℝ) : EReal) := by
  change Ideal.ofBits .f32 0x45000000#32 = _
  simp [Ideal.ofBits, Ideal.ieee, -EReal.coe_mul]; norm_num

theorem div_rows (x : EReal) : Ideal.div x (Scalar.ofBits .f32 0x45000000#32 : Ideal .f32) = x * ((1 / 2048 : ℝ) : EReal) := by
  rw [rows_word]
  exact Ideal.div_coe (by norm_num) _

/-- A nonnegative real distributes over a sum. -/
theorem scale_sum {c : ℝ} (hc : 0 ≤ c) (n : ℕ) (f : ℕ → EReal) : (c : EReal) * ∑ k ∈ Finset.range n, f k = ∑ k ∈ Finset.range n, (c : EReal) * f k := by
  induction n with
  | zero => exact mul_zero _
  | succ n ih =>
    rw [Finset.sum_range_succ, Finset.sum_range_succ, ← ih]
    exact EReal.left_distrib_of_nonneg_of_ne_top (EReal.coe_nonneg.mpr hc) (EReal.coe_ne_top c) _ _

/-- The parts are the whole loss. -/
theorem partsE_eq (X T : ℕ → ℕ → EReal) (n : ℕ) :
    partsE X T n = ((1 / 4096 : ℝ) : EReal) * ∑ r ∈ Finset.range (256 * n), ∑ c ∈ Finset.range 2048, errE X T r c * errE X T r c := by
  induction n with
  | zero => exact (mul_zero _).symm
  | succ n ih =>
    rw [Nat.mul_succ, Finset.sum_range_add, EReal.left_distrib_of_nonneg_of_ne_top (EReal.coe_nonneg.mpr (by norm_num)) (EReal.coe_ne_top _), ← ih]
    exact Finset.sum_range_succ _ n

/-- The loss as the reference scales it. -/
theorem loss_ref (S : ℕ → EReal) : ((1 / 2 : ℝ) : EReal) * ∑ j ∈ Finset.range 2048, S j * ((1 / 2048 : ℝ) : EReal) = ((1 / 4096 : ℝ) : EReal) * ∑ j ∈ Finset.range 2048, S j := by
  have h : ((1 / 4096 : ℝ) : EReal) = ((1 / 2 : ℝ) : EReal) * ((1 / 2048 : ℝ) : EReal) := by rw [← EReal.coe_mul]; norm_num
  rw [h, mul_assoc, scale_sum (by norm_num) 2048 S]
  exact congrArg _ (Finset.sum_congr rfl fun _ _ => mul_comm _ _)

section Kernel

open Cert.LossHeadIdeal Cert.LossHeadIdeal.Gen

theorem grad_eq (X T : ℕ → ℕ → EReal) : k0_pay2 (F := Ideal) (ev2 .f32 X) (ev2 .f32 T) = (ev2 .f32 (gradE X T) : FVec Ideal S256x2048 .f32) :=
  funext fun i => congrArg (fun x : EReal => errE X T (i 0).val (i 1).val * x) grad_word

theorem start_eq : k0_pay3 (F := Ideal) = (ev2 .f32 fun _ _ => 0 : FVec Ideal S1x128 .f32) := funext fun _ => Cert.Mixer.zero_word

theorem step_eq (X T : ℕ → ℕ → EReal) (s : EReal) :
    k0_pay4 (F := Ideal) (ev2 .f32 X) (ev2 .f32 T) (ev2 .f32 fun _ _ => s) = (ev2 .f32 (fun _ _ => s + partE X T) : FVec Ideal S1x128 .f32) := by
  unfold k0_pay4
  dsimp only
  rw [shapeCast_self]
  funext i
  show s + (Scalar.ofBits .f32 0x39800000#32 : Ideal .f32) * _ = s + partE X T
  rw [part_word]
  refine congrArg (fun x : EReal => s + ((1 / 4096 : ℝ) : EReal) * x) ?_
  unfold extractAt
  refine (shapeCast_apply _ _ _ (Idealize.ShloMosaic.ix1 (0 : Fin 1)) (by rfl)).trans ?_
  refine (Ideal.reduceAdd_r3_a12 reduces_S1x256x2048_S1 _ _).trans ?_
  rw [Finset.sum_range]
  refine Finset.sum_congr rfl fun r _ => ?_
  rw [Finset.sum_range]
  refine Finset.sum_congr rfl fun d _ => ?_
  exact shapeCast_ab_1ab_apply _ _ _ _ _

section Point

variable (c : Dev nD) (i : grid0.Coords)
  (arg1 : Memref sig .tc .vmem S256x2048 .f32) (harg1 : arg1.IsWhole) (arg2 : Memref sig .tc .vmem S256x2048 .f32) (harg2 : arg2.IsWhole)
  (arg3 : Memref sig .tc .vmem S256x2048 .f32) (harg3 : arg3.IsWhole) (arg4 : Memref sig .tc .vmem S1x128 .f32) (harg4 : arg4.IsWhole)
  {x0 x1 : Vec Ideal S256x2048 .f32} {y : Vec Ideal S1x128 .f32} {X T : ℕ → ℕ → EReal} {s : EReal}
  (h0 : x0 = ev2 .f32 X) (h1 : x1 = ev2 .f32 T) (hy : y = ev2 .f32 fun _ _ => s)

include h0 h1

/-- What the first point leaves. -/
theorem first (hc : cond0_0 i) :
    out0_A_2 (F := Ideal) c i arg1 harg1 arg2 harg2 arg3 harg3 arg4 harg4 hc x0 x1 = (ev2 .f32 (gradE X T) : FVec Ideal S256x2048 .f32)
    ∧ out0_A_3 (F := Ideal) c i arg1 harg1 arg2 harg2 arg3 harg3 arg4 harg4 hc x0 x1 = (ev2 .f32 fun _ _ => 0 + partE X T : FVec Ideal S1x128 .f32) := by
  have l1 : ∀ inb, arg1.view.readAt (Elt Ideal) (Rect.unit (s := S256x2048) ![0, 0] S256x2048.size inb).toLoadRect (harg1.unread x0)
      = (ev2 .f32 X : FVec Ideal S256x2048 .f32) := fun _ => (View.readAt_full _ _ _).trans ((harg1.read_unread x0).trans h0)
  have l2 : ∀ inb, arg2.view.readAt (Elt Ideal) (Rect.unit (s := S256x2048) ![0, 0] S256x2048.size inb).toLoadRect (harg2.unread x1)
      = (ev2 .f32 T : FVec Ideal S256x2048 .f32) := fun _ => (View.readAt_full _ _ _).trans ((harg2.read_unread x1).trans h1)
  refine ⟨?_, ?_⟩
  · unfold out0_A_2 kernelRun0_A
    dsimp only
    exact (View.read_writes_full _ _ _ _ _).trans ((congr (congrArg k0_pay2 (l1 _)) (l2 _)).trans (grad_eq X T))
  · unfold out0_A_3 kernelRun0_A
    dsimp only
    refine (View.read_writes_full _ _ _ _ _).trans ?_
    refine (congr (congr (congrArg k0_pay4 (l1 _)) (l2 _)) ((View.readAt_full _ _ _).trans ((View.read_writes_full _ _ _ _ _).trans start_eq))).trans ?_
    exact step_eq X T 0

include hy

/-- What a later point leaves, over the sum the point before left. -/
theorem later (hc : ¬cond0_0 i) :
    out0_B_2 (F := Ideal) c i arg1 harg1 arg2 harg2 arg3 harg3 arg4 harg4 hc x0 x1 y = (ev2 .f32 (gradE X T) : FVec Ideal S256x2048 .f32)
    ∧ out0_B_3 (F := Ideal) c i arg1 harg1 arg2 harg2 arg3 harg3 arg4 harg4 hc x0 x1 y = (ev2 .f32 fun _ _ => s + partE X T : FVec Ideal S1x128 .f32) := by
  have l1 : ∀ inb, arg1.view.readAt (Elt Ideal) (Rect.unit (s := S256x2048) ![0, 0] S256x2048.size inb).toLoadRect (harg1.unread x0)
      = (ev2 .f32 X : FVec Ideal S256x2048 .f32) := fun _ => (View.readAt_full _ _ _).trans ((harg1.read_unread x0).trans h0)
  have l2 : ∀ inb, arg2.view.readAt (Elt Ideal) (Rect.unit (s := S256x2048) ![0, 0] S256x2048.size inb).toLoadRect (harg2.unread x1)
      = (ev2 .f32 T : FVec Ideal S256x2048 .f32) := fun _ => (View.readAt_full _ _ _).trans ((harg2.read_unread x1).trans h1)
  refine ⟨?_, ?_⟩
  · unfold out0_B_2 kernelRun0_B
    dsimp only
    exact (View.read_writes_full _ _ _ _ _).trans ((congr (congrArg k0_pay2 (l1 _)) (l2 _)).trans (grad_eq X T))
  · unfold out0_B_3 kernelRun0_B
    dsimp only
    refine (View.read_writes_full _ _ _ _ _).trans ?_
    refine (congr (congr (congrArg k0_pay4 (l1 _)) (l2 _)) ((View.readAt_full _ _ _).trans ((harg4.read_unread y).trans hy))).trans ?_
    exact step_eq X T s

end Point

/-- Where a point's blocks start. -/
theorem starts : ∀ t : Fin cfg0.N, (win0_0.index t 0 * win0_0.size 0 = 256 * t.val ∧ win0_0.index t 1 * win0_0.size 1 = 0)
    ∧ (win0_1.index t 0 * win0_1.size 0 = 256 * t.val ∧ win0_1.index t 1 * win0_1.size 1 = 0)
    ∧ (win0_2.index t 0 * win0_2.size 0 = 256 * t.val ∧ win0_2.index t 1 * win0_2.size 1 = 0)
    ∧ (win0_3.index t 0 * win0_3.size 0 = 0 ∧ win0_3.index t 1 * win0_3.size 1 = 0)
    ∧ win0_3.xsize (grid0.coords t) 0 = 1 ∧ win0_3.xsize (grid0.coords t) 1 = 128 :=
  by decide +kernel

section Arrays

variable (m : (ℓ : Loc nD τ sig) → Buf (Elt Ideal) ℓ) (c : Dev nD) (X T : ℕ → ℕ → EReal)
  (hX : (m ((c.tc : Thread nD τ).loc main_arg0) : FVec Ideal S2048x2048 .f32) = ev2 .f32 X)
  (hT : (m ((c.tc : Thread nD τ).loc main_arg1) : FVec Ideal S2048x2048 .f32) = ev2 .f32 T)

include hX in
theorem read0 (t : Fin cfg0.N) : (iblk m c 0 t : FVec Ideal S256x2048 .f32) = ev2 .f32 fun r d => X (256 * t.val + r) d :=
  block_ev2 _ ((V_main_arg0 m c).trans hX) _ (win0_0.rect t).emb (fun _ => rfl) _ (starts t).1 (win0_0.rect_emb_val t · 0) (win0_0.rect_emb_val t · 1)

include hT in
theorem read1 (t : Fin cfg0.N) : (iblk m c 1 t : FVec Ideal S256x2048 .f32) = ev2 .f32 fun r d => T (256 * t.val + r) d :=
  block_ev2 _ ((V_main_arg1 m c).trans hT) _ (win0_1.rect t).emb (fun _ => rfl) _ (starts t).2.1 (win0_1.rect_emb_val t · 0) (win0_1.rect_emb_val t · 1)

/-- What a point leaves: its block of the gradient, and the parts so far. -/
def Left (n : ℕ) (o : FVec Ideal S256x2048 .f32 × FVec Ideal S1x128 .f32) : Prop :=
  o.1 = (ev2 .f32 fun r d => gradE X T (256 * n + r) d : FVec Ideal S256x2048 .f32) ∧ o.2 = (ev2 .f32 fun _ _ => partsE X T (n + 1) : FVec Ideal S1x128 .f32)

include hX hT

theorem outs_first (t : Fin cfg0.N) (h0 : t.val = 0) : Left X T t.val (outsAt0 m c t.val t.isLt) := by
  have h8 : t.val % 8 = 0 := by omega
  obtain ⟨p2, p3⟩ := first c (grid0.coords t) (ms0_0 t) (hs0_0 t) (ms0_1 t) (hs0_1 t) (ms0_2 t) (hs0_2 t) (ms0_3 t) (hs0_3 t)
    (read0 m c X hX t) (read1 m c T hT t) ((hcond0_0 t).mpr h8)
  have e : (0 : EReal) + partE (fun r => X (256 * t.val + r)) (fun r => T (256 * t.val + r)) = partsE X T (t.val + 1) := by
    rw [h0, partsE, Nat.zero_add, Finset.sum_range_one, zero_add]
  unfold Left
  rw [outsAt0_A m c t h8]
  dsimp only
  exact ⟨p2, p3.trans (ev2_congr fun _ _ _ _ => e)⟩

theorem outs_later (t : Fin cfg0.N) (h0 : ¬t.val % 8 = 0)
    (ih : Left X T (t.val - 1) (outsAt0 m c (t.val - 1) (Nat.lt_of_le_of_lt (Nat.sub_le _ _) t.isLt))) : Left X T t.val (outsAt0 m c t.val t.isLt) := by
  obtain ⟨p2, p3⟩ := later c (grid0.coords t) (ms0_0 t) (hs0_0 t) (ms0_1 t) (hs0_1 t) (ms0_2 t) (hs0_2 t) (ms0_3 t) (hs0_3 t)
    (read0 m c X hX t) (read1 m c T hT t) ih.2 (fun h => h0 ((hcond0_0 t).mp h))
  have e : partsE X T (t.val - 1 + 1) + partE (fun r => X (256 * t.val + r)) (fun r => T (256 * t.val + r)) = partsE X T (t.val + 1) := by
    rw [show t.val - 1 + 1 = t.val by omega]
    exact (Finset.sum_range_succ _ t.val).symm
  unfold Left
  rw [outsAt0_B m c t h0]
  dsimp only
  exact ⟨p2, p3.trans (ev2_congr fun _ _ _ _ => e)⟩

theorem outs_eq (n : ℕ) : ∀ hn : n < cfg0.N, Left X T n (outsAt0 m c n hn) := by
  induction n with
  | zero => exact fun hn => outs_first m c X T hX hT ⟨0, hn⟩ rfl
  | succ n ih =>
    intro hn
    have hN : cfg0.N = 8 := N_0
    exact outs_later m c X T hX hT ⟨n + 1, hn⟩ (by show ¬(n + 1) % 8 = 0; omega) (ih (Nat.lt_of_succ_lt hn))

/-- The gradient. -/
theorem final2 : ((dats m 0 c).arrAt 2 cfg0.N : FVec Ideal S2048x2048 .f32) = ev2 .f32 (gradE X T) :=
  rows_of_blocks N_0 _ _ (fun t => (win0_2.rect t).emb) (fun t => (starts t).2.2.1) (fun t => (win0_2.rect_emb_val t · 0)) (fun t => (win0_2.rect_emb_val t · 1)) fun t =>
    (Cert.LossHeadIdeal.Value.blocks2 m c t (flush0_2 t)).trans ((Cert.LossHeadIdeal.Value.flushed2 m c t).trans
      (congrArg _ (outs_eq m c X T hX hT t.val t.isLt).1))

/-- The loss. -/
theorem final3 : ((dats m 0 c).arrAt 3 cfg0.N : FVec Ideal S1x128 .f32) = ev2 .f32 fun _ _ => partsE X T 8 := by
  refine (dats m 0 c).arrAt_eq_of_cover 3 _ (fun t ht => ?_) (fun i => ?_)
  · have h7 : t.val = 7 := by have := (flush0_3 t).mp ht; have := t.isLt; have : cfg0.N = 8 := N_0; omega
    rw [Cert.LossHeadIdeal.Value.flushed3]
    refine (congrArg _ ((outs_eq m c X T hX hT t.val t.isLt).2.trans (ev2_congr fun _ _ _ _ => by rw [h7]))).trans ?_
    rfl
  · have i0 : (i 0 : ℕ) < 1 := (i 0).isLt
    have i1 : (i 1 : ℕ) < 128 := (i 1).isLt
    have hN : cfg0.N = 8 := N_0
    refine ⟨⟨7, by omega⟩, (flush0_3 _).mpr rfl, ?_⟩
    generalize (⟨7, _⟩ : Fin cfg0.N) = t
    show i ∈ ((View.whole main_v0_1).slice (win0_3.rect t)).set
    rw [View.set_slice_whole]
    exact mem_block2 (starts t).2.2.2 (by omega) (by omega)

end Arrays

end Kernel

section Reference

open Cert.LossHeadRefIdeal Cert.LossHeadRefIdeal.Read

variable {x0 x1 : FVec Ideal S2048x2048 .f32} {X T : ℕ → ℕ → EReal} (h0 : x0 = ev2 .f32 X) (h1 : x1 = ev2 .f32 T)

include h0 h1

theorem ref_grad : val_main_v14 (F := Ideal) x0 x1 = (ev2 .f32 (gradE X T) : FVec Ideal S2048x2048 .f32) := by
  funext i
  rw [val_main_v14_apply, val_main_v13_apply, val_main_v12_apply, val_main_v10_apply, val_main_v9_apply, val_main_v11_apply, val_main_v3_apply,
    val_main_v2_apply, val_main_v0_apply, val_main_cst_apply, val_main_cst_4_apply, val_main_cst_5_apply, val_main_cst_6_apply, h0, h1]
  show Ideal.div ((Scalar.ofBits .f32 0x3F000000#32 : Ideal .f32) * (Scalar.ofBits .f32 0x3F800000#32 : Ideal .f32)) (Scalar.ofBits .f32 0x45000000#32 : Ideal .f32)
    * ((Scalar.ofBits .f32 0x40000000#32 : Ideal .f32) * errE X T (i 0).val (i 1).val) = errE X T (i 0).val (i 1).val * ((1 / 2048 : ℝ) : EReal)
  rw [div_rows, half_word, one_word, two_word, ← mul_assoc, mul_comm (errE X T _ _)]
  refine congrArg (fun x : EReal => x * errE X T (i 0).val (i 1).val) ?_
  show ((1 / 2 : ℝ) : EReal) * ((1 : ℝ) : EReal) * ((1 / 2048 : ℝ) : EReal) * ((2 : ℝ) : EReal) = ((1 / 2048 : ℝ) : EReal)
  rw [← EReal.coe_mul, ← EReal.coe_mul, ← EReal.coe_mul]
  norm_num

theorem ref_loss : val_main_v15 (F := Ideal) x0 x1 = (ev2 .f32 (fun _ _ => partsE X T 8) : FVec Ideal S1x128 .f32) := by
  have row : ∀ j : Fin 2048, val_main_v6 (F := Ideal) x0 x1 (Idealize.ShloMosaic.ix1 j)
      = (∑ c ∈ Finset.range 2048, errE X T j.val c * errE X T j.val c) * ((1 / 2048 : ℝ) : EReal) := fun j => by
    rw [val_main_v6_apply, val_main_v5_apply, val_main_cst_1_apply, val_main_v4_apply, val_main_cst_0_apply, h0, h1]
    exact (div_rows _).trans (congrArg (fun x : EReal => x * ((1 / 2048 : ℝ) : EReal)) (zero_add_range fun c => errE X T j.val c * errE X T j.val c))
  have total : ∀ i, val_main_v7 (F := Ideal) x0 x1 i
      = ∑ j ∈ Finset.range 2048, (∑ c ∈ Finset.range 2048, errE X T j c * errE X T j c) * ((1 / 2048 : ℝ) : EReal) := fun i => by
    unfold val_main_v7
    rw [Host.reduceAdd_apply, Ideal.hostReduceAdd_def, Ideal.hostReduceAdd_r1_a0, val_main_cst_2_apply, Finset.sum_congr rfl fun j _ => row j]
    exact zero_add_range fun j => (∑ c ∈ Finset.range 2048, errE X T j c * errE X T j c) * ((1 / 2048 : ℝ) : EReal)
  funext i
  rw [val_main_v15_apply, val_main_v8_apply, val_main_cst_3_apply, total]
  refine (congrArg (fun x : EReal => x * _) half_word).trans ((loss_ref _).trans (partsE_eq X T 8).symm)

end Reference

open Idealize.SL.Sem

/-- The reference's frame: its run read at its arguments, which no operation writes; it declares no semaphore. -/
theorem frame_r : letI := Cert.LossHeadRefIdeal.Gen.facts; Cert.quiescent_LossHeadRefIdeal :=
  fun m ρ _ => (θ_run Cert.LossHeadRefIdeal.defs _ _).mono (fun r h => ⟨fun c => (h c).2.2, sem_eq_zero_of_no_sems (by decide) r.2⟩)
    (Cert.LossHeadRefIdeal.Value.run m ρ)

/-- The two programs' results are equal. -/
theorem algebraic : letI := Cert.LossHeadIdeal.Gen.facts; letI := Cert.LossHeadRefIdeal.Gen.facts; Cert.algebraic_LossHeadIdeal_LossHeadRefIdeal := by
  intro m g m' g' _ hagree
  refine ⟨fun c => (Cert.LossHeadIdeal.Gen.dats m 0 c).arrAt 2 Cert.LossHeadIdeal.cfg0.N,
    fun c => (Cert.LossHeadIdeal.Gen.dats m 0 c).arrAt 3 Cert.LossHeadIdeal.cfg0.N, Cert.LossHeadIdeal.Value.run_blocks m g, ?_⟩
  refine (θ_run Cert.LossHeadRefIdeal.defs _ _).mono (fun r h c => ?_) (Cert.LossHeadRefIdeal.Value.run m' g')
  obtain ⟨a0, a1⟩ := hagree c
  obtain ⟨r0, r1, rest⟩ := h c
  refine ⟨r0.trans ((Cert.LossHeadRefIdeal.Read.val_main_v14_eq _ _).trans ?_), r1.trans ((Cert.LossHeadRefIdeal.Read.val_main_v15_eq _ _).trans ?_), rest⟩
  · rw [a0, a1]
    exact (ref_grad (eq_ev2 _) (eq_ev2 _)).trans (final2 m c _ _ (eq_ev2 _) (eq_ev2 _)).symm
  · rw [a0, a1]
    exact (ref_loss (eq_ev2 _) (eq_ev2 _)).trans (final3 m c _ _ (eq_ev2 _) (eq_ev2 _)).symm

end Cert.Loss

end
-- ==== Proof.Adamw.lean ====
/-
  The optimiser's update of a weight, entry by entry: the new first and second moments, and the change of the weight. The
  kernel multiplies the moments by reciprocals where the reference divides by the corrections of their bias.
-/
module

public import proofs.«01_k».proof.Proof.Tiles

@[expose] public section

noncomputable section

namespace Cert.Adamw

open Idealize.ShloMosaic Idealize.ShloMosaic.ValueIdx Cert.Mixer

/-- A constant of 32 bits. -/
abbrev word (b : BitVec 32) : EReal := (Scalar.ofBits .f32 b : Ideal .f32)

/-- The new first moment, from the old one and the gradient. -/
def firstE (M G : ℕ → ℕ → EReal) (r c : ℕ) : EReal := word 0x3F666666#32 * M r c + word 0x3DCCCCCD#32 * G r c

/-- The new second moment. -/
def secondE (V G : ℕ → ℕ → EReal) (r c : ℕ) : EReal := word 0x3F7FBE77#32 * V r c + word 0x3A83126F#32 * (G r c * G r c)

/-- The change of the weight. -/
def deltaE (W G M V : ℕ → ℕ → EReal) (r c : ℕ) : EReal :=
  word 0xBA83126F#32 * (Ideal.div (Ideal.div (firstE M G r c) (word 0x3F26BD02#32))
    (Ideal.sqrt (Ideal.div (secondE V G r c) (word 0x3C231ACC#32)) + word 0x322BCC77#32) + word 0x3C23D70A#32 * W r c)

/-- The product with the first named constant is the quotient by the correction of the first moment. -/
theorem mul_first (x : EReal) : x * ((8388608 / 5463681 : ℝ) : EReal) = Ideal.div x (word 0x3F26BD02#32) := by
  have h : word 0x3F26BD02#32 = ((5463681 / 8388608 : ℝ) : EReal) := by
    change Ideal.ofBits .f32 0x3F26BD02#32 = _
    simp [Ideal.ofBits, Ideal.ieee, -EReal.coe_mul]; norm_num
  rw [h, Ideal.div_coe (by norm_num), one_div_div]

/-- The product with the second named constant is the quotient by the correction of the second moment. -/
theorem mul_second (x : EReal) : x * ((268435456 / 2672307 : ℝ) : EReal) = Ideal.div x (word 0x3C231ACC#32) := by
  have h : word 0x3C231ACC#32 = ((2672307 / 268435456 : ℝ) : EReal) := by
    change Ideal.ofBits .f32 0x3C231ACC#32 = _
    simp [Ideal.ofBits, Ideal.ieee, -EReal.coe_mul]; norm_num
  rw [h, Ideal.div_coe (by norm_num), one_div_div]

/-- The change of the weight as the kernel computes it. -/
theorem delta_named (W G M V : ℕ → ℕ → EReal) (r c : ℕ) {a b : EReal} (ha : a = ((8388608 / 5463681 : ℝ) : EReal))
    (hb : b = ((268435456 / 2672307 : ℝ) : EReal)) :
    word 0xBA83126F#32 * (Ideal.div (firstE M G r c * a) (Ideal.sqrt (secondE V G r c * b) + word 0x322BCC77#32)
      + word 0x3C23D70A#32 * W r c) = deltaE W G M V r c := by
  rw [ha, hb, mul_first, mul_second]
  rfl

variable {φ : FTy} {R C n N : ℕ}

/-- The array with one matrix. -/
abbrev one (n C : ℕ) (f : ℕ → ℕ → EReal) : FVec Ideal ⟨3, ![1, n, C]⟩ .f32 := ev3 .f32 fun _ => f

/-- A block starts at its array's first entry. -/
theorem zero2 : (![0, 0] : Fin 2 → ℕ) = fun _ => 0 := by funext a; fin_cases a <;> rfl

theorem zero3 : (![0, 0, 0] : Fin 3 → ℕ) = fun _ => 0 := by funext a; fin_cases a <;> rfl

/-- The entries of an array with one matrix. -/
theorem one3 (x : FVec Ideal ⟨3, ![1, R, C]⟩ φ) : x = ev3 φ fun _ => en3 x 0 :=
  (eq_ev3 x).trans (ev3_congr fun a ha _ _ _ _ => by rw [Nat.lt_one_iff.mp ha])

/-- A block of rows, read out of a matrix. -/
theorem rows2 (x : FVec Ideal ⟨2, ![R, C]⟩ φ) (e : (⟨2, ![n, C]⟩ : Shape).Idx → (⟨2, ![R, C]⟩ : Shape).Idx) (t : ℕ)
    (h : ∀ y, (e y 0).val = n * t + (y 0).val ∧ (e y 1).val = (y 1).val) :
    (fun y => x (e y) : FVec Ideal ⟨2, ![n, C]⟩ φ) = ev2 φ fun r c => en2 x (n * t + r) c :=
  funext fun y => (congrFun (eq_ev2 x) (e y)).trans (congrArg₂ (en2 x) (h y).1 (h y).2)

/-- The same of an array with one matrix. -/
theorem rows3 (x : FVec Ideal ⟨3, ![1, R, C]⟩ φ) (e : (⟨3, ![1, n, C]⟩ : Shape).Idx → (⟨3, ![1, R, C]⟩ : Shape).Idx) (t : ℕ)
    (h : ∀ y, (e y 1).val = n * t + (y 1).val ∧ (e y 2).val = (y 2).val) :
    (fun y => x (e y) : FVec Ideal ⟨3, ![1, n, C]⟩ φ) = ev3 φ fun _ r c => en3 x 0 (n * t + r) c :=
  funext fun y => (congrFun (one3 x) (e y)).trans (congrArg₂ (en3 x 0) (h y).1 (h y).2)

/-- An array with one matrix is known from the blocks of its rows. -/
theorem known3 (hR : R = n * N) (hn : 0 < n) (A : FVec Ideal ⟨3, ![1, R, C]⟩ φ) (f : ℕ → ℕ → EReal)
    (e : Fin N → (⟨3, ![1, n, C]⟩ : Shape).Idx → (⟨3, ![1, R, C]⟩ : Shape).Idx)
    (h : ∀ t y, (e t y 1).val = n * t.val + (y 1).val ∧ (e t y 2).val = (y 2).val)
    (hA : ∀ t, (fun y => A (e t y) : FVec Ideal ⟨3, ![1, n, C]⟩ φ) = ev3 φ fun _ r c => f (n * t.val + r) c) : A = ev3 φ fun _ => f := by
  funext i
  have i0 : (i 0).val < 1 := (i 0).isLt
  have i1 : (i 1).val < R := (i 1).isLt
  let t : Fin N := ⟨(i 1).val / n, Nat.div_lt_of_lt_mul (hR ▸ i1)⟩
  let y : (⟨3, ![1, n, C]⟩ : Shape).Idx := fun a => match a with
    | ⟨0, _⟩ => ⟨0, Nat.one_pos⟩
    | ⟨1, _⟩ => ⟨(i 1).val % n, Nat.mod_lt _ hn⟩
    | ⟨2, _⟩ => i 2
  have hr : n * ((i 1).val / n) + (i 1).val % n = (i 1).val := Nat.div_add_mod _ _
  have hy : e t y = i := by
    funext a
    apply Fin.ext
    fin_cases a
    · have : (e t y 0).val < 1 := (e t y 0).isLt
      show (e t y 0).val = (i 0).val
      omega
    · exact (h t y).1.trans hr
    · exact (h t y).2
  rw [← hy]
  refine (congrFun (hA t) y).trans ?_
  show f (n * ((i 1).val / n) + (i 1).val % n) (i 2).val = f (e t y 1).val (e t y 2).val
  rw [hr, hy]

section Kernel

variable (W G M V : ℕ → ℕ → EReal) (h : (⟨3, ![1, n, C]⟩ : Shape).ShapeCasts ⟨2, ![n, C]⟩)

/-- A constant of the kernel, at every entry. -/
abbrev flat (n C : ℕ) (b : BitVec 32) : FVec Ideal ⟨2, ![n, C]⟩ .f32 := broadcast ⟨2, ![n, C]⟩ (Scalar.ofBits .f32 b)

/-- What the kernel computes of a block: the new first moment, -/
theorem kernel_first : addf (mulf (flat n C 0x3F666666#32) (shapeCast ⟨2, ![n, C]⟩ (ev3 .f32 fun _ => M : FVec Ideal ⟨3, ![1, n, C]⟩ .f32) h))
    (mulf (flat n C 0x3DCCCCCD#32) (ev2 .f32 G)) = ev2 .f32 (firstE M G) := by
  rw [shapeCast_ev3]
  rfl

/-- the new second moment, -/
theorem kernel_second : addf (mulf (flat n C 0x3F7FBE77#32) (shapeCast ⟨2, ![n, C]⟩ (ev3 .f32 fun _ => V : FVec Ideal ⟨3, ![1, n, C]⟩ .f32) h))
    (mulf (flat n C 0x3A83126F#32) (mulf (ev2 .f32 G) (ev2 .f32 G))) = ev2 .f32 (secondE V G) := by
  rw [shapeCast_ev3]
  rfl

/-- the change of the weight. -/
theorem kernel_delta {a b : Ideal .f32} (ha : a = ((8388608 / 5463681 : ℝ) : EReal)) (hb : b = ((268435456 / 2672307 : ℝ) : EReal)) :
    mulf (flat n C 0xBA83126F#32) (addf (divf (mulf (ev2 .f32 (firstE M G)) (broadcast ⟨2, ![n, C]⟩ a))
      (addf (sqrt (mulf (ev2 .f32 (secondE V G)) (broadcast ⟨2, ![n, C]⟩ b))) (flat n C 0x322BCC77#32)))
      (mulf (flat n C 0x3C23D70A#32) (shapeCast ⟨2, ![n, C]⟩ (ev3 .f32 fun _ => W : FVec Ideal ⟨3, ![1, n, C]⟩ .f32) h)))
      = ev2 .f32 (deltaE W G M V) := by
  rw [shapeCast_ev3]
  exact funext fun i => delta_named W G M V (i 0).val (i 1).val ha hb

end Kernel

section Reference

variable (h0 : (⟨0, ![]⟩ : Shape).BroadcastsInDim ⟨3, ![1, R, C]⟩ ![]) (h2 : (⟨2, ![R, C]⟩ : Shape).BroadcastsInDim ⟨3, ![1, R, C]⟩ ![1, 2])
  (w m v : FVec Ideal ⟨3, ![1, R, C]⟩ .f32) (g : FVec Ideal ⟨2, ![R, C]⟩ .f32)

/-- A constant of the reference, at every entry. -/
abbrev wide (b : BitVec 32) : FVec Ideal ⟨3, ![1, R, C]⟩ .f32 := broadcastInDim ⟨3, ![1, R, C]⟩ ![] h0 (constant ⟨0, ![]⟩ .f32 b)

theorem wide_eq (b : BitVec 32) : wide h0 b = ev3 .f32 fun _ _ _ => word b :=
  funext fun i => broadcastInDim_apply _ h0 (constant ⟨0, ![]⟩ .f32 b : FVec Ideal ⟨0, ![]⟩ .f32) i (fun a => a.elim0) fun a => a.elim0

/-- What the reference computes: the gradient with its further axis, -/
theorem reference_grad : broadcastInDim ⟨3, ![1, R, C]⟩ ![1, 2] h2 g = ev3 .f32 fun _ => en2 g :=
  funext fun i => by
    refine (broadcastInDim_apply _ h2 g i (ix2 (i 1) (i 2)) fun a => ?_).trans (congrFun (eq_ev2 g) _)
    match a with
    | ⟨0, _⟩ =>
      have : (i 1).val < R := (i 1).isLt
      show (i 1).val = if R = 1 then 0 else (i 1).val
      split <;> omega
    | ⟨1, _⟩ =>
      have : (i 2).val < C := (i 2).isLt
      show (i 2).val = if C = 1 then 0 else (i 2).val
      split <;> omega

/-- the new first moment, -/
theorem reference_first : addf (mulf (wide h0 0x3F666666#32) m) (mulf (wide h0 0x3DCCCCCD#32) (broadcastInDim ⟨3, ![1, R, C]⟩ ![1, 2] h2 g))
    = ev3 .f32 fun _ => firstE (en3 m 0) (en2 g) := by
  conv_lhs => rw [one3 m]
  rw [reference_grad, wide_eq, wide_eq]
  rfl

/-- the new second moment, -/
theorem reference_second : addf (mulf (wide h0 0x3F7FBE77#32) v) (mulf (wide h0 0x3A83126F#32)
    (mulf (broadcastInDim ⟨3, ![1, R, C]⟩ ![1, 2] h2 g) (broadcastInDim ⟨3, ![1, R, C]⟩ ![1, 2] h2 g)))
    = ev3 .f32 fun _ => secondE (en3 v 0) (en2 g) := by
  conv_lhs => rw [one3 v]
  rw [reference_grad, wide_eq, wide_eq]
  rfl

/-- the change of the weight. -/
theorem reference_delta (W G M V : ℕ → ℕ → EReal) (hw : w = ev3 .f32 fun _ => W) (hm : m = ev3 .f32 fun _ => firstE M G) (hv : v = ev3 .f32 fun _ => secondE V G) :
    mulf (wide h0 0xBA83126F#32) (addf (Host.divf (Host.divf m (wide h0 0x3F26BD02#32))
      (addf (Host.sqrt (Host.divf v (wide h0 0x3C231ACC#32))) (wide h0 0x322BCC77#32))) (mulf (wide h0 0x3C23D70A#32) w))
      = ev3 .f32 fun _ => deltaE W G M V := by
  rw [hw, hm, hv]
  iterate 5 rw [wide_eq]
  rfl

end Reference

section Update

/-- What a point does to its blocks. -/
abbrev Body (n C : ℕ) := FVec Ideal ⟨3, ![1, n, C]⟩ .f32 → FVec Ideal ⟨2, ![n, C]⟩ .f32 → FVec Ideal ⟨3, ![1, n, C]⟩ .f32 → FVec Ideal ⟨3, ![1, n, C]⟩ .f32
  → FVec Ideal ⟨3, ![1, n, C]⟩ .f32

/-- The body `o` computes the matrix `f` of the entries of its blocks. -/
abbrev Computes (o : Body n C) (f : (ℕ → ℕ → EReal) → (ℕ → ℕ → EReal) → (ℕ → ℕ → EReal) → (ℕ → ℕ → EReal) → ℕ → ℕ → EReal) : Prop :=
  ∀ W G M V, o (one n C W) (ev2 .f32 G) (one n C M) (one n C V) = one n C (f W G M V)

variable (e2 : Fin N → (⟨2, ![n, C]⟩ : Shape).Idx → (⟨2, ![R, C]⟩ : Shape).Idx) (e3 : Fin N → (⟨3, ![1, n, C]⟩ : Shape).Idx → (⟨3, ![1, R, C]⟩ : Shape).Idx)
  (w m v : FVec Ideal ⟨3, ![1, R, C]⟩ .f32) (g : FVec Ideal ⟨2, ![R, C]⟩ .f32)

/-- The array `A` is the bodies' blocks, put together. -/
abbrev Blocks (o : Body n C) (A : FVec Ideal ⟨3, ![1, R, C]⟩ .f32) : Prop :=
  ∀ t, (fun y => A (e3 t y) : FVec Ideal ⟨3, ![1, n, C]⟩ .f32) = o (fun y => w (e3 t y)) (fun y => g (e2 t y)) (fun y => m (e3 t y)) (fun y => v (e3 t y))

variable {e2 e3 w m v g} (hR : R = n * N) (hn : 0 < n) (he2 : ∀ t y, (e2 t y 0).val = n * t.val + (y 0).val ∧ (e2 t y 1).val = (y 1).val)
  (he3 : ∀ t y, (e3 t y 1).val = n * t.val + (y 1).val ∧ (e3 t y 2).val = (y 2).val)

include hR hn he2 he3 in
/-- A result put together from blocks of rows, where each entry depends on the arguments' entries at its place. -/
theorem whole {o : Body n C} {f : (ℕ → ℕ → EReal) → (ℕ → ℕ → EReal) → (ℕ → ℕ → EReal) → (ℕ → ℕ → EReal) → ℕ → ℕ → EReal} (ho : Computes o f)
    {A : FVec Ideal ⟨3, ![1, R, C]⟩ .f32} (hA : Blocks e2 e3 w m v g o A)
    (hf : ∀ W G M V a r c, f (fun r => W (a + r)) (fun r => G (a + r)) (fun r => M (a + r)) (fun r => V (a + r)) r c = f W G M V (a + r) c) :
    A = one R C (f (en3 w 0) (en2 g) (en3 m 0) (en3 v 0)) :=
  known3 hR hn A _ e3 he3 fun t => (hA t).trans (by
    rw [rows3 w _ _ (he3 t), rows2 g _ _ (he2 t), rows3 m _ _ (he3 t), rows3 v _ _ (he3 t)]
    exact (ho _ _ _ _).trans (funext fun y => hf (en3 w 0) (en2 g) (en3 m 0) (en3 v 0) (n * t.val) (y 1).val (y 2).val))

include hR hn he2 he3 in
/-- The reference's four results are the ones put together from blocks. -/
theorem update (h0 : (⟨0, ![]⟩ : Shape).BroadcastsInDim ⟨3, ![1, R, C]⟩ ![]) (h2 : (⟨2, ![R, C]⟩ : Shape).BroadcastsInDim ⟨3, ![1, R, C]⟩ ![1, 2])
    {o4 o5 o6 o7 : Body n C} {A4 A5 A6 A7 : FVec Ideal ⟨3, ![1, R, C]⟩ .f32}
    (ho : Computes o4 (fun _ G _ _ => G) ∧ Computes o5 deltaE ∧ Computes o6 (fun _ G M _ => firstE M G) ∧ Computes o7 fun _ G _ V => secondE V G)
    (b4 : Blocks e2 e3 w m v g o4 A4) (b5 : Blocks e2 e3 w m v g o5 A5) (b6 : Blocks e2 e3 w m v g o6 A6) (b7 : Blocks e2 e3 w m v g o7 A7) :
    let g' := broadcastInDim ⟨3, ![1, R, C]⟩ ![1, 2] h2 g
    let m' := addf (mulf (wide h0 0x3F666666#32) m) (mulf (wide h0 0x3DCCCCCD#32) g')
    let v' := addf (mulf (wide h0 0x3F7FBE77#32) v) (mulf (wide h0 0x3A83126F#32) (mulf g' g'))
    g' = A4 ∧ mulf (wide h0 0xBA83126F#32) (addf (Host.divf (Host.divf m' (wide h0 0x3F26BD02#32))
      (addf (Host.sqrt (Host.divf v' (wide h0 0x3C231ACC#32))) (wide h0 0x322BCC77#32))) (mulf (wide h0 0x3C23D70A#32) w)) = A5 ∧ m' = A6 ∧ v' = A7 :=
  ⟨(reference_grad h2 g).trans (whole hR hn he2 he3 ho.1 b4 fun _ _ _ _ _ _ _ => rfl).symm,
    (reference_delta h0 w _ _ _ _ _ _ (one3 w) (reference_first h0 h2 m g) (reference_second h0 h2 v g)).trans
      (whole hR hn he2 he3 ho.2.1 b5 fun _ _ _ _ _ _ _ => rfl).symm,
    (reference_first h0 h2 m g).trans (whole hR hn he2 he3 ho.2.2.1 b6 fun _ _ _ _ _ _ _ => rfl).symm,
    (reference_second h0 h2 v g).trans (whole hR hn he2 he3 ho.2.2.2 b7 fun _ _ _ _ _ _ _ => rfl).symm⟩

end Update

end Cert.Adamw

end
-- ==== Proof.AdamwNorm.lean ====
/-
  The optimiser's update of the four weights of the norms, stacked, in one block.
-/
module

public import proofs.«01_k».proof.Defs
public import proofs.«01_k».proof.Proof.Adamw
public import proofs.«01_k».proof.Proof.Gen.AdamwNormIdeal.Value
public import proofs.«01_k».proof.Proof.Gen.AdamwNormRefIdeal.Run

@[expose] public section

noncomputable section

namespace Cert.Adamw.Norms

open Idealize.ShloMosaic Idealize.SL.Sem Cert.Mixer
open Cert.AdamwNormIdeal Cert.AdamwNormIdeal.Gen Cert.AdamwNormIdeal.Value

/-- What a point writes, from its blocks' entries. -/
theorem outs : Computes (n := 2) (C := 2048) (out0_4 (F := Ideal)) (fun _ G _ _ => G) ∧ Computes (n := 2) (C := 2048) (out0_5 (F := Ideal)) deltaE ∧ Computes (n := 2) (C := 2048) (out0_6 (F := Ideal)) (fun _ G M _ => firstE M G)
    ∧ Computes (n := 2) (C := 2048) (out0_7 (F := Ideal)) fun _ G _ V => secondE V G := by
  refine ⟨fun W G M V => ?_, fun W G M V => ?_, fun W G M V => ?_, fun W G M V => ?_⟩
  · unfold out0_4
    rw [View.canon_cons_unit_zero (S := S1x2x2048) zero3, View.ld_unit_zero (S := S2x2048) zero2]
    exact shapeCast_ev2 _ _
  · unfold out0_5 k0_pay7 k0_pay4 k0_pay5
    rw [View.canon_cons_unit_zero (S := S1x2x2048) zero3, View.ld_unit_zero (S := S2x2048) zero2, View.ld_unit_zero (S := S1x2x2048) zero3, View.ld_unit_zero (S := S1x2x2048) zero3, View.ld_unit_zero (S := S1x2x2048) zero3]
    dsimp only
    rw [kernel_first, kernel_second]
    exact (congrArg k0_pay1 (kernel_delta W G M V _ (IdealRules.named_const.ideal_named_scalar _ _ _ _ rfl)
      (IdealRules.named_const.ideal_named_scalar _ _ _ _ rfl))).trans (shapeCast_ev2 _ _)
  · unfold out0_6
    rw [View.canon_cons_unit_zero (S := S1x2x2048) zero3, View.ld_unit_zero (S := S2x2048) zero2, View.ld_unit_zero (S := S1x2x2048) zero3]
    exact (congrArg k0_pay2 (kernel_first G M _)).trans (shapeCast_ev2 _ _)
  · unfold out0_7
    rw [View.canon_cons_unit_zero (S := S1x2x2048) zero3, View.ld_unit_zero (S := S2x2048) zero2, View.ld_unit_zero (S := S1x2x2048) zero3]
    exact (congrArg k0_pay3 (kernel_second G V _)).trans (shapeCast_ev2 _ _)

/-- Where a point's block of the gradient starts, and where its blocks of the other arrays do. -/
theorem start : ∀ t : Fin cfg0.N, (win0_1.index t 0 * win0_1.size 0 = 2 * t.val ∧ win0_1.index t 1 * win0_1.size 1 = 0)
    ∧ win0_0.index t 1 * win0_0.size 1 = 2 * t.val ∧ win0_0.index t 2 * win0_0.size 2 = 0 :=
  by decide +kernel

/-- The reference's frame: its run read at its arguments, which no operation writes; it declares no semaphore. -/
theorem frame_r : letI := Cert.AdamwNormRefIdeal.Gen.facts; Cert.quiescent_AdamwNormRefIdeal :=
  fun m ρ _ => (θ_run Cert.AdamwNormRefIdeal.defs _ _).mono (fun r h => ⟨fun c => (h c).2.2.2.2, sem_eq_zero_of_no_sems (by decide) r.2⟩)
    (Cert.AdamwNormRefIdeal.Value.run m ρ)

/-- The named constants are the reals the kernel's words round. -/
theorem named : Cert.preserves_AdamwNorm_AdamwNormIdeal := ⟨IdealRules.named_const.statement _ _ _ _ _ rfl, IdealRules.named_const.statement _ _ _ _ _ rfl⟩

/-- The two programs' results are equal. -/
theorem algebraic : letI := Cert.AdamwNormIdeal.Gen.facts; letI := Cert.AdamwNormRefIdeal.Gen.facts; Cert.algebraic_AdamwNormIdeal_AdamwNormRefIdeal := by
  intro m γ m' γ' _ hagree
  refine ⟨_, _, _, _, run_blocks m γ, (θ_run Cert.AdamwNormRefIdeal.defs _ _).mono (fun r h c => ?_) (Cert.AdamwNormRefIdeal.Value.run m' γ')⟩
  obtain ⟨a0, a1, a2, a3⟩ := hagree c
  obtain ⟨r0, r1, r2, r3, rest⟩ := h c
  have U := update (n := 2) (R := 2) (C := 2048) (e2 := fun t => (win0_1.rect t).emb) (e3 := fun t => (win0_0.rect t).emb) (w := V m c main_arg0) (g := V m c main_arg1)
    (m := V m c main_arg2) (v := V m c main_arg3)
    (o4 := out0_4 (F := Ideal)) (o5 := out0_5 (F := Ideal)) (o6 := out0_6 (F := Ideal)) (o7 := out0_7 (F := Ideal)) (A4 := (dats m 0 c).arrAt 4 cfg0.N) (A5 := (dats m 0 c).arrAt 5 cfg0.N)
    (A6 := (dats m 0 c).arrAt 6 cfg0.N) (A7 := (dats m 0 c).arrAt 7 cfg0.N) (congrArg (2 * ·) N_0).symm (by decide)
    (fun t y => ⟨(win0_1.rect_emb_val t y 0).trans (by rw [(start t).1.1]), (win0_1.rect_emb_val t y 1).trans (by rw [(start t).1.2, Nat.zero_add])⟩)
    (fun t y => ⟨(win0_0.rect_emb_val t y 1).trans (by rw [(start t).2.1]), (win0_0.rect_emb_val t y 2).trans (by rw [(start t).2.2, Nat.zero_add])⟩)
    Cert.AdamwNormRefIdeal.Gen.facts.bcast_S_S1x2x2048 Cert.AdamwNormRefIdeal.Gen.facts.bcast_S2x2048_S1x2x2048_1_2 outs
    (fun t => (blocks4 m c t (flush0_4 t)).trans (flushed4 m c t)) (fun t => (blocks5 m c t (flush0_5 t)).trans (flushed5 m c t))
    (fun t => (blocks6 m c t (flush0_6 t)).trans (flushed6 m c t)) (fun t => (blocks7 m c t (flush0_7 t)).trans (flushed7 m c t))
  rw [V_main_arg0, V_main_arg1, V_main_arg2, V_main_arg3, ← a0, ← a1, ← a2, ← a3] at U
  exact ⟨r0.trans U.1, r1.trans U.2.1, r2.trans U.2.2.1, r3.trans U.2.2.2, rest⟩

end Cert.Adamw.Norms

end
-- ==== Proof.AdamwUq.lean ====
/-
  The optimiser's update of the weight that makes the queries, in two blocks of 256 rows.
-/
module

public import proofs.«01_k».proof.Defs
public import proofs.«01_k».proof.Proof.Adamw
public import proofs.«01_k».proof.Proof.Gen.AdamwUqIdeal.Value
public import proofs.«01_k».proof.Proof.Gen.AdamwUqRefIdeal.Run

@[expose] public section

noncomputable section

namespace Cert.Adamw.Uq

open Idealize.ShloMosaic Idealize.SL.Sem Cert.Mixer
open Cert.AdamwUqIdeal Cert.AdamwUqIdeal.Gen Cert.AdamwUqIdeal.Value

/-- What a point writes, from its blocks' entries. -/
theorem outs : Computes (n := 256) (C := 384) (out0_4 (F := Ideal)) (fun _ G _ _ => G) ∧ Computes (n := 256) (C := 384) (out0_5 (F := Ideal)) deltaE ∧ Computes (n := 256) (C := 384) (out0_6 (F := Ideal)) (fun _ G M _ => firstE M G)
    ∧ Computes (n := 256) (C := 384) (out0_7 (F := Ideal)) fun _ G _ V => secondE V G := by
  refine ⟨fun W G M V => ?_, fun W G M V => ?_, fun W G M V => ?_, fun W G M V => ?_⟩
  · unfold out0_4
    rw [View.canon_cons_unit_zero (S := S1x256x384) zero3, View.ld_unit_zero (S := S256x384) zero2]
    exact shapeCast_ev2 _ _
  · unfold out0_5 k0_pay7 k0_pay4 k0_pay5
    rw [View.canon_cons_unit_zero (S := S1x256x384) zero3, View.ld_unit_zero (S := S256x384) zero2, View.ld_unit_zero (S := S1x256x384) zero3, View.ld_unit_zero (S := S1x256x384) zero3, View.ld_unit_zero (S := S1x256x384) zero3]
    dsimp only
    rw [kernel_first, kernel_second]
    exact (congrArg k0_pay1 (kernel_delta W G M V _ (IdealRules.named_const.ideal_named_scalar _ _ _ _ rfl)
      (IdealRules.named_const.ideal_named_scalar _ _ _ _ rfl))).trans (shapeCast_ev2 _ _)
  · unfold out0_6
    rw [View.canon_cons_unit_zero (S := S1x256x384) zero3, View.ld_unit_zero (S := S256x384) zero2, View.ld_unit_zero (S := S1x256x384) zero3]
    exact (congrArg k0_pay2 (kernel_first G M _)).trans (shapeCast_ev2 _ _)
  · unfold out0_7
    rw [View.canon_cons_unit_zero (S := S1x256x384) zero3, View.ld_unit_zero (S := S256x384) zero2, View.ld_unit_zero (S := S1x256x384) zero3]
    exact (congrArg k0_pay3 (kernel_second G V _)).trans (shapeCast_ev2 _ _)

/-- Where a point's block of the gradient starts, and where its blocks of the other arrays do. -/
theorem start : ∀ t : Fin cfg0.N, (win0_1.index t 0 * win0_1.size 0 = 256 * t.val ∧ win0_1.index t 1 * win0_1.size 1 = 0)
    ∧ win0_0.index t 1 * win0_0.size 1 = 256 * t.val ∧ win0_0.index t 2 * win0_0.size 2 = 0 :=
  by decide +kernel

/-- The reference's frame: its run read at its arguments, which no operation writes; it declares no semaphore. -/
theorem frame_r : letI := Cert.AdamwUqRefIdeal.Gen.facts; Cert.quiescent_AdamwUqRefIdeal :=
  fun m ρ _ => (θ_run Cert.AdamwUqRefIdeal.defs _ _).mono (fun r h => ⟨fun c => (h c).2.2.2.2, sem_eq_zero_of_no_sems (by decide) r.2⟩)
    (Cert.AdamwUqRefIdeal.Value.run m ρ)

/-- The named constants are the reals the kernel's words round. -/
theorem named : Cert.preserves_AdamwUq_AdamwUqIdeal := ⟨IdealRules.named_const.statement _ _ _ _ _ rfl, IdealRules.named_const.statement _ _ _ _ _ rfl⟩

/-- The two programs' results are equal. -/
theorem algebraic : letI := Cert.AdamwUqIdeal.Gen.facts; letI := Cert.AdamwUqRefIdeal.Gen.facts; Cert.algebraic_AdamwUqIdeal_AdamwUqRefIdeal := by
  intro m γ m' γ' _ hagree
  refine ⟨_, _, _, _, run_blocks m γ, (θ_run Cert.AdamwUqRefIdeal.defs _ _).mono (fun r h c => ?_) (Cert.AdamwUqRefIdeal.Value.run m' γ')⟩
  obtain ⟨a0, a1, a2, a3⟩ := hagree c
  obtain ⟨r0, r1, r2, r3, rest⟩ := h c
  have U := update (n := 256) (R := 512) (C := 384) (e2 := fun t => (win0_1.rect t).emb) (e3 := fun t => (win0_0.rect t).emb) (w := V m c main_arg0) (g := V m c main_arg1)
    (m := V m c main_arg2) (v := V m c main_arg3)
    (o4 := out0_4 (F := Ideal)) (o5 := out0_5 (F := Ideal)) (o6 := out0_6 (F := Ideal)) (o7 := out0_7 (F := Ideal)) (A4 := (dats m 0 c).arrAt 4 cfg0.N) (A5 := (dats m 0 c).arrAt 5 cfg0.N)
    (A6 := (dats m 0 c).arrAt 6 cfg0.N) (A7 := (dats m 0 c).arrAt 7 cfg0.N) (congrArg (256 * ·) N_0).symm (by decide)
    (fun t y => ⟨(win0_1.rect_emb_val t y 0).trans (by rw [(start t).1.1]), (win0_1.rect_emb_val t y 1).trans (by rw [(start t).1.2, Nat.zero_add])⟩)
    (fun t y => ⟨(win0_0.rect_emb_val t y 1).trans (by rw [(start t).2.1]), (win0_0.rect_emb_val t y 2).trans (by rw [(start t).2.2, Nat.zero_add])⟩)
    Cert.AdamwUqRefIdeal.Gen.facts.bcast_S_S1x512x384 Cert.AdamwUqRefIdeal.Gen.facts.bcast_S512x384_S1x512x384_1_2 outs
    (fun t => (blocks4 m c t (flush0_4 t)).trans (flushed4 m c t)) (fun t => (blocks5 m c t (flush0_5 t)).trans (flushed5 m c t))
    (fun t => (blocks6 m c t (flush0_6 t)).trans (flushed6 m c t)) (fun t => (blocks7 m c t (flush0_7 t)).trans (flushed7 m c t))
  rw [V_main_arg0, V_main_arg1, V_main_arg2, V_main_arg3, ← a0, ← a1, ← a2, ← a3] at U
  exact ⟨r0.trans U.1, r1.trans U.2.1, r2.trans U.2.2.1, r3.trans U.2.2.2, rest⟩

end Cert.Adamw.Uq

end
-- ==== Proof.MixUp.lean ====
/-
  The channel mixer's first product and its activation: `x · w1`, the shards of `w1` side by side, and the square of its
  positive part. The grid runs over the tiles of 1024 by 1024 of the two results, each of them from 1024 rows of `x` and
  1024 columns of a shard.
-/
module

public import proofs.«01_k».proof.Defs
public import proofs.«01_k».proof.Proof.Tiles
public import proofs.«01_k».proof.Proof.Gen.UpIdeal.Value
public import proofs.«01_k».proof.Proof.Gen.UpRefIdeal.Read

@[expose] public section

set_option maxRecDepth 16384

noncomputable section

namespace Cert.Mixer.Up

open Idealize.ShloMosaic Idealize.ShloMosaic.ValueIdx

/-- The entries of the product. -/
def hidE (A : ℕ → ℕ → EReal) (W : ℕ → ℕ → ℕ → EReal) (r c : ℕ) : EReal := ∑ k ∈ Finset.range 2048, A r k * W (c / 2048) k (c % 2048)

/-- The square of the positive part. -/
def squareE (x : EReal) : EReal := max x 0 * max x 0

section Kernel

open Cert.UpIdeal Cert.UpIdeal.Gen
open StableHlo

/-- The product a point computes. -/
theorem pay1_eq (a : ℕ → ℕ → EReal) (w : ℕ → ℕ → ℕ → EReal) : k0_pay1 (F := Ideal) (ev2 .bf16 a) (ev3 .bf16 w)
    = (ev2 .f32 fun r c => ∑ k ∈ Finset.range 2048, a r k * w 0 k c : FVec Ideal S1024x1024 .f32) := by
  unfold k0_pay1
  dsimp only
  rw [shapeCast_self, constant_zero]
  exact (congrArg (fun x => matmul _ _ _ x _) (shapeCast_ev3 w _)).trans (matmul_nn 1024 2048 1024 _ a (w 0))

theorem out2_eq (a : ℕ → ℕ → EReal) (w : ℕ → ℕ → ℕ → EReal) : out0_2 (F := Ideal) (ev2 .bf16 a) (ev3 .bf16 w)
    = (ev2 .bf16 fun r c => ∑ k ∈ Finset.range 2048, a r k * w 0 k c : FVec Ideal S1024x1024 .bf16) := by
  unfold out0_2
  rw [View.canon_cons_unit_zero (by funext a; fin_cases a <;> rfl), View.ld_unit_zero (by funext a; fin_cases a <;> rfl),
    View.ld_unit_zero (by funext a; fin_cases a <;> rfl)]
  exact congrArg narrow (pay1_eq a w)

theorem out3_eq (a : ℕ → ℕ → EReal) (w : ℕ → ℕ → ℕ → EReal) : out0_3 (F := Ideal) (ev2 .bf16 a) (ev3 .bf16 w)
    = (ev2 .bf16 fun r c => squareE (∑ k ∈ Finset.range 2048, a r k * w 0 k c) : FVec Ideal S1024x1024 .bf16) := by
  unfold out0_3
  rw [View.canon_cons_unit_zero (by funext a; fin_cases a <;> rfl), View.ld_unit_zero (by funext a; fin_cases a <;> rfl),
    View.ld_unit_zero (by funext a; fin_cases a <;> rfl)]
  unfold k0_pay3
  dsimp only
  rw [pay1_eq, zero_word]
  rfl

/-- Where a point's rows of `x` start. -/
theorem at0 : ∀ t : Fin cfg0.N, win0_0.index t 0 * win0_0.size 0 = 1024 * (t.val / 8) ∧ win0_0.index t 1 * win0_0.size 1 = 0 :=
  by decide +kernel

/-- The shard a point reads, and where its columns of it start. -/
theorem at1 : ∀ t : Fin cfg0.N, win0_1.index t 0 * win0_1.size 0 = t.val % 8 / 2 ∧ win0_1.index t 1 * win0_1.size 1 = 0
    ∧ win0_1.index t 2 * win0_1.size 2 = 1024 * (t.val % 2) :=
  by decide +kernel

/-- Where a point's tile of the first result starts, and its extents. -/
theorem at2 : ∀ t : Fin cfg0.N, (win0_2.index t 0 * win0_2.size 0 = 1024 * (t.val / 8) ∧ win0_2.index t 1 * win0_2.size 1 = 1024 * (t.val % 8))
    ∧ win0_2.xsize (grid0.coords t) 0 = 1024 ∧ win0_2.xsize (grid0.coords t) 1 = 1024 :=
  by decide +kernel

/-- The same of the second result. -/
theorem at3 : ∀ t : Fin cfg0.N, (win0_3.index t 0 * win0_3.size 0 = 1024 * (t.val / 8) ∧ win0_3.index t 1 * win0_3.size 1 = 1024 * (t.val % 8))
    ∧ win0_3.xsize (grid0.coords t) 0 = 1024 ∧ win0_3.xsize (grid0.coords t) 1 = 1024 :=
  by decide +kernel

section Arrays

variable (m : (ℓ : Loc nD τ sig) → Buf (Elt Ideal) ℓ) (c : Dev nD) (A : ℕ → ℕ → EReal) (W : ℕ → ℕ → ℕ → EReal)
  (hA : (V m c main_v0 : FVec Ideal S2048x2048 .bf16) = ev2 .bf16 A)
  (hW : (V m c main_v1 : FVec Ideal S4x2048x2048 .bf16) = ev3 .bf16 W)

include hA in
theorem read0 (t : Fin cfg0.N) : (iblk m c 0 t : FVec Ideal S1024x2048 .bf16)
    = ev2 .bf16 fun r c => A (1024 * (t.val / 8) + r) (0 + c) :=
  tileAt2 _ hA _ (win0_0.rect t).emb (fun _ => rfl) (win0_0.rect_emb_val t) (at0 t)

include hW in
theorem read1 (t : Fin cfg0.N) : (iblk m c 1 t : FVec Ideal S1x2048x1024 .bf16)
    = ev3 .bf16 fun _ r c => W (t.val % 8 / 2) (0 + r) (1024 * (t.val % 2) + c) :=
  tileAt3 _ hW _ (win0_1.rect t).emb (fun _ => rfl) (win0_1.rect_emb_val t) (at1 t)

/-- A point's product is its tile of the whole one. -/
theorem tile_eq (t r d : ℕ) (hd : d < 1024) : ∑ k ∈ Finset.range 2048, A (1024 * (t / 8) + r) (0 + k) * W (t % 8 / 2) (0 + k) (1024 * (t % 2) + d)
    = hidE A W (1024 * (t / 8) + r) (1024 * (t % 8) + d) :=
  Finset.sum_congr rfl fun k _ => by
    rw [Nat.zero_add, show (1024 * (t % 8) + d) / 2048 = t % 8 / 2 by omega, show (1024 * (t % 8) + d) % 2048 = 1024 * (t % 2) + d by omega]

include hA hW
/-- The first result. -/
theorem final2 : ((dats m 0 c).arrAt 2 cfg0.N : FVec Ideal S2048x8192 .bf16) = ev2 .bf16 (hidE A W) := by
  refine (dats m 0 c).arrAt_eq_of_cover 2 _ (fun t _ => ?_) (fun i => ?_)
  · rw [Cert.UpIdeal.Value.flushed2]
    refine (congrArg _ ((congrArg₂ out0_2 (read0 m c A hA t) (read1 m c W hW t)).trans (out2_eq _ _))).trans ?_
    have T := block2 (M := 2048) (N := 8192) (m := 1024) (n := 1024) (φ := .bf16) (hidE A W) (win0_2.rect t).emb (win0_2.rect_emb_val t) (at2 t).1
    exact Eq.symm (T.trans (ev2_congr fun r _ d hd => (tile_eq A W t.val r d hd).symm))
  · have i0 : (i 0 : ℕ) < 2048 := (i 0).isLt
    have i1 : (i 1 : ℕ) < 8192 := (i 1).isLt
    have hN : cfg0.N = 16 := N_0
    refine ⟨⟨8 * ((i 0 : ℕ) / 1024) + (i 1 : ℕ) / 1024, by omega⟩, flush0_2 _, ?_⟩
    generalize ht' : (⟨8 * ((i 0 : ℕ) / 1024) + (i 1 : ℕ) / 1024, _⟩ : Fin cfg0.N) = t
    have hv' : t.val = 8 * ((i 0 : ℕ) / 1024) + (i 1 : ℕ) / 1024 := by rw [← ht']
    show i ∈ ((View.whole main_v2_0).slice (win0_2.rect t)).set
    rw [View.set_slice_whole]
    exact mem_block2 (at2 t) (by omega) (by omega)

/-- The second result. -/
theorem final3 : ((dats m 0 c).arrAt 3 cfg0.N : FVec Ideal S2048x8192 .bf16) = ev2 .bf16 fun r d => squareE (hidE A W r d) := by
  refine (dats m 0 c).arrAt_eq_of_cover 3 _ (fun t _ => ?_) (fun i => ?_)
  · rw [Cert.UpIdeal.Value.flushed3]
    refine (congrArg _ ((congrArg₂ out0_3 (read0 m c A hA t) (read1 m c W hW t)).trans (out3_eq _ _))).trans ?_
    have T := block2 (M := 2048) (N := 8192) (m := 1024) (n := 1024) (φ := .bf16) (fun r d => squareE (hidE A W r d)) (win0_3.rect t).emb (win0_3.rect_emb_val t) (at3 t).1
    exact Eq.symm (T.trans (ev2_congr fun r _ d hd => congrArg squareE (tile_eq A W t.val r d hd).symm))
  · have i0 : (i 0 : ℕ) < 2048 := (i 0).isLt
    have i1 : (i 1 : ℕ) < 8192 := (i 1).isLt
    have hN : cfg0.N = 16 := N_0
    refine ⟨⟨8 * ((i 0 : ℕ) / 1024) + (i 1 : ℕ) / 1024, by omega⟩, flush0_3 _, ?_⟩
    generalize ht' : (⟨8 * ((i 0 : ℕ) / 1024) + (i 1 : ℕ) / 1024, _⟩ : Fin cfg0.N) = t
    have hv' : t.val = 8 * ((i 0 : ℕ) / 1024) + (i 1 : ℕ) / 1024 := by rw [← ht']
    show i ∈ ((View.whole main_v2_1).slice (win0_3.rect t)).set
    rw [View.set_slice_whole]
    exact mem_block2 (at3 t) (by omega) (by omega)

end Arrays

variable (m : (ℓ : Loc nD τ sig) → Buf (Elt Ideal) ℓ) (c : Dev nD)

/-- What the host hands the grid: the two arguments in 16 bits. -/
theorem host0 : (V m c main_v0 : FVec Ideal S2048x2048 .bf16) = narrow (m ((c.tc : Thread nD τ).loc main_arg0) : FVec Ideal S2048x2048 .f32) := by
  simp only [V, hostOps0, TRef.binary, TRef.nullary, TRef.ternary, TRef.unary, TRef.toBuf, TRef.ofBuf, cast_eq]
  after_results_simp <;> rfl

theorem host1 : (V m c main_v1 : FVec Ideal S4x2048x2048 .bf16) = narrow (m ((c.tc : Thread nD τ).loc main_arg1) : FVec Ideal S4x2048x2048 .f32) := by
  simp only [V, hostOps0, TRef.binary, TRef.nullary, TRef.ternary, TRef.unary, TRef.toBuf, TRef.ofBuf, cast_eq]
  after_results_simp <;> rfl

variable (A : ℕ → ℕ → EReal) (W : ℕ → ℕ → ℕ → EReal) (hA : (m ((c.tc : Thread nD τ).loc main_arg0) : FVec Ideal S2048x2048 .f32) = ev2 .f32 A)
  (hW : (m ((c.tc : Thread nD τ).loc main_arg1) : FVec Ideal S4x2048x2048 .f32) = ev3 .f32 W)

include hA hW
/-- The kernel's results, from the entries of its arguments. -/
theorem kernel_hid : ((dats m 0 c).arrAt 2 cfg0.N : FVec Ideal S2048x8192 .bf16) = ev2 .bf16 (hidE A W) :=
  final2 m c A W ((host0 m c).trans (narrow_ev2 hA)) ((host1 m c).trans (narrow_ev3 hW))

theorem kernel_act : ((dats m 0 c).arrAt 3 cfg0.N : FVec Ideal S2048x8192 .bf16) = ev2 .bf16 fun r d => squareE (hidE A W r d) :=
  final3 m c A W ((host0 m c).trans (narrow_ev2 hA)) ((host1 m c).trans (narrow_ev3 hW))

end Kernel

section Reference

open Cert.UpRefIdeal Cert.UpRefIdeal.Read

variable (A : ℕ → ℕ → EReal) (W : ℕ → ℕ → ℕ → EReal)

/-- The reference's product, from the entries of its arguments. -/
theorem ref_hid : val_main_v1 (F := Ideal) (ev2 .f32 A : FVec Ideal S2048x2048 .f32) (ev3 .f32 W : FVec Ideal S4x2048x2048 .f32)
    = (ev2 .f32 (hidE A W) : FVec Ideal S2048x8192 .f32) :=
  funext fun i => by
    rw [val_main_v1_apply, val_main_v0_apply]
    have i0 : (i 0).val < 2048 := (i 0).isLt
    have i1 : (i 1).val < 8192 := (i 1).isLt
    refine Eq.trans ?_ (Finset.sum_range fun k => A (i 0).val k * W ((i 1).val / 2048) k ((i 1).val % 2048)).symm
    refine Finset.sum_congr rfl fun k _ => ?_
    show A (((i 0).val * 8192 + (i 1).val) / 8192) k.val
      * W (((i 0).val * 8192 + (i 1).val) / 2048 % 4) k.val (((i 0).val * 8192 + (i 1).val) % 2048) = _
    rw [show ((i 0).val * 8192 + (i 1).val) / 8192 = (i 0).val by omega, show ((i 0).val * 8192 + (i 1).val) / 2048 % 4 = (i 1).val / 2048 by omega,
      show ((i 0).val * 8192 + (i 1).val) % 2048 = (i 1).val % 2048 by omega]

theorem ref_act : val_main_v5 (F := Ideal) (ev2 .f32 A : FVec Ideal S2048x2048 .f32) (ev3 .f32 W : FVec Ideal S4x2048x2048 .f32)
    = (ev2 .bf16 fun r d => squareE (hidE A W r d) : FVec Ideal S2048x8192 .bf16) := by
  have Z : val_main_call0_v0 (F := Ideal) = (ev2 .f32 fun _ _ => 0 : FVec Ideal S2048x8192 .f32) := funext fun i => by
    rw [val_main_call0_v0_apply]; exact zero_word
  unfold val_main_v5 val_main_v4 val_main_v3
  rw [Z, ref_hid]
  rfl

end Reference

open Idealize.SL.Sem

/-- The reference's frame: its run read at its arguments, which no operation writes; it declares no semaphore. -/
theorem frame_r : letI := Cert.UpRefIdeal.Gen.facts; Cert.quiescent_UpRefIdeal :=
  fun m ρ _ => (θ_run Cert.UpRefIdeal.defs _ _).mono (fun r h => ⟨fun c => (h c).2.2, sem_eq_zero_of_no_sems (by decide) r.2⟩)
    (Cert.UpRefIdeal.Value.run m ρ)

/-- The two programs' results are equal. -/
theorem algebraic : letI := Cert.UpIdeal.Gen.facts; letI := Cert.UpRefIdeal.Gen.facts; Cert.algebraic_UpIdeal_UpRefIdeal := by
  intro m g m' g' _ hagree
  refine ⟨fun c => (Cert.UpIdeal.Gen.dats m 0 c).arrAt 2 Cert.UpIdeal.cfg0.N, fun c => (Cert.UpIdeal.Gen.dats m 0 c).arrAt 3 Cert.UpIdeal.cfg0.N,
    Cert.UpIdeal.Value.run_blocks m g, ?_⟩
  refine (θ_run Cert.UpRefIdeal.defs _ _).mono (fun r h c => ?_) (Cert.UpRefIdeal.Value.run m' g')
  obtain ⟨a0, a1⟩ := hagree c
  obtain ⟨r0, r1, rest⟩ := h c
  refine ⟨r0.trans ((Cert.UpRefIdeal.Read.val_main_v2_eq _ _).trans ?_), r1.trans ((Cert.UpRefIdeal.Read.val_main_v5_eq _ _).trans ?_), rest⟩
  · rw [a0, a1]
    refine Eq.trans ?_ (kernel_hid m c _ _ (eq_ev2 _) (eq_ev3 _)).symm
    exact (congrArg₂ Cert.UpRefIdeal.Read.val_main_v2 (eq_ev2 _) (eq_ev3 _)).trans (congrArg narrow (ref_hid _ _))
  · rw [a0, a1]
    refine Eq.trans ?_ (kernel_act m c _ _ (eq_ev2 _) (eq_ev3 _)).symm
    exact (congrArg₂ Cert.UpRefIdeal.Read.val_main_v5 (eq_ev2 _) (eq_ev3 _)).trans (ref_act _ _)

end Cert.Mixer.Up

end
-- ==== Proof.MixDown.lean ====
/-
  The channel mixer's second product, `act · w2`. The grid runs over the tiles of 1024 by 1024 of the result and, for each
  of them, over the four blocks of 2048 of the axis summed over: the first block's product is left in a scratch, the next
  two are added to it, and the last is added on the way to the result.
-/
module

public import proofs.«01_k».proof.Defs
public import proofs.«01_k».proof.Proof.Tiles
public import proofs.«01_k».proof.Proof.Gen.DownIdeal.Value
public import proofs.«01_k».proof.Proof.Gen.DownRefIdeal.Read
public import Idealize.ShloMosaic.Lib.VecWindow

@[expose] public section

set_option maxRecDepth 16384

noncomputable section

namespace Cert.Mixer.Down

open Idealize.ShloMosaic Idealize.ShloMosaic.ValueIdx

/-- The entries of the product. -/
def prodE (A W : ℕ → ℕ → EReal) (r c : ℕ) : EReal := ∑ k ∈ Finset.range 8192, A r k * W k c

/-- One block of the sum. -/
def blockE (A W : ℕ → ℕ → EReal) (j r c : ℕ) : EReal := ∑ k ∈ Finset.range 2048, A r (2048 * j + k) * W (2048 * j + k) c

/-- The first blocks of the sum. -/
def partE (A W : ℕ → ℕ → EReal) (n r c : ℕ) : EReal := ∑ j ∈ Finset.range n, blockE A W j r c

/-- The four blocks are the whole sum. -/
theorem partE_four (A W : ℕ → ℕ → EReal) (r c : ℕ) : partE A W 4 r c = prodE A W r c := by
  unfold prodE
  rw [show 8192 = 2048 * 0 + 2048 + 2048 + 2048 + 2048 by norm_num, Finset.sum_range_add, Finset.sum_range_add, Finset.sum_range_add]
  simp only [partE, Finset.sum_range_succ _ 3, Finset.sum_range_succ _ 2, Finset.sum_range_succ _ 1, Finset.sum_range_succ _ 0,
    Finset.sum_range_zero, zero_add, blockE]
  rfl

section Kernel

open Cert.DownIdeal Cert.DownIdeal.Gen
open StableHlo

/-- The product a point computes. -/
theorem pay1_eq (a : ℕ → ℕ → EReal) (w : ℕ → ℕ → ℕ → EReal) : k0_pay1 (F := Ideal) (ev2 .bf16 a) (ev3 .bf16 w)
    = (ev2 .f32 fun r c => ∑ k ∈ Finset.range 2048, a r k * w 0 k c : FVec Ideal S1024x1024 .f32) := by
  unfold k0_pay1
  dsimp only
  rw [shapeCast_self, constant_zero]
  exact (congrArg (fun x => matmul _ _ _ x _) (shapeCast_ev3 w _)).trans (matmul_nn 1024 2048 1024 _ a (w 0))

section Point

variable (c : Dev nD) (i : grid0.Coords) (arg3 : Memref sig .tc .vmem S1024x2048 .bf16) (harg3 : arg3.IsWhole)
  (arg4 : Memref sig .tc .vmem S1x2048x1024 .bf16) (harg4 : arg4.IsWhole) (arg5 : Memref sig .tc .vmem S1024x1024 .f32) (harg5 : arg5.IsWhole)
  (arg6 : Memref sig .tc .vmem S1024x1024 .f32) (harg6 : arg6.IsWhole) {x0 : Vec Ideal S1024x2048 .bf16} {x1 : Vec Ideal S1x2048x1024 .bf16}
  {xs : Vec Ideal S1024x1024 .f32} {a s : ℕ → ℕ → EReal} {w : ℕ → ℕ → ℕ → EReal}
  (h0 : x0 = (ev2 .bf16 a : FVec Ideal S1024x2048 .bf16)) (h1 : x1 = (ev3 .bf16 w : FVec Ideal S1x2048x1024 .bf16))
  (hs : xs = (ev2 .f32 s : FVec Ideal S1024x1024 .f32))

include h0 h1

/-- What the first block's point leaves in the scratch. -/
theorem first_eq (hc0 : cond0_0 i) (hc1 : ¬cond0_1 i) (hc2 : ¬cond0_2 i) :
    sout0_A_0 (F := Ideal) c i arg3 harg3 arg4 harg4 arg5 harg5 arg6 harg6 hc0 hc1 hc2 x0 x1
      = (ev2 .f32 fun r d => ∑ k ∈ Finset.range 2048, a r k * w 0 k d : FVec Ideal S1024x1024 .f32) := by
  unfold sout0_A_0 kernelRun0_A
  dsimp only
  refine (View.read_writes_full _ _ _ _ _).trans ?_
  refine (congrArg₂ k0_pay2 ((View.readAt_full _ _ _).trans ((harg3.read_unread x0).trans h0))
    ((View.readAt_full _ _ _).trans ((harg4.read_unread x1).trans h1))).trans ?_
  unfold k0_pay2
  dsimp only
  rw [shapeCast_self, pay1_eq]

include hs

/-- What a middle block's point leaves in the scratch. -/
theorem middle_eq (hc0 : ¬cond0_0 i) (hc1 : cond0_1 i) (hc2 : ¬cond0_2 i) :
    sout0_B_0 (F := Ideal) c i arg3 harg3 arg4 harg4 arg5 harg5 arg6 harg6 hc0 hc1 hc2 x0 x1 xs
      = (ev2 .f32 fun r d => s r d + ∑ k ∈ Finset.range 2048, a r k * w 0 k d : FVec Ideal S1024x1024 .f32) := by
  unfold sout0_B_0 kernelRun0_B
  dsimp only
  refine (View.read_writes_full _ _ _ _ _).trans ?_
  refine (congrArg₂ (fun x y => k0_pay3 x y _) ((View.readAt_full _ _ _).trans ((harg3.read_unread x0).trans h0))
    ((View.readAt_full _ _ _).trans ((harg4.read_unread x1).trans h1))).trans ?_
  refine (congrArg (k0_pay3 _ _) ((View.readAt_full _ _ _).trans ((harg6.read_unread xs).trans hs))).trans ?_
  unfold k0_pay3
  dsimp only
  rw [shapeCast_self, pay1_eq, addf_ev2]

/-- What the last block's point leaves in the result's tile. -/
theorem last_eq (hc0 : ¬cond0_0 i) (hc1 : ¬cond0_1 i) (hc2 : cond0_2 i) :
    out0_C_2 (F := Ideal) c i arg3 harg3 arg4 harg4 arg5 harg5 arg6 harg6 hc0 hc1 hc2 x0 x1 xs
      = (ev2 .f32 fun r d => s r d + ∑ k ∈ Finset.range 2048, a r k * w 0 k d : FVec Ideal S1024x1024 .f32) := by
  unfold out0_C_2 kernelRun0_C
  dsimp only
  refine (View.read_writes_full _ _ _ _ _).trans ?_
  refine (congrArg₂ (fun x y => k0_pay4 x y _) ((View.readAt_full _ _ _).trans ((harg3.read_unread x0).trans h0))
    ((View.readAt_full _ _ _).trans ((harg4.read_unread x1).trans h1))).trans ?_
  refine (congrArg (k0_pay4 _ _) ((View.readAt_full _ _ _).trans ((harg6.read_unread xs).trans hs))).trans ?_
  unfold k0_pay4
  dsimp only
  rw [pay1_eq, addf_ev2]

end Point

/-- Where a point's rows and its block of the left operand start. -/
theorem at0 : ∀ t : Fin cfg0.N, win0_0.index t 0 * win0_0.size 0 = 1024 * (t.val / 8) ∧ win0_0.index t 1 * win0_0.size 1 = 2048 * (t.val % 4) :=
  by decide +kernel

/-- Where its block and its columns of the right operand start. -/
theorem at1 : ∀ t : Fin cfg0.N, win0_1.index t 0 * win0_1.size 0 = 0 ∧ win0_1.index t 1 * win0_1.size 1 = 2048 * (t.val % 4)
    ∧ win0_1.index t 2 * win0_1.size 2 = 1024 * (t.val / 4 % 2) :=
  by decide +kernel

/-- Where a point's tile of the result starts, and its extents. -/
theorem at2 : ∀ t : Fin cfg0.N, (win0_2.index t 0 * win0_2.size 0 = 1024 * (t.val / 8) ∧ win0_2.index t 1 * win0_2.size 1 = 1024 * (t.val / 4 % 2))
    ∧ win0_2.xsize (grid0.coords t) 0 = 1024 ∧ win0_2.xsize (grid0.coords t) 1 = 1024 :=
  by decide +kernel

section Arrays

variable (m : (ℓ : Loc nD τ sig) → Buf (Elt Ideal) ℓ) (c : Dev nD) (A W : ℕ → ℕ → EReal)
  (hA : (V m c main_v0 : FVec Ideal S2048x8192 .bf16) = ev2 .bf16 A)
  (hW : (V m c main_v2 : FVec Ideal S1x8192x2048 .bf16) = ev3 .bf16 fun _ => W)

include hA in
theorem read0 (t : Fin cfg0.N) : (iblk m c 0 t : FVec Ideal S1024x2048 .bf16)
    = ev2 .bf16 fun r k => A (1024 * (t.val / 8) + r) (2048 * (t.val % 4) + k) :=
  tileAt2 _ hA _ (win0_0.rect t).emb (fun _ => rfl) (win0_0.rect_emb_val t) (at0 t)

include hW in
theorem read1 (t : Fin cfg0.N) : (iblk m c 1 t : FVec Ideal S1x2048x1024 .bf16)
    = ev3 .bf16 fun _ k d => W (2048 * (t.val % 4) + k) (1024 * (t.val / 4 % 2) + d) :=
  tileAt3 _ hW _ (win0_1.rect t).emb (fun _ => rfl) (win0_1.rect_emb_val t) (at1 t)

include hA hW
/-- What the scratch holds after the first point of a tile. -/
theorem scratch_first (t : Fin cfg0.N) (h0 : t.val % 4 = 0) : ((outsAt0 m c t.val t.isLt).2 : FVec Ideal S1024x1024 .f32)
    = ev2 .f32 fun r d => partE A W (t.val % 4 + 1) (1024 * (t.val / 8) + r) (1024 * (t.val / 4 % 2) + d) := by
  have h1 : ¬(1 ≤ t.val % 4 ∧ t.val % 4 ≤ 2) := by omega
  have h2 : ¬t.val % 4 = 3 := by omega
  have P := first_eq c (grid0.coords t) (ms0_0 t) (hs0_0 t) (ms0_1 t) (hs0_1 t) (ms0_2 t) (hs0_2 t) scM0_0 (Memref.isWhole_whole _)
    (read0 m c A hA t) (read1 m c W hW t) ((hcond0_0 t).mpr h0) (fun h => h1 ((hcond0_1 t).mp h)) (fun h => h2 ((hcond0_2 t).mp h))
  rw [outsAt0_A m c t h0 h1 h2]
  dsimp only
  rw [P]
  refine ev2_congr fun r _ d _ => ?_
  rw [h0, partE, Finset.sum_range_succ _ 0, Finset.sum_range_zero, zero_add]
  rfl

/-- What it holds after a middle point, from what it held after the one before. -/
theorem scratch_middle (t : Fin cfg0.N) (h0 : ¬t.val % 4 = 0) (h3 : ¬t.val % 4 = 3)
    (ih : ((outsAt0 m c (t.val - 1) (Nat.lt_of_le_of_lt (Nat.sub_le _ _) t.isLt)).2 : FVec Ideal S1024x1024 .f32)
      = ev2 .f32 fun r d => partE A W (t.val % 4) (1024 * (t.val / 8) + r) (1024 * (t.val / 4 % 2) + d)) :
    ((outsAt0 m c t.val t.isLt).2 : FVec Ideal S1024x1024 .f32)
    = ev2 .f32 fun r d => partE A W (t.val % 4 + 1) (1024 * (t.val / 8) + r) (1024 * (t.val / 4 % 2) + d) := by
  have h1 : 1 ≤ t.val % 4 ∧ t.val % 4 ≤ 2 := by omega
  have P := middle_eq c (grid0.coords t) (ms0_0 t) (hs0_0 t) (ms0_1 t) (hs0_1 t) (ms0_2 t) (hs0_2 t) scM0_0 (Memref.isWhole_whole _)
    (read0 m c A hA t) (read1 m c W hW t) ih (fun h => h0 ((hcond0_0 t).mp h)) ((hcond0_1 t).mpr h1) (fun h => h3 ((hcond0_2 t).mp h))
  rw [outsAt0_B m c t h0 h1 h3]
  dsimp only
  rw [P]
  refine ev2_congr fun r _ d _ => ?_
  rw [partE, partE, Finset.sum_range_succ _ (t.val % 4)]
  rfl

/-- What the scratch holds after a point that is not the last of its tile: the blocks so far. -/
theorem scratch_eq (n : ℕ) : ∀ hn : n < cfg0.N, ¬n % 4 = 3 → ((outsAt0 m c n hn).2 : FVec Ideal S1024x1024 .f32)
    = ev2 .f32 fun r d => partE A W (n % 4 + 1) (1024 * (n / 8) + r) (1024 * (n / 4 % 2) + d) := by
  induction n with
  | zero => exact fun hn _ => scratch_first m c A W hA hW ⟨0, hn⟩ rfl
  | succ n ih =>
    intro hn h3
    by_cases h0 : (n + 1) % 4 = 0
    · exact scratch_first m c A W hA hW ⟨n + 1, hn⟩ h0
    · refine scratch_middle m c A W hA hW ⟨n + 1, hn⟩ h0 h3 ((ih (Nat.lt_of_succ_lt hn) (by omega)).trans ?_)
      show _ = ev2 .f32 fun r d => partE A W ((n + 1) % 4) (1024 * ((n + 1) / 8) + r) (1024 * ((n + 1) / 4 % 2) + d)
      rw [show (n + 1) % 4 = n % 4 + 1 by omega, show (n + 1) / 8 = n / 8 by omega, show (n + 1) / 4 = n / 4 by omega]

/-- What the last point of a tile leaves in it. -/
theorem tile_eq (t : Fin cfg0.N) (h3 : t.val % 4 = 3) : ((outsAt0 m c t.val t.isLt).1 : FVec Ideal S1024x1024 .f32)
    = ev2 .f32 fun r d => prodE A W (1024 * (t.val / 8) + r) (1024 * (t.val / 4 % 2) + d) := by
  have h0 : ¬t.val % 4 = 0 := by omega
  have h1 : ¬(1 ≤ t.val % 4 ∧ t.val % 4 ≤ 2) := by omega
  have P := last_eq c (grid0.coords t) (ms0_0 t) (hs0_0 t) (ms0_1 t) (hs0_1 t) (ms0_2 t) (hs0_2 t) scM0_0 (Memref.isWhole_whole _)
    (read0 m c A hA t) (read1 m c W hW t) (scratch_eq m c A W hA hW (t.val - 1) (Nat.lt_of_le_of_lt (Nat.sub_le _ _) t.isLt) (by omega))
    (fun h => h0 ((hcond0_0 t).mp h)) (fun h => h1 ((hcond0_1 t).mp h)) ((hcond0_2 t).mpr h3)
  rw [outsAt0_C m c t h0 h1 h3]
  dsimp only
  rw [P]
  refine ev2_congr fun r _ d _ => ?_
  rw [← partE_four, partE, partE, Finset.sum_range_succ _ 3, show (t.val - 1) % 4 + 1 = 3 by omega, show (t.val - 1) / 8 = t.val / 8 by omega,
    show (t.val - 1) / 4 % 2 = t.val / 4 % 2 by omega, h3]
  rfl

/-- The result. -/
theorem final2 : ((dats m 0 c).arrAt 2 cfg0.N : FVec Ideal S2048x2048 .f32) = ev2 .f32 (prodE A W) := by
  refine (dats m 0 c).arrAt_eq_of_cover 2 _ (fun t ht => ?_) (fun i => ?_)
  · rw [Cert.DownIdeal.Value.flushed2]
    refine (congrArg _ (tile_eq m c A W hA hW t ((flush0_2 t).mp ht))).trans ?_
    have T := block2 (M := 2048) (N := 2048) (m := 1024) (n := 1024) (φ := .f32) (prodE A W) (win0_2.rect t).emb (win0_2.rect_emb_val t) (at2 t).1
    exact Eq.symm T
  · have i0 : (i 0 : ℕ) < 2048 := (i 0).isLt
    have i1 : (i 1 : ℕ) < 2048 := (i 1).isLt
    have hN : cfg0.N = 16 := N_0
    refine ⟨⟨8 * ((i 0 : ℕ) / 1024) + 4 * ((i 1 : ℕ) / 1024) + 3, by omega⟩, (flush0_2 _).mpr (by show (8 * ((i 0 : ℕ) / 1024) + 4 * ((i 1 : ℕ) / 1024) + 3) % 4 = 3; omega), ?_⟩
    generalize ht' : (⟨8 * ((i 0 : ℕ) / 1024) + 4 * ((i 1 : ℕ) / 1024) + 3, _⟩ : Fin cfg0.N) = t
    have hv' : t.val = 8 * ((i 0 : ℕ) / 1024) + 4 * ((i 1 : ℕ) / 1024) + 3 := by rw [← ht']
    show i ∈ ((View.whole main_v3).slice (win0_2.rect t)).set
    rw [View.set_slice_whole]
    exact mem_block2 (at2 t) (by omega) (by omega)

end Arrays

variable (m : (ℓ : Loc nD τ sig) → Buf (Elt Ideal) ℓ) (c : Dev nD)

/-- The second weight, as one shard. -/
def shard (x : FVec Ideal S8192x2048 .f32) : FVec Ideal S1x8192x2048 .bf16 := shapeCast S1x8192x2048 (narrow x) shapeCasts_S8192x2048_S1x8192x2048

/-- What the host hands the grid: the two arguments in 16 bits. -/
theorem host0 : (V m c main_v0 : FVec Ideal S2048x8192 .bf16) = narrow (m ((c.tc : Thread nD τ).loc main_arg0) : FVec Ideal S2048x8192 .f32) := by
  simp only [V, hostOps0, TRef.binary, TRef.nullary, TRef.ternary, TRef.unary, TRef.toBuf, TRef.ofBuf, cast_eq]
  after_results_simp <;> rfl

theorem host2 : (V m c main_v2 : FVec Ideal S1x8192x2048 .bf16) = shard (m ((c.tc : Thread nD τ).loc main_arg1) : FVec Ideal S8192x2048 .f32) := by
  simp only [V, hostOps0, TRef.binary, TRef.nullary, TRef.ternary, TRef.unary, TRef.toBuf, TRef.ofBuf, cast_eq]
  after_results_simp <;> rfl

/-- The kernel's result, from the entries of its arguments. -/
theorem kernel_eq (A W : ℕ → ℕ → EReal) (hA : (m ((c.tc : Thread nD τ).loc main_arg0) : FVec Ideal S2048x8192 .f32) = ev2 .f32 A)
    (hW : (m ((c.tc : Thread nD τ).loc main_arg1) : FVec Ideal S8192x2048 .f32) = ev2 .f32 W) :
    ((dats m 0 c).arrAt 2 cfg0.N : FVec Ideal S2048x2048 .f32) = ev2 .f32 (prodE A W) :=
  final2 m c A W ((host0 m c).trans (narrow_ev2 hA)) ((host2 m c).trans ((congrArg shard hW).trans (shapeCast_ev2 W _)))

end Kernel

section Reference

open Cert.DownRefIdeal Cert.DownRefIdeal.Read

/-- The reference's result, from the entries of its arguments. -/
theorem reference_eq (A W : ℕ → ℕ → EReal) : val_main_v0 (F := Ideal) (ev2 .f32 A : FVec Ideal S2048x8192 .f32) (ev2 .f32 W : FVec Ideal S8192x2048 .f32)
    = (ev2 .f32 (prodE A W) : FVec Ideal S2048x2048 .f32) :=
  funext fun i => by
    rw [val_main_v0_apply]
    exact (Finset.sum_range fun k => A (i 0).val k * W k (i 1).val).symm

end Reference

open Idealize.SL.Sem

/-- The reference's frame: its run read at its arguments, which no operation writes; it declares no semaphore. -/
theorem frame_r : letI := Cert.DownRefIdeal.Gen.facts; Cert.quiescent_DownRefIdeal :=
  fun m ρ _ => (θ_run Cert.DownRefIdeal.defs _ _).mono (fun r h => ⟨fun c => (h c).2, sem_eq_zero_of_no_sems (by decide) r.2⟩)
    (Cert.DownRefIdeal.Value.run m ρ)

/-- The two programs' results are equal. -/
theorem algebraic : letI := Cert.DownIdeal.Gen.facts; letI := Cert.DownRefIdeal.Gen.facts; Cert.algebraic_DownIdeal_DownRefIdeal := by
  intro m g m' g' _ hagree
  refine ⟨fun c => (Cert.DownIdeal.Gen.dats m 0 c).arrAt 2 Cert.DownIdeal.cfg0.N, Cert.DownIdeal.Value.run_blocks m g, ?_⟩
  refine (θ_run Cert.DownRefIdeal.defs _ _).mono (fun r h c => ?_) (Cert.DownRefIdeal.Value.run m' g')
  obtain ⟨a0, a1⟩ := hagree c
  obtain ⟨r0, rest⟩ := h c
  refine ⟨r0.trans ((Cert.DownRefIdeal.Read.val_main_v0_eq _ _).trans ?_), rest⟩
  rw [a0, a1]
  refine Eq.trans ?_ (kernel_eq m c _ _ (eq_ev2 _) (eq_ev2 _)).symm
  exact (congrArg₂ Cert.DownRefIdeal.Read.val_main_v0 (eq_ev2 _) (eq_ev2 _)).trans (reference_eq _ _)

end Cert.Mixer.Down

end
-- ==== Proof.MixDw2.lean ====
/-
  The gradient of the channel mixer's second weight: `actᵀ · du`. The grid runs over the tiles of 1024 by 1024 of the
  result, each of them the product of 1024 columns of `act` and 1024 columns of `du`, over all rows.
-/
module

public import proofs.«01_k».proof.Defs
public import proofs.«01_k».proof.Proof.Tiles
public import proofs.«01_k».proof.Proof.Gen.Dw2Ideal.Value
public import proofs.«01_k».proof.Proof.Gen.Dw2RefIdeal.Read

@[expose] public section

set_option maxRecDepth 16384

noncomputable section

namespace Cert.Mixer.Dw2

open Idealize.ShloMosaic Idealize.ShloMosaic.ValueIdx

section Kernel

open Cert.Dw2Ideal Cert.Dw2Ideal.Gen
open StableHlo

/-- The tile a point computes. -/
theorem pay_eq (a g : ℕ → ℕ → EReal) : k0_pay1 (F := Ideal) (ev2 .bf16 a) (ev2 .bf16 g)
    = (ev3 .bf16 fun _ r c => ∑ k ∈ Finset.range 2048, a k r * g k c : FVec Ideal S1x1024x1024 .bf16) := by
  unfold k0_pay1
  dsimp only
  rw [shapeCast_self, shapeCast_self, constant_zero]
  refine (congrArg (fun x => shapeCast S1x1024x1024 (truncf .bf16 x _) _) (matmul_tn 1024 2048 1024 _ a g)).trans ?_
  rw [truncf_ev2]
  exact shapeCast_ev2 _ _

theorem out_eq (a g : ℕ → ℕ → EReal) : out0_2 (F := Ideal) (ev2 .bf16 a) (ev2 .bf16 g)
    = (ev3 .bf16 fun _ r c => ∑ k ∈ Finset.range 2048, a k r * g k c : FVec Ideal S1x1024x1024 .bf16) := by
  unfold out0_2
  rw [View.canon_cons_unit_zero (by funext a; fin_cases a <;> rfl), View.ld_unit_zero (by funext a; fin_cases a <;> rfl),
    View.ld_unit_zero (by funext a; fin_cases a <;> rfl)]
  exact pay_eq a g

/-- Where a point's columns of `act` start. -/
theorem at0 : ∀ t : Fin cfg0.N, win0_0.index t 0 * win0_0.size 0 = 0 ∧ win0_0.index t 1 * win0_0.size 1 = 1024 * (t.val / 2) :=
  by decide +kernel

/-- Where a point's columns of `du` start. -/
theorem at1 : ∀ t : Fin cfg0.N, win0_1.index t 0 * win0_1.size 0 = 0 ∧ win0_1.index t 1 * win0_1.size 1 = 1024 * (t.val % 2) :=
  by decide +kernel

/-- Where a point's tile starts, and its extents. -/
theorem at2 : ∀ t : Fin cfg0.N, (win0_2.index t 0 * win0_2.size 0 = 0 ∧ win0_2.index t 1 * win0_2.size 1 = 1024 * (t.val / 2)
    ∧ win0_2.index t 2 * win0_2.size 2 = 1024 * (t.val % 2)) ∧ win0_2.xsize (grid0.coords t) 0 = 1
    ∧ win0_2.xsize (grid0.coords t) 1 = 1024 ∧ win0_2.xsize (grid0.coords t) 2 = 1024 :=
  by decide +kernel

section Arrays

variable (m : (ℓ : Loc nD τ sig) → Buf (Elt Ideal) ℓ) (c : Dev nD) (A G : ℕ → ℕ → EReal)
  (hA : (V m c main_v0 : FVec Ideal S2048x8192 .bf16) = ev2 .bf16 A)
  (hG : (V m c main_v1 : FVec Ideal S2048x2048 .bf16) = ev2 .bf16 G)

include hA in
theorem read0 (t : Fin cfg0.N) : (iblk m c 0 t : FVec Ideal S2048x1024 .bf16)
    = ev2 .bf16 fun r c => A (0 + r) (1024 * (t.val / 2) + c) :=
  tileAt2 _ hA _ (win0_0.rect t).emb (fun _ => rfl) (win0_0.rect_emb_val t) (at0 t)

include hG in
theorem read1 (t : Fin cfg0.N) : (iblk m c 1 t : FVec Ideal S2048x1024 .bf16)
    = ev2 .bf16 fun r c => G (0 + r) (1024 * (t.val % 2) + c) :=
  tileAt2 _ hG _ (win0_1.rect t).emb (fun _ => rfl) (win0_1.rect_emb_val t) (at1 t)

include hA hG in
/-- The result. -/
theorem final2 : ((dats m 0 c).arrAt 2 cfg0.N : FVec Ideal S1x8192x2048 .bf16)
    = ev3 .bf16 fun _ r d => ∑ k ∈ Finset.range 2048, A k r * G k d := by
  refine (dats m 0 c).arrAt_eq_of_cover 2 _ (fun t _ => ?_) (fun i => ?_)
  · rw [Cert.Dw2Ideal.Value.flushed2]
    refine (congrArg _ ((congrArg₂ out0_2 (read0 m c A hA t) (read1 m c G hG t)).trans (out_eq _ _))).trans ?_
    have T := block3 (L := 1) (M := 8192) (N := 2048) (m := 1024) (n := 1024) (φ := .bf16) (fun _ r d => ∑ k ∈ Finset.range 2048, A k r * G k d) (win0_2.rect t).emb (win0_2.rect_emb_val t) (at2 t).1
    refine Eq.symm (T.trans (ev3_congr fun _ _ r _ d _ => Finset.sum_congr rfl fun k _ => ?_))
    rw [Nat.zero_add]
  · have i0 : (i 0 : ℕ) < 1 := (i 0).isLt
    have i1 : (i 1 : ℕ) < 8192 := (i 1).isLt
    have i2 : (i 2 : ℕ) < 2048 := (i 2).isLt
    have hN : cfg0.N = 16 := N_0
    refine ⟨⟨2 * ((i 1 : ℕ) / 1024) + (i 2 : ℕ) / 1024, by omega⟩, flush0_2 _, ?_⟩
    generalize ht' : (⟨2 * ((i 1 : ℕ) / 1024) + (i 2 : ℕ) / 1024, _⟩ : Fin cfg0.N) = t
    have hv' : t.val = 2 * ((i 1 : ℕ) / 1024) + (i 2 : ℕ) / 1024 := by rw [← ht']
    show i ∈ ((View.whole main_v2).slice (win0_2.rect t)).set
    rw [View.set_slice_whole]
    exact mem_block3 (at2 t) (by omega) (by omega) (by omega)

end Arrays

variable (m : (ℓ : Loc nD τ sig) → Buf (Elt Ideal) ℓ) (c : Dev nD)

/-- What the host hands the grid: the two arguments in 16 bits. -/
theorem host0 : (V m c main_v0 : FVec Ideal S2048x8192 .bf16)
    = narrow (m ((c.tc : Thread nD τ).loc main_arg0) : FVec Ideal S2048x8192 .f32) := by
  simp only [V, hostOps0, TRef.binary, TRef.nullary, TRef.ternary, TRef.unary, TRef.toBuf, TRef.ofBuf, cast_eq]
  after_results_simp <;> rfl

theorem host1 : (V m c main_v1 : FVec Ideal S2048x2048 .bf16)
    = narrow (m ((c.tc : Thread nD τ).loc main_arg1) : FVec Ideal S2048x2048 .f32) := by
  simp only [V, hostOps0, TRef.binary, TRef.nullary, TRef.ternary, TRef.unary, TRef.toBuf, TRef.ofBuf, cast_eq]
  after_results_simp <;> rfl

/-- The kernel's result, from the entries of its arguments. -/
theorem kernel_eq (A G : ℕ → ℕ → EReal) (hA : (m ((c.tc : Thread nD τ).loc main_arg0) : FVec Ideal S2048x8192 .f32) = ev2 .f32 A)
    (hG : (m ((c.tc : Thread nD τ).loc main_arg1) : FVec Ideal S2048x2048 .f32) = ev2 .f32 G) :
    ((dats m 0 c).arrAt 2 cfg0.N : FVec Ideal S1x8192x2048 .bf16) = ev3 .bf16 fun _ r d => ∑ k ∈ Finset.range 2048, A k r * G k d :=
  final2 m c A G ((host0 m c).trans (narrow_ev2 hA))
    ((host1 m c).trans (narrow_ev2 hG))

end Kernel

section Reference

open Cert.Dw2RefIdeal Cert.Dw2RefIdeal.Read

/-- The reference's result, from the entries of its arguments. -/
theorem reference_eq (A G : ℕ → ℕ → EReal) : val_main_v6 (F := Ideal) (ev2 .f32 A : FVec Ideal S2048x8192 .f32) (ev2 .f32 G : FVec Ideal S2048x2048 .f32)
    = (ev3 .bf16 fun _ r d => ∑ k ∈ Finset.range 2048, A k r * G k d : FVec Ideal S1x8192x2048 .bf16) :=
  funext fun i => by
    show val_main_v5 (F := Ideal) _ _ i = _
    rw [val_main_v5_apply, val_main_v4_apply, val_main_v3_apply]
    refine Eq.trans ?_ (Finset.sum_range fun k => A k (i 1).val * G k (i 2).val).symm
    exact Finset.sum_congr rfl fun k _ => mul_comm (G k.val (i 2).val) (A k.val (i 1).val)

end Reference

open Idealize.SL.Sem

/-- The reference's frame: its run read at its arguments, which no operation writes; it declares no semaphore. -/
theorem frame_r : letI := Cert.Dw2RefIdeal.Gen.facts; Cert.quiescent_Dw2RefIdeal :=
  fun m ρ _ => (θ_run Cert.Dw2RefIdeal.defs _ _).mono (fun r h => ⟨fun c => (h c).2, sem_eq_zero_of_no_sems (by decide) r.2⟩)
    (Cert.Dw2RefIdeal.Value.run m ρ)

/-- The two programs' results are equal. -/
theorem algebraic : letI := Cert.Dw2Ideal.Gen.facts; letI := Cert.Dw2RefIdeal.Gen.facts; Cert.algebraic_Dw2Ideal_Dw2RefIdeal := by
  intro m g m' g' _ hagree
  refine ⟨fun c => (Cert.Dw2Ideal.Gen.dats m 0 c).arrAt 2 Cert.Dw2Ideal.cfg0.N, Cert.Dw2Ideal.Value.run_blocks m g, ?_⟩
  refine (θ_run Cert.Dw2RefIdeal.defs _ _).mono (fun r h c => ?_) (Cert.Dw2RefIdeal.Value.run m' g')
  obtain ⟨a0, a1⟩ := hagree c
  obtain ⟨r0, rest⟩ := h c
  refine ⟨r0.trans ((Cert.Dw2RefIdeal.Read.val_main_v6_eq _ _).trans ?_), rest⟩
  rw [a0, a1]
  refine Eq.trans ?_ (kernel_eq m c _ _ (eq_ev2 _) (eq_ev2 _)).symm
  exact (congrArg₂ Cert.Dw2RefIdeal.Read.val_main_v6 (eq_ev2 _) (eq_ev2 _)).trans (reference_eq _ _)

end Cert.Mixer.Dw2

end
-- ==== Proof.MixDact.lean ====
/-
  The gradient of the channel mixer's hidden layer: `du · w2ᵀ`, times the derivative of the square of the positive part,
  which is twice the positive part. The grid runs over the tiles of 1024 by 1024 of the result, each of them from 1024
  rows of `du` and 1024 rows of `w2`.
-/
module

public import proofs.«01_k».proof.Defs
public import proofs.«01_k».proof.Proof.Tiles
public import proofs.«01_k».proof.Proof.Gen.DactIdeal.Value
public import proofs.«01_k».proof.Proof.Gen.DactRefIdeal.Read

@[expose] public section

set_option maxRecDepth 16384

noncomputable section

namespace Cert.Mixer.Dact

open Idealize.ShloMosaic Idealize.ShloMosaic.ValueIdx

/-- The derivative of the square of the positive part, times `s`. -/
def slopeE (s h : EReal) : EReal := s * (2 * max h 0)

/-- The entries of the product. -/
def prodE (G W : ℕ → ℕ → EReal) (r c : ℕ) : EReal := ∑ k ∈ Finset.range 2048, G r k * W c k

/-- The derivative as the product rule gives it. -/
theorem slope_eq (s h : EReal) : (if 0 < h then max h 0 * s + s * max h 0 else 0) = slopeE s h := by
  unfold slopeE
  split_ifs with hh
  · have hm : 0 ≤ max h 0 := le_max_right _ _
    have two : (2 : EReal) * max h 0 = max h 0 + max h 0 := by
      rw [← one_add_one_eq_two, EReal.right_distrib_of_nonneg zero_le_one zero_le_one, one_mul]
    rw [two, EReal.left_distrib_of_nonneg hm hm, mul_comm]
  · rw [max_eq_right (not_lt.mp hh), mul_zero, mul_zero]

section Kernel

open Cert.DactIdeal Cert.DactIdeal.Gen
open StableHlo

/-- The tile a point computes. -/
theorem out_eq (g h : ℕ → ℕ → EReal) (w : ℕ → ℕ → ℕ → EReal) : out0_3 (F := Ideal) (ev2 .bf16 g) (ev3 .bf16 w) (ev2 .bf16 h)
    = (ev2 .bf16 fun r c => slopeE (∑ k ∈ Finset.range 2048, g r k * w 0 c k) (h r c) : FVec Ideal S1024x1024 .bf16) := by
  unfold out0_3
  rw [View.canon_cons_unit_zero (by funext a; fin_cases a <;> rfl), View.ld_unit_zero (by funext a; fin_cases a <;> rfl),
    View.ld_unit_zero (by funext a; fin_cases a <;> rfl), View.ld_unit_zero (by funext a; fin_cases a <;> rfl)]
  unfold k0_pay1
  dsimp only
  rw [shapeCast_self, shapeCast_self, constant_zero, zero_word, two_word]
  have P := (congrArg (fun x => matmul (F := Ideal) dot_S1024x2048_S1024x2048_S1024x1024_1_1_0_0_n_n none (ev2 .bf16 g : FVec Ideal S1024x2048 .bf16) x (ev2 .f32 fun _ _ => 0))
    (shapeCast_ev3 (m := 1024) (n := 2048) (φ := .bf16) w shapeCasts_S1x1024x2048_S1024x2048)).trans (matmul_nt 1024 2048 1024 none g (w 0))
  exact congrArg (fun x : FVec Ideal S1024x1024 .f32 => narrow (mulf x (ev2 .f32 fun r c => 2 * max (h r c) 0))) P

/-- Where a point's rows of `du` start. -/
theorem at0 : ∀ t : Fin cfg0.N, win0_0.index t 0 * win0_0.size 0 = 1024 * (t.val / 8) ∧ win0_0.index t 1 * win0_0.size 1 = 0 :=
  by decide +kernel

/-- Where a point's rows of `w2` start. -/
theorem at1 : ∀ t : Fin cfg0.N, win0_1.index t 0 * win0_1.size 0 = 0 ∧ win0_1.index t 1 * win0_1.size 1 = 1024 * (t.val % 8)
    ∧ win0_1.index t 2 * win0_1.size 2 = 0 :=
  by decide +kernel

/-- Where a point's tile of the hidden layer starts. -/
theorem at2 : ∀ t : Fin cfg0.N, win0_2.index t 0 * win0_2.size 0 = 1024 * (t.val / 8) ∧ win0_2.index t 1 * win0_2.size 1 = 1024 * (t.val % 8) :=
  by decide +kernel

/-- Where a point's tile of the result starts, and its extents. -/
theorem at3 : ∀ t : Fin cfg0.N, (win0_3.index t 0 * win0_3.size 0 = 1024 * (t.val / 8) ∧ win0_3.index t 1 * win0_3.size 1 = 1024 * (t.val % 8))
    ∧ win0_3.xsize (grid0.coords t) 0 = 1024 ∧ win0_3.xsize (grid0.coords t) 1 = 1024 :=
  by decide +kernel

section Arrays

variable (m : (ℓ : Loc nD τ sig) → Buf (Elt Ideal) ℓ) (c : Dev nD) (G W H : ℕ → ℕ → EReal)
  (hG : (V m c main_v0 : FVec Ideal S2048x2048 .bf16) = ev2 .bf16 G)
  (hW : (V m c main_v2 : FVec Ideal S1x8192x2048 .bf16) = ev3 .bf16 fun _ => W)
  (hH : (V m c main_v3 : FVec Ideal S2048x8192 .bf16) = ev2 .bf16 H)

include hG in
theorem read0 (t : Fin cfg0.N) : (iblk m c 0 t : FVec Ideal S1024x2048 .bf16)
    = ev2 .bf16 fun r c => G (1024 * (t.val / 8) + r) (0 + c) :=
  tileAt2 _ hG _ (win0_0.rect t).emb (fun _ => rfl) (win0_0.rect_emb_val t) (at0 t)

include hW in
theorem read1 (t : Fin cfg0.N) : (iblk m c 1 t : FVec Ideal S1x1024x2048 .bf16)
    = ev3 .bf16 fun _ r c => W (1024 * (t.val % 8) + r) (0 + c) :=
  tileAt3 _ hW _ (win0_1.rect t).emb (fun _ => rfl) (win0_1.rect_emb_val t) (at1 t)

include hH in
theorem read2 (t : Fin cfg0.N) : (iblk m c 2 t : FVec Ideal S1024x1024 .bf16)
    = ev2 .bf16 fun r c => H (1024 * (t.val / 8) + r) (1024 * (t.val % 8) + c) :=
  tileAt2 _ hH _ (win0_2.rect t).emb (fun _ => rfl) (win0_2.rect_emb_val t) (at2 t)

include hG hW hH
/-- The result. -/
theorem final3 : ((dats m 0 c).arrAt 3 cfg0.N : FVec Ideal S2048x8192 .bf16) = ev2 .bf16 fun r d => slopeE (prodE G W r d) (H r d) := by
  refine (dats m 0 c).arrAt_eq_of_cover 3 _ (fun t _ => ?_) (fun i => ?_)
  · rw [Cert.DactIdeal.Value.flushed3]
    have R := (congrArg₂ (fun x y => out0_3 x y (iblk m c 2 t)) (read0 m c G hG t) (read1 m c W hW t)).trans
      ((congrArg (out0_3 _ _) (read2 m c H hH t)).trans (out_eq _ _ _))
    refine (congrArg _ R).trans ?_
    have T := block2 (M := 2048) (N := 8192) (m := 1024) (n := 1024) (φ := .bf16) (fun r d => slopeE (prodE G W r d) (H r d)) (win0_3.rect t).emb (win0_3.rect_emb_val t) (at3 t).1
    refine Eq.symm (T.trans (ev2_congr fun r _ d _ => congrArg (fun x => slopeE x _) (Finset.sum_congr rfl fun k _ => ?_)))
    rw [Nat.zero_add]
  · have i0 : (i 0 : ℕ) < 2048 := (i 0).isLt
    have i1 : (i 1 : ℕ) < 8192 := (i 1).isLt
    have hN : cfg0.N = 16 := N_0
    refine ⟨⟨8 * ((i 0 : ℕ) / 1024) + (i 1 : ℕ) / 1024, by omega⟩, flush0_3 _, ?_⟩
    generalize ht' : (⟨8 * ((i 0 : ℕ) / 1024) + (i 1 : ℕ) / 1024, _⟩ : Fin cfg0.N) = t
    have hv' : t.val = 8 * ((i 0 : ℕ) / 1024) + (i 1 : ℕ) / 1024 := by rw [← ht']
    show i ∈ ((View.whole main_v4).slice (win0_3.rect t)).set
    rw [View.set_slice_whole]
    exact mem_block2 (at3 t) (by omega) (by omega)

end Arrays

variable (m : (ℓ : Loc nD τ sig) → Buf (Elt Ideal) ℓ) (c : Dev nD)

/-- The second weight, as one shard. -/
def shardT (x : FVec Ideal S8192x2048 .f32) : FVec Ideal S1x8192x2048 .bf16 := shapeCast S1x8192x2048 (narrow x) shapeCasts_S8192x2048_S1x8192x2048

/-- What the host hands the grid: the arguments in 16 bits. -/
theorem host0 : (V m c main_v0 : FVec Ideal S2048x2048 .bf16) = narrow (m ((c.tc : Thread nD τ).loc main_arg2) : FVec Ideal S2048x2048 .f32) := by
  simp only [V, hostOps0, TRef.binary, TRef.nullary, TRef.ternary, TRef.unary, TRef.toBuf, TRef.ofBuf, cast_eq]
  after_results_simp <;> rfl

theorem host2 : (V m c main_v2 : FVec Ideal S1x8192x2048 .bf16) = shardT (m ((c.tc : Thread nD τ).loc main_arg1) : FVec Ideal S8192x2048 .f32) := by
  simp only [V, hostOps0, TRef.binary, TRef.nullary, TRef.ternary, TRef.unary, TRef.toBuf, TRef.ofBuf, cast_eq]
  after_results_simp <;> rfl

theorem host3 : (V m c main_v3 : FVec Ideal S2048x8192 .bf16) = narrow (m ((c.tc : Thread nD τ).loc main_arg0) : FVec Ideal S2048x8192 .f32) := by
  simp only [V, hostOps0, TRef.binary, TRef.nullary, TRef.ternary, TRef.unary, TRef.toBuf, TRef.ofBuf, cast_eq]
  after_results_simp <;> rfl

/-- The kernel's result, from the entries of its arguments. -/
theorem kernel_eq (G W H : ℕ → ℕ → EReal) (hH : (m ((c.tc : Thread nD τ).loc main_arg0) : FVec Ideal S2048x8192 .f32) = ev2 .f32 H)
    (hW : (m ((c.tc : Thread nD τ).loc main_arg1) : FVec Ideal S8192x2048 .f32) = ev2 .f32 W)
    (hG : (m ((c.tc : Thread nD τ).loc main_arg2) : FVec Ideal S2048x2048 .f32) = ev2 .f32 G) :
    ((dats m 0 c).arrAt 3 cfg0.N : FVec Ideal S2048x8192 .bf16) = ev2 .bf16 fun r d => slopeE (prodE G W r d) (H r d) :=
  final3 m c G W H ((host0 m c).trans (narrow_ev2 hG)) ((host2 m c).trans ((congrArg shardT hW).trans (shapeCast_ev2 W _)))
    ((host3 m c).trans (narrow_ev2 hH))

end Kernel

section Reference

open Cert.DactRefIdeal Cert.DactRefIdeal.Read

/-- The reference's product, from the entries of its arguments. -/
theorem ref_prod (G W : ℕ → ℕ → EReal) : val_main_v6 (F := Ideal) (ev2 .f32 W : FVec Ideal S8192x2048 .f32) (ev2 .f32 G : FVec Ideal S2048x2048 .f32)
    = (ev2 .f32 (prodE G W) : FVec Ideal S2048x8192 .f32) :=
  funext fun i => by
    rw [val_main_v6_apply]
    exact (Finset.sum_range fun k => G (i 0).val k * W (i 1).val k).symm

theorem reference_eq (G W H : ℕ → ℕ → EReal) : val_main_v12 (F := Ideal) (ev2 .f32 H : FVec Ideal S2048x8192 .f32) (ev2 .f32 W : FVec Ideal S8192x2048 .f32)
      (ev2 .f32 G : FVec Ideal S2048x2048 .f32)
    = (ev2 .bf16 fun r d => slopeE (prodE G W r d) (H r d) : FVec Ideal S2048x8192 .bf16) := by
  have Z0 : val_main_call0_v0 (F := Ideal) = (ev2 .f32 fun _ _ => 0 : FVec Ideal S2048x8192 .f32) := funext fun i => by
    rw [val_main_call0_v0_apply]; exact zero_word
  have Z1 : val_main_v1 (F := Ideal) = (ev2 .f32 fun _ _ => 0 : FVec Ideal S2048x8192 .f32) := funext fun i => by
    rw [val_main_v1_apply]; exact zero_word
  have Z2 : val_main_v10 (F := Ideal) = (ev2 .f32 fun _ _ => 0 : FVec Ideal S2048x8192 .f32) := funext fun i => by
    rw [val_main_v10_apply]; exact zero_word
  unfold val_main_v12 val_main_v11 val_main_v2 val_main_v9 val_main_v8 val_main_v7 val_main_v0
  rw [Z0, Z1, Z2, ref_prod]
  funext i
  refine Eq.trans ?_ (slope_eq (prodE G W (i 0).val (i 1).val) (H (i 0).val (i 1).val))
  show Scalar.select (FloatOps.cmpf (F := Ideal) (φ := .f32) .ogt (H (i 0).val (i 1).val) (0 : EReal))
    (max (H (i 0).val (i 1).val) 0 * prodE G W (i 0).val (i 1).val + prodE G W (i 0).val (i 1).val * max (H (i 0).val (i 1).val) 0) (0 : EReal) = _
  by_cases hh : 0 < H (i 0).val (i 1).val <;> simp [Scalar.select, Ideal.cmpf_def, Ideal.cmp, hh]

end Reference

open Idealize.SL.Sem

/-- The reference's frame: its run read at its arguments, which no operation writes; it declares no semaphore. -/
theorem frame_r : letI := Cert.DactRefIdeal.Gen.facts; Cert.quiescent_DactRefIdeal :=
  fun m ρ _ => (θ_run Cert.DactRefIdeal.defs _ _).mono (fun r h => ⟨fun c => (h c).2, sem_eq_zero_of_no_sems (by decide) r.2⟩)
    (Cert.DactRefIdeal.Value.run m ρ)

/-- The two programs' results are equal. -/
theorem algebraic : letI := Cert.DactIdeal.Gen.facts; letI := Cert.DactRefIdeal.Gen.facts; Cert.algebraic_DactIdeal_DactRefIdeal := by
  intro m g m' g' _ hagree
  refine ⟨fun c => (Cert.DactIdeal.Gen.dats m 0 c).arrAt 3 Cert.DactIdeal.cfg0.N, Cert.DactIdeal.Value.run_blocks m g, ?_⟩
  refine (θ_run Cert.DactRefIdeal.defs _ _).mono (fun r h c => ?_) (Cert.DactRefIdeal.Value.run m' g')
  obtain ⟨a0, a1, a2⟩ := hagree c
  obtain ⟨r0, rest⟩ := h c
  refine ⟨r0.trans ((Cert.DactRefIdeal.Read.val_main_v12_eq _ _ _).trans ?_), rest⟩
  rw [a0, a1, a2]
  refine Eq.trans ?_ (kernel_eq m c _ _ _ (eq_ev2 _) (eq_ev2 _) (eq_ev2 _)).symm
  exact (congrArg₂ (fun x y => Cert.DactRefIdeal.Read.val_main_v12 x y _) (eq_ev2 _) (eq_ev2 _)).trans
    ((congrArg (Cert.DactRefIdeal.Read.val_main_v12 _ _) (eq_ev2 _)).trans (reference_eq _ _ _))

end Cert.Mixer.Dact

end
-- ==== Proof.MixDw1.lean ====
/-
  The gradient of the channel mixer's first weight: `xᵀ · dhid`, as the four shards of its columns. The grid runs over the
  tiles of 1024 by 1024 of the result, each of them the product of 1024 columns of `x` and 1024 columns of `dhid`, over
  all rows.
-/
module

public import proofs.«01_k».proof.Defs
public import proofs.«01_k».proof.Proof.Tiles
public import proofs.«01_k».proof.Proof.Gen.Dw1Ideal.Value
public import proofs.«01_k».proof.Proof.Gen.Dw1RefIdeal.Read

@[expose] public section

set_option maxRecDepth 16384

noncomputable section

namespace Cert.Mixer.Dw1

open Idealize.ShloMosaic Idealize.ShloMosaic.ValueIdx

section Kernel

open Cert.Dw1Ideal Cert.Dw1Ideal.Gen
open StableHlo

/-- The tile a point computes. -/
theorem pay_eq (a g : ℕ → ℕ → EReal) : k0_pay1 (F := Ideal) (ev2 .bf16 a) (ev2 .bf16 g)
    = (ev3 .bf16 fun _ r c => ∑ k ∈ Finset.range 2048, a k r * g k c : FVec Ideal S1x1024x1024 .bf16) := by
  unfold k0_pay1
  dsimp only
  rw [shapeCast_self, shapeCast_self, constant_zero]
  refine (congrArg (fun x => shapeCast S1x1024x1024 (truncf .bf16 x _) _) (matmul_tn 1024 2048 1024 _ a g)).trans ?_
  rw [truncf_ev2]
  exact shapeCast_ev2 _ _

theorem out_eq (a g : ℕ → ℕ → EReal) : out0_2 (F := Ideal) (ev2 .bf16 a) (ev2 .bf16 g)
    = (ev3 .bf16 fun _ r c => ∑ k ∈ Finset.range 2048, a k r * g k c : FVec Ideal S1x1024x1024 .bf16) := by
  unfold out0_2
  rw [View.canon_cons_unit_zero (by funext a; fin_cases a <;> rfl), View.ld_unit_zero (by funext a; fin_cases a <;> rfl),
    View.ld_unit_zero (by funext a; fin_cases a <;> rfl)]
  exact pay_eq a g

/-- Where a point's columns of `x` start. -/
theorem at0 : ∀ t : Fin cfg0.N, win0_0.index t 0 * win0_0.size 0 = 0 ∧ win0_0.index t 1 * win0_0.size 1 = 1024 * (t.val / 8) :=
  by decide +kernel

/-- Where a point's columns of `dhid` start. -/
theorem at1 : ∀ t : Fin cfg0.N, win0_1.index t 0 * win0_1.size 0 = 0 ∧ win0_1.index t 1 * win0_1.size 1 = 1024 * (t.val % 8) :=
  by decide +kernel

/-- Where a point's tile starts, and its extents. -/
theorem at2 : ∀ t : Fin cfg0.N, (win0_2.index t 0 * win0_2.size 0 = t.val % 8 / 2 ∧ win0_2.index t 1 * win0_2.size 1 = 1024 * (t.val / 8)
    ∧ win0_2.index t 2 * win0_2.size 2 = 1024 * (t.val % 2)) ∧ win0_2.xsize (grid0.coords t) 0 = 1
    ∧ win0_2.xsize (grid0.coords t) 1 = 1024 ∧ win0_2.xsize (grid0.coords t) 2 = 1024 :=
  by decide +kernel

section Arrays

variable (m : (ℓ : Loc nD τ sig) → Buf (Elt Ideal) ℓ) (c : Dev nD) (A G : ℕ → ℕ → EReal)
  (hA : (V m c main_v0 : FVec Ideal S2048x2048 .bf16) = ev2 .bf16 A)
  (hG : (V m c main_v1 : FVec Ideal S2048x8192 .bf16) = ev2 .bf16 G)

include hA in
theorem read0 (t : Fin cfg0.N) : (iblk m c 0 t : FVec Ideal S2048x1024 .bf16)
    = ev2 .bf16 fun r c => A (0 + r) (1024 * (t.val / 8) + c) :=
  tileAt2 _ hA _ (win0_0.rect t).emb (fun _ => rfl) (win0_0.rect_emb_val t) (at0 t)

include hG in
theorem read1 (t : Fin cfg0.N) : (iblk m c 1 t : FVec Ideal S2048x1024 .bf16)
    = ev2 .bf16 fun r c => G (0 + r) (1024 * (t.val % 8) + c) :=
  tileAt2 _ hG _ (win0_1.rect t).emb (fun _ => rfl) (win0_1.rect_emb_val t) (at1 t)

include hA hG in
/-- The result. -/
theorem final2 : ((dats m 0 c).arrAt 2 cfg0.N : FVec Ideal S4x2048x2048 .bf16)
    = ev3 .bf16 fun p r d => ∑ k ∈ Finset.range 2048, A k r * G k (2048 * p + d) := by
  refine (dats m 0 c).arrAt_eq_of_cover 2 _ (fun t _ => ?_) (fun i => ?_)
  · rw [Cert.Dw1Ideal.Value.flushed2]
    refine (congrArg _ ((congrArg₂ out0_2 (read0 m c A hA t) (read1 m c G hG t)).trans (out_eq _ _))).trans ?_
    have T := block3 (L := 4) (M := 2048) (N := 2048) (m := 1024) (n := 1024) (φ := .bf16) (fun p r d => ∑ k ∈ Finset.range 2048, A k r * G k (2048 * p + d)) (win0_2.rect t).emb (win0_2.rect_emb_val t) (at2 t).1
    refine Eq.symm (T.trans (ev3_congr fun _ _ r _ d _ => Finset.sum_congr rfl fun k _ => ?_))
    rw [Nat.zero_add, show 2048 * (t.val % 8 / 2) + (1024 * (t.val % 2) + d) = 1024 * (t.val % 8) + d by omega]
  · have i0 : (i 0 : ℕ) < 4 := (i 0).isLt
    have i1 : (i 1 : ℕ) < 2048 := (i 1).isLt
    have i2 : (i 2 : ℕ) < 2048 := (i 2).isLt
    have hN : cfg0.N = 16 := N_0
    refine ⟨⟨8 * ((i 1 : ℕ) / 1024) + 2 * (i 0 : ℕ) + (i 2 : ℕ) / 1024, by omega⟩, flush0_2 _, ?_⟩
    generalize ht' : (⟨8 * ((i 1 : ℕ) / 1024) + 2 * (i 0 : ℕ) + (i 2 : ℕ) / 1024, _⟩ : Fin cfg0.N) = t
    have hv' : t.val = 8 * ((i 1 : ℕ) / 1024) + 2 * (i 0 : ℕ) + (i 2 : ℕ) / 1024 := by rw [← ht']
    show i ∈ ((View.whole main_v2).slice (win0_2.rect t)).set
    rw [View.set_slice_whole]
    exact mem_block3 (at2 t) (by omega) (by omega) (by omega)

end Arrays

variable (m : (ℓ : Loc nD τ sig) → Buf (Elt Ideal) ℓ) (c : Dev nD)

/-- What the host hands the grid: the two arguments in 16 bits. -/
theorem host0 : (V m c main_v0 : FVec Ideal S2048x2048 .bf16)
    = narrow (m ((c.tc : Thread nD τ).loc main_arg0) : FVec Ideal S2048x2048 .f32) := by
  simp only [V, hostOps0, TRef.binary, TRef.nullary, TRef.ternary, TRef.unary, TRef.toBuf, TRef.ofBuf, cast_eq]
  after_results_simp <;> rfl

theorem host1 : (V m c main_v1 : FVec Ideal S2048x8192 .bf16)
    = narrow (m ((c.tc : Thread nD τ).loc main_arg1) : FVec Ideal S2048x8192 .f32) := by
  simp only [V, hostOps0, TRef.binary, TRef.nullary, TRef.ternary, TRef.unary, TRef.toBuf, TRef.ofBuf, cast_eq]
  after_results_simp <;> rfl

/-- The kernel's result, from the entries of its arguments. -/
theorem kernel_eq (A G : ℕ → ℕ → EReal) (hA : (m ((c.tc : Thread nD τ).loc main_arg0) : FVec Ideal S2048x2048 .f32) = ev2 .f32 A)
    (hG : (m ((c.tc : Thread nD τ).loc main_arg1) : FVec Ideal S2048x8192 .f32) = ev2 .f32 G) :
    ((dats m 0 c).arrAt 2 cfg0.N : FVec Ideal S4x2048x2048 .bf16) = ev3 .bf16 fun p r d => ∑ k ∈ Finset.range 2048, A k r * G k (2048 * p + d) :=
  final2 m c A G ((host0 m c).trans (narrow_ev2 hA))
    ((host1 m c).trans (narrow_ev2 hG))

end Kernel

section Reference

open Cert.Dw1RefIdeal Cert.Dw1RefIdeal.Read

/-- The reference's result, from the entries of its arguments. -/
theorem reference_eq (A G : ℕ → ℕ → EReal) : val_main_v6 (F := Ideal) (ev2 .f32 A : FVec Ideal S2048x2048 .f32) (ev2 .f32 G : FVec Ideal S2048x8192 .f32)
    = (ev3 .bf16 fun p r d => ∑ k ∈ Finset.range 2048, A k r * G k (2048 * p + d) : FVec Ideal S4x2048x2048 .bf16) :=
  funext fun i => by
    show val_main_v5 (F := Ideal) _ _ i = _
    rw [val_main_v5_apply, val_main_v4_apply]
    refine Eq.trans ?_ (Finset.sum_range fun k => A k (i 1).val * G k (2048 * (i 0).val + (i 2).val)).symm
    refine Finset.sum_congr rfl fun k _ => ?_
    have i0 : (i 0).val < 4 := (i 0).isLt
    have i2 : (i 2).val < 2048 := (i 2).isLt
    rw [val_main_v3_apply]
    show G (((k.val * 4 + (i 0).val) * 2048 + (i 2).val) / 8192) (((k.val * 4 + (i 0).val) * 2048 + (i 2).val) % 8192) * A k.val (i 1).val = _
    rw [show ((k.val * 4 + (i 0).val) * 2048 + (i 2).val) / 8192 = k.val by omega,
      show ((k.val * 4 + (i 0).val) * 2048 + (i 2).val) % 8192 = 2048 * (i 0).val + (i 2).val by omega]
    exact mul_comm _ _

end Reference

open Idealize.SL.Sem

/-- The reference's frame: its run read at its arguments, which no operation writes; it declares no semaphore. -/
theorem frame_r : letI := Cert.Dw1RefIdeal.Gen.facts; Cert.quiescent_Dw1RefIdeal :=
  fun m ρ _ => (θ_run Cert.Dw1RefIdeal.defs _ _).mono (fun r h => ⟨fun c => (h c).2, sem_eq_zero_of_no_sems (by decide) r.2⟩)
    (Cert.Dw1RefIdeal.Value.run m ρ)

/-- The two programs' results are equal. -/
theorem algebraic : letI := Cert.Dw1Ideal.Gen.facts; letI := Cert.Dw1RefIdeal.Gen.facts; Cert.algebraic_Dw1Ideal_Dw1RefIdeal := by
  intro m g m' g' _ hagree
  refine ⟨fun c => (Cert.Dw1Ideal.Gen.dats m 0 c).arrAt 2 Cert.Dw1Ideal.cfg0.N, Cert.Dw1Ideal.Value.run_blocks m g, ?_⟩
  refine (θ_run Cert.Dw1RefIdeal.defs _ _).mono (fun r h c => ?_) (Cert.Dw1RefIdeal.Value.run m' g')
  obtain ⟨a0, a1⟩ := hagree c
  obtain ⟨r0, rest⟩ := h c
  refine ⟨r0.trans ((Cert.Dw1RefIdeal.Read.val_main_v6_eq _ _).trans ?_), rest⟩
  rw [a0, a1]
  refine Eq.trans ?_ (kernel_eq m c _ _ (eq_ev2 _) (eq_ev2 _)).symm
  exact (congrArg₂ Cert.Dw1RefIdeal.Read.val_main_v6 (eq_ev2 _) (eq_ev2 _)).trans (reference_eq _ _)

end Cert.Mixer.Dw1

end
-- ==== Proof.MixDx.lean ====
/-
  The channel mixer's gradient of its input: `dhid · w1ᵀ`, summed over the shards of `w1`, plus the scaled gradient passed
  around the mixer. The grid runs over the tiles of 1024 by 1024 of the result and, for each of them, over the four
  shards: the first shard's product is left in a scratch, the next two are added to it, and the last is added, with the
  scaled gradient, on the way to the result.
-/
module

public import proofs.«01_k».proof.Defs
public import proofs.«01_k».proof.Proof.Tiles
public import proofs.«01_k».proof.Proof.Gen.DxIdeal.Value
public import proofs.«01_k».proof.Proof.Gen.DxRefIdeal.Read
public import Idealize.ShloMosaic.Lib.VecWindow
public import Idealize.ShloMosaic.Lib.TwoAxisContraction

@[expose] public section

set_option maxRecDepth 16384

noncomputable section

namespace Cert.Mixer.Dx

open Idealize.ShloMosaic Idealize.ShloMosaic.ValueIdx

/-- One shard's product. -/
def blockE (A : ℕ → ℕ → EReal) (W : ℕ → ℕ → ℕ → EReal) (j r c : ℕ) : EReal := ∑ k ∈ Finset.range 2048, A r (2048 * j + k) * W j c k

/-- The sum of the first shards' products. -/
def partE (A : ℕ → ℕ → EReal) (W : ℕ → ℕ → ℕ → EReal) (n r c : ℕ) : EReal := ∑ j ∈ Finset.range n, blockE A W j r c

/-- The scale of the gradient passed around the mixer, the square root of two rounded to a float. -/
def scaleE : EReal := (Scalar.ofBits .f32 0x3FB504F3#32 : Ideal .f32)

/-- The entries of the gradient. -/
def gradE (A G : ℕ → ℕ → EReal) (W : ℕ → ℕ → ℕ → EReal) (r c : ℕ) : EReal := partE A W 4 r c + scaleE * G r c

section Kernel

open Cert.DxIdeal Cert.DxIdeal.Gen
open StableHlo

/-- The product a point computes. -/
theorem pay1_eq (a : ℕ → ℕ → EReal) (w : ℕ → ℕ → ℕ → EReal) : k0_pay1 (F := Ideal) (ev2 .bf16 a) (ev3 .bf16 w)
    = (ev2 .f32 fun r c => ∑ k ∈ Finset.range 2048, a r k * w 0 c k : FVec Ideal S1024x1024 .f32) := by
  unfold k0_pay1
  dsimp only
  rw [shapeCast_self, constant_zero]
  exact (congrArg (fun x => matmul _ _ _ x _) (shapeCast_ev3 w _)).trans (matmul_nt 1024 2048 1024 _ a (w 0))

section Point

variable (c : Dev nD) (i : grid0.Coords) (arg3 : Memref sig .tc .vmem S1024x2048 .bf16) (harg3 : arg3.IsWhole)
  (arg4 : Memref sig .tc .vmem S1x1024x2048 .bf16) (harg4 : arg4.IsWhole) (arg5 : Memref sig .tc .vmem S1024x1024 .f32) (harg5 : arg5.IsWhole)
  (arg6 : Memref sig .tc .vmem S1024x1024 .f32) (harg6 : arg6.IsWhole) (arg7 : Memref sig .tc .vmem S1024x1024 .f32) (harg7 : arg7.IsWhole)
  {x0 : Vec Ideal S1024x2048 .bf16} {x1 : Vec Ideal S1x1024x2048 .bf16}
  {x2 xs : Vec Ideal S1024x1024 .f32} {a s g : ℕ → ℕ → EReal} {w : ℕ → ℕ → ℕ → EReal}
  (h0 : x0 = (ev2 .bf16 a : FVec Ideal S1024x2048 .bf16)) (h1 : x1 = (ev3 .bf16 w : FVec Ideal S1x1024x2048 .bf16))
  (h2 : x2 = (ev2 .f32 g : FVec Ideal S1024x1024 .f32)) (hs : xs = (ev2 .f32 s : FVec Ideal S1024x1024 .f32))

include h0 h1

/-- What the first block's point leaves in the scratch. -/
theorem first_eq (hc0 : cond0_0 i) (hc1 : ¬cond0_1 i) (hc2 : ¬cond0_2 i) :
    sout0_A_0 (F := Ideal) c i arg3 harg3 arg4 harg4 arg5 harg5 arg6 harg6 arg7 harg7 hc0 hc1 hc2 x0 x1 x2
      = (ev2 .f32 fun r d => ∑ k ∈ Finset.range 2048, a r k * w 0 d k : FVec Ideal S1024x1024 .f32) := by
  unfold sout0_A_0 kernelRun0_A
  dsimp only
  refine (View.read_writes_full _ _ _ _ _).trans ?_
  refine (congrArg₂ k0_pay2 ((View.readAt_full _ _ _).trans ((harg3.read_unread x0).trans h0))
    ((View.readAt_full _ _ _).trans ((harg4.read_unread x1).trans h1))).trans ?_
  unfold k0_pay2
  dsimp only
  rw [shapeCast_self, pay1_eq]

include hs

/-- What a middle block's point leaves in the scratch. -/
theorem middle_eq (hc0 : ¬cond0_0 i) (hc1 : cond0_1 i) (hc2 : ¬cond0_2 i) :
    sout0_B_0 (F := Ideal) c i arg3 harg3 arg4 harg4 arg5 harg5 arg6 harg6 arg7 harg7 hc0 hc1 hc2 x0 x1 x2 xs
      = (ev2 .f32 fun r d => s r d + ∑ k ∈ Finset.range 2048, a r k * w 0 d k : FVec Ideal S1024x1024 .f32) := by
  unfold sout0_B_0 kernelRun0_B
  dsimp only
  refine (View.read_writes_full _ _ _ _ _).trans ?_
  refine (congrArg₂ (fun x y => k0_pay3 x y _) ((View.readAt_full _ _ _).trans ((harg3.read_unread x0).trans h0))
    ((View.readAt_full _ _ _).trans ((harg4.read_unread x1).trans h1))).trans ?_
  refine (congrArg (k0_pay3 _ _) ((View.readAt_full _ _ _).trans ((harg7.read_unread xs).trans hs))).trans ?_
  unfold k0_pay3
  dsimp only
  rw [shapeCast_self, pay1_eq, addf_ev2]

include h2 in
/-- What the last block's point leaves in the result's tile. -/
theorem last_eq (hc0 : ¬cond0_0 i) (hc1 : ¬cond0_1 i) (hc2 : cond0_2 i) :
    out0_C_3 (F := Ideal) c i arg3 harg3 arg4 harg4 arg5 harg5 arg6 harg6 arg7 harg7 hc0 hc1 hc2 x0 x1 x2 xs
      = (ev2 .f32 fun r d => (s r d + ∑ k ∈ Finset.range 2048, a r k * w 0 d k) + scaleE * g r d : FVec Ideal S1024x1024 .f32) := by
  unfold out0_C_3 kernelRun0_C
  dsimp only
  refine (View.read_writes_full _ _ _ _ _).trans ?_
  refine (congrArg₂ (fun x y => k0_pay4 x y _ _) ((View.readAt_full _ _ _).trans ((harg3.read_unread x0).trans h0))
    ((View.readAt_full _ _ _).trans ((harg4.read_unread x1).trans h1))).trans ?_
  refine (congrArg₂ (k0_pay4 _ _) ((View.readAt_full _ _ _).trans ((harg7.read_unread xs).trans hs))
    ((View.readAt_full _ _ _).trans ((harg5.read_unread x2).trans h2))).trans ?_
  unfold k0_pay4
  dsimp only
  rw [pay1_eq, addf_ev2, broadcast_ev2, mulf_ev2, addf_ev2]
  rfl

end Point

/-- Where a point's rows and its block of the left operand start. -/
theorem at0 : ∀ t : Fin cfg0.N, win0_0.index t 0 * win0_0.size 0 = 1024 * (t.val / 8) ∧ win0_0.index t 1 * win0_0.size 1 = 2048 * (t.val % 4) :=
  by decide +kernel

/-- The shard a point reads, and where its rows of it start. -/
theorem at1 : ∀ t : Fin cfg0.N, win0_1.index t 0 * win0_1.size 0 = t.val % 4 ∧ win0_1.index t 1 * win0_1.size 1 = 1024 * (t.val / 4 % 2)
    ∧ win0_1.index t 2 * win0_1.size 2 = 0 :=
  by decide +kernel

/-- Where its tile of the gradient passed around starts. -/
theorem at2 : ∀ t : Fin cfg0.N, (win0_2.index t 0 * win0_2.size 0 = 1024 * (t.val / 8) ∧ win0_2.index t 1 * win0_2.size 1 = 1024 * (t.val / 4 % 2)) :=
  by decide +kernel

/-- Where its tile of the result starts, and its extents. -/
theorem at3 : ∀ t : Fin cfg0.N, (win0_3.index t 0 * win0_3.size 0 = 1024 * (t.val / 8) ∧ win0_3.index t 1 * win0_3.size 1 = 1024 * (t.val / 4 % 2))
    ∧ win0_3.xsize (grid0.coords t) 0 = 1024 ∧ win0_3.xsize (grid0.coords t) 1 = 1024 :=
  by decide +kernel

section Arrays

variable (m : (ℓ : Loc nD τ sig) → Buf (Elt Ideal) ℓ) (c : Dev nD) (A G : ℕ → ℕ → EReal) (W : ℕ → ℕ → ℕ → EReal)
  (hA : (V m c main_v0 : FVec Ideal S2048x8192 .bf16) = ev2 .bf16 A)
  (hW : (V m c main_v1 : FVec Ideal S4x2048x2048 .bf16) = ev3 .bf16 W)
  (hG : (V m c main_arg2 : FVec Ideal S2048x2048 .f32) = ev2 .f32 G)

include hA in
theorem read0 (t : Fin cfg0.N) : (iblk m c 0 t : FVec Ideal S1024x2048 .bf16)
    = ev2 .bf16 fun r k => A (1024 * (t.val / 8) + r) (2048 * (t.val % 4) + k) :=
  tileAt2 _ hA _ (win0_0.rect t).emb (fun _ => rfl) (win0_0.rect_emb_val t) (at0 t)

include hW in
theorem read1 (t : Fin cfg0.N) : (iblk m c 1 t : FVec Ideal S1x1024x2048 .bf16)
    = ev3 .bf16 fun _ d k => W (t.val % 4) (1024 * (t.val / 4 % 2) + d) (0 + k) :=
  tileAt3 _ hW _ (win0_1.rect t).emb (fun _ => rfl) (win0_1.rect_emb_val t) (at1 t)

include hG in
theorem read2 (t : Fin cfg0.N) : (iblk m c 2 t : FVec Ideal S1024x1024 .f32)
    = ev2 .f32 fun r d => G (1024 * (t.val / 8) + r) (1024 * (t.val / 4 % 2) + d) :=
  tileAt2 _ hG _ (win0_2.rect t).emb (fun _ => rfl) (win0_2.rect_emb_val t) (at2 t)

include hA hW
/-- What the scratch holds after the first point of a tile. -/
theorem scratch_first (t : Fin cfg0.N) (h0 : t.val % 4 = 0) : ((outsAt0 m c t.val t.isLt).2 : FVec Ideal S1024x1024 .f32)
    = ev2 .f32 fun r d => partE A W (t.val % 4 + 1) (1024 * (t.val / 8) + r) (1024 * (t.val / 4 % 2) + d) := by
  have h1 : ¬(1 ≤ t.val % 4 ∧ t.val % 4 ≤ 2) := by omega
  have h2 : ¬t.val % 4 = 3 := by omega
  have P := first_eq (x2 := (iblk m c 2 t : FVec Ideal S1024x1024 .f32)) c (grid0.coords t) (ms0_0 t) (hs0_0 t) (ms0_1 t) (hs0_1 t) (ms0_2 t) (hs0_2 t) (ms0_3 t) (hs0_3 t) scM0_0 (Memref.isWhole_whole _)
    (read0 m c A hA t) (read1 m c W hW t) ((hcond0_0 t).mpr h0) (fun h => h1 ((hcond0_1 t).mp h)) (fun h => h2 ((hcond0_2 t).mp h))
  rw [outsAt0_A m c t h0 h1 h2]
  dsimp only
  rw [P]
  refine ev2_congr fun r _ d _ => ?_
  rw [h0, partE, Finset.sum_range_succ _ 0, Finset.sum_range_zero, zero_add]
  exact Finset.sum_congr rfl fun k _ => by rw [Nat.zero_add k]

/-- What it holds after a middle point, from what it held after the one before. -/
theorem scratch_middle (t : Fin cfg0.N) (h0 : ¬t.val % 4 = 0) (h3 : ¬t.val % 4 = 3)
    (ih : ((outsAt0 m c (t.val - 1) (Nat.lt_of_le_of_lt (Nat.sub_le _ _) t.isLt)).2 : FVec Ideal S1024x1024 .f32)
      = ev2 .f32 fun r d => partE A W (t.val % 4) (1024 * (t.val / 8) + r) (1024 * (t.val / 4 % 2) + d)) :
    ((outsAt0 m c t.val t.isLt).2 : FVec Ideal S1024x1024 .f32)
    = ev2 .f32 fun r d => partE A W (t.val % 4 + 1) (1024 * (t.val / 8) + r) (1024 * (t.val / 4 % 2) + d) := by
  have h1 : 1 ≤ t.val % 4 ∧ t.val % 4 ≤ 2 := by omega
  have P := middle_eq (x2 := (iblk m c 2 t : FVec Ideal S1024x1024 .f32)) c (grid0.coords t) (ms0_0 t) (hs0_0 t) (ms0_1 t) (hs0_1 t) (ms0_2 t) (hs0_2 t) (ms0_3 t) (hs0_3 t) scM0_0 (Memref.isWhole_whole _)
    (read0 m c A hA t) (read1 m c W hW t) ih (fun h => h0 ((hcond0_0 t).mp h)) ((hcond0_1 t).mpr h1) (fun h => h3 ((hcond0_2 t).mp h))
  rw [outsAt0_B m c t h0 h1 h3]
  dsimp only
  rw [P]
  refine ev2_congr fun r _ d _ => ?_
  rw [partE, partE, Finset.sum_range_succ _ (t.val % 4)]
  exact congrArg _ (Finset.sum_congr rfl fun k _ => by rw [Nat.zero_add k])

/-- What the scratch holds after a point that is not the last of its tile: the blocks so far. -/
theorem scratch_eq (n : ℕ) : ∀ hn : n < cfg0.N, ¬n % 4 = 3 → ((outsAt0 m c n hn).2 : FVec Ideal S1024x1024 .f32)
    = ev2 .f32 fun r d => partE A W (n % 4 + 1) (1024 * (n / 8) + r) (1024 * (n / 4 % 2) + d) := by
  induction n with
  | zero => exact fun hn _ => scratch_first m c A W hA hW ⟨0, hn⟩ rfl
  | succ n ih =>
    intro hn h3
    by_cases h0 : (n + 1) % 4 = 0
    · exact scratch_first m c A W hA hW ⟨n + 1, hn⟩ h0
    · refine scratch_middle m c A W hA hW ⟨n + 1, hn⟩ h0 h3 ((ih (Nat.lt_of_succ_lt hn) (by omega)).trans ?_)
      show _ = ev2 .f32 fun r d => partE A W ((n + 1) % 4) (1024 * ((n + 1) / 8) + r) (1024 * ((n + 1) / 4 % 2) + d)
      rw [show (n + 1) % 4 = n % 4 + 1 by omega, show (n + 1) / 8 = n / 8 by omega, show (n + 1) / 4 = n / 4 by omega]

include hG
/-- What the last point of a tile leaves in it. -/
theorem tile_eq (t : Fin cfg0.N) (h3 : t.val % 4 = 3) : ((outsAt0 m c t.val t.isLt).1 : FVec Ideal S1024x1024 .f32)
    = ev2 .f32 fun r d => gradE A G W (1024 * (t.val / 8) + r) (1024 * (t.val / 4 % 2) + d) := by
  have h0 : ¬t.val % 4 = 0 := by omega
  have h1 : ¬(1 ≤ t.val % 4 ∧ t.val % 4 ≤ 2) := by omega
  have P := last_eq c (grid0.coords t) (ms0_0 t) (hs0_0 t) (ms0_1 t) (hs0_1 t) (ms0_2 t) (hs0_2 t) (ms0_3 t) (hs0_3 t) scM0_0 (Memref.isWhole_whole _)
    (read0 m c A hA t) (read1 m c W hW t) (read2 m c G hG t) (scratch_eq m c A W hA hW (t.val - 1) (Nat.lt_of_le_of_lt (Nat.sub_le _ _) t.isLt) (by omega))
    (fun h => h0 ((hcond0_0 t).mp h)) (fun h => h1 ((hcond0_1 t).mp h)) ((hcond0_2 t).mpr h3)
  rw [outsAt0_C m c t h0 h1 h3]
  dsimp only
  rw [P]
  refine ev2_congr fun r _ d _ => ?_
  rw [gradE, partE, partE, Finset.sum_range_succ _ 3, show (t.val - 1) % 4 + 1 = 3 by omega, show (t.val - 1) / 8 = t.val / 8 by omega,
    show (t.val - 1) / 4 % 2 = t.val / 4 % 2 by omega, h3]
  exact congrArg (fun x => _ + x + _) (Finset.sum_congr rfl fun k _ => by rw [Nat.zero_add k])

/-- The result. -/
theorem final3 : ((dats m 0 c).arrAt 3 cfg0.N : FVec Ideal S2048x2048 .f32) = ev2 .f32 (gradE A G W) := by
  refine (dats m 0 c).arrAt_eq_of_cover 3 _ (fun t ht => ?_) (fun i => ?_)
  · rw [Cert.DxIdeal.Value.flushed3]
    refine (congrArg _ (tile_eq m c A G W hA hW hG t ((flush0_3 t).mp ht))).trans ?_
    have T := block2 (M := 2048) (N := 2048) (m := 1024) (n := 1024) (φ := .f32) (gradE A G W) (win0_3.rect t).emb (win0_3.rect_emb_val t) (at3 t).1
    exact Eq.symm T
  · have i0 : (i 0 : ℕ) < 2048 := (i 0).isLt
    have i1 : (i 1 : ℕ) < 2048 := (i 1).isLt
    have hN : cfg0.N = 16 := N_0
    refine ⟨⟨8 * ((i 0 : ℕ) / 1024) + 4 * ((i 1 : ℕ) / 1024) + 3, by omega⟩, (flush0_3 _).mpr (by show (8 * ((i 0 : ℕ) / 1024) + 4 * ((i 1 : ℕ) / 1024) + 3) % 4 = 3; omega), ?_⟩
    generalize ht' : (⟨8 * ((i 0 : ℕ) / 1024) + 4 * ((i 1 : ℕ) / 1024) + 3, _⟩ : Fin cfg0.N) = t
    have hv' : t.val = 8 * ((i 0 : ℕ) / 1024) + 4 * ((i 1 : ℕ) / 1024) + 3 := by rw [← ht']
    show i ∈ ((View.whole main_v2).slice (win0_3.rect t)).set
    rw [View.set_slice_whole]
    exact mem_block2 (at3 t) (by omega) (by omega)

end Arrays

variable (m : (ℓ : Loc nD τ sig) → Buf (Elt Ideal) ℓ) (c : Dev nD)

/-- What the host hands the grid: two of the arguments in 16 bits, and the third as it is. -/
theorem host0 : (V m c main_v0 : FVec Ideal S2048x8192 .bf16) = narrow (m ((c.tc : Thread nD τ).loc main_arg0) : FVec Ideal S2048x8192 .f32) := by
  simp only [V, hostOps0, TRef.binary, TRef.nullary, TRef.ternary, TRef.unary, TRef.toBuf, TRef.ofBuf, cast_eq]
  after_results_simp <;> rfl

theorem host1 : (V m c main_v1 : FVec Ideal S4x2048x2048 .bf16) = narrow (m ((c.tc : Thread nD τ).loc main_arg1) : FVec Ideal S4x2048x2048 .f32) := by
  simp only [V, hostOps0, TRef.binary, TRef.nullary, TRef.ternary, TRef.unary, TRef.toBuf, TRef.ofBuf, cast_eq]
  after_results_simp <;> rfl

theorem host2 : (V m c main_arg2 : FVec Ideal S2048x2048 .f32) = (m ((c.tc : Thread nD τ).loc main_arg2) : FVec Ideal S2048x2048 .f32) := by
  simp only [V, hostOps0, TRef.binary, TRef.nullary, TRef.ternary, TRef.unary, TRef.toBuf, TRef.ofBuf, cast_eq]
  after_results_simp <;> rfl

/-- The kernel's result, from the entries of its arguments. -/
theorem kernel_eq (A G : ℕ → ℕ → EReal) (W : ℕ → ℕ → ℕ → EReal) (hA : (m ((c.tc : Thread nD τ).loc main_arg0) : FVec Ideal S2048x8192 .f32) = ev2 .f32 A)
    (hW : (m ((c.tc : Thread nD τ).loc main_arg1) : FVec Ideal S4x2048x2048 .f32) = ev3 .f32 W)
    (hG : (m ((c.tc : Thread nD τ).loc main_arg2) : FVec Ideal S2048x2048 .f32) = ev2 .f32 G) :
    ((dats m 0 c).arrAt 3 cfg0.N : FVec Ideal S2048x2048 .f32) = ev2 .f32 (gradE A G W) :=
  final3 m c A G W ((host0 m c).trans (narrow_ev2 hA)) ((host1 m c).trans (narrow_ev3 hW)) ((host2 m c).trans hG)

end Kernel

section Reference

open Cert.DxRefIdeal Cert.DxRefIdeal.Read

/-- Where an entry of the product reads its operands. -/
theorem lhs0 (i : S2048x2048.Idx) (q : dot_S2048x4x2048_S4x2048x2048_S2048x2048_12_02_0_1_n_n.contr.Idx) :
    (dot_S2048x4x2048_S4x2048x2048_S2048x2048_12_02_0_1_n_n.lhsIdx i q 0).val = (i 0).val := by
  unfold DotDims.lhsIdx
  rw [dif_neg (show ¬(0 : Fin S2048x4x2048.rank) ∈ dot_S2048x4x2048_S4x2048x2048_S2048x2048_12_02_0_1_n_n.lhsBatch by decide),
    dif_pos (show (0 : Fin S2048x4x2048.rank) ∈ dot_S2048x4x2048_S4x2048x2048_S2048x2048_12_02_0_1_n_n.lhsNonContracting by decide)]
  rfl

theorem lhs1 (i : S2048x2048.Idx) (q : dot_S2048x4x2048_S4x2048x2048_S2048x2048_12_02_0_1_n_n.contr.Idx) :
    (dot_S2048x4x2048_S4x2048x2048_S2048x2048_12_02_0_1_n_n.lhsIdx i q 1).val = (q ⟨0, by decide⟩).val := by
  unfold DotDims.lhsIdx
  rw [dif_neg (show ¬(1 : Fin S2048x4x2048.rank) ∈ dot_S2048x4x2048_S4x2048x2048_S2048x2048_12_02_0_1_n_n.lhsBatch by decide),
    dif_neg (show ¬(1 : Fin S2048x4x2048.rank) ∈ dot_S2048x4x2048_S4x2048x2048_S2048x2048_12_02_0_1_n_n.lhsNonContracting by decide)]
  rfl

theorem lhs2 (i : S2048x2048.Idx) (q : dot_S2048x4x2048_S4x2048x2048_S2048x2048_12_02_0_1_n_n.contr.Idx) :
    (dot_S2048x4x2048_S4x2048x2048_S2048x2048_12_02_0_1_n_n.lhsIdx i q 2).val = (q ⟨1, by decide⟩).val := by
  unfold DotDims.lhsIdx
  rw [dif_neg (show ¬(2 : Fin S2048x4x2048.rank) ∈ dot_S2048x4x2048_S4x2048x2048_S2048x2048_12_02_0_1_n_n.lhsBatch by decide),
    dif_neg (show ¬(2 : Fin S2048x4x2048.rank) ∈ dot_S2048x4x2048_S4x2048x2048_S2048x2048_12_02_0_1_n_n.lhsNonContracting by decide)]
  rfl

theorem rhs0 (i : S2048x2048.Idx) (q : dot_S2048x4x2048_S4x2048x2048_S2048x2048_12_02_0_1_n_n.contr.Idx) :
    (dot_S2048x4x2048_S4x2048x2048_S2048x2048_12_02_0_1_n_n.rhsIdx i q 0).val = (q ⟨0, by decide⟩).val := by
  unfold DotDims.rhsIdx
  rw [dif_neg (show ¬(0 : Fin S4x2048x2048.rank) ∈ dot_S2048x4x2048_S4x2048x2048_S2048x2048_12_02_0_1_n_n.rhsBatch by decide),
    dif_neg (show ¬(0 : Fin S4x2048x2048.rank) ∈ dot_S2048x4x2048_S4x2048x2048_S2048x2048_12_02_0_1_n_n.rhsNonContracting by decide)]
  rfl

theorem rhs1 (i : S2048x2048.Idx) (q : dot_S2048x4x2048_S4x2048x2048_S2048x2048_12_02_0_1_n_n.contr.Idx) :
    (dot_S2048x4x2048_S4x2048x2048_S2048x2048_12_02_0_1_n_n.rhsIdx i q 1).val = (i 1).val := by
  unfold DotDims.rhsIdx
  rw [dif_neg (show ¬(1 : Fin S4x2048x2048.rank) ∈ dot_S2048x4x2048_S4x2048x2048_S2048x2048_12_02_0_1_n_n.rhsBatch by decide),
    dif_pos (show (1 : Fin S4x2048x2048.rank) ∈ dot_S2048x4x2048_S4x2048x2048_S2048x2048_12_02_0_1_n_n.rhsNonContracting by decide)]
  rfl

theorem rhs2 (i : S2048x2048.Idx) (q : dot_S2048x4x2048_S4x2048x2048_S2048x2048_12_02_0_1_n_n.contr.Idx) :
    (dot_S2048x4x2048_S4x2048x2048_S2048x2048_12_02_0_1_n_n.rhsIdx i q 2).val = (q ⟨1, by decide⟩).val := by
  unfold DotDims.rhsIdx
  rw [dif_neg (show ¬(2 : Fin S4x2048x2048.rank) ∈ dot_S2048x4x2048_S4x2048x2048_S2048x2048_12_02_0_1_n_n.rhsBatch by decide),
    dif_neg (show ¬(2 : Fin S4x2048x2048.rank) ∈ dot_S2048x4x2048_S4x2048x2048_S2048x2048_12_02_0_1_n_n.rhsNonContracting by decide)]
  rfl

/-- The reference's product, from the entries of its arguments: a sum over the shards and over each shard's columns. -/
theorem ref_prod (A : ℕ → ℕ → EReal) (W : ℕ → ℕ → ℕ → EReal) :
    val_main_v6 (F := Ideal) (ev2 .f32 A : FVec Ideal S2048x8192 .f32) (ev3 .f32 W : FVec Ideal S4x2048x2048 .f32)
    = (ev2 .f32 (partE A W 4) : FVec Ideal S2048x2048 .f32) :=
  funext fun i => by
    have i0 : (i 0).val < 2048 := (i 0).isLt
    unfold val_main_v6
    simp only [Host.dotGeneral]
    rw [Ideal.dotGeneral_apply, sum_contr2 _ 4 2048 rfl rfl rfl]
    refine Eq.trans ?_ (Finset.sum_range fun j => blockE A W j (i 0).val (i 1).val).symm
    refine Finset.sum_congr rfl fun j _ => ?_
    refine Eq.trans ?_ (Finset.sum_range fun k => A (i 0).val (2048 * j.val + k) * W j.val (i 1).val k).symm
    refine Finset.sum_congr rfl fun k _ => ?_
    have q0 := contrEquiv2_symm_val0 dot_S2048x4x2048_S4x2048x2048_S2048x2048_12_02_0_1_n_n 4 2048 rfl rfl rfl (j, k)
    have q1 := contrEquiv2_symm_val1 dot_S2048x4x2048_S4x2048x2048_S2048x2048_12_02_0_1_n_n 4 2048 rfl rfl rfl (j, k)
    generalize (contrEquiv2 dot_S2048x4x2048_S4x2048x2048_S2048x2048_12_02_0_1_n_n 4 2048 rfl rfl rfl).symm (j, k) = q at q0 q1 ⊢
    rw [val_main_v5_apply]
    show A ((((dot_S2048x4x2048_S4x2048x2048_S2048x2048_12_02_0_1_n_n.lhsIdx i q 0).val * 4 + (dot_S2048x4x2048_S4x2048x2048_S2048x2048_12_02_0_1_n_n.lhsIdx i q 1).val) * 2048
        + (dot_S2048x4x2048_S4x2048x2048_S2048x2048_12_02_0_1_n_n.lhsIdx i q 2).val) / 8192)
        ((((dot_S2048x4x2048_S4x2048x2048_S2048x2048_12_02_0_1_n_n.lhsIdx i q 0).val * 4 + (dot_S2048x4x2048_S4x2048x2048_S2048x2048_12_02_0_1_n_n.lhsIdx i q 1).val) * 2048
        + (dot_S2048x4x2048_S4x2048x2048_S2048x2048_12_02_0_1_n_n.lhsIdx i q 2).val) % 8192)
      * W (dot_S2048x4x2048_S4x2048x2048_S2048x2048_12_02_0_1_n_n.rhsIdx i q 0).val (dot_S2048x4x2048_S4x2048x2048_S2048x2048_12_02_0_1_n_n.rhsIdx i q 1).val
        (dot_S2048x4x2048_S4x2048x2048_S2048x2048_12_02_0_1_n_n.rhsIdx i q 2).val = _
    have e1 := (lhs1 i q).trans q0
    have e2 := (lhs2 i q).trans q1
    have f0 := (rhs0 i q).trans q0
    have f2 := (rhs2 i q).trans q1
    dsimp only at e1 e2 f0 f2
    have hj := j.isLt
    have hk := k.isLt
    rw [lhs0, e1, e2, rhs1, f0, f2, show (((i 0).val * 4 + j.val) * 2048 + k.val) / 8192 = (i 0).val by omega,
      show (((i 0).val * 4 + j.val) * 2048 + k.val) % 8192 = 2048 * j.val + k.val by omega]

theorem reference_eq (A G : ℕ → ℕ → EReal) (W : ℕ → ℕ → ℕ → EReal) :
    val_main_v9 (F := Ideal) (ev2 .f32 A : FVec Ideal S2048x8192 .f32) (ev3 .f32 W : FVec Ideal S4x2048x2048 .f32) (ev2 .f32 G : FVec Ideal S2048x2048 .f32)
    = (ev2 .f32 (gradE A G W) : FVec Ideal S2048x2048 .f32) := by
  have Z : val_main_v7 (F := Ideal) = (ev2 .f32 fun _ _ => scaleE : FVec Ideal S2048x2048 .f32) := funext fun i => by
    rw [val_main_v7_apply]; rfl
  unfold val_main_v9 val_main_v8
  rw [Z, ref_prod]
  rfl

end Reference

open Idealize.SL.Sem

/-- The reference's frame: its run read at its arguments, which no operation writes; it declares no semaphore. -/
theorem frame_r : letI := Cert.DxRefIdeal.Gen.facts; Cert.quiescent_DxRefIdeal :=
  fun m ρ _ => (θ_run Cert.DxRefIdeal.defs _ _).mono (fun r h => ⟨fun c => (h c).2, sem_eq_zero_of_no_sems (by decide) r.2⟩)
    (Cert.DxRefIdeal.Value.run m ρ)

/-- The two programs' results are equal. -/
theorem algebraic : letI := Cert.DxIdeal.Gen.facts; letI := Cert.DxRefIdeal.Gen.facts; Cert.algebraic_DxIdeal_DxRefIdeal := by
  intro m g m' g' _ hagree
  refine ⟨fun c => (Cert.DxIdeal.Gen.dats m 0 c).arrAt 3 Cert.DxIdeal.cfg0.N, Cert.DxIdeal.Value.run_blocks m g, ?_⟩
  refine (θ_run Cert.DxRefIdeal.defs _ _).mono (fun r h c => ?_) (Cert.DxRefIdeal.Value.run m' g')
  obtain ⟨a0, a1, a2⟩ := hagree c
  obtain ⟨r0, rest⟩ := h c
  refine ⟨r0.trans ((Cert.DxRefIdeal.Read.val_main_v9_eq _ _ _).trans ?_), rest⟩
  rw [a0, a1, a2]
  refine Eq.trans ?_ (kernel_eq m c _ _ _ (eq_ev2 _) (eq_ev3 _) (eq_ev2 _)).symm
  exact (congrArg₂ (fun x y => Cert.DxRefIdeal.Read.val_main_v9 x y _) (eq_ev2 _) (eq_ev3 _)).trans
    ((congrArg (Cert.DxRefIdeal.Read.val_main_v9 _ _) (eq_ev2 _)).trans (reference_eq _ _ _))

end Cert.Mixer.Dx

end
-- ==== Proof.Shards.lean ====
/-
  The projections' weights come as shards of their columns, one for each chip, laid side by side. The product with the
  shards, the product with their transposes, and how a matrix of all the columns is read as one matrix for each shard.
-/
module

public import proofs.«01_k».proof.Proof.Tiles
public import Idealize.ShloMosaic.Lib.TwoAxisContraction

@[expose] public section

noncomputable section

namespace Cert.Mixer

open Idealize.ShloMosaic Idealize.ShloMosaic.ValueIdx

/-- The entries of the product of two matrices. -/
def plainE (K : ℕ) (A W : ℕ → ℕ → EReal) (r c : ℕ) : EReal := ∑ k ∈ Finset.range K, A r k * W k c

/-- The entries of the product with the shards side by side: `K` rows, `w` columns in each shard. -/
def sideE (K w : ℕ) (A : ℕ → ℕ → EReal) (W : ℕ → ℕ → ℕ → EReal) (r c : ℕ) : EReal :=
  ∑ k ∈ Finset.range K, A r k * W (c / w) k (c % w)

/-- The entries of the product of the transpose of a matrix of `K` rows with the columns of one shard. -/
def gramE (K w : ℕ) (A G : ℕ → ℕ → EReal) (p r c : ℕ) : EReal := ∑ k ∈ Finset.range K, A k r * G k (w * p + c)

/-- The entries of the product of one shard's columns with its transpose. -/
def blockE (w : ℕ) (A : ℕ → ℕ → EReal) (W : ℕ → ℕ → ℕ → EReal) (j r c : ℕ) : EReal := ∑ k ∈ Finset.range w, A r (w * j + k) * W j c k

/-- The sum of the first shards' products. -/
def partE (w : ℕ) (A : ℕ → ℕ → EReal) (W : ℕ → ℕ → ℕ → EReal) (n r c : ℕ) : EReal := ∑ j ∈ Finset.range n, blockE w A W j r c

/-- One more shard. -/
theorem partE_succ (w : ℕ) (A : ℕ → ℕ → EReal) (W : ℕ → ℕ → ℕ → EReal) (n r c : ℕ) :
    partE w A W (n + 1) r c = partE w A W n r c + blockE w A W n r c := Finset.sum_range_succ _ n

theorem partE_zero (w : ℕ) (A : ℕ → ℕ → EReal) (W : ℕ → ℕ → ℕ → EReal) (r c : ℕ) : partE w A W 0 r c = 0 := rfl

/-- The scale of the gradient passed around a mixer, the square root of two rounded to a float. -/
def scaleE : EReal := (Scalar.ofBits .f32 0x3FB504F3#32 : Ideal .f32)

section Layout

variable {M P w Q : ℕ} {φ : FTy}

/-- A matrix of all the columns, as one for each shard. -/
theorem split_ev2 (hQ : Q = P * w) (hP : 0 < P) (hw : 0 < w) (A : ℕ → ℕ → EReal) (h) :
    shapeCast ⟨3, ![M, P, w]⟩ (ev2 φ A : FVec Ideal ⟨2, ![M, Q]⟩ φ) h = ev3 φ fun r j k => A r (w * j + k) :=
  funext fun i => by
    have i1 : (i 1).val < P := (i 1).isLt
    have i2 : (i 2).val < w := (i 2).isLt
    have hlt : w * (i 1).val + (i 2).val < Q := by
      rw [hQ]
      calc w * (i 1).val + (i 2).val < w * (i 1).val + w := by omega
        _ = w * ((i 1).val + 1) := by ring
        _ ≤ w * P := Nat.mul_le_mul_left _ i1
        _ = P * w := mul_comm _ _
    refine (shapeCast_apply _ h i (ix2 (i 0) ⟨w * (i 1).val + (i 2).val, hlt⟩) ?_).trans rfl
    rw [Shape.rowMajor_val_three, Shape.rowMajor_val_two]
    show (i 0).val * Q + (w * (i 1).val + (i 2).val) = ((i 0).val * P + (i 1).val) * w + (i 2).val
    rw [hQ]
    ring

/-- One matrix for each shard, side by side. -/
theorem join_ev3 (hQ : Q = P * w) (hw : 0 < w) (X : ℕ → ℕ → ℕ → EReal) (h) :
    shapeCast ⟨2, ![M, Q]⟩ (ev3 φ X : FVec Ideal ⟨3, ![M, P, w]⟩ φ) h = ev2 φ fun r c => X r (c / w) (c % w) :=
  funext fun i => by
    have i1 : (i 1).val < P * w := lt_of_lt_of_eq (i 1).isLt hQ
    refine (shapeCast_apply _ h i (ix3 (i 0) ⟨(i 1).val / w, Nat.div_lt_of_lt_mul (lt_of_lt_of_eq i1 (mul_comm _ _))⟩ ⟨(i 1).val % w, Nat.mod_lt _ hw⟩) ?_).trans rfl
    rw [Shape.rowMajor_val_three, Shape.rowMajor_val_two]
    show ((i 0).val * P + (i 1).val / w) * w + (i 1).val % w = (i 0).val * Q + (i 1).val
    calc ((i 0).val * P + (i 1).val / w) * w + (i 1).val % w = (i 0).val * (P * w) + (w * ((i 1).val / w) + (i 1).val % w) := by ring
      _ = (i 0).val * Q + (i 1).val := by rw [Nat.div_add_mod, ← hQ]

end Layout

section Contraction

variable (M P w N : ℕ)

/-- The contraction of a matrix for each shard with the shards, over the shards and their columns. -/
def shardDims : DotDims ⟨3, ![M, P, w]⟩ ⟨3, ![P, N, w]⟩ ⟨2, ![M, N]⟩ where
  lhsContracting := [1, 2]
  rhsContracting := [0, 2]
  lhsNonContracting := [0]
  rhsNonContracting := [1]
  lhsBatch := []
  rhsBatch := []
  wf := by
    refine ⟨rfl, by simp, rfl, by simp, by simp, by simp, (by decide : ([] ++ [0] ++ [1, 2] : List (Fin 3)).Perm (List.finRange 3)),
      (by decide : ([] ++ [1] ++ [0, 2] : List (Fin 3)).Perm (List.finRange 3)), rfl, Nat.two_pos, fun a => ?_⟩
    match a with
    | ⟨0, _⟩ => rfl
    | ⟨1, _⟩ => rfl

variable {M P w N}

/-- Where an entry of the product reads its operands. -/
theorem shard_lhs0 (i : (⟨2, ![M, N]⟩ : Shape).Idx) (q : (shardDims M P w N).contr.Idx) : ((shardDims M P w N).lhsIdx i q 0).val = (i 0).val := by
  unfold DotDims.lhsIdx
  rw [dif_neg (show ¬(0 : Fin (⟨3, ![M, P, w]⟩ : Shape).rank) ∈ (shardDims M P w N).lhsBatch from
      (by decide : ¬(0 : Fin 3) ∈ ([] : List (Fin 3)))),
    dif_pos (show (0 : Fin (⟨3, ![M, P, w]⟩ : Shape).rank) ∈ (shardDims M P w N).lhsNonContracting from
      (by decide : (0 : Fin 3) ∈ ([0] : List (Fin 3))))]
  rfl

theorem shard_lhs1 (i : (⟨2, ![M, N]⟩ : Shape).Idx) (q : (shardDims M P w N).contr.Idx) :
    ((shardDims M P w N).lhsIdx i q 1).val = (q ⟨0, Nat.two_pos⟩).val := by
  unfold DotDims.lhsIdx
  rw [dif_neg (show ¬(1 : Fin (⟨3, ![M, P, w]⟩ : Shape).rank) ∈ (shardDims M P w N).lhsBatch from
      (by decide : ¬(1 : Fin 3) ∈ ([] : List (Fin 3)))),
    dif_neg (show ¬(1 : Fin (⟨3, ![M, P, w]⟩ : Shape).rank) ∈ (shardDims M P w N).lhsNonContracting from
      (by decide : ¬(1 : Fin 3) ∈ ([0] : List (Fin 3))))]
  rfl

theorem shard_lhs2 (i : (⟨2, ![M, N]⟩ : Shape).Idx) (q : (shardDims M P w N).contr.Idx) :
    ((shardDims M P w N).lhsIdx i q 2).val = (q ⟨1, Nat.one_lt_two⟩).val := by
  unfold DotDims.lhsIdx
  rw [dif_neg (show ¬(2 : Fin (⟨3, ![M, P, w]⟩ : Shape).rank) ∈ (shardDims M P w N).lhsBatch from
      (by decide : ¬(2 : Fin 3) ∈ ([] : List (Fin 3)))),
    dif_neg (show ¬(2 : Fin (⟨3, ![M, P, w]⟩ : Shape).rank) ∈ (shardDims M P w N).lhsNonContracting from
      (by decide : ¬(2 : Fin 3) ∈ ([0] : List (Fin 3))))]
  rfl

theorem shard_rhs0 (i : (⟨2, ![M, N]⟩ : Shape).Idx) (q : (shardDims M P w N).contr.Idx) :
    ((shardDims M P w N).rhsIdx i q 0).val = (q ⟨0, Nat.two_pos⟩).val := by
  unfold DotDims.rhsIdx
  rw [dif_neg (show ¬(0 : Fin (⟨3, ![P, N, w]⟩ : Shape).rank) ∈ (shardDims M P w N).rhsBatch from
      (by decide : ¬(0 : Fin 3) ∈ ([] : List (Fin 3)))),
    dif_neg (show ¬(0 : Fin (⟨3, ![P, N, w]⟩ : Shape).rank) ∈ (shardDims M P w N).rhsNonContracting from
      (by decide : ¬(0 : Fin 3) ∈ ([1] : List (Fin 3))))]
  rfl

theorem shard_rhs1 (i : (⟨2, ![M, N]⟩ : Shape).Idx) (q : (shardDims M P w N).contr.Idx) : ((shardDims M P w N).rhsIdx i q 1).val = (i 1).val := by
  unfold DotDims.rhsIdx
  rw [dif_neg (show ¬(1 : Fin (⟨3, ![P, N, w]⟩ : Shape).rank) ∈ (shardDims M P w N).rhsBatch from
      (by decide : ¬(1 : Fin 3) ∈ ([] : List (Fin 3)))),
    dif_pos (show (1 : Fin (⟨3, ![P, N, w]⟩ : Shape).rank) ∈ (shardDims M P w N).rhsNonContracting from
      (by decide : (1 : Fin 3) ∈ ([1] : List (Fin 3))))]
  rfl

theorem shard_rhs2 (i : (⟨2, ![M, N]⟩ : Shape).Idx) (q : (shardDims M P w N).contr.Idx) :
    ((shardDims M P w N).rhsIdx i q 2).val = (q ⟨1, Nat.one_lt_two⟩).val := by
  unfold DotDims.rhsIdx
  rw [dif_neg (show ¬(2 : Fin (⟨3, ![P, N, w]⟩ : Shape).rank) ∈ (shardDims M P w N).rhsBatch from
      (by decide : ¬(2 : Fin 3) ∈ ([] : List (Fin 3)))),
    dif_neg (show ¬(2 : Fin (⟨3, ![P, N, w]⟩ : Shape).rank) ∈ (shardDims M P w N).rhsNonContracting from
      (by decide : ¬(2 : Fin 3) ∈ ([1] : List (Fin 3))))]
  rfl

variable (M P w N)

/-- The product with the shards' transposes, summed over the shards. -/
theorem dot_shards (prec) (A : ℕ → ℕ → EReal) (W : ℕ → ℕ → ℕ → EReal) :
    Host.dotGeneral (F := Ideal) (shardDims M P w N) prec (ev3 .f32 fun r j k => A r (w * j + k) : FVec Ideal ⟨3, ![M, P, w]⟩ .f32)
        (ev3 .f32 W : FVec Ideal ⟨3, ![P, N, w]⟩ .f32)
      = ev2 .f32 (partE w A W P) :=
  funext fun i => by
    simp only [Host.dotGeneral]
    rw [Ideal.dotGeneral_apply, sum_contr2 (shardDims M P w N) P w rfl rfl rfl]
    refine Eq.trans ?_ (Finset.sum_range fun j => blockE w A W j (i 0).val (i 1).val).symm
    refine Finset.sum_congr rfl fun j _ => ?_
    refine Eq.trans ?_ (Finset.sum_range fun k => A (i 0).val (w * j.val + k) * W j.val (i 1).val k).symm
    refine Finset.sum_congr rfl fun k _ => ?_
    have q0 := contrEquiv2_symm_val0 (shardDims M P w N) P w rfl rfl rfl (j, k)
    have q1 := contrEquiv2_symm_val1 (shardDims M P w N) P w rfl rfl rfl (j, k)
    generalize (contrEquiv2 (shardDims M P w N) P w rfl rfl rfl).symm (j, k) = q at q0 q1 ⊢
    show A ((shardDims M P w N).lhsIdx i q 0).val (w * ((shardDims M P w N).lhsIdx i q 1).val + ((shardDims M P w N).lhsIdx i q 2).val)
      * W ((shardDims M P w N).rhsIdx i q 0).val ((shardDims M P w N).rhsIdx i q 1).val ((shardDims M P w N).rhsIdx i q 2).val = _
    have e1 := (shard_lhs1 i q).trans q0
    have e2 := (shard_lhs2 i q).trans q1
    have f0 := (shard_rhs0 i q).trans q0
    have f2 := (shard_rhs2 i q).trans q1
    dsimp only at e1 e2 f0 f2
    rw [shard_lhs0, e1, e2, shard_rhs1, f0, f2]

end Contraction

end Cert.Mixer

end
-- ==== Proof.MixEvenIn.lean ====
/-
  The projection in of the even layer's mixer: `x · w_in`, the shards of `w_in` side by side. The grid runs over the
  tiles of the result, each of them the product of 1024 rows of the left operand and some columns of one shard.
-/
module

public import proofs.«01_k».proof.Defs
public import proofs.«01_k».proof.Proof.Shards
public import proofs.«01_k».proof.Proof.Gen.EvenInIdeal.Value
public import proofs.«01_k».proof.Proof.Gen.EvenInRefIdeal.Read

@[expose] public section

set_option maxRecDepth 16384

noncomputable section

namespace Cert.Mixer.EvenIn

open Idealize.ShloMosaic Idealize.ShloMosaic.ValueIdx

section Kernel

open Cert.EvenInIdeal Cert.EvenInIdeal.Gen
open StableHlo

/-- The tile a point computes. -/
theorem out_eq (a : ℕ → ℕ → EReal) (w : ℕ → ℕ → ℕ → EReal) : out0_2 (F := Ideal) (ev2 .bf16 a) (ev3 .bf16 w)
    = (ev2 .bf16 fun r c => ∑ k ∈ Finset.range 2048, a r k * w 0 k c : FVec Ideal S1024x768 .bf16) := by
  unfold out0_2
  rw [View.canon_cons_unit_zero (by funext a; fin_cases a <;> rfl), View.ld_unit_zero (by funext a; fin_cases a <;> rfl),
    View.ld_unit_zero (by funext a; fin_cases a <;> rfl)]
  unfold k0_pay1
  dsimp only
  rw [shapeCast_self, constant_zero]
  exact congrArg narrow ((congrArg (fun x => matmul (F := Ideal) dot_S1024x2048_S2048x768_S1024x768_1_0_0_1_n_n none (ev2 .bf16 a : FVec Ideal S1024x2048 .bf16) x (ev2 .f32 fun _ _ => 0))
    (shapeCast_ev3 (m := 2048) (n := 768) (φ := .bf16) w shapeCasts_S1x2048x768_S2048x768)).trans (matmul_nn 1024 2048 768 none a (w 0)))

/-- Where a point's rows of the left operand start. -/
theorem at0 : ∀ t : Fin cfg0.N, win0_0.index t 0 * win0_0.size 0 = 1024 * (t.val / 8) ∧ win0_0.index t 1 * win0_0.size 1 = 0 :=
  by decide +kernel

/-- The shard a point reads, and where its columns of it start. -/
theorem at1 : ∀ t : Fin cfg0.N, win0_1.index t 0 * win0_1.size 0 = t.val % 8 / 2 ∧ win0_1.index t 1 * win0_1.size 1 = 0
    ∧ win0_1.index t 2 * win0_1.size 2 = 768 * (t.val % 2) :=
  by decide +kernel

/-- Where a point's tile of the result starts, and its extents. -/
theorem at2 : ∀ t : Fin cfg0.N, (win0_2.index t 0 * win0_2.size 0 = 1024 * (t.val / 8) ∧ win0_2.index t 1 * win0_2.size 1 = 768 * (t.val % 8))
    ∧ win0_2.xsize (grid0.coords t) 0 = 1024 ∧ win0_2.xsize (grid0.coords t) 1 = 768 :=
  by decide +kernel

section Arrays

variable (m : (ℓ : Loc nD τ sig) → Buf (Elt Ideal) ℓ) (c : Dev nD) (A : ℕ → ℕ → EReal) (W : ℕ → ℕ → ℕ → EReal)
  (hA : (V m c main_v0 : FVec Ideal S2048x2048 .bf16) = ev2 .bf16 A)
  (hW : (V m c main_v1 : FVec Ideal S4x2048x1536 .bf16) = ev3 .bf16 W)

include hA in
theorem read0 (t : Fin cfg0.N) : (iblk m c 0 t : FVec Ideal S1024x2048 .bf16)
    = ev2 .bf16 fun r d => A (1024 * (t.val / 8) + r) (0 + d) :=
  tileAt2 _ hA _ (win0_0.rect t).emb (fun _ => rfl) (win0_0.rect_emb_val t) (at0 t)

include hW in
theorem read1 (t : Fin cfg0.N) : (iblk m c 1 t : FVec Ideal S1x2048x768 .bf16)
    = ev3 .bf16 fun _ r d => W (t.val % 8 / 2) (0 + r) (768 * (t.val % 2) + d) :=
  tileAt3 _ hW _ (win0_1.rect t).emb (fun _ => rfl) (win0_1.rect_emb_val t) (at1 t)

/-- A point's product is its tile of the whole one. -/
theorem tile_eq (t r d : ℕ) (hd : d < 768) :
    ∑ k ∈ Finset.range 2048, A (1024 * (t / 8) + r) (0 + k) * W (t % 8 / 2) (0 + k) (768 * (t % 2) + d)
      = sideE 2048 1536 A W (1024 * (t / 8) + r) (768 * (t % 8) + d) :=
  Finset.sum_congr rfl fun k _ => by
    rw [Nat.zero_add k, show (768 * (t % 8) + d) / 1536 = t % 8 / 2 by omega, show (768 * (t % 8) + d) % 1536 = 768 * (t % 2) + d by omega]

include hA hW
/-- The result. -/
theorem final2 : ((dats m 0 c).arrAt 2 cfg0.N : FVec Ideal S2048x6144 .bf16) = ev2 .bf16 (sideE 2048 1536 A W) := by
  refine (dats m 0 c).arrAt_eq_of_cover 2 _ (fun t _ => ?_) (fun i => ?_)
  · rw [Cert.EvenInIdeal.Value.flushed2]
    refine (congrArg _ ((congrArg₂ out0_2 (read0 m c A hA t) (read1 m c W hW t)).trans (out_eq _ _))).trans ?_
    have T := block2 (M := 2048) (N := 6144) (m := 1024) (n := 768) (φ := .bf16) (sideE 2048 1536 A W) (win0_2.rect t).emb (win0_2.rect_emb_val t) (at2 t).1
    exact Eq.symm (T.trans (ev2_congr fun r _ d hd => (tile_eq A W t.val r d hd).symm))
  · have i0 : (i 0 : ℕ) < 2048 := (i 0).isLt
    have i1 : (i 1 : ℕ) < 6144 := (i 1).isLt
    have hN : cfg0.N = 16 := N_0
    refine ⟨⟨8 * ((i 0 : ℕ) / 1024) + (i 1 : ℕ) / 768, by omega⟩, flush0_2 _, ?_⟩
    generalize ht' : (⟨8 * ((i 0 : ℕ) / 1024) + (i 1 : ℕ) / 768, _⟩ : Fin cfg0.N) = t
    have hv' : t.val = 8 * ((i 0 : ℕ) / 1024) + (i 1 : ℕ) / 768 := by rw [← ht']
    show i ∈ ((View.whole main_v2).slice (win0_2.rect t)).set
    rw [View.set_slice_whole]
    exact mem_block2 (at2 t) (by omega) (by omega)

end Arrays

variable (m : (ℓ : Loc nD τ sig) → Buf (Elt Ideal) ℓ) (c : Dev nD)

/-- What the host hands the grid: the arguments in 16 bits. -/
theorem host0 : (V m c main_v0 : FVec Ideal S2048x2048 .bf16) = narrow (m ((c.tc : Thread nD τ).loc main_arg0) : FVec Ideal S2048x2048 .f32) := by
  simp only [V, hostOps0, TRef.binary, TRef.nullary, TRef.ternary, TRef.unary, TRef.toBuf, TRef.ofBuf, cast_eq]
  after_results_simp <;> rfl

theorem host1 : (V m c main_v1 : FVec Ideal S4x2048x1536 .bf16) = narrow (m ((c.tc : Thread nD τ).loc main_arg1) : FVec Ideal S4x2048x1536 .f32) := by
  simp only [V, hostOps0, TRef.binary, TRef.nullary, TRef.ternary, TRef.unary, TRef.toBuf, TRef.ofBuf, cast_eq]
  after_results_simp <;> rfl

/-- The kernel's result, from the entries of its arguments. -/
theorem kernel_eq (A : ℕ → ℕ → EReal) (W : ℕ → ℕ → ℕ → EReal) (hA : (m ((c.tc : Thread nD τ).loc main_arg0) : FVec Ideal S2048x2048 .f32) = ev2 .f32 A)
    (hW : (m ((c.tc : Thread nD τ).loc main_arg1) : FVec Ideal S4x2048x1536 .f32) = ev3 .f32 W) :
    ((dats m 0 c).arrAt 2 cfg0.N : FVec Ideal S2048x6144 .bf16) = ev2 .bf16 (sideE 2048 1536 A W) :=
  final2 m c A W ((host0 m c).trans (narrow_ev2 hA)) ((host1 m c).trans (narrow_ev3 hW))

end Kernel

section Reference

open Cert.EvenInRefIdeal Cert.EvenInRefIdeal.Read

/-- The reference's product, a matrix for each shard. -/
theorem ref_prod (A : ℕ → ℕ → EReal) (W : ℕ → ℕ → ℕ → EReal) : val_main_v0 (F := Ideal) (ev2 .f32 A : FVec Ideal S2048x2048 .f32) (ev3 .f32 W : FVec Ideal S4x2048x1536 .f32)
    = (ev3 .f32 fun r p c => ∑ k ∈ Finset.range 2048, A r k * W p k c : FVec Ideal S2048x4x1536 .f32) :=
  funext fun i => by
    rw [val_main_v0_apply]
    exact (Finset.sum_range fun k => A (i 0).val k * W (i 1).val k (i 2).val).symm

/-- The same matrices side by side. -/
theorem ref_side (A : ℕ → ℕ → EReal) (W : ℕ → ℕ → ℕ → EReal) : val_main_v1 (F := Ideal) (ev2 .f32 A : FVec Ideal S2048x2048 .f32) (ev3 .f32 W : FVec Ideal S4x2048x1536 .f32)
    = (ev2 .f32 (sideE 2048 1536 A W) : FVec Ideal S2048x6144 .f32) := by
  unfold val_main_v1
  rw [ref_prod]
  exact join_ev3 (by norm_num) (by norm_num) (fun r p c => ∑ k ∈ Finset.range 2048, A r k * W p k c) _

/-- The reference's result, from the entries of its arguments. -/
theorem reference_eq (A : ℕ → ℕ → EReal) (W : ℕ → ℕ → ℕ → EReal) : val_main_v2 (F := Ideal) (ev2 .f32 A : FVec Ideal S2048x2048 .f32) (ev3 .f32 W : FVec Ideal S4x2048x1536 .f32)
    = (ev2 .bf16 (sideE 2048 1536 A W) : FVec Ideal S2048x6144 .bf16) := congrArg narrow (ref_side A W)

end Reference

open Idealize.SL.Sem

/-- The reference's frame: its run read at its arguments, which no operation writes; it declares no semaphore. -/
theorem frame_r : letI := Cert.EvenInRefIdeal.Gen.facts; Cert.quiescent_EvenInRefIdeal :=
  fun m ρ _ => (θ_run Cert.EvenInRefIdeal.defs _ _).mono (fun r h => ⟨fun c => (h c).2, sem_eq_zero_of_no_sems (by decide) r.2⟩)
    (Cert.EvenInRefIdeal.Value.run m ρ)

/-- The two programs' results are equal. -/
theorem algebraic : letI := Cert.EvenInIdeal.Gen.facts; letI := Cert.EvenInRefIdeal.Gen.facts; Cert.algebraic_EvenInIdeal_EvenInRefIdeal := by
  intro m g m' g' _ hagree
  refine ⟨fun c => (Cert.EvenInIdeal.Gen.dats m 0 c).arrAt 2 Cert.EvenInIdeal.cfg0.N, Cert.EvenInIdeal.Value.run_blocks m g, ?_⟩
  refine (θ_run Cert.EvenInRefIdeal.defs _ _).mono (fun r h c => ?_) (Cert.EvenInRefIdeal.Value.run m' g')
  obtain ⟨a0, a1⟩ := hagree c
  obtain ⟨r0, rest⟩ := h c
  refine ⟨r0.trans ((Cert.EvenInRefIdeal.Read.val_main_v2_eq _ _).trans ?_), rest⟩
  rw [a0, a1]
  refine Eq.trans ?_ (kernel_eq m c _ _ (eq_ev2 _) (eq_ev3 _)).symm
  exact (congrArg₂ Cert.EvenInRefIdeal.Read.val_main_v2 (eq_ev2 _) (eq_ev3 _)).trans (reference_eq _ _)

end Cert.Mixer.EvenIn

end
-- ==== Proof.MixEvenDwin.lean ====
/-
  The gradient of the weight of the projection in of the even layer's mixer, `xᵀ · dh`, as the four shards of its
  columns. The grid runs over the tiles of the result, each of them the product of some columns of the one operand and
  some columns of the other, over all rows.
-/
module

public import proofs.«01_k».proof.Defs
public import proofs.«01_k».proof.Proof.Shards
public import proofs.«01_k».proof.Proof.Gen.EvenDwinIdeal.Value
public import proofs.«01_k».proof.Proof.Gen.EvenDwinRefIdeal.Read

@[expose] public section

set_option maxRecDepth 16384

noncomputable section

namespace Cert.Mixer.EvenDwin

open Idealize.ShloMosaic Idealize.ShloMosaic.ValueIdx

section Kernel

open Cert.EvenDwinIdeal Cert.EvenDwinIdeal.Gen
open StableHlo

/-- The tile a point computes. -/
theorem pay_eq (a g : ℕ → ℕ → EReal) : k0_pay1 (F := Ideal) (ev2 .bf16 a) (ev2 .bf16 g)
    = (ev3 .bf16 fun _ r c => ∑ k ∈ Finset.range 2048, a k r * g k c : FVec Ideal S1x1024x768 .bf16) := by
  unfold k0_pay1
  dsimp only
  rw [shapeCast_self, shapeCast_self, constant_zero]
  refine (congrArg (fun x => shapeCast S1x1024x768 (truncf .bf16 x _) _) (matmul_tn 1024 2048 768 _ a g)).trans ?_
  rw [truncf_ev2]
  exact shapeCast_ev2 _ _

theorem out_eq (a g : ℕ → ℕ → EReal) : out0_2 (F := Ideal) (ev2 .bf16 a) (ev2 .bf16 g)
    = (ev3 .bf16 fun _ r c => ∑ k ∈ Finset.range 2048, a k r * g k c : FVec Ideal S1x1024x768 .bf16) := by
  unfold out0_2
  rw [View.canon_cons_unit_zero (by funext a; fin_cases a <;> rfl), View.ld_unit_zero (by funext a; fin_cases a <;> rfl),
    View.ld_unit_zero (by funext a; fin_cases a <;> rfl)]
  exact pay_eq a g

/-- Where a point's columns of the left operand start. -/
theorem at0 : ∀ t : Fin cfg0.N, win0_0.index t 0 * win0_0.size 0 = 0 ∧ win0_0.index t 1 * win0_0.size 1 = 1024 * (t.val / 8) :=
  by decide +kernel

/-- Where a point's columns of the right operand start. -/
theorem at1 : ∀ t : Fin cfg0.N, win0_1.index t 0 * win0_1.size 0 = 0 ∧ win0_1.index t 1 * win0_1.size 1 = 768 * (t.val % 8) :=
  by decide +kernel

/-- Where a point's tile starts, and its extents. -/
theorem at2 : ∀ t : Fin cfg0.N, (win0_2.index t 0 * win0_2.size 0 = t.val % 8 / 2 ∧ win0_2.index t 1 * win0_2.size 1 = 1024 * (t.val / 8)
    ∧ win0_2.index t 2 * win0_2.size 2 = 768 * (t.val % 2)) ∧ win0_2.xsize (grid0.coords t) 0 = 1
    ∧ win0_2.xsize (grid0.coords t) 1 = 1024 ∧ win0_2.xsize (grid0.coords t) 2 = 768 :=
  by decide +kernel

section Arrays

variable (m : (ℓ : Loc nD τ sig) → Buf (Elt Ideal) ℓ) (c : Dev nD) (A G : ℕ → ℕ → EReal)
  (hA : (V m c main_v0 : FVec Ideal S2048x2048 .bf16) = ev2 .bf16 A)
  (hG : (V m c main_v1 : FVec Ideal S2048x6144 .bf16) = ev2 .bf16 G)

include hA in
theorem read0 (t : Fin cfg0.N) : (iblk m c 0 t : FVec Ideal S2048x1024 .bf16)
    = ev2 .bf16 fun r d => A (0 + r) (1024 * (t.val / 8) + d) :=
  tileAt2 _ hA _ (win0_0.rect t).emb (fun _ => rfl) (win0_0.rect_emb_val t) (at0 t)

include hG in
theorem read1 (t : Fin cfg0.N) : (iblk m c 1 t : FVec Ideal S2048x768 .bf16)
    = ev2 .bf16 fun r d => G (0 + r) (768 * (t.val % 8) + d) :=
  tileAt2 _ hG _ (win0_1.rect t).emb (fun _ => rfl) (win0_1.rect_emb_val t) (at1 t)

include hA hG in
/-- The result. -/
theorem final2 : ((dats m 0 c).arrAt 2 cfg0.N : FVec Ideal S4x2048x1536 .bf16) = ev3 .bf16 (gramE 2048 1536 A G) := by
  refine (dats m 0 c).arrAt_eq_of_cover 2 _ (fun t _ => ?_) (fun i => ?_)
  · rw [Cert.EvenDwinIdeal.Value.flushed2]
    refine (congrArg _ ((congrArg₂ out0_2 (read0 m c A hA t) (read1 m c G hG t)).trans (out_eq _ _))).trans ?_
    have T := block3 (L := 4) (M := 2048) (N := 1536) (m := 1024) (n := 768) (φ := .bf16) (gramE 2048 1536 A G) (win0_2.rect t).emb (win0_2.rect_emb_val t) (at2 t).1
    refine Eq.symm (T.trans (ev3_congr fun _ _ r _ d _ => Finset.sum_congr rfl fun k _ => ?_))
    rw [Nat.zero_add k, show 1536 * (t.val % 8 / 2) + (768 * (t.val % 2) + d) = 768 * (t.val % 8) + d by omega]
  · have i0 : (i 0 : ℕ) < 4 := (i 0).isLt
    have i1 : (i 1 : ℕ) < 2048 := (i 1).isLt
    have i2 : (i 2 : ℕ) < 1536 := (i 2).isLt
    have hN : cfg0.N = 16 := N_0
    refine ⟨⟨8 * ((i 1 : ℕ) / 1024) + 2 * (i 0 : ℕ) + (i 2 : ℕ) / 768, by omega⟩, flush0_2 _, ?_⟩
    generalize ht' : (⟨8 * ((i 1 : ℕ) / 1024) + 2 * (i 0 : ℕ) + (i 2 : ℕ) / 768, _⟩ : Fin cfg0.N) = t
    have hv' : t.val = 8 * ((i 1 : ℕ) / 1024) + 2 * (i 0 : ℕ) + (i 2 : ℕ) / 768 := by rw [← ht']
    show i ∈ ((View.whole main_v2).slice (win0_2.rect t)).set
    rw [View.set_slice_whole]
    exact mem_block3 (at2 t) (by omega) (by omega) (by omega)

end Arrays

variable (m : (ℓ : Loc nD τ sig) → Buf (Elt Ideal) ℓ) (c : Dev nD)

/-- What the host hands the grid: the two arguments in 16 bits. -/
theorem host0 : (V m c main_v0 : FVec Ideal S2048x2048 .bf16) = narrow (m ((c.tc : Thread nD τ).loc main_arg0) : FVec Ideal S2048x2048 .f32) := by
  simp only [V, hostOps0, TRef.binary, TRef.nullary, TRef.ternary, TRef.unary, TRef.toBuf, TRef.ofBuf, cast_eq]
  after_results_simp <;> rfl

theorem host1 : (V m c main_v1 : FVec Ideal S2048x6144 .bf16) = narrow (m ((c.tc : Thread nD τ).loc main_arg1) : FVec Ideal S2048x6144 .f32) := by
  simp only [V, hostOps0, TRef.binary, TRef.nullary, TRef.ternary, TRef.unary, TRef.toBuf, TRef.ofBuf, cast_eq]
  after_results_simp <;> rfl

/-- The kernel's result, from the entries of its arguments. -/
theorem kernel_eq (A G : ℕ → ℕ → EReal) (hA : (m ((c.tc : Thread nD τ).loc main_arg0) : FVec Ideal S2048x2048 .f32) = ev2 .f32 A)
    (hG : (m ((c.tc : Thread nD τ).loc main_arg1) : FVec Ideal S2048x6144 .f32) = ev2 .f32 G) :
    ((dats m 0 c).arrAt 2 cfg0.N : FVec Ideal S4x2048x1536 .bf16) = ev3 .bf16 (gramE 2048 1536 A G) :=
  final2 m c A G ((host0 m c).trans (narrow_ev2 hA)) ((host1 m c).trans (narrow_ev2 hG))

end Kernel

section Reference

open Cert.EvenDwinRefIdeal Cert.EvenDwinRefIdeal.Read

/-- The reference's result, from the entries of its arguments. -/
theorem reference_eq (A G : ℕ → ℕ → EReal) : val_main_v6 (F := Ideal) (ev2 .f32 A : FVec Ideal S2048x2048 .f32) (ev2 .f32 G : FVec Ideal S2048x6144 .f32)
    = (ev3 .bf16 (gramE 2048 1536 A G) : FVec Ideal S4x2048x1536 .bf16) :=
  funext fun i => by
    show val_main_v5 (F := Ideal) _ _ i = _
    rw [val_main_v5_apply, val_main_v4_apply]
    refine Eq.trans ?_ (Finset.sum_range fun k => A k (i 1).val * G k (1536 * (i 0).val + (i 2).val)).symm
    refine Finset.sum_congr rfl fun k _ => ?_
    have i0 : (i 0).val < 4 := (i 0).isLt
    have i2 : (i 2).val < 1536 := (i 2).isLt
    rw [val_main_v3_apply]
    show G (((k.val * 4 + (i 0).val) * 1536 + (i 2).val) / 6144) (((k.val * 4 + (i 0).val) * 1536 + (i 2).val) % 6144) * A k.val (i 1).val = _
    rw [show ((k.val * 4 + (i 0).val) * 1536 + (i 2).val) / 6144 = k.val by omega,
      show ((k.val * 4 + (i 0).val) * 1536 + (i 2).val) % 6144 = 1536 * (i 0).val + (i 2).val by omega]
    exact mul_comm _ _

end Reference

open Idealize.SL.Sem

/-- The reference's frame: its run read at its arguments, which no operation writes; it declares no semaphore. -/
theorem frame_r : letI := Cert.EvenDwinRefIdeal.Gen.facts; Cert.quiescent_EvenDwinRefIdeal :=
  fun m ρ _ => (θ_run Cert.EvenDwinRefIdeal.defs _ _).mono (fun r h => ⟨fun c => (h c).2, sem_eq_zero_of_no_sems (by decide) r.2⟩)
    (Cert.EvenDwinRefIdeal.Value.run m ρ)

/-- The two programs' results are equal. -/
theorem algebraic : letI := Cert.EvenDwinIdeal.Gen.facts; letI := Cert.EvenDwinRefIdeal.Gen.facts; Cert.algebraic_EvenDwinIdeal_EvenDwinRefIdeal := by
  intro m g m' g' _ hagree
  refine ⟨fun c => (Cert.EvenDwinIdeal.Gen.dats m 0 c).arrAt 2 Cert.EvenDwinIdeal.cfg0.N, Cert.EvenDwinIdeal.Value.run_blocks m g, ?_⟩
  refine (θ_run Cert.EvenDwinRefIdeal.defs _ _).mono (fun r h c => ?_) (Cert.EvenDwinRefIdeal.Value.run m' g')
  obtain ⟨a0, a1⟩ := hagree c
  obtain ⟨r0, rest⟩ := h c
  refine ⟨r0.trans ((Cert.EvenDwinRefIdeal.Read.val_main_v6_eq _ _).trans ?_), rest⟩
  rw [a0, a1]
  refine Eq.trans ?_ (kernel_eq m c _ _ (eq_ev2 _) (eq_ev2 _)).symm
  exact (congrArg₂ Cert.EvenDwinRefIdeal.Read.val_main_v6 (eq_ev2 _) (eq_ev2 _)).trans (reference_eq _ _)

end Cert.Mixer.EvenDwin

end
-- ==== Proof.MixEvenDx.lean ====
/-
  The gradient of the input of the even layer's mixer: `dh · w_inᵀ`, summed over the shards of `w_in`, plus the scaled
  gradient passed around the mixer. The grid runs over the tiles of the result and, for each of them, over the four
  shards: the first shard's product is left in a scratch, the next two are added to it, and the last is added, with the
  scaled gradient, on the way to the result.
-/
module

public import proofs.«01_k».proof.Defs
public import proofs.«01_k».proof.Proof.Shards
public import proofs.«01_k».proof.Proof.Gen.EvenDxIdeal.Value
public import proofs.«01_k».proof.Proof.Gen.EvenDxRefIdeal.Read
public import Idealize.ShloMosaic.Lib.VecWindow

@[expose] public section

set_option maxRecDepth 16384

noncomputable section

namespace Cert.Mixer.EvenDx

open Idealize.ShloMosaic Idealize.ShloMosaic.ValueIdx

/-- The entries of the gradient: the sum of the shards' products and the scaled gradient passed around the mixer. -/
def gradE (A G : ℕ → ℕ → EReal) (W : ℕ → ℕ → ℕ → EReal) (r c : ℕ) : EReal := partE 1536 A W 4 r c + scaleE * G r c

section Kernel

open Cert.EvenDxIdeal Cert.EvenDxIdeal.Gen
open StableHlo

/-- The product a point computes. -/
theorem pay1_eq (a : ℕ → ℕ → EReal) (w : ℕ → ℕ → ℕ → EReal) : k0_pay1 (F := Ideal) (ev2 .bf16 a) (ev3 .bf16 w)
    = (ev2 .f32 fun r d => ∑ k ∈ Finset.range 1536, a r k * w 0 d k : FVec Ideal S1024x1024 .f32) := by
  unfold k0_pay1
  dsimp only
  rw [shapeCast_self, constant_zero]
  exact (congrArg (fun x => matmul _ _ _ x _) (shapeCast_ev3 w _)).trans (matmul_nt 1024 1536 1024 _ a (w 0))

section Point

variable (c : Dev nD) (i : grid0.Coords) (arg3 : Memref sig .tc .vmem S1024x1536 .bf16) (harg3 : arg3.IsWhole) (arg4 : Memref sig .tc .vmem S1x1024x1536 .bf16) (harg4 : arg4.IsWhole)
  (arg5 : Memref sig .tc .vmem S1024x1024 .f32) (harg5 : arg5.IsWhole) (arg7 : Memref sig .tc .vmem S1024x1024 .f32) (harg7 : arg7.IsWhole) (arg8 : Memref sig .tc .vmem S1024x1024 .f32) (harg8 : arg8.IsWhole)
  {x0 : Vec Ideal S1024x1536 .bf16} {x1 : Vec Ideal S1x1024x1536 .bf16} {x2 : Vec Ideal S1024x1024 .f32} {xs : Vec Ideal S1024x1024 .f32} {a s g : ℕ → ℕ → EReal} {w : ℕ → ℕ → ℕ → EReal}
  (h0 : x0 = (ev2 .bf16 a : FVec Ideal S1024x1536 .bf16)) (h1 : x1 = (ev3 .bf16 w : FVec Ideal S1x1024x1536 .bf16))
  (h2 : x2 = (ev2 .f32 g : FVec Ideal S1024x1024 .f32)) (hs : xs = (ev2 .f32 s : FVec Ideal S1024x1024 .f32))

include h0 h1

/-- What the first shard's point leaves in the scratch. -/
theorem first_eq (hc0 : cond0_0 i) (hc1 : ¬cond0_1 i) (hc2 : ¬cond0_2 i) :
    sout0_A_0 (F := Ideal) c i arg3 harg3 arg4 harg4 arg5 harg5 arg7 harg7 arg8 harg8 hc0 hc1 hc2 x0 x1 x2
      = (ev2 .f32 fun r d => ∑ k ∈ Finset.range 1536, a r k * w 0 d k : FVec Ideal S1024x1024 .f32) := by
  unfold sout0_A_0 kernelRun0_A
  dsimp only
  refine (View.read_writes_full _ _ _ _ _).trans ?_
  refine (congrArg₂ k0_pay2 ((View.readAt_full _ _ _).trans ((harg3.read_unread x0).trans h0))
    ((View.readAt_full _ _ _).trans ((harg4.read_unread x1).trans h1))).trans ?_
  unfold k0_pay2
  dsimp only
  rw [shapeCast_self, pay1_eq]

include hs

/-- What a middle shard's point leaves in the scratch. -/
theorem middle_eq (hc0 : ¬cond0_0 i) (hc1 : cond0_1 i) (hc2 : ¬cond0_2 i) :
    sout0_B_0 (F := Ideal) c i arg3 harg3 arg4 harg4 arg5 harg5 arg7 harg7 arg8 harg8 hc0 hc1 hc2 x0 x1 x2 xs
      = (ev2 .f32 fun r d => s r d + ∑ k ∈ Finset.range 1536, a r k * w 0 d k : FVec Ideal S1024x1024 .f32) := by
  unfold sout0_B_0 kernelRun0_B
  dsimp only
  refine (View.read_writes_full _ _ _ _ _).trans ?_
  refine (congrArg₂ (fun x y => k0_pay3 x y _) ((View.readAt_full _ _ _).trans ((harg3.read_unread x0).trans h0))
    ((View.readAt_full _ _ _).trans ((harg4.read_unread x1).trans h1))).trans ?_
  refine (congrArg (k0_pay3 _ _) ((View.readAt_full _ _ _).trans ((harg8.read_unread xs).trans hs))).trans ?_
  unfold k0_pay3
  dsimp only
  rw [shapeCast_self, pay1_eq, addf_ev2]

include h2 in
/-- What the last shard's point leaves in the result's tile. -/
theorem last_eq (hc0 : ¬cond0_0 i) (hc1 : ¬cond0_1 i) (hc2 : cond0_2 i) :
    out0_C_3 (F := Ideal) c i arg3 harg3 arg4 harg4 arg5 harg5 arg7 harg7 arg8 harg8 hc0 hc1 hc2 x0 x1 x2 xs
      = (ev2 .f32 fun r d => (s r d + ∑ k ∈ Finset.range 1536, a r k * w 0 d k) + scaleE * g r d : FVec Ideal S1024x1024 .f32) := by
  unfold out0_C_3 kernelRun0_C
  dsimp only
  refine (View.read_writes_full _ _ _ _ _).trans ?_
  refine (congrArg₂ (fun x y => k0_pay4 x y _ _) ((View.readAt_full _ _ _).trans ((harg3.read_unread x0).trans h0))
    ((View.readAt_full _ _ _).trans ((harg4.read_unread x1).trans h1))).trans ?_
  refine (congrArg₂ (k0_pay4 _ _) ((View.readAt_full _ _ _).trans ((harg8.read_unread xs).trans hs))
    ((View.readAt_full _ _ _).trans ((harg5.read_unread x2).trans h2))).trans ?_
  unfold k0_pay4
  dsimp only
  rw [pay1_eq, addf_ev2, broadcast_ev2, mulf_ev2, addf_ev2]
  rfl

end Point

/-- Where a point's rows and its shard's columns of the left operand start. -/
theorem at0 : ∀ t : Fin cfg0.N, win0_0.index t 0 * win0_0.size 0 = 1024 * (t.val / 8) ∧ win0_0.index t 1 * win0_0.size 1 = 1536 * (t.val % 4) :=
  by decide +kernel

/-- The shard a point reads, and where its rows of it start. -/
theorem at1 : ∀ t : Fin cfg0.N, win0_1.index t 0 * win0_1.size 0 = t.val % 4 ∧ win0_1.index t 1 * win0_1.size 1 = 1024 * (t.val / 4 % 2)
    ∧ win0_1.index t 2 * win0_1.size 2 = 0 :=
  by decide +kernel

/-- Where its tile of the gradient passed around starts. -/
theorem at2 : ∀ t : Fin cfg0.N, (win0_2.index t 0 * win0_2.size 0 = 1024 * (t.val / 8) ∧ win0_2.index t 1 * win0_2.size 1 = 1024 * (t.val / 4 % 2)) :=
  by decide +kernel

/-- Where its tile of the result starts, and its extents. -/
theorem at3 : ∀ t : Fin cfg0.N, (win0_3.index t 0 * win0_3.size 0 = 1024 * (t.val / 8) ∧ win0_3.index t 1 * win0_3.size 1 = 1024 * (t.val / 4 % 2))
    ∧ win0_3.xsize (grid0.coords t) 0 = 1024 ∧ win0_3.xsize (grid0.coords t) 1 = 1024 :=
  by decide +kernel

section Arrays

variable (m : (ℓ : Loc nD τ sig) → Buf (Elt Ideal) ℓ) (c : Dev nD) (A G : ℕ → ℕ → EReal) (W : ℕ → ℕ → ℕ → EReal)
  (hA : (V m c main_v0 : FVec Ideal S2048x6144 .bf16) = ev2 .bf16 A)
  (hW : (V m c main_v1 : FVec Ideal S4x2048x1536 .bf16) = ev3 .bf16 W)
  (hG : (V m c main_arg2 : FVec Ideal S2048x2048 .f32) = ev2 .f32 G)

include hA in
theorem read0 (t : Fin cfg0.N) : (iblk m c 0 t : FVec Ideal S1024x1536 .bf16)
    = ev2 .bf16 fun r d => A (1024 * (t.val / 8) + r) (1536 * (t.val % 4) + d) :=
  tileAt2 _ hA _ (win0_0.rect t).emb (fun _ => rfl) (win0_0.rect_emb_val t) (at0 t)

include hW in
theorem read1 (t : Fin cfg0.N) : (iblk m c 1 t : FVec Ideal S1x1024x1536 .bf16)
    = ev3 .bf16 fun _ r d => W (t.val % 4) (1024 * (t.val / 4 % 2) + r) (0 + d) :=
  tileAt3 _ hW _ (win0_1.rect t).emb (fun _ => rfl) (win0_1.rect_emb_val t) (at1 t)

include hG in
theorem read2 (t : Fin cfg0.N) : (iblk m c 2 t : FVec Ideal S1024x1024 .f32)
    = ev2 .f32 fun r d => G (1024 * (t.val / 8) + r) (1024 * (t.val / 4 % 2) + d) :=
  tileAt2 _ hG _ (win0_2.rect t).emb (fun _ => rfl) (win0_2.rect_emb_val t) (at2 t)

include hA hW
/-- What the scratch holds after the first point of a tile. -/
theorem scratch_first (t : Fin cfg0.N) (h0 : t.val % 4 = 0) : ((outsAt0 m c t.val t.isLt).2 : FVec Ideal S1024x1024 .f32)
    = ev2 .f32 fun r d => partE 1536 A W (t.val % 4 + 1) (1024 * (t.val / 8) + r) (1024 * (t.val / 4 % 2) + d) := by
  have h1 : ¬(1 ≤ t.val % 4 ∧ t.val % 4 ≤ 2) := by omega
  have h2 : ¬t.val % 4 = 3 := by omega
  have P := first_eq (x2 := (iblk m c 2 t : FVec Ideal S1024x1024 .f32)) c (grid0.coords t) (ms0_0 t) (hs0_0 t) (ms0_1 t) (hs0_1 t) (ms0_2 t) (hs0_2 t) (ms0_3 t) (hs0_3 t) scM0_0 (Memref.isWhole_whole _)
    (read0 m c A hA t) (read1 m c W hW t) ((hcond0_0 t).mpr h0) (fun h => h1 ((hcond0_1 t).mp h)) (fun h => h2 ((hcond0_2 t).mp h))
  rw [outsAt0_A m c t h0 h1 h2]
  dsimp only
  rw [P]
  refine ev2_congr fun r _ d _ => ?_
  rw [h0, partE_succ, partE_zero, zero_add]
  exact Finset.sum_congr rfl fun k _ => by rw [Nat.zero_add k]

/-- What it holds after a middle point, from what it held after the one before. -/
theorem scratch_middle (t : Fin cfg0.N) (h0 : ¬t.val % 4 = 0) (h3 : ¬t.val % 4 = 3)
    (ih : ((outsAt0 m c (t.val - 1) (Nat.lt_of_le_of_lt (Nat.sub_le _ _) t.isLt)).2 : FVec Ideal S1024x1024 .f32)
      = ev2 .f32 fun r d => partE 1536 A W (t.val % 4) (1024 * (t.val / 8) + r) (1024 * (t.val / 4 % 2) + d)) :
    ((outsAt0 m c t.val t.isLt).2 : FVec Ideal S1024x1024 .f32)
    = ev2 .f32 fun r d => partE 1536 A W (t.val % 4 + 1) (1024 * (t.val / 8) + r) (1024 * (t.val / 4 % 2) + d) := by
  have h1 : 1 ≤ t.val % 4 ∧ t.val % 4 ≤ 2 := by omega
  have P := middle_eq (x2 := (iblk m c 2 t : FVec Ideal S1024x1024 .f32)) c (grid0.coords t) (ms0_0 t) (hs0_0 t) (ms0_1 t) (hs0_1 t) (ms0_2 t) (hs0_2 t) (ms0_3 t) (hs0_3 t) scM0_0 (Memref.isWhole_whole _)
    (read0 m c A hA t) (read1 m c W hW t) ih (fun h => h0 ((hcond0_0 t).mp h)) ((hcond0_1 t).mpr h1) (fun h => h3 ((hcond0_2 t).mp h))
  rw [outsAt0_B m c t h0 h1 h3]
  dsimp only
  rw [P]
  refine ev2_congr fun r _ d _ => ?_
  rw [partE_succ]
  exact congrArg _ (Finset.sum_congr rfl fun k _ => by rw [Nat.zero_add k])

/-- What the scratch holds after a point that is not the last of its tile: the shards so far. -/
theorem scratch_eq (n : ℕ) : ∀ hn : n < cfg0.N, ¬n % 4 = 3 → ((outsAt0 m c n hn).2 : FVec Ideal S1024x1024 .f32)
    = ev2 .f32 fun r d => partE 1536 A W (n % 4 + 1) (1024 * (n / 8) + r) (1024 * (n / 4 % 2) + d) := by
  induction n with
  | zero => exact fun hn _ => scratch_first m c A W hA hW ⟨0, hn⟩ rfl
  | succ n ih =>
    intro hn h3
    by_cases h0 : (n + 1) % 4 = 0
    · exact scratch_first m c A W hA hW ⟨n + 1, hn⟩ h0
    · refine scratch_middle m c A W hA hW ⟨n + 1, hn⟩ h0 h3 ((ih (Nat.lt_of_succ_lt hn) (by omega)).trans ?_)
      show _ = ev2 .f32 fun r d => partE 1536 A W ((n + 1) % 4) (1024 * ((n + 1) / 8) + r) (1024 * ((n + 1) / 4 % 2) + d)
      rw [show (n + 1) % 4 = n % 4 + 1 by omega, show (n + 1) / 8 = n / 8 by omega, show (n + 1) / 4 = n / 4 by omega]

include hG
/-- What the last point of a tile leaves in it. -/
theorem tile_eq (t : Fin cfg0.N) (h3 : t.val % 4 = 3) : ((outsAt0 m c t.val t.isLt).1 : FVec Ideal S1024x1024 .f32)
    = ev2 .f32 fun r d => gradE A G W (1024 * (t.val / 8) + r) (1024 * (t.val / 4 % 2) + d) := by
  have h0 : ¬t.val % 4 = 0 := by omega
  have h1 : ¬(1 ≤ t.val % 4 ∧ t.val % 4 ≤ 2) := by omega
  have P := last_eq c (grid0.coords t) (ms0_0 t) (hs0_0 t) (ms0_1 t) (hs0_1 t) (ms0_2 t) (hs0_2 t) (ms0_3 t) (hs0_3 t) scM0_0 (Memref.isWhole_whole _)
    (read0 m c A hA t) (read1 m c W hW t) (read2 m c G hG t) (scratch_eq m c A W hA hW (t.val - 1) (Nat.lt_of_le_of_lt (Nat.sub_le _ _) t.isLt) (by omega))
    (fun h => h0 ((hcond0_0 t).mp h)) (fun h => h1 ((hcond0_1 t).mp h)) ((hcond0_2 t).mpr h3)
  rw [outsAt0_C m c t h0 h1 h3]
  dsimp only
  rw [P]
  refine ev2_congr fun r _ d _ => ?_
  rw [gradE, partE_succ 1536 A W 3, show (t.val - 1) % 4 + 1 = 3 by omega, show (t.val - 1) / 8 = t.val / 8 by omega,
    show (t.val - 1) / 4 % 2 = t.val / 4 % 2 by omega, h3]
  exact congrArg (fun x => _ + x + _) (Finset.sum_congr rfl fun k _ => by rw [Nat.zero_add k])

/-- The result. -/
theorem final3 : ((dats m 0 c).arrAt 3 cfg0.N : FVec Ideal S2048x2048 .f32) = ev2 .f32 (gradE A G W) := by
  refine (dats m 0 c).arrAt_eq_of_cover 3 _ (fun t ht => ?_) (fun i => ?_)
  · rw [Cert.EvenDxIdeal.Value.flushed3]
    refine (congrArg _ (tile_eq m c A G W hA hW hG t ((flush0_3 t).mp ht))).trans ?_
    have T := block2 (M := 2048) (N := 2048) (m := 1024) (n := 1024) (φ := .f32) (gradE A G W) (win0_3.rect t).emb (win0_3.rect_emb_val t) (at3 t).1
    exact Eq.symm T
  · have i0 : (i 0 : ℕ) < 2048 := (i 0).isLt
    have i1 : (i 1 : ℕ) < 2048 := (i 1).isLt
    have hN : cfg0.N = 16 := N_0
    refine ⟨⟨8 * ((i 0 : ℕ) / 1024) + 4 * ((i 1 : ℕ) / 1024) + 3, by omega⟩, (flush0_3 _).mpr (by show (8 * ((i 0 : ℕ) / 1024) + 4 * ((i 1 : ℕ) / 1024) + 3) % 4 = 3; omega), ?_⟩
    generalize ht' : (⟨8 * ((i 0 : ℕ) / 1024) + 4 * ((i 1 : ℕ) / 1024) + 3, _⟩ : Fin cfg0.N) = t
    have hv' : t.val = 8 * ((i 0 : ℕ) / 1024) + 4 * ((i 1 : ℕ) / 1024) + 3 := by rw [← ht']
    show i ∈ ((View.whole main_v3).slice (win0_3.rect t)).set
    rw [View.set_slice_whole]
    exact mem_block2 (at3 t) (by omega) (by omega)

end Arrays

variable (m : (ℓ : Loc nD τ sig) → Buf (Elt Ideal) ℓ) (c : Dev nD)

/-- What the host hands the grid: the two operands of the product in 16 bits, and the gradient passed around as it is. -/
theorem host0 : (V m c main_v0 : FVec Ideal S2048x6144 .bf16) = narrow (m ((c.tc : Thread nD τ).loc main_arg0) : FVec Ideal S2048x6144 .f32) := by
  simp only [V, hostOps0, TRef.binary, TRef.nullary, TRef.ternary, TRef.unary, TRef.toBuf, TRef.ofBuf, cast_eq]
  after_results_simp <;> rfl

theorem host1 : (V m c main_v1 : FVec Ideal S4x2048x1536 .bf16) = narrow (m ((c.tc : Thread nD τ).loc main_arg1) : FVec Ideal S4x2048x1536 .f32) := by
  simp only [V, hostOps0, TRef.binary, TRef.nullary, TRef.ternary, TRef.unary, TRef.toBuf, TRef.ofBuf, cast_eq]
  after_results_simp <;> rfl

theorem host2 : (V m c main_arg2 : FVec Ideal S2048x2048 .f32) = (m ((c.tc : Thread nD τ).loc main_arg2) : FVec Ideal S2048x2048 .f32) := by
  simp only [V, hostOps0, TRef.binary, TRef.nullary, TRef.ternary, TRef.unary, TRef.toBuf, TRef.ofBuf, cast_eq]
  after_results_simp <;> rfl

/-- The kernel's result, from the entries of its arguments. -/
theorem kernel_eq (A G : ℕ → ℕ → EReal) (W : ℕ → ℕ → ℕ → EReal) (hA : (m ((c.tc : Thread nD τ).loc main_arg0) : FVec Ideal S2048x6144 .f32) = ev2 .f32 A)
    (hW : (m ((c.tc : Thread nD τ).loc main_arg1) : FVec Ideal S4x2048x1536 .f32) = ev3 .f32 W)
    (hG : (m ((c.tc : Thread nD τ).loc main_arg2) : FVec Ideal S2048x2048 .f32) = ev2 .f32 G) :
    ((dats m 0 c).arrAt 3 cfg0.N : FVec Ideal S2048x2048 .f32) = ev2 .f32 (gradE A G W) :=
  final3 m c A G W ((host0 m c).trans (narrow_ev2 hA)) ((host1 m c).trans (narrow_ev3 hW)) ((host2 m c).trans hG)

end Kernel

section Reference

open Cert.EvenDxRefIdeal Cert.EvenDxRefIdeal.Read

/-- The reference's product, from the entries of its arguments: a sum over the shards and over each shard's columns. -/
theorem ref_prod (A : ℕ → ℕ → EReal) (W : ℕ → ℕ → ℕ → EReal) : val_main_v6 (F := Ideal) (ev2 .f32 A : FVec Ideal S2048x6144 .f32) (ev3 .f32 W : FVec Ideal S4x2048x1536 .f32)
    = (ev2 .f32 (partE 1536 A W 4) : FVec Ideal S2048x2048 .f32) := by
  have S : val_main_v5 (F := Ideal) (ev2 .f32 A : FVec Ideal S2048x6144 .f32) = (ev3 .f32 fun r j k => A r (1536 * j + k) : FVec Ideal S2048x4x1536 .f32) := by
    unfold val_main_v5
    exact split_ev2 (by norm_num) (by norm_num) (by norm_num) A _
  unfold val_main_v6
  rw [S]
  exact dot_shards 2048 4 1536 2048 _ A W

/-- The reference's result, from the entries of its arguments. -/
theorem reference_eq (A G : ℕ → ℕ → EReal) (W : ℕ → ℕ → ℕ → EReal) :
    val_main_v9 (F := Ideal) (ev2 .f32 A : FVec Ideal S2048x6144 .f32) (ev3 .f32 W : FVec Ideal S4x2048x1536 .f32) (ev2 .f32 G : FVec Ideal S2048x2048 .f32)
    = (ev2 .f32 (gradE A G W) : FVec Ideal S2048x2048 .f32) := by
  have Z : val_main_v7 (F := Ideal) = (ev2 .f32 fun _ _ => scaleE : FVec Ideal S2048x2048 .f32) := funext fun i => by
    rw [val_main_v7_apply]; rfl
  unfold val_main_v9 val_main_v8
  rw [Z, ref_prod]
  rfl

end Reference

open Idealize.SL.Sem

/-- The reference's frame: its run read at its arguments, which no operation writes; it declares no semaphore. -/
theorem frame_r : letI := Cert.EvenDxRefIdeal.Gen.facts; Cert.quiescent_EvenDxRefIdeal :=
  fun m ρ _ => (θ_run Cert.EvenDxRefIdeal.defs _ _).mono (fun r h => ⟨fun c => (h c).2, sem_eq_zero_of_no_sems (by decide) r.2⟩)
    (Cert.EvenDxRefIdeal.Value.run m ρ)

/-- The two programs' results are equal. -/
theorem algebraic : letI := Cert.EvenDxIdeal.Gen.facts; letI := Cert.EvenDxRefIdeal.Gen.facts; Cert.algebraic_EvenDxIdeal_EvenDxRefIdeal := by
  intro m g m' g' _ hagree
  refine ⟨fun c => (Cert.EvenDxIdeal.Gen.dats m 0 c).arrAt 3 Cert.EvenDxIdeal.cfg0.N, Cert.EvenDxIdeal.Value.run_blocks m g, ?_⟩
  refine (θ_run Cert.EvenDxRefIdeal.defs _ _).mono (fun r h c => ?_) (Cert.EvenDxRefIdeal.Value.run m' g')
  obtain ⟨a0, a1, a2⟩ := hagree c
  obtain ⟨r0, rest⟩ := h c
  refine ⟨r0.trans ((Cert.EvenDxRefIdeal.Read.val_main_v9_eq _ _ _).trans ?_), rest⟩
  rw [a0, a1, a2]
  refine Eq.trans ?_ (kernel_eq m c _ _ _ (eq_ev2 _) (eq_ev3 _) (eq_ev2 _)).symm
  exact (congrArg₂ (fun x y => Cert.EvenDxRefIdeal.Read.val_main_v9 x y _) (eq_ev2 _) (eq_ev3 _)).trans
    ((congrArg (Cert.EvenDxRefIdeal.Read.val_main_v9 _ _) (eq_ev2 _)).trans (reference_eq _ _ _))

end Cert.Mixer.EvenDx

end
-- ==== Proof.MixEvenOut.lean ====
/-
  The projection out of the even layer's mixer: `y · w_out`, the shards of `w_out` side by side. The grid runs over the
  tiles of the result, each of them the product of 1024 rows of the left operand and some columns of one shard.
-/
module

public import proofs.«01_k».proof.Defs
public import proofs.«01_k».proof.Proof.Shards
public import proofs.«01_k».proof.Proof.Gen.EvenOutIdeal.Value
public import proofs.«01_k».proof.Proof.Gen.EvenOutRefIdeal.Read

@[expose] public section

set_option maxRecDepth 16384

noncomputable section

namespace Cert.Mixer.EvenOut

open Idealize.ShloMosaic Idealize.ShloMosaic.ValueIdx

section Kernel

open Cert.EvenOutIdeal Cert.EvenOutIdeal.Gen
open StableHlo

/-- The tile a point computes. -/
theorem out_eq (a : ℕ → ℕ → EReal) (w : ℕ → ℕ → ℕ → EReal) : out0_2 (F := Ideal) (ev2 .bf16 a) (ev3 .bf16 w)
    = (ev2 .f32 fun r c => ∑ k ∈ Finset.range 1536, a r k * w 0 k c : FVec Ideal S1024x512 .f32) := by
  unfold out0_2
  rw [View.canon_cons_unit_zero (by funext a; fin_cases a <;> rfl), View.ld_unit_zero (by funext a; fin_cases a <;> rfl),
    View.ld_unit_zero (by funext a; fin_cases a <;> rfl)]
  unfold k0_pay1
  dsimp only
  rw [shapeCast_self, constant_zero]
  exact (congrArg (fun x => matmul (F := Ideal) dot_S1024x1536_S1536x512_S1024x512_1_0_0_1_n_n none (ev2 .bf16 a : FVec Ideal S1024x1536 .bf16) x (ev2 .f32 fun _ _ => 0))
    (shapeCast_ev3 (m := 1536) (n := 512) (φ := .bf16) w shapeCasts_S1x1536x512_S1536x512)).trans (matmul_nn 1024 1536 512 none a (w 0))

/-- Where a point's rows of the left operand start. -/
theorem at0 : ∀ t : Fin cfg0.N, win0_0.index t 0 * win0_0.size 0 = 1024 * (t.val / 4) ∧ win0_0.index t 1 * win0_0.size 1 = 0 :=
  by decide +kernel

/-- The shard a point reads, and where its columns of it start. -/
theorem at1 : ∀ t : Fin cfg0.N, win0_1.index t 0 * win0_1.size 0 = t.val % 4 ∧ win0_1.index t 1 * win0_1.size 1 = 0
    ∧ win0_1.index t 2 * win0_1.size 2 = 0 :=
  by decide +kernel

/-- Where a point's tile of the result starts, and its extents. -/
theorem at2 : ∀ t : Fin cfg0.N, (win0_2.index t 0 * win0_2.size 0 = 1024 * (t.val / 4) ∧ win0_2.index t 1 * win0_2.size 1 = 512 * (t.val % 4))
    ∧ win0_2.xsize (grid0.coords t) 0 = 1024 ∧ win0_2.xsize (grid0.coords t) 1 = 512 :=
  by decide +kernel

section Arrays

variable (m : (ℓ : Loc nD τ sig) → Buf (Elt Ideal) ℓ) (c : Dev nD) (A : ℕ → ℕ → EReal) (W : ℕ → ℕ → ℕ → EReal)
  (hA : (V m c main_v0 : FVec Ideal S2048x1536 .bf16) = ev2 .bf16 A)
  (hW : (V m c main_v1 : FVec Ideal S4x1536x512 .bf16) = ev3 .bf16 W)

include hA in
theorem read0 (t : Fin cfg0.N) : (iblk m c 0 t : FVec Ideal S1024x1536 .bf16)
    = ev2 .bf16 fun r d => A (1024 * (t.val / 4) + r) (0 + d) :=
  tileAt2 _ hA _ (win0_0.rect t).emb (fun _ => rfl) (win0_0.rect_emb_val t) (at0 t)

include hW in
theorem read1 (t : Fin cfg0.N) : (iblk m c 1 t : FVec Ideal S1x1536x512 .bf16)
    = ev3 .bf16 fun _ r d => W (t.val % 4) (0 + r) (0 + d) :=
  tileAt3 _ hW _ (win0_1.rect t).emb (fun _ => rfl) (win0_1.rect_emb_val t) (at1 t)

/-- A point's product is its tile of the whole one. -/
theorem tile_eq (t r d : ℕ) (hd : d < 512) :
    ∑ k ∈ Finset.range 1536, A (1024 * (t / 4) + r) (0 + k) * W (t % 4) (0 + k) (0 + d)
      = sideE 1536 512 A W (1024 * (t / 4) + r) (512 * (t % 4) + d) :=
  Finset.sum_congr rfl fun k _ => by
    rw [Nat.zero_add k, show (512 * (t % 4) + d) / 512 = t % 4 by omega, show (512 * (t % 4) + d) % 512 = 0 + d by omega]

include hA hW
/-- The result. -/
theorem final2 : ((dats m 0 c).arrAt 2 cfg0.N : FVec Ideal S2048x2048 .f32) = ev2 .f32 (sideE 1536 512 A W) := by
  refine (dats m 0 c).arrAt_eq_of_cover 2 _ (fun t _ => ?_) (fun i => ?_)
  · rw [Cert.EvenOutIdeal.Value.flushed2]
    refine (congrArg _ ((congrArg₂ out0_2 (read0 m c A hA t) (read1 m c W hW t)).trans (out_eq _ _))).trans ?_
    have T := block2 (M := 2048) (N := 2048) (m := 1024) (n := 512) (φ := .f32) (sideE 1536 512 A W) (win0_2.rect t).emb (win0_2.rect_emb_val t) (at2 t).1
    exact Eq.symm (T.trans (ev2_congr fun r _ d hd => (tile_eq A W t.val r d hd).symm))
  · have i0 : (i 0 : ℕ) < 2048 := (i 0).isLt
    have i1 : (i 1 : ℕ) < 2048 := (i 1).isLt
    have hN : cfg0.N = 8 := N_0
    refine ⟨⟨4 * ((i 0 : ℕ) / 1024) + (i 1 : ℕ) / 512, by omega⟩, flush0_2 _, ?_⟩
    generalize ht' : (⟨4 * ((i 0 : ℕ) / 1024) + (i 1 : ℕ) / 512, _⟩ : Fin cfg0.N) = t
    have hv' : t.val = 4 * ((i 0 : ℕ) / 1024) + (i 1 : ℕ) / 512 := by rw [← ht']
    show i ∈ ((View.whole main_v2).slice (win0_2.rect t)).set
    rw [View.set_slice_whole]
    exact mem_block2 (at2 t) (by omega) (by omega)

end Arrays

variable (m : (ℓ : Loc nD τ sig) → Buf (Elt Ideal) ℓ) (c : Dev nD)

/-- What the host hands the grid: the arguments in 16 bits. -/
theorem host0 : (V m c main_v0 : FVec Ideal S2048x1536 .bf16) = narrow (m ((c.tc : Thread nD τ).loc main_arg0) : FVec Ideal S2048x1536 .f32) := by
  simp only [V, hostOps0, TRef.binary, TRef.nullary, TRef.ternary, TRef.unary, TRef.toBuf, TRef.ofBuf, cast_eq]
  after_results_simp <;> rfl

theorem host1 : (V m c main_v1 : FVec Ideal S4x1536x512 .bf16) = narrow (m ((c.tc : Thread nD τ).loc main_arg1) : FVec Ideal S4x1536x512 .f32) := by
  simp only [V, hostOps0, TRef.binary, TRef.nullary, TRef.ternary, TRef.unary, TRef.toBuf, TRef.ofBuf, cast_eq]
  after_results_simp <;> rfl

/-- The kernel's result, from the entries of its arguments. -/
theorem kernel_eq (A : ℕ → ℕ → EReal) (W : ℕ → ℕ → ℕ → EReal) (hA : (m ((c.tc : Thread nD τ).loc main_arg0) : FVec Ideal S2048x1536 .f32) = ev2 .f32 A)
    (hW : (m ((c.tc : Thread nD τ).loc main_arg1) : FVec Ideal S4x1536x512 .f32) = ev3 .f32 W) :
    ((dats m 0 c).arrAt 2 cfg0.N : FVec Ideal S2048x2048 .f32) = ev2 .f32 (sideE 1536 512 A W) :=
  final2 m c A W ((host0 m c).trans (narrow_ev2 hA)) ((host1 m c).trans (narrow_ev3 hW))

end Kernel

section Reference

open Cert.EvenOutRefIdeal Cert.EvenOutRefIdeal.Read

/-- The reference's product, a matrix for each shard. -/
theorem ref_prod (A : ℕ → ℕ → EReal) (W : ℕ → ℕ → ℕ → EReal) : val_main_v0 (F := Ideal) (ev2 .f32 A : FVec Ideal S2048x1536 .f32) (ev3 .f32 W : FVec Ideal S4x1536x512 .f32)
    = (ev3 .f32 fun r p c => ∑ k ∈ Finset.range 1536, A r k * W p k c : FVec Ideal S2048x4x512 .f32) :=
  funext fun i => by
    rw [val_main_v0_apply]
    exact (Finset.sum_range fun k => A (i 0).val k * W (i 1).val k (i 2).val).symm

/-- The same matrices side by side. -/
theorem ref_side (A : ℕ → ℕ → EReal) (W : ℕ → ℕ → ℕ → EReal) : val_main_v1 (F := Ideal) (ev2 .f32 A : FVec Ideal S2048x1536 .f32) (ev3 .f32 W : FVec Ideal S4x1536x512 .f32)
    = (ev2 .f32 (sideE 1536 512 A W) : FVec Ideal S2048x2048 .f32) := by
  unfold val_main_v1
  rw [ref_prod]
  exact join_ev3 (by norm_num) (by norm_num) (fun r p c => ∑ k ∈ Finset.range 1536, A r k * W p k c) _

/-- The reference's result, from the entries of its arguments. -/
theorem reference_eq (A : ℕ → ℕ → EReal) (W : ℕ → ℕ → ℕ → EReal) : val_main_v1 (F := Ideal) (ev2 .f32 A : FVec Ideal S2048x1536 .f32) (ev3 .f32 W : FVec Ideal S4x1536x512 .f32)
    = (ev2 .f32 (sideE 1536 512 A W) : FVec Ideal S2048x2048 .f32) := ref_side A W

end Reference

open Idealize.SL.Sem

/-- The reference's frame: its run read at its arguments, which no operation writes; it declares no semaphore. -/
theorem frame_r : letI := Cert.EvenOutRefIdeal.Gen.facts; Cert.quiescent_EvenOutRefIdeal :=
  fun m ρ _ => (θ_run Cert.EvenOutRefIdeal.defs _ _).mono (fun r h => ⟨fun c => (h c).2, sem_eq_zero_of_no_sems (by decide) r.2⟩)
    (Cert.EvenOutRefIdeal.Value.run m ρ)

/-- The two programs' results are equal. -/
theorem algebraic : letI := Cert.EvenOutIdeal.Gen.facts; letI := Cert.EvenOutRefIdeal.Gen.facts; Cert.algebraic_EvenOutIdeal_EvenOutRefIdeal := by
  intro m g m' g' _ hagree
  refine ⟨fun c => (Cert.EvenOutIdeal.Gen.dats m 0 c).arrAt 2 Cert.EvenOutIdeal.cfg0.N, Cert.EvenOutIdeal.Value.run_blocks m g, ?_⟩
  refine (θ_run Cert.EvenOutRefIdeal.defs _ _).mono (fun r h c => ?_) (Cert.EvenOutRefIdeal.Value.run m' g')
  obtain ⟨a0, a1⟩ := hagree c
  obtain ⟨r0, rest⟩ := h c
  refine ⟨r0.trans ((Cert.EvenOutRefIdeal.Read.val_main_v1_eq _ _).trans ?_), rest⟩
  rw [a0, a1]
  refine Eq.trans ?_ (kernel_eq m c _ _ (eq_ev2 _) (eq_ev3 _)).symm
  exact (congrArg₂ Cert.EvenOutRefIdeal.Read.val_main_v1 (eq_ev2 _) (eq_ev3 _)).trans (reference_eq _ _)

end Cert.Mixer.EvenOut

end
-- ==== Proof.MixEvenDwout.lean ====
/-
  The gradient of the weight of the projection out of the even layer's mixer, `yᵀ · du`, as the four shards of its
  columns. The grid runs over the tiles of the result, each of them the product of some columns of the one operand and
  some columns of the other, over all rows.
-/
module

public import proofs.«01_k».proof.Defs
public import proofs.«01_k».proof.Proof.Shards
public import proofs.«01_k».proof.Proof.Gen.EvenDwoutIdeal.Value
public import proofs.«01_k».proof.Proof.Gen.EvenDwoutRefIdeal.Read

@[expose] public section

set_option maxRecDepth 16384

noncomputable section

namespace Cert.Mixer.EvenDwout

open Idealize.ShloMosaic Idealize.ShloMosaic.ValueIdx

section Kernel

open Cert.EvenDwoutIdeal Cert.EvenDwoutIdeal.Gen
open StableHlo

/-- The tile a point computes. -/
theorem pay_eq (a g : ℕ → ℕ → EReal) : k0_pay1 (F := Ideal) (ev2 .bf16 a) (ev2 .bf16 g)
    = (ev3 .bf16 fun _ r c => ∑ k ∈ Finset.range 2048, a k r * g k c : FVec Ideal S1x768x512 .bf16) := by
  unfold k0_pay1
  dsimp only
  rw [shapeCast_self, shapeCast_self, constant_zero]
  refine (congrArg (fun x => shapeCast S1x768x512 (truncf .bf16 x _) _) (matmul_tn 768 2048 512 _ a g)).trans ?_
  rw [truncf_ev2]
  exact shapeCast_ev2 _ _

theorem out_eq (a g : ℕ → ℕ → EReal) : out0_2 (F := Ideal) (ev2 .bf16 a) (ev2 .bf16 g)
    = (ev3 .bf16 fun _ r c => ∑ k ∈ Finset.range 2048, a k r * g k c : FVec Ideal S1x768x512 .bf16) := by
  unfold out0_2
  rw [View.canon_cons_unit_zero (by funext a; fin_cases a <;> rfl), View.ld_unit_zero (by funext a; fin_cases a <;> rfl),
    View.ld_unit_zero (by funext a; fin_cases a <;> rfl)]
  exact pay_eq a g

/-- Where a point's columns of the left operand start. -/
theorem at0 : ∀ t : Fin cfg0.N, win0_0.index t 0 * win0_0.size 0 = 0 ∧ win0_0.index t 1 * win0_0.size 1 = 768 * (t.val / 4) :=
  by decide +kernel

/-- Where a point's columns of the right operand start. -/
theorem at1 : ∀ t : Fin cfg0.N, win0_1.index t 0 * win0_1.size 0 = 0 ∧ win0_1.index t 1 * win0_1.size 1 = 512 * (t.val % 4) :=
  by decide +kernel

/-- Where a point's tile starts, and its extents. -/
theorem at2 : ∀ t : Fin cfg0.N, (win0_2.index t 0 * win0_2.size 0 = t.val % 4 ∧ win0_2.index t 1 * win0_2.size 1 = 768 * (t.val / 4)
    ∧ win0_2.index t 2 * win0_2.size 2 = 0) ∧ win0_2.xsize (grid0.coords t) 0 = 1
    ∧ win0_2.xsize (grid0.coords t) 1 = 768 ∧ win0_2.xsize (grid0.coords t) 2 = 512 :=
  by decide +kernel

section Arrays

variable (m : (ℓ : Loc nD τ sig) → Buf (Elt Ideal) ℓ) (c : Dev nD) (A G : ℕ → ℕ → EReal)
  (hA : (V m c main_v0 : FVec Ideal S2048x1536 .bf16) = ev2 .bf16 A)
  (hG : (V m c main_v1 : FVec Ideal S2048x2048 .bf16) = ev2 .bf16 G)

include hA in
theorem read0 (t : Fin cfg0.N) : (iblk m c 0 t : FVec Ideal S2048x768 .bf16)
    = ev2 .bf16 fun r d => A (0 + r) (768 * (t.val / 4) + d) :=
  tileAt2 _ hA _ (win0_0.rect t).emb (fun _ => rfl) (win0_0.rect_emb_val t) (at0 t)

include hG in
theorem read1 (t : Fin cfg0.N) : (iblk m c 1 t : FVec Ideal S2048x512 .bf16)
    = ev2 .bf16 fun r d => G (0 + r) (512 * (t.val % 4) + d) :=
  tileAt2 _ hG _ (win0_1.rect t).emb (fun _ => rfl) (win0_1.rect_emb_val t) (at1 t)

include hA hG in
/-- The result. -/
theorem final2 : ((dats m 0 c).arrAt 2 cfg0.N : FVec Ideal S4x1536x512 .bf16) = ev3 .bf16 (gramE 2048 512 A G) := by
  refine (dats m 0 c).arrAt_eq_of_cover 2 _ (fun t _ => ?_) (fun i => ?_)
  · rw [Cert.EvenDwoutIdeal.Value.flushed2]
    refine (congrArg _ ((congrArg₂ out0_2 (read0 m c A hA t) (read1 m c G hG t)).trans (out_eq _ _))).trans ?_
    have T := block3 (L := 4) (M := 1536) (N := 512) (m := 768) (n := 512) (φ := .bf16) (gramE 2048 512 A G) (win0_2.rect t).emb (win0_2.rect_emb_val t) (at2 t).1
    refine Eq.symm (T.trans (ev3_congr fun _ _ r _ d _ => Finset.sum_congr rfl fun k _ => ?_))
    rw [Nat.zero_add k, show 512 * (t.val % 4) + (0 + d) = 512 * (t.val % 4) + d by omega]
  · have i0 : (i 0 : ℕ) < 4 := (i 0).isLt
    have i1 : (i 1 : ℕ) < 1536 := (i 1).isLt
    have i2 : (i 2 : ℕ) < 512 := (i 2).isLt
    have hN : cfg0.N = 8 := N_0
    refine ⟨⟨4 * ((i 1 : ℕ) / 768) + (i 0 : ℕ), by omega⟩, flush0_2 _, ?_⟩
    generalize ht' : (⟨4 * ((i 1 : ℕ) / 768) + (i 0 : ℕ), _⟩ : Fin cfg0.N) = t
    have hv' : t.val = 4 * ((i 1 : ℕ) / 768) + (i 0 : ℕ) := by rw [← ht']
    show i ∈ ((View.whole main_v2).slice (win0_2.rect t)).set
    rw [View.set_slice_whole]
    exact mem_block3 (at2 t) (by omega) (by omega) (by omega)

end Arrays

variable (m : (ℓ : Loc nD τ sig) → Buf (Elt Ideal) ℓ) (c : Dev nD)

/-- What the host hands the grid: the two arguments in 16 bits. -/
theorem host0 : (V m c main_v0 : FVec Ideal S2048x1536 .bf16) = narrow (m ((c.tc : Thread nD τ).loc main_arg0) : FVec Ideal S2048x1536 .f32) := by
  simp only [V, hostOps0, TRef.binary, TRef.nullary, TRef.ternary, TRef.unary, TRef.toBuf, TRef.ofBuf, cast_eq]
  after_results_simp <;> rfl

theorem host1 : (V m c main_v1 : FVec Ideal S2048x2048 .bf16) = narrow (m ((c.tc : Thread nD τ).loc main_arg1) : FVec Ideal S2048x2048 .f32) := by
  simp only [V, hostOps0, TRef.binary, TRef.nullary, TRef.ternary, TRef.unary, TRef.toBuf, TRef.ofBuf, cast_eq]
  after_results_simp <;> rfl

/-- The kernel's result, from the entries of its arguments. -/
theorem kernel_eq (A G : ℕ → ℕ → EReal) (hA : (m ((c.tc : Thread nD τ).loc main_arg0) : FVec Ideal S2048x1536 .f32) = ev2 .f32 A)
    (hG : (m ((c.tc : Thread nD τ).loc main_arg1) : FVec Ideal S2048x2048 .f32) = ev2 .f32 G) :
    ((dats m 0 c).arrAt 2 cfg0.N : FVec Ideal S4x1536x512 .bf16) = ev3 .bf16 (gramE 2048 512 A G) :=
  final2 m c A G ((host0 m c).trans (narrow_ev2 hA)) ((host1 m c).trans (narrow_ev2 hG))

end Kernel

section Reference

open Cert.EvenDwoutRefIdeal Cert.EvenDwoutRefIdeal.Read

/-- The reference's result, from the entries of its arguments. -/
theorem reference_eq (A G : ℕ → ℕ → EReal) : val_main_v6 (F := Ideal) (ev2 .f32 A : FVec Ideal S2048x1536 .f32) (ev2 .f32 G : FVec Ideal S2048x2048 .f32)
    = (ev3 .bf16 (gramE 2048 512 A G) : FVec Ideal S4x1536x512 .bf16) :=
  funext fun i => by
    show val_main_v5 (F := Ideal) _ _ i = _
    rw [val_main_v5_apply, val_main_v4_apply]
    refine Eq.trans ?_ (Finset.sum_range fun k => A k (i 1).val * G k (512 * (i 0).val + (i 2).val)).symm
    refine Finset.sum_congr rfl fun k _ => ?_
    have i0 : (i 0).val < 4 := (i 0).isLt
    have i2 : (i 2).val < 512 := (i 2).isLt
    rw [val_main_v3_apply]
    show G (((k.val * 4 + (i 0).val) * 512 + (i 2).val) / 2048) (((k.val * 4 + (i 0).val) * 512 + (i 2).val) % 2048) * A k.val (i 1).val = _
    rw [show ((k.val * 4 + (i 0).val) * 512 + (i 2).val) / 2048 = k.val by omega,
      show ((k.val * 4 + (i 0).val) * 512 + (i 2).val) % 2048 = 512 * (i 0).val + (i 2).val by omega]
    exact mul_comm _ _

end Reference

open Idealize.SL.Sem

/-- The reference's frame: its run read at its arguments, which no operation writes; it declares no semaphore. -/
theorem frame_r : letI := Cert.EvenDwoutRefIdeal.Gen.facts; Cert.quiescent_EvenDwoutRefIdeal :=
  fun m ρ _ => (θ_run Cert.EvenDwoutRefIdeal.defs _ _).mono (fun r h => ⟨fun c => (h c).2, sem_eq_zero_of_no_sems (by decide) r.2⟩)
    (Cert.EvenDwoutRefIdeal.Value.run m ρ)

/-- The two programs' results are equal. -/
theorem algebraic : letI := Cert.EvenDwoutIdeal.Gen.facts; letI := Cert.EvenDwoutRefIdeal.Gen.facts; Cert.algebraic_EvenDwoutIdeal_EvenDwoutRefIdeal := by
  intro m g m' g' _ hagree
  refine ⟨fun c => (Cert.EvenDwoutIdeal.Gen.dats m 0 c).arrAt 2 Cert.EvenDwoutIdeal.cfg0.N, Cert.EvenDwoutIdeal.Value.run_blocks m g, ?_⟩
  refine (θ_run Cert.EvenDwoutRefIdeal.defs _ _).mono (fun r h c => ?_) (Cert.EvenDwoutRefIdeal.Value.run m' g')
  obtain ⟨a0, a1⟩ := hagree c
  obtain ⟨r0, rest⟩ := h c
  refine ⟨r0.trans ((Cert.EvenDwoutRefIdeal.Read.val_main_v6_eq _ _).trans ?_), rest⟩
  rw [a0, a1]
  refine Eq.trans ?_ (kernel_eq m c _ _ (eq_ev2 _) (eq_ev2 _)).symm
  exact (congrArg₂ Cert.EvenDwoutRefIdeal.Read.val_main_v6 (eq_ev2 _) (eq_ev2 _)).trans (reference_eq _ _)

end Cert.Mixer.EvenDwout

end
-- ==== Proof.MixEvenDy.lean ====
/-
  The gradient of the input of the projection out of the even layer's mixer: `du · w_outᵀ`, summed over the shards of
  `w_out`. The grid runs over the tiles of the result and, for each of them, over the four shards: the first shard's
  product is left in a scratch, the next two are added to it, and the last is added on the way to the result.
-/
module

public import proofs.«01_k».proof.Defs
public import proofs.«01_k».proof.Proof.Shards
public import proofs.«01_k».proof.Proof.Gen.EvenDyIdeal.Value
public import proofs.«01_k».proof.Proof.Gen.EvenDyRefIdeal.Read
public import Idealize.ShloMosaic.Lib.VecWindow

@[expose] public section

set_option maxRecDepth 16384

noncomputable section

namespace Cert.Mixer.EvenDy

open Idealize.ShloMosaic Idealize.ShloMosaic.ValueIdx

section Kernel

open Cert.EvenDyIdeal Cert.EvenDyIdeal.Gen
open StableHlo

/-- The product a point computes. -/
theorem pay1_eq (a : ℕ → ℕ → EReal) (w : ℕ → ℕ → ℕ → EReal) : k0_pay1 (F := Ideal) (ev2 .bf16 a) (ev3 .bf16 w)
    = (ev2 .f32 fun r d => ∑ k ∈ Finset.range 512, a r k * w 0 d k : FVec Ideal S1024x768 .f32) := by
  unfold k0_pay1
  dsimp only
  rw [shapeCast_self, constant_zero]
  exact (congrArg (fun x => matmul _ _ _ x _) (shapeCast_ev3 w _)).trans (matmul_nt 1024 512 768 _ a (w 0))

section Point

variable (c : Dev nD) (i : grid0.Coords) (arg3 : Memref sig .tc .vmem S1024x512 .bf16) (harg3 : arg3.IsWhole) (arg4 : Memref sig .tc .vmem S1x768x512 .bf16) (harg4 : arg4.IsWhole)
  (arg6 : Memref sig .tc .vmem S1024x768 .f32) (harg6 : arg6.IsWhole) (arg7 : Memref sig .tc .vmem S1024x768 .f32) (harg7 : arg7.IsWhole)
  {x0 : Vec Ideal S1024x512 .bf16} {x1 : Vec Ideal S1x768x512 .bf16} {xs : Vec Ideal S1024x768 .f32} {a s : ℕ → ℕ → EReal} {w : ℕ → ℕ → ℕ → EReal}
  (h0 : x0 = (ev2 .bf16 a : FVec Ideal S1024x512 .bf16)) (h1 : x1 = (ev3 .bf16 w : FVec Ideal S1x768x512 .bf16))
  (hs : xs = (ev2 .f32 s : FVec Ideal S1024x768 .f32))

include h0 h1

/-- What the first shard's point leaves in the scratch. -/
theorem first_eq (hc0 : cond0_0 i) (hc1 : ¬cond0_1 i) (hc2 : ¬cond0_2 i) :
    sout0_A_0 (F := Ideal) c i arg3 harg3 arg4 harg4 arg6 harg6 arg7 harg7 hc0 hc1 hc2 x0 x1
      = (ev2 .f32 fun r d => ∑ k ∈ Finset.range 512, a r k * w 0 d k : FVec Ideal S1024x768 .f32) := by
  unfold sout0_A_0 kernelRun0_A
  dsimp only
  refine (View.read_writes_full _ _ _ _ _).trans ?_
  refine (congrArg₂ k0_pay2 ((View.readAt_full _ _ _).trans ((harg3.read_unread x0).trans h0))
    ((View.readAt_full _ _ _).trans ((harg4.read_unread x1).trans h1))).trans ?_
  unfold k0_pay2
  dsimp only
  rw [shapeCast_self, pay1_eq]

include hs

/-- What a middle shard's point leaves in the scratch. -/
theorem middle_eq (hc0 : ¬cond0_0 i) (hc1 : cond0_1 i) (hc2 : ¬cond0_2 i) :
    sout0_B_0 (F := Ideal) c i arg3 harg3 arg4 harg4 arg6 harg6 arg7 harg7 hc0 hc1 hc2 x0 x1 xs
      = (ev2 .f32 fun r d => s r d + ∑ k ∈ Finset.range 512, a r k * w 0 d k : FVec Ideal S1024x768 .f32) := by
  unfold sout0_B_0 kernelRun0_B
  dsimp only
  refine (View.read_writes_full _ _ _ _ _).trans ?_
  refine (congrArg₂ (fun x y => k0_pay3 x y _) ((View.readAt_full _ _ _).trans ((harg3.read_unread x0).trans h0))
    ((View.readAt_full _ _ _).trans ((harg4.read_unread x1).trans h1))).trans ?_
  refine (congrArg (k0_pay3 _ _) ((View.readAt_full _ _ _).trans ((harg7.read_unread xs).trans hs))).trans ?_
  unfold k0_pay3
  dsimp only
  rw [shapeCast_self, pay1_eq, addf_ev2]

/-- What the last shard's point leaves in the result's tile. -/
theorem last_eq (hc0 : ¬cond0_0 i) (hc1 : ¬cond0_1 i) (hc2 : cond0_2 i) :
    out0_C_2 (F := Ideal) c i arg3 harg3 arg4 harg4 arg6 harg6 arg7 harg7 hc0 hc1 hc2 x0 x1 xs
      = (ev2 .f32 fun r d => s r d + ∑ k ∈ Finset.range 512, a r k * w 0 d k : FVec Ideal S1024x768 .f32) := by
  unfold out0_C_2 kernelRun0_C
  dsimp only
  refine (View.read_writes_full _ _ _ _ _).trans ?_
  refine (congrArg₂ (fun x y => k0_pay4 x y _) ((View.readAt_full _ _ _).trans ((harg3.read_unread x0).trans h0))
    ((View.readAt_full _ _ _).trans ((harg4.read_unread x1).trans h1))).trans ?_
  refine (congrArg (k0_pay4 _ _) ((View.readAt_full _ _ _).trans ((harg7.read_unread xs).trans hs))).trans ?_
  unfold k0_pay4
  dsimp only
  rw [pay1_eq, addf_ev2]

end Point

/-- Where a point's rows and its shard's columns of the left operand start. -/
theorem at0 : ∀ t : Fin cfg0.N, win0_0.index t 0 * win0_0.size 0 = 1024 * (t.val / 8) ∧ win0_0.index t 1 * win0_0.size 1 = 512 * (t.val % 4) :=
  by decide +kernel

/-- The shard a point reads, and where its rows of it start. -/
theorem at1 : ∀ t : Fin cfg0.N, win0_1.index t 0 * win0_1.size 0 = t.val % 4 ∧ win0_1.index t 1 * win0_1.size 1 = 768 * (t.val / 4 % 2)
    ∧ win0_1.index t 2 * win0_1.size 2 = 0 :=
  by decide +kernel

/-- Where its tile of the result starts, and its extents. -/
theorem at2 : ∀ t : Fin cfg0.N, (win0_2.index t 0 * win0_2.size 0 = 1024 * (t.val / 8) ∧ win0_2.index t 1 * win0_2.size 1 = 768 * (t.val / 4 % 2))
    ∧ win0_2.xsize (grid0.coords t) 0 = 1024 ∧ win0_2.xsize (grid0.coords t) 1 = 768 :=
  by decide +kernel

section Arrays

variable (m : (ℓ : Loc nD τ sig) → Buf (Elt Ideal) ℓ) (c : Dev nD) (A : ℕ → ℕ → EReal) (W : ℕ → ℕ → ℕ → EReal)
  (hA : (V m c main_v0 : FVec Ideal S2048x2048 .bf16) = ev2 .bf16 A)
  (hW : (V m c main_v1 : FVec Ideal S4x1536x512 .bf16) = ev3 .bf16 W)

include hA in
theorem read0 (t : Fin cfg0.N) : (iblk m c 0 t : FVec Ideal S1024x512 .bf16)
    = ev2 .bf16 fun r d => A (1024 * (t.val / 8) + r) (512 * (t.val % 4) + d) :=
  tileAt2 _ hA _ (win0_0.rect t).emb (fun _ => rfl) (win0_0.rect_emb_val t) (at0 t)

include hW in
theorem read1 (t : Fin cfg0.N) : (iblk m c 1 t : FVec Ideal S1x768x512 .bf16)
    = ev3 .bf16 fun _ r d => W (t.val % 4) (768 * (t.val / 4 % 2) + r) (0 + d) :=
  tileAt3 _ hW _ (win0_1.rect t).emb (fun _ => rfl) (win0_1.rect_emb_val t) (at1 t)

include hA hW
/-- What the scratch holds after the first point of a tile. -/
theorem scratch_first (t : Fin cfg0.N) (h0 : t.val % 4 = 0) : ((outsAt0 m c t.val t.isLt).2 : FVec Ideal S1024x768 .f32)
    = ev2 .f32 fun r d => partE 512 A W (t.val % 4 + 1) (1024 * (t.val / 8) + r) (768 * (t.val / 4 % 2) + d) := by
  have h1 : ¬(1 ≤ t.val % 4 ∧ t.val % 4 ≤ 2) := by omega
  have h2 : ¬t.val % 4 = 3 := by omega
  have P := first_eq c (grid0.coords t) (ms0_0 t) (hs0_0 t) (ms0_1 t) (hs0_1 t) (ms0_2 t) (hs0_2 t) scM0_0 (Memref.isWhole_whole _)
    (read0 m c A hA t) (read1 m c W hW t) ((hcond0_0 t).mpr h0) (fun h => h1 ((hcond0_1 t).mp h)) (fun h => h2 ((hcond0_2 t).mp h))
  rw [outsAt0_A m c t h0 h1 h2]
  dsimp only
  rw [P]
  refine ev2_congr fun r _ d _ => ?_
  rw [h0, partE_succ, partE_zero, zero_add]
  exact Finset.sum_congr rfl fun k _ => by rw [Nat.zero_add k]

/-- What it holds after a middle point, from what it held after the one before. -/
theorem scratch_middle (t : Fin cfg0.N) (h0 : ¬t.val % 4 = 0) (h3 : ¬t.val % 4 = 3)
    (ih : ((outsAt0 m c (t.val - 1) (Nat.lt_of_le_of_lt (Nat.sub_le _ _) t.isLt)).2 : FVec Ideal S1024x768 .f32)
      = ev2 .f32 fun r d => partE 512 A W (t.val % 4) (1024 * (t.val / 8) + r) (768 * (t.val / 4 % 2) + d)) :
    ((outsAt0 m c t.val t.isLt).2 : FVec Ideal S1024x768 .f32)
    = ev2 .f32 fun r d => partE 512 A W (t.val % 4 + 1) (1024 * (t.val / 8) + r) (768 * (t.val / 4 % 2) + d) := by
  have h1 : 1 ≤ t.val % 4 ∧ t.val % 4 ≤ 2 := by omega
  have P := middle_eq c (grid0.coords t) (ms0_0 t) (hs0_0 t) (ms0_1 t) (hs0_1 t) (ms0_2 t) (hs0_2 t) scM0_0 (Memref.isWhole_whole _)
    (read0 m c A hA t) (read1 m c W hW t) ih (fun h => h0 ((hcond0_0 t).mp h)) ((hcond0_1 t).mpr h1) (fun h => h3 ((hcond0_2 t).mp h))
  rw [outsAt0_B m c t h0 h1 h3]
  dsimp only
  rw [P]
  refine ev2_congr fun r _ d _ => ?_
  rw [partE_succ]
  exact congrArg _ (Finset.sum_congr rfl fun k _ => by rw [Nat.zero_add k])

/-- What the scratch holds after a point that is not the last of its tile: the shards so far. -/
theorem scratch_eq (n : ℕ) : ∀ hn : n < cfg0.N, ¬n % 4 = 3 → ((outsAt0 m c n hn).2 : FVec Ideal S1024x768 .f32)
    = ev2 .f32 fun r d => partE 512 A W (n % 4 + 1) (1024 * (n / 8) + r) (768 * (n / 4 % 2) + d) := by
  induction n with
  | zero => exact fun hn _ => scratch_first m c A W hA hW ⟨0, hn⟩ rfl
  | succ n ih =>
    intro hn h3
    by_cases h0 : (n + 1) % 4 = 0
    · exact scratch_first m c A W hA hW ⟨n + 1, hn⟩ h0
    · refine scratch_middle m c A W hA hW ⟨n + 1, hn⟩ h0 h3 ((ih (Nat.lt_of_succ_lt hn) (by omega)).trans ?_)
      show _ = ev2 .f32 fun r d => partE 512 A W ((n + 1) % 4) (1024 * ((n + 1) / 8) + r) (768 * ((n + 1) / 4 % 2) + d)
      rw [show (n + 1) % 4 = n % 4 + 1 by omega, show (n + 1) / 8 = n / 8 by omega, show (n + 1) / 4 = n / 4 by omega]

/-- What the last point of a tile leaves in it. -/
theorem tile_eq (t : Fin cfg0.N) (h3 : t.val % 4 = 3) : ((outsAt0 m c t.val t.isLt).1 : FVec Ideal S1024x768 .f32)
    = ev2 .f32 fun r d => partE 512 A W 4 (1024 * (t.val / 8) + r) (768 * (t.val / 4 % 2) + d) := by
  have h0 : ¬t.val % 4 = 0 := by omega
  have h1 : ¬(1 ≤ t.val % 4 ∧ t.val % 4 ≤ 2) := by omega
  have P := last_eq c (grid0.coords t) (ms0_0 t) (hs0_0 t) (ms0_1 t) (hs0_1 t) (ms0_2 t) (hs0_2 t) scM0_0 (Memref.isWhole_whole _)
    (read0 m c A hA t) (read1 m c W hW t) (scratch_eq m c A W hA hW (t.val - 1) (Nat.lt_of_le_of_lt (Nat.sub_le _ _) t.isLt) (by omega))
    (fun h => h0 ((hcond0_0 t).mp h)) (fun h => h1 ((hcond0_1 t).mp h)) ((hcond0_2 t).mpr h3)
  rw [outsAt0_C m c t h0 h1 h3]
  dsimp only
  rw [P]
  refine ev2_congr fun r _ d _ => ?_
  rw [partE_succ 512 A W 3, show (t.val - 1) % 4 + 1 = 3 by omega, show (t.val - 1) / 8 = t.val / 8 by omega,
    show (t.val - 1) / 4 % 2 = t.val / 4 % 2 by omega, h3]
  exact congrArg (fun x => _ + x) (Finset.sum_congr rfl fun k _ => by rw [Nat.zero_add k])

/-- The result. -/
theorem final2 : ((dats m 0 c).arrAt 2 cfg0.N : FVec Ideal S2048x1536 .f32) = ev2 .f32 (partE 512 A W 4) := by
  refine (dats m 0 c).arrAt_eq_of_cover 2 _ (fun t ht => ?_) (fun i => ?_)
  · rw [Cert.EvenDyIdeal.Value.flushed2]
    refine (congrArg _ (tile_eq m c A W hA hW t ((flush0_2 t).mp ht))).trans ?_
    have T := block2 (M := 2048) (N := 1536) (m := 1024) (n := 768) (φ := .f32) (partE 512 A W 4) (win0_2.rect t).emb (win0_2.rect_emb_val t) (at2 t).1
    exact Eq.symm T
  · have i0 : (i 0 : ℕ) < 2048 := (i 0).isLt
    have i1 : (i 1 : ℕ) < 1536 := (i 1).isLt
    have hN : cfg0.N = 16 := N_0
    refine ⟨⟨8 * ((i 0 : ℕ) / 1024) + 4 * ((i 1 : ℕ) / 768) + 3, by omega⟩, (flush0_2 _).mpr (by show (8 * ((i 0 : ℕ) / 1024) + 4 * ((i 1 : ℕ) / 768) + 3) % 4 = 3; omega), ?_⟩
    generalize ht' : (⟨8 * ((i 0 : ℕ) / 1024) + 4 * ((i 1 : ℕ) / 768) + 3, _⟩ : Fin cfg0.N) = t
    have hv' : t.val = 8 * ((i 0 : ℕ) / 1024) + 4 * ((i 1 : ℕ) / 768) + 3 := by rw [← ht']
    show i ∈ ((View.whole main_v3).slice (win0_2.rect t)).set
    rw [View.set_slice_whole]
    exact mem_block2 (at2 t) (by omega) (by omega)

end Arrays

variable (m : (ℓ : Loc nD τ sig) → Buf (Elt Ideal) ℓ) (c : Dev nD)

/-- What the host hands the grid: the two operands of the product in 16 bits. -/
theorem host0 : (V m c main_v0 : FVec Ideal S2048x2048 .bf16) = narrow (m ((c.tc : Thread nD τ).loc main_arg0) : FVec Ideal S2048x2048 .f32) := by
  simp only [V, hostOps0, TRef.binary, TRef.nullary, TRef.ternary, TRef.unary, TRef.toBuf, TRef.ofBuf, cast_eq]
  after_results_simp <;> rfl

theorem host1 : (V m c main_v1 : FVec Ideal S4x1536x512 .bf16) = narrow (m ((c.tc : Thread nD τ).loc main_arg1) : FVec Ideal S4x1536x512 .f32) := by
  simp only [V, hostOps0, TRef.binary, TRef.nullary, TRef.ternary, TRef.unary, TRef.toBuf, TRef.ofBuf, cast_eq]
  after_results_simp <;> rfl

/-- The kernel's result, from the entries of its arguments. -/
theorem kernel_eq (A : ℕ → ℕ → EReal) (W : ℕ → ℕ → ℕ → EReal) (hA : (m ((c.tc : Thread nD τ).loc main_arg0) : FVec Ideal S2048x2048 .f32) = ev2 .f32 A)
    (hW : (m ((c.tc : Thread nD τ).loc main_arg1) : FVec Ideal S4x1536x512 .f32) = ev3 .f32 W) :
    ((dats m 0 c).arrAt 2 cfg0.N : FVec Ideal S2048x1536 .f32) = ev2 .f32 (partE 512 A W 4) :=
  final2 m c A W ((host0 m c).trans (narrow_ev2 hA)) ((host1 m c).trans (narrow_ev3 hW))

end Kernel

section Reference

open Cert.EvenDyRefIdeal Cert.EvenDyRefIdeal.Read

/-- The reference's result, from the entries of its arguments: a sum over the shards and over each shard's columns. -/
theorem reference_eq (A : ℕ → ℕ → EReal) (W : ℕ → ℕ → ℕ → EReal) : val_main_v4 (F := Ideal) (ev2 .f32 A : FVec Ideal S2048x2048 .f32) (ev3 .f32 W : FVec Ideal S4x1536x512 .f32)
    = (ev2 .f32 (partE 512 A W 4) : FVec Ideal S2048x1536 .f32) := by
  have S : val_main_v3 (F := Ideal) (ev2 .f32 A : FVec Ideal S2048x2048 .f32) = (ev3 .f32 fun r j k => A r (512 * j + k) : FVec Ideal S2048x4x512 .f32) := by
    unfold val_main_v3
    exact split_ev2 (by norm_num) (by norm_num) (by norm_num) A _
  unfold val_main_v4
  rw [S]
  exact dot_shards 2048 4 512 1536 _ A W

end Reference

open Idealize.SL.Sem

/-- The reference's frame: its run read at its arguments, which no operation writes; it declares no semaphore. -/
theorem frame_r : letI := Cert.EvenDyRefIdeal.Gen.facts; Cert.quiescent_EvenDyRefIdeal :=
  fun m ρ _ => (θ_run Cert.EvenDyRefIdeal.defs _ _).mono (fun r h => ⟨fun c => (h c).2, sem_eq_zero_of_no_sems (by decide) r.2⟩)
    (Cert.EvenDyRefIdeal.Value.run m ρ)

/-- The two programs' results are equal. -/
theorem algebraic : letI := Cert.EvenDyIdeal.Gen.facts; letI := Cert.EvenDyRefIdeal.Gen.facts; Cert.algebraic_EvenDyIdeal_EvenDyRefIdeal := by
  intro m g m' g' _ hagree
  refine ⟨fun c => (Cert.EvenDyIdeal.Gen.dats m 0 c).arrAt 2 Cert.EvenDyIdeal.cfg0.N, Cert.EvenDyIdeal.Value.run_blocks m g, ?_⟩
  refine (θ_run Cert.EvenDyRefIdeal.defs _ _).mono (fun r h c => ?_) (Cert.EvenDyRefIdeal.Value.run m' g')
  obtain ⟨a0, a1⟩ := hagree c
  obtain ⟨r0, rest⟩ := h c
  refine ⟨r0.trans ((Cert.EvenDyRefIdeal.Read.val_main_v4_eq _ _).trans ?_), rest⟩
  rw [a0, a1]
  refine Eq.trans ?_ (kernel_eq m c _ _ (eq_ev2 _) (eq_ev3 _)).symm
  exact (congrArg₂ Cert.EvenDyRefIdeal.Read.val_main_v4 (eq_ev2 _) (eq_ev3 _)).trans (reference_eq _ _)

end Cert.Mixer.EvenDy

end
-- ==== Proof.MixOddIn.lean ====
/-
  The projection in of the odd layer's mixer: `x · w_in`, the shards of `w_in` side by side. The grid runs over the
  tiles of the result, each of them the product of 1024 rows of the left operand and some columns of one shard.
-/
module

public import proofs.«01_k».proof.Defs
public import proofs.«01_k».proof.Proof.Shards
public import proofs.«01_k».proof.Proof.Gen.OddInIdeal.Value
public import proofs.«01_k».proof.Proof.Gen.OddInRefIdeal.Read

@[expose] public section

set_option maxRecDepth 16384

noncomputable section

namespace Cert.Mixer.OddIn

open Idealize.ShloMosaic Idealize.ShloMosaic.ValueIdx

section Kernel

open Cert.OddInIdeal Cert.OddInIdeal.Gen
open StableHlo

/-- The tile a point computes. -/
theorem out_eq (a : ℕ → ℕ → EReal) (w : ℕ → ℕ → ℕ → EReal) : out0_2 (F := Ideal) (ev2 .bf16 a) (ev3 .bf16 w)
    = (ev2 .f32 fun r c => ∑ k ∈ Finset.range 2048, a r k * w 0 k c : FVec Ideal S1024x1024 .f32) := by
  unfold out0_2
  rw [View.canon_cons_unit_zero (by funext a; fin_cases a <;> rfl), View.ld_unit_zero (by funext a; fin_cases a <;> rfl),
    View.ld_unit_zero (by funext a; fin_cases a <;> rfl)]
  unfold k0_pay1
  dsimp only
  rw [shapeCast_self, constant_zero]
  exact (congrArg (fun x => matmul (F := Ideal) dot_S1024x2048_S2048x1024_S1024x1024_1_0_0_1_n_n none (ev2 .bf16 a : FVec Ideal S1024x2048 .bf16) x (ev2 .f32 fun _ _ => 0))
    (shapeCast_ev3 (m := 2048) (n := 1024) (φ := .bf16) w shapeCasts_S1x2048x1024_S2048x1024)).trans (matmul_nn 1024 2048 1024 none a (w 0))

/-- Where a point's rows of the left operand start. -/
theorem at0 : ∀ t : Fin cfg0.N, win0_0.index t 0 * win0_0.size 0 = 1024 * (t.val / 4) ∧ win0_0.index t 1 * win0_0.size 1 = 0 :=
  by decide +kernel

/-- The shard a point reads, and where its columns of it start. -/
theorem at1 : ∀ t : Fin cfg0.N, win0_1.index t 0 * win0_1.size 0 = t.val % 4 ∧ win0_1.index t 1 * win0_1.size 1 = 0
    ∧ win0_1.index t 2 * win0_1.size 2 = 0 :=
  by decide +kernel

/-- Where a point's tile of the result starts, and its extents. -/
theorem at2 : ∀ t : Fin cfg0.N, (win0_2.index t 0 * win0_2.size 0 = 1024 * (t.val / 4) ∧ win0_2.index t 1 * win0_2.size 1 = 1024 * (t.val % 4))
    ∧ win0_2.xsize (grid0.coords t) 0 = 1024 ∧ win0_2.xsize (grid0.coords t) 1 = 1024 :=
  by decide +kernel

section Arrays

variable (m : (ℓ : Loc nD τ sig) → Buf (Elt Ideal) ℓ) (c : Dev nD) (A : ℕ → ℕ → EReal) (W : ℕ → ℕ → ℕ → EReal)
  (hA : (V m c main_v0 : FVec Ideal S2048x2048 .bf16) = ev2 .bf16 A)
  (hW : (V m c main_v1 : FVec Ideal S4x2048x1024 .bf16) = ev3 .bf16 W)

include hA in
theorem read0 (t : Fin cfg0.N) : (iblk m c 0 t : FVec Ideal S1024x2048 .bf16)
    = ev2 .bf16 fun r d => A (1024 * (t.val / 4) + r) (0 + d) :=
  tileAt2 _ hA _ (win0_0.rect t).emb (fun _ => rfl) (win0_0.rect_emb_val t) (at0 t)

include hW in
theorem read1 (t : Fin cfg0.N) : (iblk m c 1 t : FVec Ideal S1x2048x1024 .bf16)
    = ev3 .bf16 fun _ r d => W (t.val % 4) (0 + r) (0 + d) :=
  tileAt3 _ hW _ (win0_1.rect t).emb (fun _ => rfl) (win0_1.rect_emb_val t) (at1 t)

/-- A point's product is its tile of the whole one. -/
theorem tile_eq (t r d : ℕ) (hd : d < 1024) :
    ∑ k ∈ Finset.range 2048, A (1024 * (t / 4) + r) (0 + k) * W (t % 4) (0 + k) (0 + d)
      = sideE 2048 1024 A W (1024 * (t / 4) + r) (1024 * (t % 4) + d) :=
  Finset.sum_congr rfl fun k _ => by
    rw [Nat.zero_add k, show (1024 * (t % 4) + d) / 1024 = t % 4 by omega, show (1024 * (t % 4) + d) % 1024 = 0 + d by omega]

include hA hW
/-- The result. -/
theorem final2 : ((dats m 0 c).arrAt 2 cfg0.N : FVec Ideal S2048x4096 .f32) = ev2 .f32 (sideE 2048 1024 A W) := by
  refine (dats m 0 c).arrAt_eq_of_cover 2 _ (fun t _ => ?_) (fun i => ?_)
  · rw [Cert.OddInIdeal.Value.flushed2]
    refine (congrArg _ ((congrArg₂ out0_2 (read0 m c A hA t) (read1 m c W hW t)).trans (out_eq _ _))).trans ?_
    have T := block2 (M := 2048) (N := 4096) (m := 1024) (n := 1024) (φ := .f32) (sideE 2048 1024 A W) (win0_2.rect t).emb (win0_2.rect_emb_val t) (at2 t).1
    exact Eq.symm (T.trans (ev2_congr fun r _ d hd => (tile_eq A W t.val r d hd).symm))
  · have i0 : (i 0 : ℕ) < 2048 := (i 0).isLt
    have i1 : (i 1 : ℕ) < 4096 := (i 1).isLt
    have hN : cfg0.N = 8 := N_0
    refine ⟨⟨4 * ((i 0 : ℕ) / 1024) + (i 1 : ℕ) / 1024, by omega⟩, flush0_2 _, ?_⟩
    generalize ht' : (⟨4 * ((i 0 : ℕ) / 1024) + (i 1 : ℕ) / 1024, _⟩ : Fin cfg0.N) = t
    have hv' : t.val = 4 * ((i 0 : ℕ) / 1024) + (i 1 : ℕ) / 1024 := by rw [← ht']
    show i ∈ ((View.whole main_v2).slice (win0_2.rect t)).set
    rw [View.set_slice_whole]
    exact mem_block2 (at2 t) (by omega) (by omega)

end Arrays

variable (m : (ℓ : Loc nD τ sig) → Buf (Elt Ideal) ℓ) (c : Dev nD)

/-- What the host hands the grid: the arguments in 16 bits. -/
theorem host0 : (V m c main_v0 : FVec Ideal S2048x2048 .bf16) = narrow (m ((c.tc : Thread nD τ).loc main_arg0) : FVec Ideal S2048x2048 .f32) := by
  simp only [V, hostOps0, TRef.binary, TRef.nullary, TRef.ternary, TRef.unary, TRef.toBuf, TRef.ofBuf, cast_eq]
  after_results_simp <;> rfl

theorem host1 : (V m c main_v1 : FVec Ideal S4x2048x1024 .bf16) = narrow (m ((c.tc : Thread nD τ).loc main_arg1) : FVec Ideal S4x2048x1024 .f32) := by
  simp only [V, hostOps0, TRef.binary, TRef.nullary, TRef.ternary, TRef.unary, TRef.toBuf, TRef.ofBuf, cast_eq]
  after_results_simp <;> rfl

/-- The kernel's result, from the entries of its arguments. -/
theorem kernel_eq (A : ℕ → ℕ → EReal) (W : ℕ → ℕ → ℕ → EReal) (hA : (m ((c.tc : Thread nD τ).loc main_arg0) : FVec Ideal S2048x2048 .f32) = ev2 .f32 A)
    (hW : (m ((c.tc : Thread nD τ).loc main_arg1) : FVec Ideal S4x2048x1024 .f32) = ev3 .f32 W) :
    ((dats m 0 c).arrAt 2 cfg0.N : FVec Ideal S2048x4096 .f32) = ev2 .f32 (sideE 2048 1024 A W) :=
  final2 m c A W ((host0 m c).trans (narrow_ev2 hA)) ((host1 m c).trans (narrow_ev3 hW))

end Kernel

section Reference

open Cert.OddInRefIdeal Cert.OddInRefIdeal.Read

/-- The reference's product, a matrix for each shard. -/
theorem ref_prod (A : ℕ → ℕ → EReal) (W : ℕ → ℕ → ℕ → EReal) : val_main_v0 (F := Ideal) (ev2 .f32 A : FVec Ideal S2048x2048 .f32) (ev3 .f32 W : FVec Ideal S4x2048x1024 .f32)
    = (ev3 .f32 fun r p c => ∑ k ∈ Finset.range 2048, A r k * W p k c : FVec Ideal S2048x4x1024 .f32) :=
  funext fun i => by
    rw [val_main_v0_apply]
    exact (Finset.sum_range fun k => A (i 0).val k * W (i 1).val k (i 2).val).symm

/-- The same matrices side by side. -/
theorem ref_side (A : ℕ → ℕ → EReal) (W : ℕ → ℕ → ℕ → EReal) : val_main_v1 (F := Ideal) (ev2 .f32 A : FVec Ideal S2048x2048 .f32) (ev3 .f32 W : FVec Ideal S4x2048x1024 .f32)
    = (ev2 .f32 (sideE 2048 1024 A W) : FVec Ideal S2048x4096 .f32) := by
  unfold val_main_v1
  rw [ref_prod]
  exact join_ev3 (by norm_num) (by norm_num) (fun r p c => ∑ k ∈ Finset.range 2048, A r k * W p k c) _

/-- The reference's result, from the entries of its arguments. -/
theorem reference_eq (A : ℕ → ℕ → EReal) (W : ℕ → ℕ → ℕ → EReal) : val_main_v1 (F := Ideal) (ev2 .f32 A : FVec Ideal S2048x2048 .f32) (ev3 .f32 W : FVec Ideal S4x2048x1024 .f32)
    = (ev2 .f32 (sideE 2048 1024 A W) : FVec Ideal S2048x4096 .f32) := ref_side A W

end Reference

open Idealize.SL.Sem

/-- The reference's frame: its run read at its arguments, which no operation writes; it declares no semaphore. -/
theorem frame_r : letI := Cert.OddInRefIdeal.Gen.facts; Cert.quiescent_OddInRefIdeal :=
  fun m ρ _ => (θ_run Cert.OddInRefIdeal.defs _ _).mono (fun r h => ⟨fun c => (h c).2, sem_eq_zero_of_no_sems (by decide) r.2⟩)
    (Cert.OddInRefIdeal.Value.run m ρ)

/-- The two programs' results are equal. -/
theorem algebraic : letI := Cert.OddInIdeal.Gen.facts; letI := Cert.OddInRefIdeal.Gen.facts; Cert.algebraic_OddInIdeal_OddInRefIdeal := by
  intro m g m' g' _ hagree
  refine ⟨fun c => (Cert.OddInIdeal.Gen.dats m 0 c).arrAt 2 Cert.OddInIdeal.cfg0.N, Cert.OddInIdeal.Value.run_blocks m g, ?_⟩
  refine (θ_run Cert.OddInRefIdeal.defs _ _).mono (fun r h c => ?_) (Cert.OddInRefIdeal.Value.run m' g')
  obtain ⟨a0, a1⟩ := hagree c
  obtain ⟨r0, rest⟩ := h c
  refine ⟨r0.trans ((Cert.OddInRefIdeal.Read.val_main_v1_eq _ _).trans ?_), rest⟩
  rw [a0, a1]
  refine Eq.trans ?_ (kernel_eq m c _ _ (eq_ev2 _) (eq_ev3 _)).symm
  exact (congrArg₂ Cert.OddInRefIdeal.Read.val_main_v1 (eq_ev2 _) (eq_ev3 _)).trans (reference_eq _ _)

end Cert.Mixer.OddIn

end
-- ==== Proof.MixOddDwin.lean ====
/-
  The gradient of the weight of the projection in of the odd layer's mixer, `xᵀ · dh`, as the four shards of its
  columns. The grid runs over the tiles of the result, each of them the product of some columns of the one operand and
  some columns of the other, over all rows.
-/
module

public import proofs.«01_k».proof.Defs
public import proofs.«01_k».proof.Proof.Shards
public import proofs.«01_k».proof.Proof.Gen.OddDwinIdeal.Value
public import proofs.«01_k».proof.Proof.Gen.OddDwinRefIdeal.Read

@[expose] public section

set_option maxRecDepth 16384

noncomputable section

namespace Cert.Mixer.OddDwin

open Idealize.ShloMosaic Idealize.ShloMosaic.ValueIdx

section Kernel

open Cert.OddDwinIdeal Cert.OddDwinIdeal.Gen
open StableHlo

/-- The tile a point computes. -/
theorem pay_eq (a g : ℕ → ℕ → EReal) : k0_pay1 (F := Ideal) (ev2 .bf16 a) (ev2 .bf16 g)
    = (ev3 .bf16 fun _ r c => ∑ k ∈ Finset.range 2048, a k r * g k c : FVec Ideal S1x1024x1024 .bf16) := by
  unfold k0_pay1
  dsimp only
  rw [shapeCast_self, shapeCast_self, constant_zero]
  refine (congrArg (fun x => shapeCast S1x1024x1024 (truncf .bf16 x _) _) (matmul_tn 1024 2048 1024 _ a g)).trans ?_
  rw [truncf_ev2]
  exact shapeCast_ev2 _ _

theorem out_eq (a g : ℕ → ℕ → EReal) : out0_2 (F := Ideal) (ev2 .bf16 a) (ev2 .bf16 g)
    = (ev3 .bf16 fun _ r c => ∑ k ∈ Finset.range 2048, a k r * g k c : FVec Ideal S1x1024x1024 .bf16) := by
  unfold out0_2
  rw [View.canon_cons_unit_zero (by funext a; fin_cases a <;> rfl), View.ld_unit_zero (by funext a; fin_cases a <;> rfl),
    View.ld_unit_zero (by funext a; fin_cases a <;> rfl)]
  exact pay_eq a g

/-- Where a point's columns of the left operand start. -/
theorem at0 : ∀ t : Fin cfg0.N, win0_0.index t 0 * win0_0.size 0 = 0 ∧ win0_0.index t 1 * win0_0.size 1 = 1024 * (t.val / 4) :=
  by decide +kernel

/-- Where a point's columns of the right operand start. -/
theorem at1 : ∀ t : Fin cfg0.N, win0_1.index t 0 * win0_1.size 0 = 0 ∧ win0_1.index t 1 * win0_1.size 1 = 1024 * (t.val % 4) :=
  by decide +kernel

/-- Where a point's tile starts, and its extents. -/
theorem at2 : ∀ t : Fin cfg0.N, (win0_2.index t 0 * win0_2.size 0 = t.val % 4 ∧ win0_2.index t 1 * win0_2.size 1 = 1024 * (t.val / 4)
    ∧ win0_2.index t 2 * win0_2.size 2 = 0) ∧ win0_2.xsize (grid0.coords t) 0 = 1
    ∧ win0_2.xsize (grid0.coords t) 1 = 1024 ∧ win0_2.xsize (grid0.coords t) 2 = 1024 :=
  by decide +kernel

section Arrays

variable (m : (ℓ : Loc nD τ sig) → Buf (Elt Ideal) ℓ) (c : Dev nD) (A G : ℕ → ℕ → EReal)
  (hA : (V m c main_v0 : FVec Ideal S2048x2048 .bf16) = ev2 .bf16 A)
  (hG : (V m c main_v1 : FVec Ideal S2048x4096 .bf16) = ev2 .bf16 G)

include hA in
theorem read0 (t : Fin cfg0.N) : (iblk m c 0 t : FVec Ideal S2048x1024 .bf16)
    = ev2 .bf16 fun r d => A (0 + r) (1024 * (t.val / 4) + d) :=
  tileAt2 _ hA _ (win0_0.rect t).emb (fun _ => rfl) (win0_0.rect_emb_val t) (at0 t)

include hG in
theorem read1 (t : Fin cfg0.N) : (iblk m c 1 t : FVec Ideal S2048x1024 .bf16)
    = ev2 .bf16 fun r d => G (0 + r) (1024 * (t.val % 4) + d) :=
  tileAt2 _ hG _ (win0_1.rect t).emb (fun _ => rfl) (win0_1.rect_emb_val t) (at1 t)

include hA hG in
/-- The result. -/
theorem final2 : ((dats m 0 c).arrAt 2 cfg0.N : FVec Ideal S4x2048x1024 .bf16) = ev3 .bf16 (gramE 2048 1024 A G) := by
  refine (dats m 0 c).arrAt_eq_of_cover 2 _ (fun t _ => ?_) (fun i => ?_)
  · rw [Cert.OddDwinIdeal.Value.flushed2]
    refine (congrArg _ ((congrArg₂ out0_2 (read0 m c A hA t) (read1 m c G hG t)).trans (out_eq _ _))).trans ?_
    have T := block3 (L := 4) (M := 2048) (N := 1024) (m := 1024) (n := 1024) (φ := .bf16) (gramE 2048 1024 A G) (win0_2.rect t).emb (win0_2.rect_emb_val t) (at2 t).1
    refine Eq.symm (T.trans (ev3_congr fun _ _ r _ d _ => Finset.sum_congr rfl fun k _ => ?_))
    rw [Nat.zero_add k, show 1024 * (t.val % 4) + (0 + d) = 1024 * (t.val % 4) + d by omega]
  · have i0 : (i 0 : ℕ) < 4 := (i 0).isLt
    have i1 : (i 1 : ℕ) < 2048 := (i 1).isLt
    have i2 : (i 2 : ℕ) < 1024 := (i 2).isLt
    have hN : cfg0.N = 8 := N_0
    refine ⟨⟨4 * ((i 1 : ℕ) / 1024) + (i 0 : ℕ), by omega⟩, flush0_2 _, ?_⟩
    generalize ht' : (⟨4 * ((i 1 : ℕ) / 1024) + (i 0 : ℕ), _⟩ : Fin cfg0.N) = t
    have hv' : t.val = 4 * ((i 1 : ℕ) / 1024) + (i 0 : ℕ) := by rw [← ht']
    show i ∈ ((View.whole main_v2).slice (win0_2.rect t)).set
    rw [View.set_slice_whole]
    exact mem_block3 (at2 t) (by omega) (by omega) (by omega)

end Arrays

variable (m : (ℓ : Loc nD τ sig) → Buf (Elt Ideal) ℓ) (c : Dev nD)

/-- What the host hands the grid: the two arguments in 16 bits. -/
theorem host0 : (V m c main_v0 : FVec Ideal S2048x2048 .bf16) = narrow (m ((c.tc : Thread nD τ).loc main_arg0) : FVec Ideal S2048x2048 .f32) := by
  simp only [V, hostOps0, TRef.binary, TRef.nullary, TRef.ternary, TRef.unary, TRef.toBuf, TRef.ofBuf, cast_eq]
  after_results_simp <;> rfl

theorem host1 : (V m c main_v1 : FVec Ideal S2048x4096 .bf16) = narrow (m ((c.tc : Thread nD τ).loc main_arg1) : FVec Ideal S2048x4096 .f32) := by
  simp only [V, hostOps0, TRef.binary, TRef.nullary, TRef.ternary, TRef.unary, TRef.toBuf, TRef.ofBuf, cast_eq]
  after_results_simp <;> rfl

/-- The kernel's result, from the entries of its arguments. -/
theorem kernel_eq (A G : ℕ → ℕ → EReal) (hA : (m ((c.tc : Thread nD τ).loc main_arg0) : FVec Ideal S2048x2048 .f32) = ev2 .f32 A)
    (hG : (m ((c.tc : Thread nD τ).loc main_arg1) : FVec Ideal S2048x4096 .f32) = ev2 .f32 G) :
    ((dats m 0 c).arrAt 2 cfg0.N : FVec Ideal S4x2048x1024 .bf16) = ev3 .bf16 (gramE 2048 1024 A G) :=
  final2 m c A G ((host0 m c).trans (narrow_ev2 hA)) ((host1 m c).trans (narrow_ev2 hG))

end Kernel

section Reference

open Cert.OddDwinRefIdeal Cert.OddDwinRefIdeal.Read

/-- The reference's result, from the entries of its arguments. -/
theorem reference_eq (A G : ℕ → ℕ → EReal) : val_main_v6 (F := Ideal) (ev2 .f32 A : FVec Ideal S2048x2048 .f32) (ev2 .f32 G : FVec Ideal S2048x4096 .f32)
    = (ev3 .bf16 (gramE 2048 1024 A G) : FVec Ideal S4x2048x1024 .bf16) :=
  funext fun i => by
    show val_main_v5 (F := Ideal) _ _ i = _
    rw [val_main_v5_apply, val_main_v4_apply]
    refine Eq.trans ?_ (Finset.sum_range fun k => A k (i 1).val * G k (1024 * (i 0).val + (i 2).val)).symm
    refine Finset.sum_congr rfl fun k _ => ?_
    have i0 : (i 0).val < 4 := (i 0).isLt
    have i2 : (i 2).val < 1024 := (i 2).isLt
    rw [val_main_v3_apply]
    show G (((k.val * 4 + (i 0).val) * 1024 + (i 2).val) / 4096) (((k.val * 4 + (i 0).val) * 1024 + (i 2).val) % 4096) * A k.val (i 1).val = _
    rw [show ((k.val * 4 + (i 0).val) * 1024 + (i 2).val) / 4096 = k.val by omega,
      show ((k.val * 4 + (i 0).val) * 1024 + (i 2).val) % 4096 = 1024 * (i 0).val + (i 2).val by omega]
    exact mul_comm _ _

end Reference

open Idealize.SL.Sem

/-- The reference's frame: its run read at its arguments, which no operation writes; it declares no semaphore. -/
theorem frame_r : letI := Cert.OddDwinRefIdeal.Gen.facts; Cert.quiescent_OddDwinRefIdeal :=
  fun m ρ _ => (θ_run Cert.OddDwinRefIdeal.defs _ _).mono (fun r h => ⟨fun c => (h c).2, sem_eq_zero_of_no_sems (by decide) r.2⟩)
    (Cert.OddDwinRefIdeal.Value.run m ρ)

/-- The two programs' results are equal. -/
theorem algebraic : letI := Cert.OddDwinIdeal.Gen.facts; letI := Cert.OddDwinRefIdeal.Gen.facts; Cert.algebraic_OddDwinIdeal_OddDwinRefIdeal := by
  intro m g m' g' _ hagree
  refine ⟨fun c => (Cert.OddDwinIdeal.Gen.dats m 0 c).arrAt 2 Cert.OddDwinIdeal.cfg0.N, Cert.OddDwinIdeal.Value.run_blocks m g, ?_⟩
  refine (θ_run Cert.OddDwinRefIdeal.defs _ _).mono (fun r h c => ?_) (Cert.OddDwinRefIdeal.Value.run m' g')
  obtain ⟨a0, a1⟩ := hagree c
  obtain ⟨r0, rest⟩ := h c
  refine ⟨r0.trans ((Cert.OddDwinRefIdeal.Read.val_main_v6_eq _ _).trans ?_), rest⟩
  rw [a0, a1]
  refine Eq.trans ?_ (kernel_eq m c _ _ (eq_ev2 _) (eq_ev2 _)).symm
  exact (congrArg₂ Cert.OddDwinRefIdeal.Read.val_main_v6 (eq_ev2 _) (eq_ev2 _)).trans (reference_eq _ _)

end Cert.Mixer.OddDwin

end
-- ==== Proof.MixOddDx.lean ====
/-
  The gradient of the input of the odd layer's mixer: `dh · w_inᵀ`, summed over the shards of `w_in`, plus the scaled
  gradient passed around the mixer. The grid runs over the tiles of the result and, for each of them, over the four
  shards: the first shard's product is left in a scratch, the next two are added to it, and the last is added, with the
  scaled gradient, on the way to the result.
-/
module

public import proofs.«01_k».proof.Defs
public import proofs.«01_k».proof.Proof.Shards
public import proofs.«01_k».proof.Proof.Gen.OddDxIdeal.Value
public import proofs.«01_k».proof.Proof.Gen.OddDxRefIdeal.Read
public import Idealize.ShloMosaic.Lib.VecWindow

@[expose] public section

set_option maxRecDepth 16384

noncomputable section

namespace Cert.Mixer.OddDx

open Idealize.ShloMosaic Idealize.ShloMosaic.ValueIdx

/-- The entries of the gradient: the sum of the shards' products and the scaled gradient passed around the mixer. -/
def gradE (A G : ℕ → ℕ → EReal) (W : ℕ → ℕ → ℕ → EReal) (r c : ℕ) : EReal := partE 1024 A W 4 r c + scaleE * G r c

section Kernel

open Cert.OddDxIdeal Cert.OddDxIdeal.Gen
open StableHlo

/-- The product a point computes. -/
theorem pay1_eq (a : ℕ → ℕ → EReal) (w : ℕ → ℕ → ℕ → EReal) : k0_pay1 (F := Ideal) (ev2 .bf16 a) (ev3 .bf16 w)
    = (ev2 .f32 fun r d => ∑ k ∈ Finset.range 1024, a r k * w 0 d k : FVec Ideal S1024x1024 .f32) := by
  unfold k0_pay1
  dsimp only
  rw [shapeCast_self, constant_zero]
  exact (congrArg (fun x => matmul _ _ _ x _) (shapeCast_ev3 w _)).trans (matmul_nt 1024 1024 1024 _ a (w 0))

section Point

variable (c : Dev nD) (i : grid0.Coords) (arg3 : Memref sig .tc .vmem S1024x1024 .bf16) (harg3 : arg3.IsWhole) (arg4 : Memref sig .tc .vmem S1x1024x1024 .bf16) (harg4 : arg4.IsWhole)
  (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole)
  {x0 : Vec Ideal S1024x1024 .bf16} {x1 : Vec Ideal S1x1024x1024 .bf16} {x2 : Vec Ideal S1024x1024 .f32} {xs : Vec Ideal S1024x1024 .f32} {a s g : ℕ → ℕ → EReal} {w : ℕ → ℕ → ℕ → EReal}
  (h0 : x0 = (ev2 .bf16 a : FVec Ideal S1024x1024 .bf16)) (h1 : x1 = (ev3 .bf16 w : FVec Ideal S1x1024x1024 .bf16))
  (h2 : x2 = (ev2 .f32 g : FVec Ideal S1024x1024 .f32)) (hs : xs = (ev2 .f32 s : FVec Ideal S1024x1024 .f32))

include h0 h1

/-- What the first shard's point leaves in the scratch. -/
theorem first_eq (hc0 : cond0_0 i) (hc1 : ¬cond0_1 i) (hc2 : ¬cond0_2 i) :
    sout0_A_0 (F := Ideal) c i arg3 harg3 arg4 harg4 arg5 harg5 arg6 harg6 arg7 harg7 hc0 hc1 hc2 x0 x1 x2
      = (ev2 .f32 fun r d => ∑ k ∈ Finset.range 1024, a r k * w 0 d k : FVec Ideal S1024x1024 .f32) := by
  unfold sout0_A_0 kernelRun0_A
  dsimp only
  refine (View.read_writes_full _ _ _ _ _).trans ?_
  refine (congrArg₂ k0_pay2 ((View.readAt_full _ _ _).trans ((harg3.read_unread x0).trans h0))
    ((View.readAt_full _ _ _).trans ((harg4.read_unread x1).trans h1))).trans ?_
  unfold k0_pay2
  dsimp only
  rw [shapeCast_self, pay1_eq]

include hs

/-- What a middle shard's point leaves in the scratch. -/
theorem middle_eq (hc0 : ¬cond0_0 i) (hc1 : cond0_1 i) (hc2 : ¬cond0_2 i) :
    sout0_B_0 (F := Ideal) c i arg3 harg3 arg4 harg4 arg5 harg5 arg6 harg6 arg7 harg7 hc0 hc1 hc2 x0 x1 x2 xs
      = (ev2 .f32 fun r d => s r d + ∑ k ∈ Finset.range 1024, a r k * w 0 d k : FVec Ideal S1024x1024 .f32) := by
  unfold sout0_B_0 kernelRun0_B
  dsimp only
  refine (View.read_writes_full _ _ _ _ _).trans ?_
  refine (congrArg₂ (fun x y => k0_pay3 x y _) ((View.readAt_full _ _ _).trans ((harg3.read_unread x0).trans h0))
    ((View.readAt_full _ _ _).trans ((harg4.read_unread x1).trans h1))).trans ?_
  refine (congrArg (k0_pay3 _ _) ((View.readAt_full _ _ _).trans ((harg7.read_unread xs).trans hs))).trans ?_
  unfold k0_pay3
  dsimp only
  rw [shapeCast_self, pay1_eq, addf_ev2]

include h2 in
/-- What the last shard's point leaves in the result's tile. -/
theorem last_eq (hc0 : ¬cond0_0 i) (hc1 : ¬cond0_1 i) (hc2 : cond0_2 i) :
    out0_C_3 (F := Ideal) c i arg3 harg3 arg4 harg4 arg5 harg5 arg6 harg6 arg7 harg7 hc0 hc1 hc2 x0 x1 x2 xs
      = (ev2 .f32 fun r d => (s r d + ∑ k ∈ Finset.range 1024, a r k * w 0 d k) + scaleE * g r d : FVec Ideal S1024x1024 .f32) := by
  unfold out0_C_3 kernelRun0_C
  dsimp only
  refine (View.read_writes_full _ _ _ _ _).trans ?_
  refine (congrArg₂ (fun x y => k0_pay4 x y _ _) ((View.readAt_full _ _ _).trans ((harg3.read_unread x0).trans h0))
    ((View.readAt_full _ _ _).trans ((harg4.read_unread x1).trans h1))).trans ?_
  refine (congrArg₂ (k0_pay4 _ _) ((View.readAt_full _ _ _).trans ((harg7.read_unread xs).trans hs))
    ((View.readAt_full _ _ _).trans ((harg5.read_unread x2).trans h2))).trans ?_
  unfold k0_pay4
  dsimp only
  rw [pay1_eq, addf_ev2, broadcast_ev2, mulf_ev2, addf_ev2]
  rfl

end Point

/-- Where a point's rows and its shard's columns of the left operand start. -/
theorem at0 : ∀ t : Fin cfg0.N, win0_0.index t 0 * win0_0.size 0 = 1024 * (t.val / 8) ∧ win0_0.index t 1 * win0_0.size 1 = 1024 * (t.val % 4) :=
  by decide +kernel

/-- The shard a point reads, and where its rows of it start. -/
theorem at1 : ∀ t : Fin cfg0.N, win0_1.index t 0 * win0_1.size 0 = t.val % 4 ∧ win0_1.index t 1 * win0_1.size 1 = 1024 * (t.val / 4 % 2)
    ∧ win0_1.index t 2 * win0_1.size 2 = 0 :=
  by decide +kernel

/-- Where its tile of the gradient passed around starts. -/
theorem at2 : ∀ t : Fin cfg0.N, (win0_2.index t 0 * win0_2.size 0 = 1024 * (t.val / 8) ∧ win0_2.index t 1 * win0_2.size 1 = 1024 * (t.val / 4 % 2)) :=
  by decide +kernel

/-- Where its tile of the result starts, and its extents. -/
theorem at3 : ∀ t : Fin cfg0.N, (win0_3.index t 0 * win0_3.size 0 = 1024 * (t.val / 8) ∧ win0_3.index t 1 * win0_3.size 1 = 1024 * (t.val / 4 % 2))
    ∧ win0_3.xsize (grid0.coords t) 0 = 1024 ∧ win0_3.xsize (grid0.coords t) 1 = 1024 :=
  by decide +kernel

section Arrays

variable (m : (ℓ : Loc nD τ sig) → Buf (Elt Ideal) ℓ) (c : Dev nD) (A G : ℕ → ℕ → EReal) (W : ℕ → ℕ → ℕ → EReal)
  (hA : (V m c main_v0 : FVec Ideal S2048x4096 .bf16) = ev2 .bf16 A)
  (hW : (V m c main_v1 : FVec Ideal S4x2048x1024 .bf16) = ev3 .bf16 W)
  (hG : (V m c main_arg2 : FVec Ideal S2048x2048 .f32) = ev2 .f32 G)

include hA in
theorem read0 (t : Fin cfg0.N) : (iblk m c 0 t : FVec Ideal S1024x1024 .bf16)
    = ev2 .bf16 fun r d => A (1024 * (t.val / 8) + r) (1024 * (t.val % 4) + d) :=
  tileAt2 _ hA _ (win0_0.rect t).emb (fun _ => rfl) (win0_0.rect_emb_val t) (at0 t)

include hW in
theorem read1 (t : Fin cfg0.N) : (iblk m c 1 t : FVec Ideal S1x1024x1024 .bf16)
    = ev3 .bf16 fun _ r d => W (t.val % 4) (1024 * (t.val / 4 % 2) + r) (0 + d) :=
  tileAt3 _ hW _ (win0_1.rect t).emb (fun _ => rfl) (win0_1.rect_emb_val t) (at1 t)

include hG in
theorem read2 (t : Fin cfg0.N) : (iblk m c 2 t : FVec Ideal S1024x1024 .f32)
    = ev2 .f32 fun r d => G (1024 * (t.val / 8) + r) (1024 * (t.val / 4 % 2) + d) :=
  tileAt2 _ hG _ (win0_2.rect t).emb (fun _ => rfl) (win0_2.rect_emb_val t) (at2 t)

include hA hW
/-- What the scratch holds after the first point of a tile. -/
theorem scratch_first (t : Fin cfg0.N) (h0 : t.val % 4 = 0) : ((outsAt0 m c t.val t.isLt).2 : FVec Ideal S1024x1024 .f32)
    = ev2 .f32 fun r d => partE 1024 A W (t.val % 4 + 1) (1024 * (t.val / 8) + r) (1024 * (t.val / 4 % 2) + d) := by
  have h1 : ¬(1 ≤ t.val % 4 ∧ t.val % 4 ≤ 2) := by omega
  have h2 : ¬t.val % 4 = 3 := by omega
  have P := first_eq (x2 := (iblk m c 2 t : FVec Ideal S1024x1024 .f32)) c (grid0.coords t) (ms0_0 t) (hs0_0 t) (ms0_1 t) (hs0_1 t) (ms0_2 t) (hs0_2 t) (ms0_3 t) (hs0_3 t) scM0_0 (Memref.isWhole_whole _)
    (read0 m c A hA t) (read1 m c W hW t) ((hcond0_0 t).mpr h0) (fun h => h1 ((hcond0_1 t).mp h)) (fun h => h2 ((hcond0_2 t).mp h))
  rw [outsAt0_A m c t h0 h1 h2]
  dsimp only
  rw [P]
  refine ev2_congr fun r _ d _ => ?_
  rw [h0, partE_succ, partE_zero, zero_add]
  exact Finset.sum_congr rfl fun k _ => by rw [Nat.zero_add k]

/-- What it holds after a middle point, from what it held after the one before. -/
theorem scratch_middle (t : Fin cfg0.N) (h0 : ¬t.val % 4 = 0) (h3 : ¬t.val % 4 = 3)
    (ih : ((outsAt0 m c (t.val - 1) (Nat.lt_of_le_of_lt (Nat.sub_le _ _) t.isLt)).2 : FVec Ideal S1024x1024 .f32)
      = ev2 .f32 fun r d => partE 1024 A W (t.val % 4) (1024 * (t.val / 8) + r) (1024 * (t.val / 4 % 2) + d)) :
    ((outsAt0 m c t.val t.isLt).2 : FVec Ideal S1024x1024 .f32)
    = ev2 .f32 fun r d => partE 1024 A W (t.val % 4 + 1) (1024 * (t.val / 8) + r) (1024 * (t.val / 4 % 2) + d) := by
  have h1 : 1 ≤ t.val % 4 ∧ t.val % 4 ≤ 2 := by omega
  have P := middle_eq (x2 := (iblk m c 2 t : FVec Ideal S1024x1024 .f32)) c (grid0.coords t) (ms0_0 t) (hs0_0 t) (ms0_1 t) (hs0_1 t) (ms0_2 t) (hs0_2 t) (ms0_3 t) (hs0_3 t) scM0_0 (Memref.isWhole_whole _)
    (read0 m c A hA t) (read1 m c W hW t) ih (fun h => h0 ((hcond0_0 t).mp h)) ((hcond0_1 t).mpr h1) (fun h => h3 ((hcond0_2 t).mp h))
  rw [outsAt0_B m c t h0 h1 h3]
  dsimp only
  rw [P]
  refine ev2_congr fun r _ d _ => ?_
  rw [partE_succ]
  exact congrArg _ (Finset.sum_congr rfl fun k _ => by rw [Nat.zero_add k])

/-- What the scratch holds after a point that is not the last of its tile: the shards so far. -/
theorem scratch_eq (n : ℕ) : ∀ hn : n < cfg0.N, ¬n % 4 = 3 → ((outsAt0 m c n hn).2 : FVec Ideal S1024x1024 .f32)
    = ev2 .f32 fun r d => partE 1024 A W (n % 4 + 1) (1024 * (n / 8) + r) (1024 * (n / 4 % 2) + d) := by
  induction n with
  | zero => exact fun hn _ => scratch_first m c A W hA hW ⟨0, hn⟩ rfl
  | succ n ih =>
    intro hn h3
    by_cases h0 : (n + 1) % 4 = 0
    · exact scratch_first m c A W hA hW ⟨n + 1, hn⟩ h0
    · refine scratch_middle m c A W hA hW ⟨n + 1, hn⟩ h0 h3 ((ih (Nat.lt_of_succ_lt hn) (by omega)).trans ?_)
      show _ = ev2 .f32 fun r d => partE 1024 A W ((n + 1) % 4) (1024 * ((n + 1) / 8) + r) (1024 * ((n + 1) / 4 % 2) + d)
      rw [show (n + 1) % 4 = n % 4 + 1 by omega, show (n + 1) / 8 = n / 8 by omega, show (n + 1) / 4 = n / 4 by omega]

include hG
/-- What the last point of a tile leaves in it. -/
theorem tile_eq (t : Fin cfg0.N) (h3 : t.val % 4 = 3) : ((outsAt0 m c t.val t.isLt).1 : FVec Ideal S1024x1024 .f32)
    = ev2 .f32 fun r d => gradE A G W (1024 * (t.val / 8) + r) (1024 * (t.val / 4 % 2) + d) := by
  have h0 : ¬t.val % 4 = 0 := by omega
  have h1 : ¬(1 ≤ t.val % 4 ∧ t.val % 4 ≤ 2) := by omega
  have P := last_eq c (grid0.coords t) (ms0_0 t) (hs0_0 t) (ms0_1 t) (hs0_1 t) (ms0_2 t) (hs0_2 t) (ms0_3 t) (hs0_3 t) scM0_0 (Memref.isWhole_whole _)
    (read0 m c A hA t) (read1 m c W hW t) (read2 m c G hG t) (scratch_eq m c A W hA hW (t.val - 1) (Nat.lt_of_le_of_lt (Nat.sub_le _ _) t.isLt) (by omega))
    (fun h => h0 ((hcond0_0 t).mp h)) (fun h => h1 ((hcond0_1 t).mp h)) ((hcond0_2 t).mpr h3)
  rw [outsAt0_C m c t h0 h1 h3]
  dsimp only
  rw [P]
  refine ev2_congr fun r _ d _ => ?_
  rw [gradE, partE_succ 1024 A W 3, show (t.val - 1) % 4 + 1 = 3 by omega, show (t.val - 1) / 8 = t.val / 8 by omega,
    show (t.val - 1) / 4 % 2 = t.val / 4 % 2 by omega, h3]
  exact congrArg (fun x => _ + x + _) (Finset.sum_congr rfl fun k _ => by rw [Nat.zero_add k])

/-- The result. -/
theorem final3 : ((dats m 0 c).arrAt 3 cfg0.N : FVec Ideal S2048x2048 .f32) = ev2 .f32 (gradE A G W) := by
  refine (dats m 0 c).arrAt_eq_of_cover 3 _ (fun t ht => ?_) (fun i => ?_)
  · rw [Cert.OddDxIdeal.Value.flushed3]
    refine (congrArg _ (tile_eq m c A G W hA hW hG t ((flush0_3 t).mp ht))).trans ?_
    have T := block2 (M := 2048) (N := 2048) (m := 1024) (n := 1024) (φ := .f32) (gradE A G W) (win0_3.rect t).emb (win0_3.rect_emb_val t) (at3 t).1
    exact Eq.symm T
  · have i0 : (i 0 : ℕ) < 2048 := (i 0).isLt
    have i1 : (i 1 : ℕ) < 2048 := (i 1).isLt
    have hN : cfg0.N = 16 := N_0
    refine ⟨⟨8 * ((i 0 : ℕ) / 1024) + 4 * ((i 1 : ℕ) / 1024) + 3, by omega⟩, (flush0_3 _).mpr (by show (8 * ((i 0 : ℕ) / 1024) + 4 * ((i 1 : ℕ) / 1024) + 3) % 4 = 3; omega), ?_⟩
    generalize ht' : (⟨8 * ((i 0 : ℕ) / 1024) + 4 * ((i 1 : ℕ) / 1024) + 3, _⟩ : Fin cfg0.N) = t
    have hv' : t.val = 8 * ((i 0 : ℕ) / 1024) + 4 * ((i 1 : ℕ) / 1024) + 3 := by rw [← ht']
    show i ∈ ((View.whole main_v2).slice (win0_3.rect t)).set
    rw [View.set_slice_whole]
    exact mem_block2 (at3 t) (by omega) (by omega)

end Arrays

variable (m : (ℓ : Loc nD τ sig) → Buf (Elt Ideal) ℓ) (c : Dev nD)

/-- What the host hands the grid: the two operands of the product in 16 bits, and the gradient passed around as it is. -/
theorem host0 : (V m c main_v0 : FVec Ideal S2048x4096 .bf16) = narrow (m ((c.tc : Thread nD τ).loc main_arg0) : FVec Ideal S2048x4096 .f32) := by
  simp only [V, hostOps0, TRef.binary, TRef.nullary, TRef.ternary, TRef.unary, TRef.toBuf, TRef.ofBuf, cast_eq]
  after_results_simp <;> rfl

theorem host1 : (V m c main_v1 : FVec Ideal S4x2048x1024 .bf16) = narrow (m ((c.tc : Thread nD τ).loc main_arg1) : FVec Ideal S4x2048x1024 .f32) := by
  simp only [V, hostOps0, TRef.binary, TRef.nullary, TRef.ternary, TRef.unary, TRef.toBuf, TRef.ofBuf, cast_eq]
  after_results_simp <;> rfl

theorem host2 : (V m c main_arg2 : FVec Ideal S2048x2048 .f32) = (m ((c.tc : Thread nD τ).loc main_arg2) : FVec Ideal S2048x2048 .f32) := by
  simp only [V, hostOps0, TRef.binary, TRef.nullary, TRef.ternary, TRef.unary, TRef.toBuf, TRef.ofBuf, cast_eq]
  after_results_simp <;> rfl

/-- The kernel's result, from the entries of its arguments. -/
theorem kernel_eq (A G : ℕ → ℕ → EReal) (W : ℕ → ℕ → ℕ → EReal) (hA : (m ((c.tc : Thread nD τ).loc main_arg0) : FVec Ideal S2048x4096 .f32) = ev2 .f32 A)
    (hW : (m ((c.tc : Thread nD τ).loc main_arg1) : FVec Ideal S4x2048x1024 .f32) = ev3 .f32 W)
    (hG : (m ((c.tc : Thread nD τ).loc main_arg2) : FVec Ideal S2048x2048 .f32) = ev2 .f32 G) :
    ((dats m 0 c).arrAt 3 cfg0.N : FVec Ideal S2048x2048 .f32) = ev2 .f32 (gradE A G W) :=
  final3 m c A G W ((host0 m c).trans (narrow_ev2 hA)) ((host1 m c).trans (narrow_ev3 hW)) ((host2 m c).trans hG)

end Kernel

section Reference

open Cert.OddDxRefIdeal Cert.OddDxRefIdeal.Read

/-- The reference's product, from the entries of its arguments: a sum over the shards and over each shard's columns. -/
theorem ref_prod (A : ℕ → ℕ → EReal) (W : ℕ → ℕ → ℕ → EReal) : val_main_v6 (F := Ideal) (ev2 .f32 A : FVec Ideal S2048x4096 .f32) (ev3 .f32 W : FVec Ideal S4x2048x1024 .f32)
    = (ev2 .f32 (partE 1024 A W 4) : FVec Ideal S2048x2048 .f32) := by
  have S : val_main_v5 (F := Ideal) (ev2 .f32 A : FVec Ideal S2048x4096 .f32) = (ev3 .f32 fun r j k => A r (1024 * j + k) : FVec Ideal S2048x4x1024 .f32) := by
    unfold val_main_v5
    exact split_ev2 (by norm_num) (by norm_num) (by norm_num) A _
  unfold val_main_v6
  rw [S]
  exact dot_shards 2048 4 1024 2048 _ A W

/-- The reference's result, from the entries of its arguments. -/
theorem reference_eq (A G : ℕ → ℕ → EReal) (W : ℕ → ℕ → ℕ → EReal) :
    val_main_v9 (F := Ideal) (ev2 .f32 A : FVec Ideal S2048x4096 .f32) (ev3 .f32 W : FVec Ideal S4x2048x1024 .f32) (ev2 .f32 G : FVec Ideal S2048x2048 .f32)
    = (ev2 .f32 (gradE A G W) : FVec Ideal S2048x2048 .f32) := by
  have Z : val_main_v7 (F := Ideal) = (ev2 .f32 fun _ _ => scaleE : FVec Ideal S2048x2048 .f32) := funext fun i => by
    rw [val_main_v7_apply]; rfl
  unfold val_main_v9 val_main_v8
  rw [Z, ref_prod]
  rfl

end Reference

open Idealize.SL.Sem

/-- The reference's frame: its run read at its arguments, which no operation writes; it declares no semaphore. -/
theorem frame_r : letI := Cert.OddDxRefIdeal.Gen.facts; Cert.quiescent_OddDxRefIdeal :=
  fun m ρ _ => (θ_run Cert.OddDxRefIdeal.defs _ _).mono (fun r h => ⟨fun c => (h c).2, sem_eq_zero_of_no_sems (by decide) r.2⟩)
    (Cert.OddDxRefIdeal.Value.run m ρ)

/-- The two programs' results are equal. -/
theorem algebraic : letI := Cert.OddDxIdeal.Gen.facts; letI := Cert.OddDxRefIdeal.Gen.facts; Cert.algebraic_OddDxIdeal_OddDxRefIdeal := by
  intro m g m' g' _ hagree
  refine ⟨fun c => (Cert.OddDxIdeal.Gen.dats m 0 c).arrAt 3 Cert.OddDxIdeal.cfg0.N, Cert.OddDxIdeal.Value.run_blocks m g, ?_⟩
  refine (θ_run Cert.OddDxRefIdeal.defs _ _).mono (fun r h c => ?_) (Cert.OddDxRefIdeal.Value.run m' g')
  obtain ⟨a0, a1, a2⟩ := hagree c
  obtain ⟨r0, rest⟩ := h c
  refine ⟨r0.trans ((Cert.OddDxRefIdeal.Read.val_main_v9_eq _ _ _).trans ?_), rest⟩
  rw [a0, a1, a2]
  refine Eq.trans ?_ (kernel_eq m c _ _ _ (eq_ev2 _) (eq_ev3 _) (eq_ev2 _)).symm
  exact (congrArg₂ (fun x y => Cert.OddDxRefIdeal.Read.val_main_v9 x y _) (eq_ev2 _) (eq_ev3 _)).trans
    ((congrArg (Cert.OddDxRefIdeal.Read.val_main_v9 _ _) (eq_ev2 _)).trans (reference_eq _ _ _))

end Cert.Mixer.OddDx

end
-- ==== Proof.MixOddOut.lean ====
/-
  The projection out of the odd layer's mixer: `y · w_out`. The grid runs over the tiles of 1024 by 1024 of the result,
  each of them the product of 1024 rows of `y` and 1024 columns of `w_out`.
-/
module

public import proofs.«01_k».proof.Defs
public import proofs.«01_k».proof.Proof.Shards
public import proofs.«01_k».proof.Proof.Gen.OddOutIdeal.Value
public import proofs.«01_k».proof.Proof.Gen.OddOutRefIdeal.Read

@[expose] public section

set_option maxRecDepth 16384

noncomputable section

namespace Cert.Mixer.OddOut

open Idealize.ShloMosaic Idealize.ShloMosaic.ValueIdx

section Kernel

open Cert.OddOutIdeal Cert.OddOutIdeal.Gen
open StableHlo

/-- The tile a point computes. -/
theorem out_eq (a : ℕ → ℕ → EReal) (w : ℕ → ℕ → ℕ → EReal) : out0_2 (F := Ideal) (ev2 .bf16 a) (ev3 .bf16 w)
    = (ev2 .f32 fun r c => ∑ k ∈ Finset.range 2048, a r k * w 0 k c : FVec Ideal S1024x1024 .f32) := by
  unfold out0_2
  rw [View.canon_cons_unit_zero (by funext a; fin_cases a <;> rfl), View.ld_unit_zero (by funext a; fin_cases a <;> rfl),
    View.ld_unit_zero (by funext a; fin_cases a <;> rfl)]
  unfold k0_pay1
  dsimp only
  rw [shapeCast_self, constant_zero]
  exact (congrArg (fun x => matmul (F := Ideal) dot_S1024x2048_S2048x1024_S1024x1024_1_0_0_1_n_n none (ev2 .bf16 a : FVec Ideal S1024x2048 .bf16) x (ev2 .f32 fun _ _ => 0))
    (shapeCast_ev3 (m := 2048) (n := 1024) (φ := .bf16) w shapeCasts_S1x2048x1024_S2048x1024)).trans (matmul_nn 1024 2048 1024 none a (w 0))

/-- Where a point's rows of the left operand start. -/
theorem at0 : ∀ t : Fin cfg0.N, win0_0.index t 0 * win0_0.size 0 = 1024 * (t.val / 2) ∧ win0_0.index t 1 * win0_0.size 1 = 0 :=
  by decide +kernel

/-- The shard a point reads, and where its columns of it start. -/
theorem at1 : ∀ t : Fin cfg0.N, win0_1.index t 0 * win0_1.size 0 = 0 ∧ win0_1.index t 1 * win0_1.size 1 = 0
    ∧ win0_1.index t 2 * win0_1.size 2 = 1024 * (t.val % 2) :=
  by decide +kernel

/-- Where a point's tile of the result starts, and its extents. -/
theorem at2 : ∀ t : Fin cfg0.N, (win0_2.index t 0 * win0_2.size 0 = 1024 * (t.val / 2) ∧ win0_2.index t 1 * win0_2.size 1 = 1024 * (t.val % 2))
    ∧ win0_2.xsize (grid0.coords t) 0 = 1024 ∧ win0_2.xsize (grid0.coords t) 1 = 1024 :=
  by decide +kernel

section Arrays

variable (m : (ℓ : Loc nD τ sig) → Buf (Elt Ideal) ℓ) (c : Dev nD) (A : ℕ → ℕ → EReal) (W : ℕ → ℕ → EReal)
  (hA : (V m c main_v0 : FVec Ideal S2048x2048 .bf16) = ev2 .bf16 A)
  (hW : (V m c main_v2 : FVec Ideal S1x2048x2048 .bf16) = ev3 .bf16 fun _ => W)

include hA in
theorem read0 (t : Fin cfg0.N) : (iblk m c 0 t : FVec Ideal S1024x2048 .bf16)
    = ev2 .bf16 fun r d => A (1024 * (t.val / 2) + r) (0 + d) :=
  tileAt2 _ hA _ (win0_0.rect t).emb (fun _ => rfl) (win0_0.rect_emb_val t) (at0 t)

include hW in
theorem read1 (t : Fin cfg0.N) : (iblk m c 1 t : FVec Ideal S1x2048x1024 .bf16)
    = ev3 .bf16 fun _ r d => W (0 + r) (1024 * (t.val % 2) + d) :=
  tileAt3 _ hW _ (win0_1.rect t).emb (fun _ => rfl) (win0_1.rect_emb_val t) (at1 t)

/-- A point's product is its tile of the whole one. -/
theorem tile_eq (t r d : ℕ) : ∑ k ∈ Finset.range 2048, A (1024 * (t / 2) + r) (0 + k) * W (0 + k) (1024 * (t % 2) + d)
    = plainE 2048 A W (1024 * (t / 2) + r) (1024 * (t % 2) + d) :=
  Finset.sum_congr rfl fun k _ => by rw [Nat.zero_add k]

include hA hW
/-- The result. -/
theorem final2 : ((dats m 0 c).arrAt 2 cfg0.N : FVec Ideal S2048x2048 .f32) = ev2 .f32 (plainE 2048 A W) := by
  refine (dats m 0 c).arrAt_eq_of_cover 2 _ (fun t _ => ?_) (fun i => ?_)
  · rw [Cert.OddOutIdeal.Value.flushed2]
    refine (congrArg _ ((congrArg₂ out0_2 (read0 m c A hA t) (read1 m c W hW t)).trans (out_eq _ _))).trans ?_
    have T := block2 (M := 2048) (N := 2048) (m := 1024) (n := 1024) (φ := .f32) (plainE 2048 A W) (win0_2.rect t).emb (win0_2.rect_emb_val t) (at2 t).1
    exact Eq.symm (T.trans (ev2_congr fun r _ d _ => (tile_eq A W t.val r d).symm))
  · have i0 : (i 0 : ℕ) < 2048 := (i 0).isLt
    have i1 : (i 1 : ℕ) < 2048 := (i 1).isLt
    have hN : cfg0.N = 4 := N_0
    refine ⟨⟨2 * ((i 0 : ℕ) / 1024) + (i 1 : ℕ) / 1024, by omega⟩, flush0_2 _, ?_⟩
    generalize ht' : (⟨2 * ((i 0 : ℕ) / 1024) + (i 1 : ℕ) / 1024, _⟩ : Fin cfg0.N) = t
    have hv' : t.val = 2 * ((i 0 : ℕ) / 1024) + (i 1 : ℕ) / 1024 := by rw [← ht']
    show i ∈ ((View.whole main_v3).slice (win0_2.rect t)).set
    rw [View.set_slice_whole]
    exact mem_block2 (at2 t) (by omega) (by omega)

end Arrays

variable (m : (ℓ : Loc nD τ sig) → Buf (Elt Ideal) ℓ) (c : Dev nD)

/-- The weight, as one shard. -/
def shard (x : FVec Ideal S2048x2048 .f32) : FVec Ideal S1x2048x2048 .bf16 := shapeCast S1x2048x2048 (narrow x) shapeCasts_S2048x2048_S1x2048x2048

/-- What the host hands the grid: the arguments in 16 bits. -/
theorem host0 : (V m c main_v0 : FVec Ideal S2048x2048 .bf16) = narrow (m ((c.tc : Thread nD τ).loc main_arg0) : FVec Ideal S2048x2048 .f32) := by
  simp only [V, hostOps0, TRef.binary, TRef.nullary, TRef.ternary, TRef.unary, TRef.toBuf, TRef.ofBuf, cast_eq]
  after_results_simp <;> rfl

theorem host1 : (V m c main_v2 : FVec Ideal S1x2048x2048 .bf16) = shard (m ((c.tc : Thread nD τ).loc main_arg1) : FVec Ideal S2048x2048 .f32) := by
  simp only [V, hostOps0, TRef.binary, TRef.nullary, TRef.ternary, TRef.unary, TRef.toBuf, TRef.ofBuf, cast_eq]
  after_results_simp <;> rfl

/-- The kernel's result, from the entries of its arguments. -/
theorem kernel_eq (A : ℕ → ℕ → EReal) (W : ℕ → ℕ → EReal) (hA : (m ((c.tc : Thread nD τ).loc main_arg0) : FVec Ideal S2048x2048 .f32) = ev2 .f32 A)
    (hW : (m ((c.tc : Thread nD τ).loc main_arg1) : FVec Ideal S2048x2048 .f32) = ev2 .f32 W) :
    ((dats m 0 c).arrAt 2 cfg0.N : FVec Ideal S2048x2048 .f32) = ev2 .f32 (plainE 2048 A W) :=
  final2 m c A W ((host0 m c).trans (narrow_ev2 hA)) ((host1 m c).trans ((congrArg shard hW).trans (shapeCast_ev2 W _)))

end Kernel

section Reference

open Cert.OddOutRefIdeal Cert.OddOutRefIdeal.Read

/-- The reference's result, from the entries of its arguments. -/
theorem reference_eq (A W : ℕ → ℕ → EReal) : val_main_v0 (F := Ideal) (ev2 .f32 A : FVec Ideal S2048x2048 .f32) (ev2 .f32 W : FVec Ideal S2048x2048 .f32)
    = (ev2 .f32 (plainE 2048 A W) : FVec Ideal S2048x2048 .f32) :=
  funext fun i => by
    rw [val_main_v0_apply]
    exact (Finset.sum_range fun k => A (i 0).val k * W k (i 1).val).symm

end Reference

open Idealize.SL.Sem

/-- The reference's frame: its run read at its arguments, which no operation writes; it declares no semaphore. -/
theorem frame_r : letI := Cert.OddOutRefIdeal.Gen.facts; Cert.quiescent_OddOutRefIdeal :=
  fun m ρ _ => (θ_run Cert.OddOutRefIdeal.defs _ _).mono (fun r h => ⟨fun c => (h c).2, sem_eq_zero_of_no_sems (by decide) r.2⟩)
    (Cert.OddOutRefIdeal.Value.run m ρ)

/-- The two programs' results are equal. -/
theorem algebraic : letI := Cert.OddOutIdeal.Gen.facts; letI := Cert.OddOutRefIdeal.Gen.facts; Cert.algebraic_OddOutIdeal_OddOutRefIdeal := by
  intro m g m' g' _ hagree
  refine ⟨fun c => (Cert.OddOutIdeal.Gen.dats m 0 c).arrAt 2 Cert.OddOutIdeal.cfg0.N, Cert.OddOutIdeal.Value.run_blocks m g, ?_⟩
  refine (θ_run Cert.OddOutRefIdeal.defs _ _).mono (fun r h c => ?_) (Cert.OddOutRefIdeal.Value.run m' g')
  obtain ⟨a0, a1⟩ := hagree c
  obtain ⟨r0, rest⟩ := h c
  refine ⟨r0.trans ((Cert.OddOutRefIdeal.Read.val_main_v0_eq _ _).trans ?_), rest⟩
  rw [a0, a1]
  refine Eq.trans ?_ (kernel_eq m c _ _ (eq_ev2 _) (eq_ev2 _)).symm
  exact (congrArg₂ Cert.OddOutRefIdeal.Read.val_main_v0 (eq_ev2 _) (eq_ev2 _)).trans (reference_eq _ _)

end Cert.Mixer.OddOut

end
-- ==== Proof.MixOddDwout.lean ====
/-
  The gradient of the weight of the projection out of the odd layer's mixer, `yᵀ · du`. The grid runs over the tiles of
  the result, each of them the product of some columns of the one operand and some columns of the other, over all rows.
-/
module

public import proofs.«01_k».proof.Defs
public import proofs.«01_k».proof.Proof.Shards
public import proofs.«01_k».proof.Proof.Gen.OddDwoutIdeal.Value
public import proofs.«01_k».proof.Proof.Gen.OddDwoutRefIdeal.Read

@[expose] public section

set_option maxRecDepth 16384

noncomputable section

namespace Cert.Mixer.OddDwout

open Idealize.ShloMosaic Idealize.ShloMosaic.ValueIdx

section Kernel

open Cert.OddDwoutIdeal Cert.OddDwoutIdeal.Gen
open StableHlo

/-- The tile a point computes. -/
theorem pay_eq (a g : ℕ → ℕ → EReal) : k0_pay1 (F := Ideal) (ev2 .bf16 a) (ev2 .bf16 g)
    = (ev3 .bf16 fun _ r c => ∑ k ∈ Finset.range 2048, a k r * g k c : FVec Ideal S1x1024x1024 .bf16) := by
  unfold k0_pay1
  dsimp only
  rw [shapeCast_self, shapeCast_self, constant_zero]
  refine (congrArg (fun x => shapeCast S1x1024x1024 (truncf .bf16 x _) _) (matmul_tn 1024 2048 1024 _ a g)).trans ?_
  rw [truncf_ev2]
  exact shapeCast_ev2 _ _

theorem out_eq (a g : ℕ → ℕ → EReal) : out0_2 (F := Ideal) (ev2 .bf16 a) (ev2 .bf16 g)
    = (ev3 .bf16 fun _ r c => ∑ k ∈ Finset.range 2048, a k r * g k c : FVec Ideal S1x1024x1024 .bf16) := by
  unfold out0_2
  rw [View.canon_cons_unit_zero (by funext a; fin_cases a <;> rfl), View.ld_unit_zero (by funext a; fin_cases a <;> rfl),
    View.ld_unit_zero (by funext a; fin_cases a <;> rfl)]
  exact pay_eq a g

/-- Where a point's columns of the left operand start. -/
theorem at0 : ∀ t : Fin cfg0.N, win0_0.index t 0 * win0_0.size 0 = 0 ∧ win0_0.index t 1 * win0_0.size 1 = 1024 * (t.val / 2) :=
  by decide +kernel

/-- Where a point's columns of the right operand start. -/
theorem at1 : ∀ t : Fin cfg0.N, win0_1.index t 0 * win0_1.size 0 = 0 ∧ win0_1.index t 1 * win0_1.size 1 = 1024 * (t.val % 2) :=
  by decide +kernel

/-- Where a point's tile starts, and its extents. -/
theorem at2 : ∀ t : Fin cfg0.N, (win0_2.index t 0 * win0_2.size 0 = 0 ∧ win0_2.index t 1 * win0_2.size 1 = 1024 * (t.val / 2)
    ∧ win0_2.index t 2 * win0_2.size 2 = 1024 * (t.val % 2)) ∧ win0_2.xsize (grid0.coords t) 0 = 1
    ∧ win0_2.xsize (grid0.coords t) 1 = 1024 ∧ win0_2.xsize (grid0.coords t) 2 = 1024 :=
  by decide +kernel

section Arrays

variable (m : (ℓ : Loc nD τ sig) → Buf (Elt Ideal) ℓ) (c : Dev nD) (A G : ℕ → ℕ → EReal)
  (hA : (V m c main_v0 : FVec Ideal S2048x2048 .bf16) = ev2 .bf16 A)
  (hG : (V m c main_v1 : FVec Ideal S2048x2048 .bf16) = ev2 .bf16 G)

include hA in
theorem read0 (t : Fin cfg0.N) : (iblk m c 0 t : FVec Ideal S2048x1024 .bf16)
    = ev2 .bf16 fun r d => A (0 + r) (1024 * (t.val / 2) + d) :=
  tileAt2 _ hA _ (win0_0.rect t).emb (fun _ => rfl) (win0_0.rect_emb_val t) (at0 t)

include hG in
theorem read1 (t : Fin cfg0.N) : (iblk m c 1 t : FVec Ideal S2048x1024 .bf16)
    = ev2 .bf16 fun r d => G (0 + r) (1024 * (t.val % 2) + d) :=
  tileAt2 _ hG _ (win0_1.rect t).emb (fun _ => rfl) (win0_1.rect_emb_val t) (at1 t)

include hA hG in
/-- The result. -/
theorem final2 : ((dats m 0 c).arrAt 2 cfg0.N : FVec Ideal S1x2048x2048 .bf16) = ev3 .bf16 (fun _ => plainE 2048 (fun r k => A k r) G) := by
  refine (dats m 0 c).arrAt_eq_of_cover 2 _ (fun t _ => ?_) (fun i => ?_)
  · rw [Cert.OddDwoutIdeal.Value.flushed2]
    refine (congrArg _ ((congrArg₂ out0_2 (read0 m c A hA t) (read1 m c G hG t)).trans (out_eq _ _))).trans ?_
    have T := block3 (L := 1) (M := 2048) (N := 2048) (m := 1024) (n := 1024) (φ := .bf16) (fun _ => plainE 2048 (fun r k => A k r) G) (win0_2.rect t).emb (win0_2.rect_emb_val t) (at2 t).1
    exact Eq.symm (T.trans (ev3_congr fun _ _ r _ d _ => Finset.sum_congr rfl fun k _ => by rw [Nat.zero_add k]))
  · have i0 : (i 0 : ℕ) < 1 := (i 0).isLt
    have i1 : (i 1 : ℕ) < 2048 := (i 1).isLt
    have i2 : (i 2 : ℕ) < 2048 := (i 2).isLt
    have hN : cfg0.N = 4 := N_0
    refine ⟨⟨2 * ((i 1 : ℕ) / 1024) + (i 2 : ℕ) / 1024, by omega⟩, flush0_2 _, ?_⟩
    generalize ht' : (⟨2 * ((i 1 : ℕ) / 1024) + (i 2 : ℕ) / 1024, _⟩ : Fin cfg0.N) = t
    have hv' : t.val = 2 * ((i 1 : ℕ) / 1024) + (i 2 : ℕ) / 1024 := by rw [← ht']
    show i ∈ ((View.whole main_v2).slice (win0_2.rect t)).set
    rw [View.set_slice_whole]
    exact mem_block3 (at2 t) (by omega) (by omega) (by omega)

end Arrays

variable (m : (ℓ : Loc nD τ sig) → Buf (Elt Ideal) ℓ) (c : Dev nD)

/-- What the host hands the grid: the two arguments in 16 bits. -/
theorem host0 : (V m c main_v0 : FVec Ideal S2048x2048 .bf16) = narrow (m ((c.tc : Thread nD τ).loc main_arg0) : FVec Ideal S2048x2048 .f32) := by
  simp only [V, hostOps0, TRef.binary, TRef.nullary, TRef.ternary, TRef.unary, TRef.toBuf, TRef.ofBuf, cast_eq]
  after_results_simp <;> rfl

theorem host1 : (V m c main_v1 : FVec Ideal S2048x2048 .bf16) = narrow (m ((c.tc : Thread nD τ).loc main_arg1) : FVec Ideal S2048x2048 .f32) := by
  simp only [V, hostOps0, TRef.binary, TRef.nullary, TRef.ternary, TRef.unary, TRef.toBuf, TRef.ofBuf, cast_eq]
  after_results_simp <;> rfl

/-- The kernel's result, from the entries of its arguments. -/
theorem kernel_eq (A G : ℕ → ℕ → EReal) (hA : (m ((c.tc : Thread nD τ).loc main_arg0) : FVec Ideal S2048x2048 .f32) = ev2 .f32 A)
    (hG : (m ((c.tc : Thread nD τ).loc main_arg1) : FVec Ideal S2048x2048 .f32) = ev2 .f32 G) :
    ((dats m 0 c).arrAt 2 cfg0.N : FVec Ideal S1x2048x2048 .bf16) = ev3 .bf16 (fun _ => plainE 2048 (fun r k => A k r) G) :=
  final2 m c A G ((host0 m c).trans (narrow_ev2 hA)) ((host1 m c).trans (narrow_ev2 hG))

end Kernel

section Reference

open Cert.OddDwoutRefIdeal Cert.OddDwoutRefIdeal.Read

/-- The reference's result, from the entries of its arguments. -/
theorem reference_eq (A G : ℕ → ℕ → EReal) : val_main_v6 (F := Ideal) (ev2 .f32 A : FVec Ideal S2048x2048 .f32) (ev2 .f32 G : FVec Ideal S2048x2048 .f32)
    = (ev3 .bf16 (fun _ => plainE 2048 (fun r k => A k r) G) : FVec Ideal S1x2048x2048 .bf16) :=
  funext fun i => by
    show val_main_v5 (F := Ideal) _ _ i = _
    rw [val_main_v5_apply, val_main_v4_apply, val_main_v3_apply]
    refine Eq.trans ?_ (Finset.sum_range fun k => A k (i 1).val * G k (i 2).val).symm
    exact Finset.sum_congr rfl fun k _ => mul_comm (G k.val (i 2).val) (A k.val (i 1).val)

end Reference

open Idealize.SL.Sem

/-- The reference's frame: its run read at its arguments, which no operation writes; it declares no semaphore. -/
theorem frame_r : letI := Cert.OddDwoutRefIdeal.Gen.facts; Cert.quiescent_OddDwoutRefIdeal :=
  fun m ρ _ => (θ_run Cert.OddDwoutRefIdeal.defs _ _).mono (fun r h => ⟨fun c => (h c).2, sem_eq_zero_of_no_sems (by decide) r.2⟩)
    (Cert.OddDwoutRefIdeal.Value.run m ρ)

/-- The two programs' results are equal. -/
theorem algebraic : letI := Cert.OddDwoutIdeal.Gen.facts; letI := Cert.OddDwoutRefIdeal.Gen.facts; Cert.algebraic_OddDwoutIdeal_OddDwoutRefIdeal := by
  intro m g m' g' _ hagree
  refine ⟨fun c => (Cert.OddDwoutIdeal.Gen.dats m 0 c).arrAt 2 Cert.OddDwoutIdeal.cfg0.N, Cert.OddDwoutIdeal.Value.run_blocks m g, ?_⟩
  refine (θ_run Cert.OddDwoutRefIdeal.defs _ _).mono (fun r h c => ?_) (Cert.OddDwoutRefIdeal.Value.run m' g')
  obtain ⟨a0, a1⟩ := hagree c
  obtain ⟨r0, rest⟩ := h c
  refine ⟨r0.trans ((Cert.OddDwoutRefIdeal.Read.val_main_v6_eq _ _).trans ?_), rest⟩
  rw [a0, a1]
  refine Eq.trans ?_ (kernel_eq m c _ _ (eq_ev2 _) (eq_ev2 _)).symm
  exact (congrArg₂ Cert.OddDwoutRefIdeal.Read.val_main_v6 (eq_ev2 _) (eq_ev2 _)).trans (reference_eq _ _)

end Cert.Mixer.OddDwout

end
-- ==== Proof.MixOddDy.lean ====
/-
  The gradient of the input of the projection out of the odd layer's mixer: `du · w_outᵀ`. The grid runs over the tiles
  of 1024 by 1024 of the result, each of them the product of 1024 rows of `du` and 1024 rows of `w_out`.
-/
module

public import proofs.«01_k».proof.Defs
public import proofs.«01_k».proof.Proof.Shards
public import proofs.«01_k».proof.Proof.Gen.OddDyIdeal.Value
public import proofs.«01_k».proof.Proof.Gen.OddDyRefIdeal.Read

@[expose] public section

set_option maxRecDepth 16384

noncomputable section

namespace Cert.Mixer.OddDy

open Idealize.ShloMosaic Idealize.ShloMosaic.ValueIdx

section Kernel

open Cert.OddDyIdeal Cert.OddDyIdeal.Gen
open StableHlo

/-- The tile a point computes. -/
theorem out_eq (a : ℕ → ℕ → EReal) (w : ℕ → ℕ → ℕ → EReal) : out0_2 (F := Ideal) (ev2 .bf16 a) (ev3 .bf16 w)
    = (ev2 .f32 fun r c => ∑ k ∈ Finset.range 2048, a r k * w 0 c k : FVec Ideal S1024x1024 .f32) := by
  unfold out0_2
  rw [View.canon_cons_unit_zero (by funext a; fin_cases a <;> rfl), View.ld_unit_zero (by funext a; fin_cases a <;> rfl),
    View.ld_unit_zero (by funext a; fin_cases a <;> rfl)]
  unfold k0_pay1
  dsimp only
  rw [shapeCast_self, constant_zero]
  exact (congrArg (fun x => matmul (F := Ideal) dot_S1024x2048_S1024x2048_S1024x1024_1_1_0_0_n_n none (ev2 .bf16 a : FVec Ideal S1024x2048 .bf16) x (ev2 .f32 fun _ _ => 0))
    (shapeCast_ev3 (m := 1024) (n := 2048) (φ := .bf16) w shapeCasts_S1x1024x2048_S1024x2048)).trans (matmul_nt 1024 2048 1024 none a (w 0))

/-- Where a point's rows of the left operand start. -/
theorem at0 : ∀ t : Fin cfg0.N, win0_0.index t 0 * win0_0.size 0 = 1024 * (t.val / 2) ∧ win0_0.index t 1 * win0_0.size 1 = 0 :=
  by decide +kernel

/-- Where its rows of the weight start. -/
theorem at1 : ∀ t : Fin cfg0.N, win0_1.index t 0 * win0_1.size 0 = 0 ∧ win0_1.index t 1 * win0_1.size 1 = 1024 * (t.val % 2) ∧ win0_1.index t 2 * win0_1.size 2 = 0 :=
  by decide +kernel

/-- Where a point's tile of the result starts, and its extents. -/
theorem at2 : ∀ t : Fin cfg0.N, (win0_2.index t 0 * win0_2.size 0 = 1024 * (t.val / 2) ∧ win0_2.index t 1 * win0_2.size 1 = 1024 * (t.val % 2))
    ∧ win0_2.xsize (grid0.coords t) 0 = 1024 ∧ win0_2.xsize (grid0.coords t) 1 = 1024 :=
  by decide +kernel

section Arrays

variable (m : (ℓ : Loc nD τ sig) → Buf (Elt Ideal) ℓ) (c : Dev nD) (A W : ℕ → ℕ → EReal)
  (hA : (V m c main_v0 : FVec Ideal S2048x2048 .bf16) = ev2 .bf16 A)
  (hW : (V m c main_v2 : FVec Ideal S1x2048x2048 .bf16) = ev3 .bf16 fun _ => W)

include hA in
theorem read0 (t : Fin cfg0.N) : (iblk m c 0 t : FVec Ideal S1024x2048 .bf16)
    = ev2 .bf16 fun r d => A (1024 * (t.val / 2) + r) (0 + d) :=
  tileAt2 _ hA _ (win0_0.rect t).emb (fun _ => rfl) (win0_0.rect_emb_val t) (at0 t)

include hW in
theorem read1 (t : Fin cfg0.N) : (iblk m c 1 t : FVec Ideal S1x1024x2048 .bf16)
    = ev3 .bf16 fun _ r d => W (1024 * (t.val % 2) + r) (0 + d) :=
  tileAt3 _ hW _ (win0_1.rect t).emb (fun _ => rfl) (win0_1.rect_emb_val t) (at1 t)

include hA hW
/-- The result. -/
theorem final2 : ((dats m 0 c).arrAt 2 cfg0.N : FVec Ideal S2048x2048 .f32) = ev2 .f32 (plainE 2048 A (fun k c => W c k)) := by
  refine (dats m 0 c).arrAt_eq_of_cover 2 _ (fun t _ => ?_) (fun i => ?_)
  · rw [Cert.OddDyIdeal.Value.flushed2]
    refine (congrArg _ ((congrArg₂ out0_2 (read0 m c A hA t) (read1 m c W hW t)).trans (out_eq _ _))).trans ?_
    have T := block2 (M := 2048) (N := 2048) (m := 1024) (n := 1024) (φ := .f32) (plainE 2048 A (fun k c => W c k)) (win0_2.rect t).emb (win0_2.rect_emb_val t) (at2 t).1
    exact Eq.symm (T.trans (ev2_congr fun r _ d _ => Finset.sum_congr rfl fun k _ => by rw [Nat.zero_add k]))
  · have i0 : (i 0 : ℕ) < 2048 := (i 0).isLt
    have i1 : (i 1 : ℕ) < 2048 := (i 1).isLt
    have hN : cfg0.N = 4 := N_0
    refine ⟨⟨2 * ((i 0 : ℕ) / 1024) + (i 1 : ℕ) / 1024, by omega⟩, flush0_2 _, ?_⟩
    generalize ht' : (⟨2 * ((i 0 : ℕ) / 1024) + (i 1 : ℕ) / 1024, _⟩ : Fin cfg0.N) = t
    have hv' : t.val = 2 * ((i 0 : ℕ) / 1024) + (i 1 : ℕ) / 1024 := by rw [← ht']
    show i ∈ ((View.whole main_v3).slice (win0_2.rect t)).set
    rw [View.set_slice_whole]
    exact mem_block2 (at2 t) (by omega) (by omega)

end Arrays

variable (m : (ℓ : Loc nD τ sig) → Buf (Elt Ideal) ℓ) (c : Dev nD)

/-- The weight, as one shard. -/
def shard (x : FVec Ideal S2048x2048 .f32) : FVec Ideal S1x2048x2048 .bf16 := shapeCast S1x2048x2048 (narrow x) shapeCasts_S2048x2048_S1x2048x2048

/-- What the host hands the grid: the arguments in 16 bits. -/
theorem host0 : (V m c main_v0 : FVec Ideal S2048x2048 .bf16) = narrow (m ((c.tc : Thread nD τ).loc main_arg0) : FVec Ideal S2048x2048 .f32) := by
  simp only [V, hostOps0, TRef.binary, TRef.nullary, TRef.ternary, TRef.unary, TRef.toBuf, TRef.ofBuf, cast_eq]
  after_results_simp <;> rfl

theorem host1 : (V m c main_v2 : FVec Ideal S1x2048x2048 .bf16) = shard (m ((c.tc : Thread nD τ).loc main_arg1) : FVec Ideal S2048x2048 .f32) := by
  simp only [V, hostOps0, TRef.binary, TRef.nullary, TRef.ternary, TRef.unary, TRef.toBuf, TRef.ofBuf, cast_eq]
  after_results_simp <;> rfl

/-- The kernel's result, from the entries of its arguments. -/
theorem kernel_eq (A W : ℕ → ℕ → EReal) (hA : (m ((c.tc : Thread nD τ).loc main_arg0) : FVec Ideal S2048x2048 .f32) = ev2 .f32 A)
    (hW : (m ((c.tc : Thread nD τ).loc main_arg1) : FVec Ideal S2048x2048 .f32) = ev2 .f32 W) :
    ((dats m 0 c).arrAt 2 cfg0.N : FVec Ideal S2048x2048 .f32) = ev2 .f32 (plainE 2048 A (fun k c => W c k)) :=
  final2 m c A W ((host0 m c).trans (narrow_ev2 hA)) ((host1 m c).trans ((congrArg shard hW).trans (shapeCast_ev2 W _)))

end Kernel

section Reference

open Cert.OddDyRefIdeal Cert.OddDyRefIdeal.Read

/-- The reference's result, from the entries of its arguments. -/
theorem reference_eq (A W : ℕ → ℕ → EReal) : val_main_v2 (F := Ideal) (ev2 .f32 A : FVec Ideal S2048x2048 .f32) (ev2 .f32 W : FVec Ideal S2048x2048 .f32)
    = (ev2 .f32 (plainE 2048 A (fun k c => W c k)) : FVec Ideal S2048x2048 .f32) :=
  funext fun i => by
    rw [val_main_v2_apply]
    exact (Finset.sum_range fun k => A (i 0).val k * W (i 1).val k).symm

end Reference

open Idealize.SL.Sem

/-- The reference's frame: its run read at its arguments, which no operation writes; it declares no semaphore. -/
theorem frame_r : letI := Cert.OddDyRefIdeal.Gen.facts; Cert.quiescent_OddDyRefIdeal :=
  fun m ρ _ => (θ_run Cert.OddDyRefIdeal.defs _ _).mono (fun r h => ⟨fun c => (h c).2, sem_eq_zero_of_no_sems (by decide) r.2⟩)
    (Cert.OddDyRefIdeal.Value.run m ρ)

/-- The two programs' results are equal. -/
theorem algebraic : letI := Cert.OddDyIdeal.Gen.facts; letI := Cert.OddDyRefIdeal.Gen.facts; Cert.algebraic_OddDyIdeal_OddDyRefIdeal := by
  intro m g m' g' _ hagree
  refine ⟨fun c => (Cert.OddDyIdeal.Gen.dats m 0 c).arrAt 2 Cert.OddDyIdeal.cfg0.N, Cert.OddDyIdeal.Value.run_blocks m g, ?_⟩
  refine (θ_run Cert.OddDyRefIdeal.defs _ _).mono (fun r h c => ?_) (Cert.OddDyRefIdeal.Value.run m' g')
  obtain ⟨a0, a1⟩ := hagree c
  obtain ⟨r0, rest⟩ := h c
  refine ⟨r0.trans ((Cert.OddDyRefIdeal.Read.val_main_v2_eq _ _).trans ?_), rest⟩
  rw [a0, a1]
  refine Eq.trans ?_ (kernel_eq m c _ _ (eq_ev2 _) (eq_ev2 _)).symm
  exact (congrArg₂ Cert.OddDyRefIdeal.Read.val_main_v2 (eq_ev2 _) (eq_ev2 _)).trans (reference_eq _ _)

end Cert.Mixer.OddDy

end
-- ==== Proof.MixMlaUq.lean ====
/-
  The queries' second projection, from the compressed queries: the shards of its weight side by side. The grid runs over
  the tiles of the result, each of them the product of 1024 rows of the left operand and some columns of one shard.
-/
module

public import proofs.«01_k».proof.Defs
public import proofs.«01_k».proof.Proof.Shards
public import proofs.«01_k».proof.Proof.Gen.MlaUqIdeal.Value
public import proofs.«01_k».proof.Proof.Gen.MlaUqRefIdeal.Read

@[expose] public section

set_option maxRecDepth 16384

noncomputable section

namespace Cert.Mixer.MlaUq

open Idealize.ShloMosaic Idealize.ShloMosaic.ValueIdx

section Kernel

open Cert.MlaUqIdeal Cert.MlaUqIdeal.Gen
open StableHlo

/-- The tile a point computes. -/
theorem out_eq (a : ℕ → ℕ → EReal) (w : ℕ → ℕ → ℕ → EReal) : out0_2 (F := Ideal) (ev2 .bf16 a) (ev3 .bf16 w)
    = (ev2 .f32 fun r c => ∑ k ∈ Finset.range 512, a r k * w 0 k c : FVec Ideal S1024x384 .f32) := by
  unfold out0_2
  rw [View.canon_cons_unit_zero (by funext a; fin_cases a <;> rfl), View.ld_unit_zero (by funext a; fin_cases a <;> rfl),
    View.ld_unit_zero (by funext a; fin_cases a <;> rfl)]
  unfold k0_pay1
  dsimp only
  rw [shapeCast_self, constant_zero]
  exact (congrArg (fun x => matmul (F := Ideal) dot_S1024x512_S512x384_S1024x384_1_0_0_1_n_n none (ev2 .bf16 a : FVec Ideal S1024x512 .bf16) x (ev2 .f32 fun _ _ => 0))
    (shapeCast_ev3 (m := 512) (n := 384) (φ := .bf16) w shapeCasts_S1x512x384_S512x384)).trans (matmul_nn 1024 512 384 none a (w 0))

/-- Where a point's rows of the left operand start. -/
theorem at0 : ∀ t : Fin cfg0.N, win0_0.index t 0 * win0_0.size 0 = 1024 * (t.val / 4) ∧ win0_0.index t 1 * win0_0.size 1 = 0 :=
  by decide +kernel

/-- The shard a point reads, and where its columns of it start. -/
theorem at1 : ∀ t : Fin cfg0.N, win0_1.index t 0 * win0_1.size 0 = t.val % 4 ∧ win0_1.index t 1 * win0_1.size 1 = 0
    ∧ win0_1.index t 2 * win0_1.size 2 = 0 :=
  by decide +kernel

/-- Where a point's tile of the result starts, and its extents. -/
theorem at2 : ∀ t : Fin cfg0.N, (win0_2.index t 0 * win0_2.size 0 = 1024 * (t.val / 4) ∧ win0_2.index t 1 * win0_2.size 1 = 384 * (t.val % 4))
    ∧ win0_2.xsize (grid0.coords t) 0 = 1024 ∧ win0_2.xsize (grid0.coords t) 1 = 384 :=
  by decide +kernel

section Arrays

variable (m : (ℓ : Loc nD τ sig) → Buf (Elt Ideal) ℓ) (c : Dev nD) (A : ℕ → ℕ → EReal) (W : ℕ → ℕ → ℕ → EReal)
  (hA : (V m c main_v0 : FVec Ideal S2048x512 .bf16) = ev2 .bf16 A)
  (hW : (V m c main_v1 : FVec Ideal S4x512x384 .bf16) = ev3 .bf16 W)

include hA in
theorem read0 (t : Fin cfg0.N) : (iblk m c 0 t : FVec Ideal S1024x512 .bf16)
    = ev2 .bf16 fun r d => A (1024 * (t.val / 4) + r) (0 + d) :=
  tileAt2 _ hA _ (win0_0.rect t).emb (fun _ => rfl) (win0_0.rect_emb_val t) (at0 t)

include hW in
theorem read1 (t : Fin cfg0.N) : (iblk m c 1 t : FVec Ideal S1x512x384 .bf16)
    = ev3 .bf16 fun _ r d => W (t.val % 4) (0 + r) (0 + d) :=
  tileAt3 _ hW _ (win0_1.rect t).emb (fun _ => rfl) (win0_1.rect_emb_val t) (at1 t)

/-- A point's product is its tile of the whole one. -/
theorem tile_eq (t r d : ℕ) (hd : d < 384) :
    ∑ k ∈ Finset.range 512, A (1024 * (t / 4) + r) (0 + k) * W (t % 4) (0 + k) (0 + d)
      = sideE 512 384 A W (1024 * (t / 4) + r) (384 * (t % 4) + d) :=
  Finset.sum_congr rfl fun k _ => by
    rw [Nat.zero_add k, show (384 * (t % 4) + d) / 384 = t % 4 by omega, show (384 * (t % 4) + d) % 384 = 0 + d by omega]

include hA hW
/-- The result. -/
theorem final2 : ((dats m 0 c).arrAt 2 cfg0.N : FVec Ideal S2048x1536 .f32) = ev2 .f32 (sideE 512 384 A W) := by
  refine (dats m 0 c).arrAt_eq_of_cover 2 _ (fun t _ => ?_) (fun i => ?_)
  · rw [Cert.MlaUqIdeal.Value.flushed2]
    refine (congrArg _ ((congrArg₂ out0_2 (read0 m c A hA t) (read1 m c W hW t)).trans (out_eq _ _))).trans ?_
    have T := block2 (M := 2048) (N := 1536) (m := 1024) (n := 384) (φ := .f32) (sideE 512 384 A W) (win0_2.rect t).emb (win0_2.rect_emb_val t) (at2 t).1
    exact Eq.symm (T.trans (ev2_congr fun r _ d hd => (tile_eq A W t.val r d hd).symm))
  · have i0 : (i 0 : ℕ) < 2048 := (i 0).isLt
    have i1 : (i 1 : ℕ) < 1536 := (i 1).isLt
    have hN : cfg0.N = 8 := N_0
    refine ⟨⟨4 * ((i 0 : ℕ) / 1024) + (i 1 : ℕ) / 384, by omega⟩, flush0_2 _, ?_⟩
    generalize ht' : (⟨4 * ((i 0 : ℕ) / 1024) + (i 1 : ℕ) / 384, _⟩ : Fin cfg0.N) = t
    have hv' : t.val = 4 * ((i 0 : ℕ) / 1024) + (i 1 : ℕ) / 384 := by rw [← ht']
    show i ∈ ((View.whole main_v2).slice (win0_2.rect t)).set
    rw [View.set_slice_whole]
    exact mem_block2 (at2 t) (by omega) (by omega)

end Arrays

variable (m : (ℓ : Loc nD τ sig) → Buf (Elt Ideal) ℓ) (c : Dev nD)

/-- What the host hands the grid: the arguments in 16 bits. -/
theorem host0 : (V m c main_v0 : FVec Ideal S2048x512 .bf16) = narrow (m ((c.tc : Thread nD τ).loc main_arg0) : FVec Ideal S2048x512 .f32) := by
  simp only [V, hostOps0, TRef.binary, TRef.nullary, TRef.ternary, TRef.unary, TRef.toBuf, TRef.ofBuf, cast_eq]
  after_results_simp <;> rfl

theorem host1 : (V m c main_v1 : FVec Ideal S4x512x384 .bf16) = narrow (m ((c.tc : Thread nD τ).loc main_arg1) : FVec Ideal S4x512x384 .f32) := by
  simp only [V, hostOps0, TRef.binary, TRef.nullary, TRef.ternary, TRef.unary, TRef.toBuf, TRef.ofBuf, cast_eq]
  after_results_simp <;> rfl

/-- The kernel's result, from the entries of its arguments. -/
theorem kernel_eq (A : ℕ → ℕ → EReal) (W : ℕ → ℕ → ℕ → EReal) (hA : (m ((c.tc : Thread nD τ).loc main_arg0) : FVec Ideal S2048x512 .f32) = ev2 .f32 A)
    (hW : (m ((c.tc : Thread nD τ).loc main_arg1) : FVec Ideal S4x512x384 .f32) = ev3 .f32 W) :
    ((dats m 0 c).arrAt 2 cfg0.N : FVec Ideal S2048x1536 .f32) = ev2 .f32 (sideE 512 384 A W) :=
  final2 m c A W ((host0 m c).trans (narrow_ev2 hA)) ((host1 m c).trans (narrow_ev3 hW))

end Kernel

section Reference

open Cert.MlaUqRefIdeal Cert.MlaUqRefIdeal.Read

/-- The reference's product, a matrix for each shard. -/
theorem ref_prod (A : ℕ → ℕ → EReal) (W : ℕ → ℕ → ℕ → EReal) : val_main_v0 (F := Ideal) (ev2 .f32 A : FVec Ideal S2048x512 .f32) (ev3 .f32 W : FVec Ideal S4x512x384 .f32)
    = (ev3 .f32 fun r p c => ∑ k ∈ Finset.range 512, A r k * W p k c : FVec Ideal S2048x4x384 .f32) :=
  funext fun i => by
    rw [val_main_v0_apply]
    exact (Finset.sum_range fun k => A (i 0).val k * W (i 1).val k (i 2).val).symm

/-- The same matrices side by side. -/
theorem ref_side (A : ℕ → ℕ → EReal) (W : ℕ → ℕ → ℕ → EReal) : val_main_v1 (F := Ideal) (ev2 .f32 A : FVec Ideal S2048x512 .f32) (ev3 .f32 W : FVec Ideal S4x512x384 .f32)
    = (ev2 .f32 (sideE 512 384 A W) : FVec Ideal S2048x1536 .f32) := by
  unfold val_main_v1
  rw [ref_prod]
  exact join_ev3 (by norm_num) (by norm_num) (fun r p c => ∑ k ∈ Finset.range 512, A r k * W p k c) _

/-- The reference's result, from the entries of its arguments. -/
theorem reference_eq (A : ℕ → ℕ → EReal) (W : ℕ → ℕ → ℕ → EReal) : val_main_v1 (F := Ideal) (ev2 .f32 A : FVec Ideal S2048x512 .f32) (ev3 .f32 W : FVec Ideal S4x512x384 .f32)
    = (ev2 .f32 (sideE 512 384 A W) : FVec Ideal S2048x1536 .f32) := ref_side A W

end Reference

open Idealize.SL.Sem

/-- The reference's frame: its run read at its arguments, which no operation writes; it declares no semaphore. -/
theorem frame_r : letI := Cert.MlaUqRefIdeal.Gen.facts; Cert.quiescent_MlaUqRefIdeal :=
  fun m ρ _ => (θ_run Cert.MlaUqRefIdeal.defs _ _).mono (fun r h => ⟨fun c => (h c).2, sem_eq_zero_of_no_sems (by decide) r.2⟩)
    (Cert.MlaUqRefIdeal.Value.run m ρ)

/-- The two programs' results are equal. -/
theorem algebraic : letI := Cert.MlaUqIdeal.Gen.facts; letI := Cert.MlaUqRefIdeal.Gen.facts; Cert.algebraic_MlaUqIdeal_MlaUqRefIdeal := by
  intro m g m' g' _ hagree
  refine ⟨fun c => (Cert.MlaUqIdeal.Gen.dats m 0 c).arrAt 2 Cert.MlaUqIdeal.cfg0.N, Cert.MlaUqIdeal.Value.run_blocks m g, ?_⟩
  refine (θ_run Cert.MlaUqRefIdeal.defs _ _).mono (fun r h c => ?_) (Cert.MlaUqRefIdeal.Value.run m' g')
  obtain ⟨a0, a1⟩ := hagree c
  obtain ⟨r0, rest⟩ := h c
  refine ⟨r0.trans ((Cert.MlaUqRefIdeal.Read.val_main_v1_eq _ _).trans ?_), rest⟩
  rw [a0, a1]
  refine Eq.trans ?_ (kernel_eq m c _ _ (eq_ev2 _) (eq_ev3 _)).symm
  exact (congrArg₂ Cert.MlaUqRefIdeal.Read.val_main_v1 (eq_ev2 _) (eq_ev3 _)).trans (reference_eq _ _)

end Cert.Mixer.MlaUq

end
-- ==== Proof.MixMlaUkv.lean ====
/-
  The keys' and values' second projection, from the compressed ones: the shards of its weight side by side. The grid
  runs over the tiles of the result, each of them the product of 1024 rows of the left operand and some columns of one
  shard.
-/
module

public import proofs.«01_k».proof.Defs
public import proofs.«01_k».proof.Proof.Shards
public import proofs.«01_k».proof.Proof.Gen.MlaUkvIdeal.Value
public import proofs.«01_k».proof.Proof.Gen.MlaUkvRefIdeal.Read

@[expose] public section

set_option maxRecDepth 16384

noncomputable section

namespace Cert.Mixer.MlaUkv

open Idealize.ShloMosaic Idealize.ShloMosaic.ValueIdx

section Kernel

open Cert.MlaUkvIdeal Cert.MlaUkvIdeal.Gen
open StableHlo

/-- The tile a point computes. -/
theorem out_eq (a : ℕ → ℕ → EReal) (w : ℕ → ℕ → ℕ → EReal) : out0_2 (F := Ideal) (ev2 .bf16 a) (ev3 .bf16 w)
    = (ev2 .f32 fun r c => ∑ k ∈ Finset.range 256, a r k * w 0 k c : FVec Ideal S1024x512 .f32) := by
  unfold out0_2
  rw [View.canon_cons_unit_zero (by funext a; fin_cases a <;> rfl), View.ld_unit_zero (by funext a; fin_cases a <;> rfl),
    View.ld_unit_zero (by funext a; fin_cases a <;> rfl)]
  unfold k0_pay1
  dsimp only
  rw [shapeCast_self, constant_zero]
  exact (congrArg (fun x => matmul (F := Ideal) dot_S1024x256_S256x512_S1024x512_1_0_0_1_n_n none (ev2 .bf16 a : FVec Ideal S1024x256 .bf16) x (ev2 .f32 fun _ _ => 0))
    (shapeCast_ev3 (m := 256) (n := 512) (φ := .bf16) w shapeCasts_S1x256x512_S256x512)).trans (matmul_nn 1024 256 512 none a (w 0))

/-- Where a point's rows of the left operand start. -/
theorem at0 : ∀ t : Fin cfg0.N, win0_0.index t 0 * win0_0.size 0 = 1024 * (t.val / 4) ∧ win0_0.index t 1 * win0_0.size 1 = 0 :=
  by decide +kernel

/-- The shard a point reads, and where its columns of it start. -/
theorem at1 : ∀ t : Fin cfg0.N, win0_1.index t 0 * win0_1.size 0 = t.val % 4 ∧ win0_1.index t 1 * win0_1.size 1 = 0
    ∧ win0_1.index t 2 * win0_1.size 2 = 0 :=
  by decide +kernel

/-- Where a point's tile of the result starts, and its extents. -/
theorem at2 : ∀ t : Fin cfg0.N, (win0_2.index t 0 * win0_2.size 0 = 1024 * (t.val / 4) ∧ win0_2.index t 1 * win0_2.size 1 = 512 * (t.val % 4))
    ∧ win0_2.xsize (grid0.coords t) 0 = 1024 ∧ win0_2.xsize (grid0.coords t) 1 = 512 :=
  by decide +kernel

section Arrays

variable (m : (ℓ : Loc nD τ sig) → Buf (Elt Ideal) ℓ) (c : Dev nD) (A : ℕ → ℕ → EReal) (W : ℕ → ℕ → ℕ → EReal)
  (hA : (V m c main_v0 : FVec Ideal S2048x256 .bf16) = ev2 .bf16 A)
  (hW : (V m c main_v1 : FVec Ideal S4x256x512 .bf16) = ev3 .bf16 W)

include hA in
theorem read0 (t : Fin cfg0.N) : (iblk m c 0 t : FVec Ideal S1024x256 .bf16)
    = ev2 .bf16 fun r d => A (1024 * (t.val / 4) + r) (0 + d) :=
  tileAt2 _ hA _ (win0_0.rect t).emb (fun _ => rfl) (win0_0.rect_emb_val t) (at0 t)

include hW in
theorem read1 (t : Fin cfg0.N) : (iblk m c 1 t : FVec Ideal S1x256x512 .bf16)
    = ev3 .bf16 fun _ r d => W (t.val % 4) (0 + r) (0 + d) :=
  tileAt3 _ hW _ (win0_1.rect t).emb (fun _ => rfl) (win0_1.rect_emb_val t) (at1 t)

/-- A point's product is its tile of the whole one. -/
theorem tile_eq (t r d : ℕ) (hd : d < 512) :
    ∑ k ∈ Finset.range 256, A (1024 * (t / 4) + r) (0 + k) * W (t % 4) (0 + k) (0 + d)
      = sideE 256 512 A W (1024 * (t / 4) + r) (512 * (t % 4) + d) :=
  Finset.sum_congr rfl fun k _ => by
    rw [Nat.zero_add k, show (512 * (t % 4) + d) / 512 = t % 4 by omega, show (512 * (t % 4) + d) % 512 = 0 + d by omega]

include hA hW
/-- The result. -/
theorem final2 : ((dats m 0 c).arrAt 2 cfg0.N : FVec Ideal S2048x2048 .f32) = ev2 .f32 (sideE 256 512 A W) := by
  refine (dats m 0 c).arrAt_eq_of_cover 2 _ (fun t _ => ?_) (fun i => ?_)
  · rw [Cert.MlaUkvIdeal.Value.flushed2]
    refine (congrArg _ ((congrArg₂ out0_2 (read0 m c A hA t) (read1 m c W hW t)).trans (out_eq _ _))).trans ?_
    have T := block2 (M := 2048) (N := 2048) (m := 1024) (n := 512) (φ := .f32) (sideE 256 512 A W) (win0_2.rect t).emb (win0_2.rect_emb_val t) (at2 t).1
    exact Eq.symm (T.trans (ev2_congr fun r _ d hd => (tile_eq A W t.val r d hd).symm))
  · have i0 : (i 0 : ℕ) < 2048 := (i 0).isLt
    have i1 : (i 1 : ℕ) < 2048 := (i 1).isLt
    have hN : cfg0.N = 8 := N_0
    refine ⟨⟨4 * ((i 0 : ℕ) / 1024) + (i 1 : ℕ) / 512, by omega⟩, flush0_2 _, ?_⟩
    generalize ht' : (⟨4 * ((i 0 : ℕ) / 1024) + (i 1 : ℕ) / 512, _⟩ : Fin cfg0.N) = t
    have hv' : t.val = 4 * ((i 0 : ℕ) / 1024) + (i 1 : ℕ) / 512 := by rw [← ht']
    show i ∈ ((View.whole main_v2).slice (win0_2.rect t)).set
    rw [View.set_slice_whole]
    exact mem_block2 (at2 t) (by omega) (by omega)

end Arrays

variable (m : (ℓ : Loc nD τ sig) → Buf (Elt Ideal) ℓ) (c : Dev nD)

/-- What the host hands the grid: the arguments in 16 bits. -/
theorem host0 : (V m c main_v0 : FVec Ideal S2048x256 .bf16) = narrow (m ((c.tc : Thread nD τ).loc main_arg0) : FVec Ideal S2048x256 .f32) := by
  simp only [V, hostOps0, TRef.binary, TRef.nullary, TRef.ternary, TRef.unary, TRef.toBuf, TRef.ofBuf, cast_eq]
  after_results_simp <;> rfl

theorem host1 : (V m c main_v1 : FVec Ideal S4x256x512 .bf16) = narrow (m ((c.tc : Thread nD τ).loc main_arg1) : FVec Ideal S4x256x512 .f32) := by
  simp only [V, hostOps0, TRef.binary, TRef.nullary, TRef.ternary, TRef.unary, TRef.toBuf, TRef.ofBuf, cast_eq]
  after_results_simp <;> rfl

/-- The kernel's result, from the entries of its arguments. -/
theorem kernel_eq (A : ℕ → ℕ → EReal) (W : ℕ → ℕ → ℕ → EReal) (hA : (m ((c.tc : Thread nD τ).loc main_arg0) : FVec Ideal S2048x256 .f32) = ev2 .f32 A)
    (hW : (m ((c.tc : Thread nD τ).loc main_arg1) : FVec Ideal S4x256x512 .f32) = ev3 .f32 W) :
    ((dats m 0 c).arrAt 2 cfg0.N : FVec Ideal S2048x2048 .f32) = ev2 .f32 (sideE 256 512 A W) :=
  final2 m c A W ((host0 m c).trans (narrow_ev2 hA)) ((host1 m c).trans (narrow_ev3 hW))

end Kernel

section Reference

open Cert.MlaUkvRefIdeal Cert.MlaUkvRefIdeal.Read

/-- The reference's product, a matrix for each shard. -/
theorem ref_prod (A : ℕ → ℕ → EReal) (W : ℕ → ℕ → ℕ → EReal) : val_main_v0 (F := Ideal) (ev2 .f32 A : FVec Ideal S2048x256 .f32) (ev3 .f32 W : FVec Ideal S4x256x512 .f32)
    = (ev3 .f32 fun r p c => ∑ k ∈ Finset.range 256, A r k * W p k c : FVec Ideal S2048x4x512 .f32) :=
  funext fun i => by
    rw [val_main_v0_apply]
    exact (Finset.sum_range fun k => A (i 0).val k * W (i 1).val k (i 2).val).symm

/-- The same matrices side by side. -/
theorem ref_side (A : ℕ → ℕ → EReal) (W : ℕ → ℕ → ℕ → EReal) : val_main_v1 (F := Ideal) (ev2 .f32 A : FVec Ideal S2048x256 .f32) (ev3 .f32 W : FVec Ideal S4x256x512 .f32)
    = (ev2 .f32 (sideE 256 512 A W) : FVec Ideal S2048x2048 .f32) := by
  unfold val_main_v1
  rw [ref_prod]
  exact join_ev3 (by norm_num) (by norm_num) (fun r p c => ∑ k ∈ Finset.range 256, A r k * W p k c) _

/-- The reference's result, from the entries of its arguments. -/
theorem reference_eq (A : ℕ → ℕ → EReal) (W : ℕ → ℕ → ℕ → EReal) : val_main_v1 (F := Ideal) (ev2 .f32 A : FVec Ideal S2048x256 .f32) (ev3 .f32 W : FVec Ideal S4x256x512 .f32)
    = (ev2 .f32 (sideE 256 512 A W) : FVec Ideal S2048x2048 .f32) := ref_side A W

end Reference

open Idealize.SL.Sem

/-- The reference's frame: its run read at its arguments, which no operation writes; it declares no semaphore. -/
theorem frame_r : letI := Cert.MlaUkvRefIdeal.Gen.facts; Cert.quiescent_MlaUkvRefIdeal :=
  fun m ρ _ => (θ_run Cert.MlaUkvRefIdeal.defs _ _).mono (fun r h => ⟨fun c => (h c).2, sem_eq_zero_of_no_sems (by decide) r.2⟩)
    (Cert.MlaUkvRefIdeal.Value.run m ρ)

/-- The two programs' results are equal. -/
theorem algebraic : letI := Cert.MlaUkvIdeal.Gen.facts; letI := Cert.MlaUkvRefIdeal.Gen.facts; Cert.algebraic_MlaUkvIdeal_MlaUkvRefIdeal := by
  intro m g m' g' _ hagree
  refine ⟨fun c => (Cert.MlaUkvIdeal.Gen.dats m 0 c).arrAt 2 Cert.MlaUkvIdeal.cfg0.N, Cert.MlaUkvIdeal.Value.run_blocks m g, ?_⟩
  refine (θ_run Cert.MlaUkvRefIdeal.defs _ _).mono (fun r h c => ?_) (Cert.MlaUkvRefIdeal.Value.run m' g')
  obtain ⟨a0, a1⟩ := hagree c
  obtain ⟨r0, rest⟩ := h c
  refine ⟨r0.trans ((Cert.MlaUkvRefIdeal.Read.val_main_v1_eq _ _).trans ?_), rest⟩
  rw [a0, a1]
  refine Eq.trans ?_ (kernel_eq m c _ _ (eq_ev2 _) (eq_ev3 _)).symm
  exact (congrArg₂ Cert.MlaUkvRefIdeal.Read.val_main_v1 (eq_ev2 _) (eq_ev3 _)).trans (reference_eq _ _)

end Cert.Mixer.MlaUkv

end
-- ==== Proof.MixMlaDwuq.lean ====
/-
  The gradient of the weight of the queries' second projection, as the four shards of its columns. The grid runs over
  the tiles of the result, each of them the product of some columns of the one operand and some columns of the other,
  over all rows.
-/
module

public import proofs.«01_k».proof.Defs
public import proofs.«01_k».proof.Proof.Shards
public import proofs.«01_k».proof.Proof.Gen.MlaDwuqIdeal.Value
public import proofs.«01_k».proof.Proof.Gen.MlaDwuqRefIdeal.Read

@[expose] public section

set_option maxRecDepth 16384

noncomputable section

namespace Cert.Mixer.MlaDwuq

open Idealize.ShloMosaic Idealize.ShloMosaic.ValueIdx

section Kernel

open Cert.MlaDwuqIdeal Cert.MlaDwuqIdeal.Gen
open StableHlo

/-- The tile a point computes. -/
theorem pay_eq (a g : ℕ → ℕ → EReal) : k0_pay1 (F := Ideal) (ev2 .bf16 a) (ev2 .bf16 g)
    = (ev3 .bf16 fun _ r c => ∑ k ∈ Finset.range 2048, a k r * g k c : FVec Ideal S1x512x384 .bf16) := by
  unfold k0_pay1
  dsimp only
  rw [shapeCast_self, shapeCast_self, constant_zero]
  refine (congrArg (fun x => shapeCast S1x512x384 (truncf .bf16 x _) _) (matmul_tn 512 2048 384 _ a g)).trans ?_
  rw [truncf_ev2]
  exact shapeCast_ev2 _ _

theorem out_eq (a g : ℕ → ℕ → EReal) : out0_2 (F := Ideal) (ev2 .bf16 a) (ev2 .bf16 g)
    = (ev3 .bf16 fun _ r c => ∑ k ∈ Finset.range 2048, a k r * g k c : FVec Ideal S1x512x384 .bf16) := by
  unfold out0_2
  rw [View.canon_cons_unit_zero (by funext a; fin_cases a <;> rfl), View.ld_unit_zero (by funext a; fin_cases a <;> rfl),
    View.ld_unit_zero (by funext a; fin_cases a <;> rfl)]
  exact pay_eq a g

/-- Where a point's columns of the left operand start. -/
theorem at0 : ∀ t : Fin cfg0.N, win0_0.index t 0 * win0_0.size 0 = 0 ∧ win0_0.index t 1 * win0_0.size 1 = 0 :=
  by decide +kernel

/-- Where a point's columns of the right operand start. -/
theorem at1 : ∀ t : Fin cfg0.N, win0_1.index t 0 * win0_1.size 0 = 0 ∧ win0_1.index t 1 * win0_1.size 1 = 384 * (t.val % 4) :=
  by decide +kernel

/-- Where a point's tile starts, and its extents. -/
theorem at2 : ∀ t : Fin cfg0.N, (win0_2.index t 0 * win0_2.size 0 = t.val % 4 ∧ win0_2.index t 1 * win0_2.size 1 = 0
    ∧ win0_2.index t 2 * win0_2.size 2 = 0) ∧ win0_2.xsize (grid0.coords t) 0 = 1
    ∧ win0_2.xsize (grid0.coords t) 1 = 512 ∧ win0_2.xsize (grid0.coords t) 2 = 384 :=
  by decide +kernel

section Arrays

variable (m : (ℓ : Loc nD τ sig) → Buf (Elt Ideal) ℓ) (c : Dev nD) (A G : ℕ → ℕ → EReal)
  (hA : (V m c main_v0 : FVec Ideal S2048x512 .bf16) = ev2 .bf16 A)
  (hG : (V m c main_v1 : FVec Ideal S2048x1536 .bf16) = ev2 .bf16 G)

include hA in
theorem read0 (t : Fin cfg0.N) : (iblk m c 0 t : FVec Ideal S2048x512 .bf16)
    = ev2 .bf16 fun r d => A (0 + r) (0 + d) :=
  tileAt2 _ hA _ (win0_0.rect t).emb (fun _ => rfl) (win0_0.rect_emb_val t) (at0 t)

include hG in
theorem read1 (t : Fin cfg0.N) : (iblk m c 1 t : FVec Ideal S2048x384 .bf16)
    = ev2 .bf16 fun r d => G (0 + r) (384 * (t.val % 4) + d) :=
  tileAt2 _ hG _ (win0_1.rect t).emb (fun _ => rfl) (win0_1.rect_emb_val t) (at1 t)

include hA hG in
/-- The result. -/
theorem final2 : ((dats m 0 c).arrAt 2 cfg0.N : FVec Ideal S4x512x384 .bf16) = ev3 .bf16 (gramE 2048 384 A G) := by
  refine (dats m 0 c).arrAt_eq_of_cover 2 _ (fun t _ => ?_) (fun i => ?_)
  · rw [Cert.MlaDwuqIdeal.Value.flushed2]
    refine (congrArg _ ((congrArg₂ out0_2 (read0 m c A hA t) (read1 m c G hG t)).trans (out_eq _ _))).trans ?_
    have T := block3 (L := 4) (M := 512) (N := 384) (m := 512) (n := 384) (φ := .bf16) (gramE 2048 384 A G) (win0_2.rect t).emb (win0_2.rect_emb_val t) (at2 t).1
    refine Eq.symm (T.trans (ev3_congr fun _ _ r _ d _ => Finset.sum_congr rfl fun k _ => ?_))
    rw [Nat.zero_add k, show 384 * (t.val % 4) + (0 + d) = 384 * (t.val % 4) + d by omega]
  · have i0 : (i 0 : ℕ) < 4 := (i 0).isLt
    have i1 : (i 1 : ℕ) < 512 := (i 1).isLt
    have i2 : (i 2 : ℕ) < 384 := (i 2).isLt
    have hN : cfg0.N = 4 := N_0
    refine ⟨⟨(i 0 : ℕ), by omega⟩, flush0_2 _, ?_⟩
    generalize ht' : (⟨(i 0 : ℕ), _⟩ : Fin cfg0.N) = t
    have hv' : t.val = (i 0 : ℕ) := by rw [← ht']
    show i ∈ ((View.whole main_v2).slice (win0_2.rect t)).set
    rw [View.set_slice_whole]
    exact mem_block3 (at2 t) (by omega) (by omega) (by omega)

end Arrays

variable (m : (ℓ : Loc nD τ sig) → Buf (Elt Ideal) ℓ) (c : Dev nD)

/-- What the host hands the grid: the two arguments in 16 bits. -/
theorem host0 : (V m c main_v0 : FVec Ideal S2048x512 .bf16) = narrow (m ((c.tc : Thread nD τ).loc main_arg0) : FVec Ideal S2048x512 .f32) := by
  simp only [V, hostOps0, TRef.binary, TRef.nullary, TRef.ternary, TRef.unary, TRef.toBuf, TRef.ofBuf, cast_eq]
  after_results_simp <;> rfl

theorem host1 : (V m c main_v1 : FVec Ideal S2048x1536 .bf16) = narrow (m ((c.tc : Thread nD τ).loc main_arg1) : FVec Ideal S2048x1536 .f32) := by
  simp only [V, hostOps0, TRef.binary, TRef.nullary, TRef.ternary, TRef.unary, TRef.toBuf, TRef.ofBuf, cast_eq]
  after_results_simp <;> rfl

/-- The kernel's result, from the entries of its arguments. -/
theorem kernel_eq (A G : ℕ → ℕ → EReal) (hA : (m ((c.tc : Thread nD τ).loc main_arg0) : FVec Ideal S2048x512 .f32) = ev2 .f32 A)
    (hG : (m ((c.tc : Thread nD τ).loc main_arg1) : FVec Ideal S2048x1536 .f32) = ev2 .f32 G) :
    ((dats m 0 c).arrAt 2 cfg0.N : FVec Ideal S4x512x384 .bf16) = ev3 .bf16 (gramE 2048 384 A G) :=
  final2 m c A G ((host0 m c).trans (narrow_ev2 hA)) ((host1 m c).trans (narrow_ev2 hG))

end Kernel

section Reference

open Cert.MlaDwuqRefIdeal Cert.MlaDwuqRefIdeal.Read

/-- The reference's result, from the entries of its arguments. -/
theorem reference_eq (A G : ℕ → ℕ → EReal) : val_main_v6 (F := Ideal) (ev2 .f32 A : FVec Ideal S2048x512 .f32) (ev2 .f32 G : FVec Ideal S2048x1536 .f32)
    = (ev3 .bf16 (gramE 2048 384 A G) : FVec Ideal S4x512x384 .bf16) :=
  funext fun i => by
    show val_main_v5 (F := Ideal) _ _ i = _
    rw [val_main_v5_apply, val_main_v4_apply]
    refine Eq.trans ?_ (Finset.sum_range fun k => A k (i 1).val * G k (384 * (i 0).val + (i 2).val)).symm
    refine Finset.sum_congr rfl fun k _ => ?_
    have i0 : (i 0).val < 4 := (i 0).isLt
    have i2 : (i 2).val < 384 := (i 2).isLt
    rw [val_main_v3_apply]
    show G (((k.val * 4 + (i 0).val) * 384 + (i 2).val) / 1536) (((k.val * 4 + (i 0).val) * 384 + (i 2).val) % 1536) * A k.val (i 1).val = _
    rw [show ((k.val * 4 + (i 0).val) * 384 + (i 2).val) / 1536 = k.val by omega,
      show ((k.val * 4 + (i 0).val) * 384 + (i 2).val) % 1536 = 384 * (i 0).val + (i 2).val by omega]
    exact mul_comm _ _

end Reference

open Idealize.SL.Sem

/-- The reference's frame: its run read at its arguments, which no operation writes; it declares no semaphore. -/
theorem frame_r : letI := Cert.MlaDwuqRefIdeal.Gen.facts; Cert.quiescent_MlaDwuqRefIdeal :=
  fun m ρ _ => (θ_run Cert.MlaDwuqRefIdeal.defs _ _).mono (fun r h => ⟨fun c => (h c).2, sem_eq_zero_of_no_sems (by decide) r.2⟩)
    (Cert.MlaDwuqRefIdeal.Value.run m ρ)

/-- The two programs' results are equal. -/
theorem algebraic : letI := Cert.MlaDwuqIdeal.Gen.facts; letI := Cert.MlaDwuqRefIdeal.Gen.facts; Cert.algebraic_MlaDwuqIdeal_MlaDwuqRefIdeal := by
  intro m g m' g' _ hagree
  refine ⟨fun c => (Cert.MlaDwuqIdeal.Gen.dats m 0 c).arrAt 2 Cert.MlaDwuqIdeal.cfg0.N, Cert.MlaDwuqIdeal.Value.run_blocks m g, ?_⟩
  refine (θ_run Cert.MlaDwuqRefIdeal.defs _ _).mono (fun r h c => ?_) (Cert.MlaDwuqRefIdeal.Value.run m' g')
  obtain ⟨a0, a1⟩ := hagree c
  obtain ⟨r0, rest⟩ := h c
  refine ⟨r0.trans ((Cert.MlaDwuqRefIdeal.Read.val_main_v6_eq _ _).trans ?_), rest⟩
  rw [a0, a1]
  refine Eq.trans ?_ (kernel_eq m c _ _ (eq_ev2 _) (eq_ev2 _)).symm
  exact (congrArg₂ Cert.MlaDwuqRefIdeal.Read.val_main_v6 (eq_ev2 _) (eq_ev2 _)).trans (reference_eq _ _)

end Cert.Mixer.MlaDwuq

end
-- ==== Proof.MixMlaDwukv.lean ====
/-
  The gradient of the weight of the keys' and values' second projection, as the four shards of its columns. The grid
  runs over the tiles of the result, each of them the product of some columns of the one operand and some columns of the
  other, over all rows.
-/
module

public import proofs.«01_k».proof.Defs
public import proofs.«01_k».proof.Proof.Shards
public import proofs.«01_k».proof.Proof.Gen.MlaDwukvIdeal.Value
public import proofs.«01_k».proof.Proof.Gen.MlaDwukvRefIdeal.Read

@[expose] public section

set_option maxRecDepth 16384

noncomputable section

namespace Cert.Mixer.MlaDwukv

open Idealize.ShloMosaic Idealize.ShloMosaic.ValueIdx

section Kernel

open Cert.MlaDwukvIdeal Cert.MlaDwukvIdeal.Gen
open StableHlo

/-- The tile a point computes. -/
theorem pay_eq (a g : ℕ → ℕ → EReal) : k0_pay1 (F := Ideal) (ev2 .bf16 a) (ev2 .bf16 g)
    = (ev3 .bf16 fun _ r c => ∑ k ∈ Finset.range 2048, a k r * g k c : FVec Ideal S1x256x512 .bf16) := by
  unfold k0_pay1
  dsimp only
  rw [shapeCast_self, shapeCast_self, constant_zero]
  refine (congrArg (fun x => shapeCast S1x256x512 (truncf .bf16 x _) _) (matmul_tn 256 2048 512 _ a g)).trans ?_
  rw [truncf_ev2]
  exact shapeCast_ev2 _ _

theorem out_eq (a g : ℕ → ℕ → EReal) : out0_2 (F := Ideal) (ev2 .bf16 a) (ev2 .bf16 g)
    = (ev3 .bf16 fun _ r c => ∑ k ∈ Finset.range 2048, a k r * g k c : FVec Ideal S1x256x512 .bf16) := by
  unfold out0_2
  rw [View.canon_cons_unit_zero (by funext a; fin_cases a <;> rfl), View.ld_unit_zero (by funext a; fin_cases a <;> rfl),
    View.ld_unit_zero (by funext a; fin_cases a <;> rfl)]
  exact pay_eq a g

/-- Where a point's columns of the left operand start. -/
theorem at0 : ∀ t : Fin cfg0.N, win0_0.index t 0 * win0_0.size 0 = 0 ∧ win0_0.index t 1 * win0_0.size 1 = 0 :=
  by decide +kernel

/-- Where a point's columns of the right operand start. -/
theorem at1 : ∀ t : Fin cfg0.N, win0_1.index t 0 * win0_1.size 0 = 0 ∧ win0_1.index t 1 * win0_1.size 1 = 512 * (t.val % 4) :=
  by decide +kernel

/-- Where a point's tile starts, and its extents. -/
theorem at2 : ∀ t : Fin cfg0.N, (win0_2.index t 0 * win0_2.size 0 = t.val % 4 ∧ win0_2.index t 1 * win0_2.size 1 = 0
    ∧ win0_2.index t 2 * win0_2.size 2 = 0) ∧ win0_2.xsize (grid0.coords t) 0 = 1
    ∧ win0_2.xsize (grid0.coords t) 1 = 256 ∧ win0_2.xsize (grid0.coords t) 2 = 512 :=
  by decide +kernel

section Arrays

variable (m : (ℓ : Loc nD τ sig) → Buf (Elt Ideal) ℓ) (c : Dev nD) (A G : ℕ → ℕ → EReal)
  (hA : (V m c main_v0 : FVec Ideal S2048x256 .bf16) = ev2 .bf16 A)
  (hG : (V m c main_v1 : FVec Ideal S2048x2048 .bf16) = ev2 .bf16 G)

include hA in
theorem read0 (t : Fin cfg0.N) : (iblk m c 0 t : FVec Ideal S2048x256 .bf16)
    = ev2 .bf16 fun r d => A (0 + r) (0 + d) :=
  tileAt2 _ hA _ (win0_0.rect t).emb (fun _ => rfl) (win0_0.rect_emb_val t) (at0 t)

include hG in
theorem read1 (t : Fin cfg0.N) : (iblk m c 1 t : FVec Ideal S2048x512 .bf16)
    = ev2 .bf16 fun r d => G (0 + r) (512 * (t.val % 4) + d) :=
  tileAt2 _ hG _ (win0_1.rect t).emb (fun _ => rfl) (win0_1.rect_emb_val t) (at1 t)

include hA hG in
/-- The result. -/
theorem final2 : ((dats m 0 c).arrAt 2 cfg0.N : FVec Ideal S4x256x512 .bf16) = ev3 .bf16 (gramE 2048 512 A G) := by
  refine (dats m 0 c).arrAt_eq_of_cover 2 _ (fun t _ => ?_) (fun i => ?_)
  · rw [Cert.MlaDwukvIdeal.Value.flushed2]
    refine (congrArg _ ((congrArg₂ out0_2 (read0 m c A hA t) (read1 m c G hG t)).trans (out_eq _ _))).trans ?_
    have T := block3 (L := 4) (M := 256) (N := 512) (m := 256) (n := 512) (φ := .bf16) (gramE 2048 512 A G) (win0_2.rect t).emb (win0_2.rect_emb_val t) (at2 t).1
    refine Eq.symm (T.trans (ev3_congr fun _ _ r _ d _ => Finset.sum_congr rfl fun k _ => ?_))
    rw [Nat.zero_add k, show 512 * (t.val % 4) + (0 + d) = 512 * (t.val % 4) + d by omega]
  · have i0 : (i 0 : ℕ) < 4 := (i 0).isLt
    have i1 : (i 1 : ℕ) < 256 := (i 1).isLt
    have i2 : (i 2 : ℕ) < 512 := (i 2).isLt
    have hN : cfg0.N = 4 := N_0
    refine ⟨⟨(i 0 : ℕ), by omega⟩, flush0_2 _, ?_⟩
    generalize ht' : (⟨(i 0 : ℕ), _⟩ : Fin cfg0.N) = t
    have hv' : t.val = (i 0 : ℕ) := by rw [← ht']
    show i ∈ ((View.whole main_v2).slice (win0_2.rect t)).set
    rw [View.set_slice_whole]
    exact mem_block3 (at2 t) (by omega) (by omega) (by omega)

end Arrays

variable (m : (ℓ : Loc nD τ sig) → Buf (Elt Ideal) ℓ) (c : Dev nD)

/-- What the host hands the grid: the two arguments in 16 bits. -/
theorem host0 : (V m c main_v0 : FVec Ideal S2048x256 .bf16) = narrow (m ((c.tc : Thread nD τ).loc main_arg0) : FVec Ideal S2048x256 .f32) := by
  simp only [V, hostOps0, TRef.binary, TRef.nullary, TRef.ternary, TRef.unary, TRef.toBuf, TRef.ofBuf, cast_eq]
  after_results_simp <;> rfl

theorem host1 : (V m c main_v1 : FVec Ideal S2048x2048 .bf16) = narrow (m ((c.tc : Thread nD τ).loc main_arg1) : FVec Ideal S2048x2048 .f32) := by
  simp only [V, hostOps0, TRef.binary, TRef.nullary, TRef.ternary, TRef.unary, TRef.toBuf, TRef.ofBuf, cast_eq]
  after_results_simp <;> rfl

/-- The kernel's result, from the entries of its arguments. -/
theorem kernel_eq (A G : ℕ → ℕ → EReal) (hA : (m ((c.tc : Thread nD τ).loc main_arg0) : FVec Ideal S2048x256 .f32) = ev2 .f32 A)
    (hG : (m ((c.tc : Thread nD τ).loc main_arg1) : FVec Ideal S2048x2048 .f32) = ev2 .f32 G) :
    ((dats m 0 c).arrAt 2 cfg0.N : FVec Ideal S4x256x512 .bf16) = ev3 .bf16 (gramE 2048 512 A G) :=
  final2 m c A G ((host0 m c).trans (narrow_ev2 hA)) ((host1 m c).trans (narrow_ev2 hG))

end Kernel

section Reference

open Cert.MlaDwukvRefIdeal Cert.MlaDwukvRefIdeal.Read

/-- The reference's result, from the entries of its arguments. -/
theorem reference_eq (A G : ℕ → ℕ → EReal) : val_main_v6 (F := Ideal) (ev2 .f32 A : FVec Ideal S2048x256 .f32) (ev2 .f32 G : FVec Ideal S2048x2048 .f32)
    = (ev3 .bf16 (gramE 2048 512 A G) : FVec Ideal S4x256x512 .bf16) :=
  funext fun i => by
    show val_main_v5 (F := Ideal) _ _ i = _
    rw [val_main_v5_apply, val_main_v4_apply]
    refine Eq.trans ?_ (Finset.sum_range fun k => A k (i 1).val * G k (512 * (i 0).val + (i 2).val)).symm
    refine Finset.sum_congr rfl fun k _ => ?_
    have i0 : (i 0).val < 4 := (i 0).isLt
    have i2 : (i 2).val < 512 := (i 2).isLt
    rw [val_main_v3_apply]
    show G (((k.val * 4 + (i 0).val) * 512 + (i 2).val) / 2048) (((k.val * 4 + (i 0).val) * 512 + (i 2).val) % 2048) * A k.val (i 1).val = _
    rw [show ((k.val * 4 + (i 0).val) * 512 + (i 2).val) / 2048 = k.val by omega,
      show ((k.val * 4 + (i 0).val) * 512 + (i 2).val) % 2048 = 512 * (i 0).val + (i 2).val by omega]
    exact mul_comm _ _

end Reference

open Idealize.SL.Sem

/-- The reference's frame: its run read at its arguments, which no operation writes; it declares no semaphore. -/
theorem frame_r : letI := Cert.MlaDwukvRefIdeal.Gen.facts; Cert.quiescent_MlaDwukvRefIdeal :=
  fun m ρ _ => (θ_run Cert.MlaDwukvRefIdeal.defs _ _).mono (fun r h => ⟨fun c => (h c).2, sem_eq_zero_of_no_sems (by decide) r.2⟩)
    (Cert.MlaDwukvRefIdeal.Value.run m ρ)

/-- The two programs' results are equal. -/
theorem algebraic : letI := Cert.MlaDwukvIdeal.Gen.facts; letI := Cert.MlaDwukvRefIdeal.Gen.facts; Cert.algebraic_MlaDwukvIdeal_MlaDwukvRefIdeal := by
  intro m g m' g' _ hagree
  refine ⟨fun c => (Cert.MlaDwukvIdeal.Gen.dats m 0 c).arrAt 2 Cert.MlaDwukvIdeal.cfg0.N, Cert.MlaDwukvIdeal.Value.run_blocks m g, ?_⟩
  refine (θ_run Cert.MlaDwukvRefIdeal.defs _ _).mono (fun r h c => ?_) (Cert.MlaDwukvRefIdeal.Value.run m' g')
  obtain ⟨a0, a1⟩ := hagree c
  obtain ⟨r0, rest⟩ := h c
  refine ⟨r0.trans ((Cert.MlaDwukvRefIdeal.Read.val_main_v6_eq _ _).trans ?_), rest⟩
  rw [a0, a1]
  refine Eq.trans ?_ (kernel_eq m c _ _ (eq_ev2 _) (eq_ev2 _)).symm
  exact (congrArg₂ Cert.MlaDwukvRefIdeal.Read.val_main_v6 (eq_ev2 _) (eq_ev2 _)).trans (reference_eq _ _)

end Cert.Mixer.MlaDwukv

end
-- ==== Proof.MixMlaDcq.lean ====
/-
  The gradient of the compressed queries: `dq` times the transpose of the queries' second weight, summed over the
  shards. The grid runs over the tiles of the result and, for each of them, over the four shards: the first shard's
  product is left in a scratch, the next two are added to it, and the last is added on the way to the result.
-/
module

public import proofs.«01_k».proof.Defs
public import proofs.«01_k».proof.Proof.Shards
public import proofs.«01_k».proof.Proof.Gen.MlaDcqIdeal.Value
public import proofs.«01_k».proof.Proof.Gen.MlaDcqRefIdeal.Read
public import Idealize.ShloMosaic.Lib.VecWindow

@[expose] public section

set_option maxRecDepth 16384

noncomputable section

namespace Cert.Mixer.MlaDcq

open Idealize.ShloMosaic Idealize.ShloMosaic.ValueIdx

section Kernel

open Cert.MlaDcqIdeal Cert.MlaDcqIdeal.Gen
open StableHlo

/-- The product a point computes. -/
theorem pay1_eq (a : ℕ → ℕ → EReal) (w : ℕ → ℕ → ℕ → EReal) : k0_pay1 (F := Ideal) (ev2 .bf16 a) (ev3 .bf16 w)
    = (ev2 .f32 fun r d => ∑ k ∈ Finset.range 384, a r k * w 0 d k : FVec Ideal S1024x512 .f32) := by
  unfold k0_pay1
  dsimp only
  rw [shapeCast_self, constant_zero]
  exact (congrArg (fun x => matmul _ _ _ x _) (shapeCast_ev3 w _)).trans (matmul_nt 1024 384 512 _ a (w 0))

section Point

variable (c : Dev nD) (i : grid0.Coords) (arg3 : Memref sig .tc .vmem S1024x384 .bf16) (harg3 : arg3.IsWhole) (arg4 : Memref sig .tc .vmem S1x512x384 .bf16) (harg4 : arg4.IsWhole)
  (arg5 : Memref sig .tc .vmem S1024x512 .f32) (harg5 : arg5.IsWhole) (arg6 : Memref sig .tc .vmem S1024x512 .f32) (harg6 : arg6.IsWhole)
  {x0 : Vec Ideal S1024x384 .bf16} {x1 : Vec Ideal S1x512x384 .bf16} {xs : Vec Ideal S1024x512 .f32} {a s : ℕ → ℕ → EReal} {w : ℕ → ℕ → ℕ → EReal}
  (h0 : x0 = (ev2 .bf16 a : FVec Ideal S1024x384 .bf16)) (h1 : x1 = (ev3 .bf16 w : FVec Ideal S1x512x384 .bf16))
  (hs : xs = (ev2 .f32 s : FVec Ideal S1024x512 .f32))

include h0 h1

/-- What the first shard's point leaves in the scratch. -/
theorem first_eq (hc0 : cond0_0 i) (hc1 : ¬cond0_1 i) (hc2 : ¬cond0_2 i) :
    sout0_A_0 (F := Ideal) c i arg3 harg3 arg4 harg4 arg5 harg5 arg6 harg6 hc0 hc1 hc2 x0 x1
      = (ev2 .f32 fun r d => ∑ k ∈ Finset.range 384, a r k * w 0 d k : FVec Ideal S1024x512 .f32) := by
  unfold sout0_A_0 kernelRun0_A
  dsimp only
  refine (View.read_writes_full _ _ _ _ _).trans ?_
  refine (congrArg₂ k0_pay2 ((View.readAt_full _ _ _).trans ((harg3.read_unread x0).trans h0))
    ((View.readAt_full _ _ _).trans ((harg4.read_unread x1).trans h1))).trans ?_
  unfold k0_pay2
  dsimp only
  rw [shapeCast_self, pay1_eq]

include hs

/-- What a middle shard's point leaves in the scratch. -/
theorem middle_eq (hc0 : ¬cond0_0 i) (hc1 : cond0_1 i) (hc2 : ¬cond0_2 i) :
    sout0_B_0 (F := Ideal) c i arg3 harg3 arg4 harg4 arg5 harg5 arg6 harg6 hc0 hc1 hc2 x0 x1 xs
      = (ev2 .f32 fun r d => s r d + ∑ k ∈ Finset.range 384, a r k * w 0 d k : FVec Ideal S1024x512 .f32) := by
  unfold sout0_B_0 kernelRun0_B
  dsimp only
  refine (View.read_writes_full _ _ _ _ _).trans ?_
  refine (congrArg₂ (fun x y => k0_pay3 x y _) ((View.readAt_full _ _ _).trans ((harg3.read_unread x0).trans h0))
    ((View.readAt_full _ _ _).trans ((harg4.read_unread x1).trans h1))).trans ?_
  refine (congrArg (k0_pay3 _ _) ((View.readAt_full _ _ _).trans ((harg6.read_unread xs).trans hs))).trans ?_
  unfold k0_pay3
  dsimp only
  rw [shapeCast_self, pay1_eq, addf_ev2]

/-- What the last shard's point leaves in the result's tile. -/
theorem last_eq (hc0 : ¬cond0_0 i) (hc1 : ¬cond0_1 i) (hc2 : cond0_2 i) :
    out0_C_2 (F := Ideal) c i arg3 harg3 arg4 harg4 arg5 harg5 arg6 harg6 hc0 hc1 hc2 x0 x1 xs
      = (ev2 .f32 fun r d => s r d + ∑ k ∈ Finset.range 384, a r k * w 0 d k : FVec Ideal S1024x512 .f32) := by
  unfold out0_C_2 kernelRun0_C
  dsimp only
  refine (View.read_writes_full _ _ _ _ _).trans ?_
  refine (congrArg₂ (fun x y => k0_pay4 x y _) ((View.readAt_full _ _ _).trans ((harg3.read_unread x0).trans h0))
    ((View.readAt_full _ _ _).trans ((harg4.read_unread x1).trans h1))).trans ?_
  refine (congrArg (k0_pay4 _ _) ((View.readAt_full _ _ _).trans ((harg6.read_unread xs).trans hs))).trans ?_
  unfold k0_pay4
  dsimp only
  rw [pay1_eq, addf_ev2]

end Point

/-- Where a point's rows and its shard's columns of the left operand start. -/
theorem at0 : ∀ t : Fin cfg0.N, win0_0.index t 0 * win0_0.size 0 = 1024 * (t.val / 4) ∧ win0_0.index t 1 * win0_0.size 1 = 384 * (t.val % 4) :=
  by decide +kernel

/-- The shard a point reads, and where its rows of it start. -/
theorem at1 : ∀ t : Fin cfg0.N, win0_1.index t 0 * win0_1.size 0 = t.val % 4 ∧ win0_1.index t 1 * win0_1.size 1 = 0
    ∧ win0_1.index t 2 * win0_1.size 2 = 0 :=
  by decide +kernel

/-- Where its tile of the result starts, and its extents. -/
theorem at2 : ∀ t : Fin cfg0.N, (win0_2.index t 0 * win0_2.size 0 = 1024 * (t.val / 4) ∧ win0_2.index t 1 * win0_2.size 1 = 0)
    ∧ win0_2.xsize (grid0.coords t) 0 = 1024 ∧ win0_2.xsize (grid0.coords t) 1 = 512 :=
  by decide +kernel

section Arrays

variable (m : (ℓ : Loc nD τ sig) → Buf (Elt Ideal) ℓ) (c : Dev nD) (A : ℕ → ℕ → EReal) (W : ℕ → ℕ → ℕ → EReal)
  (hA : (V m c main_v0 : FVec Ideal S2048x1536 .bf16) = ev2 .bf16 A)
  (hW : (V m c main_v1 : FVec Ideal S4x512x384 .bf16) = ev3 .bf16 W)

include hA in
theorem read0 (t : Fin cfg0.N) : (iblk m c 0 t : FVec Ideal S1024x384 .bf16)
    = ev2 .bf16 fun r d => A (1024 * (t.val / 4) + r) (384 * (t.val % 4) + d) :=
  tileAt2 _ hA _ (win0_0.rect t).emb (fun _ => rfl) (win0_0.rect_emb_val t) (at0 t)

include hW in
theorem read1 (t : Fin cfg0.N) : (iblk m c 1 t : FVec Ideal S1x512x384 .bf16)
    = ev3 .bf16 fun _ r d => W (t.val % 4) (0 + r) (0 + d) :=
  tileAt3 _ hW _ (win0_1.rect t).emb (fun _ => rfl) (win0_1.rect_emb_val t) (at1 t)

include hA hW
/-- What the scratch holds after the first point of a tile. -/
theorem scratch_first (t : Fin cfg0.N) (h0 : t.val % 4 = 0) : ((outsAt0 m c t.val t.isLt).2 : FVec Ideal S1024x512 .f32)
    = ev2 .f32 fun r d => partE 384 A W (t.val % 4 + 1) (1024 * (t.val / 4) + r) (0 + d) := by
  have h1 : ¬(1 ≤ t.val % 4 ∧ t.val % 4 ≤ 2) := by omega
  have h2 : ¬t.val % 4 = 3 := by omega
  have P := first_eq c (grid0.coords t) (ms0_0 t) (hs0_0 t) (ms0_1 t) (hs0_1 t) (ms0_2 t) (hs0_2 t) scM0_0 (Memref.isWhole_whole _)
    (read0 m c A hA t) (read1 m c W hW t) ((hcond0_0 t).mpr h0) (fun h => h1 ((hcond0_1 t).mp h)) (fun h => h2 ((hcond0_2 t).mp h))
  rw [outsAt0_A m c t h0 h1 h2]
  dsimp only
  rw [P]
  refine ev2_congr fun r _ d _ => ?_
  rw [h0, partE_succ, partE_zero, zero_add (blockE _ _ _ _ _ _)]
  exact Finset.sum_congr rfl fun k _ => by rw [Nat.zero_add k]

/-- What it holds after a middle point, from what it held after the one before. -/
theorem scratch_middle (t : Fin cfg0.N) (h0 : ¬t.val % 4 = 0) (h3 : ¬t.val % 4 = 3)
    (ih : ((outsAt0 m c (t.val - 1) (Nat.lt_of_le_of_lt (Nat.sub_le _ _) t.isLt)).2 : FVec Ideal S1024x512 .f32)
      = ev2 .f32 fun r d => partE 384 A W (t.val % 4) (1024 * (t.val / 4) + r) (0 + d)) :
    ((outsAt0 m c t.val t.isLt).2 : FVec Ideal S1024x512 .f32)
    = ev2 .f32 fun r d => partE 384 A W (t.val % 4 + 1) (1024 * (t.val / 4) + r) (0 + d) := by
  have h1 : 1 ≤ t.val % 4 ∧ t.val % 4 ≤ 2 := by omega
  have P := middle_eq c (grid0.coords t) (ms0_0 t) (hs0_0 t) (ms0_1 t) (hs0_1 t) (ms0_2 t) (hs0_2 t) scM0_0 (Memref.isWhole_whole _)
    (read0 m c A hA t) (read1 m c W hW t) ih (fun h => h0 ((hcond0_0 t).mp h)) ((hcond0_1 t).mpr h1) (fun h => h3 ((hcond0_2 t).mp h))
  rw [outsAt0_B m c t h0 h1 h3]
  dsimp only
  rw [P]
  refine ev2_congr fun r _ d _ => ?_
  rw [partE_succ]
  exact congrArg _ (Finset.sum_congr rfl fun k _ => by rw [Nat.zero_add k])

/-- What the scratch holds after a point that is not the last of its tile: the shards so far. -/
theorem scratch_eq (n : ℕ) : ∀ hn : n < cfg0.N, ¬n % 4 = 3 → ((outsAt0 m c n hn).2 : FVec Ideal S1024x512 .f32)
    = ev2 .f32 fun r d => partE 384 A W (n % 4 + 1) (1024 * (n / 4) + r) (0 + d) := by
  induction n with
  | zero => exact fun hn _ => scratch_first m c A W hA hW ⟨0, hn⟩ rfl
  | succ n ih =>
    intro hn h3
    by_cases h0 : (n + 1) % 4 = 0
    · exact scratch_first m c A W hA hW ⟨n + 1, hn⟩ h0
    · refine scratch_middle m c A W hA hW ⟨n + 1, hn⟩ h0 h3 ((ih (Nat.lt_of_succ_lt hn) (by omega)).trans ?_)
      show _ = ev2 .f32 fun r d => partE 384 A W ((n + 1) % 4) (1024 * ((n + 1) / 4) + r) (0 + d)
      rw [show (n + 1) % 4 = n % 4 + 1 by omega, show (n + 1) / 4 = n / 4 by omega]

/-- What the last point of a tile leaves in it. -/
theorem tile_eq (t : Fin cfg0.N) (h3 : t.val % 4 = 3) : ((outsAt0 m c t.val t.isLt).1 : FVec Ideal S1024x512 .f32)
    = ev2 .f32 fun r d => partE 384 A W 4 (1024 * (t.val / 4) + r) (0 + d) := by
  have h0 : ¬t.val % 4 = 0 := by omega
  have h1 : ¬(1 ≤ t.val % 4 ∧ t.val % 4 ≤ 2) := by omega
  have P := last_eq c (grid0.coords t) (ms0_0 t) (hs0_0 t) (ms0_1 t) (hs0_1 t) (ms0_2 t) (hs0_2 t) scM0_0 (Memref.isWhole_whole _)
    (read0 m c A hA t) (read1 m c W hW t) (scratch_eq m c A W hA hW (t.val - 1) (Nat.lt_of_le_of_lt (Nat.sub_le _ _) t.isLt) (by omega))
    (fun h => h0 ((hcond0_0 t).mp h)) (fun h => h1 ((hcond0_1 t).mp h)) ((hcond0_2 t).mpr h3)
  rw [outsAt0_C m c t h0 h1 h3]
  dsimp only
  rw [P]
  refine ev2_congr fun r _ d _ => ?_
  rw [partE_succ 384 A W 3, show (t.val - 1) % 4 + 1 = 3 by omega, show (t.val - 1) / 4 = t.val / 4 by omega, h3]
  exact congrArg (fun x => _ + x) (Finset.sum_congr rfl fun k _ => by rw [Nat.zero_add k])

/-- The result. -/
theorem final2 : ((dats m 0 c).arrAt 2 cfg0.N : FVec Ideal S2048x512 .f32) = ev2 .f32 (partE 384 A W 4) := by
  refine (dats m 0 c).arrAt_eq_of_cover 2 _ (fun t ht => ?_) (fun i => ?_)
  · rw [Cert.MlaDcqIdeal.Value.flushed2]
    refine (congrArg _ (tile_eq m c A W hA hW t ((flush0_2 t).mp ht))).trans ?_
    have T := block2 (M := 2048) (N := 512) (m := 1024) (n := 512) (φ := .f32) (partE 384 A W 4) (win0_2.rect t).emb (win0_2.rect_emb_val t) (at2 t).1
    exact Eq.symm T
  · have i0 : (i 0 : ℕ) < 2048 := (i 0).isLt
    have i1 : (i 1 : ℕ) < 512 := (i 1).isLt
    have hN : cfg0.N = 8 := N_0
    refine ⟨⟨4 * ((i 0 : ℕ) / 1024) + 3, by omega⟩, (flush0_2 _).mpr (by show (4 * ((i 0 : ℕ) / 1024) + 3) % 4 = 3; omega), ?_⟩
    generalize ht' : (⟨4 * ((i 0 : ℕ) / 1024) + 3, _⟩ : Fin cfg0.N) = t
    have hv' : t.val = 4 * ((i 0 : ℕ) / 1024) + 3 := by rw [← ht']
    show i ∈ ((View.whole main_v2).slice (win0_2.rect t)).set
    rw [View.set_slice_whole]
    exact mem_block2 (at2 t) (by omega) (by omega)

end Arrays

variable (m : (ℓ : Loc nD τ sig) → Buf (Elt Ideal) ℓ) (c : Dev nD)

/-- What the host hands the grid: the two operands of the product in 16 bits. -/
theorem host0 : (V m c main_v0 : FVec Ideal S2048x1536 .bf16) = narrow (m ((c.tc : Thread nD τ).loc main_arg0) : FVec Ideal S2048x1536 .f32) := by
  simp only [V, hostOps0, TRef.binary, TRef.nullary, TRef.ternary, TRef.unary, TRef.toBuf, TRef.ofBuf, cast_eq]
  after_results_simp <;> rfl

theorem host1 : (V m c main_v1 : FVec Ideal S4x512x384 .bf16) = narrow (m ((c.tc : Thread nD τ).loc main_arg1) : FVec Ideal S4x512x384 .f32) := by
  simp only [V, hostOps0, TRef.binary, TRef.nullary, TRef.ternary, TRef.unary, TRef.toBuf, TRef.ofBuf, cast_eq]
  after_results_simp <;> rfl

/-- The kernel's result, from the entries of its arguments. -/
theorem kernel_eq (A : ℕ → ℕ → EReal) (W : ℕ → ℕ → ℕ → EReal) (hA : (m ((c.tc : Thread nD τ).loc main_arg0) : FVec Ideal S2048x1536 .f32) = ev2 .f32 A)
    (hW : (m ((c.tc : Thread nD τ).loc main_arg1) : FVec Ideal S4x512x384 .f32) = ev3 .f32 W) :
    ((dats m 0 c).arrAt 2 cfg0.N : FVec Ideal S2048x512 .f32) = ev2 .f32 (partE 384 A W 4) :=
  final2 m c A W ((host0 m c).trans (narrow_ev2 hA)) ((host1 m c).trans (narrow_ev3 hW))

end Kernel

section Reference

open Cert.MlaDcqRefIdeal Cert.MlaDcqRefIdeal.Read

/-- The reference's result, from the entries of its arguments: a sum over the shards and over each shard's columns. -/
theorem reference_eq (A : ℕ → ℕ → EReal) (W : ℕ → ℕ → ℕ → EReal) : val_main_v4 (F := Ideal) (ev2 .f32 A : FVec Ideal S2048x1536 .f32) (ev3 .f32 W : FVec Ideal S4x512x384 .f32)
    = (ev2 .f32 (partE 384 A W 4) : FVec Ideal S2048x512 .f32) := by
  have S : val_main_v3 (F := Ideal) (ev2 .f32 A : FVec Ideal S2048x1536 .f32) = (ev3 .f32 fun r j k => A r (384 * j + k) : FVec Ideal S2048x4x384 .f32) := by
    unfold val_main_v3
    exact split_ev2 (by norm_num) (by norm_num) (by norm_num) A _
  unfold val_main_v4
  rw [S]
  exact dot_shards 2048 4 384 512 _ A W

end Reference

open Idealize.SL.Sem

/-- The reference's frame: its run read at its arguments, which no operation writes; it declares no semaphore. -/
theorem frame_r : letI := Cert.MlaDcqRefIdeal.Gen.facts; Cert.quiescent_MlaDcqRefIdeal :=
  fun m ρ _ => (θ_run Cert.MlaDcqRefIdeal.defs _ _).mono (fun r h => ⟨fun c => (h c).2, sem_eq_zero_of_no_sems (by decide) r.2⟩)
    (Cert.MlaDcqRefIdeal.Value.run m ρ)

/-- The two programs' results are equal. -/
theorem algebraic : letI := Cert.MlaDcqIdeal.Gen.facts; letI := Cert.MlaDcqRefIdeal.Gen.facts; Cert.algebraic_MlaDcqIdeal_MlaDcqRefIdeal := by
  intro m g m' g' _ hagree
  refine ⟨fun c => (Cert.MlaDcqIdeal.Gen.dats m 0 c).arrAt 2 Cert.MlaDcqIdeal.cfg0.N, Cert.MlaDcqIdeal.Value.run_blocks m g, ?_⟩
  refine (θ_run Cert.MlaDcqRefIdeal.defs _ _).mono (fun r h c => ?_) (Cert.MlaDcqRefIdeal.Value.run m' g')
  obtain ⟨a0, a1⟩ := hagree c
  obtain ⟨r0, rest⟩ := h c
  refine ⟨r0.trans ((Cert.MlaDcqRefIdeal.Read.val_main_v4_eq _ _).trans ?_), rest⟩
  rw [a0, a1]
  refine Eq.trans ?_ (kernel_eq m c _ _ (eq_ev2 _) (eq_ev3 _)).symm
  exact (congrArg₂ Cert.MlaDcqRefIdeal.Read.val_main_v4 (eq_ev2 _) (eq_ev3 _)).trans (reference_eq _ _)

end Cert.Mixer.MlaDcq

end
-- ==== Proof.MixMlaDckv.lean ====
/-
  The gradient of the compressed keys and values: `dkv` times the transpose of their second weight, summed over the
  shards. The grid runs over the tiles of the result and, for each of them, over the four shards: the first shard's
  product is left in a scratch, the next two are added to it, and the last is added on the way to the result.
-/
module

public import proofs.«01_k».proof.Defs
public import proofs.«01_k».proof.Proof.Shards
public import proofs.«01_k».proof.Proof.Gen.MlaDckvIdeal.Value
public import proofs.«01_k».proof.Proof.Gen.MlaDckvRefIdeal.Read
public import Idealize.ShloMosaic.Lib.VecWindow

@[expose] public section

set_option maxRecDepth 16384

noncomputable section

namespace Cert.Mixer.MlaDckv

open Idealize.ShloMosaic Idealize.ShloMosaic.ValueIdx

section Kernel

open Cert.MlaDckvIdeal Cert.MlaDckvIdeal.Gen
open StableHlo

/-- The product a point computes. -/
theorem pay1_eq (a : ℕ → ℕ → EReal) (w : ℕ → ℕ → ℕ → EReal) : k0_pay1 (F := Ideal) (ev2 .bf16 a) (ev3 .bf16 w)
    = (ev2 .f32 fun r d => ∑ k ∈ Finset.range 512, a r k * w 0 d k : FVec Ideal S1024x256 .f32) := by
  unfold k0_pay1
  dsimp only
  rw [shapeCast_self, constant_zero]
  exact (congrArg (fun x => matmul _ _ _ x _) (shapeCast_ev3 w _)).trans (matmul_nt 1024 512 256 _ a (w 0))

section Point

variable (c : Dev nD) (i : grid0.Coords) (arg3 : Memref sig .tc .vmem S1024x512 .bf16) (harg3 : arg3.IsWhole) (arg4 : Memref sig .tc .vmem S1x256x512 .bf16) (harg4 : arg4.IsWhole)
  (arg5 : Memref sig .tc .vmem S1024x256 .f32) (harg5 : arg5.IsWhole) (arg6 : Memref sig .tc .vmem S1024x256 .f32) (harg6 : arg6.IsWhole)
  {x0 : Vec Ideal S1024x512 .bf16} {x1 : Vec Ideal S1x256x512 .bf16} {xs : Vec Ideal S1024x256 .f32} {a s : ℕ → ℕ → EReal} {w : ℕ → ℕ → ℕ → EReal}
  (h0 : x0 = (ev2 .bf16 a : FVec Ideal S1024x512 .bf16)) (h1 : x1 = (ev3 .bf16 w : FVec Ideal S1x256x512 .bf16))
  (hs : xs = (ev2 .f32 s : FVec Ideal S1024x256 .f32))

include h0 h1

/-- What the first shard's point leaves in the scratch. -/
theorem first_eq (hc0 : cond0_0 i) (hc1 : ¬cond0_1 i) (hc2 : ¬cond0_2 i) :
    sout0_A_0 (F := Ideal) c i arg3 harg3 arg4 harg4 arg5 harg5 arg6 harg6 hc0 hc1 hc2 x0 x1
      = (ev2 .f32 fun r d => ∑ k ∈ Finset.range 512, a r k * w 0 d k : FVec Ideal S1024x256 .f32) := by
  unfold sout0_A_0 kernelRun0_A
  dsimp only
  refine (View.read_writes_full _ _ _ _ _).trans ?_
  refine (congrArg₂ k0_pay2 ((View.readAt_full _ _ _).trans ((harg3.read_unread x0).trans h0))
    ((View.readAt_full _ _ _).trans ((harg4.read_unread x1).trans h1))).trans ?_
  unfold k0_pay2
  dsimp only
  rw [shapeCast_self, pay1_eq]

include hs

/-- What a middle shard's point leaves in the scratch. -/
theorem middle_eq (hc0 : ¬cond0_0 i) (hc1 : cond0_1 i) (hc2 : ¬cond0_2 i) :
    sout0_B_0 (F := Ideal) c i arg3 harg3 arg4 harg4 arg5 harg5 arg6 harg6 hc0 hc1 hc2 x0 x1 xs
      = (ev2 .f32 fun r d => s r d + ∑ k ∈ Finset.range 512, a r k * w 0 d k : FVec Ideal S1024x256 .f32) := by
  unfold sout0_B_0 kernelRun0_B
  dsimp only
  refine (View.read_writes_full _ _ _ _ _).trans ?_
  refine (congrArg₂ (fun x y => k0_pay3 x y _) ((View.readAt_full _ _ _).trans ((harg3.read_unread x0).trans h0))
    ((View.readAt_full _ _ _).trans ((harg4.read_unread x1).trans h1))).trans ?_
  refine (congrArg (k0_pay3 _ _) ((View.readAt_full _ _ _).trans ((harg6.read_unread xs).trans hs))).trans ?_
  unfold k0_pay3
  dsimp only
  rw [shapeCast_self, pay1_eq, addf_ev2]

/-- What the last shard's point leaves in the result's tile. -/
theorem last_eq (hc0 : ¬cond0_0 i) (hc1 : ¬cond0_1 i) (hc2 : cond0_2 i) :
    out0_C_2 (F := Ideal) c i arg3 harg3 arg4 harg4 arg5 harg5 arg6 harg6 hc0 hc1 hc2 x0 x1 xs
      = (ev2 .f32 fun r d => s r d + ∑ k ∈ Finset.range 512, a r k * w 0 d k : FVec Ideal S1024x256 .f32) := by
  unfold out0_C_2 kernelRun0_C
  dsimp only
  refine (View.read_writes_full _ _ _ _ _).trans ?_
  refine (congrArg₂ (fun x y => k0_pay4 x y _) ((View.readAt_full _ _ _).trans ((harg3.read_unread x0).trans h0))
    ((View.readAt_full _ _ _).trans ((harg4.read_unread x1).trans h1))).trans ?_
  refine (congrArg (k0_pay4 _ _) ((View.readAt_full _ _ _).trans ((harg6.read_unread xs).trans hs))).trans ?_
  unfold k0_pay4
  dsimp only
  rw [pay1_eq, addf_ev2]

end Point

/-- Where a point's rows and its shard's columns of the left operand start. -/
theorem at0 : ∀ t : Fin cfg0.N, win0_0.index t 0 * win0_0.size 0 = 1024 * (t.val / 4) ∧ win0_0.index t 1 * win0_0.size 1 = 512 * (t.val % 4) :=
  by decide +kernel

/-- The shard a point reads, and where its rows of it start. -/
theorem at1 : ∀ t : Fin cfg0.N, win0_1.index t 0 * win0_1.size 0 = t.val % 4 ∧ win0_1.index t 1 * win0_1.size 1 = 0
    ∧ win0_1.index t 2 * win0_1.size 2 = 0 :=
  by decide +kernel

/-- Where its tile of the result starts, and its extents. -/
theorem at2 : ∀ t : Fin cfg0.N, (win0_2.index t 0 * win0_2.size 0 = 1024 * (t.val / 4) ∧ win0_2.index t 1 * win0_2.size 1 = 0)
    ∧ win0_2.xsize (grid0.coords t) 0 = 1024 ∧ win0_2.xsize (grid0.coords t) 1 = 256 :=
  by decide +kernel

section Arrays

variable (m : (ℓ : Loc nD τ sig) → Buf (Elt Ideal) ℓ) (c : Dev nD) (A : ℕ → ℕ → EReal) (W : ℕ → ℕ → ℕ → EReal)
  (hA : (V m c main_v0 : FVec Ideal S2048x2048 .bf16) = ev2 .bf16 A)
  (hW : (V m c main_v1 : FVec Ideal S4x256x512 .bf16) = ev3 .bf16 W)

include hA in
theorem read0 (t : Fin cfg0.N) : (iblk m c 0 t : FVec Ideal S1024x512 .bf16)
    = ev2 .bf16 fun r d => A (1024 * (t.val / 4) + r) (512 * (t.val % 4) + d) :=
  tileAt2 _ hA _ (win0_0.rect t).emb (fun _ => rfl) (win0_0.rect_emb_val t) (at0 t)

include hW in
theorem read1 (t : Fin cfg0.N) : (iblk m c 1 t : FVec Ideal S1x256x512 .bf16)
    = ev3 .bf16 fun _ r d => W (t.val % 4) (0 + r) (0 + d) :=
  tileAt3 _ hW _ (win0_1.rect t).emb (fun _ => rfl) (win0_1.rect_emb_val t) (at1 t)

include hA hW
/-- What the scratch holds after the first point of a tile. -/
theorem scratch_first (t : Fin cfg0.N) (h0 : t.val % 4 = 0) : ((outsAt0 m c t.val t.isLt).2 : FVec Ideal S1024x256 .f32)
    = ev2 .f32 fun r d => partE 512 A W (t.val % 4 + 1) (1024 * (t.val / 4) + r) (0 + d) := by
  have h1 : ¬(1 ≤ t.val % 4 ∧ t.val % 4 ≤ 2) := by omega
  have h2 : ¬t.val % 4 = 3 := by omega
  have P := first_eq c (grid0.coords t) (ms0_0 t) (hs0_0 t) (ms0_1 t) (hs0_1 t) (ms0_2 t) (hs0_2 t) scM0_0 (Memref.isWhole_whole _)
    (read0 m c A hA t) (read1 m c W hW t) ((hcond0_0 t).mpr h0) (fun h => h1 ((hcond0_1 t).mp h)) (fun h => h2 ((hcond0_2 t).mp h))
  rw [outsAt0_A m c t h0 h1 h2]
  dsimp only
  rw [P]
  refine ev2_congr fun r _ d _ => ?_
  rw [h0, partE_succ, partE_zero, zero_add (blockE _ _ _ _ _ _)]
  exact Finset.sum_congr rfl fun k _ => by rw [Nat.zero_add k]

/-- What it holds after a middle point, from what it held after the one before. -/
theorem scratch_middle (t : Fin cfg0.N) (h0 : ¬t.val % 4 = 0) (h3 : ¬t.val % 4 = 3)
    (ih : ((outsAt0 m c (t.val - 1) (Nat.lt_of_le_of_lt (Nat.sub_le _ _) t.isLt)).2 : FVec Ideal S1024x256 .f32)
      = ev2 .f32 fun r d => partE 512 A W (t.val % 4) (1024 * (t.val / 4) + r) (0 + d)) :
    ((outsAt0 m c t.val t.isLt).2 : FVec Ideal S1024x256 .f32)
    = ev2 .f32 fun r d => partE 512 A W (t.val % 4 + 1) (1024 * (t.val / 4) + r) (0 + d) := by
  have h1 : 1 ≤ t.val % 4 ∧ t.val % 4 ≤ 2 := by omega
  have P := middle_eq c (grid0.coords t) (ms0_0 t) (hs0_0 t) (ms0_1 t) (hs0_1 t) (ms0_2 t) (hs0_2 t) scM0_0 (Memref.isWhole_whole _)
    (read0 m c A hA t) (read1 m c W hW t) ih (fun h => h0 ((hcond0_0 t).mp h)) ((hcond0_1 t).mpr h1) (fun h => h3 ((hcond0_2 t).mp h))
  rw [outsAt0_B m c t h0 h1 h3]
  dsimp only
  rw [P]
  refine ev2_congr fun r _ d _ => ?_
  rw [partE_succ]
  exact congrArg _ (Finset.sum_congr rfl fun k _ => by rw [Nat.zero_add k])

/-- What the scratch holds after a point that is not the last of its tile: the shards so far. -/
theorem scratch_eq (n : ℕ) : ∀ hn : n < cfg0.N, ¬n % 4 = 3 → ((outsAt0 m c n hn).2 : FVec Ideal S1024x256 .f32)
    = ev2 .f32 fun r d => partE 512 A W (n % 4 + 1) (1024 * (n / 4) + r) (0 + d) := by
  induction n with
  | zero => exact fun hn _ => scratch_first m c A W hA hW ⟨0, hn⟩ rfl
  | succ n ih =>
    intro hn h3
    by_cases h0 : (n + 1) % 4 = 0
    · exact scratch_first m c A W hA hW ⟨n + 1, hn⟩ h0
    · refine scratch_middle m c A W hA hW ⟨n + 1, hn⟩ h0 h3 ((ih (Nat.lt_of_succ_lt hn) (by omega)).trans ?_)
      show _ = ev2 .f32 fun r d => partE 512 A W ((n + 1) % 4) (1024 * ((n + 1) / 4) + r) (0 + d)
      rw [show (n + 1) % 4 = n % 4 + 1 by omega, show (n + 1) / 4 = n / 4 by omega]

/-- What the last point of a tile leaves in it. -/
theorem tile_eq (t : Fin cfg0.N) (h3 : t.val % 4 = 3) : ((outsAt0 m c t.val t.isLt).1 : FVec Ideal S1024x256 .f32)
    = ev2 .f32 fun r d => partE 512 A W 4 (1024 * (t.val / 4) + r) (0 + d) := by
  have h0 : ¬t.val % 4 = 0 := by omega
  have h1 : ¬(1 ≤ t.val % 4 ∧ t.val % 4 ≤ 2) := by omega
  have P := last_eq c (grid0.coords t) (ms0_0 t) (hs0_0 t) (ms0_1 t) (hs0_1 t) (ms0_2 t) (hs0_2 t) scM0_0 (Memref.isWhole_whole _)
    (read0 m c A hA t) (read1 m c W hW t) (scratch_eq m c A W hA hW (t.val - 1) (Nat.lt_of_le_of_lt (Nat.sub_le _ _) t.isLt) (by omega))
    (fun h => h0 ((hcond0_0 t).mp h)) (fun h => h1 ((hcond0_1 t).mp h)) ((hcond0_2 t).mpr h3)
  rw [outsAt0_C m c t h0 h1 h3]
  dsimp only
  rw [P]
  refine ev2_congr fun r _ d _ => ?_
  rw [partE_succ 512 A W 3, show (t.val - 1) % 4 + 1 = 3 by omega, show (t.val - 1) / 4 = t.val / 4 by omega, h3]
  exact congrArg (fun x => _ + x) (Finset.sum_congr rfl fun k _ => by rw [Nat.zero_add k])

/-- The result. -/
theorem final2 : ((dats m 0 c).arrAt 2 cfg0.N : FVec Ideal S2048x256 .f32) = ev2 .f32 (partE 512 A W 4) := by
  refine (dats m 0 c).arrAt_eq_of_cover 2 _ (fun t ht => ?_) (fun i => ?_)
  · rw [Cert.MlaDckvIdeal.Value.flushed2]
    refine (congrArg _ (tile_eq m c A W hA hW t ((flush0_2 t).mp ht))).trans ?_
    have T := block2 (M := 2048) (N := 256) (m := 1024) (n := 256) (φ := .f32) (partE 512 A W 4) (win0_2.rect t).emb (win0_2.rect_emb_val t) (at2 t).1
    exact Eq.symm T
  · have i0 : (i 0 : ℕ) < 2048 := (i 0).isLt
    have i1 : (i 1 : ℕ) < 256 := (i 1).isLt
    have hN : cfg0.N = 8 := N_0
    refine ⟨⟨4 * ((i 0 : ℕ) / 1024) + 3, by omega⟩, (flush0_2 _).mpr (by show (4 * ((i 0 : ℕ) / 1024) + 3) % 4 = 3; omega), ?_⟩
    generalize ht' : (⟨4 * ((i 0 : ℕ) / 1024) + 3, _⟩ : Fin cfg0.N) = t
    have hv' : t.val = 4 * ((i 0 : ℕ) / 1024) + 3 := by rw [← ht']
    show i ∈ ((View.whole main_v2).slice (win0_2.rect t)).set
    rw [View.set_slice_whole]
    exact mem_block2 (at2 t) (by omega) (by omega)

end Arrays

variable (m : (ℓ : Loc nD τ sig) → Buf (Elt Ideal) ℓ) (c : Dev nD)

/-- What the host hands the grid: the two operands of the product in 16 bits. -/
theorem host0 : (V m c main_v0 : FVec Ideal S2048x2048 .bf16) = narrow (m ((c.tc : Thread nD τ).loc main_arg0) : FVec Ideal S2048x2048 .f32) := by
  simp only [V, hostOps0, TRef.binary, TRef.nullary, TRef.ternary, TRef.unary, TRef.toBuf, TRef.ofBuf, cast_eq]
  after_results_simp <;> rfl

theorem host1 : (V m c main_v1 : FVec Ideal S4x256x512 .bf16) = narrow (m ((c.tc : Thread nD τ).loc main_arg1) : FVec Ideal S4x256x512 .f32) := by
  simp only [V, hostOps0, TRef.binary, TRef.nullary, TRef.ternary, TRef.unary, TRef.toBuf, TRef.ofBuf, cast_eq]
  after_results_simp <;> rfl

/-- The kernel's result, from the entries of its arguments. -/
theorem kernel_eq (A : ℕ → ℕ → EReal) (W : ℕ → ℕ → ℕ → EReal) (hA : (m ((c.tc : Thread nD τ).loc main_arg0) : FVec Ideal S2048x2048 .f32) = ev2 .f32 A)
    (hW : (m ((c.tc : Thread nD τ).loc main_arg1) : FVec Ideal S4x256x512 .f32) = ev3 .f32 W) :
    ((dats m 0 c).arrAt 2 cfg0.N : FVec Ideal S2048x256 .f32) = ev2 .f32 (partE 512 A W 4) :=
  final2 m c A W ((host0 m c).trans (narrow_ev2 hA)) ((host1 m c).trans (narrow_ev3 hW))

end Kernel

section Reference

open Cert.MlaDckvRefIdeal Cert.MlaDckvRefIdeal.Read

/-- The reference's result, from the entries of its arguments: a sum over the shards and over each shard's columns. -/
theorem reference_eq (A : ℕ → ℕ → EReal) (W : ℕ → ℕ → ℕ → EReal) : val_main_v4 (F := Ideal) (ev2 .f32 A : FVec Ideal S2048x2048 .f32) (ev3 .f32 W : FVec Ideal S4x256x512 .f32)
    = (ev2 .f32 (partE 512 A W 4) : FVec Ideal S2048x256 .f32) := by
  have S : val_main_v3 (F := Ideal) (ev2 .f32 A : FVec Ideal S2048x2048 .f32) = (ev3 .f32 fun r j k => A r (512 * j + k) : FVec Ideal S2048x4x512 .f32) := by
    unfold val_main_v3
    exact split_ev2 (by norm_num) (by norm_num) (by norm_num) A _
  unfold val_main_v4
  rw [S]
  exact dot_shards 2048 4 512 256 _ A W

end Reference

open Idealize.SL.Sem

/-- The reference's frame: its run read at its arguments, which no operation writes; it declares no semaphore. -/
theorem frame_r : letI := Cert.MlaDckvRefIdeal.Gen.facts; Cert.quiescent_MlaDckvRefIdeal :=
  fun m ρ _ => (θ_run Cert.MlaDckvRefIdeal.defs _ _).mono (fun r h => ⟨fun c => (h c).2, sem_eq_zero_of_no_sems (by decide) r.2⟩)
    (Cert.MlaDckvRefIdeal.Value.run m ρ)

/-- The two programs' results are equal. -/
theorem algebraic : letI := Cert.MlaDckvIdeal.Gen.facts; letI := Cert.MlaDckvRefIdeal.Gen.facts; Cert.algebraic_MlaDckvIdeal_MlaDckvRefIdeal := by
  intro m g m' g' _ hagree
  refine ⟨fun c => (Cert.MlaDckvIdeal.Gen.dats m 0 c).arrAt 2 Cert.MlaDckvIdeal.cfg0.N, Cert.MlaDckvIdeal.Value.run_blocks m g, ?_⟩
  refine (θ_run Cert.MlaDckvRefIdeal.defs _ _).mono (fun r h c => ?_) (Cert.MlaDckvRefIdeal.Value.run m' g')
  obtain ⟨a0, a1⟩ := hagree c
  obtain ⟨r0, rest⟩ := h c
  refine ⟨r0.trans ((Cert.MlaDckvRefIdeal.Read.val_main_v4_eq _ _).trans ?_), rest⟩
  rw [a0, a1]
  refine Eq.trans ?_ (kernel_eq m c _ _ (eq_ev2 _) (eq_ev3 _)).symm
  exact (congrArg₂ Cert.MlaDckvRefIdeal.Read.val_main_v4 (eq_ev2 _) (eq_ev3 _)).trans (reference_eq _ _)

end Cert.Mixer.MlaDckv

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.StickFwd
public import proofs.«01_k».proof.Proof.Gen.StickFwd.Skeleton
public import proofs.«01_k».proof.Proof.Gen.StickFwd.Loops
public import proofs.«01_k».proof.Proof.Gen.StickFwd.Launch
public import proofs.«01_k».proof.Proof.Gen.StickFwd.Points
public import proofs.«01_k».proof.Proof.Gen.StickFwd.Frame
public import proofs.«01_k».proof.Proof.Gen.StickFwdIdeal
public import proofs.«01_k».proof.Proof.Gen.StickFwdIdeal.Skeleton
public import proofs.«01_k».proof.Proof.Gen.StickFwdIdeal.Loops
public import proofs.«01_k».proof.Proof.Gen.StickFwdIdeal.Launch
public import proofs.«01_k».proof.Proof.Gen.StickFwdIdeal.Points
public import proofs.«01_k».proof.Proof.Gen.StickFwdIdeal.Frame
public import proofs.«01_k».proof.Proof.Gen.StickFwdIdeal.Value
public import proofs.«01_k».proof.Proof.Gen.StickFwdRefIdeal
public import proofs.«01_k».proof.Proof.Gen.StickFwdRefIdeal.Run
public import proofs.«01_k».proof.Proof.Gen.StickFwdRefIdeal.Read
public import proofs.«01_k».proof.Proof.Gen.NormBwd
public import proofs.«01_k».proof.Proof.Gen.NormBwd.Frame
public import proofs.«01_k».proof.Proof.Gen.NormBwdIdeal
public import proofs.«01_k».proof.Proof.Gen.NormBwdIdeal.Frame
public import proofs.«01_k».proof.Proof.Gen.NormBwdIdeal.Value
public import proofs.«01_k».proof.Proof.Gen.NormBwdRefIdeal
public import proofs.«01_k».proof.Proof.Gen.NormBwdRefIdeal.Run
public import proofs.«01_k».proof.Proof.Gen.NormBwdRefIdeal.Read
public import proofs.«01_k».proof.Proof.Gen.Up
public import proofs.«01_k».proof.Proof.Gen.Up.Frame
public import proofs.«01_k».proof.Proof.Gen.UpIdeal
public import proofs.«01_k».proof.Proof.Gen.UpIdeal.Frame
public import proofs.«01_k».proof.Proof.Gen.UpIdeal.Value
public import proofs.«01_k».proof.Proof.Gen.UpRefIdeal
public import proofs.«01_k».proof.Proof.Gen.UpRefIdeal.Run
public import proofs.«01_k».proof.Proof.Gen.UpRefIdeal.Read
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.DownRefIdeal.Read
public import proofs.«01_k».proof.Proof.Gen.Dw2
public import proofs.«01_k».proof.Proof.Gen.Dw2.Frame
public import proofs.«01_k».proof.Proof.Gen.Dw2Ideal
public import proofs.«01_k».proof.Proof.Gen.Dw2Ideal.Frame
public import proofs.«01_k».proof.Proof.Gen.Dw2Ideal.Value
public import proofs.«01_k».proof.Proof.Gen.Dw2RefIdeal
public import proofs.«01_k».proof.Proof.Gen.Dw2RefIdeal.Run
public import proofs.«01_k».proof.Proof.Gen.Dw2RefIdeal.Read
public import proofs.«01_k».proof.Proof.Gen.Dact
public import proofs.«01_k».proof.Proof.Gen.Dact.Frame
public import proofs.«01_k».proof.Proof.Gen.DactIdeal
public import proofs.«01_k».proof.Proof.Gen.DactIdeal.Frame
public import proofs.«01_k».proof.Proof.Gen.DactIdeal.Value
public import proofs.«01_k».proof.Proof.Gen.DactRefIdeal
public import proofs.«01_k».proof.Proof.Gen.DactRefIdeal.Run
public import proofs.«01_k».proof.Proof.Gen.DactRefIdeal.Read
public import proofs.«01_k».proof.Proof.Gen.Dw1
public import proofs.«01_k».proof.Proof.Gen.Dw1.Frame
public import proofs.«01_k».proof.Proof.Gen.Dw1Ideal
public import proofs.«01_k».proof.Proof.Gen.Dw1Ideal.Frame
public import proofs.«01_k».proof.Proof.Gen.Dw1Ideal.Value
public import proofs.«01_k».proof.Proof.Gen.Dw1RefIdeal
public import proofs.«01_k».proof.Proof.Gen.Dw1RefIdeal.Run
public import proofs.«01_k».proof.Proof.Gen.Dw1RefIdeal.Read
public import proofs.«01_k».proof.Proof.Gen.Dx
public import proofs.«01_k».proof.Proof.Gen.Dx.Frame
public import proofs.«01_k».proof.Proof.Gen.DxIdeal
public import proofs.«01_k».proof.Proof.Gen.DxIdeal.Frame
public import proofs.«01_k».proof.Proof.Gen.DxIdeal.Value
public import proofs.«01_k».proof.Proof.Gen.DxRefIdeal
public import proofs.«01_k».proof.Proof.Gen.DxRefIdeal.Run
public import proofs.«01_k».proof.Proof.Gen.DxRefIdeal.Read
public import proofs.«01_k».proof.Proof.Gen.EvenIn
public import proofs.«01_k».proof.Proof.Gen.EvenIn.Frame
public import proofs.«01_k».proof.Proof.Gen.EvenInIdeal
public import proofs.«01_k».proof.Proof.Gen.EvenInIdeal.Frame
public import proofs.«01_k».proof.Proof.Gen.EvenInIdeal.Value
public import proofs.«01_k».proof.Proof.Gen.EvenInRefIdeal
public import proofs.«01_k».proof.Proof.Gen.EvenInRefIdeal.Run
public import proofs.«01_k».proof.Proof.Gen.EvenInRefIdeal.Read
public import proofs.«01_k».proof.Proof.Gen.EvenDwin
public import proofs.«01_k».proof.Proof.Gen.EvenDwin.Frame
public import proofs.«01_k».proof.Proof.Gen.EvenDwinIdeal
public import proofs.«01_k».proof.Proof.Gen.EvenDwinIdeal.Frame
public import proofs.«01_k».proof.Proof.Gen.EvenDwinIdeal.Value
public import proofs.«01_k».proof.Proof.Gen.EvenDwinRefIdeal
public import proofs.«01_k».proof.Proof.Gen.EvenDwinRefIdeal.Run
public import proofs.«01_k».proof.Proof.Gen.EvenDwinRefIdeal.Read
public import proofs.«01_k».proof.Proof.Gen.EvenDx
public import proofs.«01_k».proof.Proof.Gen.EvenDx.Frame
public import proofs.«01_k».proof.Proof.Gen.EvenDxIdeal
public import proofs.«01_k».proof.Proof.Gen.EvenDxIdeal.Frame
public import proofs.«01_k».proof.Proof.Gen.EvenDxIdeal.Value
public import proofs.«01_k».proof.Proof.Gen.EvenDxRefIdeal
public import proofs.«01_k».proof.Proof.Gen.EvenDxRefIdeal.Run
public import proofs.«01_k».proof.Proof.Gen.EvenDxRefIdeal.Read
public import proofs.«01_k».proof.Proof.Gen.EvenOut
public import proofs.«01_k».proof.Proof.Gen.EvenOut.Frame
public import proofs.«01_k».proof.Proof.Gen.EvenOutIdeal
public import proofs.«01_k».proof.Proof.Gen.EvenOutIdeal.Frame
public import proofs.«01_k».proof.Proof.Gen.EvenOutIdeal.Value
public import proofs.«01_k».proof.Proof.Gen.EvenOutRefIdeal
public import proofs.«01_k».proof.Proof.Gen.EvenOutRefIdeal.Run
public import proofs.«01_k».proof.Proof.Gen.EvenOutRefIdeal.Read
public import proofs.«01_k».proof.Proof.Gen.EvenDwout
public import proofs.«01_k».proof.Proof.Gen.EvenDwout.Frame
public import proofs.«01_k».proof.Proof.Gen.EvenDwoutIdeal
public import proofs.«01_k».proof.Proof.Gen.EvenDwoutIdeal.Frame
public import proofs.«01_k».proof.Proof.Gen.EvenDwoutIdeal.Value
public import proofs.«01_k».proof.Proof.Gen.EvenDwoutRefIdeal
public import proofs.«01_k».proof.Proof.Gen.EvenDwoutRefIdeal.Run
public import proofs.«01_k».proof.Proof.Gen.EvenDwoutRefIdeal.Read
public import proofs.«01_k».proof.Proof.Gen.EvenDy
public import proofs.«01_k».proof.Proof.Gen.EvenDy.Frame
public import proofs.«01_k».proof.Proof.Gen.EvenDyIdeal
public import proofs.«01_k».proof.Proof.Gen.EvenDyIdeal.Frame
public import proofs.«01_k».proof.Proof.Gen.EvenDyIdeal.Value
public import proofs.«01_k».proof.Proof.Gen.EvenDyRefIdeal
public import proofs.«01_k».proof.Proof.Gen.EvenDyRefIdeal.Run
public import proofs.«01_k».proof.Proof.Gen.EvenDyRefIdeal.Read
public import proofs.«01_k».proof.Proof.Gen.OddIn
public import proofs.«01_k».proof.Proof.Gen.OddIn.Frame
public import proofs.«01_k».proof.Proof.Gen.OddInIdeal
public import proofs.«01_k».proof.Proof.Gen.OddInIdeal.Frame
public import proofs.«01_k».proof.Proof.Gen.OddInIdeal.Value
public import proofs.«01_k».proof.Proof.Gen.OddInRefIdeal
public import proofs.«01_k».proof.Proof.Gen.OddInRefIdeal.Run
public import proofs.«01_k».proof.Proof.Gen.OddInRefIdeal.Read
public import proofs.«01_k».proof.Proof.Gen.OddDwin
public import proofs.«01_k».proof.Proof.Gen.OddDwin.Frame
public import proofs.«01_k».proof.Proof.Gen.OddDwinIdeal
public import proofs.«01_k».proof.Proof.Gen.OddDwinIdeal.Frame
public import proofs.«01_k».proof.Proof.Gen.OddDwinIdeal.Value
public import proofs.«01_k».proof.Proof.Gen.OddDwinRefIdeal
public import proofs.«01_k».proof.Proof.Gen.OddDwinRefIdeal.Run
public import proofs.«01_k».proof.Proof.Gen.OddDwinRefIdeal.Read
public import proofs.«01_k».proof.Proof.Gen.OddDx
public import proofs.«01_k».proof.Proof.Gen.OddDx.Frame
public import proofs.«01_k».proof.Proof.Gen.OddDxIdeal
public import proofs.«01_k».proof.Proof.Gen.OddDxIdeal.Frame
public import proofs.«01_k».proof.Proof.Gen.OddDxIdeal.Value
public import proofs.«01_k».proof.Proof.Gen.OddDxRefIdeal
public import proofs.«01_k».proof.Proof.Gen.OddDxRefIdeal.Run
public import proofs.«01_k».proof.Proof.Gen.OddDxRefIdeal.Read
public import proofs.«01_k».proof.Proof.Gen.OddOut
public import proofs.«01_k».proof.Proof.Gen.OddOut.Frame
public import proofs.«01_k».proof.Proof.Gen.OddOutIdeal
public import proofs.«01_k».proof.Proof.Gen.OddOutIdeal.Frame
public import proofs.«01_k».proof.Proof.Gen.OddOutIdeal.Value
public import proofs.«01_k».proof.Proof.Gen.OddOutRefIdeal
public import proofs.«01_k».proof.Proof.Gen.OddOutRefIdeal.Run
public import proofs.«01_k».proof.Proof.Gen.OddOutRefIdeal.Read
public import proofs.«01_k».proof.Proof.Gen.OddDwout
public import proofs.«01_k».proof.Proof.Gen.OddDwout.Frame
public import proofs.«01_k».proof.Proof.Gen.OddDwoutIdeal
public import proofs.«01_k».proof.Proof.Gen.OddDwoutIdeal.Frame
public import proofs.«01_k».proof.Proof.Gen.OddDwoutIdeal.Value
public import proofs.«01_k».proof.Proof.Gen.OddDwoutRefIdeal
public import proofs.«01_k».proof.Proof.Gen.OddDwoutRefIdeal.Run
public import proofs.«01_k».proof.Proof.Gen.OddDwoutRefIdeal.Read
public import proofs.«01_k».proof.Proof.Gen.OddDy
public import proofs.«01_k».proof.Proof.Gen.OddDy.Frame
public import proofs.«01_k».proof.Proof.Gen.OddDyIdeal
public import proofs.«01_k».proof.Proof.Gen.OddDyIdeal.Frame
public import proofs.«01_k».proof.Proof.Gen.OddDyIdeal.Value
public import proofs.«01_k».proof.Proof.Gen.OddDyRefIdeal
public import proofs.«01_k».proof.Proof.Gen.OddDyRefIdeal.Run
public import proofs.«01_k».proof.Proof.Gen.OddDyRefIdeal.Read
public import proofs.«01_k».proof.Proof.Gen.MlaUq
public import proofs.«01_k».proof.Proof.Gen.MlaUq.Frame
public import proofs.«01_k».proof.Proof.Gen.MlaUqIdeal
public import proofs.«01_k».proof.Proof.Gen.MlaUqIdeal.Frame
public import proofs.«01_k».proof.Proof.Gen.MlaUqIdeal.Value
public import proofs.«01_k».proof.Proof.Gen.MlaUqRefIdeal
public import proofs.«01_k».proof.Proof.Gen.MlaUqRefIdeal.Run
public import proofs.«01_k».proof.Proof.Gen.MlaUqRefIdeal.Read
public import proofs.«01_k».proof.Proof.Gen.MlaUkv
public import proofs.«01_k».proof.Proof.Gen.MlaUkv.Frame
public import proofs.«01_k».proof.Proof.Gen.MlaUkvIdeal
public import proofs.«01_k».proof.Proof.Gen.MlaUkvIdeal.Frame
public import proofs.«01_k».proof.Proof.Gen.MlaUkvIdeal.Value
public import proofs.«01_k».proof.Proof.Gen.MlaUkvRefIdeal
public import proofs.«01_k».proof.Proof.Gen.MlaUkvRefIdeal.Run
public import proofs.«01_k».proof.Proof.Gen.MlaUkvRefIdeal.Read
public import proofs.«01_k».proof.Proof.Gen.MlaDwuq
public import proofs.«01_k».proof.Proof.Gen.MlaDwuq.Frame
public import proofs.«01_k».proof.Proof.Gen.MlaDwuqIdeal
public import proofs.«01_k».proof.Proof.Gen.MlaDwuqIdeal.Frame
public import proofs.«01_k».proof.Proof.Gen.MlaDwuqIdeal.Value
public import proofs.«01_k».proof.Proof.Gen.MlaDwuqRefIdeal
public import proofs.«01_k».proof.Proof.Gen.MlaDwuqRefIdeal.Run
public import proofs.«01_k».proof.Proof.Gen.MlaDwuqRefIdeal.Read
public import proofs.«01_k».proof.Proof.Gen.MlaDwukv
public import proofs.«01_k».proof.Proof.Gen.MlaDwukv.Frame
public import proofs.«01_k».proof.Proof.Gen.MlaDwukvIdeal
public import proofs.«01_k».proof.Proof.Gen.MlaDwukvIdeal.Frame
public import proofs.«01_k».proof.Proof.Gen.MlaDwukvIdeal.Value
public import proofs.«01_k».proof.Proof.Gen.MlaDwukvRefIdeal
public import proofs.«01_k».proof.Proof.Gen.MlaDwukvRefIdeal.Run
public import proofs.«01_k».proof.Proof.Gen.MlaDwukvRefIdeal.Read
public import proofs.«01_k».proof.Proof.Gen.MlaDcq
public import proofs.«01_k».proof.Proof.Gen.MlaDcq.Frame
public import proofs.«01_k».proof.Proof.Gen.MlaDcqIdeal
public import proofs.«01_k».proof.Proof.Gen.MlaDcqIdeal.Frame
public import proofs.«01_k».proof.Proof.Gen.MlaDcqIdeal.Value
public import proofs.«01_k».proof.Proof.Gen.MlaDcqRefIdeal
public import proofs.«01_k».proof.Proof.Gen.MlaDcqRefIdeal.Run
public import proofs.«01_k».proof.Proof.Gen.MlaDcqRefIdeal.Read
public import proofs.«01_k».proof.Proof.Gen.MlaDckv
public import proofs.«01_k».proof.Proof.Gen.MlaDckv.Frame
public import proofs.«01_k».proof.Proof.Gen.MlaDckvIdeal
public import proofs.«01_k».proof.Proof.Gen.MlaDckvIdeal.Frame
public import proofs.«01_k».proof.Proof.Gen.MlaDckvIdeal.Value
public import proofs.«01_k».proof.Proof.Gen.MlaDckvRefIdeal
public import proofs.«01_k».proof.Proof.Gen.MlaDckvRefIdeal.Run
public import proofs.«01_k».proof.Proof.Gen.MlaDckvRefIdeal.Read
public import proofs.«01_k».proof.Proof.Gen.NormFwd
public import proofs.«01_k».proof.Proof.Gen.NormFwd.Frame
public import proofs.«01_k».proof.Proof.Gen.NormFwdIdeal
public import proofs.«01_k».proof.Proof.Gen.NormFwdIdeal.Frame
public import proofs.«01_k».proof.Proof.Gen.NormFwdIdeal.Value
public import proofs.«01_k».proof.Proof.Gen.NormFwdRefIdeal
public import proofs.«01_k».proof.Proof.Gen.NormFwdRefIdeal.Run
public import proofs.«01_k».proof.Proof.Gen.NormFwdRefIdeal.Read
public import proofs.«01_k».proof.Proof.Gen.QRms
public import proofs.«01_k».proof.Proof.Gen.QRms.Frame
public import proofs.«01_k».proof.Proof.Gen.QRmsIdeal
public import proofs.«01_k».proof.Proof.Gen.QRmsIdeal.Frame
public import proofs.«01_k».proof.Proof.Gen.QRmsIdeal.Value
public import proofs.«01_k».proof.Proof.Gen.QRmsRefIdeal
public import proofs.«01_k».proof.Proof.Gen.QRmsRefIdeal.Run
public import proofs.«01_k».proof.Proof.Gen.QRmsRefIdeal.Read
public import proofs.«01_k».proof.Proof.Gen.KvRms
public import proofs.«01_k».proof.Proof.Gen.KvRms.Frame
public import proofs.«01_k».proof.Proof.Gen.KvRmsIdeal
public import proofs.«01_k».proof.Proof.Gen.KvRmsIdeal.Frame
public import proofs.«01_k».proof.Proof.Gen.KvRmsIdeal.Value
public import proofs.«01_k».proof.Proof.Gen.KvRmsRefIdeal
public import proofs.«01_k».proof.Proof.Gen.KvRmsRefIdeal.Run
public import proofs.«01_k».proof.Proof.Gen.KvRmsRefIdeal.Read
public import proofs.«01_k».proof.Proof.Gen.LossHead
public import proofs.«01_k».proof.Proof.Gen.LossHead.Frame
public import proofs.«01_k».proof.Proof.Gen.LossHeadIdeal
public import proofs.«01_k».proof.Proof.Gen.LossHeadIdeal.Frame
public import proofs.«01_k».proof.Proof.Gen.LossHeadIdeal.Value
public import proofs.«01_k».proof.Proof.Gen.LossHeadRefIdeal
public import proofs.«01_k».proof.Proof.Gen.LossHeadRefIdeal.Run
public import proofs.«01_k».proof.Proof.Gen.LossHeadRefIdeal.Read
public import proofs.«01_k».proof.Proof.Gen.AdamwNorm
public import proofs.«01_k».proof.Proof.Gen.AdamwNorm.Frame
public import proofs.«01_k».proof.Proof.Gen.AdamwNormIdeal
public import proofs.«01_k».proof.Proof.Gen.AdamwNormIdeal.Frame
public import proofs.«01_k».proof.Proof.Gen.AdamwNormIdeal.Value
public import proofs.«01_k».proof.Proof.Gen.AdamwNormRefIdeal
public import proofs.«01_k».proof.Proof.Gen.AdamwNormRefIdeal.Run
public import proofs.«01_k».proof.Proof.Gen.AdamwNormRefIdeal.Read
public import proofs.«01_k».proof.Proof.Gen.AdamwUq
public import proofs.«01_k».proof.Proof.Gen.AdamwUq.Frame
public import proofs.«01_k».proof.Proof.Gen.AdamwUqIdeal
public import proofs.«01_k».proof.Proof.Gen.AdamwUqIdeal.Frame
public import proofs.«01_k».proof.Proof.Gen.AdamwUqIdeal.Value
public import proofs.«01_k».proof.Proof.Gen.AdamwUqRefIdeal
public import proofs.«01_k».proof.Proof.Gen.AdamwUqRefIdeal.Run
public import proofs.«01_k».proof.Proof.Gen.AdamwUqRefIdeal.Read
public import proofs.«01_k».proof.Proof.Finite
public import proofs.«01_k».proof.Proof.Results
public import proofs.«01_k».proof.Proof.FwdResults
public import proofs.«01_k».proof.Proof.NormResults
public import proofs.«01_k».proof.Proof.NormFwd
public import proofs.«01_k».proof.Proof.NormRms
public import proofs.«01_k».proof.Proof.LossHead
public import proofs.«01_k».proof.Proof.AdamwNorm
public import proofs.«01_k».proof.Proof.AdamwUq
public import proofs.«01_k».proof.Proof.MixUp
public import proofs.«01_k».proof.Proof.MixDown
public import proofs.«01_k».proof.Proof.MixDw2
public import proofs.«01_k».proof.Proof.MixDact
public import proofs.«01_k».proof.Proof.MixDw1
public import proofs.«01_k».proof.Proof.MixDx
public import proofs.«01_k».proof.Proof.MixEvenIn
public import proofs.«01_k».proof.Proof.MixEvenDwin
public import proofs.«01_k».proof.Proof.MixEvenDx
public import proofs.«01_k».proof.Proof.MixEvenOut
public import proofs.«01_k».proof.Proof.MixEvenDwout
public import proofs.«01_k».proof.Proof.MixEvenDy
public import proofs.«01_k».proof.Proof.MixOddIn
public import proofs.«01_k».proof.Proof.MixOddDwin
public import proofs.«01_k».proof.Proof.MixOddDx
public import proofs.«01_k».proof.Proof.MixOddOut
public import proofs.«01_k».proof.Proof.MixOddDwout
public import proofs.«01_k».proof.Proof.MixOddDy
public import proofs.«01_k».proof.Proof.MixMlaUq
public import proofs.«01_k».proof.Proof.MixMlaUkv
public import proofs.«01_k».proof.Proof.MixMlaDwuq
public import proofs.«01_k».proof.Proof.MixMlaDwukv
public import proofs.«01_k».proof.Proof.MixMlaDcq
public import proofs.«01_k».proof.Proof.MixMlaDckv
public import Idealize.ShloMosaic.Adequacy
public import Idealize.ShloMosaic.Init

@[expose] public section

noncomputable section

namespace Cert.Proof

open Idealize.ShloMosaic Idealize.SL.Sem

/-- The reference's frame: its run read at its arguments, which no operation writes; it declares no semaphore. -/
theorem frame_r (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run Cert.ReferenceIdeal.defs _ _).mono (fun r h => ⟨fun c => (h c).2.2.2, sem_eq_zero_of_no_sems (by decide) r.2⟩)
    (Cert.ReferenceIdeal.Value.run m g)

/-- The two programs' results are equal over the reals. -/
theorem algebraic : letI := Cert.KernelIdeal.Gen.facts; letI := Cert.ReferenceIdeal.Gen.facts; letI := Cert.Stick.finiteFacts
    Cert.algebraic_KernelIdeal_ReferenceIdeal_pre_finite := by
  letI := Cert.Stick.finiteFacts
  intro m g m' g' hpre hagree
  have hfin := fun c => Cert.Stick.finite_iff (hpre c)
  refine ⟨fun c => (Cert.KernelIdeal.Gen.dats m 0 c).arrAt 5 Cert.KernelIdeal.cfg0.N,
    fun c => (Cert.KernelIdeal.Gen.dats m 0 c).arrAt 6 Cert.KernelIdeal.cfg0.N,
    fun c => (Cert.KernelIdeal.Gen.dats m 0 c).arrAt 7 Cert.KernelIdeal.cfg0.N, Cert.KernelIdeal.Value.run_blocks m g, ?_⟩
  refine (θ_run Cert.ReferenceIdeal.defs _ _).mono (fun r h c => ?_) (Cert.ReferenceIdeal.Value.run m' g')
  obtain ⟨f0, f1, f2, f3⟩ := hfin c
  obtain ⟨a0, a1, a2, a3⟩ := hagree c
  obtain ⟨r0, r1, r2, rest⟩ := h c
  refine ⟨(r0.trans (Cert.ReferenceIdeal.Read.val_main_v38_eq m' c)).trans
      ((Cert.Stick.grad_q (a0.trans f0) (a1.trans f1) (a2.trans f2) (a3.trans f3)).trans
        (Cert.Stick.kernel_q m c _ _ _ _ f0 f1 f2 f3).symm),
    (r1.trans (Cert.ReferenceIdeal.Read.val_main_v37_eq m' c)).trans
      ((Cert.Stick.grad_k (a0.trans f0) (a1.trans f1) (a2.trans f2) (a3.trans f3)).trans
        (Cert.Stick.kernel_k m c _ _ _ _ f0 f1 f2 f3).symm),
    (r2.trans (Cert.ReferenceIdeal.Read.val_main_v23_eq m' c)).trans
      ((Cert.Stick.grad_v (a0.trans f0) (a1.trans f1) (a3.trans f3)).trans
        (Cert.Stick.kernel_v m c _ _ _ _ f0 f1 f2 f3).symm), rest⟩

/-- The forward reference's frame: its run read at its arguments. -/
theorem fwd_frame_r (m : (ℓ : Loc Cert.StickFwdRefIdeal.nD Cert.StickFwdRefIdeal.τ Cert.StickFwdRefIdeal.sig) → Buf (Elt Ideal) ℓ)
    (g : Dev Cert.StickFwdRefIdeal.nD → PrngReg) :
    θ_run (Cert.StickFwdRefIdeal.defs (F := Ideal)) (onTc (τ := Cert.StickFwdRefIdeal.τ) (Cert.StickFwdRefIdeal.main (F := Ideal)))
      ⟨m, fun _ => 0, g⟩ (fun r => (∀ c : Dev Cert.StickFwdRefIdeal.nD,
      r.2.mem ((c.tc : Thread Cert.StickFwdRefIdeal.nD Cert.StickFwdRefIdeal.τ).loc Cert.StickFwdRefIdeal.main_arg0) = m ((c.tc : Thread Cert.StickFwdRefIdeal.nD Cert.StickFwdRefIdeal.τ).loc Cert.StickFwdRefIdeal.main_arg0)
      ∧ r.2.mem ((c.tc : Thread Cert.StickFwdRefIdeal.nD Cert.StickFwdRefIdeal.τ).loc Cert.StickFwdRefIdeal.main_arg1) = m ((c.tc : Thread Cert.StickFwdRefIdeal.nD Cert.StickFwdRefIdeal.τ).loc Cert.StickFwdRefIdeal.main_arg1)
      ∧ r.2.mem ((c.tc : Thread Cert.StickFwdRefIdeal.nD Cert.StickFwdRefIdeal.τ).loc Cert.StickFwdRefIdeal.main_arg2) = m ((c.tc : Thread Cert.StickFwdRefIdeal.nD Cert.StickFwdRefIdeal.τ).loc Cert.StickFwdRefIdeal.main_arg2))
      ∧ r.2.sem = fun _ => 0) :=
  (θ_run Cert.StickFwdRefIdeal.defs _ _).mono (fun r h => ⟨fun c => (h c).2.2, sem_eq_zero_of_no_sems (by decide) r.2⟩)
    (Cert.StickFwdRefIdeal.Value.run m g)

/-- The forward call's and its reference's results are equal over the reals. -/
theorem fwd_algebraic : letI := Cert.StickFwdIdeal.Gen.facts; letI := Cert.StickFwdRefIdeal.Gen.facts; letI := Cert.Stick.Fwd.logitsFacts
    Cert.algebraic_StickFwdIdeal_StickFwdRefIdeal_pre_finite_logits := by
  letI := Cert.Stick.Fwd.logitsFacts
  intro m g m' g' hpre hagree
  have hfin := fun c => Cert.Stick.Fwd.logits_iff (hpre c)
  refine ⟨fun c => (Cert.StickFwdIdeal.Gen.dats m 0 c).arrAt 3 Cert.StickFwdIdeal.cfg0.N,
    fun c => (Cert.StickFwdIdeal.Gen.dats m 0 c).arrAt 4 Cert.StickFwdIdeal.cfg0.N, Cert.StickFwdIdeal.Value.run_blocks m g, ?_⟩
  refine (θ_run Cert.StickFwdRefIdeal.defs _ _).mono (fun r h c => ?_) (Cert.StickFwdRefIdeal.Value.run m' g')
  obtain ⟨f0, f1⟩ := hfin c
  have f2 := Cert.Mixer.eq_ev3 (l := 16) (m := 2048) (n := 64) (φ := .f32)
    (m ((c.tc : Thread Cert.StickFwdIdeal.nD Cert.StickFwdIdeal.τ).loc Cert.StickFwdIdeal.main_arg2))
  obtain ⟨a0, a1, a2⟩ := hagree c
  obtain ⟨r0, r1, rest⟩ := h c
  exact ⟨(r0.trans (Cert.StickFwdRefIdeal.Read.val_main_v21_eq m' c)).trans
      ((Cert.Stick.Fwd.ref_o (a0.trans f0) (a1.trans f1) (a2.trans f2)).trans
        (Cert.Stick.Fwd.kernel_o m c _ _ _ f0 f1 f2).symm),
    r1.trans ((Cert.Stick.Fwd.ref_tot (a0.trans f0) (a1.trans f1)).trans
      (Cert.Stick.Fwd.kernel_tot m c _ _ _ f0 f1 f2).symm), rest⟩

/-- The frame of the layer norm's gradient's reference: its run read at its arguments. -/
theorem norm_frame_r (m : (ℓ : Loc Cert.NormBwdRefIdeal.nD Cert.NormBwdRefIdeal.τ Cert.NormBwdRefIdeal.sig) → Buf (Elt Ideal) ℓ)
    (g : Dev Cert.NormBwdRefIdeal.nD → PrngReg) :
    θ_run (Cert.NormBwdRefIdeal.defs (F := Ideal)) (onTc (τ := Cert.NormBwdRefIdeal.τ) (Cert.NormBwdRefIdeal.main (F := Ideal)))
      ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2))
      ∧ r.2.sem = fun _ => 0) :=
  (θ_run Cert.NormBwdRefIdeal.defs _ _).mono (fun r h => ⟨fun c => (h c).2.2.2.2, sem_eq_zero_of_no_sems (by decide) r.2⟩)
    (Cert.NormBwdRefIdeal.Value.run m g)

/-- The layer norm's gradient's and its reference's results are equal over the reals. -/
theorem norm_algebraic : letI := Cert.NormBwdIdeal.Gen.facts; letI := Cert.NormBwdRefIdeal.Gen.facts; letI := Cert.Norm.rowsFacts
    Cert.algebraic_NormBwdIdeal_NormBwdRefIdeal_pre_finite_rows := by
  letI := Cert.Norm.rowsFacts
  intro m g m' g' hpre hagree
  have hfin := fun c => Cert.Norm.rows_iff (hpre c)
  refine ⟨fun c => (Cert.NormBwdIdeal.Gen.dats m 0 c).arrAt 3 Cert.NormBwdIdeal.cfg0.N,
    fun c => (Cert.NormBwdIdeal.Gen.dats m 0 c).arrAt 4 Cert.NormBwdIdeal.cfg0.N,
    fun c => (Cert.NormBwdIdeal.Gen.dats m 0 c).arrAt 5 Cert.NormBwdIdeal.cfg0.N,
    fun c => (Cert.NormBwdIdeal.Gen.dats m 0 c).arrAt 6 Cert.NormBwdIdeal.cfg0.N, Cert.NormBwdIdeal.Value.run_blocks m g, ?_⟩
  refine (θ_run Cert.NormBwdRefIdeal.defs _ _).mono (fun r h c => ?_) (Cert.NormBwdRefIdeal.Value.run m' g')
  obtain ⟨f0, f2⟩ := hfin c
  have f1 := Cert.Mixer.eq_ev2 (m := 2048) (n := 2048) (φ := .f32)
    (m ((c.tc : Thread Cert.NormBwdIdeal.nD Cert.NormBwdIdeal.τ).loc Cert.NormBwdIdeal.main_arg1))
  obtain ⟨a0, a1, a2⟩ := hagree c
  obtain ⟨r0, r1, r2, r3, rest⟩ := h c
  exact ⟨(r0.trans (Cert.NormBwdRefIdeal.Read.val_main_v57_eq m' c)).trans
      ((Cert.Norm.ref_du (a0.trans f0) (a1.trans f1) (a2.trans f2)).trans (Cert.Norm.kernel_du m c _ _ _ f0 f1 f2).symm),
    (r1.trans (Cert.NormBwdRefIdeal.Read.val_main_v58_eq m' c)).trans
      ((Cert.Norm.ref_du16 (a0.trans f0) (a1.trans f1) (a2.trans f2)).trans (Cert.Norm.kernel_du16 m c _ _ _ f0 f1 f2).symm),
    (r2.trans (Cert.NormBwdRefIdeal.Read.val_main_v59_eq _ _)).trans
      ((Cert.Norm.ref_dg (a0.trans f0) (a1.trans f1)).trans (Cert.Norm.kernel_dg m c _ _ _ f0 f1 f2).symm),
    (r3.trans (Cert.NormBwdRefIdeal.Read.val_main_v60_eq _)).trans
      ((Cert.Norm.ref_db (a0.trans f0)).trans (Cert.Norm.kernel_db m c _ _ _ f0 f1 f2).symm), rest⟩

theorem claim : Cert.Claim :=
  ⟨Cert.Kernel.Gen.facts, Cert.KernelIdeal.Gen.facts, Cert.ReferenceIdeal.Gen.facts,
    Cert.Up.Gen.facts, Cert.UpIdeal.Gen.facts, Cert.UpRefIdeal.Gen.facts,
    Cert.Down.Gen.facts, Cert.DownIdeal.Gen.facts, Cert.DownRefIdeal.Gen.facts,
    Cert.Dw2.Gen.facts, Cert.Dw2Ideal.Gen.facts, Cert.Dw2RefIdeal.Gen.facts,
    Cert.Dact.Gen.facts, Cert.DactIdeal.Gen.facts, Cert.DactRefIdeal.Gen.facts,
    Cert.Dw1.Gen.facts, Cert.Dw1Ideal.Gen.facts, Cert.Dw1RefIdeal.Gen.facts,
    Cert.Dx.Gen.facts, Cert.DxIdeal.Gen.facts, Cert.DxRefIdeal.Gen.facts,
    Cert.EvenIn.Gen.facts, Cert.EvenInIdeal.Gen.facts, Cert.EvenInRefIdeal.Gen.facts,
    Cert.EvenDwin.Gen.facts, Cert.EvenDwinIdeal.Gen.facts, Cert.EvenDwinRefIdeal.Gen.facts,
    Cert.EvenDx.Gen.facts, Cert.EvenDxIdeal.Gen.facts, Cert.EvenDxRefIdeal.Gen.facts,
    Cert.EvenOut.Gen.facts, Cert.EvenOutIdeal.Gen.facts, Cert.EvenOutRefIdeal.Gen.facts,
    Cert.EvenDwout.Gen.facts, Cert.EvenDwoutIdeal.Gen.facts, Cert.EvenDwoutRefIdeal.Gen.facts,
    Cert.EvenDy.Gen.facts, Cert.EvenDyIdeal.Gen.facts, Cert.EvenDyRefIdeal.Gen.facts,
    Cert.OddIn.Gen.facts, Cert.OddInIdeal.Gen.facts, Cert.OddInRefIdeal.Gen.facts,
    Cert.OddDwin.Gen.facts, Cert.OddDwinIdeal.Gen.facts, Cert.OddDwinRefIdeal.Gen.facts,
    Cert.OddDx.Gen.facts, Cert.OddDxIdeal.Gen.facts, Cert.OddDxRefIdeal.Gen.facts,
    Cert.OddOut.Gen.facts, Cert.OddOutIdeal.Gen.facts, Cert.OddOutRefIdeal.Gen.facts,
    Cert.OddDwout.Gen.facts, Cert.OddDwoutIdeal.Gen.facts, Cert.OddDwoutRefIdeal.Gen.facts,
    Cert.OddDy.Gen.facts, Cert.OddDyIdeal.Gen.facts, Cert.OddDyRefIdeal.Gen.facts,
    Cert.MlaUq.Gen.facts, Cert.MlaUqIdeal.Gen.facts, Cert.MlaUqRefIdeal.Gen.facts,
    Cert.MlaUkv.Gen.facts, Cert.MlaUkvIdeal.Gen.facts, Cert.MlaUkvRefIdeal.Gen.facts,
    Cert.MlaDwuq.Gen.facts, Cert.MlaDwuqIdeal.Gen.facts, Cert.MlaDwuqRefIdeal.Gen.facts,
    Cert.MlaDwukv.Gen.facts, Cert.MlaDwukvIdeal.Gen.facts, Cert.MlaDwukvRefIdeal.Gen.facts,
    Cert.MlaDcq.Gen.facts, Cert.MlaDcqIdeal.Gen.facts, Cert.MlaDcqRefIdeal.Gen.facts,
    Cert.MlaDckv.Gen.facts, Cert.MlaDckvIdeal.Gen.facts, Cert.MlaDckvRefIdeal.Gen.facts,
    Cert.StickFwd.Gen.facts, Cert.StickFwdIdeal.Gen.facts, Cert.StickFwdRefIdeal.Gen.facts,
    Cert.NormBwd.Gen.facts, Cert.NormBwdIdeal.Gen.facts, Cert.NormBwdRefIdeal.Gen.facts,
    Cert.NormFwd.Gen.facts, Cert.NormFwdIdeal.Gen.facts, Cert.NormFwdRefIdeal.Gen.facts,
    Cert.QRms.Gen.facts, Cert.QRmsIdeal.Gen.facts, Cert.QRmsRefIdeal.Gen.facts,
    Cert.KvRms.Gen.facts, Cert.KvRmsIdeal.Gen.facts, Cert.KvRmsRefIdeal.Gen.facts,
    Cert.LossHead.Gen.facts, Cert.LossHeadIdeal.Gen.facts, Cert.LossHeadRefIdeal.Gen.facts,
    Cert.AdamwNorm.Gen.facts, Cert.AdamwNormIdeal.Gen.facts, Cert.AdamwNormRefIdeal.Gen.facts,
    Cert.AdamwUq.Gen.facts, Cert.AdamwUqIdeal.Gen.facts, Cert.AdamwUqRefIdeal.Gen.facts,
    Cert.Stick.finiteFacts, Cert.Stick.Fwd.logitsFacts, Cert.Norm.rowsFacts,
    fun m ρ _ => Cert.Kernel.Gen.frame m ρ, fun m ρ _ => Cert.KernelIdeal.Gen.frame m ρ, fun m ρ _ => Cert.KernelIdeal.Gen.frame m ρ,
    fun m ρ _ => frame_r m ρ, fun m ρ _ => frame_r m ρ,
    fun m ρ _ => Cert.Up.Gen.frame m ρ, fun m ρ _ => Cert.UpIdeal.Gen.frame m ρ, Cert.Mixer.Up.frame_r,
    fun m ρ _ => Cert.Down.Gen.frame m ρ, fun m ρ _ => Cert.DownIdeal.Gen.frame m ρ, Cert.Mixer.Down.frame_r,
    fun m ρ _ => Cert.Dw2.Gen.frame m ρ, fun m ρ _ => Cert.Dw2Ideal.Gen.frame m ρ, Cert.Mixer.Dw2.frame_r,
    fun m ρ _ => Cert.Dact.Gen.frame m ρ, fun m ρ _ => Cert.DactIdeal.Gen.frame m ρ, Cert.Mixer.Dact.frame_r,
    fun m ρ _ => Cert.Dw1.Gen.frame m ρ, fun m ρ _ => Cert.Dw1Ideal.Gen.frame m ρ, Cert.Mixer.Dw1.frame_r,
    fun m ρ _ => Cert.Dx.Gen.frame m ρ, fun m ρ _ => Cert.DxIdeal.Gen.frame m ρ, Cert.Mixer.Dx.frame_r,
    fun m ρ _ => Cert.EvenIn.Gen.frame m ρ, fun m ρ _ => Cert.EvenInIdeal.Gen.frame m ρ, Cert.Mixer.EvenIn.frame_r,
    fun m ρ _ => Cert.EvenDwin.Gen.frame m ρ, fun m ρ _ => Cert.EvenDwinIdeal.Gen.frame m ρ, Cert.Mixer.EvenDwin.frame_r,
    fun m ρ _ => Cert.EvenDx.Gen.frame m ρ, fun m ρ _ => Cert.EvenDxIdeal.Gen.frame m ρ, Cert.Mixer.EvenDx.frame_r,
    fun m ρ _ => Cert.EvenOut.Gen.frame m ρ, fun m ρ _ => Cert.EvenOutIdeal.Gen.frame m ρ, Cert.Mixer.EvenOut.frame_r,
    fun m ρ _ => Cert.EvenDwout.Gen.frame m ρ, fun m ρ _ => Cert.EvenDwoutIdeal.Gen.frame m ρ, Cert.Mixer.EvenDwout.frame_r,
    fun m ρ _ => Cert.EvenDy.Gen.frame m ρ, fun m ρ _ => Cert.EvenDyIdeal.Gen.frame m ρ, Cert.Mixer.EvenDy.frame_r,
    fun m ρ _ => Cert.OddIn.Gen.frame m ρ, fun m ρ _ => Cert.OddInIdeal.Gen.frame m ρ, Cert.Mixer.OddIn.frame_r,
    fun m ρ _ => Cert.OddDwin.Gen.frame m ρ, fun m ρ _ => Cert.OddDwinIdeal.Gen.frame m ρ, Cert.Mixer.OddDwin.frame_r,
    fun m ρ _ => Cert.OddDx.Gen.frame m ρ, fun m ρ _ => Cert.OddDxIdeal.Gen.frame m ρ, Cert.Mixer.OddDx.frame_r,
    fun m ρ _ => Cert.OddOut.Gen.frame m ρ, fun m ρ _ => Cert.OddOutIdeal.Gen.frame m ρ, Cert.Mixer.OddOut.frame_r,
    fun m ρ _ => Cert.OddDwout.Gen.frame m ρ, fun m ρ _ => Cert.OddDwoutIdeal.Gen.frame m ρ, Cert.Mixer.OddDwout.frame_r,
    fun m ρ _ => Cert.OddDy.Gen.frame m ρ, fun m ρ _ => Cert.OddDyIdeal.Gen.frame m ρ, Cert.Mixer.OddDy.frame_r,
    fun m ρ _ => Cert.MlaUq.Gen.frame m ρ, fun m ρ _ => Cert.MlaUqIdeal.Gen.frame m ρ, Cert.Mixer.MlaUq.frame_r,
    fun m ρ _ => Cert.MlaUkv.Gen.frame m ρ, fun m ρ _ => Cert.MlaUkvIdeal.Gen.frame m ρ, Cert.Mixer.MlaUkv.frame_r,
    fun m ρ _ => Cert.MlaDwuq.Gen.frame m ρ, fun m ρ _ => Cert.MlaDwuqIdeal.Gen.frame m ρ, Cert.Mixer.MlaDwuq.frame_r,
    fun m ρ _ => Cert.MlaDwukv.Gen.frame m ρ, fun m ρ _ => Cert.MlaDwukvIdeal.Gen.frame m ρ, Cert.Mixer.MlaDwukv.frame_r,
    fun m ρ _ => Cert.MlaDcq.Gen.frame m ρ, fun m ρ _ => Cert.MlaDcqIdeal.Gen.frame m ρ, Cert.Mixer.MlaDcq.frame_r,
    fun m ρ _ => Cert.MlaDckv.Gen.frame m ρ, fun m ρ _ => Cert.MlaDckvIdeal.Gen.frame m ρ, Cert.Mixer.MlaDckv.frame_r,
    fun m ρ _ => Cert.StickFwd.Gen.frame m ρ, fun m ρ _ => Cert.StickFwdIdeal.Gen.frame m ρ, fun m ρ _ => Cert.StickFwdIdeal.Gen.frame m ρ,
    fun m ρ _ => fwd_frame_r m ρ, fun m ρ _ => fwd_frame_r m ρ,
    fun m ρ _ => Cert.NormBwd.Gen.frame m ρ, fun m ρ _ => Cert.NormBwdIdeal.Gen.frame m ρ, fun m ρ _ => Cert.NormBwdIdeal.Gen.frame m ρ,
    fun m ρ _ => norm_frame_r m ρ, fun m ρ _ => norm_frame_r m ρ,
    fun m ρ _ => Cert.NormFwd.Gen.frame m ρ, fun m ρ _ => Cert.NormFwdIdeal.Gen.frame m ρ, Cert.Norm.Fwd.frame_r,
    fun m ρ _ => Cert.QRms.Gen.frame m ρ, fun m ρ _ => Cert.QRmsIdeal.Gen.frame m ρ, Cert.Norm.Queries.frame_r,
    fun m ρ _ => Cert.KvRms.Gen.frame m ρ, fun m ρ _ => Cert.KvRmsIdeal.Gen.frame m ρ, Cert.Norm.Keys.frame_r,
    fun m ρ _ => Cert.LossHead.Gen.frame m ρ, fun m ρ _ => Cert.LossHeadIdeal.Gen.frame m ρ, Cert.Loss.frame_r,
    fun m ρ _ => Cert.AdamwNorm.Gen.frame m ρ, fun m ρ _ => Cert.AdamwNormIdeal.Gen.frame m ρ, Cert.Adamw.Norms.frame_r,
    fun m ρ _ => Cert.AdamwUq.Gen.frame m ρ, fun m ρ _ => Cert.AdamwUqIdeal.Gen.frame m ρ, Cert.Adamw.Uq.frame_r,
    trivial, algebraic,
    trivial, Cert.Mixer.Up.algebraic,
    trivial, Cert.Mixer.Down.algebraic,
    trivial, Cert.Mixer.Dw2.algebraic,
    trivial, Cert.Mixer.Dact.algebraic,
    trivial, Cert.Mixer.Dw1.algebraic,
    trivial, Cert.Mixer.Dx.algebraic,
    trivial, Cert.Mixer.EvenIn.algebraic,
    trivial, Cert.Mixer.EvenDwin.algebraic,
    trivial, Cert.Mixer.EvenDx.algebraic,
    trivial, Cert.Mixer.EvenOut.algebraic,
    trivial, Cert.Mixer.EvenDwout.algebraic,
    trivial, Cert.Mixer.EvenDy.algebraic,
    trivial, Cert.Mixer.OddIn.algebraic,
    trivial, Cert.Mixer.OddDwin.algebraic,
    trivial, Cert.Mixer.OddDx.algebraic,
    trivial, Cert.Mixer.OddOut.algebraic,
    trivial, Cert.Mixer.OddDwout.algebraic,
    trivial, Cert.Mixer.OddDy.algebraic,
    trivial, Cert.Mixer.MlaUq.algebraic,
    trivial, Cert.Mixer.MlaUkv.algebraic,
    trivial, Cert.Mixer.MlaDwuq.algebraic,
    trivial, Cert.Mixer.MlaDwukv.algebraic,
    trivial, Cert.Mixer.MlaDcq.algebraic,
    trivial, Cert.Mixer.MlaDckv.algebraic,
    trivial, fwd_algebraic,
    trivial, norm_algebraic,
    trivial, Cert.Norm.Fwd.algebraic,
    trivial, Cert.Norm.Queries.algebraic,
    trivial, Cert.Norm.Keys.algebraic,
    trivial, Cert.Loss.algebraic,
    Cert.Adamw.Norms.named, Cert.Adamw.Norms.algebraic,
    Cert.Adamw.Uq.named, Cert.Adamw.Uq.algebraic⟩

end Cert.Proof

end
